-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_Dhn (m : (ℓ : Loc Cert.Dhn.nD Cert.Dhn.τ Cert.Dhn.sig) → Buf (Elt Bits) ℓ) : Prop :=
  True

def Pre_DhnIdeal (m : (ℓ : Loc Cert.DhnIdeal.nD Cert.DhnIdeal.τ Cert.DhnIdeal.sig) → Buf (Elt Ideal) ℓ) : Prop :=
  True

def Pre_DhnRefIdeal (m : (ℓ : Loc Cert.DhnRefIdeal.nD Cert.DhnRefIdeal.τ Cert.DhnRefIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutRefIdeal (m : (ℓ : Loc Cert.DwoutRefIdeal.nD Cert.DwoutRefIdeal.τ Cert.DwoutRefIdeal.sig) → Buf (Elt Ideal) ℓ) : Prop :=
  True

def Pre_Dgated (m : (ℓ : Loc Cert.Dgated.nD Cert.Dgated.τ Cert.Dgated.sig) → Buf (Elt Bits) ℓ) : Prop :=
  True

def Pre_DgatedIdeal (m : (ℓ : Loc Cert.DgatedIdeal.nD Cert.DgatedIdeal.τ Cert.DgatedIdeal.sig) → Buf (Elt Ideal) ℓ) : Prop :=
  True

def Pre_DgatedRefIdeal (m : (ℓ : Loc Cert.DgatedRefIdeal.nD Cert.DgatedRefIdeal.τ Cert.DgatedRefIdeal.sig) → Buf (Elt Ideal) ℓ) : Prop :=
  True

def Pre_ScanDwin (m : (ℓ : Loc Cert.ScanDwin.nD Cert.ScanDwin.τ Cert.ScanDwin.sig) → Buf (Elt Bits) ℓ) : Prop :=
  True

def Pre_ScanDwinIdeal (m : (ℓ : Loc Cert.ScanDwinIdeal.nD Cert.ScanDwinIdeal.τ Cert.ScanDwinIdeal.sig) → Buf (Elt Ideal) ℓ) : Prop :=
  True

def Pre_ScanDwinRefIdeal (m : (ℓ : Loc Cert.ScanDwinRefIdeal.nD Cert.ScanDwinRefIdeal.τ Cert.ScanDwinRefIdeal.sig) → Buf (Elt Ideal) ℓ) : Prop :=
  True

def Pre_ScanDhn (m : (ℓ : Loc Cert.ScanDhn.nD Cert.ScanDhn.τ Cert.ScanDhn.sig) → Buf (Elt Bits) ℓ) : Prop :=
  True

def Pre_ScanDhnIdeal (m : (ℓ : Loc Cert.ScanDhnIdeal.nD Cert.ScanDhnIdeal.τ Cert.ScanDhnIdeal.sig) → Buf (Elt Ideal) ℓ) : Prop :=
  True

def Pre_ScanDhnRefIdeal (m : (ℓ : Loc Cert.ScanDhnRefIdeal.nD Cert.ScanDhnRefIdeal.τ Cert.ScanDhnRefIdeal.sig) → Buf (Elt Ideal) ℓ) : Prop :=
  True

def Pre_Dwglu (m : (ℓ : Loc Cert.Dwglu.nD Cert.Dwglu.τ Cert.Dwglu.sig) → Buf (Elt Bits) ℓ) : Prop :=
  True

def Pre_DwgluIdeal (m : (ℓ : Loc Cert.DwgluIdeal.nD Cert.DwgluIdeal.τ Cert.DwgluIdeal.sig) → Buf (Elt Ideal) ℓ) : Prop :=
  True

def Pre_DwgluRefIdeal (m : (ℓ : Loc Cert.DwgluRefIdeal.nD Cert.DwgluRefIdeal.τ Cert.DwgluRefIdeal.sig) → Buf (Elt Ideal) ℓ) : Prop :=
  True

def Pre_Dglu (m : (ℓ : Loc Cert.Dglu.nD Cert.Dglu.τ Cert.Dglu.sig) → Buf (Elt Bits) ℓ) : Prop :=
  True

def Pre_DgluIdeal (m : (ℓ : Loc Cert.DgluIdeal.nD Cert.DgluIdeal.τ Cert.DgluIdeal.sig) → Buf (Elt Ideal) ℓ) : Prop :=
  True

def Pre_DgluRefIdeal (m : (ℓ : Loc Cert.DgluRefIdeal.nD Cert.DgluRefIdeal.τ Cert.DgluRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_ScanIn (m : (ℓ : Loc Cert.ScanIn.nD Cert.ScanIn.τ Cert.ScanIn.sig) → Buf (Elt Bits) ℓ) : Prop :=
  True

def Pre_ScanInIdeal (m : (ℓ : Loc Cert.ScanInIdeal.nD Cert.ScanInIdeal.τ Cert.ScanInIdeal.sig) → Buf (Elt Ideal) ℓ) : Prop :=
  True

def Pre_ScanInRefIdeal (m : (ℓ : Loc Cert.ScanInRefIdeal.nD Cert.ScanInRefIdeal.τ Cert.ScanInRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanRefIdeal (m : (ℓ : Loc Cert.ScanRefIdeal.nD Cert.ScanRefIdeal.τ Cert.ScanRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1))
      ∧ r.2.sem = fun _ => 0)

def quiescent_Dhn [hDhn : Cert.Dhn.Facts] : Prop :=
  ∀ (m : (ℓ : Loc Cert.Dhn.nD Cert.Dhn.τ Cert.Dhn.sig) → Buf (Elt Bits) ℓ) (g : Dev Cert.Dhn.nD → PrngReg), Pre_Dhn m →
    θ_run (Cert.Dhn.defs (F := Bits)) (onTc (τ := Cert.Dhn.τ) (Cert.Dhn.main (F := Bits))) ⟨m, fun _ => 0, g⟩ (fun r => (∀ c : Dev Cert.Dhn.nD,
      r.2.mem ((c.tc : Thread Cert.Dhn.nD Cert.Dhn.τ).loc Cert.Dhn.main_arg0) = m ((c.tc : Thread Cert.Dhn.nD Cert.Dhn.τ).loc Cert.Dhn.main_arg0)
      ∧ r.2.mem ((c.tc : Thread Cert.Dhn.nD Cert.Dhn.τ).loc Cert.Dhn.main_arg1) = m ((c.tc : Thread Cert.Dhn.nD Cert.Dhn.τ).loc Cert.Dhn.main_arg1))
      ∧ r.2.sem = fun _ => 0)

def quiescent_DhnIdeal [hDhnIdeal : Cert.DhnIdeal.Facts] : Prop :=
  ∀ (m : (ℓ : Loc Cert.DhnIdeal.nD Cert.DhnIdeal.τ Cert.DhnIdeal.sig) → Buf (Elt Ideal) ℓ) (g : Dev Cert.DhnIdeal.nD → PrngReg), Pre_DhnIdeal m →
    θ_run (Cert.DhnIdeal.defs (F := Ideal)) (onTc (τ := Cert.DhnIdeal.τ) (Cert.DhnIdeal.main (F := Ideal))) ⟨m, fun _ => 0, g⟩ (fun r => (∀ c : Dev Cert.DhnIdeal.nD,
      r.2.mem ((c.tc : Thread Cert.DhnIdeal.nD Cert.DhnIdeal.τ).loc Cert.DhnIdeal.main_arg0) = m ((c.tc : Thread Cert.DhnIdeal.nD Cert.DhnIdeal.τ).loc Cert.DhnIdeal.main_arg0)
      ∧ r.2.mem ((c.tc : Thread Cert.DhnIdeal.nD Cert.DhnIdeal.τ).loc Cert.DhnIdeal.main_arg1) = m ((c.tc : Thread Cert.DhnIdeal.nD Cert.DhnIdeal.τ).loc Cert.DhnIdeal.main_arg1))
      ∧ r.2.sem = fun _ => 0)

def quiescent_DhnRefIdeal [hDhnRefIdeal : Cert.DhnRefIdeal.Facts] : Prop :=
  ∀ (m : (ℓ : Loc Cert.DhnRefIdeal.nD Cert.DhnRefIdeal.τ Cert.DhnRefIdeal.sig) → Buf (Elt Ideal) ℓ) (g : Dev Cert.DhnRefIdeal.nD → PrngReg), Pre_DhnRefIdeal m →
    θ_run (Cert.DhnRefIdeal.defs (F := Ideal)) (onTc (τ := Cert.DhnRefIdeal.τ) (Cert.DhnRefIdeal.main (F := Ideal))) ⟨m, fun _ => 0, g⟩ (fun r => (∀ c : Dev Cert.DhnRefIdeal.nD,
      r.2.mem ((c.tc : Thread Cert.DhnRefIdeal.nD Cert.DhnRefIdeal.τ).loc Cert.DhnRefIdeal.main_arg0) = m ((c.tc : Thread Cert.DhnRefIdeal.nD Cert.DhnRefIdeal.τ).loc Cert.DhnRefIdeal.main_arg0)
      ∧ r.2.mem ((c.tc : Thread Cert.DhnRefIdeal.nD Cert.DhnRefIdeal.τ).loc Cert.DhnRefIdeal.main_arg1) = m ((c.tc : Thread Cert.DhnRefIdeal.nD Cert.DhnRefIdeal.τ).loc Cert.DhnRefIdeal.main_arg1))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ r.2.sem = fun _ => 0)

def quiescent_DwoutRefIdeal [hDwoutRefIdeal : Cert.DwoutRefIdeal.Facts] : Prop :=
  ∀ (m : (ℓ : Loc Cert.DwoutRefIdeal.nD Cert.DwoutRefIdeal.τ Cert.DwoutRefIdeal.sig) → Buf (Elt Ideal) ℓ) (g : Dev Cert.DwoutRefIdeal.nD → PrngReg), Pre_DwoutRefIdeal m →
    θ_run (Cert.DwoutRefIdeal.defs (F := Ideal)) (onTc (τ := Cert.DwoutRefIdeal.τ) (Cert.DwoutRefIdeal.main (F := Ideal))) ⟨m, fun _ => 0, g⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1))
      ∧ r.2.sem = fun _ => 0)

def quiescent_Dgated [hDgated : Cert.Dgated.Facts] : Prop :=
  ∀ (m : (ℓ : Loc Cert.Dgated.nD Cert.Dgated.τ Cert.Dgated.sig) → Buf (Elt Bits) ℓ) (g : Dev Cert.Dgated.nD → PrngReg), Pre_Dgated m →
    θ_run (Cert.Dgated.defs (F := Bits)) (onTc (τ := Cert.Dgated.τ) (Cert.Dgated.main (F := Bits))) ⟨m, fun _ => 0, g⟩ (fun r => (∀ c : Dev Cert.Dgated.nD,
      r.2.mem ((c.tc : Thread Cert.Dgated.nD Cert.Dgated.τ).loc Cert.Dgated.main_arg0) = m ((c.tc : Thread Cert.Dgated.nD Cert.Dgated.τ).loc Cert.Dgated.main_arg0)
      ∧ r.2.mem ((c.tc : Thread Cert.Dgated.nD Cert.Dgated.τ).loc Cert.Dgated.main_arg1) = m ((c.tc : Thread Cert.Dgated.nD Cert.Dgated.τ).loc Cert.Dgated.main_arg1))
      ∧ r.2.sem = fun _ => 0)

def quiescent_DgatedIdeal [hDgatedIdeal : Cert.DgatedIdeal.Facts] : Prop :=
  ∀ (m : (ℓ : Loc Cert.DgatedIdeal.nD Cert.DgatedIdeal.τ Cert.DgatedIdeal.sig) → Buf (Elt Ideal) ℓ) (g : Dev Cert.DgatedIdeal.nD → PrngReg), Pre_DgatedIdeal m →
    θ_run (Cert.DgatedIdeal.defs (F := Ideal)) (onTc (τ := Cert.DgatedIdeal.τ) (Cert.DgatedIdeal.main (F := Ideal))) ⟨m, fun _ => 0, g⟩ (fun r => (∀ c : Dev Cert.DgatedIdeal.nD,
      r.2.mem ((c.tc : Thread Cert.DgatedIdeal.nD Cert.DgatedIdeal.τ).loc Cert.DgatedIdeal.main_arg0) = m ((c.tc : Thread Cert.DgatedIdeal.nD Cert.DgatedIdeal.τ).loc Cert.DgatedIdeal.main_arg0)
      ∧ r.2.mem ((c.tc : Thread Cert.DgatedIdeal.nD Cert.DgatedIdeal.τ).loc Cert.DgatedIdeal.main_arg1) = m ((c.tc : Thread Cert.DgatedIdeal.nD Cert.DgatedIdeal.τ).loc Cert.DgatedIdeal.main_arg1))
      ∧ r.2.sem = fun _ => 0)

def quiescent_DgatedRefIdeal [hDgatedRefIdeal : Cert.DgatedRefIdeal.Facts] : Prop :=
  ∀ (m : (ℓ : Loc Cert.DgatedRefIdeal.nD Cert.DgatedRefIdeal.τ Cert.DgatedRefIdeal.sig) → Buf (Elt Ideal) ℓ) (g : Dev Cert.DgatedRefIdeal.nD → PrngReg), Pre_DgatedRefIdeal m →
    θ_run (Cert.DgatedRefIdeal.defs (F := Ideal)) (onTc (τ := Cert.DgatedRefIdeal.τ) (Cert.DgatedRefIdeal.main (F := Ideal))) ⟨m, fun _ => 0, g⟩ (fun r => (∀ c : Dev Cert.DgatedRefIdeal.nD,
      r.2.mem ((c.tc : Thread Cert.DgatedRefIdeal.nD Cert.DgatedRefIdeal.τ).loc Cert.DgatedRefIdeal.main_arg0) = m ((c.tc : Thread Cert.DgatedRefIdeal.nD Cert.DgatedRefIdeal.τ).loc Cert.DgatedRefIdeal.main_arg0)
      ∧ r.2.mem ((c.tc : Thread Cert.DgatedRefIdeal.nD Cert.DgatedRefIdeal.τ).loc Cert.DgatedRefIdeal.main_arg1) = m ((c.tc : Thread Cert.DgatedRefIdeal.nD Cert.DgatedRefIdeal.τ).loc Cert.DgatedRefIdeal.main_arg1))
      ∧ r.2.sem = fun _ => 0)

def quiescent_ScanDwin [hScanDwin : Cert.ScanDwin.Facts] : Prop :=
  ∀ (m : (ℓ : Loc Cert.ScanDwin.nD Cert.ScanDwin.τ Cert.ScanDwin.sig) → Buf (Elt Bits) ℓ) (g : Dev Cert.ScanDwin.nD → PrngReg), Pre_ScanDwin m →
    θ_run (Cert.ScanDwin.defs (F := Bits)) (onTc (τ := Cert.ScanDwin.τ) (Cert.ScanDwin.main (F := Bits))) ⟨m, fun _ => 0, g⟩ (fun r => (∀ c : Dev Cert.ScanDwin.nD,
      r.2.mem ((c.tc : Thread Cert.ScanDwin.nD Cert.ScanDwin.τ).loc Cert.ScanDwin.main_arg0) = m ((c.tc : Thread Cert.ScanDwin.nD Cert.ScanDwin.τ).loc Cert.ScanDwin.main_arg0)
      ∧ r.2.mem ((c.tc : Thread Cert.ScanDwin.nD Cert.ScanDwin.τ).loc Cert.ScanDwin.main_arg1) = m ((c.tc : Thread Cert.ScanDwin.nD Cert.ScanDwin.τ).loc Cert.ScanDwin.main_arg1))
      ∧ r.2.sem = fun _ => 0)

def quiescent_ScanDwinIdeal [hScanDwinIdeal : Cert.ScanDwinIdeal.Facts] : Prop :=
  ∀ (m : (ℓ : Loc Cert.ScanDwinIdeal.nD Cert.ScanDwinIdeal.τ Cert.ScanDwinIdeal.sig) → Buf (Elt Ideal) ℓ) (g : Dev Cert.ScanDwinIdeal.nD → PrngReg), Pre_ScanDwinIdeal m →
    θ_run (Cert.ScanDwinIdeal.defs (F := Ideal)) (onTc (τ := Cert.ScanDwinIdeal.τ) (Cert.ScanDwinIdeal.main (F := Ideal))) ⟨m, fun _ => 0, g⟩ (fun r => (∀ c : Dev Cert.ScanDwinIdeal.nD,
      r.2.mem ((c.tc : Thread Cert.ScanDwinIdeal.nD Cert.ScanDwinIdeal.τ).loc Cert.ScanDwinIdeal.main_arg0) = m ((c.tc : Thread Cert.ScanDwinIdeal.nD Cert.ScanDwinIdeal.τ).loc Cert.ScanDwinIdeal.main_arg0)
      ∧ r.2.mem ((c.tc : Thread Cert.ScanDwinIdeal.nD Cert.ScanDwinIdeal.τ).loc Cert.ScanDwinIdeal.main_arg1) = m ((c.tc : Thread Cert.ScanDwinIdeal.nD Cert.ScanDwinIdeal.τ).loc Cert.ScanDwinIdeal.main_arg1))
      ∧ r.2.sem = fun _ => 0)

def quiescent_ScanDwinRefIdeal [hScanDwinRefIdeal : Cert.ScanDwinRefIdeal.Facts] : Prop :=
  ∀ (m : (ℓ : Loc Cert.ScanDwinRefIdeal.nD Cert.ScanDwinRefIdeal.τ Cert.ScanDwinRefIdeal.sig) → Buf (Elt Ideal) ℓ) (g : Dev Cert.ScanDwinRefIdeal.nD → PrngReg), Pre_ScanDwinRefIdeal m →
    θ_run (Cert.ScanDwinRefIdeal.defs (F := Ideal)) (onTc (τ := Cert.ScanDwinRefIdeal.τ) (Cert.ScanDwinRefIdeal.main (F := Ideal))) ⟨m, fun _ => 0, g⟩ (fun r => (∀ c : Dev Cert.ScanDwinRefIdeal.nD,
      r.2.mem ((c.tc : Thread Cert.ScanDwinRefIdeal.nD Cert.ScanDwinRefIdeal.τ).loc Cert.ScanDwinRefIdeal.main_arg0) = m ((c.tc : Thread Cert.ScanDwinRefIdeal.nD Cert.ScanDwinRefIdeal.τ).loc Cert.ScanDwinRefIdeal.main_arg0)
      ∧ r.2.mem ((c.tc : Thread Cert.ScanDwinRefIdeal.nD Cert.ScanDwinRefIdeal.τ).loc Cert.ScanDwinRefIdeal.main_arg1) = m ((c.tc : Thread Cert.ScanDwinRefIdeal.nD Cert.ScanDwinRefIdeal.τ).loc Cert.ScanDwinRefIdeal.main_arg1))
      ∧ r.2.sem = fun _ => 0)

def quiescent_ScanDhn [hScanDhn : Cert.ScanDhn.Facts] : Prop :=
  ∀ (m : (ℓ : Loc Cert.ScanDhn.nD Cert.ScanDhn.τ Cert.ScanDhn.sig) → Buf (Elt Bits) ℓ) (g : Dev Cert.ScanDhn.nD → PrngReg), Pre_ScanDhn m →
    θ_run (Cert.ScanDhn.defs (F := Bits)) (onTc (τ := Cert.ScanDhn.τ) (Cert.ScanDhn.main (F := Bits))) ⟨m, fun _ => 0, g⟩ (fun r => (∀ c : Dev Cert.ScanDhn.nD,
      r.2.mem ((c.tc : Thread Cert.ScanDhn.nD Cert.ScanDhn.τ).loc Cert.ScanDhn.main_arg0) = m ((c.tc : Thread Cert.ScanDhn.nD Cert.ScanDhn.τ).loc Cert.ScanDhn.main_arg0)
      ∧ r.2.mem ((c.tc : Thread Cert.ScanDhn.nD Cert.ScanDhn.τ).loc Cert.ScanDhn.main_arg1) = m ((c.tc : Thread Cert.ScanDhn.nD Cert.ScanDhn.τ).loc Cert.ScanDhn.main_arg1))
      ∧ r.2.sem = fun _ => 0)

def quiescent_ScanDhnIdeal [hScanDhnIdeal : Cert.ScanDhnIdeal.Facts] : Prop :=
  ∀ (m : (ℓ : Loc Cert.ScanDhnIdeal.nD Cert.ScanDhnIdeal.τ Cert.ScanDhnIdeal.sig) → Buf (Elt Ideal) ℓ) (g : Dev Cert.ScanDhnIdeal.nD → PrngReg), Pre_ScanDhnIdeal m →
    θ_run (Cert.ScanDhnIdeal.defs (F := Ideal)) (onTc (τ := Cert.ScanDhnIdeal.τ) (Cert.ScanDhnIdeal.main (F := Ideal))) ⟨m, fun _ => 0, g⟩ (fun r => (∀ c : Dev Cert.ScanDhnIdeal.nD,
      r.2.mem ((c.tc : Thread Cert.ScanDhnIdeal.nD Cert.ScanDhnIdeal.τ).loc Cert.ScanDhnIdeal.main_arg0) = m ((c.tc : Thread Cert.ScanDhnIdeal.nD Cert.ScanDhnIdeal.τ).loc Cert.ScanDhnIdeal.main_arg0)
      ∧ r.2.mem ((c.tc : Thread Cert.ScanDhnIdeal.nD Cert.ScanDhnIdeal.τ).loc Cert.ScanDhnIdeal.main_arg1) = m ((c.tc : Thread Cert.ScanDhnIdeal.nD Cert.ScanDhnIdeal.τ).loc Cert.ScanDhnIdeal.main_arg1))
      ∧ r.2.sem = fun _ => 0)

def quiescent_ScanDhnRefIdeal [hScanDhnRefIdeal : Cert.ScanDhnRefIdeal.Facts] : Prop :=
  ∀ (m : (ℓ : Loc Cert.ScanDhnRefIdeal.nD Cert.ScanDhnRefIdeal.τ Cert.ScanDhnRefIdeal.sig) → Buf (Elt Ideal) ℓ) (g : Dev Cert.ScanDhnRefIdeal.nD → PrngReg), Pre_ScanDhnRefIdeal m →
    θ_run (Cert.ScanDhnRefIdeal.defs (F := Ideal)) (onTc (τ := Cert.ScanDhnRefIdeal.τ) (Cert.ScanDhnRefIdeal.main (F := Ideal))) ⟨m, fun _ => 0, g⟩ (fun r => (∀ c : Dev Cert.ScanDhnRefIdeal.nD,
      r.2.mem ((c.tc : Thread Cert.ScanDhnRefIdeal.nD Cert.ScanDhnRefIdeal.τ).loc Cert.ScanDhnRefIdeal.main_arg0) = m ((c.tc : Thread Cert.ScanDhnRefIdeal.nD Cert.ScanDhnRefIdeal.τ).loc Cert.ScanDhnRefIdeal.main_arg0)
      ∧ r.2.mem ((c.tc : Thread Cert.ScanDhnRefIdeal.nD Cert.ScanDhnRefIdeal.τ).loc Cert.ScanDhnRefIdeal.main_arg1) = m ((c.tc : Thread Cert.ScanDhnRefIdeal.nD Cert.ScanDhnRefIdeal.τ).loc Cert.ScanDhnRefIdeal.main_arg1))
      ∧ r.2.sem = fun _ => 0)

def quiescent_Dwglu [hDwglu : Cert.Dwglu.Facts] : Prop :=
  ∀ (m : (ℓ : Loc Cert.Dwglu.nD Cert.Dwglu.τ Cert.Dwglu.sig) → Buf (Elt Bits) ℓ) (g : Dev Cert.Dwglu.nD → PrngReg), Pre_Dwglu m →
    θ_run (Cert.Dwglu.defs (F := Bits)) (onTc (τ := Cert.Dwglu.τ) (Cert.Dwglu.main (F := Bits))) ⟨m, fun _ => 0, g⟩ (fun r => (∀ c : Dev Cert.Dwglu.nD,
      r.2.mem ((c.tc : Thread Cert.Dwglu.nD Cert.Dwglu.τ).loc Cert.Dwglu.main_arg0) = m ((c.tc : Thread Cert.Dwglu.nD Cert.Dwglu.τ).loc Cert.Dwglu.main_arg0)
      ∧ r.2.mem ((c.tc : Thread Cert.Dwglu.nD Cert.Dwglu.τ).loc Cert.Dwglu.main_arg1) = m ((c.tc : Thread Cert.Dwglu.nD Cert.Dwglu.τ).loc Cert.Dwglu.main_arg1))
      ∧ r.2.sem = fun _ => 0)

def quiescent_DwgluIdeal [hDwgluIdeal : Cert.DwgluIdeal.Facts] : Prop :=
  ∀ (m : (ℓ : Loc Cert.DwgluIdeal.nD Cert.DwgluIdeal.τ Cert.DwgluIdeal.sig) → Buf (Elt Ideal) ℓ) (g : Dev Cert.DwgluIdeal.nD → PrngReg), Pre_DwgluIdeal m →
    θ_run (Cert.DwgluIdeal.defs (F := Ideal)) (onTc (τ := Cert.DwgluIdeal.τ) (Cert.DwgluIdeal.main (F := Ideal))) ⟨m, fun _ => 0, g⟩ (fun r => (∀ c : Dev Cert.DwgluIdeal.nD,
      r.2.mem ((c.tc : Thread Cert.DwgluIdeal.nD Cert.DwgluIdeal.τ).loc Cert.DwgluIdeal.main_arg0) = m ((c.tc : Thread Cert.DwgluIdeal.nD Cert.DwgluIdeal.τ).loc Cert.DwgluIdeal.main_arg0)
      ∧ r.2.mem ((c.tc : Thread Cert.DwgluIdeal.nD Cert.DwgluIdeal.τ).loc Cert.DwgluIdeal.main_arg1) = m ((c.tc : Thread Cert.DwgluIdeal.nD Cert.DwgluIdeal.τ).loc Cert.DwgluIdeal.main_arg1))
      ∧ r.2.sem = fun _ => 0)

def quiescent_DwgluRefIdeal [hDwgluRefIdeal : Cert.DwgluRefIdeal.Facts] : Prop :=
  ∀ (m : (ℓ : Loc Cert.DwgluRefIdeal.nD Cert.DwgluRefIdeal.τ Cert.DwgluRefIdeal.sig) → Buf (Elt Ideal) ℓ) (g : Dev Cert.DwgluRefIdeal.nD → PrngReg), Pre_DwgluRefIdeal m →
    θ_run (Cert.DwgluRefIdeal.defs (F := Ideal)) (onTc (τ := Cert.DwgluRefIdeal.τ) (Cert.DwgluRefIdeal.main (F := Ideal))) ⟨m, fun _ => 0, g⟩ (fun r => (∀ c : Dev Cert.DwgluRefIdeal.nD,
      r.2.mem ((c.tc : Thread Cert.DwgluRefIdeal.nD Cert.DwgluRefIdeal.τ).loc Cert.DwgluRefIdeal.main_arg0) = m ((c.tc : Thread Cert.DwgluRefIdeal.nD Cert.DwgluRefIdeal.τ).loc Cert.DwgluRefIdeal.main_arg0)
      ∧ r.2.mem ((c.tc : Thread Cert.DwgluRefIdeal.nD Cert.DwgluRefIdeal.τ).loc Cert.DwgluRefIdeal.main_arg1) = m ((c.tc : Thread Cert.DwgluRefIdeal.nD Cert.DwgluRefIdeal.τ).loc Cert.DwgluRefIdeal.main_arg1))
      ∧ r.2.sem = fun _ => 0)

def quiescent_Dglu [hDglu : Cert.Dglu.Facts] : Prop :=
  ∀ (m : (ℓ : Loc Cert.Dglu.nD Cert.Dglu.τ Cert.Dglu.sig) → Buf (Elt Bits) ℓ) (g : Dev Cert.Dglu.nD → PrngReg), Pre_Dglu m →
    θ_run (Cert.Dglu.defs (F := Bits)) (onTc (τ := Cert.Dglu.τ) (Cert.Dglu.main (F := Bits))) ⟨m, fun _ => 0, g⟩ (fun r => (∀ c : Dev Cert.Dglu.nD,
      r.2.mem ((c.tc : Thread Cert.Dglu.nD Cert.Dglu.τ).loc Cert.Dglu.main_arg0) = m ((c.tc : Thread Cert.Dglu.nD Cert.Dglu.τ).loc Cert.Dglu.main_arg0)
      ∧ r.2.mem ((c.tc : Thread Cert.Dglu.nD Cert.Dglu.τ).loc Cert.Dglu.main_arg1) = m ((c.tc : Thread Cert.Dglu.nD Cert.Dglu.τ).loc Cert.Dglu.main_arg1)
      ∧ r.2.mem ((c.tc : Thread Cert.Dglu.nD Cert.Dglu.τ).loc Cert.Dglu.main_arg2) = m ((c.tc : Thread Cert.Dglu.nD Cert.Dglu.τ).loc Cert.Dglu.main_arg2))
      ∧ r.2.sem = fun _ => 0)

def quiescent_DgluIdeal [hDgluIdeal : Cert.DgluIdeal.Facts] : Prop :=
  ∀ (m : (ℓ : Loc Cert.DgluIdeal.nD Cert.DgluIdeal.τ Cert.DgluIdeal.sig) → Buf (Elt Ideal) ℓ) (g : Dev Cert.DgluIdeal.nD → PrngReg), Pre_DgluIdeal m →
    θ_run (Cert.DgluIdeal.defs (F := Ideal)) (onTc (τ := Cert.DgluIdeal.τ) (Cert.DgluIdeal.main (F := Ideal))) ⟨m, fun _ => 0, g⟩ (fun r => (∀ c : Dev Cert.DgluIdeal.nD,
      r.2.mem ((c.tc : Thread Cert.DgluIdeal.nD Cert.DgluIdeal.τ).loc Cert.DgluIdeal.main_arg0) = m ((c.tc : Thread Cert.DgluIdeal.nD Cert.DgluIdeal.τ).loc Cert.DgluIdeal.main_arg0)
      ∧ r.2.mem ((c.tc : Thread Cert.DgluIdeal.nD Cert.DgluIdeal.τ).loc Cert.DgluIdeal.main_arg1) = m ((c.tc : Thread Cert.DgluIdeal.nD Cert.DgluIdeal.τ).loc Cert.DgluIdeal.main_arg1)
      ∧ r.2.mem ((c.tc : Thread Cert.DgluIdeal.nD Cert.DgluIdeal.τ).loc Cert.DgluIdeal.main_arg2) = m ((c.tc : Thread Cert.DgluIdeal.nD Cert.DgluIdeal.τ).loc Cert.DgluIdeal.main_arg2))
      ∧ r.2.sem = fun _ => 0)

def quiescent_DgluRefIdeal [hDgluRefIdeal : Cert.DgluRefIdeal.Facts] : Prop :=
  ∀ (m : (ℓ : Loc Cert.DgluRefIdeal.nD Cert.DgluRefIdeal.τ Cert.DgluRefIdeal.sig) → Buf (Elt Ideal) ℓ) (g : Dev Cert.DgluRefIdeal.nD → PrngReg), Pre_DgluRefIdeal m →
    θ_run (Cert.DgluRefIdeal.defs (F := Ideal)) (onTc (τ := Cert.DgluRefIdeal.τ) (Cert.DgluRefIdeal.main (F := Ideal))) ⟨m, fun _ => 0, g⟩ (fun r => (∀ c : Dev Cert.DgluRefIdeal.nD,
      r.2.mem ((c.tc : Thread Cert.DgluRefIdeal.nD Cert.DgluRefIdeal.τ).loc Cert.DgluRefIdeal.main_arg0) = m ((c.tc : Thread Cert.DgluRefIdeal.nD Cert.DgluRefIdeal.τ).loc Cert.DgluRefIdeal.main_arg0)
      ∧ r.2.mem ((c.tc : Thread Cert.DgluRefIdeal.nD Cert.DgluRefIdeal.τ).loc Cert.DgluRefIdeal.main_arg1) = m ((c.tc : Thread Cert.DgluRefIdeal.nD Cert.DgluRefIdeal.τ).loc Cert.DgluRefIdeal.main_arg1)
      ∧ r.2.mem ((c.tc : Thread Cert.DgluRefIdeal.nD Cert.DgluRefIdeal.τ).loc Cert.DgluRefIdeal.main_arg2) = m ((c.tc : Thread Cert.DgluRefIdeal.nD Cert.DgluRefIdeal.τ).loc Cert.DgluRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_ScanIn [hScanIn : Cert.ScanIn.Facts] : Prop :=
  ∀ (m : (ℓ : Loc Cert.ScanIn.nD Cert.ScanIn.τ Cert.ScanIn.sig) → Buf (Elt Bits) ℓ) (g : Dev Cert.ScanIn.nD → PrngReg), Pre_ScanIn m →
    θ_run (Cert.ScanIn.defs (F := Bits)) (onTc (τ := Cert.ScanIn.τ) (Cert.ScanIn.main (F := Bits))) ⟨m, fun _ => 0, g⟩ (fun r => (∀ c : Dev Cert.ScanIn.nD,
      r.2.mem ((c.tc : Thread Cert.ScanIn.nD Cert.ScanIn.τ).loc Cert.ScanIn.main_arg0) = m ((c.tc : Thread Cert.ScanIn.nD Cert.ScanIn.τ).loc Cert.ScanIn.main_arg0)
      ∧ r.2.mem ((c.tc : Thread Cert.ScanIn.nD Cert.ScanIn.τ).loc Cert.ScanIn.main_arg1) = m ((c.tc : Thread Cert.ScanIn.nD Cert.ScanIn.τ).loc Cert.ScanIn.main_arg1))
      ∧ r.2.sem = fun _ => 0)

def quiescent_ScanInIdeal [hScanInIdeal : Cert.ScanInIdeal.Facts] : Prop :=
  ∀ (m : (ℓ : Loc Cert.ScanInIdeal.nD Cert.ScanInIdeal.τ Cert.ScanInIdeal.sig) → Buf (Elt Ideal) ℓ) (g : Dev Cert.ScanInIdeal.nD → PrngReg), Pre_ScanInIdeal m →
    θ_run (Cert.ScanInIdeal.defs (F := Ideal)) (onTc (τ := Cert.ScanInIdeal.τ) (Cert.ScanInIdeal.main (F := Ideal))) ⟨m, fun _ => 0, g⟩ (fun r => (∀ c : Dev Cert.ScanInIdeal.nD,
      r.2.mem ((c.tc : Thread Cert.ScanInIdeal.nD Cert.ScanInIdeal.τ).loc Cert.ScanInIdeal.main_arg0) = m ((c.tc : Thread Cert.ScanInIdeal.nD Cert.ScanInIdeal.τ).loc Cert.ScanInIdeal.main_arg0)
      ∧ r.2.mem ((c.tc : Thread Cert.ScanInIdeal.nD Cert.ScanInIdeal.τ).loc Cert.ScanInIdeal.main_arg1) = m ((c.tc : Thread Cert.ScanInIdeal.nD Cert.ScanInIdeal.τ).loc Cert.ScanInIdeal.main_arg1))
      ∧ r.2.sem = fun _ => 0)

def quiescent_ScanInRefIdeal [hScanInRefIdeal : Cert.ScanInRefIdeal.Facts] : Prop :=
  ∀ (m : (ℓ : Loc Cert.ScanInRefIdeal.nD Cert.ScanInRefIdeal.τ Cert.ScanInRefIdeal.sig) → Buf (Elt Ideal) ℓ) (g : Dev Cert.ScanInRefIdeal.nD → PrngReg), Pre_ScanInRefIdeal m →
    θ_run (Cert.ScanInRefIdeal.defs (F := Ideal)) (onTc (τ := Cert.ScanInRefIdeal.τ) (Cert.ScanInRefIdeal.main (F := Ideal))) ⟨m, fun _ => 0, g⟩ (fun r => (∀ c : Dev Cert.ScanInRefIdeal.nD,
      r.2.mem ((c.tc : Thread Cert.ScanInRefIdeal.nD Cert.ScanInRefIdeal.τ).loc Cert.ScanInRefIdeal.main_arg0) = m ((c.tc : Thread Cert.ScanInRefIdeal.nD Cert.ScanInRefIdeal.τ).loc Cert.ScanInRefIdeal.main_arg0)
      ∧ r.2.mem ((c.tc : Thread Cert.ScanInRefIdeal.nD Cert.ScanInRefIdeal.τ).loc Cert.ScanInRefIdeal.main_arg1) = m ((c.tc : Thread Cert.ScanInRefIdeal.nD Cert.ScanInRefIdeal.τ).loc Cert.ScanInRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3))
      ∧ r.2.sem = fun _ => 0)

def preserves_Kernel_KernelIdeal : Prop :=
  IdealRules.named_const.Statement Cert.KernelIdeal.κ "score_log2" .f32 0x3DD53B95#32 (((Real.sqrt 192)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v46_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v46_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v2)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v2) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v3) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1))

def preserves_Dhn_DhnIdeal : Prop :=
  True

def algebraic_DhnIdeal_DhnRefIdeal [hDhnIdeal : Cert.DhnIdeal.Facts] [hDhnRefIdeal : Cert.DhnRefIdeal.Facts] : Prop :=
  ∀ (m : (ℓ : Loc Cert.DhnIdeal.nD Cert.DhnIdeal.τ Cert.DhnIdeal.sig) → Buf (Elt Ideal) ℓ) (g : Dev Cert.DhnIdeal.nD → PrngReg)
    (m' : (ℓ : Loc Cert.DhnRefIdeal.nD Cert.DhnRefIdeal.τ Cert.DhnRefIdeal.sig) → Buf (Elt Ideal) ℓ) (g' : Dev Cert.DhnRefIdeal.nD → PrngReg), Pre_DhnIdeal m →
    (∀ c : Dev Cert.DhnIdeal.nD,
      m' ((c.tc : Thread Cert.DhnRefIdeal.nD Cert.DhnRefIdeal.τ).loc Cert.DhnRefIdeal.main_arg0) = m ((c.tc : Thread Cert.DhnIdeal.nD Cert.DhnIdeal.τ).loc Cert.DhnIdeal.main_arg0)
      ∧ m' ((c.tc : Thread Cert.DhnRefIdeal.nD Cert.DhnRefIdeal.τ).loc Cert.DhnRefIdeal.main_arg1) = m ((c.tc : Thread Cert.DhnIdeal.nD Cert.DhnIdeal.τ).loc Cert.DhnIdeal.main_arg1)) →
    ∃ (v0 : (c : Dev Cert.DhnIdeal.nD) → Buf (Elt Ideal) ((c.tc : Thread Cert.DhnIdeal.nD Cert.DhnIdeal.τ).loc Cert.DhnIdeal.main_v2)),
      θ_run (Cert.DhnIdeal.defs (F := Ideal)) (onTc (τ := Cert.DhnIdeal.τ) (Cert.DhnIdeal.main (F := Ideal))) ⟨m, fun _ => 0, g⟩ (fun r => ∀ c : Dev Cert.DhnIdeal.nD,
          r.2.mem ((c.tc : Thread Cert.DhnIdeal.nD Cert.DhnIdeal.τ).loc Cert.DhnIdeal.main_v2) = v0 c
          ∧ r.2.mem ((c.tc : Thread Cert.DhnIdeal.nD Cert.DhnIdeal.τ).loc Cert.DhnIdeal.main_arg0) = m ((c.tc : Thread Cert.DhnIdeal.nD Cert.DhnIdeal.τ).loc Cert.DhnIdeal.main_arg0)
          ∧ r.2.mem ((c.tc : Thread Cert.DhnIdeal.nD Cert.DhnIdeal.τ).loc Cert.DhnIdeal.main_arg1) = m ((c.tc : Thread Cert.DhnIdeal.nD Cert.DhnIdeal.τ).loc Cert.DhnIdeal.main_arg1))
      ∧ θ_run (Cert.DhnRefIdeal.defs (F := Ideal)) (onTc (τ := Cert.DhnRefIdeal.τ) (Cert.DhnRefIdeal.main (F := Ideal))) ⟨m', fun _ => 0, g'⟩ (fun r => ∀ c : Dev Cert.DhnRefIdeal.nD,
          r.2.mem ((c.tc : Thread Cert.DhnRefIdeal.nD Cert.DhnRefIdeal.τ).loc Cert.DhnRefIdeal.main_v2) = v0 c
          ∧ r.2.mem ((c.tc : Thread Cert.DhnRefIdeal.nD Cert.DhnRefIdeal.τ).loc Cert.DhnRefIdeal.main_arg0) = m' ((c.tc : Thread Cert.DhnRefIdeal.nD Cert.DhnRefIdeal.τ).loc Cert.DhnRefIdeal.main_arg0)
          ∧ r.2.mem ((c.tc : Thread Cert.DhnRefIdeal.nD Cert.DhnRefIdeal.τ).loc Cert.DhnRefIdeal.main_arg1) = m' ((c.tc : Thread Cert.DhnRefIdeal.nD Cert.DhnRefIdeal.τ).loc Cert.DhnRefIdeal.main_arg1))

def preserves_Dwout_DwoutIdeal : Prop :=
  True

def algebraic_DwoutIdeal_DwoutRefIdeal [hDwoutIdeal : Cert.DwoutIdeal.Facts] [hDwoutRefIdeal : Cert.DwoutRefIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutRefIdeal.nD Cert.DwoutRefIdeal.τ Cert.DwoutRefIdeal.sig) → Buf (Elt Ideal) ℓ) (g' : Dev Cert.DwoutRefIdeal.nD → PrngReg), Pre_DwoutIdeal m →
    (∀ c : Dev Cert.DwoutIdeal.nD,
      m' ((c.tc : Thread Cert.DwoutRefIdeal.nD Cert.DwoutRefIdeal.τ).loc Cert.DwoutRefIdeal.main_arg0) = m ((c.tc : Thread Cert.DwoutIdeal.nD Cert.DwoutIdeal.τ).loc Cert.DwoutIdeal.main_arg0)
      ∧ m' ((c.tc : Thread Cert.DwoutRefIdeal.nD Cert.DwoutRefIdeal.τ).loc Cert.DwoutRefIdeal.main_arg1) = m ((c.tc : Thread Cert.DwoutIdeal.nD Cert.DwoutIdeal.τ).loc Cert.DwoutIdeal.main_arg1)) →
    ∃ (v0 : (c : Dev Cert.DwoutIdeal.nD) → Buf (Elt Ideal) ((c.tc : Thread Cert.DwoutIdeal.nD Cert.DwoutIdeal.τ).loc Cert.DwoutIdeal.main_v1)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v1) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ θ_run (Cert.DwoutRefIdeal.defs (F := Ideal)) (onTc (τ := Cert.DwoutRefIdeal.τ) (Cert.DwoutRefIdeal.main (F := Ideal))) ⟨m', fun _ => 0, g'⟩ (fun r => ∀ c : Dev Cert.DwoutRefIdeal.nD,
          r.2.mem ((c.tc : Thread Cert.DwoutRefIdeal.nD Cert.DwoutRefIdeal.τ).loc Cert.DwoutRefIdeal.main_v3) = v0 c
          ∧ r.2.mem ((c.tc : Thread Cert.DwoutRefIdeal.nD Cert.DwoutRefIdeal.τ).loc Cert.DwoutRefIdeal.main_arg0) = m' ((c.tc : Thread Cert.DwoutRefIdeal.nD Cert.DwoutRefIdeal.τ).loc Cert.DwoutRefIdeal.main_arg0)
          ∧ r.2.mem ((c.tc : Thread Cert.DwoutRefIdeal.nD Cert.DwoutRefIdeal.τ).loc Cert.DwoutRefIdeal.main_arg1) = m' ((c.tc : Thread Cert.DwoutRefIdeal.nD Cert.DwoutRefIdeal.τ).loc Cert.DwoutRefIdeal.main_arg1))

def preserves_Dgated_DgatedIdeal : Prop :=
  True

def algebraic_DgatedIdeal_DgatedRefIdeal [hDgatedIdeal : Cert.DgatedIdeal.Facts] [hDgatedRefIdeal : Cert.DgatedRefIdeal.Facts] : Prop :=
  ∀ (m : (ℓ : Loc Cert.DgatedIdeal.nD Cert.DgatedIdeal.τ Cert.DgatedIdeal.sig) → Buf (Elt Ideal) ℓ) (g : Dev Cert.DgatedIdeal.nD → PrngReg)
    (m' : (ℓ : Loc Cert.DgatedRefIdeal.nD Cert.DgatedRefIdeal.τ Cert.DgatedRefIdeal.sig) → Buf (Elt Ideal) ℓ) (g' : Dev Cert.DgatedRefIdeal.nD → PrngReg), Pre_DgatedIdeal m →
    (∀ c : Dev Cert.DgatedIdeal.nD,
      m' ((c.tc : Thread Cert.DgatedRefIdeal.nD Cert.DgatedRefIdeal.τ).loc Cert.DgatedRefIdeal.main_arg0) = m ((c.tc : Thread Cert.DgatedIdeal.nD Cert.DgatedIdeal.τ).loc Cert.DgatedIdeal.main_arg0)
      ∧ m' ((c.tc : Thread Cert.DgatedRefIdeal.nD Cert.DgatedRefIdeal.τ).loc Cert.DgatedRefIdeal.main_arg1) = m ((c.tc : Thread Cert.DgatedIdeal.nD Cert.DgatedIdeal.τ).loc Cert.DgatedIdeal.main_arg1)) →
    ∃ (v0 : (c : Dev Cert.DgatedIdeal.nD) → Buf (Elt Ideal) ((c.tc : Thread Cert.DgatedIdeal.nD Cert.DgatedIdeal.τ).loc Cert.DgatedIdeal.main_v1)),
      θ_run (Cert.DgatedIdeal.defs (F := Ideal)) (onTc (τ := Cert.DgatedIdeal.τ) (Cert.DgatedIdeal.main (F := Ideal))) ⟨m, fun _ => 0, g⟩ (fun r => ∀ c : Dev Cert.DgatedIdeal.nD,
          r.2.mem ((c.tc : Thread Cert.DgatedIdeal.nD Cert.DgatedIdeal.τ).loc Cert.DgatedIdeal.main_v1) = v0 c
          ∧ r.2.mem ((c.tc : Thread Cert.DgatedIdeal.nD Cert.DgatedIdeal.τ).loc Cert.DgatedIdeal.main_arg0) = m ((c.tc : Thread Cert.DgatedIdeal.nD Cert.DgatedIdeal.τ).loc Cert.DgatedIdeal.main_arg0)
          ∧ r.2.mem ((c.tc : Thread Cert.DgatedIdeal.nD Cert.DgatedIdeal.τ).loc Cert.DgatedIdeal.main_arg1) = m ((c.tc : Thread Cert.DgatedIdeal.nD Cert.DgatedIdeal.τ).loc Cert.DgatedIdeal.main_arg1))
      ∧ θ_run (Cert.DgatedRefIdeal.defs (F := Ideal)) (onTc (τ := Cert.DgatedRefIdeal.τ) (Cert.DgatedRefIdeal.main (F := Ideal))) ⟨m', fun _ => 0, g'⟩ (fun r => ∀ c : Dev Cert.DgatedRefIdeal.nD,
          r.2.mem ((c.tc : Thread Cert.DgatedRefIdeal.nD Cert.DgatedRefIdeal.τ).loc Cert.DgatedRefIdeal.main_v3) = v0 c
          ∧ r.2.mem ((c.tc : Thread Cert.DgatedRefIdeal.nD Cert.DgatedRefIdeal.τ).loc Cert.DgatedRefIdeal.main_arg0) = m' ((c.tc : Thread Cert.DgatedRefIdeal.nD Cert.DgatedRefIdeal.τ).loc Cert.DgatedRefIdeal.main_arg0)
          ∧ r.2.mem ((c.tc : Thread Cert.DgatedRefIdeal.nD Cert.DgatedRefIdeal.τ).loc Cert.DgatedRefIdeal.main_arg1) = m' ((c.tc : Thread Cert.DgatedRefIdeal.nD Cert.DgatedRefIdeal.τ).loc Cert.DgatedRefIdeal.main_arg1))

def preserves_ScanDwin_ScanDwinIdeal : Prop :=
  True

def algebraic_ScanDwinIdeal_ScanDwinRefIdeal [hScanDwinIdeal : Cert.ScanDwinIdeal.Facts] [hScanDwinRefIdeal : Cert.ScanDwinRefIdeal.Facts] : Prop :=
  ∀ (m : (ℓ : Loc Cert.ScanDwinIdeal.nD Cert.ScanDwinIdeal.τ Cert.ScanDwinIdeal.sig) → Buf (Elt Ideal) ℓ) (g : Dev Cert.ScanDwinIdeal.nD → PrngReg)
    (m' : (ℓ : Loc Cert.ScanDwinRefIdeal.nD Cert.ScanDwinRefIdeal.τ Cert.ScanDwinRefIdeal.sig) → Buf (Elt Ideal) ℓ) (g' : Dev Cert.ScanDwinRefIdeal.nD → PrngReg), Pre_ScanDwinIdeal m →
    (∀ c : Dev Cert.ScanDwinIdeal.nD,
      m' ((c.tc : Thread Cert.ScanDwinRefIdeal.nD Cert.ScanDwinRefIdeal.τ).loc Cert.ScanDwinRefIdeal.main_arg0) = m ((c.tc : Thread Cert.ScanDwinIdeal.nD Cert.ScanDwinIdeal.τ).loc Cert.ScanDwinIdeal.main_arg0)
      ∧ m' ((c.tc : Thread Cert.ScanDwinRefIdeal.nD Cert.ScanDwinRefIdeal.τ).loc Cert.ScanDwinRefIdeal.main_arg1) = m ((c.tc : Thread Cert.ScanDwinIdeal.nD Cert.ScanDwinIdeal.τ).loc Cert.ScanDwinIdeal.main_arg1)) →
    ∃ (v0 : (c : Dev Cert.ScanDwinIdeal.nD) → Buf (Elt Ideal) ((c.tc : Thread Cert.ScanDwinIdeal.nD Cert.ScanDwinIdeal.τ).loc Cert.ScanDwinIdeal.main_v2)),
      θ_run (Cert.ScanDwinIdeal.defs (F := Ideal)) (onTc (τ := Cert.ScanDwinIdeal.τ) (Cert.ScanDwinIdeal.main (F := Ideal))) ⟨m, fun _ => 0, g⟩ (fun r => ∀ c : Dev Cert.ScanDwinIdeal.nD,
          r.2.mem ((c.tc : Thread Cert.ScanDwinIdeal.nD Cert.ScanDwinIdeal.τ).loc Cert.ScanDwinIdeal.main_v2) = v0 c
          ∧ r.2.mem ((c.tc : Thread Cert.ScanDwinIdeal.nD Cert.ScanDwinIdeal.τ).loc Cert.ScanDwinIdeal.main_arg0) = m ((c.tc : Thread Cert.ScanDwinIdeal.nD Cert.ScanDwinIdeal.τ).loc Cert.ScanDwinIdeal.main_arg0)
          ∧ r.2.mem ((c.tc : Thread Cert.ScanDwinIdeal.nD Cert.ScanDwinIdeal.τ).loc Cert.ScanDwinIdeal.main_arg1) = m ((c.tc : Thread Cert.ScanDwinIdeal.nD Cert.ScanDwinIdeal.τ).loc Cert.ScanDwinIdeal.main_arg1))
      ∧ θ_run (Cert.ScanDwinRefIdeal.defs (F := Ideal)) (onTc (τ := Cert.ScanDwinRefIdeal.τ) (Cert.ScanDwinRefIdeal.main (F := Ideal))) ⟨m', fun _ => 0, g'⟩ (fun r => ∀ c : Dev Cert.ScanDwinRefIdeal.nD,
          r.2.mem ((c.tc : Thread Cert.ScanDwinRefIdeal.nD Cert.ScanDwinRefIdeal.τ).loc Cert.ScanDwinRefIdeal.main_v3) = v0 c
          ∧ r.2.mem ((c.tc : Thread Cert.ScanDwinRefIdeal.nD Cert.ScanDwinRefIdeal.τ).loc Cert.ScanDwinRefIdeal.main_arg0) = m' ((c.tc : Thread Cert.ScanDwinRefIdeal.nD Cert.ScanDwinRefIdeal.τ).loc Cert.ScanDwinRefIdeal.main_arg0)
          ∧ r.2.mem ((c.tc : Thread Cert.ScanDwinRefIdeal.nD Cert.ScanDwinRefIdeal.τ).loc Cert.ScanDwinRefIdeal.main_arg1) = m' ((c.tc : Thread Cert.ScanDwinRefIdeal.nD Cert.ScanDwinRefIdeal.τ).loc Cert.ScanDwinRefIdeal.main_arg1))

def preserves_ScanDhn_ScanDhnIdeal : Prop :=
  True

def algebraic_ScanDhnIdeal_ScanDhnRefIdeal [hScanDhnIdeal : Cert.ScanDhnIdeal.Facts] [hScanDhnRefIdeal : Cert.ScanDhnRefIdeal.Facts] : Prop :=
  ∀ (m : (ℓ : Loc Cert.ScanDhnIdeal.nD Cert.ScanDhnIdeal.τ Cert.ScanDhnIdeal.sig) → Buf (Elt Ideal) ℓ) (g : Dev Cert.ScanDhnIdeal.nD → PrngReg)
    (m' : (ℓ : Loc Cert.ScanDhnRefIdeal.nD Cert.ScanDhnRefIdeal.τ Cert.ScanDhnRefIdeal.sig) → Buf (Elt Ideal) ℓ) (g' : Dev Cert.ScanDhnRefIdeal.nD → PrngReg), Pre_ScanDhnIdeal m →
    (∀ c : Dev Cert.ScanDhnIdeal.nD,
      m' ((c.tc : Thread Cert.ScanDhnRefIdeal.nD Cert.ScanDhnRefIdeal.τ).loc Cert.ScanDhnRefIdeal.main_arg0) = m ((c.tc : Thread Cert.ScanDhnIdeal.nD Cert.ScanDhnIdeal.τ).loc Cert.ScanDhnIdeal.main_arg0)
      ∧ m' ((c.tc : Thread Cert.ScanDhnRefIdeal.nD Cert.ScanDhnRefIdeal.τ).loc Cert.ScanDhnRefIdeal.main_arg1) = m ((c.tc : Thread Cert.ScanDhnIdeal.nD Cert.ScanDhnIdeal.τ).loc Cert.ScanDhnIdeal.main_arg1)) →
    ∃ (v0 : (c : Dev Cert.ScanDhnIdeal.nD) → Buf (Elt Ideal) ((c.tc : Thread Cert.ScanDhnIdeal.nD Cert.ScanDhnIdeal.τ).loc Cert.ScanDhnIdeal.main_v2)),
      θ_run (Cert.ScanDhnIdeal.defs (F := Ideal)) (onTc (τ := Cert.ScanDhnIdeal.τ) (Cert.ScanDhnIdeal.main (F := Ideal))) ⟨m, fun _ => 0, g⟩ (fun r => ∀ c : Dev Cert.ScanDhnIdeal.nD,
          r.2.mem ((c.tc : Thread Cert.ScanDhnIdeal.nD Cert.ScanDhnIdeal.τ).loc Cert.ScanDhnIdeal.main_v2) = v0 c
          ∧ r.2.mem ((c.tc : Thread Cert.ScanDhnIdeal.nD Cert.ScanDhnIdeal.τ).loc Cert.ScanDhnIdeal.main_arg0) = m ((c.tc : Thread Cert.ScanDhnIdeal.nD Cert.ScanDhnIdeal.τ).loc Cert.ScanDhnIdeal.main_arg0)
          ∧ r.2.mem ((c.tc : Thread Cert.ScanDhnIdeal.nD Cert.ScanDhnIdeal.τ).loc Cert.ScanDhnIdeal.main_arg1) = m ((c.tc : Thread Cert.ScanDhnIdeal.nD Cert.ScanDhnIdeal.τ).loc Cert.ScanDhnIdeal.main_arg1))
      ∧ θ_run (Cert.ScanDhnRefIdeal.defs (F := Ideal)) (onTc (τ := Cert.ScanDhnRefIdeal.τ) (Cert.ScanDhnRefIdeal.main (F := Ideal))) ⟨m', fun _ => 0, g'⟩ (fun r => ∀ c : Dev Cert.ScanDhnRefIdeal.nD,
          r.2.mem ((c.tc : Thread Cert.ScanDhnRefIdeal.nD Cert.ScanDhnRefIdeal.τ).loc Cert.ScanDhnRefIdeal.main_v2) = v0 c
          ∧ r.2.mem ((c.tc : Thread Cert.ScanDhnRefIdeal.nD Cert.ScanDhnRefIdeal.τ).loc Cert.ScanDhnRefIdeal.main_arg0) = m' ((c.tc : Thread Cert.ScanDhnRefIdeal.nD Cert.ScanDhnRefIdeal.τ).loc Cert.ScanDhnRefIdeal.main_arg0)
          ∧ r.2.mem ((c.tc : Thread Cert.ScanDhnRefIdeal.nD Cert.ScanDhnRefIdeal.τ).loc Cert.ScanDhnRefIdeal.main_arg1) = m' ((c.tc : Thread Cert.ScanDhnRefIdeal.nD Cert.ScanDhnRefIdeal.τ).loc Cert.ScanDhnRefIdeal.main_arg1))

def preserves_Dwglu_DwgluIdeal : Prop :=
  True

def algebraic_DwgluIdeal_DwgluRefIdeal [hDwgluIdeal : Cert.DwgluIdeal.Facts] [hDwgluRefIdeal : Cert.DwgluRefIdeal.Facts] : Prop :=
  ∀ (m : (ℓ : Loc Cert.DwgluIdeal.nD Cert.DwgluIdeal.τ Cert.DwgluIdeal.sig) → Buf (Elt Ideal) ℓ) (g : Dev Cert.DwgluIdeal.nD → PrngReg)
    (m' : (ℓ : Loc Cert.DwgluRefIdeal.nD Cert.DwgluRefIdeal.τ Cert.DwgluRefIdeal.sig) → Buf (Elt Ideal) ℓ) (g' : Dev Cert.DwgluRefIdeal.nD → PrngReg), Pre_DwgluIdeal m →
    (∀ c : Dev Cert.DwgluIdeal.nD,
      m' ((c.tc : Thread Cert.DwgluRefIdeal.nD Cert.DwgluRefIdeal.τ).loc Cert.DwgluRefIdeal.main_arg0) = m ((c.tc : Thread Cert.DwgluIdeal.nD Cert.DwgluIdeal.τ).loc Cert.DwgluIdeal.main_arg0)
      ∧ m' ((c.tc : Thread Cert.DwgluRefIdeal.nD Cert.DwgluRefIdeal.τ).loc Cert.DwgluRefIdeal.main_arg1) = m ((c.tc : Thread Cert.DwgluIdeal.nD Cert.DwgluIdeal.τ).loc Cert.DwgluIdeal.main_arg1)) →
    ∃ (v0 : (c : Dev Cert.DwgluIdeal.nD) → Buf (Elt Ideal) ((c.tc : Thread Cert.DwgluIdeal.nD Cert.DwgluIdeal.τ).loc Cert.DwgluIdeal.main_v2)),
      θ_run (Cert.DwgluIdeal.defs (F := Ideal)) (onTc (τ := Cert.DwgluIdeal.τ) (Cert.DwgluIdeal.main (F := Ideal))) ⟨m, fun _ => 0, g⟩ (fun r => ∀ c : Dev Cert.DwgluIdeal.nD,
          r.2.mem ((c.tc : Thread Cert.DwgluIdeal.nD Cert.DwgluIdeal.τ).loc Cert.DwgluIdeal.main_v2) = v0 c
          ∧ r.2.mem ((c.tc : Thread Cert.DwgluIdeal.nD Cert.DwgluIdeal.τ).loc Cert.DwgluIdeal.main_arg0) = m ((c.tc : Thread Cert.DwgluIdeal.nD Cert.DwgluIdeal.τ).loc Cert.DwgluIdeal.main_arg0)
          ∧ r.2.mem ((c.tc : Thread Cert.DwgluIdeal.nD Cert.DwgluIdeal.τ).loc Cert.DwgluIdeal.main_arg1) = m ((c.tc : Thread Cert.DwgluIdeal.nD Cert.DwgluIdeal.τ).loc Cert.DwgluIdeal.main_arg1))
      ∧ θ_run (Cert.DwgluRefIdeal.defs (F := Ideal)) (onTc (τ := Cert.DwgluRefIdeal.τ) (Cert.DwgluRefIdeal.main (F := Ideal))) ⟨m', fun _ => 0, g'⟩ (fun r => ∀ c : Dev Cert.DwgluRefIdeal.nD,
          r.2.mem ((c.tc : Thread Cert.DwgluRefIdeal.nD Cert.DwgluRefIdeal.τ).loc Cert.DwgluRefIdeal.main_v3) = v0 c
          ∧ r.2.mem ((c.tc : Thread Cert.DwgluRefIdeal.nD Cert.DwgluRefIdeal.τ).loc Cert.DwgluRefIdeal.main_arg0) = m' ((c.tc : Thread Cert.DwgluRefIdeal.nD Cert.DwgluRefIdeal.τ).loc Cert.DwgluRefIdeal.main_arg0)
          ∧ r.2.mem ((c.tc : Thread Cert.DwgluRefIdeal.nD Cert.DwgluRefIdeal.τ).loc Cert.DwgluRefIdeal.main_arg1) = m' ((c.tc : Thread Cert.DwgluRefIdeal.nD Cert.DwgluRefIdeal.τ).loc Cert.DwgluRefIdeal.main_arg1))

def preserves_Dglu_DgluIdeal : Prop :=
  True

def algebraic_DgluIdeal_DgluRefIdeal [hDgluIdeal : Cert.DgluIdeal.Facts] [hDgluRefIdeal : Cert.DgluRefIdeal.Facts] : Prop :=
  ∀ (m : (ℓ : Loc Cert.DgluIdeal.nD Cert.DgluIdeal.τ Cert.DgluIdeal.sig) → Buf (Elt Ideal) ℓ) (g : Dev Cert.DgluIdeal.nD → PrngReg)
    (m' : (ℓ : Loc Cert.DgluRefIdeal.nD Cert.DgluRefIdeal.τ Cert.DgluRefIdeal.sig) → Buf (Elt Ideal) ℓ) (g' : Dev Cert.DgluRefIdeal.nD → PrngReg), Pre_DgluIdeal m →
    (∀ c : Dev Cert.DgluIdeal.nD,
      m' ((c.tc : Thread Cert.DgluRefIdeal.nD Cert.DgluRefIdeal.τ).loc Cert.DgluRefIdeal.main_arg0) = m ((c.tc : Thread Cert.DgluIdeal.nD Cert.DgluIdeal.τ).loc Cert.DgluIdeal.main_arg0)
      ∧ m' ((c.tc : Thread Cert.DgluRefIdeal.nD Cert.DgluRefIdeal.τ).loc Cert.DgluRefIdeal.main_arg1) = m ((c.tc : Thread Cert.DgluIdeal.nD Cert.DgluIdeal.τ).loc Cert.DgluIdeal.main_arg1)
      ∧ m' ((c.tc : Thread Cert.DgluRefIdeal.nD Cert.DgluRefIdeal.τ).loc Cert.DgluRefIdeal.main_arg2) = m ((c.tc : Thread Cert.DgluIdeal.nD Cert.DgluIdeal.τ).loc Cert.DgluIdeal.main_arg2)) →
    ∃ (v0 : (c : Dev Cert.DgluIdeal.nD) → Buf (Elt Ideal) ((c.tc : Thread Cert.DgluIdeal.nD Cert.DgluIdeal.τ).loc Cert.DgluIdeal.main_v2)),
      θ_run (Cert.DgluIdeal.defs (F := Ideal)) (onTc (τ := Cert.DgluIdeal.τ) (Cert.DgluIdeal.main (F := Ideal))) ⟨m, fun _ => 0, g⟩ (fun r => ∀ c : Dev Cert.DgluIdeal.nD,
          r.2.mem ((c.tc : Thread Cert.DgluIdeal.nD Cert.DgluIdeal.τ).loc Cert.DgluIdeal.main_v2) = v0 c
          ∧ r.2.mem ((c.tc : Thread Cert.DgluIdeal.nD Cert.DgluIdeal.τ).loc Cert.DgluIdeal.main_arg0) = m ((c.tc : Thread Cert.DgluIdeal.nD Cert.DgluIdeal.τ).loc Cert.DgluIdeal.main_arg0)
          ∧ r.2.mem ((c.tc : Thread Cert.DgluIdeal.nD Cert.DgluIdeal.τ).loc Cert.DgluIdeal.main_arg1) = m ((c.tc : Thread Cert.DgluIdeal.nD Cert.DgluIdeal.τ).loc Cert.DgluIdeal.main_arg1)
          ∧ r.2.mem ((c.tc : Thread Cert.DgluIdeal.nD Cert.DgluIdeal.τ).loc Cert.DgluIdeal.main_arg2) = m ((c.tc : Thread Cert.DgluIdeal.nD Cert.DgluIdeal.τ).loc Cert.DgluIdeal.main_arg2))
      ∧ θ_run (Cert.DgluRefIdeal.defs (F := Ideal)) (onTc (τ := Cert.DgluRefIdeal.τ) (Cert.DgluRefIdeal.main (F := Ideal))) ⟨m', fun _ => 0, g'⟩ (fun r => ∀ c : Dev Cert.DgluRefIdeal.nD,
          r.2.mem ((c.tc : Thread Cert.DgluRefIdeal.nD Cert.DgluRefIdeal.τ).loc Cert.DgluRefIdeal.main_v3) = v0 c
          ∧ r.2.mem ((c.tc : Thread Cert.DgluRefIdeal.nD Cert.DgluRefIdeal.τ).loc Cert.DgluRefIdeal.main_arg0) = m' ((c.tc : Thread Cert.DgluRefIdeal.nD Cert.DgluRefIdeal.τ).loc Cert.DgluRefIdeal.main_arg0)
          ∧ r.2.mem ((c.tc : Thread Cert.DgluRefIdeal.nD Cert.DgluRefIdeal.τ).loc Cert.DgluRefIdeal.main_arg1) = m' ((c.tc : Thread Cert.DgluRefIdeal.nD Cert.DgluRefIdeal.τ).loc Cert.DgluRefIdeal.main_arg1)
          ∧ r.2.mem ((c.tc : Thread Cert.DgluRefIdeal.nD Cert.DgluRefIdeal.τ).loc Cert.DgluRefIdeal.main_arg2) = m' ((c.tc : Thread Cert.DgluRefIdeal.nD Cert.DgluRefIdeal.τ).loc Cert.DgluRefIdeal.main_arg2))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v2) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v0) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_ScanIn_ScanInIdeal : Prop :=
  True

def algebraic_ScanInIdeal_ScanInRefIdeal [hScanInIdeal : Cert.ScanInIdeal.Facts] [hScanInRefIdeal : Cert.ScanInRefIdeal.Facts] : Prop :=
  ∀ (m : (ℓ : Loc Cert.ScanInIdeal.nD Cert.ScanInIdeal.τ Cert.ScanInIdeal.sig) → Buf (Elt Ideal) ℓ) (g : Dev Cert.ScanInIdeal.nD → PrngReg)
    (m' : (ℓ : Loc Cert.ScanInRefIdeal.nD Cert.ScanInRefIdeal.τ Cert.ScanInRefIdeal.sig) → Buf (Elt Ideal) ℓ) (g' : Dev Cert.ScanInRefIdeal.nD → PrngReg), Pre_ScanInIdeal m →
    (∀ c : Dev Cert.ScanInIdeal.nD,
      m' ((c.tc : Thread Cert.ScanInRefIdeal.nD Cert.ScanInRefIdeal.τ).loc Cert.ScanInRefIdeal.main_arg0) = m ((c.tc : Thread Cert.ScanInIdeal.nD Cert.ScanInIdeal.τ).loc Cert.ScanInIdeal.main_arg0)
      ∧ m' ((c.tc : Thread Cert.ScanInRefIdeal.nD Cert.ScanInRefIdeal.τ).loc Cert.ScanInRefIdeal.main_arg1) = m ((c.tc : Thread Cert.ScanInIdeal.nD Cert.ScanInIdeal.τ).loc Cert.ScanInIdeal.main_arg1)) →
    ∃ (v0 : (c : Dev Cert.ScanInIdeal.nD) → Buf (Elt Ideal) ((c.tc : Thread Cert.ScanInIdeal.nD Cert.ScanInIdeal.τ).loc Cert.ScanInIdeal.main_v2)),
      θ_run (Cert.ScanInIdeal.defs (F := Ideal)) (onTc (τ := Cert.ScanInIdeal.τ) (Cert.ScanInIdeal.main (F := Ideal))) ⟨m, fun _ => 0, g⟩ (fun r => ∀ c : Dev Cert.ScanInIdeal.nD,
          r.2.mem ((c.tc : Thread Cert.ScanInIdeal.nD Cert.ScanInIdeal.τ).loc Cert.ScanInIdeal.main_v2) = v0 c
          ∧ r.2.mem ((c.tc : Thread Cert.ScanInIdeal.nD Cert.ScanInIdeal.τ).loc Cert.ScanInIdeal.main_arg0) = m ((c.tc : Thread Cert.ScanInIdeal.nD Cert.ScanInIdeal.τ).loc Cert.ScanInIdeal.main_arg0)
          ∧ r.2.mem ((c.tc : Thread Cert.ScanInIdeal.nD Cert.ScanInIdeal.τ).loc Cert.ScanInIdeal.main_arg1) = m ((c.tc : Thread Cert.ScanInIdeal.nD Cert.ScanInIdeal.τ).loc Cert.ScanInIdeal.main_arg1))
      ∧ θ_run (Cert.ScanInRefIdeal.defs (F := Ideal)) (onTc (τ := Cert.ScanInRefIdeal.τ) (Cert.ScanInRefIdeal.main (F := Ideal))) ⟨m', fun _ => 0, g'⟩ (fun r => ∀ c : Dev Cert.ScanInRefIdeal.nD,
          r.2.mem ((c.tc : Thread Cert.ScanInRefIdeal.nD Cert.ScanInRefIdeal.τ).loc Cert.ScanInRefIdeal.main_v0) = v0 c
          ∧ r.2.mem ((c.tc : Thread Cert.ScanInRefIdeal.nD Cert.ScanInRefIdeal.τ).loc Cert.ScanInRefIdeal.main_arg0) = m' ((c.tc : Thread Cert.ScanInRefIdeal.nD Cert.ScanInRefIdeal.τ).loc Cert.ScanInRefIdeal.main_arg0)
          ∧ r.2.mem ((c.tc : Thread Cert.ScanInRefIdeal.nD Cert.ScanInRefIdeal.τ).loc Cert.ScanInRefIdeal.main_arg1) = m' ((c.tc : Thread Cert.ScanInRefIdeal.nD Cert.ScanInRefIdeal.τ).loc Cert.ScanInRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v2) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v0) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_Scan_ScanIdeal : Prop :=
  True

def algebraic_ScanIdeal_ScanRefIdeal [hScanIdeal : Cert.ScanIdeal.Facts] [hScanRefIdeal : Cert.ScanRefIdeal.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)) →
    ∃ (v0 : (c : Dev Cert.ScanIdeal.nD) → Buf (Elt Ideal) ((c.tc : Thread Cert.ScanIdeal.nD Cert.ScanIdeal.τ).loc Cert.ScanIdeal.main_v3_0)) (v1 : (c : Dev Cert.ScanIdeal.nD) → Buf (Elt Ideal) ((c.tc : Thread Cert.ScanIdeal.nD Cert.ScanIdeal.τ).loc Cert.ScanIdeal.main_v3_1)) (v2 : (c : Dev Cert.ScanIdeal.nD) → Buf (Elt Ideal) ((c.tc : Thread Cert.ScanIdeal.nD Cert.ScanIdeal.τ).loc Cert.ScanIdeal.main_v3_2)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v3_0) = v0 c
          ∧ r.2.mem ((c.tc : Thread Cert.ScanIdeal.nD Cert.ScanIdeal.τ).loc Cert.ScanIdeal.main_v3_1) = v1 c
          ∧ r.2.mem ((c.tc : Thread Cert.ScanIdeal.nD Cert.ScanIdeal.τ).loc Cert.ScanIdeal.main_v3_2) = v2 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v6_5) = v0 c
          ∧ r.2.mem ((c.tc : Thread Cert.ScanRefIdeal.nD Cert.ScanRefIdeal.τ).loc Cert.ScanRefIdeal.main_v19) = v1 c
          ∧ r.2.mem ((c.tc : Thread Cert.ScanRefIdeal.nD Cert.ScanRefIdeal.τ).loc Cert.ScanRefIdeal.main_v15) = v2 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3))

def Claim : Prop :=
  ∃ (hKernel : Cert.Kernel.Facts) (hKernelIdeal : Cert.KernelIdeal.Facts) (hReferenceIdeal : Cert.ReferenceIdeal.Facts) (hDwin : Cert.Dwin.Facts) (hDwinIdeal : Cert.DwinIdeal.Facts) (hDwinRefIdeal : Cert.DwinRefIdeal.Facts) (hDhn : Cert.Dhn.Facts) (hDhnIdeal : Cert.DhnIdeal.Facts) (hDhnRefIdeal : Cert.DhnRefIdeal.Facts) (hDwout : Cert.Dwout.Facts) (hDwoutIdeal : Cert.DwoutIdeal.Facts) (hDwoutRefIdeal : Cert.DwoutRefIdeal.Facts) (hDgated : Cert.Dgated.Facts) (hDgatedIdeal : Cert.DgatedIdeal.Facts) (hDgatedRefIdeal : Cert.DgatedRefIdeal.Facts) (hScanDwin : Cert.ScanDwin.Facts) (hScanDwinIdeal : Cert.ScanDwinIdeal.Facts) (hScanDwinRefIdeal : Cert.ScanDwinRefIdeal.Facts) (hScanDhn : Cert.ScanDhn.Facts) (hScanDhnIdeal : Cert.ScanDhnIdeal.Facts) (hScanDhnRefIdeal : Cert.ScanDhnRefIdeal.Facts) (hDwglu : Cert.Dwglu.Facts) (hDwgluIdeal : Cert.DwgluIdeal.Facts) (hDwgluRefIdeal : Cert.DwgluRefIdeal.Facts) (hDglu : Cert.Dglu.Facts) (hDgluIdeal : Cert.DgluIdeal.Facts) (hDgluRefIdeal : Cert.DgluRefIdeal.Facts) (hIn : Cert.In.Facts) (hInIdeal : Cert.InIdeal.Facts) (hInRefIdeal : Cert.InRefIdeal.Facts) (hOut : Cert.Out.Facts) (hOutIdeal : Cert.OutIdeal.Facts) (hOutRefIdeal : Cert.OutRefIdeal.Facts) (hScanIn : Cert.ScanIn.Facts) (hScanInIdeal : Cert.ScanInIdeal.Facts) (hScanInRefIdeal : Cert.ScanInRefIdeal.Facts) (hGlu : Cert.Glu.Facts) (hGluIdeal : Cert.GluIdeal.Facts) (hGluRefIdeal : Cert.GluRefIdeal.Facts) (hScan : Cert.Scan.Facts) (hScanIdeal : Cert.ScanIdeal.Facts) (hScanRefIdeal : Cert.ScanRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dwin (hDwin := hDwin)
    ∧ quiescent_DwinIdeal (hDwinIdeal := hDwinIdeal)
    ∧ quiescent_DwinRefIdeal (hDwinRefIdeal := hDwinRefIdeal)
    ∧ quiescent_Dhn (hDhn := hDhn)
    ∧ quiescent_DhnIdeal (hDhnIdeal := hDhnIdeal)
    ∧ quiescent_DhnRefIdeal (hDhnRefIdeal := hDhnRefIdeal)
    ∧ quiescent_Dwout (hDwout := hDwout)
    ∧ quiescent_DwoutIdeal (hDwoutIdeal := hDwoutIdeal)
    ∧ quiescent_DwoutRefIdeal (hDwoutRefIdeal := hDwoutRefIdeal)
    ∧ quiescent_Dgated (hDgated := hDgated)
    ∧ quiescent_DgatedIdeal (hDgatedIdeal := hDgatedIdeal)
    ∧ quiescent_DgatedRefIdeal (hDgatedRefIdeal := hDgatedRefIdeal)
    ∧ quiescent_ScanDwin (hScanDwin := hScanDwin)
    ∧ quiescent_ScanDwinIdeal (hScanDwinIdeal := hScanDwinIdeal)
    ∧ quiescent_ScanDwinRefIdeal (hScanDwinRefIdeal := hScanDwinRefIdeal)
    ∧ quiescent_ScanDhn (hScanDhn := hScanDhn)
    ∧ quiescent_ScanDhnIdeal (hScanDhnIdeal := hScanDhnIdeal)
    ∧ quiescent_ScanDhnRefIdeal (hScanDhnRefIdeal := hScanDhnRefIdeal)
    ∧ quiescent_Dwglu (hDwglu := hDwglu)
    ∧ quiescent_DwgluIdeal (hDwgluIdeal := hDwgluIdeal)
    ∧ quiescent_DwgluRefIdeal (hDwgluRefIdeal := hDwgluRefIdeal)
    ∧ quiescent_Dglu (hDglu := hDglu)
    ∧ quiescent_DgluIdeal (hDgluIdeal := hDgluIdeal)
    ∧ quiescent_DgluRefIdeal (hDgluRefIdeal := hDgluRefIdeal)
    ∧ quiescent_In (hIn := hIn)
    ∧ quiescent_InIdeal (hInIdeal := hInIdeal)
    ∧ quiescent_InRefIdeal (hInRefIdeal := hInRefIdeal)
    ∧ quiescent_Out (hOut := hOut)
    ∧ quiescent_OutIdeal (hOutIdeal := hOutIdeal)
    ∧ quiescent_OutRefIdeal (hOutRefIdeal := hOutRefIdeal)
    ∧ quiescent_ScanIn (hScanIn := hScanIn)
    ∧ quiescent_ScanInIdeal (hScanInIdeal := hScanInIdeal)
    ∧ quiescent_ScanInRefIdeal (hScanInRefIdeal := hScanInRefIdeal)
    ∧ quiescent_Glu (hGlu := hGlu)
    ∧ quiescent_GluIdeal (hGluIdeal := hGluIdeal)
    ∧ quiescent_GluRefIdeal (hGluRefIdeal := hGluRefIdeal)
    ∧ quiescent_Scan (hScan := hScan)
    ∧ quiescent_ScanIdeal (hScanIdeal := hScanIdeal)
    ∧ quiescent_ScanRefIdeal (hScanRefIdeal := hScanRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dwin_DwinIdeal
    ∧ algebraic_DwinIdeal_DwinRefIdeal (hDwinIdeal := hDwinIdeal) (hDwinRefIdeal := hDwinRefIdeal)
    ∧ preserves_Dhn_DhnIdeal
    ∧ algebraic_DhnIdeal_DhnRefIdeal (hDhnIdeal := hDhnIdeal) (hDhnRefIdeal := hDhnRefIdeal)
    ∧ preserves_Dwout_DwoutIdeal
    ∧ algebraic_DwoutIdeal_DwoutRefIdeal (hDwoutIdeal := hDwoutIdeal) (hDwoutRefIdeal := hDwoutRefIdeal)
    ∧ preserves_Dgated_DgatedIdeal
    ∧ algebraic_DgatedIdeal_DgatedRefIdeal (hDgatedIdeal := hDgatedIdeal) (hDgatedRefIdeal := hDgatedRefIdeal)
    ∧ preserves_ScanDwin_ScanDwinIdeal
    ∧ algebraic_ScanDwinIdeal_ScanDwinRefIdeal (hScanDwinIdeal := hScanDwinIdeal) (hScanDwinRefIdeal := hScanDwinRefIdeal)
    ∧ preserves_ScanDhn_ScanDhnIdeal
    ∧ algebraic_ScanDhnIdeal_ScanDhnRefIdeal (hScanDhnIdeal := hScanDhnIdeal) (hScanDhnRefIdeal := hScanDhnRefIdeal)
    ∧ preserves_Dwglu_DwgluIdeal
    ∧ algebraic_DwgluIdeal_DwgluRefIdeal (hDwgluIdeal := hDwgluIdeal) (hDwgluRefIdeal := hDwgluRefIdeal)
    ∧ preserves_Dglu_DgluIdeal
    ∧ algebraic_DgluIdeal_DgluRefIdeal (hDgluIdeal := hDgluIdeal) (hDgluRefIdeal := hDgluRefIdeal)
    ∧ preserves_In_InIdeal
    ∧ algebraic_InIdeal_InRefIdeal (hInIdeal := hInIdeal) (hInRefIdeal := hInRefIdeal)
    ∧ preserves_Out_OutIdeal
    ∧ algebraic_OutIdeal_OutRefIdeal (hOutIdeal := hOutIdeal) (hOutRefIdeal := hOutRefIdeal)
    ∧ preserves_ScanIn_ScanInIdeal
    ∧ algebraic_ScanInIdeal_ScanInRefIdeal (hScanInIdeal := hScanInIdeal) (hScanInRefIdeal := hScanInRefIdeal)
    ∧ preserves_Glu_GluIdeal
    ∧ algebraic_GluIdeal_GluRefIdeal (hGluIdeal := hGluIdeal) (hGluRefIdeal := hGluRefIdeal)
    ∧ preserves_Scan_ScanIdeal
    ∧ algebraic_ScanIdeal_ScanRefIdeal (hScanIdeal := hScanIdeal) (hScanRefIdeal := hScanRefIdeal)
-- ==== Pre_finite.lean ====
abbrev S4096x16x192 : Shape := ⟨3, ![4096, 16, 192]⟩
abbrev S4096x16x256 : Shape := ⟨3, ![4096, 16, 256]⟩
abbrev S4096x64 : Shape := ⟨2, ![4096, 64]⟩
abbrev S4096x16x128 : Shape := ⟨3, ![4096, 16, 128]⟩
abbrev S_ : Shape := ⟨0, ![]⟩

class Facts : Prop where
  bcast_S_S4096x16x192 : S_.BroadcastsInDim S4096x16x192 (![] : Fin 0 → Fin S4096x16x192.rank)
  reducesTo_S4096x16x192_S_d0_1_2 : S4096x16x192.ReducesTo [0, 1, 2] S_
  h_S_ : 0 < S_.numel
  bcast_S_S4096x16x256 : S_.BroadcastsInDim S4096x16x256 (![] : Fin 0 → Fin S4096x16x256.rank)
  reducesTo_S4096x16x256_S_d0_1_2 : S4096x16x256.ReducesTo [0, 1, 2] S_
  bcast_S_S4096x64 : S_.BroadcastsInDim S4096x64 (![] : Fin 0 → Fin S4096x64.rank)
  reducesTo_S4096x64_S_d0_1 : S4096x64.ReducesTo [0, 1] S_
  bcast_S_S4096x16x128 : S_.BroadcastsInDim S4096x16x128 (![] : Fin 0 → Fin S4096x16x128.rank)
  reducesTo_S4096x16x128_S_d0_1_2 : S4096x16x128.ReducesTo [0, 1, 2] S_

variable [Facts]

def fn_part1 {F : FTy → Type} [FloatOps F] (main_v13 : IVec S_ 1) (main_v16 : IVec S4096x16x128 1) : IVec S_ 1 :=
  let main_c_5 : IVec S_ 1 := constantI S_ 1 1#1
  let main_v17 : IVec S_ 1 := (fun x v => Host.reduce IntOp.andi x v reducesTo_S4096x16x128_S_d0_1_2 h_S_) main_v16 main_c_5
  let main_v18 : IVec S_ 1 := andi main_v13 main_v17
  main_v18

def fn {F : FTy → Type} [FloatOps F] (main_arg0 : FVec F S4096x16x192 .f32) (main_arg1 : FVec F S4096x16x256 .f32) (main_arg2 : FVec F S4096x64 .f32) (main_arg3 : FVec F S4096x16x128 .f32) : IVec S_ 1 :=
  let main_v0 : FVec F S4096x16x192 .f32 := Host.absf main_arg0
  let main_cst : FVec F S_ .f32 := constant S_ .f32 0x7F800000#32
  let main_v1 : FVec F S4096x16x192 .f32 := broadcastInDim S4096x16x192 ![] bcast_S_S4096x16x192 main_cst
  let main_v2 : IVec S4096x16x192 1 := cmpf .olt main_v0 main_v1
  let main_c : IVec S_ 1 := constantI S_ 1 1#1
  let main_v3 : IVec S_ 1 := (fun x v => Host.reduce IntOp.andi x v reducesTo_S4096x16x192_S_d0_1_2 h_S_) main_v2 main_c
  let main_v4 : FVec F S4096x16x256 .f32 := Host.absf main_arg1
  let main_cst_0 : FVec F S_ .f32 := constant S_ .f32 0x7F800000#32
  let main_v5 : FVec F S4096x16x256 .f32 := broadcastInDim S4096x16x256 ![] bcast_S_S4096x16x256 main_cst_0
  let main_v6 : IVec S4096x16x256 1 := cmpf .olt main_v4 main_v5
  let main_c_1 : IVec S_ 1 := constantI S_ 1 1#1
  let main_v7 : IVec S_ 1 := (fun x v => Host.reduce IntOp.andi x v reducesTo_S4096x16x256_S_d0_1_2 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S4096x16x128 .f32 := Host.absf main_arg3
  let main_cst_4 : FVec F S_ .f32 := constant S_ .f32 0x7F800000#32
  let main_v15 : FVec F S4096x16x128 .f32 := broadcastInDim S4096x16x128 ![] bcast_S_S4096x16x128 main_cst_4
  let main_v16 : IVec S4096x16x128 1 := cmpf .olt main_v14 main_v15
  fn_part1 (F := F) main_v13 main_v16
-- ==== Kernel.lean ====
abbrev S4096x16x192 : Shape := ⟨3, ![4096, 16, 192]⟩
abbrev S4096x16x256 : Shape := ⟨3, ![4096, 16, 256]⟩
abbrev S4096x64 : Shape := ⟨2, ![4096, 64]⟩
abbrev S4096x16x128 : Shape := ⟨3, ![4096, 16, 128]⟩
abbrev S10 : Shape := ⟨1, ![10]⟩
abbrev S4096x16x64 : Shape := ⟨3, ![4096, 16, 64]⟩
abbrev S16x4096x4096 : Shape := ⟨3, ![16, 4096, 4096]⟩
abbrev S4096x4096x16 : Shape := ⟨3, ![4096, 4096, 16]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S16x4096x1 : Shape := ⟨3, ![16, 4096, 1]⟩
abbrev S16x128x4096 : Shape := ⟨3, ![16, 128, 4096]⟩
abbrev S16x4096x128 : Shape := ⟨3, ![16, 4096, 128]⟩
abbrev S4096x16 : Shape := ⟨2, ![4096, 16]⟩
abbrev S4096x16x1 : Shape := ⟨3, ![4096, 16, 1]⟩
abbrev S4096x2048 : Shape := ⟨2, ![4096, 2048]⟩
abbrev S4096x128 : Shape := ⟨2, ![4096, 128]⟩
abbrev S1024x256 : Shape := ⟨2, ![1024, 256]⟩
abbrev S1 : Shape := ⟨1, ![1]⟩
abbrev S1024x128 : Shape := ⟨2, ![1024, 128]⟩
abbrev S1x1024x128 : Shape := ⟨3, ![1, 1024, 128]⟩
abbrev S4096x256 : Shape := ⟨2, ![4096, 256]⟩
abbrev S256x256 : Shape := ⟨2, ![256, 256]⟩
abbrev S256x128 : Shape := ⟨2, ![256, 128]⟩
abbrev S256x1024 : Shape := ⟨2, ![256, 1024]⟩
abbrev S1x256x128 : Shape := ⟨3, ![1, 256, 128]⟩

abbrev nBuf : Space → Nat
  | .hbm => 65
  | .vmem => 19
  | .smem => 2
  | _ => 0

abbrev bufTy : (tb : Table) → Fin (tcTables nBuf tb) → BufTy
  | .hbm, ⟨0, _⟩ => ⟨S4096x16x192, .f32⟩
  | .hbm, ⟨1, _⟩ => ⟨S4096x16x256, .f32⟩
  | .hbm, ⟨2, _⟩ => ⟨S4096x64, .f32⟩
  | .hbm, ⟨3, _⟩ => ⟨S4096x16x128, .f32⟩
  | .hbm, ⟨4, _⟩ => ⟨S4096x16x128, .f32⟩
  | .hbm, ⟨5, _⟩ => ⟨S4096x16x64, .f32⟩
  | .hbm, ⟨6, _⟩ => ⟨S4096x16x128, .f32⟩
  | .hbm, ⟨7, _⟩ => ⟨S4096x16x128, .f32⟩
  | .hbm, ⟨8, _⟩ => ⟨S16x4096x4096, .f32⟩
  | .hbm, ⟨9, _⟩ => ⟨S4096x4096x16, .f32⟩
  | .hbm, ⟨10, _⟩ => ⟨S16x4096x4096, .f32⟩
  | .hbm, ⟨11, _⟩ => ⟨S16x4096x4096, .f32⟩
  | .hbm, ⟨12, _⟩ => ⟨S_, .f32⟩
  | .hbm, ⟨13, _⟩ => ⟨S_, .f32⟩
  | .hbm, ⟨14, _⟩ => ⟨S16x4096x4096, .f32⟩
  | .hbm, ⟨15, _⟩ => ⟨S16x4096x4096, .f32⟩
  | .hbm, ⟨16, _⟩ => ⟨S4096, .i32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S_, .f32⟩
  | .hbm, ⟨23, _⟩ => ⟨S_, .f32⟩
  | .hbm, ⟨24, _⟩ => ⟨S16x4096x4096, .i1⟩
  | .hbm, ⟨25, _⟩ => ⟨S16x4096x4096, .f32⟩
  | .hbm, ⟨26, _⟩ => ⟨S16x4096x4096, .f32⟩
  | .hbm, ⟨27, _⟩ => ⟨S_, .f32⟩
  | .hbm, ⟨28, _⟩ => ⟨S16x4096, .f32⟩
  | .hbm, ⟨29, _⟩ => ⟨S16x4096x1, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S_, .f32⟩
  | .hbm, ⟨34, _⟩ => ⟨S16x4096, .f32⟩
  | .hbm, ⟨35, _⟩ => ⟨S16x4096x1, .f32⟩
  | .hbm, ⟨36, _⟩ => ⟨S16x4096x4096, .f32⟩
  | .hbm, ⟨37, _⟩ => ⟨S16x4096x4096, .f32⟩
  | .hbm, ⟨38, _⟩ => ⟨S16x128x4096, .f32⟩
  | .hbm, ⟨39, _⟩ => ⟨S4096x16x128, .f32⟩
  | .hbm, ⟨40, _⟩ => ⟨S16x4096x1, .f32⟩
  | .hbm, ⟨41, _⟩ => ⟨S16x4096x1, .f32⟩
  | .hbm, ⟨42, _⟩ => ⟨S16x4096x128, .f32⟩
  | .hbm, ⟨43, _⟩ => ⟨S4096x16x128, .f32⟩
  | .hbm, ⟨44, _⟩ => ⟨S_, .f32⟩
  | .hbm, ⟨45, _⟩ => ⟨S4096x16, .f32⟩
  | .hbm, ⟨46, _⟩ => ⟨S4096x16x1, .f32⟩
  | .hbm, ⟨47, _⟩ => ⟨S4096x16x128, .f32⟩
  | .hbm, ⟨48, _⟩ => ⟨S4096x2048, .f32⟩
  | .hbm, ⟨49, _⟩ => ⟨S_, .i32⟩
  | .hbm, ⟨50, _⟩ => ⟨S_, .f32⟩
  | .hbm, ⟨51, _⟩ => ⟨S4096x16x256, .f32⟩
  | .hbm, ⟨52, _⟩ => ⟨S4096x4096, .f32⟩
  | .hbm, ⟨53, _⟩ => ⟨S_, .i32⟩
  | .hbm, ⟨54, _⟩ => ⟨S_, .f32⟩
  | .hbm, ⟨55, _⟩ => ⟨S4096x128, .f32⟩
  | .hbm, ⟨56, _⟩ => ⟨S4096x4096, .f32⟩
  | .hbm, ⟨57, _⟩ => ⟨S4096x4096, .bf16⟩
  | .hbm, ⟨58, _⟩ => ⟨S4096x4096, .bf16⟩
  | .hbm, ⟨59, _⟩ => ⟨S4096x128, .bf16⟩
  | .hbm, ⟨60, _⟩ => ⟨S4096x2048, .f32⟩
  | .hbm, ⟨61, _⟩ => ⟨S4096x2048, .bf16⟩
  | .hbm, ⟨62, _⟩ => ⟨S4096x4096, .f32⟩
  | .hbm, ⟨63, _⟩ => ⟨S4096x4096, .bf16⟩
  | .hbm, ⟨64, _⟩ => ⟨S4096x128, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1x1024x128, .f32⟩
  | .local _ .vmem, ⟨9, _⟩ => ⟨S1x1024x128, .f32⟩
  | .local _ .vmem, ⟨10, _⟩ => ⟨S1024x128, .f32⟩
  | .local _ .vmem, ⟨11, _⟩ => ⟨S1024x128, .f32⟩
  | .local _ .vmem, ⟨12, _⟩ => ⟨S4096x256, .f32⟩
  | .local _ .vmem, ⟨13, _⟩ => ⟨S4096x256, .f32⟩
  | .local _ .vmem, ⟨14, _⟩ => ⟨S1024x256, .bf16⟩
  | .local _ .vmem, ⟨15, _⟩ => ⟨S1024x256, .bf16⟩
  | .local _ .vmem, ⟨16, _⟩ => ⟨S4096x128, .f32⟩
  | .local _ .vmem, ⟨17, _⟩ => ⟨S1024x256, .f32⟩
  | .local _ .vmem, ⟨18, _⟩ => ⟨S1024x128, .f32⟩
  | .local _ .smem, ⟨0, _⟩ => ⟨S10, .i32⟩
  | .local _ .smem, ⟨1, _⟩ => ⟨S10, .i32⟩
  | _, _ => ⟨S4096x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_5 : Ref sig .tc := ⟨.hbm, 49, rfl⟩
abbrev main_call1_v0 : Ref sig .tc := ⟨.hbm, 50, rfl⟩
abbrev main_v37 : Ref sig .tc := ⟨.hbm, 51, rfl⟩
abbrev main_v38 : Ref sig .tc := ⟨.hbm, 52, rfl⟩
abbrev main_c_6 : Ref sig .tc := ⟨.hbm, 53, rfl⟩
abbrev main_call2_v0 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46_0 : Ref sig .tc := ⟨.hbm, 62, rfl⟩
abbrev main_v46_1 : Ref sig .tc := ⟨.hbm, 63, rfl⟩
abbrev main_v46_2 : Ref sig .tc := ⟨.hbm, 64, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨2, ![16, 10], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c1024_i32 : BitVec 32 := 1024#32
  let v68 : BitVec 32 := Scalar.muli v1 c1024_i32
  let c0_i32_35 : BitVec 32 := 0#32
  let v69 : BitVec 32 := Scalar.addi v68 c0_i32_35
  v69
def k0_cond4 (v1 : BitVec 32) (v3 : BitVec 32) : BitVec 1 :=
  let v15 : BitVec 1 := Scalar.cmpi .sgt v1 v3
  let v16 : BitVec 32 := Scalar.extui v15
  let c0_i32_5 : BitVec 32 := 0#32
  let v17 : BitVec 1 := Scalar.cmpi .ne v16 c0_i32_5
  v17

def k0_off2 (v1 : BitVec 32) (c0_i32_35 : BitVec 32) : Fin 2 → Nat :=
  let c1024_i32 : BitVec 32 := 1024#32
  let v68 : BitVec 32 := Scalar.muli v1 c1024_i32
  let v69 : BitVec 32 := Scalar.addi v68 c0_i32_35
  let v70 : BitVec 32 := v69
  let v71 : Index := Scalar.indexCast v70
  let c0_36 : Index := 0#32
  ![v71.toNat, 0]
def k0_mult2 (v1 : BitVec 32) : BitVec 32 :=
  let c1024_i32_61 : BitVec 32 := 1024#32
  let v113 : BitVec 32 := Scalar.muli v1 c1024_i32_61
  let c256_i32 : BitVec 32 := 256#32
  let v114 : BitVec 32 := Scalar.addi v113 c256_i32
  v114
def k0_mult3 (v1 : BitVec 32) : BitVec 32 :=
  let c1024_i32_87 : BitVec 32 := 1024#32
  let v158 : BitVec 32 := Scalar.muli v1 c1024_i32_87
  let c512_i32 : BitVec 32 := 512#32
  let v159 : BitVec 32 := Scalar.addi v158 c512_i32
  v159
def k0_mult4 (v1 : BitVec 32) : BitVec 32 :=
  let c1024_i32_113 : BitVec 32 := 1024#32
  let v203 : BitVec 32 := Scalar.muli v1 c1024_i32_113
  let c768_i32 : BitVec 32 := 768#32
  let v204 : BitVec 32 := Scalar.addi v203 c768_i32
  v204
def k0_mult5 (v1 : BitVec 32) : BitVec 32 :=
  let c1024_i32 : BitVec 32 := 1024#32
  let v75 : BitVec 32 := Scalar.muli v1 c1024_i32
  let c0_i32_37 : BitVec 32 := 0#32
  let v76 : BitVec 32 := Scalar.addi v75 c0_i32_37
  v76
def k0_cond5 (v1 : BitVec 32) (v3 : BitVec 32) : BitVec 1 :=
  let v18 : BitVec 1 := Scalar.cmpi .eq v1 v3
  let v19 : BitVec 32 := Scalar.extui v18
  let c0_i32_6 : BitVec 32 := 0#32
  let v20 : BitVec 1 := Scalar.cmpi .ne v19 c0_i32_6
  v20

def k0_off3 (v1 : BitVec 32) (c0_i32_37 : BitVec 32) : Fin 2 → Nat :=
  let c1024_i32 : BitVec 32 := 1024#32
  let v75 : BitVec 32 := Scalar.muli v1 c1024_i32
  let v76 : BitVec 32 := Scalar.addi v75 c0_i32_37
  let v77 : BitVec 32 := v76
  let v78 : Index := Scalar.indexCast v77
  let c0_38 : Index := 0#32
  ![v78.toNat, 0]
def k0_mult6 (v1 : BitVec 32) : BitVec 32 :=
  let c1024_i32_64 : BitVec 32 := 1024#32
  let v127 : BitVec 32 := Scalar.muli v1 c1024_i32_64
  let c256_i32_65 : BitVec 32 := 256#32
  let v128 : BitVec 32 := Scalar.addi v127 c256_i32_65
  v128
def k0_mult7 (v1 : BitVec 32) : BitVec 32 :=
  let c1024_i32_92 : BitVec 32 := 1024#32
  let v179 : BitVec 32 := Scalar.muli v1 c1024_i32_92
  let c512_i32_93 : BitVec 32 := 512#32
  let v180 : BitVec 32 := Scalar.addi v179 c512_i32_93
  v180
def k0_mult8 (v1 : BitVec 32) : BitVec 32 :=
  let c1024_i32_120 : BitVec 32 := 1024#32
  let v231 : BitVec 32 := Scalar.muli v1 c1024_i32_120
  let c768_i32_121 : BitVec 32 := 768#32
  let v232 : BitVec 32 := Scalar.addi v231 c768_i32_121
  v232
def k0_mult9 (v3 : BitVec 32) : BitVec 32 :=
  let c1024_i32 : BitVec 32 := 1024#32
  let v36 : BitVec 32 := Scalar.muli v3 c1024_i32
  v36
def k0_cond6 (v1 : BitVec 32) : BitVec 1 :=
  let c3_i32 : BitVec 32 := 3#32
  let v21 : BitVec 1 := Scalar.cmpi .eq v1 c3_i32
  let v22 : BitVec 32 := Scalar.extui v21
  let c0_i32_7 : BitVec 32 := 0#32
  let v23 : BitVec 1 := Scalar.cmpi .ne v22 c0_i32_7
  v23

def k0_off4 (v3 : BitVec 32) : Fin 2 → Nat :=
  let c1024_i32 : BitVec 32 := 1024#32
  let v36 : BitVec 32 := Scalar.muli v3 c1024_i32
  let v37 : BitVec 32 := v36
  let v38 : Index := Scalar.indexCast v37
  let c0_15 : Index := 0#32
  ![v38.toNat, 0]

def k0_chk1 (v1 : BitVec 32) (v3 : BitVec 32) : Prop :=
  (∀ (k0_h4 : k0_cond4 v1 v3 = 1#1), 256 ∣ (k0_mult1 v1).toNat) ∧
  (∀ (k0_h4 : k0_cond4 v1 v3 = 1#1), ∀ (r : Fin 4), ∀ a, (k0_off2 v1 (BitVec.ofNat 32 (256 * r.val))) a + S256x256.size a ≤ S4096x256.size a) ∧
  (∀ (k0_h4 : k0_cond4 v1 v3 = 1#1), 256 ∣ (k0_mult2 v1).toNat) ∧
  (∀ (k0_h4 : k0_cond4 v1 v3 = 1#1), 256 ∣ (k0_mult3 v1).toNat) ∧
  (∀ (k0_h4 : k0_cond4 v1 v3 = 1#1), 256 ∣ (k0_mult4 v1).toNat) ∧
  (∀ (k0_h5 : k0_cond5 v1 v3 = 1#1), 256 ∣ (k0_mult5 v1).toNat) ∧
  (∀ (k0_h5 : k0_cond5 v1 v3 = 1#1), ∀ (r : Fin 4), ∀ a, (k0_off3 v1 (BitVec.ofNat 32 (256 * r.val))) a + S256x256.size a ≤ S4096x256.size a) ∧
  (∀ (k0_h5 : k0_cond5 v1 v3 = 1#1), 256 ∣ (k0_mult6 v1).toNat) ∧
  (∀ (k0_h5 : k0_cond5 v1 v3 = 1#1), 256 ∣ (k0_mult7 v1).toNat) ∧
  (∀ (k0_h5 : k0_cond5 v1 v3 = 1#1), 256 ∣ (k0_mult8 v1).toNat) ∧
  (∀ (k0_h6 : k0_cond6 v1 = 1#1), 1024 ∣ (k0_mult9 v3).toNat) ∧
  (∀ (k0_h6 : k0_cond6 v1 = 1#1), ∀ a, (k0_off4 v3) a + S1024x128.size a ≤ S4096x128.size a)
theorem k0_mult1_dvd : ∀ (v1 : BitVec 32) (v3 : BitVec 32) (k0_hw1 : k0_chk1 v1 v3), ∀ (k0_h4 : k0_cond4 v1 v3 = 1#1), 256 ∣ (k0_mult1 v1).toNat := fun v1 v3 k0_hw1 k0_h4 => k0_hw1.1 k0_h4
theorem k0_off2_inb : ∀ (v1 : BitVec 32) (v3 : BitVec 32) (k0_hw1 : k0_chk1 v1 v3), ∀ (k0_h4 : k0_cond4 v1 v3 = 1#1), ∀ (r : Fin 4), ∀ a, (k0_off2 v1 (BitVec.ofNat 32 (256 * r.val))) a + S256x256.size a ≤ S4096x256.size a := fun v1 v3 k0_hw1 k0_h4 r => k0_hw1.2.1 k0_h4 r
theorem k0_mult2_dvd : ∀ (v1 : BitVec 32) (v3 : BitVec 32) (k0_hw1 : k0_chk1 v1 v3), ∀ (k0_h4 : k0_cond4 v1 v3 = 1#1), 256 ∣ (k0_mult2 v1).toNat := fun v1 v3 k0_hw1 k0_h4 => k0_hw1.2.2.1 k0_h4
theorem k0_mult3_dvd : ∀ (v1 : BitVec 32) (v3 : BitVec 32) (k0_hw1 : k0_chk1 v1 v3), ∀ (k0_h4 : k0_cond4 v1 v3 = 1#1), 256 ∣ (k0_mult3 v1).toNat := fun v1 v3 k0_hw1 k0_h4 => k0_hw1.2.2.2.1 k0_h4
theorem k0_mult4_dvd : ∀ (v1 : BitVec 32) (v3 : BitVec 32) (k0_hw1 : k0_chk1 v1 v3), ∀ (k0_h4 : k0_cond4 v1 v3 = 1#1), 256 ∣ (k0_mult4 v1).toNat := fun v1 v3 k0_hw1 k0_h4 => k0_hw1.2.2.2.2.1 k0_h4
theorem k0_mult5_dvd : ∀ (v1 : BitVec 32) (v3 : BitVec 32) (k0_hw1 : k0_chk1 v1 v3), ∀ (k0_h5 : k0_cond5 v1 v3 = 1#1), 256 ∣ (k0_mult5 v1).toNat := fun v1 v3 k0_hw1 k0_h5 => k0_hw1.2.2.2.2.2.1 k0_h5
theorem k0_off3_inb : ∀ (v1 : BitVec 32) (v3 : BitVec 32) (k0_hw1 : k0_chk1 v1 v3), ∀ (k0_h5 : k0_cond5 v1 v3 = 1#1), ∀ (r : Fin 4), ∀ a, (k0_off3 v1 (BitVec.ofNat 32 (256 * r.val))) a + S256x256.size a ≤ S4096x256.size a := fun v1 v3 k0_hw1 k0_h5 r => k0_hw1.2.2.2.2.2.2.1 k0_h5 r
theorem k0_mult6_dvd : ∀ (v1 : BitVec 32) (v3 : BitVec 32) (k0_hw1 : k0_chk1 v1 v3), ∀ (k0_h5 : k0_cond5 v1 v3 = 1#1), 256 ∣ (k0_mult6 v1).toNat := fun v1 v3 k0_hw1 k0_h5 => k0_hw1.2.2.2.2.2.2.2.1 k0_h5
theorem k0_mult7_dvd : ∀ (v1 : BitVec 32) (v3 : BitVec 32) (k0_hw1 : k0_chk1 v1 v3), ∀ (k0_h5 : k0_cond5 v1 v3 = 1#1), 256 ∣ (k0_mult7 v1).toNat := fun v1 v3 k0_hw1 k0_h5 => k0_hw1.2.2.2.2.2.2.2.2.1 k0_h5
theorem k0_mult8_dvd : ∀ (v1 : BitVec 32) (v3 : BitVec 32) (k0_hw1 : k0_chk1 v1 v3), ∀ (k0_h5 : k0_cond5 v1 v3 = 1#1), 256 ∣ (k0_mult8 v1).toNat := fun v1 v3 k0_hw1 k0_h5 => k0_hw1.2.2.2.2.2.2.2.2.2.1 k0_h5
theorem k0_mult9_dvd : ∀ (v1 : BitVec 32) (v3 : BitVec 32) (k0_hw1 : k0_chk1 v1 v3), ∀ (k0_h6 : k0_cond6 v1 = 1#1), 1024 ∣ (k0_mult9 v3).toNat := fun v1 v3 k0_hw1 k0_h6 => k0_hw1.2.2.2.2.2.2.2.2.2.2.1 k0_h6
theorem k0_off4_inb : ∀ (v1 : BitVec 32) (v3 : BitVec 32) (k0_hw1 : k0_chk1 v1 v3), ∀ (k0_h6 : k0_cond6 v1 = 1#1), ∀ a, (k0_off4 v3) a + S1024x128.size a ≤ S4096x128.size a := fun v1 v3 k0_hw1 k0_h6 => k0_hw1.2.2.2.2.2.2.2.2.2.2.2 k0_h6

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond7 (i : grid0.Coords) : BitVec 1 :=
  let arg1 : BitVec 32 := BitVec.ofNat 32 (i 1).val
  let c9_i32 : BitVec 32 := 9#32
  let v24 : BitVec 1 := Scalar.cmpi .eq arg1 c9_i32
  let v25 : BitVec 32 := Scalar.extui v24
  let c0_i32_8 : BitVec 32 := 0#32
  let v26 : BitVec 1 := Scalar.cmpi .ne v25 c0_i32_8
  v26

def k0_cond2 (i : grid0.Coords) : BitVec 1 :=
  let arg1 : BitVec 32 := BitVec.ofNat 32 (i 1).val
  let c0_i32_1 : BitVec 32 := 0#32
  let v7 : BitVec 1 := Scalar.cmpi .eq arg1 c0_i32_1
  let arg0 : BitVec 32 := BitVec.ofNat 32 (i 0).val
  let c0_i32_2 : BitVec 32 := 0#32
  let v8 : BitVec 1 := Scalar.cmpi .eq arg0 c0_i32_2
  let v9 : BitVec 1 := Scalar.andi v7 v8
  let v10 : BitVec 32 := Scalar.extui v9
  let c0_i32_3 : BitVec 32 := 0#32
  let v11 : BitVec 1 := Scalar.cmpi .ne v10 c0_i32_3
  v11

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![v1.toNat, c0_i32.toNat]

def cc0_transform_3 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_5 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== KernelIdeal.lean ====
variable {F : FTy → Type} [FloatOps F] [Named F]
def κ : String → Option EReal := fun
  | "log2e" => some (((Real.log 2)⁻¹ : ℝ) : EReal)
  | "mask" => some ⊥
  | "scale" => some (((Real.sqrt 192)⁻¹ : ℝ) : EReal)
  | "score_log2" => some (((Real.sqrt 192)⁻¹ * (Real.log 2)⁻¹ : ℝ) : EReal)
  | _ => none
-- ==== ReferenceIdeal.lean ====
abbrev S4096x16x192 : Shape := ⟨3, ![4096, 16, 192]⟩
abbrev S4096x16x256 : Shape := ⟨3, ![4096, 16, 256]⟩
abbrev S4096x64 : Shape := ⟨2, ![4096, 64]⟩
abbrev S4096x16x128 : Shape := ⟨3, ![4096, 16, 128]⟩
abbrev S4096x16x64 : Shape := ⟨3, ![4096, 16, 64]⟩
abbrev S16x4096x4096 : Shape := ⟨3, ![16, 4096, 4096]⟩
abbrev S4096x4096x16 : Shape := ⟨3, ![4096, 4096, 16]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S16x4096x1 : Shape := ⟨3, ![16, 4096, 1]⟩
abbrev S16x128x4096 : Shape := ⟨3, ![16, 128, 4096]⟩
abbrev S16x4096x128 : Shape := ⟨3, ![16, 4096, 128]⟩
abbrev S4096x128 : Shape := ⟨2, ![4096, 128]⟩

abbrev nBuf : Space → Nat
  | .hbm => 118
  | .vmem => 0
  | .smem => 0
  | _ => 0

abbrev bufTy : (tb : Table) → Fin (tcTables nBuf tb) → BufTy
  | .hbm, ⟨0, _⟩ => ⟨S4096x16x192, .f32⟩
  | .hbm, ⟨1, _⟩ => ⟨S4096x16x256, .f32⟩
  | .hbm, ⟨2, _⟩ => ⟨S4096x64, .f32⟩
  | .hbm, ⟨3, _⟩ => ⟨S4096x16x128, .f32⟩
  | .hbm, ⟨4, _⟩ => ⟨S4096x16x128, .f32⟩
  | .hbm, ⟨5, _⟩ => ⟨S4096x16x64, .f32⟩
  | .hbm, ⟨6, _⟩ => ⟨S4096x16x128, .f32⟩
  | .hbm, ⟨7, _⟩ => ⟨S4096x16x128, .f32⟩
  | .hbm, ⟨8, _⟩ => ⟨S16x4096x4096, .f32⟩
  | .hbm, ⟨9, _⟩ => ⟨S4096x4096x16, .f32⟩
  | .hbm, ⟨10, _⟩ => ⟨S16x4096x4096, .f32⟩
  | .hbm, ⟨11, _⟩ => ⟨S16x4096x4096, .f32⟩
  | .hbm, ⟨12, _⟩ => ⟨S_, .f32⟩
  | .hbm, ⟨13, _⟩ => ⟨S_, .f32⟩
  | .hbm, ⟨14, _⟩ => ⟨S16x4096x4096, .f32⟩
  | .hbm, ⟨15, _⟩ => ⟨S16x4096x4096, .f32⟩
  | .hbm, ⟨16, _⟩ => ⟨S4096, .i32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S_, .f32⟩
  | .hbm, ⟨23, _⟩ => ⟨S_, .f32⟩
  | .hbm, ⟨24, _⟩ => ⟨S16x4096x4096, .i1⟩
  | .hbm, ⟨25, _⟩ => ⟨S16x4096x4096, .f32⟩
  | .hbm, ⟨26, _⟩ => ⟨S16x4096x4096, .f32⟩
  | .hbm, ⟨27, _⟩ => ⟨S_, .f32⟩
  | .hbm, ⟨28, _⟩ => ⟨S16x4096x4096, .f32⟩
  | .hbm, ⟨29, _⟩ => ⟨S_, .f32⟩
  | .hbm, ⟨30, _⟩ => ⟨S16x4096, .f32⟩
  | .hbm, ⟨31, _⟩ => ⟨S16x4096x1, .f32⟩
  | .hbm, ⟨32, _⟩ => ⟨S16x4096x4096, .f32⟩
  | .hbm, ⟨33, _⟩ => ⟨S16x4096x4096, .i1⟩
  | .hbm, ⟨34, _⟩ => ⟨S16x4096x4096, .f32⟩
  | .hbm, ⟨35, _⟩ => ⟨S_, .f32⟩
  | .hbm, ⟨36, _⟩ => ⟨S16x4096, .f32⟩
  | .hbm, ⟨37, _⟩ => ⟨S_, .f32⟩
  | .hbm, ⟨38, _⟩ => ⟨S16x4096, .f32⟩
  | .hbm, ⟨39, _⟩ => ⟨S16x4096, .f32⟩
  | .hbm, ⟨40, _⟩ => ⟨S_, .f32⟩
  | .hbm, ⟨41, _⟩ => ⟨S16x4096, .f32⟩
  | .hbm, ⟨42, _⟩ => ⟨S16x4096, .i1⟩
  | .hbm, ⟨43, _⟩ => ⟨S_, .f32⟩
  | .hbm, ⟨44, _⟩ => ⟨S16x4096, .f32⟩
  | .hbm, ⟨45, _⟩ => ⟨S16x4096, .i1⟩
  | .hbm, ⟨46, _⟩ => ⟨S_, .f32⟩
  | .hbm, ⟨47, _⟩ => ⟨S16x4096, .f32⟩
  | .hbm, ⟨48, _⟩ => ⟨S_, .f32⟩
  | .hbm, ⟨49, _⟩ => ⟨S16x4096, .f32⟩
  | .hbm, ⟨50, _⟩ => ⟨S_, .f32⟩
  | .hbm, ⟨51, _⟩ => ⟨S16x4096, .f32⟩
  | .hbm, ⟨52, _⟩ => ⟨S16x4096, .f32⟩
  | .hbm, ⟨53, _⟩ => ⟨S16x4096, .f32⟩
  | .hbm, ⟨54, _⟩ => ⟨S16x4096x1, .f32⟩
  | .hbm, ⟨55, _⟩ => ⟨S16x4096x4096, .f32⟩
  | .hbm, ⟨56, _⟩ => ⟨S16x4096x4096, .f32⟩
  | .hbm, ⟨57, _⟩ => ⟨S16x4096x4096, .f32⟩
  | .hbm, ⟨58, _⟩ => ⟨S_, .f32⟩
  | .hbm, ⟨59, _⟩ => ⟨S16x4096, .f32⟩
  | .hbm, ⟨60, _⟩ => ⟨S16x4096x1, .f32⟩
  | .hbm, ⟨61, _⟩ => ⟨S16x4096x4096, .f32⟩
  | .hbm, ⟨62, _⟩ => ⟨S16x4096x4096, .f32⟩
  | .hbm, ⟨63, _⟩ => ⟨S16x4096x1, .f32⟩
  | .hbm, ⟨64, _⟩ => ⟨S_, .f32⟩
  | .hbm, ⟨65, _⟩ => ⟨S16x4096x1, .f32⟩
  | .hbm, ⟨66, _⟩ => ⟨S16x4096x1, .f32⟩
  | .hbm, ⟨67, _⟩ => ⟨S16x128x4096, .f32⟩
  | .hbm, ⟨68, _⟩ => ⟨S4096x16x128, .f32⟩
  | .hbm, ⟨69, _⟩ => ⟨S16x128x4096, .f32⟩
  | .hbm, ⟨70, _⟩ => ⟨S16x4096x4096, .f32⟩
  | .hbm, ⟨71, _⟩ => ⟨S16x128x4096, .f32⟩
  | .hbm, ⟨72, _⟩ => ⟨S4096x16x128, .f32⟩
  | .hbm, ⟨73, _⟩ => ⟨S16x4096x4096, .f32⟩
  | .hbm, ⟨74, _⟩ => ⟨S16x4096x4096, .f32⟩
  | .hbm, ⟨75, _⟩ => ⟨S16x4096x4096, .f32⟩
  | .hbm, ⟨76, _⟩ => ⟨S_, .f32⟩
  | .hbm, ⟨77, _⟩ => ⟨S16x4096, .f32⟩
  | .hbm, ⟨78, _⟩ => ⟨S16x4096x1, .f32⟩
  | .hbm, ⟨79, _⟩ => ⟨S16x4096x1, .f32⟩
  | .hbm, ⟨80, _⟩ => ⟨S16x4096x4096, .f32⟩
  | .hbm, ⟨81, _⟩ => ⟨S16x4096x4096, .f32⟩
  | .hbm, ⟨82, _⟩ => ⟨S_, .f32⟩
  | .hbm, ⟨83, _⟩ => ⟨S16x4096, .f32⟩
  | .hbm, ⟨84, _⟩ => ⟨S16x4096x4096, .f32⟩
  | .hbm, ⟨85, _⟩ => ⟨S16x4096x4096, .f32⟩
  | .hbm, ⟨86, _⟩ => ⟨S16x4096x4096, .f32⟩
  | .hbm, ⟨87, _⟩ => ⟨S_, .f32⟩
  | .hbm, ⟨88, _⟩ => ⟨S16x4096x4096, .f32⟩
  | .hbm, ⟨89, _⟩ => ⟨S16x4096x4096, .f32⟩
  | .hbm, ⟨90, _⟩ => ⟨S16x4096x4096, .f32⟩
  | .hbm, ⟨91, _⟩ => ⟨S16x4096x4096, .f32⟩
  | .hbm, ⟨92, _⟩ => ⟨S4096x4096x16, .f32⟩
  | .hbm, ⟨93, _⟩ => ⟨S4096x16x64, .f32⟩
  | .hbm, ⟨94, _⟩ => ⟨S4096x64, .f32⟩
  | .hbm, ⟨95, _⟩ => ⟨S16x4096x128, .f32⟩
  | .hbm, ⟨96, _⟩ => ⟨S4096x16x128, .f32⟩
  | .hbm, ⟨97, _⟩ => ⟨S16x4096x128, .f32⟩
  | .hbm, ⟨98, _⟩ => ⟨S4096x16x128, .f32⟩
  | .hbm, ⟨99, _⟩ => ⟨S_, .f32⟩
  | .hbm, ⟨100, _⟩ => ⟨S4096x16x256, .f32⟩
  | .hbm, ⟨101, _⟩ => ⟨S_, .f32⟩
  | .hbm, ⟨102, _⟩ => ⟨S4096x16x256, .f32⟩
  | .hbm, ⟨103, _⟩ => ⟨S4096x16x256, .f32⟩
  | .hbm, ⟨104, _⟩ => ⟨S_, .f32⟩
  | .hbm, ⟨105, _⟩ => ⟨S4096x16x192, .f32⟩
  | .hbm, ⟨106, _⟩ => ⟨S_, .f32⟩
  | .hbm, ⟨107, _⟩ => ⟨S4096x16x192, .f32⟩
  | .hbm, ⟨108, _⟩ => ⟨S4096x16x192, .f32⟩
  | .hbm, ⟨109, _⟩ => ⟨S_, .i32⟩
  | .hbm, ⟨110, _⟩ => ⟨S_, .f32⟩
  | .hbm, ⟨111, _⟩ => ⟨S4096x16x256, .f32⟩
  | .hbm, ⟨112, _⟩ => ⟨S4096x4096, .f32⟩
  | .hbm, ⟨113, _⟩ => ⟨S4096x4096, .f32⟩
  | .hbm, ⟨114, _⟩ => ⟨S4096x4096, .bf16⟩
  | .hbm, ⟨115, _⟩ => ⟨S_, .i32⟩
  | .hbm, ⟨116, _⟩ => ⟨S_, .f32⟩
  | .hbm, ⟨117, _⟩ => ⟨S4096x128, .f32⟩
  | _, _ => ⟨S4096x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_v17_1 : Ref sig .tc := ⟨.hbm, 24, rfl⟩
abbrev main_call0_v2 : Ref sig .tc := ⟨.hbm, 25, rfl⟩
abbrev main_v17_0 : Ref sig .tc := ⟨.hbm, 26, rfl⟩
abbrev main_call0_cst : Ref sig .tc := ⟨.hbm, 27, rfl⟩
abbrev main_v17_2 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call1_cst : Ref sig .tc := ⟨.hbm, 87, rfl⟩
abbrev main_call1_v0 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_13 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_cst_15 : Ref sig .tc := ⟨.hbm, 104, rfl⟩
abbrev main_v77 : Ref sig .tc := ⟨.hbm, 105, rfl⟩
abbrev main_cst_16 : Ref sig .tc := ⟨.hbm, 106, rfl⟩
abbrev main_v78 : Ref sig .tc := ⟨.hbm, 107, rfl⟩
abbrev main_v79 : Ref sig .tc := ⟨.hbm, 108, rfl⟩
abbrev main_c : Ref sig .tc := ⟨.hbm, 109, rfl⟩
abbrev main_call2_v0 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_c_17 : Ref sig .tc := ⟨.hbm, 115, rfl⟩
abbrev main_call3_v0 : Ref sig .tc := ⟨.hbm, 116, rfl⟩
abbrev main_v84 : Ref sig .tc := ⟨.hbm, 117, rfl⟩

abbrev nD : Nat := 1
abbrev τ : Topo := Topo.v7x

variable {F : FTy → Type} [FloatOps F]
-- ==== Dwin.lean ====
abbrev S4096x1024 : Shape := ⟨2, ![4096, 1024]⟩
abbrev S4096x6144 : Shape := ⟨2, ![4096, 6144]⟩
abbrev S1024x6144 : Shape := ⟨2, ![1024, 6144]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x6144, .f32⟩
  | .hbm, ⟨2, _⟩ => ⟨S4096x1024, .bf16⟩
  | .hbm, ⟨3, _⟩ => ⟨S4096x6144, .bf16⟩
  | .hbm, ⟨4, _⟩ => ⟨S1024x6144, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinRefIdeal.lean ====
abbrev S4096x1024 : Shape := ⟨2, ![4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6144, .f32⟩
  | .hbm, ⟨2, _⟩ => ⟨S_, .f32⟩
  | .hbm, ⟨3, _⟩ => ⟨S1024x6144, .f32⟩
  | .hbm, ⟨4, _⟩ => ⟨S4096x6144, .f32⟩
  | .hbm, ⟨5, _⟩ => ⟨S6144x1024, .f32⟩
  | .hbm, ⟨6, _⟩ => ⟨S1024x6144, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dhn.lean ====
abbrev S4096x6144 : Shape := ⟨2, ![4096, 6144]⟩
abbrev S1024x6144 : Shape := ⟨2, ![1024, 6144]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x6144, .f32⟩
  | .hbm, ⟨1, _⟩ => ⟨S1024x6144, .f32⟩
  | .hbm, ⟨2, _⟩ => ⟨S4096x6144, .bf16⟩
  | .hbm, ⟨3, _⟩ => ⟨S1024x6144, .bf16⟩
  | .hbm, ⟨4, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhnRefIdeal.lean ====
abbrev S4096x6144 : Shape := ⟨2, ![4096, 6144]⟩
abbrev S1024x6144 : Shape := ⟨2, ![1024, 6144]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S1024x6144, .f32⟩
  | .hbm, ⟨2, _⟩ => ⟨S_, .f32⟩
  | .hbm, ⟨3, _⟩ => ⟨S4096x1024, .f32⟩
  | .hbm, ⟨4, _⟩ => ⟨S4096x6144, .f32⟩
  | .hbm, ⟨5, _⟩ => ⟨S4096x1024, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dwout.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x2048, .bf16⟩
  | .hbm, ⟨3, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoutRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x1024, .f32⟩
  | .hbm, ⟨5, _⟩ => ⟨S1024x2048, .f32⟩
  | .hbm, ⟨6, _⟩ => ⟨S2048x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dgated.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S2048x1024, .bf16⟩
  | .hbm, ⟨3, _⟩ => ⟨S4096x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DgatedRefIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S_, .f32⟩
  | .hbm, ⟨3, _⟩ => ⟨S4096x2048, .f32⟩
  | .hbm, ⟨4, _⟩ => ⟨S4096x1024, .f32⟩
  | .hbm, ⟨5, _⟩ => ⟨S4096x2048, .f32⟩
  | .hbm, ⟨6, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ScanDwin.lean ====
abbrev S4096x1024 : Shape := ⟨2, ![4096, 1024]⟩
abbrev S4096x4096 : Shape := ⟨2, ![4096, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScanDwinRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ScanDhn.lean ====
abbrev S4096x4096 : Shape := ⟨2, ![4096, 4096]⟩
abbrev S1024x4096 : Shape := ⟨2, ![1024, 4096]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x4096, .bf16⟩
  | .hbm, ⟨3, _⟩ => ⟨S1024x4096, .bf16⟩
  | .hbm, ⟨4, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScanDhnRefIdeal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dwglu.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwgluRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dglu.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S4096x2048, .bf16⟩
  | .hbm, ⟨4, _⟩ => ⟨S2048x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DgluRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== In.lean ====
abbrev S4096x1024 : Shape := ⟨2, ![4096, 1024]⟩
abbrev S1024x6144 : Shape := ⟨2, ![1024, 6144]⟩
abbrev S4096x6144 : Shape := ⟨2, ![4096, 6144]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x6144, .f32⟩
  | .hbm, ⟨2, _⟩ => ⟨S4096x1024, .bf16⟩
  | .hbm, ⟨3, _⟩ => ⟨S1024x6144, .bf16⟩
  | .hbm, ⟨4, _⟩ => ⟨S4096x6144, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S4096x1024 : Shape := ⟨2, ![4096, 1024]⟩
abbrev S1024x6144 : Shape := ⟨2, ![1024, 6144]⟩
abbrev S4096x6144 : Shape := ⟨2, ![4096, 6144]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6144, .f32⟩
  | .hbm, ⟨2, _⟩ => ⟨S4096x6144, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Out.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x2048, .bf16⟩
  | .hbm, ⟨4, _⟩ => ⟨S2048x1024, .bf16⟩
  | .hbm, ⟨5, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== ScanIn.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .bf16⟩
  | .hbm, ⟨3, _⟩ => ⟨S1024x4096, .bf16⟩
  | .hbm, ⟨4, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScanInRefIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Glu.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluRefIdeal.lean ====
abbrev S4096x2048 : Shape := ⟨2, ![4096, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Scan.lean ====
abbrev S256x128x128 : Shape := ⟨3, ![256, 128, 128]⟩
abbrev S128x64 : Shape := ⟨2, ![128, 64]⟩
abbrev S128x128 : Shape := ⟨2, ![128, 128]⟩
abbrev S256x64x128 : Shape := ⟨3, ![256, 64, 128]⟩
abbrev S64x128 : Shape := ⟨2, ![64, 128]⟩
abbrev S1x64x128 : Shape := ⟨3, ![1, 64, 128]⟩

abbrev nBuf : Space → Nat
  | .hbm => 10
  | .vmem => 14
  | .smem => 0
  | _ => 0

abbrev bufTy : (tb : Table) → Fin (tcTables nBuf tb) → BufTy
  | .hbm, ⟨0, _⟩ => ⟨S256x128x128, .f32⟩
  | .hbm, ⟨1, _⟩ => ⟨S256x128x128, .f32⟩
  | .hbm, ⟨2, _⟩ => ⟨S128x64, .f32⟩
  | .hbm, ⟨3, _⟩ => ⟨S128x64, .f32⟩
  | .hbm, ⟨4, _⟩ => ⟨S128x128, .f32⟩
  | .hbm, ⟨5, _⟩ => ⟨S128x64, .f32⟩
  | .hbm, ⟨6, _⟩ => ⟨S128x128, .f32⟩
  | .hbm, ⟨7, _⟩ => ⟨S256x128x128, .f32⟩
  | .hbm, ⟨8, _⟩ => ⟨S128x128, .f32⟩
  | .hbm, ⟨9, _⟩ => ⟨S128x128, .f32⟩
  | .local _ .vmem, ⟨0, _⟩ => ⟨S256x64x128, .f32⟩
  | .local _ .vmem, ⟨1, _⟩ => ⟨S256x64x128, .f32⟩
  | .local _ .vmem, ⟨2, _⟩ => ⟨S256x64x128, .f32⟩
  | .local _ .vmem, ⟨3, _⟩ => ⟨S256x64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S256x64x128, .f32⟩
  | .local _ .vmem, ⟨9, _⟩ => ⟨S256x64x128, .f32⟩
  | .local _ .vmem, ⟨10, _⟩ => ⟨S64x128, .f32⟩
  | .local _ .vmem, ⟨11, _⟩ => ⟨S64x128, .f32⟩
  | .local _ .vmem, ⟨12, _⟩ => ⟨S64x128, .f32⟩
  | .local _ .vmem, ⟨13, _⟩ => ⟨S64x128, .f32⟩
  | _, _ => ⟨S256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c255_i32 : BitVec 32 := 255#32
  let v9 : BitVec 32 := Scalar.addi c0_i32 c255_i32
  let c1_i32 : BitVec 32 := 1#32
  ⟨c0_i32, v9, c1_i32⟩
def k0_off1 (k0_t1 : Fin k0_t1_loop.trips) : Fin 3 → Nat :=
  let c254_i32 : BitVec 32 := 254#32
  let c0_i32 : BitVec 32 := 0#32
  let c1_i32 : BitVec 32 := 1#32
  let arg8 : BitVec 32 := Scf.iv c0_i32 c1_i32 k0_t1
  let v13 : BitVec 32 := Scalar.subi c254_i32 arg8
  let c1_i32_10 : BitVec 32 := 1#32
  let v14 : BitVec 32 := Scalar.addi v13 c1_i32_10
  let v15 : Index := Scalar.indexCast v14
  let c0_11 : Index := 0#32
  let c0_12 : Index := 0#32
  ![v15.toNat, 0, 0]
def k0_off2 (k0_t1 : Fin k0_t1_loop.trips) : Fin 3 → Nat :=
  let c254_i32 : BitVec 32 := 254#32
  let c0_i32 : BitVec 32 := 0#32
  let c1_i32 : BitVec 32 := 1#32
  let arg8 : BitVec 32 := Scf.iv c0_i32 c1_i32 k0_t1
  let v13 : BitVec 32 := Scalar.subi c254_i32 arg8
  let v31 : Index := Scalar.indexCast v13
  let c0_17 : Index := 0#32
  let c0_18 : Index := 0#32
  ![v31.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ScanRefIdeal.lean ====
abbrev S256x128x128 : Shape := ⟨3, ![256, 128, 128]⟩
abbrev S128x64 : Shape := ⟨2, ![128, 64]⟩
abbrev S128x128 : Shape := ⟨2, ![128, 128]⟩
abbrev S_ : Shape := ⟨0, ![]⟩
abbrev S1x128x128 : Shape := ⟨3, ![1, 128, 128]⟩
abbrev S255x128x128 : Shape := ⟨3, ![255, 128, 128]⟩
abbrev S255x128x64 : Shape := ⟨3, ![255, 128, 64]⟩

abbrev nBuf : Space → Nat
  | .hbm => 64
  | .vmem => 0
  | .smem => 0
  | _ => 0

abbrev bufTy : (tb : Table) → Fin (tcTables nBuf tb) → BufTy
  | .hbm, ⟨0, _⟩ => ⟨S256x128x128, .f32⟩
  | .hbm, ⟨1, _⟩ => ⟨S256x128x128, .f32⟩
  | .hbm, ⟨2, _⟩ => ⟨S128x64, .f32⟩
  | .hbm, ⟨3, _⟩ => ⟨S128x64, .f32⟩
  | .hbm, ⟨4, _⟩ => ⟨S128x128, .f32⟩
  | .hbm, ⟨5, _⟩ => ⟨S128x64, .f32⟩
  | .hbm, ⟨6, _⟩ => ⟨S128x128, .f32⟩
  | .hbm, ⟨7, _⟩ => ⟨S_, .f32⟩
  | .hbm, ⟨8, _⟩ => ⟨S128x128, .f32⟩
  | .hbm, ⟨9, _⟩ => ⟨S_, .f32⟩
  | .hbm, ⟨10, _⟩ => ⟨S128x128, .f32⟩
  | .hbm, ⟨11, _⟩ => ⟨S_, .f32⟩
  | .hbm, ⟨12, _⟩ => ⟨S256x128x128, .f32⟩
  | .hbm, ⟨13, _⟩ => ⟨S_, .i32⟩
  | .hbm, ⟨14, _⟩ => ⟨S256x128x128, .f32⟩
  | .hbm, ⟨15, _⟩ => ⟨S128x128, .f32⟩
  | .hbm, ⟨16, _⟩ => ⟨S128x128, .f32⟩
  | .hbm, ⟨17, _⟩ => ⟨S_, .i32⟩
  | .hbm, ⟨18, _⟩ => ⟨S128x128, .f32⟩
  | .hbm, ⟨19, _⟩ => ⟨S256x128x128, .f32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1x128x128, .f32⟩
  | .hbm, ⟨29, _⟩ => ⟨S128x128, .f32⟩
  | .hbm, ⟨30, _⟩ => ⟨S128x128, .f32⟩
  | .hbm, ⟨31, _⟩ => ⟨S128x64, .f32⟩
  | .hbm, ⟨32, _⟩ => ⟨S128x64, .f32⟩
  | .hbm, ⟨33, _⟩ => ⟨S_, .f32⟩
  | .hbm, ⟨34, _⟩ => ⟨S128x128, .f32⟩
  | .hbm, ⟨35, _⟩ => ⟨S128x128, .f32⟩
  | .hbm, ⟨36, _⟩ => ⟨S_, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S128x128, .f32⟩
  | .hbm, ⟨41, _⟩ => ⟨S1x128x128, .f32⟩
  | .hbm, ⟨42, _⟩ => ⟨S_, .i32⟩
  | .hbm, ⟨43, _⟩ => ⟨S_, .i32⟩
  | .hbm, ⟨44, _⟩ => ⟨S256x128x128, .f32⟩
  | .hbm, ⟨45, _⟩ => ⟨S_, .i32⟩
  | .hbm, ⟨46, _⟩ => ⟨S_, .i32⟩
  | .hbm, ⟨47, _⟩ => ⟨S255x128x128, .f32⟩
  | .hbm, ⟨48, _⟩ => ⟨S255x128x64, .f32⟩
  | .hbm, ⟨49, _⟩ => ⟨S255x128x64, .f32⟩
  | .hbm, ⟨50, _⟩ => ⟨S255x128x128, .f32⟩
  | .hbm, ⟨51, _⟩ => ⟨S255x128x128, .f32⟩
  | .hbm, ⟨52, _⟩ => ⟨S255x128x128, .f32⟩
  | .hbm, ⟨53, _⟩ => ⟨S_, .f32⟩
  | .hbm, ⟨54, _⟩ => ⟨S128x128, .f32⟩
  | .hbm, ⟨55, _⟩ => ⟨S1x128x128, .f32⟩
  | .hbm, ⟨56, _⟩ => ⟨S_, .f32⟩
  | .hbm, ⟨57, _⟩ => ⟨S128x128, .f32⟩
  | .hbm, ⟨58, _⟩ => ⟨S255x128x128, .f32⟩
  | .hbm, ⟨59, _⟩ => ⟨S_, .f32⟩
  | .hbm, ⟨60, _⟩ => ⟨S128x128, .f32⟩
  | .hbm, ⟨61, _⟩ => ⟨S1x128x128, .f32⟩
  | .hbm, ⟨62, _⟩ => ⟨S_, .f32⟩
  | .hbm, ⟨63, _⟩ => ⟨S128x128, .f32⟩
  | _, _ => ⟨S256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_c : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_while0c_c_11 : Ref sig .tc := ⟨.hbm, 20, rfl⟩
abbrev main_while0c_v20 : Ref sig .tc := ⟨.hbm, 21, rfl⟩
abbrev main_while0b_c_11 : Ref sig .tc := ⟨.hbm, 22, rfl⟩
abbrev main_while0b_v20 : Ref sig .tc := ⟨.hbm, 23, rfl⟩
abbrev main_while0b_c_12 : Ref sig .tc := ⟨.hbm, 24, rfl⟩
abbrev main_while0b_v21 : Ref sig .tc := ⟨.hbm, 25, rfl⟩
abbrev main_while0b_call0_c : Ref sig .tc := ⟨.hbm, 26, rfl⟩
abbrev main_while0b_call0_c_0 : Ref sig .tc := ⟨.hbm, 27, rfl⟩
abbrev main_while0b_call0_v0 : Ref sig .tc := ⟨.hbm, 28, rfl⟩
abbrev main_while0b_v22 : Ref sig .tc := ⟨.hbm, 29, rfl⟩
abbrev main_while0b_v23 : Ref sig .tc := ⟨.hbm, 30, rfl⟩
abbrev main_while0b_v24 : Ref sig .tc := ⟨.hbm, 31, rfl⟩
abbrev main_while0b_v25 : Ref sig .tc := ⟨.hbm, 32, rfl⟩
abbrev main_while0b_cst_13 : Ref sig .tc := ⟨.hbm, 33, rfl⟩
abbrev main_while0b_v26 : Ref sig .tc := ⟨.hbm, 34, rfl⟩
abbrev main_while0b_v27 : Ref sig .tc := ⟨.hbm, 35, rfl⟩
abbrev main_while0b_cst_14 : Ref sig .tc := ⟨.hbm, 36, rfl⟩
abbrev main_while0b_v28 : Ref sig .tc := ⟨.hbm, 37, rfl⟩
abbrev main_while0b_v29 : Ref sig .tc := ⟨.hbm, 38, rfl⟩
abbrev main_while0b_v30 : Ref sig .tc := ⟨.hbm, 39, rfl⟩
abbrev main_while0b_v31 : Ref sig .tc := ⟨.hbm, 40, rfl⟩
abbrev main_while0b_call1_v0 : Ref sig .tc := ⟨.hbm, 41, rfl⟩
abbrev main_while0b_call1_c : Ref sig .tc := ⟨.hbm, 42, rfl⟩
abbrev main_while0b_call1_c_0 : Ref sig .tc := ⟨.hbm, 43, rfl⟩
abbrev main_while0b_v32 : Ref sig .tc := ⟨.hbm, 44, rfl⟩
abbrev main_while0b_c_15 : Ref sig .tc := ⟨.hbm, 45, rfl⟩
abbrev main_while0b_v33 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_cst_2 : Ref sig .tc := ⟨.hbm, 53, rfl⟩
abbrev main_v13 : Ref sig .tc := ⟨.hbm, 54, rfl⟩
abbrev main_v14 : Ref sig .tc := ⟨.hbm, 55, rfl⟩
abbrev main_cst_3 : Ref sig .tc := ⟨.hbm, 56, rfl⟩
abbrev main_v15 : Ref sig .tc := ⟨.hbm, 57, rfl⟩
abbrev main_v16 : Ref sig .tc := ⟨.hbm, 58, rfl⟩
abbrev main_cst_4 : Ref sig .tc := ⟨.hbm, 59, rfl⟩
abbrev main_v17 : Ref sig .tc := ⟨.hbm, 60, rfl⟩
abbrev main_v18 : Ref sig .tc := ⟨.hbm, 61, rfl⟩
abbrev main_cst_5 : Ref sig .tc := ⟨.hbm, 62, rfl⟩
abbrev main_v19 : Ref sig .tc := ⟨.hbm, 63, rfl⟩

abbrev nD : Nat := 1
abbrev τ : Topo := Topo.v7x

variable {F : FTy → Type} [FloatOps F]

abbrev main_while0_count : Scf.Loop 32 := ⟨0#32, 256#32, 1#32⟩
-- ==== Proof.FlashI.Words.lean ====
module

public import proofs.«01_k».proof.Proof.Gen.KernelIdeal.Skeleton
public import proofs.«01_k».proof.Proof.Gen.KernelIdeal.Launch
import Idealize.ShloMosaic.Lib.Exec
public import Idealize.ShloMosaic.Lib.Claim
public import Idealize.ShloMosaic.Lib.Pipeline.TableIdle
public import Idealize.ShloMosaic.Lib.Pipeline.FrameBody

/-! The words that the body of the attention gradient loads from its two tables. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The word of the first table (the block row) that the body loads at grid point `i`. -/
def word0 (T0 : BufTy.Contents (Elt F) (Memref.whole main_c).view.ty) (i : grid0.Coords) : BitVec 32 :=
  View.readAt (Elt F) (Memref.whole main_c).view (Rect.unit (s := S10) (k0_off1 i) S1.size (k0_off1_inb i)).toLoadRect T0 (Shape.Idx.first (numel1_S1.symm ▸ Nat.one_pos))

/-- The word of the second table (the block column) that the body loads at grid point `i`. -/
def word1 (T1 : BufTy.Contents (Elt F) (Memref.whole main_c_0).view.ty) (i : grid0.Coords) : BitVec 32 :=
  View.readAt (Elt F) (Memref.whole main_c_0).view (Rect.unit (s := S10) (k0_off1 i) S1.size (k0_off1_inb i)).toLoadRect T1 (Shape.Idx.first (numel1_S1.symm ▸ Nat.one_pos))

/-- The condition of the body's conditional on a diagonal pair, as the body computes it. -/
def k0_cond3 (v1 v3 : BitVec 32) : BitVec 1 :=
  Scalar.cmpi .ne (Scalar.extui (Scalar.cmpi .eq v1 v3)) 0#32

end Cert.KernelIdeal.Flash

end
-- ==== Proof.FlashI.Tab.lean ====
module

public import proofs.«01_k».proof.Proof.FlashI.Words

/-! The two tables of the attention gradient hold the ten pairs of a block row and a block column on
or below the diagonal. This module states what the body reads of them at a grid point, and that the
blocks they name lie inside their arrays. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic

variable {F : FTy → Type} [FloatOps F] [Named F]

/-- The contents of the two tables: the block rows and the block columns of the ten pairs. -/
def tabs : pre0.Contents (Elt F) := fun
  | ⟨0, _⟩ => (fun i => lit0 (S10.rowMajor i))
  | ⟨1, _⟩ => (fun i => lit1 (S10.rowMajor i))
  | ⟨_ + 2, h⟩ => absurd h (Nat.not_lt.2 (Nat.le_add_left _ _))

/-- The pair that grid point `i` works on. -/
def pr (i : grid0.Coords) : Fin 10 := i 1

theorem off_eq (i : grid0.Coords) (a : Fin 1) : k0_off1 i a = (i 1).val := by
  have h : ∀ p : Fin 10, (Scalar.indexCast (BitVec.ofNat 32 p.val) : Index).toNat = p.val := by decide
  match a with
  | ⟨0, _⟩ => exact h (i 1)

theorem lit0_rowMajor (j : S10.Idx) (p : Fin 10) (h : (j 0).val = p.val) : lit0 (S10.rowMajor j) = lit0 p :=
  congrArg lit0 (Fin.ext ((Shape.rowMajor_val_one j).trans h))

theorem lit1_rowMajor (j : S10.Idx) (p : Fin 10) (h : (j 0).val = p.val) : lit1 (S10.rowMajor j) = lit1 p :=
  congrArg lit1 (Fin.ext ((Shape.rowMajor_val_one j).trans h))

/-- The block row and the block column of the pair of grid point `i`. -/
abbrev rw0 (i : grid0.Coords) : BitVec 32 := lit0 (pr i)
abbrev cl0 (i : grid0.Coords) : BitVec 32 := lit1 (pr i)

theorem off_le (i : grid0.Coords) (a : Fin 1) : k0_off1 i a + 1 ≤ S10.size a := by
  rw [off_eq]
  match a with
  | ⟨0, _⟩ => exact (i 1).isLt

theorem atD0 (i : grid0.Coords) : (tabs (F := F)).atD 0 (k0_off1 i) = rw0 i :=
  (dif_pos (off_le i)).trans (lit0_rowMajor _ (pr i) (off_eq i 0))

theorem atD1 (i : grid0.Coords) : (tabs (F := F)).atD 1 (k0_off1 i) = cl0 i :=
  (dif_pos (off_le i)).trans (lit1_rowMajor _ (pr i) (off_eq i 0))

theorem at0 (i : grid0.Coords) : (tabs (F := F)).at 0 (Rect.unit (s := S10) (k0_off1 i) S1.size (k0_off1_inb i)) numel1_S1 = rw0 i :=
  lit0_rowMajor _ (pr i) (off_eq i 0)

theorem at1 (i : grid0.Coords) : (tabs (F := F)).at 1 (Rect.unit (s := S10) (k0_off1 i) S1.size (k0_off1_inb i)) numel1_S1 = cl0 i :=
  lit1_rowMajor _ (pr i) (off_eq i 0)

/-- The words that the body loads are the pair's. -/
theorem word0_tabs (i : grid0.Coords) : word0 (F := F) (tabs 0) i = rw0 i := at0 (F := F) i
theorem word1_tabs (i : grid0.Coords) : word1 (F := F) (tabs 1) i = cl0 i := at1 (F := F) i

/-! The blocks that the tables name, and that they lie inside their arrays. -/

theorem tr0 (i : grid0.Coords) : cc0_transform_0 (F := F) k0_off1_inb numel1_S1 tabs i = ![(rw0 i).toNat, (BitVec.ofNat 32 (i 0).val).toNat] := by
  have h := at0 (F := F) i
  unfold cc0_transform_0
  dsimp only
  unfold k0_off1 at h
  dsimp only at h
  rw [h]

theorem inb0 (i : grid0.Coords) (a : Fin 2) : (cc0_transform_0 (F := F) k0_off1_inb numel1_S1 tabs i a + 1) * S1024x256.size a ≤ S4096x4096.size a := by
  rw [tr0]
  have h : ∀ (n : Fin 16) (p : Fin 10) (a : Fin 2), (![(lit0 p).toNat, (BitVec.ofNat 32 n.val).toNat] a + 1) * S1024x256.size a ≤ S4096x4096.size a := by decide +kernel
  exact h (i 0) (i 1) a

theorem tr1 (i : grid0.Coords) : cc0_transform_1 (F := F) k0_off1_inb numel1_S1 tabs i = ![(cl0 i).toNat, (BitVec.ofNat 32 (i 0).val).toNat] := by
  have h := at1 (F := F) i
  unfold cc0_transform_1
  dsimp only
  unfold k0_off1 at h
  dsimp only at h
  rw [h]

theorem inb1 (i : grid0.Coords) (a : Fin 2) : (cc0_transform_1 (F := F) k0_off1_inb numel1_S1 tabs i a + 1) * S1024x256.size a ≤ S4096x4096.size a := by
  rw [tr1]
  have h : ∀ (n : Fin 16) (p : Fin 10) (a : Fin 2), (![(lit1 p).toNat, (BitVec.ofNat 32 n.val).toNat] a + 1) * S1024x256.size a ≤ S4096x4096.size a := by decide +kernel
  exact h (i 0) (i 1) a

theorem tr2 (i : grid0.Coords) : cc0_transform_2 (F := F) k0_off1_inb numel1_S1 tabs i = ![(cl0 i).toNat, (0#32).toNat] := by
  have h := at1 (F := F) i
  unfold cc0_transform_2
  dsimp only
  unfold k0_off1 at h
  dsimp only at h
  rw [h]

theorem inb2 (i : grid0.Coords) (a : Fin 2) : (cc0_transform_2 (F := F) k0_off1_inb numel1_S1 tabs i a + 1) * S1024x128.size a ≤ S4096x128.size a := by
  rw [tr2]
  have h : ∀ (n : Fin 16) (p : Fin 10) (a : Fin 2), (![(lit1 p).toNat, (0#32).toNat] a + 1) * S1024x128.size a ≤ S4096x128.size a := by decide +kernel
  exact h (i 0) (i 1) a

theorem tr3 (i : grid0.Coords) : cc0_transform_3 (F := F) k0_off1_inb numel1_S1 tabs i = ![(rw0 i).toNat, (BitVec.ofNat 32 (i 0).val).toNat] := by
  have h := at0 (F := F) i
  unfold cc0_transform_3
  dsimp only
  unfold k0_off1 at h
  dsimp only at h
  rw [h]

theorem inb3 (i : grid0.Coords) (a : Fin 2) : (cc0_transform_3 (F := F) k0_off1_inb numel1_S1 tabs i a + 1) * S1024x128.size a ≤ S4096x2048.size a := by
  rw [tr3]
  have h : ∀ (n : Fin 16) (p : Fin 10) (a : Fin 2), (![(lit0 p).toNat, (BitVec.ofNat 32 n.val).toNat] a + 1) * S1024x128.size a ≤ S4096x2048.size a := by decide +kernel
  exact h (i 0) (i 1) a

theorem tr4 (i : grid0.Coords) : cc0_transform_4 (F := F) k0_off1_inb numel1_S1 tabs i = ![(BitVec.ofNat 32 (i 0).val).toNat, (rw0 i).toNat, (0#32).toNat] := by
  have h := at0 (F := F) i
  unfold cc0_transform_4
  dsimp only
  unfold k0_off1 at h
  dsimp only at h
  rw [h]

theorem inb4 (i : grid0.Coords) (a : Fin 3) : (cc0_transform_4 (F := F) k0_off1_inb numel1_S1 tabs i a + 1) * S1x1024x128.size a ≤ S16x4096x128.size a := by
  rw [tr4]
  have h : ∀ (n : Fin 16) (p : Fin 10) (a : Fin 3), (![(BitVec.ofNat 32 n.val).toNat, (lit0 p).toNat, (0#32).toNat] a + 1) * S1x1024x128.size a ≤ S16x4096x128.size a := by decide +kernel
  exact h (i 0) (i 1) a

theorem tr5 (i : grid0.Coords) : cc0_transform_5 (F := F) k0_off1_inb numel1_S1 tabs i = ![(rw0 i).toNat, (BitVec.ofNat 32 (i 0).val).toNat] := by
  have h := at0 (F := F) i
  unfold cc0_transform_5
  dsimp only
  unfold k0_off1 at h
  dsimp only at h
  rw [h]

theorem inb5 (i : grid0.Coords) (a : Fin 2) : (cc0_transform_5 (F := F) k0_off1_inb numel1_S1 tabs i a + 1) * S1024x128.size a ≤ S4096x2048.size a := by
  rw [tr5]
  have h : ∀ (n : Fin 16) (p : Fin 10) (a : Fin 2), (![(lit0 p).toNat, (BitVec.ofNat 32 n.val).toNat] a + 1) * S1024x128.size a ≤ S4096x2048.size a := by decide +kernel
  exact h (i 0) (i 1) a

theorem tr7 (i : grid0.Coords) : cc0_transform_7 (F := F) k0_off1_inb numel1_S1 tabs i = ![(cl0 i).toNat, (BitVec.ofNat 32 (i 0).val).toNat] := by
  have h := at1 (F := F) i
  unfold cc0_transform_7
  dsimp only
  unfold k0_off1 at h
  dsimp only at h
  rw [h]

theorem inb7 (i : grid0.Coords) (a : Fin 2) : (cc0_transform_7 (F := F) k0_off1_inb numel1_S1 tabs i a + 1) * S1024x256.size a ≤ S4096x4096.size a := by
  rw [tr7]
  have h : ∀ (n : Fin 16) (p : Fin 10) (a : Fin 2), (![(lit1 p).toNat, (BitVec.ofNat 32 n.val).toNat] a + 1) * S1024x256.size a ≤ S4096x4096.size a := by decide +kernel
  exact h (i 0) (i 1) a

/-- The tables' contents are admissible: every block they name lies inside its array. -/
theorem ok_tabs : ok0 (F := F) tabs :=
  ⟨fun i => ⟨inb0 i, .inr (Affine.block_words_dvd (s := S4096x4096) (p := EltTy.packing .bf16) (by decide) (by decide))⟩,
   fun i => ⟨inb1 i, .inr (Affine.block_words_dvd (s := S4096x4096) (p := EltTy.packing .bf16) (by decide) (by decide))⟩,
   fun i => ⟨inb2 i, .inr (Affine.block_words_dvd (s := S4096x128) (p := EltTy.packing .bf16) (by decide) (by decide))⟩,
   fun i => ⟨inb3 i, .inr (Affine.block_words_dvd (s := S4096x2048) (p := EltTy.packing .bf16) (by decide) (by decide))⟩,
   fun i => ⟨inb4 i, .inl rfl⟩,
   fun i => ⟨inb5 i, .inl rfl⟩,
   fun i => ⟨inb7 i, .inr (Affine.block_words_dvd (s := S4096x4096) (p := EltTy.packing .bf16) (by decide) (by decide))⟩⟩

/-- The admissible contents, and the pipeline at them. -/
def adm : (pcfg0 (F := F)).Adm := ⟨tabs, ok_tabs⟩
abbrev cfgA : Pipeline.Cfg sig Λ₀ := cfg0 (F := F) adm

/-! What the body decides at a grid point. -/

theorem chk (i : grid0.Coords) : k0_chk1 (rw0 i) (cl0 i) := by
  have h : ∀ p : Fin 10, k0_chk1 (lit0 p) (lit1 p) := by decide +kernel
  exact h (pr i)

theorem cond1_iff (i : grid0.Coords) : k0_cond1 i = 1#1 ↔ (i 1).val = 0 := by
  have h : ∀ p : Fin 10, (Scalar.cmpi .ne (Scalar.extui (Scalar.cmpi .eq (BitVec.ofNat 32 p.val) 0#32)) 0#32 : BitVec 1) = 1#1 ↔ p.val = 0 := by decide +kernel
  exact h (i 1)

theorem cond7_iff (i : grid0.Coords) : k0_cond7 i = 1#1 ↔ (i 1).val = 9 := by
  have h : ∀ p : Fin 10, (Scalar.cmpi .ne (Scalar.extui (Scalar.cmpi .eq (BitVec.ofNat 32 p.val) 9#32)) 0#32 : BitVec 1) = 1#1 ↔ p.val = 9 := by decide +kernel
  exact h (i 1)

theorem cond2_iff (i : grid0.Coords) : k0_cond2 i = 1#1 ↔ (i 1).val = 0 ∧ (i 0).val = 0 := by
  have h : ∀ (n : Fin 16) (p : Fin 10), (Scalar.cmpi .ne (Scalar.extui (Scalar.andi (Scalar.cmpi .eq (BitVec.ofNat 32 p.val) 0#32) (Scalar.cmpi .eq (BitVec.ofNat 32 n.val) 0#32))) 0#32 : BitVec 1) = 1#1 ↔ p.val = 0 ∧ n.val = 0 := by decide +kernel
  exact h (i 0) (i 1)

theorem cond3_iff (i : grid0.Coords) : k0_cond3 (rw0 i) (cl0 i) = 1#1 ↔ (i 1).val ∈ [0, 4, 7, 9] := by
  have h : ∀ p : Fin 10, k0_cond3 (lit0 p) (lit1 p) = 1#1 ↔ p.val ∈ [0, 4, 7, 9] := by decide +kernel
  exact h (pr i)

theorem cond4_iff (i : grid0.Coords) : k0_cond4 (rw0 i) (cl0 i) = 1#1 ↔ ¬ (i 1).val ∈ [0, 4, 7, 9] := by
  have h : ∀ p : Fin 10, k0_cond4 (lit0 p) (lit1 p) = 1#1 ↔ ¬ p.val ∈ [0, 4, 7, 9] := by decide +kernel
  exact h (pr i)

theorem cond5_iff (i : grid0.Coords) : k0_cond5 (rw0 i) (cl0 i) = 1#1 ↔ (i 1).val ∈ [0, 4, 7, 9] := by
  have h : ∀ p : Fin 10, k0_cond5 (lit0 p) (lit1 p) = 1#1 ↔ p.val ∈ [0, 4, 7, 9] := by decide +kernel
  exact h (pr i)

theorem cond6_iff (i : grid0.Coords) : k0_cond6 (rw0 i) = 1#1 ↔ (i 1).val ∈ [3, 6, 8, 9] := by
  have h : ∀ p : Fin 10, k0_cond6 (lit0 p) = 1#1 ↔ p.val ∈ [3, 6, 8, 9] := by decide +kernel
  exact h (pr i)

end Cert.KernelIdeal.Flash

end
-- ==== Proof.FlashI.RunA.lean ====
module

public import proofs.«01_k».proof.Proof.Gen.KernelIdeal.Skeleton
public import proofs.«01_k».proof.Proof.Gen.KernelIdeal.Launch
public import proofs.«01_k».proof.Proof.FlashI.Words
import Idealize.ShloMosaic.Lib.Exec
public import Idealize.ShloMosaic.Lib.Claim
public import Idealize.ShloMosaic.Lib.Pipeline.TableIdle
public import Idealize.ShloMosaic.Lib.Pipeline.FrameBody

/-! The body of the attention gradient at the first block pair of the first head. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- What the body leaves at the first block pair of the first head, with the proof that it does: from the tables, the six
    input blocks and the accumulators it meets, the body runs to the end, the inputs and tables unchanged and each
    buffer it stores to at the contents named. -/
noncomputable def runA (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole)
    (T0 : BufTy.Contents (Elt F) (Memref.whole main_c).view.ty) (T1 : BufTy.Contents (Elt F) (Memref.whole main_c_0).view.ty)
    (x0 : Vec F S1024x256 .bf16) (x1 : Vec F S1024x256 .bf16) (x2 : Vec F S1024x128 .bf16) (x3 : Vec F S1024x128 .bf16) (x4 : Vec F S1x1024x128 .f32) (x5 : Vec F S1024x128 .f32)

    (hchk : k0_chk1 (word0 T0 i) (word1 T1 i)) (hc1 : k0_cond1 i = 1#1) (hc2 : k0_cond2 i = 1#1) (hc3 : k0_cond3 (word0 T0 i) (word1 T1 i) = 1#1) (hc4 : ¬ k0_cond4 (word0 T0 i) (word1 T1 i) = 1#1) (hc5 : k0_cond5 (word0 T0 i) (word1 T1 i) = 1#1) (hc6 : ¬ k0_cond6 (word0 T0 i) = 1#1) (hc7 : ¬ k0_cond7 i = 1#1) :
    Σ' (oq : Vec F S4096x256 .f32) (okr : Vec F S4096x128 .f32) (ok : Vec F S1024x256 .f32), { ov : Vec F S1024x128 .f32 //
      ∀ (E : Set ℕ) (K : PUnit → sProp 𝕄),
        iprop(((Memref.whole main_c).view.loc (c : Thread nD τ) ↦{fullShare.right} T0) ∗ ((Memref.whole main_c_0).view.loc (c : Thread nD τ) ↦{fullShare.right} T1) ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg12 fullShare d) ∗ (∃ d, owns (c : Thread nD τ) arg13 fullShare d) ∗ (∃ d, owns (c : Thread nD τ) arg14 fullShare d)
            ∗ (iprop(((Memref.whole main_c).view.loc (c : Thread nD τ) ↦{fullShare.right} T0) ∗ ((Memref.whole main_c_0).view.loc (c : Thread nD τ) ↦{fullShare.right} T1) ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare oq ∗ owns (c : Thread nD τ) arg12 fullShare okr ∗ owns (c : Thread nD τ) arg13 fullShare ok ∗ owns (c : Thread nD τ) arg14 fullShare ov) -∗ K ⟨⟩))
          ⊢ wp frame (wpE (defs₀ (F := F)) Variants.none c none) E (cc0_mla_flash_bwd i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    have hT0 : (Memref.whole main_c).IsWhole := Memref.isWhole_whole _
    have hT1 : (Memref.whole main_c_0).IsWhole := Memref.isWhole_whole _
    rw [cc0_mla_flash_bwd_eq_skeleton]; unfold cc0_mla_flash_bwd_skel
    unfold owns
    iintro ⟨HT0, HT1, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d12, %f12, -, H12⟩, ⟨%d13, %f13, -, H13⟩, ⟨%d14, %f14, -, H14⟩, Hk⟩
    obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec! (disch := first | sl_exact hchk | sl_exact hc1 | sl_exact hc2 | sl_exact hc3 | sl_exact hc4 | sl_exact hc5 | sl_exact hc6 | sl_exact hc7)
    sl_step
    iapply Hk
    isplitl [HT0]; · iexact HT0
    isplitl [HT1]; · iexact HT1
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; swap; · iexact H10
      ipureintro; rfl
    isplitl [H12]
    · iexists _; isplitr; swap; · iexact H12
      ipureintro; rfl
    isplitl [H13]
    · iexists _; isplitr; swap; · iexact H13
      ipureintro; rfl
    iexists _; isplitr; swap; · iexact H14
    ipureintro; rfl

end Cert.KernelIdeal.Flash

end
-- ==== Proof.FlashI.RunB.lean ====
module

public import proofs.«01_k».proof.Proof.Gen.KernelIdeal.Skeleton
public import proofs.«01_k».proof.Proof.Gen.KernelIdeal.Launch
public import proofs.«01_k».proof.Proof.FlashI.Words
import Idealize.ShloMosaic.Lib.Exec
public import Idealize.ShloMosaic.Lib.Claim
public import Idealize.ShloMosaic.Lib.Pipeline.TableIdle
public import Idealize.ShloMosaic.Lib.Pipeline.FrameBody

/-! The body of the attention gradient at the first block pair of a later head. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- What the body leaves at the first block pair of a later head, with the proof that it does: from the tables, the six
    input blocks and the accumulators it meets, the body runs to the end, the inputs and tables unchanged and each
    buffer it stores to at the contents named. -/
noncomputable def runB (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole)
    (T0 : BufTy.Contents (Elt F) (Memref.whole main_c).view.ty) (T1 : BufTy.Contents (Elt F) (Memref.whole main_c_0).view.ty)
    (x0 : Vec F S1024x256 .bf16) (x1 : Vec F S1024x256 .bf16) (x2 : Vec F S1024x128 .bf16) (x3 : Vec F S1024x128 .bf16) (x4 : Vec F S1x1024x128 .f32) (x5 : Vec F S1024x128 .f32)

    (hchk : k0_chk1 (word0 T0 i) (word1 T1 i)) (hc1 : k0_cond1 i = 1#1) (hc2 : ¬ k0_cond2 i = 1#1) (hc3 : k0_cond3 (word0 T0 i) (word1 T1 i) = 1#1) (hc4 : ¬ k0_cond4 (word0 T0 i) (word1 T1 i) = 1#1) (hc5 : k0_cond5 (word0 T0 i) (word1 T1 i) = 1#1) (hc6 : ¬ k0_cond6 (word0 T0 i) = 1#1) (hc7 : ¬ k0_cond7 i = 1#1) :
    Σ' (oq : Vec F S4096x256 .f32) (ok : Vec F S1024x256 .f32), { ov : Vec F S1024x128 .f32 //
      ∀ (E : Set ℕ) (K : PUnit → sProp 𝕄),
        iprop(((Memref.whole main_c).view.loc (c : Thread nD τ) ↦{fullShare.right} T0) ∗ ((Memref.whole main_c_0).view.loc (c : Thread nD τ) ↦{fullShare.right} T1) ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg13 fullShare d) ∗ (∃ d, owns (c : Thread nD τ) arg14 fullShare d)
            ∗ (iprop(((Memref.whole main_c).view.loc (c : Thread nD τ) ↦{fullShare.right} T0) ∗ ((Memref.whole main_c_0).view.loc (c : Thread nD τ) ↦{fullShare.right} T1) ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare oq ∗ owns (c : Thread nD τ) arg13 fullShare ok ∗ owns (c : Thread nD τ) arg14 fullShare ov) -∗ K ⟨⟩))
          ⊢ wp frame (wpE (defs₀ (F := F)) Variants.none c none) E (cc0_mla_flash_bwd i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    have hT0 : (Memref.whole main_c).IsWhole := Memref.isWhole_whole _
    have hT1 : (Memref.whole main_c_0).IsWhole := Memref.isWhole_whole _
    rw [cc0_mla_flash_bwd_eq_skeleton]; unfold cc0_mla_flash_bwd_skel
    unfold owns
    iintro ⟨HT0, HT1, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d13, %f13, -, H13⟩, ⟨%d14, %f14, -, H14⟩, Hk⟩
    obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec! (disch := first | sl_exact hchk | sl_exact hc1 | sl_exact hc2 | sl_exact hc3 | sl_exact hc4 | sl_exact hc5 | sl_exact hc6 | sl_exact hc7)
    sl_step
    iapply Hk
    isplitl [HT0]; · iexact HT0
    isplitl [HT1]; · iexact HT1
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; swap; · iexact H10
      ipureintro; rfl
    isplitl [H13]
    · iexists _; isplitr; swap; · iexact H13
      ipureintro; rfl
    iexists _; isplitr; swap; · iexact H14
    ipureintro; rfl

end Cert.KernelIdeal.Flash

end
-- ==== Proof.FlashI.RunC.lean ====
module

public import proofs.«01_k».proof.Proof.Gen.KernelIdeal.Skeleton
public import proofs.«01_k».proof.Proof.Gen.KernelIdeal.Launch
public import proofs.«01_k».proof.Proof.FlashI.Words
import Idealize.ShloMosaic.Lib.Exec
public import Idealize.ShloMosaic.Lib.Claim
public import Idealize.ShloMosaic.Lib.Pipeline.TableIdle
public import Idealize.ShloMosaic.Lib.Pipeline.FrameBody

/-! The body of the attention gradient at a block pair below the diagonal, not in the last block row. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- What the body leaves at a block pair below the diagonal, not in the last block row, with the proof that it does: from the tables, the six
    input blocks and the accumulators it meets, the body runs to the end, the inputs and tables unchanged and each
    buffer it stores to at the contents named. -/
noncomputable def runC (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole)
    (T0 : BufTy.Contents (Elt F) (Memref.whole main_c).view.ty) (T1 : BufTy.Contents (Elt F) (Memref.whole main_c_0).view.ty)
    (x0 : Vec F S1024x256 .bf16) (x1 : Vec F S1024x256 .bf16) (x2 : Vec F S1024x128 .bf16) (x3 : Vec F S1024x128 .bf16) (x4 : Vec F S1x1024x128 .f32) (x5 : Vec F S1024x128 .f32)
    (pq : Vec F S4096x256 .f32) (pk : Vec F S1024x256 .f32) (pv : Vec F S1024x128 .f32)
    (hchk : k0_chk1 (word0 T0 i) (word1 T1 i)) (hc1 : ¬ k0_cond1 i = 1#1) (hc2 : ¬ k0_cond2 i = 1#1) (hc3 : ¬ k0_cond3 (word0 T0 i) (word1 T1 i) = 1#1) (hc4 : k0_cond4 (word0 T0 i) (word1 T1 i) = 1#1) (hc5 : ¬ k0_cond5 (word0 T0 i) (word1 T1 i) = 1#1) (hc6 : ¬ k0_cond6 (word0 T0 i) = 1#1) (hc7 : ¬ k0_cond7 i = 1#1) :
    Σ' (oq : Vec F S4096x256 .f32) (ok : Vec F S1024x256 .f32), { ov : Vec F S1024x128 .f32 //
      ∀ (E : Set ℕ) (K : PUnit → sProp 𝕄),
        iprop(((Memref.whole main_c).view.loc (c : Thread nD τ) ↦{fullShare.right} T0) ∗ ((Memref.whole main_c_0).view.loc (c : Thread nD τ) ↦{fullShare.right} T1) ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare pq ∗ owns (c : Thread nD τ) arg13 fullShare pk ∗ owns (c : Thread nD τ) arg14 fullShare pv
            ∗ (iprop(((Memref.whole main_c).view.loc (c : Thread nD τ) ↦{fullShare.right} T0) ∗ ((Memref.whole main_c_0).view.loc (c : Thread nD τ) ↦{fullShare.right} T1) ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare oq ∗ owns (c : Thread nD τ) arg13 fullShare ok ∗ owns (c : Thread nD τ) arg14 fullShare ov) -∗ K ⟨⟩))
          ⊢ wp frame (wpE (defs₀ (F := F)) Variants.none c none) E (cc0_mla_flash_bwd i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    have hT0 : (Memref.whole main_c).IsWhole := Memref.isWhole_whole _
    have hT1 : (Memref.whole main_c_0).IsWhole := Memref.isWhole_whole _
    rw [cc0_mla_flash_bwd_eq_skeleton]; unfold cc0_mla_flash_bwd_skel
    unfold owns
    iintro ⟨HT0, HT1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f13, %hf13, H13⟩, ⟨%f14, %hf14, H14⟩, Hk⟩
    obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg13.eq_unread hf13; obtain rfl := harg14.eq_unread hf14
    sl_exec! (disch := first | sl_exact hchk | sl_exact hc1 | sl_exact hc2 | sl_exact hc3 | sl_exact hc4 | sl_exact hc5 | sl_exact hc6 | sl_exact hc7)
    sl_step
    iapply Hk
    isplitl [HT0]; · iexact HT0
    isplitl [HT1]; · iexact HT1
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; swap; · iexact H10
      ipureintro; rfl
    isplitl [H13]
    · iexists _; isplitr; swap; · iexact H13
      ipureintro; rfl
    iexists _; isplitr; swap; · iexact H14
    ipureintro; rfl

end Cert.KernelIdeal.Flash

end
-- ==== Proof.FlashI.RunD.lean ====
module

public import proofs.«01_k».proof.Proof.Gen.KernelIdeal.Skeleton
public import proofs.«01_k».proof.Proof.Gen.KernelIdeal.Launch
public import proofs.«01_k».proof.Proof.FlashI.Words
import Idealize.ShloMosaic.Lib.Exec
public import Idealize.ShloMosaic.Lib.Claim
public import Idealize.ShloMosaic.Lib.Pipeline.TableIdle
public import Idealize.ShloMosaic.Lib.Pipeline.FrameBody

/-! The body of the attention gradient at a block pair below the diagonal in the last block row. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- What the body leaves at a block pair below the diagonal in the last block row, with the proof that it does: from the tables, the six
    input blocks and the accumulators it meets, the body runs to the end, the inputs and tables unchanged and each
    buffer it stores to at the contents named. -/
noncomputable def runD (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole)
    (T0 : BufTy.Contents (Elt F) (Memref.whole main_c).view.ty) (T1 : BufTy.Contents (Elt F) (Memref.whole main_c_0).view.ty)
    (x0 : Vec F S1024x256 .bf16) (x1 : Vec F S1024x256 .bf16) (x2 : Vec F S1024x128 .bf16) (x3 : Vec F S1024x128 .bf16) (x4 : Vec F S1x1024x128 .f32) (x5 : Vec F S1024x128 .f32)
    (pq : Vec F S4096x256 .f32) (pkr : Vec F S4096x128 .f32) (pk : Vec F S1024x256 .f32) (pv : Vec F S1024x128 .f32)
    (hchk : k0_chk1 (word0 T0 i) (word1 T1 i)) (hc1 : ¬ k0_cond1 i = 1#1) (hc2 : ¬ k0_cond2 i = 1#1) (hc3 : ¬ k0_cond3 (word0 T0 i) (word1 T1 i) = 1#1) (hc4 : k0_cond4 (word0 T0 i) (word1 T1 i) = 1#1) (hc5 : ¬ k0_cond5 (word0 T0 i) (word1 T1 i) = 1#1) (hc6 : k0_cond6 (word0 T0 i) = 1#1) (hc7 : ¬ k0_cond7 i = 1#1) :
    Σ' (oq : Vec F S4096x256 .f32) (okv : Vec F S1024x256 .bf16) (okr : Vec F S4096x128 .f32) (ok : Vec F S1024x256 .f32), { ov : Vec F S1024x128 .f32 //
      ∀ (E : Set ℕ) (K : PUnit → sProp 𝕄),
        iprop(((Memref.whole main_c).view.loc (c : Thread nD τ) ↦{fullShare.right} T0) ∗ ((Memref.whole main_c_0).view.loc (c : Thread nD τ) ↦{fullShare.right} T1) ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare pq ∗ (∃ d, owns (c : Thread nD τ) arg11 fullShare d) ∗ owns (c : Thread nD τ) arg12 fullShare pkr ∗ owns (c : Thread nD τ) arg13 fullShare pk ∗ owns (c : Thread nD τ) arg14 fullShare pv
            ∗ (iprop(((Memref.whole main_c).view.loc (c : Thread nD τ) ↦{fullShare.right} T0) ∗ ((Memref.whole main_c_0).view.loc (c : Thread nD τ) ↦{fullShare.right} T1) ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare oq ∗ owns (c : Thread nD τ) arg11 fullShare okv ∗ owns (c : Thread nD τ) arg12 fullShare okr ∗ owns (c : Thread nD τ) arg13 fullShare ok ∗ owns (c : Thread nD τ) arg14 fullShare ov) -∗ K ⟨⟩))
          ⊢ wp frame (wpE (defs₀ (F := F)) Variants.none c none) E (cc0_mla_flash_bwd i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    have hT0 : (Memref.whole main_c).IsWhole := Memref.isWhole_whole _
    have hT1 : (Memref.whole main_c_0).IsWhole := Memref.isWhole_whole _
    rw [cc0_mla_flash_bwd_eq_skeleton]; unfold cc0_mla_flash_bwd_skel
    unfold owns
    iintro ⟨HT0, HT1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, Hk⟩
    obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13; obtain rfl := harg14.eq_unread hf14
    sl_exec! (disch := first | sl_exact hchk | sl_exact hc1 | sl_exact hc2 | sl_exact hc3 | sl_exact hc4 | sl_exact hc5 | sl_exact hc6 | sl_exact hc7)
    sl_step
    iapply Hk
    isplitl [HT0]; · iexact HT0
    isplitl [HT1]; · iexact HT1
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    iexists _; isplitr; swap; · iexact H14
    ipureintro; rfl

end Cert.KernelIdeal.Flash

end
-- ==== Proof.FlashI.RunE.lean ====
module

public import proofs.«01_k».proof.Proof.Gen.KernelIdeal.Skeleton
public import proofs.«01_k».proof.Proof.Gen.KernelIdeal.Launch
public import proofs.«01_k».proof.Proof.FlashI.Words
import Idealize.ShloMosaic.Lib.Exec
public import Idealize.ShloMosaic.Lib.Claim
public import Idealize.ShloMosaic.Lib.Pipeline.TableIdle
public import Idealize.ShloMosaic.Lib.Pipeline.FrameBody

/-! The body of the attention gradient at a diagonal block pair that is neither the first nor the last. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- What the body leaves at a diagonal block pair that is neither the first nor the last, with the proof that it does: from the tables, the six
    input blocks and the accumulators it meets, the body runs to the end, the inputs and tables unchanged and each
    buffer it stores to at the contents named. -/
noncomputable def runE (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole)
    (T0 : BufTy.Contents (Elt F) (Memref.whole main_c).view.ty) (T1 : BufTy.Contents (Elt F) (Memref.whole main_c_0).view.ty)
    (x0 : Vec F S1024x256 .bf16) (x1 : Vec F S1024x256 .bf16) (x2 : Vec F S1024x128 .bf16) (x3 : Vec F S1024x128 .bf16) (x4 : Vec F S1x1024x128 .f32) (x5 : Vec F S1024x128 .f32)
    (pq : Vec F S4096x256 .f32)
    (hchk : k0_chk1 (word0 T0 i) (word1 T1 i)) (hc1 : ¬ k0_cond1 i = 1#1) (hc2 : ¬ k0_cond2 i = 1#1) (hc3 : k0_cond3 (word0 T0 i) (word1 T1 i) = 1#1) (hc4 : ¬ k0_cond4 (word0 T0 i) (word1 T1 i) = 1#1) (hc5 : k0_cond5 (word0 T0 i) (word1 T1 i) = 1#1) (hc6 : ¬ k0_cond6 (word0 T0 i) = 1#1) (hc7 : ¬ k0_cond7 i = 1#1) :
    Σ' (oq : Vec F S4096x256 .f32) (ok : Vec F S1024x256 .f32), { ov : Vec F S1024x128 .f32 //
      ∀ (E : Set ℕ) (K : PUnit → sProp 𝕄),
        iprop(((Memref.whole main_c).view.loc (c : Thread nD τ) ↦{fullShare.right} T0) ∗ ((Memref.whole main_c_0).view.loc (c : Thread nD τ) ↦{fullShare.right} T1) ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare pq ∗ (∃ d, owns (c : Thread nD τ) arg13 fullShare d) ∗ (∃ d, owns (c : Thread nD τ) arg14 fullShare d)
            ∗ (iprop(((Memref.whole main_c).view.loc (c : Thread nD τ) ↦{fullShare.right} T0) ∗ ((Memref.whole main_c_0).view.loc (c : Thread nD τ) ↦{fullShare.right} T1) ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare oq ∗ owns (c : Thread nD τ) arg13 fullShare ok ∗ owns (c : Thread nD τ) arg14 fullShare ov) -∗ K ⟨⟩))
          ⊢ wp frame (wpE (defs₀ (F := F)) Variants.none c none) E (cc0_mla_flash_bwd i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    have hT0 : (Memref.whole main_c).IsWhole := Memref.isWhole_whole _
    have hT1 : (Memref.whole main_c_0).IsWhole := Memref.isWhole_whole _
    rw [cc0_mla_flash_bwd_eq_skeleton]; unfold cc0_mla_flash_bwd_skel
    unfold owns
    iintro ⟨HT0, HT1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d13, %f13, -, H13⟩, ⟨%d14, %f14, -, H14⟩, Hk⟩
    obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec! (disch := first | sl_exact hchk | sl_exact hc1 | sl_exact hc2 | sl_exact hc3 | sl_exact hc4 | sl_exact hc5 | sl_exact hc6 | sl_exact hc7)
    sl_step
    iapply Hk
    isplitl [HT0]; · iexact HT0
    isplitl [HT1]; · iexact HT1
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; swap; · iexact H10
      ipureintro; rfl
    isplitl [H13]
    · iexists _; isplitr; swap; · iexact H13
      ipureintro; rfl
    iexists _; isplitr; swap; · iexact H14
    ipureintro; rfl

end Cert.KernelIdeal.Flash

end
-- ==== Proof.FlashI.RunG.lean ====
module

public import proofs.«01_k».proof.Proof.Gen.KernelIdeal.Skeleton
public import proofs.«01_k».proof.Proof.Gen.KernelIdeal.Launch
public import proofs.«01_k».proof.Proof.FlashI.Words
import Idealize.ShloMosaic.Lib.Exec
public import Idealize.ShloMosaic.Lib.Claim
public import Idealize.ShloMosaic.Lib.Pipeline.TableIdle
public import Idealize.ShloMosaic.Lib.Pipeline.FrameBody

/-! The body of the attention gradient at the last block pair of a head. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- What the body leaves at the last block pair of a head, with the proof that it does: from the tables, the six
    input blocks and the accumulators it meets, the body runs to the end, the inputs and tables unchanged and each
    buffer it stores to at the contents named. -/
noncomputable def runG (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole)
    (T0 : BufTy.Contents (Elt F) (Memref.whole main_c).view.ty) (T1 : BufTy.Contents (Elt F) (Memref.whole main_c_0).view.ty)
    (x0 : Vec F S1024x256 .bf16) (x1 : Vec F S1024x256 .bf16) (x2 : Vec F S1024x128 .bf16) (x3 : Vec F S1024x128 .bf16) (x4 : Vec F S1x1024x128 .f32) (x5 : Vec F S1024x128 .f32)
    (pq : Vec F S4096x256 .f32) (pkr : Vec F S4096x128 .f32)
    (hchk : k0_chk1 (word0 T0 i) (word1 T1 i)) (hc1 : ¬ k0_cond1 i = 1#1) (hc2 : ¬ k0_cond2 i = 1#1) (hc3 : k0_cond3 (word0 T0 i) (word1 T1 i) = 1#1) (hc4 : ¬ k0_cond4 (word0 T0 i) (word1 T1 i) = 1#1) (hc5 : k0_cond5 (word0 T0 i) (word1 T1 i) = 1#1) (hc6 : k0_cond6 (word0 T0 i) = 1#1) (hc7 : k0_cond7 i = 1#1) :
    Σ' (oq : Vec F S4096x256 .f32) (okv : Vec F S1024x256 .bf16) (okr : Vec F S4096x128 .f32) (ok : Vec F S1024x256 .f32), { ov : Vec F S1024x128 .f32 //
      ∀ (E : Set ℕ) (K : PUnit → sProp 𝕄),
        iprop(((Memref.whole main_c).view.loc (c : Thread nD τ) ↦{fullShare.right} T0) ∗ ((Memref.whole main_c_0).view.loc (c : Thread nD τ) ↦{fullShare.right} T1) ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare pq ∗ (∃ d, owns (c : Thread nD τ) arg11 fullShare d) ∗ owns (c : Thread nD τ) arg12 fullShare pkr ∗ (∃ d, owns (c : Thread nD τ) arg13 fullShare d) ∗ (∃ d, owns (c : Thread nD τ) arg14 fullShare d)
            ∗ (iprop(((Memref.whole main_c).view.loc (c : Thread nD τ) ↦{fullShare.right} T0) ∗ ((Memref.whole main_c_0).view.loc (c : Thread nD τ) ↦{fullShare.right} T1) ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare oq ∗ owns (c : Thread nD τ) arg11 fullShare okv ∗ owns (c : Thread nD τ) arg12 fullShare okr ∗ owns (c : Thread nD τ) arg13 fullShare ok ∗ owns (c : Thread nD τ) arg14 fullShare ov) -∗ K ⟨⟩))
          ⊢ wp frame (wpE (defs₀ (F := F)) Variants.none c none) E (cc0_mla_flash_bwd i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    have hT0 : (Memref.whole main_c).IsWhole := Memref.isWhole_whole _
    have hT1 : (Memref.whole main_c_0).IsWhole := Memref.isWhole_whole _
    rw [cc0_mla_flash_bwd_eq_skeleton]; unfold cc0_mla_flash_bwd_skel
    unfold owns
    iintro ⟨HT0, HT1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%d14, %f14, -, H14⟩, Hk⟩
    obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12
    sl_exec! (disch := first | sl_exact hchk | sl_exact hc1 | sl_exact hc2 | sl_exact hc3 | sl_exact hc4 | sl_exact hc5 | sl_exact hc6 | sl_exact hc7)
    sl_step
    iapply Hk
    isplitl [HT0]; · iexact HT0
    isplitl [HT1]; · iexact HT1
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    iexists _; isplitr; swap; · iexact H14
    ipureintro; rfl

end Cert.KernelIdeal.Flash

end
-- ==== Proof.FlashI.Traj.lean ====
module

public import proofs.«01_k».proof.Proof.FlashI.Tab
public import proofs.«01_k».proof.Proof.FlashI.RunA
public import proofs.«01_k».proof.Proof.FlashI.RunB
public import proofs.«01_k».proof.Proof.FlashI.RunC
public import proofs.«01_k».proof.Proof.FlashI.RunD
public import proofs.«01_k».proof.Proof.FlashI.RunE
public import proofs.«01_k».proof.Proof.FlashI.RunG

/-! What the buffers of the attention gradient hold after each grid point: one recursion over the points. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

theorem hyp3 (i : grid0.Coords) : k0_cond3 (word0 (F := F) (tabs 0) i) (word1 (F := F) (tabs 1) i) = 1#1 ↔ (i 1).val ∈ [0, 4, 7, 9] := by
  rw [word0_tabs, word1_tabs]; exact cond3_iff i

theorem hyp4 (i : grid0.Coords) : k0_cond4 (word0 (F := F) (tabs 0) i) (word1 (F := F) (tabs 1) i) = 1#1 ↔ ¬ (i 1).val ∈ [0, 4, 7, 9] := by
  rw [word0_tabs, word1_tabs]; exact cond4_iff i

theorem hyp5 (i : grid0.Coords) : k0_cond5 (word0 (F := F) (tabs 0) i) (word1 (F := F) (tabs 1) i) = 1#1 ↔ (i 1).val ∈ [0, 4, 7, 9] := by
  rw [word0_tabs, word1_tabs]; exact cond5_iff i

theorem hyp6 (i : grid0.Coords) : k0_cond6 (word0 (F := F) (tabs 0) i) = 1#1 ↔ (i 1).val ∈ [3, 6, 8, 9] := by
  rw [word0_tabs]; exact cond6_iff i

theorem hchk (i : grid0.Coords) : k0_chk1 (word0 (F := F) (tabs 0) i) (word1 (F := F) (tabs 1) i) := by
  rw [word0_tabs, word1_tabs]; exact chk i

theorem hyA1 (t : Fin grid0.N) (h0 : ((grid0.coords t) 1).val = 0) (hh : ((grid0.coords t) 0).val = 0) : ((grid0.coords t) 1).val = 0 := by
  simp only [List.mem_cons, List.not_mem_nil, or_false] at *; omega
theorem hyA2 (t : Fin grid0.N) (h0 : ((grid0.coords t) 1).val = 0) (hh : ((grid0.coords t) 0).val = 0) : (((grid0.coords t) 1).val = 0 ∧ ((grid0.coords t) 0).val = 0) := by
  simp only [List.mem_cons, List.not_mem_nil, or_false] at *; omega
theorem hyA3 (t : Fin grid0.N) (h0 : ((grid0.coords t) 1).val = 0) (hh : ((grid0.coords t) 0).val = 0) : ((grid0.coords t) 1).val ∈ [0, 4, 7, 9] := by
  simp only [List.mem_cons, List.not_mem_nil, or_false] at *; omega
theorem hyA4 (t : Fin grid0.N) (h0 : ((grid0.coords t) 1).val = 0) (hh : ((grid0.coords t) 0).val = 0) : ¬ (¬ ((grid0.coords t) 1).val ∈ [0, 4, 7, 9]) := by
  simp only [List.mem_cons, List.not_mem_nil, or_false] at *; omega
theorem hyA5 (t : Fin grid0.N) (h0 : ((grid0.coords t) 1).val = 0) (hh : ((grid0.coords t) 0).val = 0) : ((grid0.coords t) 1).val ∈ [0, 4, 7, 9] := by
  simp only [List.mem_cons, List.not_mem_nil, or_false] at *; omega
theorem hyA6 (t : Fin grid0.N) (h0 : ((grid0.coords t) 1).val = 0) (hh : ((grid0.coords t) 0).val = 0) : ¬ ((grid0.coords t) 1).val ∈ [3, 6, 8, 9] := by
  simp only [List.mem_cons, List.not_mem_nil, or_false] at *; omega
theorem hyA7 (t : Fin grid0.N) (h0 : ((grid0.coords t) 1).val = 0) (hh : ((grid0.coords t) 0).val = 0) : ¬ ((grid0.coords t) 1).val = 9 := by
  simp only [List.mem_cons, List.not_mem_nil, or_false] at *; omega
theorem hyB1 (t : Fin grid0.N) (h0 : ((grid0.coords t) 1).val = 0) (hh : ¬ ((grid0.coords t) 0).val = 0) : ((grid0.coords t) 1).val = 0 := by
  simp only [List.mem_cons, List.not_mem_nil, or_false] at *; omega
theorem hyB2 (t : Fin grid0.N) (h0 : ((grid0.coords t) 1).val = 0) (hh : ¬ ((grid0.coords t) 0).val = 0) : ¬ (((grid0.coords t) 1).val = 0 ∧ ((grid0.coords t) 0).val = 0) := by
  simp only [List.mem_cons, List.not_mem_nil, or_false] at *; omega
theorem hyB3 (t : Fin grid0.N) (h0 : ((grid0.coords t) 1).val = 0) (hh : ¬ ((grid0.coords t) 0).val = 0) : ((grid0.coords t) 1).val ∈ [0, 4, 7, 9] := by
  simp only [List.mem_cons, List.not_mem_nil, or_false] at *; omega
theorem hyB4 (t : Fin grid0.N) (h0 : ((grid0.coords t) 1).val = 0) (hh : ¬ ((grid0.coords t) 0).val = 0) : ¬ (¬ ((grid0.coords t) 1).val ∈ [0, 4, 7, 9]) := by
  simp only [List.mem_cons, List.not_mem_nil, or_false] at *; omega
theorem hyB5 (t : Fin grid0.N) (h0 : ((grid0.coords t) 1).val = 0) (hh : ¬ ((grid0.coords t) 0).val = 0) : ((grid0.coords t) 1).val ∈ [0, 4, 7, 9] := by
  simp only [List.mem_cons, List.not_mem_nil, or_false] at *; omega
theorem hyB6 (t : Fin grid0.N) (h0 : ((grid0.coords t) 1).val = 0) (hh : ¬ ((grid0.coords t) 0).val = 0) : ¬ ((grid0.coords t) 1).val ∈ [3, 6, 8, 9] := by
  simp only [List.mem_cons, List.not_mem_nil, or_false] at *; omega
theorem hyB7 (t : Fin grid0.N) (h0 : ((grid0.coords t) 1).val = 0) (hh : ¬ ((grid0.coords t) 0).val = 0) : ¬ ((grid0.coords t) 1).val = 9 := by
  simp only [List.mem_cons, List.not_mem_nil, or_false] at *; omega
theorem hyC1 (t : Fin grid0.N) (h0 : ((grid0.coords t) 1).val ∈ [1, 2, 5]) : ¬ ((grid0.coords t) 1).val = 0 := by
  simp only [List.mem_cons, List.not_mem_nil, or_false] at *; omega
theorem hyC2 (t : Fin grid0.N) (h0 : ((grid0.coords t) 1).val ∈ [1, 2, 5]) : ¬ (((grid0.coords t) 1).val = 0 ∧ ((grid0.coords t) 0).val = 0) := by
  simp only [List.mem_cons, List.not_mem_nil, or_false] at *; omega
theorem hyC3 (t : Fin grid0.N) (h0 : ((grid0.coords t) 1).val ∈ [1, 2, 5]) : ¬ ((grid0.coords t) 1).val ∈ [0, 4, 7, 9] := by
  simp only [List.mem_cons, List.not_mem_nil, or_false] at *; omega
theorem hyC4 (t : Fin grid0.N) (h0 : ((grid0.coords t) 1).val ∈ [1, 2, 5]) : (¬ ((grid0.coords t) 1).val ∈ [0, 4, 7, 9]) := by
  simp only [List.mem_cons, List.not_mem_nil, or_false] at *; omega
theorem hyC5 (t : Fin grid0.N) (h0 : ((grid0.coords t) 1).val ∈ [1, 2, 5]) : ¬ ((grid0.coords t) 1).val ∈ [0, 4, 7, 9] := by
  simp only [List.mem_cons, List.not_mem_nil, or_false] at *; omega
theorem hyC6 (t : Fin grid0.N) (h0 : ((grid0.coords t) 1).val ∈ [1, 2, 5]) : ¬ ((grid0.coords t) 1).val ∈ [3, 6, 8, 9] := by
  simp only [List.mem_cons, List.not_mem_nil, or_false] at *; omega
theorem hyC7 (t : Fin grid0.N) (h0 : ((grid0.coords t) 1).val ∈ [1, 2, 5]) : ¬ ((grid0.coords t) 1).val = 9 := by
  simp only [List.mem_cons, List.not_mem_nil, or_false] at *; omega
theorem hyD1 (t : Fin grid0.N) (h0 : ((grid0.coords t) 1).val ∈ [3, 6, 8]) : ¬ ((grid0.coords t) 1).val = 0 := by
  simp only [List.mem_cons, List.not_mem_nil, or_false] at *; omega
theorem hyD2 (t : Fin grid0.N) (h0 : ((grid0.coords t) 1).val ∈ [3, 6, 8]) : ¬ (((grid0.coords t) 1).val = 0 ∧ ((grid0.coords t) 0).val = 0) := by
  simp only [List.mem_cons, List.not_mem_nil, or_false] at *; omega
theorem hyD3 (t : Fin grid0.N) (h0 : ((grid0.coords t) 1).val ∈ [3, 6, 8]) : ¬ ((grid0.coords t) 1).val ∈ [0, 4, 7, 9] := by
  simp only [List.mem_cons, List.not_mem_nil, or_false] at *; omega
theorem hyD4 (t : Fin grid0.N) (h0 : ((grid0.coords t) 1).val ∈ [3, 6, 8]) : (¬ ((grid0.coords t) 1).val ∈ [0, 4, 7, 9]) := by
  simp only [List.mem_cons, List.not_mem_nil, or_false] at *; omega
theorem hyD5 (t : Fin grid0.N) (h0 : ((grid0.coords t) 1).val ∈ [3, 6, 8]) : ¬ ((grid0.coords t) 1).val ∈ [0, 4, 7, 9] := by
  simp only [List.mem_cons, List.not_mem_nil, or_false] at *; omega
theorem hyD6 (t : Fin grid0.N) (h0 : ((grid0.coords t) 1).val ∈ [3, 6, 8]) : ((grid0.coords t) 1).val ∈ [3, 6, 8, 9] := by
  simp only [List.mem_cons, List.not_mem_nil, or_false] at *; omega
theorem hyD7 (t : Fin grid0.N) (h0 : ((grid0.coords t) 1).val ∈ [3, 6, 8]) : ¬ ((grid0.coords t) 1).val = 9 := by
  simp only [List.mem_cons, List.not_mem_nil, or_false] at *; omega
theorem hyE1 (t : Fin grid0.N) (h0 : ((grid0.coords t) 1).val ∈ [4, 7]) : ¬ ((grid0.coords t) 1).val = 0 := by
  simp only [List.mem_cons, List.not_mem_nil, or_false] at *; omega
theorem hyE2 (t : Fin grid0.N) (h0 : ((grid0.coords t) 1).val ∈ [4, 7]) : ¬ (((grid0.coords t) 1).val = 0 ∧ ((grid0.coords t) 0).val = 0) := by
  simp only [List.mem_cons, List.not_mem_nil, or_false] at *; omega
theorem hyE3 (t : Fin grid0.N) (h0 : ((grid0.coords t) 1).val ∈ [4, 7]) : ((grid0.coords t) 1).val ∈ [0, 4, 7, 9] := by
  simp only [List.mem_cons, List.not_mem_nil, or_false] at *; omega
theorem hyE4 (t : Fin grid0.N) (h0 : ((grid0.coords t) 1).val ∈ [4, 7]) : ¬ (¬ ((grid0.coords t) 1).val ∈ [0, 4, 7, 9]) := by
  simp only [List.mem_cons, List.not_mem_nil, or_false] at *; omega
theorem hyE5 (t : Fin grid0.N) (h0 : ((grid0.coords t) 1).val ∈ [4, 7]) : ((grid0.coords t) 1).val ∈ [0, 4, 7, 9] := by
  simp only [List.mem_cons, List.not_mem_nil, or_false] at *; omega
theorem hyE6 (t : Fin grid0.N) (h0 : ((grid0.coords t) 1).val ∈ [4, 7]) : ¬ ((grid0.coords t) 1).val ∈ [3, 6, 8, 9] := by
  simp only [List.mem_cons, List.not_mem_nil, or_false] at *; omega
theorem hyE7 (t : Fin grid0.N) (h0 : ((grid0.coords t) 1).val ∈ [4, 7]) : ¬ ((grid0.coords t) 1).val = 9 := by
  simp only [List.mem_cons, List.not_mem_nil, or_false] at *; omega
theorem hyG1 (t : Fin grid0.N) (h0 : ((grid0.coords t) 1).val = 9) : ¬ ((grid0.coords t) 1).val = 0 := by
  simp only [List.mem_cons, List.not_mem_nil, or_false] at *; omega
theorem hyG2 (t : Fin grid0.N) (h0 : ((grid0.coords t) 1).val = 9) : ¬ (((grid0.coords t) 1).val = 0 ∧ ((grid0.coords t) 0).val = 0) := by
  simp only [List.mem_cons, List.not_mem_nil, or_false] at *; omega
theorem hyG3 (t : Fin grid0.N) (h0 : ((grid0.coords t) 1).val = 9) : ((grid0.coords t) 1).val ∈ [0, 4, 7, 9] := by
  simp only [List.mem_cons, List.not_mem_nil, or_false] at *; omega
theorem hyG4 (t : Fin grid0.N) (h0 : ((grid0.coords t) 1).val = 9) : ¬ (¬ ((grid0.coords t) 1).val ∈ [0, 4, 7, 9]) := by
  simp only [List.mem_cons, List.not_mem_nil, or_false] at *; omega
theorem hyG5 (t : Fin grid0.N) (h0 : ((grid0.coords t) 1).val = 9) : ((grid0.coords t) 1).val ∈ [0, 4, 7, 9] := by
  simp only [List.mem_cons, List.not_mem_nil, or_false] at *; omega
theorem hyG6 (t : Fin grid0.N) (h0 : ((grid0.coords t) 1).val = 9) : ((grid0.coords t) 1).val ∈ [3, 6, 8, 9] := by
  simp only [List.mem_cons, List.not_mem_nil, or_false] at *; omega
theorem hyG7 (t : Fin grid0.N) (h0 : ((grid0.coords t) 1).val = 9) : ((grid0.coords t) 1).val = 9 := by
  simp only [List.mem_cons, List.not_mem_nil, or_false] at *; omega

/-- The contents of the buffers when the region begins: after the host operations before it. -/
abbrev opss : List (List (HloOp τ sig (Elt F))) := [hostOps0, hostOps0_1, hostOps0_2, hostOps0_3, hostOps0_4, hostOps0_5, hostOps0_6]
def V (c : Dev nD) (b : Ref sig .tc) : Buf (Elt F) ((c : Thread nD τ).loc b) := StableHlo.after (opss (F := F)).flatten (fun b => m (c, b)) b

/-- Window `w`'s block at point `t`, of its array as the region finds it. -/
def iblk (c : Dev nD) (w : Fin (cfgA (F := F)).W) (t : Fin (cfgA (F := F)).N) : (((cfgA (F := F)).win w).xblock ((cfgA (F := F)).grid.coords t)).Idx → Elt F ((cfgA (F := F)).win w).elt :=
  (((cfgA (F := F)).win w).blk t).view.read (Elt F) (V m c (Pipeline.arrRef spec0 w))

abbrev ms0 (t : Fin (cfgA (F := F)).N) : Memref sig .tc .vmem S1024x256 .bf16 := spec0_0.stage ((cfgA (F := F)).slots t (0 : Fin 9))
theorem hs0 (t : Fin (cfgA (F := F)).N) : (ms0 (F := F) t).IsWhole := hstage0_0 (((cfgA (F := F)).slots t (0 : Fin 9)).cast nbuf0_0)
abbrev ms1 (t : Fin (cfgA (F := F)).N) : Memref sig .tc .vmem S1024x256 .bf16 := spec0_1.stage ((cfgA (F := F)).slots t (1 : Fin 9))
theorem hs1 (t : Fin (cfgA (F := F)).N) : (ms1 (F := F) t).IsWhole := hstage0_1 (((cfgA (F := F)).slots t (1 : Fin 9)).cast nbuf0_1)
abbrev ms2 (t : Fin (cfgA (F := F)).N) : Memref sig .tc .vmem S1024x128 .bf16 := spec0_2.stage ((cfgA (F := F)).slots t (2 : Fin 9))
theorem hs2 (t : Fin (cfgA (F := F)).N) : (ms2 (F := F) t).IsWhole := hstage0_2 (((cfgA (F := F)).slots t (2 : Fin 9)).cast nbuf0_2)
abbrev ms3 (t : Fin (cfgA (F := F)).N) : Memref sig .tc .vmem S1024x128 .bf16 := spec0_3.stage ((cfgA (F := F)).slots t (3 : Fin 9))
theorem hs3 (t : Fin (cfgA (F := F)).N) : (ms3 (F := F) t).IsWhole := hstage0_3 (((cfgA (F := F)).slots t (3 : Fin 9)).cast nbuf0_3)
abbrev ms4 (t : Fin (cfgA (F := F)).N) : Memref sig .tc .vmem S1x1024x128 .f32 := spec0_4.stage ((cfgA (F := F)).slots t (4 : Fin 9))
theorem hs4 (t : Fin (cfgA (F := F)).N) : (ms4 (F := F) t).IsWhole := hstage0_4 (((cfgA (F := F)).slots t (4 : Fin 9)).cast nbuf0_4)
abbrev ms5 (t : Fin (cfgA (F := F)).N) : Memref sig .tc .vmem S1024x128 .f32 := spec0_5.stage ((cfgA (F := F)).slots t (5 : Fin 9))
theorem hs5 (t : Fin (cfgA (F := F)).N) : (ms5 (F := F) t).IsWhole := hstage0_5 (((cfgA (F := F)).slots t (5 : Fin 9)).cast nbuf0_5)
abbrev ms6 (t : Fin (cfgA (F := F)).N) : Memref sig .tc .vmem S4096x256 .f32 := spec0_6.stage ((cfgA (F := F)).slots t (6 : Fin 9))
theorem hs6 (t : Fin (cfgA (F := F)).N) : (ms6 (F := F) t).IsWhole := hstage0_6 (((cfgA (F := F)).slots t (6 : Fin 9)).cast nbuf0_6)
abbrev ms7 (t : Fin (cfgA (F := F)).N) : Memref sig .tc .vmem S1024x256 .bf16 := spec0_7.stage ((cfgA (F := F)).slots t (7 : Fin 9))
theorem hs7 (t : Fin (cfgA (F := F)).N) : (ms7 (F := F) t).IsWhole := hstage0_7 (((cfgA (F := F)).slots t (7 : Fin 9)).cast nbuf0_7)
abbrev ms8 (t : Fin (cfgA (F := F)).N) : Memref sig .tc .vmem S4096x128 .f32 := spec0_8.stage ((cfgA (F := F)).slots t (8 : Fin 9))
theorem hs8 (t : Fin (cfgA (F := F)).N) : (ms8 (F := F) t).IsWhole := hstage0_8 (((cfgA (F := F)).slots t (8 : Fin 9)).cast nbuf0_8)
abbrev sc0 : Memref sig .tc .vmem S1024x256 .f32 := Memref.whole cc0_scratch0
abbrev sc1 : Memref sig .tc .vmem S1024x128 .f32 := Memref.whole cc0_scratch1

/-- What the buffers that the body writes hold: the gradient of q of one head, the gradient of keys and values
of one block, the gradient of the shared rotary key, and the two accumulators. -/
structure St (F : FTy → Type) where
  q : Vec F S4096x256 .f32
  kv : Vec F S1024x256 .bf16
  kr : Vec F S4096x128 .f32
  k : Vec F S1024x256 .f32
  v : Vec F S1024x128 .f32

/-- The run of the body at a point of case A. -/
abbrev rA (c : Dev nD) (t : Fin (cfgA (F := F)).N)  (h0 : ((grid0.coords t) 1).val = 0) (hh : ((grid0.coords t) 0).val = 0) :=
  runA (F := F) c (grid0.coords t) (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (ms7 (F := F) t) (hs7 t) (ms8 (F := F) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t)  (hchk _) ((cond1_iff _).mpr (hyA1 t h0 hh)) ((cond2_iff _).mpr (hyA2 t h0 hh)) ((hyp3 _).mpr (hyA3 t h0 hh)) (fun h => hyA4 t h0 hh ((hyp4 _).mp h)) ((hyp5 _).mpr (hyA5 t h0 hh)) (fun h => hyA6 t h0 hh ((hyp6 _).mp h)) (fun h => hyA7 t h0 hh ((cond7_iff _).mp h))

/-- The run of the body at a point of case B. -/
abbrev rB (c : Dev nD) (t : Fin (cfgA (F := F)).N)  (h0 : ((grid0.coords t) 1).val = 0) (hh : ¬ ((grid0.coords t) 0).val = 0) :=
  runB (F := F) c (grid0.coords t) (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (ms7 (F := F) t) (hs7 t) (ms8 (F := F) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t)  (hchk _) ((cond1_iff _).mpr (hyB1 t h0 hh)) (fun h => hyB2 t h0 hh ((cond2_iff _).mp h)) ((hyp3 _).mpr (hyB3 t h0 hh)) (fun h => hyB4 t h0 hh ((hyp4 _).mp h)) ((hyp5 _).mpr (hyB5 t h0 hh)) (fun h => hyB6 t h0 hh ((hyp6 _).mp h)) (fun h => hyB7 t h0 hh ((cond7_iff _).mp h))

/-- The run of the body at a point of case C. -/
abbrev rC (c : Dev nD) (t : Fin (cfgA (F := F)).N) (q : Vec F S4096x256 .f32) (k : Vec F S1024x256 .f32) (v : Vec F S1024x128 .f32) (h0 : ((grid0.coords t) 1).val ∈ [1, 2, 5]) :=
  runC (F := F) c (grid0.coords t) (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (ms7 (F := F) t) (hs7 t) (ms8 (F := F) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t) q k v (hchk _) (fun h => hyC1 t h0 ((cond1_iff _).mp h)) (fun h => hyC2 t h0 ((cond2_iff _).mp h)) (fun h => hyC3 t h0 ((hyp3 _).mp h)) ((hyp4 _).mpr (hyC4 t h0)) (fun h => hyC5 t h0 ((hyp5 _).mp h)) (fun h => hyC6 t h0 ((hyp6 _).mp h)) (fun h => hyC7 t h0 ((cond7_iff _).mp h))

/-- The run of the body at a point of case D. -/
abbrev rD (c : Dev nD) (t : Fin (cfgA (F := F)).N) (q : Vec F S4096x256 .f32) (kr : Vec F S4096x128 .f32) (k : Vec F S1024x256 .f32) (v : Vec F S1024x128 .f32) (h0 : ((grid0.coords t) 1).val ∈ [3, 6, 8]) :=
  runD (F := F) c (grid0.coords t) (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (ms7 (F := F) t) (hs7 t) (ms8 (F := F) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t) q kr k v (hchk _) (fun h => hyD1 t h0 ((cond1_iff _).mp h)) (fun h => hyD2 t h0 ((cond2_iff _).mp h)) (fun h => hyD3 t h0 ((hyp3 _).mp h)) ((hyp4 _).mpr (hyD4 t h0)) (fun h => hyD5 t h0 ((hyp5 _).mp h)) ((hyp6 _).mpr (hyD6 t h0)) (fun h => hyD7 t h0 ((cond7_iff _).mp h))

/-- The run of the body at a point of case E. -/
abbrev rE (c : Dev nD) (t : Fin (cfgA (F := F)).N) (q : Vec F S4096x256 .f32) (h0 : ((grid0.coords t) 1).val ∈ [4, 7]) :=
  runE (F := F) c (grid0.coords t) (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (ms7 (F := F) t) (hs7 t) (ms8 (F := F) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t) q (hchk _) (fun h => hyE1 t h0 ((cond1_iff _).mp h)) (fun h => hyE2 t h0 ((cond2_iff _).mp h)) ((hyp3 _).mpr (hyE3 t h0)) (fun h => hyE4 t h0 ((hyp4 _).mp h)) ((hyp5 _).mpr (hyE5 t h0)) (fun h => hyE6 t h0 ((hyp6 _).mp h)) (fun h => hyE7 t h0 ((cond7_iff _).mp h))

/-- The run of the body at a point of case G. -/
abbrev rG (c : Dev nD) (t : Fin (cfgA (F := F)).N) (q : Vec F S4096x256 .f32) (kr : Vec F S4096x128 .f32) (h0 : ((grid0.coords t) 1).val = 9) :=
  runG (F := F) c (grid0.coords t) (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (ms7 (F := F) t) (hs7 t) (ms8 (F := F) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t) q kr (hchk _) (fun h => hyG1 t h0 ((cond1_iff _).mp h)) (fun h => hyG2 t h0 ((cond2_iff _).mp h)) ((hyp3 _).mpr (hyG3 t h0)) (fun h => hyG4 t h0 ((hyp4 _).mp h)) ((hyp5 _).mpr (hyG5 t h0)) ((hyp6 _).mpr (hyG6 t h0)) ((cond7_iff _).mpr (hyG7 t h0))

/-- The buffers after a point of case A. -/
def nxtA (c : Dev nD) (t : Fin (cfgA (F := F)).N) (s : St F) (h0 : ((grid0.coords t) 1).val = 0) (hh : ((grid0.coords t) 0).val = 0) : St F :=
  { q := (rA m c t  h0 hh).1, kv := s.kv, kr := (rA m c t  h0 hh).2.1, k := (rA m c t  h0 hh).2.2.1, v := (rA m c t  h0 hh).2.2.2.1 }

/-- The buffers after a point of case B. -/
def nxtB (c : Dev nD) (t : Fin (cfgA (F := F)).N) (s : St F) (h0 : ((grid0.coords t) 1).val = 0) (hh : ¬ ((grid0.coords t) 0).val = 0) : St F :=
  { q := (rB m c t  h0 hh).1, kv := s.kv, kr := s.kr, k := (rB m c t  h0 hh).2.1, v := (rB m c t  h0 hh).2.2.1 }

/-- The buffers after a point of case C. -/
def nxtC (c : Dev nD) (t : Fin (cfgA (F := F)).N) (s : St F) (h0 : ((grid0.coords t) 1).val ∈ [1, 2, 5]) : St F :=
  { q := (rC m c t s.q s.k s.v h0).1, kv := s.kv, kr := s.kr, k := (rC m c t s.q s.k s.v h0).2.1, v := (rC m c t s.q s.k s.v h0).2.2.1 }

/-- The buffers after a point of case D. -/
def nxtD (c : Dev nD) (t : Fin (cfgA (F := F)).N) (s : St F) (h0 : ((grid0.coords t) 1).val ∈ [3, 6, 8]) : St F :=
  { q := (rD m c t s.q s.kr s.k s.v h0).1, kv := (rD m c t s.q s.kr s.k s.v h0).2.1, kr := (rD m c t s.q s.kr s.k s.v h0).2.2.1, k := (rD m c t s.q s.kr s.k s.v h0).2.2.2.1, v := (rD m c t s.q s.kr s.k s.v h0).2.2.2.2.1 }

/-- The buffers after a point of case E. -/
def nxtE (c : Dev nD) (t : Fin (cfgA (F := F)).N) (s : St F) (h0 : ((grid0.coords t) 1).val ∈ [4, 7]) : St F :=
  { q := (rE m c t s.q h0).1, kv := s.kv, kr := s.kr, k := (rE m c t s.q h0).2.1, v := (rE m c t s.q h0).2.2.1 }

/-- The buffers after a point of case G. -/
def nxtG (c : Dev nD) (t : Fin (cfgA (F := F)).N) (s : St F) (h0 : ((grid0.coords t) 1).val = 9) : St F :=
  { q := (rG m c t s.q s.kr h0).1, kv := (rG m c t s.q s.kr h0).2.1, kr := (rG m c t s.q s.kr h0).2.2.1, k := (rG m c t s.q s.kr h0).2.2.2.1, v := (rG m c t s.q s.kr h0).2.2.2.2.1 }

/-- What the buffers hold after point `t`, from what they held before it. -/
def step (c : Dev nD) (t : Fin (cfgA (F := F)).N) (s : St F) : St F :=
  if h0 : ((grid0.coords t) 1).val = 0 then
    if hh : ((grid0.coords t) 0).val = 0 then nxtA m c t s h0 hh
    else nxtB m c t s h0 hh
  else if h1 : ((grid0.coords t) 1).val ∈ [1, 2, 5] then nxtC m c t s h1
  else if h2 : ((grid0.coords t) 1).val ∈ [3, 6, 8] then nxtD m c t s h2
  else if h3 : ((grid0.coords t) 1).val ∈ [4, 7] then nxtE m c t s h3
  else if h4 : ((grid0.coords t) 1).val = 9 then nxtG m c t s h4
  else s

theorem step_A (c : Dev nD) (t : Fin (cfgA (F := F)).N) (s : St F) (h0 : ((grid0.coords t) 1).val = 0) (hh : ((grid0.coords t) 0).val = 0) :
    step m c t s = nxtA m c t s h0 hh := by
  rw [step, dif_pos h0, dif_pos hh]

theorem step_B (c : Dev nD) (t : Fin (cfgA (F := F)).N) (s : St F) (h0 : ((grid0.coords t) 1).val = 0) (hh : ¬ ((grid0.coords t) 0).val = 0) :
    step m c t s = nxtB m c t s h0 hh := by
  rw [step, dif_pos h0, dif_neg hh]

theorem step_C (c : Dev nD) (t : Fin (cfgA (F := F)).N) (s : St F) (h0 : ((grid0.coords t) 1).val ∈ [1, 2, 5]) :
    step m c t s = nxtC m c t s h0 := by
  rw [step, dif_neg (by simp only [List.mem_cons, List.not_mem_nil, or_false] at *; omega), dif_pos h0]

theorem step_D (c : Dev nD) (t : Fin (cfgA (F := F)).N) (s : St F) (h0 : ((grid0.coords t) 1).val ∈ [3, 6, 8]) :
    step m c t s = nxtD m c t s h0 := by
  rw [step, dif_neg (by simp only [List.mem_cons, List.not_mem_nil, or_false] at *; omega), dif_neg (by simp only [List.mem_cons, List.not_mem_nil, or_false] at *; omega), dif_pos h0]

theorem step_E (c : Dev nD) (t : Fin (cfgA (F := F)).N) (s : St F) (h0 : ((grid0.coords t) 1).val ∈ [4, 7]) :
    step m c t s = nxtE m c t s h0 := by
  rw [step, dif_neg (by simp only [List.mem_cons, List.not_mem_nil, or_false] at *; omega), dif_neg (by simp only [List.mem_cons, List.not_mem_nil, or_false] at *; omega), dif_neg (by simp only [List.mem_cons, List.not_mem_nil, or_false] at *; omega), dif_pos h0]

theorem step_G (c : Dev nD) (t : Fin (cfgA (F := F)).N) (s : St F) (h0 : ((grid0.coords t) 1).val = 9) :
    step m c t s = nxtG m c t s h0 := by
  rw [step, dif_neg (by omega), dif_neg (by simp only [List.mem_cons, List.not_mem_nil, or_false] at *; omega), dif_neg (by simp only [List.mem_cons, List.not_mem_nil, or_false] at *; omega), dif_neg (by simp only [List.mem_cons, List.not_mem_nil, or_false] at *; omega), dif_pos h0]

/-- Any contents: what nothing has been stored into. -/
def st0 : St F := ⟨fun _ => FloatOps.ofBits .f32 0, fun _ => FloatOps.ofBits .bf16 0, fun _ => FloatOps.ofBits .f32 0, fun _ => FloatOps.ofBits .f32 0, fun _ => FloatOps.ofBits .f32 0⟩

/-- What the buffers hold after point `n`. -/
def traj (c : Dev nD) : ℕ → St F
  | 0 => if h : 0 < (cfgA (F := F)).N then step m c ⟨0, h⟩ st0 else st0
  | n + 1 => if h : n + 1 < (cfgA (F := F)).N then step m c ⟨n + 1, h⟩ (traj c n) else st0

theorem traj_succ (c : Dev nD) (t : Fin (cfgA (F := F)).N) (ht : t.val ≠ 0) : traj m c t.val = step m c t (traj m c (t.val - 1)) := by
  obtain ⟨n, hn⟩ := t
  cases n with
  | zero => exact absurd rfl ht
  | succ n => rw [traj, dif_pos hn]; rfl

theorem traj_zero (c : Dev nD) (t : Fin (cfgA (F := F)).N) (ht : t.val = 0) : traj m c t.val = step m c t st0 := by
  obtain ⟨n, hn⟩ := t
  cases n with
  | zero => rw [traj, dif_pos hn]
  | succ n => exact absurd ht (Nat.succ_ne_zero n)

end Cert.KernelIdeal.Flash

end
-- ==== Proof.FlashI.Dats.lean ====
module

public import proofs.«01_k».proof.Proof.FlashI.Traj

/-! The proof data of the attention gradient: what every window holds after each grid point, and which points store, leave or write back a window. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- What lies outside the windows after `n` points: the tables, and the two accumulators. -/
def inv (c : Dev nD) : ℕ → sProp 𝕄
  | 0 => iprop(Pipeline.ΦA spec0 c ∗ Pipeline.ΦT pre0 (tabs (F := F)) c)
  | n + 1 => iprop((((Memref.whole main_c).view.loc (c : Thread nD τ) ↦{fullShare.right} (tabs (F := F) 0)) ∗ ((Memref.whole main_c_0).view.loc (c : Thread nD τ) ↦{fullShare.right} (tabs (F := F) 1)))
      ∗ owns (c : Thread nD τ) sc0 fullShare (traj m c n).k ∗ owns (c : Thread nD τ) sc1 fullShare (traj m c n).v ∗ ∃ r, prngReg c r)

/-- The proof data. -/
def dats (_ : Fin 1) (c : Dev nD) : Dat τ (Elt F) Unit ℕ (UR sig nD τ) ℕ (cfgA (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (traj m c t.val).q
    | ⟨7, _⟩ => (traj m c t.val).kv
    | ⟨8, _⟩ => (traj m c t.val).kr
  Φ t := inv m c t.val
  q _ := fullShare
  owed _ := 0

theorem A_eq (c : Dev nD) (w : Fin (cfgA (F := F)).W) : (dats m 0 c).A w = V m c (Pipeline.arrRef spec0 w) := by
  dsimp only [dats]

theorem after0 (c : Dev nD) (t : Fin (cfgA (F := F)).N) : (dats m 0 c).after 0 t = iblk m c 0 t := rfl
theorem after1 (c : Dev nD) (t : Fin (cfgA (F := F)).N) : (dats m 0 c).after 1 t = iblk m c 1 t := rfl
theorem after2 (c : Dev nD) (t : Fin (cfgA (F := F)).N) : (dats m 0 c).after 2 t = iblk m c 2 t := rfl
theorem after3 (c : Dev nD) (t : Fin (cfgA (F := F)).N) : (dats m 0 c).after 3 t = iblk m c 3 t := rfl
theorem after4 (c : Dev nD) (t : Fin (cfgA (F := F)).N) : (dats m 0 c).after 4 t = iblk m c 4 t := rfl
theorem after5 (c : Dev nD) (t : Fin (cfgA (F := F)).N) : (dats m 0 c).after 5 t = iblk m c 5 t := rfl
theorem after6 (c : Dev nD) (t : Fin (cfgA (F := F)).N) : (dats m 0 c).after 6 t = (traj m c t.val).q := rfl
theorem after7 (c : Dev nD) (t : Fin (cfgA (F := F)).N) : (dats m 0 c).after 7 t = (traj m c t.val).kv := rfl
theorem after8 (c : Dev nD) (t : Fin (cfgA (F := F)).N) : (dats m 0 c).after 8 t = (traj m c t.val).kr := rfl
theorem before0 (c : Dev nD) (t : Fin (cfgA (F := F)).N) (d) : (dats m 0 c).before 0 t d = iblk m c 0 t :=
  (Pipeline.Dat.before_in_eq_fetched (dats m 0 c) 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgA (F := F)).N) (d) : (dats m 0 c).before 1 t d = iblk m c 1 t :=
  (Pipeline.Dat.before_in_eq_fetched (dats m 0 c) 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgA (F := F)).N) (d) : (dats m 0 c).before 2 t d = iblk m c 2 t :=
  (Pipeline.Dat.before_in_eq_fetched (dats m 0 c) 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfgA (F := F)).N) (d) : (dats m 0 c).before 3 t d = iblk m c 3 t :=
  (Pipeline.Dat.before_in_eq_fetched (dats m 0 c) 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin (cfgA (F := F)).N) (d) : (dats m 0 c).before 4 t d = iblk m c 4 t :=
  (Pipeline.Dat.before_in_eq_fetched (dats m 0 c) 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin (cfgA (F := F)).N) (d) : (dats m 0 c).before 5 t d = iblk m c 5 t :=
  (Pipeline.Dat.before_in_eq_fetched (dats m 0 c) 5 rfl (fun _ => rfl) (fun _ _ _ => rfl) (fun t => by rw [after5]; unfold Dat.blockOf iblk; rw [A_eq]; try rfl) t d).trans
    (by unfold Dat.fetched Dat.blockOf iblk; rw [A_eq]; try rfl)

/-! The grid's coordinates, and which points store, leave or write back each output window. -/

theorem crd1 (t : Fin grid0.N) : ((grid0.coords t) 1).val = t.val % 10 := by
  have h : ∀ t : Fin 160, ((grid0.coords (t.cast N_0.symm)) 1).val = t.val % 10 := by decide +kernel
  exact h (t.cast N_0)

theorem crd0 (t : Fin grid0.N) : ((grid0.coords t) 0).val = t.val / 10 := by
  have h : ∀ t : Fin 160, ((grid0.coords (t.cast N_0.symm)) 0).val = t.val / 10 := by decide +kernel
  exact h (t.cast N_0)

theorem idle6 (i : grid0.Coords) : (cfgA (F := F)).idle 6 i = false := by
  show (!(k0_cond1 i == 1#1) && !(k0_cond4 ((tabs (F := F)).atD 0 (k0_off1 i)) ((tabs (F := F)).atD 1 (k0_off1 i)) == 1#1) && !(k0_cond5 ((tabs (F := F)).atD 0 (k0_off1 i)) ((tabs (F := F)).atD 1 (k0_off1 i)) == 1#1) && !(k0_cond7 i == 1#1)) = false
  rw [atD0, atD1]
  by_cases h : (i 1).val ∈ [0, 4, 7, 9]
  · rw [(cond5_iff i).mpr h]; simp
  · rw [(cond4_iff i).mpr h]; simp

theorem idle7 (i : grid0.Coords) : (cfgA (F := F)).idle 7 i = !decide ((i 1).val ∈ [3, 6, 8, 9]) := by
  show (!(k0_cond6 ((tabs (F := F)).atD 0 (k0_off1 i)) == 1#1)) = _
  rw [atD0]
  congr 1
  rw [Bool.eq_iff_iff, beq_iff_eq, decide_eq_true_iff]
  exact cond6_iff i

theorem idle8 (i : grid0.Coords) : (cfgA (F := F)).idle 8 i = (!decide ((i 1).val = 0 ∧ (i 0).val = 0) && !decide ((i 1).val ∈ [3, 6, 8, 9])) := by
  show (!(k0_cond2 i == 1#1) && !(k0_cond6 ((tabs (F := F)).atD 0 (k0_off1 i)) == 1#1)) = _
  rw [atD0]
  congr 2
  · rw [Bool.eq_iff_iff, beq_iff_eq, decide_eq_true_iff]
    exact cond2_iff i
  · rw [Bool.eq_iff_iff, beq_iff_eq, decide_eq_true_iff]
    exact cond6_iff i

theorem flush6 (t : Fin grid0.N) : ((cfgA (F := F)).win 6).flush t = decide (t.val % 10 = 9) := by
  have h : ∀ t : Fin 160, (true && (t.val + 1 = grid0.N || decide (∃ h : t.val + 1 < grid0.N, ∃ a, cc0_transform_6 (grid0.coords ⟨t.val + 1, h⟩) a ≠ cc0_transform_6 (grid0.coords (t.cast N_0.symm)) a))) = decide (t.val % 10 = 9) := by decide +kernel
  rw [Pipeline.Window.flush_eq_flushF]
  exact h (t.cast N_0)

theorem flush8 (t : Fin grid0.N) : ((cfgA (F := F)).win 8).flush t = decide (t.val = 159) := by
  have h : ∀ t : Fin 160, (true && (t.val + 1 = grid0.N || decide (∃ h : t.val + 1 < grid0.N, ∃ a, cc0_transform_8 (grid0.coords ⟨t.val + 1, h⟩) a ≠ cc0_transform_8 (grid0.coords (t.cast N_0.symm)) a))) = decide (t.val = 159) := by decide +kernel
  rw [Pipeline.Window.flush_eq_flushF]
  exact h (t.cast N_0)

/-- Whether a block index `f` of the points changes after point `t`, or `t` is the last. -/
def moves (f : Fin grid0.N → Fin 2 → ℕ) (t : Fin grid0.N) : Bool :=
  (true && (decide (t.val + 1 = grid0.N) || decide (∃ h : t.val + 1 < grid0.N, ∃ a, f ⟨t.val + 1, h⟩ a ≠ f t a)))

theorem flush7 (t : Fin grid0.N) : ((cfgA (F := F)).win 7).flush t = decide (t.val % 10 ∈ [3, 6, 8, 9]) := by
  have h : ∀ t : Fin 160, moves (fun t => ![(cl0 (grid0.coords t)).toNat, (BitVec.ofNat 32 ((grid0.coords t) 0).val).toNat]) (t.cast N_0.symm) = decide (t.val % 10 ∈ [3, 6, 8, 9]) := by
    unfold moves; decide +kernel
  rw [Pipeline.Window.flush_eq_flushF]
  refine Eq.trans ?_ (h (t.cast N_0))
  have e : (fun t : Fin grid0.N => cc0_transform_7 (F := F) k0_off1_inb numel1_S1 tabs (grid0.coords t)) = fun t => ![(cl0 (grid0.coords t)).toNat, (BitVec.ofNat 32 ((grid0.coords t) 0).val).toNat] := funext fun t => tr7 (F := F) (grid0.coords t)
  rw [← e]
  rfl

theorem fresh6 (n : ℕ) (hn : n < 160) : (cfgA (F := F)).fresh 6 n = decide (n % 10 = 0) := by
  cases n with
  | zero => rfl
  | succ n =>
    rw [Pipeline.Cfg.fresh_succ _ _ _ (show n < (cfgA (F := F)).N from lt_of_lt_of_eq (by omega) N_0.symm), idle6, flush6 ⟨n, _⟩, Bool.false_and, Bool.or_false]
    exact decide_eq_decide.mpr (by dsimp only; omega)

theorem fresh8 (n : ℕ) (hn : n < 160) : (cfgA (F := F)).fresh 8 n = decide (n = 0) := by
  induction n with
  | zero => rfl
  | succ n ih =>
    have hN : n < (cfgA (F := F)).N := lt_of_lt_of_eq (by omega) N_0.symm
    rw [Pipeline.Cfg.fresh_succ _ _ _ hN, idle8, flush8, ih (by omega)]
    have h0 : n ≠ 159 := by omega
    dsimp only
    rw [decide_eq_false h0, decide_eq_false (Nat.succ_ne_zero n), Bool.false_or]
    by_cases h : n = 0
    · have e1 := crd1 (⟨n, hN⟩ : Fin grid0.N); have e0 := crd0 (⟨n, hN⟩ : Fin grid0.N)
      rw [decide_eq_true (show ((grid0.coords (⟨n, hN⟩ : Fin grid0.N)) 1).val = 0 ∧ ((grid0.coords (⟨n, hN⟩ : Fin grid0.N)) 0).val = 0 from ⟨by rw [e1]; dsimp only; omega, by rw [e0]; dsimp only; omega⟩)]
      rfl
    · rw [decide_eq_false h, Bool.and_false]

theorem hcarry8 (c : Dev nD) (t : Fin (cfgA (F := F)).N) (ht : t.val ≠ 0) (hi : (cfgA (F := F)).idle 8 (grid0.coords t) = true) :
    (dats m 0 c).after 8 t = (dats m 0 c).after 8 ⟨t.val - 1, by omega⟩ := by
  rw [after8, after8, traj_succ m c t ht, idle8] at *
  rw [Bool.and_eq_true, Bool.not_eq_true', Bool.not_eq_true', decide_eq_false_iff_not, decide_eq_false_iff_not] at hi
  obtain ⟨h2, h6⟩ := hi
  unfold step
  split
  · split
    · exact absurd ⟨by assumption, by assumption⟩ h2
    · rfl
  split
  · rfl
  split
  · exact absurd (by simp only [List.mem_cons, List.not_mem_nil, or_false] at *; omega) h6
  split
  · rfl
  split
  · exact absurd (by simp only [List.mem_cons, List.not_mem_nil, or_false] at *; omega) h6
  · rfl

theorem before6 (c : Dev nD) (t : Fin (cfgA (F := F)).N) (ht : t.val % 10 ≠ 0) (d) : (dats m 0 c).before 6 t d = (traj m c (t.val - 1)).q := by
  have hN : t.val < 160 := lt_of_lt_of_eq t.isLt N_0
  rw [Pipeline.Dat.before_out_traj (dats m 0 c) 6 rfl (fun _ _ => rfl) (fun t _ hi _ => absurd (hi.symm.trans (idle6 _)) (by decide)) t.val t rfl d, fresh6 _ hN, decide_eq_false ht, after6]
  rfl

theorem before8 (c : Dev nD) (t : Fin (cfgA (F := F)).N) (ht : t.val ≠ 0) (d) : (dats m 0 c).before 8 t d = (traj m c (t.val - 1)).kr := by
  have hN : t.val < 160 := lt_of_lt_of_eq t.isLt N_0
  rw [Pipeline.Dat.before_out_traj (dats m 0 c) 8 rfl (fun _ _ => rfl) (fun t ht hi _ => hcarry8 m c t ht hi) t.val t rfl d, fresh8 _ hN, decide_eq_false ht, after8]
  rfl

end Cert.KernelIdeal.Flash

end
-- ==== Proof.FlashI.Body.lean ====
module

public import proofs.«01_k».proof.Proof.FlashI.Dats

/-! The body of the attention gradient at every grid point: what it finds, and what it leaves. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

theorem tables_eq (c : Dev nD) : (Pipeline.ΦT pre0 (tabs (F := F)) c : sProp 𝕄) = iprop(((Memref.whole main_c).view.loc (c : Thread nD τ) ↦{fullShare.right} (tabs (F := F) 0)) ∗ ((Memref.whole main_c_0).view.loc (c : Thread nD τ) ↦{fullShare.right} (tabs (F := F) 1))) :=
  bigSep_univ_eq_bigSepL [(0 : Fin 2), (1 : Fin 2)] (by decide) (by decide) _

theorem inv_succ (c : Dev nD) (n : ℕ) : inv m c (n + 1) = iprop((((Memref.whole main_c).view.loc (c : Thread nD τ) ↦{fullShare.right} (tabs (F := F) 0)) ∗ ((Memref.whole main_c_0).view.loc (c : Thread nD τ) ↦{fullShare.right} (tabs (F := F) 1))) ∗ owns (c : Thread nD τ) sc0 fullShare (traj m c n).k ∗ owns (c : Thread nD τ) sc1 fullShare (traj m c n).v ∗ ∃ r, prngReg c r) := rfl

theorem inv_pos (c : Dev nD) (n : ℕ) (hn : n ≠ 0) : inv m c n = iprop((((Memref.whole main_c).view.loc (c : Thread nD τ) ↦{fullShare.right} (tabs (F := F) 0)) ∗ ((Memref.whole main_c_0).view.loc (c : Thread nD τ) ↦{fullShare.right} (tabs (F := F) 1))) ∗ owns (c : Thread nD τ) sc0 fullShare (traj m c (n - 1)).k ∗ owns (c : Thread nD τ) sc1 fullShare (traj m c (n - 1)).v ∗ ∃ r, prngReg c r) := by
  cases n with
  | zero => exact absurd rfl hn
  | succ n => rfl

/-- At any point the accumulators hold something. -/
theorem inv_any (c : Dev nD) (n : ℕ) : inv m c n ⊢ iprop((((Memref.whole main_c).view.loc (c : Thread nD τ) ↦{fullShare.right} (tabs (F := F) 0)) ∗ ((Memref.whole main_c_0).view.loc (c : Thread nD τ) ↦{fullShare.right} (tabs (F := F) 1))) ∗ (∃ d, owns (c : Thread nD τ) sc0 fullShare d) ∗ (∃ d, owns (c : Thread nD τ) sc1 fullShare d) ∗ ∃ r, prngReg c r) := by
  cases n with
  | zero =>
    show iprop(Pipeline.ΦA spec0 c ∗ Pipeline.ΦT pre0 (tabs (F := F)) c) ⊢ _
    rw [tables_eq]
    unfold Pipeline.ΦA
    rw [scopedRest0_eq]
    iintro ⟨⟨⟨⟨%f, Hf⟩, ⟨%g, Hg⟩⟩, Hr⟩, HT⟩
    isplitl [HT]; · iexact HT
    isplitl [Hf]
    · iexists _; unfold owns; iexists f; isplitr
      · ipureintro; rfl
      rw [View.set_whole]; iexact Hf
    isplitl [Hg]
    · iexists _; unfold owns; iexists g; isplitr
      · ipureintro; rfl
      rw [View.set_whole]; iexact Hg
    iexact Hr
  | succ n =>
    rw [inv_succ]
    iintro ⟨HT, Hf, Hg, Hr⟩
    isplitl [HT]; · iexact HT
    isplitl [Hf]; · iexists _; iexact Hf
    isplitl [Hg]; · iexists _; iexact Hg
    iexact Hr

/-- After the last point the accumulators are given up. -/
theorem inv_out (c : Dev nD) (n : ℕ) : inv m c n ⊢ Pipeline.ΦA spec0 c := by
  refine (inv_any m c n).trans ?_
  unfold Pipeline.ΦA
  rw [scopedRest0_eq]
  unfold owns
  rw [View.set_whole, View.set_whole]
  iintro ⟨-, ⟨%d, %f, -, Hf⟩, ⟨%e, %g, -, Hg⟩, Hr⟩
  isplitr [Hr]
  · isplitl [Hf]
    · iexists f; iexact Hf
    iexists g; iexact Hg
  iexact Hr

/-- The body at point `t`, with its current staging buffers. -/
abbrev bodyAt (t : Fin (cfgA (F := F)).N) : Prog (TpuEff nD τ sig (Elt F) Λ₀ .tc) PUnit :=
  cc0_mla_flash_bwd (grid0.coords t) (Memref.whole main_c) (Memref.isWhole_whole _) (Memref.whole main_c_0) (Memref.isWhole_whole _) (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (ms7 (F := F) t) (hs7 t) (ms8 (F := F) t) (hs8 t) sc0 (Memref.isWhole_whole _) sc1 (Memref.isWhole_whole _)

/-- What the body finds. -/
def bodyPre (c : Dev nD) (t : Fin (cfgA (F := F)).N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)))

/-- What the body leaves. -/
def bodyPost (c : Dev nD) (t : Fin (cfgA (F := F)).N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t)
    ∗ (dats m 0 c).leavesExact 6 t ∗ (dats m 0 c).leavesExact 7 t ∗ (dats m 0 c).leavesExact 8 t)

theorem live6 (c : Dev nD) (t : Fin (cfgA (F := F)).N) (hi : (cfgA (F := F)).idle 6 (grid0.coords t) = false) :
    (dats m 0 c).leavesExact 6 t = owns (c : Thread nD τ) (ms6 t) fullShare ((dats m 0 c).after 6 t) := by
  unfold Dat.leavesExact; rw [hi]; rfl
theorem live7 (c : Dev nD) (t : Fin (cfgA (F := F)).N) (hi : (cfgA (F := F)).idle 7 (grid0.coords t) = false) :
    (dats m 0 c).leavesExact 7 t = owns (c : Thread nD τ) (ms7 t) fullShare ((dats m 0 c).after 7 t) := by
  unfold Dat.leavesExact; rw [hi]; rfl
theorem live8 (c : Dev nD) (t : Fin (cfgA (F := F)).N) (hi : (cfgA (F := F)).idle 8 (grid0.coords t) = false) :
    (dats m 0 c).leavesExact 8 t = owns (c : Thread nD τ) (ms8 t) fullShare ((dats m 0 c).after 8 t) := by
  unfold Dat.leavesExact; rw [hi]; rfl

set_option maxHeartbeats 1600000 in
theorem sound_A (c : Dev nD) (t : Fin (cfgA (F := F)).N) (h0 : ((grid0.coords t) 1).val = 0) (hh : ((grid0.coords t) 0).val = 0) :
    bodyPre m c t ⊢ wp frame (wpE (defs₀ (F := F)) Variants.none c none) Set.univ (bodyAt t) (fun _ => bodyPost m c t) := by
  have e1 := crd1 t
  have e0 := crd0 t
  have hN : t.val < 160 := lt_of_lt_of_eq t.isLt N_0
  have hp0 := h0
  have hp1 := hh
  have ht : t.val = 0 := by omega
  have hs : traj m c t.val = nxtA m c t st0 h0 hh := (traj_zero m c t ht).trans (step_A m c t _ h0 hh)
  have hi7 : (cfgA (F := F)).idle 7 (grid0.coords t) = true := by
    rw [idle7, decide_eq_false (by revert hp0 hp1; rw [e1]; (try simp only [List.mem_cons, List.not_mem_nil, _root_.or_false]); omega)]; rfl
  have hf7 : ((cfgA (F := F)).win 7).flush t = false := by
    rw [flush7, decide_eq_false (by revert hp0 hp1; rw [e1]; (try simp only [List.mem_cons, List.not_mem_nil, _root_.or_false]); omega)]
  have hi8 : (cfgA (F := F)).idle 8 (grid0.coords t) = false := by
    rw [idle8, decide_eq_true ⟨h0, hh⟩]; rfl
  have hΦ0 : (dats m 0 c).Φ t.castSucc = inv m c t.val := rfl
  have hΦ1 : (dats m 0 c).Φ t.succ = inv m c (t.val + 1) := rfl
  unfold bodyPre bodyPost bodyAt
  rw [hΦ0, hΦ1, show (dats m 0 c).owesAt () t.succ = (dats m 0 c).owesAt () t.castSucc from rfl]
  simp only [before0, before1, before2, before3, before4, before5]
  rw [after0, after1, after2, after3, after4, after5, live6 m c t (idle6 _), after6, Dat.leavesExact_idle _ 7 t hi7 hf7, live8 m c t hi8, after8, inv_succ, hs]
  refine (show _ ⊢ _ from sep_mono_left (inv_any m c t.val)).trans ?_
  dsimp only [nxtA]
  iintro ⟨⟨⟨HT0, HT1⟩, ⟨%dk, HK⟩, ⟨%dv, HV⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((rA m c t  h0 hh).2.2.2.2 Set.univ _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H8]; · iexists _; iexact H8
  isplitl [HK]; · iexists _; iexact HK
  isplitl [HV]; · iexists _; iexact HV
  iintro ⟨HT0, HT1, H0, H1, H2, H3, H4, H5, H6, H8, HK, HV⟩
  isplitl [HT0 HT1 HK HV Hr]
  · isplitl [HT0 HT1]
    · isplitl [HT0]; · iexact HT0
      iexact HT1
    isplitl [HK]; · iexact HK
    isplitl [HV]; · iexact HV
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  iexact H8

set_option maxHeartbeats 1600000 in
theorem sound_B (c : Dev nD) (t : Fin (cfgA (F := F)).N) (h0 : ((grid0.coords t) 1).val = 0) (hh : ¬ ((grid0.coords t) 0).val = 0) :
    bodyPre m c t ⊢ wp frame (wpE (defs₀ (F := F)) Variants.none c none) Set.univ (bodyAt t) (fun _ => bodyPost m c t) := by
  have e1 := crd1 t
  have e0 := crd0 t
  have hN : t.val < 160 := lt_of_lt_of_eq t.isLt N_0
  have hp0 := h0
  have hp1 := hh
  have ht : t.val ≠ 0 := by omega
  have hs : traj m c t.val = nxtB m c t (traj m c (t.val - 1)) h0 hh := (traj_succ m c t ht).trans (step_B m c t _ h0 hh)
  have hi7 : (cfgA (F := F)).idle 7 (grid0.coords t) = true := by
    rw [idle7, decide_eq_false (by revert hp0 hp1; rw [e1]; (try simp only [List.mem_cons, List.not_mem_nil, _root_.or_false]); omega)]; rfl
  have hf7 : ((cfgA (F := F)).win 7).flush t = false := by
    rw [flush7, decide_eq_false (by revert hp0 hp1; rw [e1]; (try simp only [List.mem_cons, List.not_mem_nil, _root_.or_false]); omega)]
  have hi8 : (cfgA (F := F)).idle 8 (grid0.coords t) = true := by
    rw [idle8, decide_eq_false (by revert hp0 hp1; rw [e1]; (try simp only [List.mem_cons, List.not_mem_nil, _root_.or_false]); omega), decide_eq_false (by revert hp0 hp1; rw [e1]; (try simp only [List.mem_cons, List.not_mem_nil, _root_.or_false]); omega)]; rfl
  have hf8 : ((cfgA (F := F)).win 8).flush t = false := by
    rw [flush8, decide_eq_false (by revert hp0 hp1; rw [e1]; (try simp only [List.mem_cons, List.not_mem_nil, _root_.or_false]); omega)]
  have hΦ0 : (dats m 0 c).Φ t.castSucc = inv m c t.val := rfl
  have hΦ1 : (dats m 0 c).Φ t.succ = inv m c (t.val + 1) := rfl
  unfold bodyPre bodyPost bodyAt
  rw [hΦ0, hΦ1, show (dats m 0 c).owesAt () t.succ = (dats m 0 c).owesAt () t.castSucc from rfl]
  simp only [before0, before1, before2, before3, before4, before5]
  rw [after0, after1, after2, after3, after4, after5, live6 m c t (idle6 _), after6, Dat.leavesExact_idle _ 7 t hi7 hf7, Dat.leavesExact_idle _ 8 t hi8 hf8, inv_succ, hs]
  refine (show _ ⊢ _ from sep_mono_left (inv_any m c t.val)).trans ?_
  dsimp only [nxtB]
  iintro ⟨⟨⟨HT0, HT1⟩, ⟨%dk, HK⟩, ⟨%dv, HV⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((rB m c t  h0 hh).2.2.2 Set.univ _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HK]; · iexists _; iexact HK
  isplitl [HV]; · iexists _; iexact HV
  iintro ⟨HT0, HT1, H0, H1, H2, H3, H4, H5, H6, HK, HV⟩
  isplitl [HT0 HT1 HK HV Hr]
  · isplitl [HT0 HT1]
    · isplitl [HT0]; · iexact HT0
      iexact HT1
    isplitl [HK]; · iexact HK
    isplitl [HV]; · iexact HV
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  iexists d8; iexact H8

set_option maxHeartbeats 1600000 in
theorem sound_C (c : Dev nD) (t : Fin (cfgA (F := F)).N) (h0 : ((grid0.coords t) 1).val ∈ [1, 2, 5]) :
    bodyPre m c t ⊢ wp frame (wpE (defs₀ (F := F)) Variants.none c none) Set.univ (bodyAt t) (fun _ => bodyPost m c t) := by
  have e1 := crd1 t
  have e0 := crd0 t
  have hN : t.val < 160 := lt_of_lt_of_eq t.isLt N_0
  have hp0 := h0
  have ht : t.val ≠ 0 := (by revert hp0; rw [e1]; (try simp only [List.mem_cons, List.not_mem_nil, _root_.or_false]); omega)
  have hs : traj m c t.val = nxtC m c t (traj m c (t.val - 1)) h0 := (traj_succ m c t ht).trans (step_C m c t _ h0)
  have ht10 : t.val % 10 ≠ 0 := (by revert hp0; rw [e1]; (try simp only [List.mem_cons, List.not_mem_nil, _root_.or_false]); omega)
  have hi7 : (cfgA (F := F)).idle 7 (grid0.coords t) = true := by
    rw [idle7, decide_eq_false (by revert hp0; rw [e1]; (try simp only [List.mem_cons, List.not_mem_nil, _root_.or_false]); omega)]; rfl
  have hf7 : ((cfgA (F := F)).win 7).flush t = false := by
    rw [flush7, decide_eq_false (by revert hp0; rw [e1]; (try simp only [List.mem_cons, List.not_mem_nil, _root_.or_false]); omega)]
  have hi8 : (cfgA (F := F)).idle 8 (grid0.coords t) = true := by
    rw [idle8, decide_eq_false (by revert hp0; rw [e1]; (try simp only [List.mem_cons, List.not_mem_nil, _root_.or_false]); omega), decide_eq_false (by revert hp0; rw [e1]; (try simp only [List.mem_cons, List.not_mem_nil, _root_.or_false]); omega)]; rfl
  have hf8 : ((cfgA (F := F)).win 8).flush t = false := by
    rw [flush8, decide_eq_false (by revert hp0; rw [e1]; (try simp only [List.mem_cons, List.not_mem_nil, _root_.or_false]); omega)]
  have hΦ0 : (dats m 0 c).Φ t.castSucc = inv m c t.val := rfl
  have hΦ1 : (dats m 0 c).Φ t.succ = inv m c (t.val + 1) := rfl
  unfold bodyPre bodyPost bodyAt
  rw [hΦ0, hΦ1, show (dats m 0 c).owesAt () t.succ = (dats m 0 c).owesAt () t.castSucc from rfl]
  simp only [before0, before1, before2, before3, before4, before5]
  simp only [before6 m c t ht10]
  rw [after0, after1, after2, after3, after4, after5, live6 m c t (idle6 _), after6, Dat.leavesExact_idle _ 7 t hi7 hf7, Dat.leavesExact_idle _ 8 t hi8 hf8, inv_succ, hs]
  rw [inv_pos m c t.val ht]
  dsimp only [nxtC]
  iintro ⟨⟨⟨HT0, HT1⟩, HK, HV, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((rC m c t (traj m c (t.val - 1)).q (traj m c (t.val - 1)).k (traj m c (t.val - 1)).v h0).2.2.2 Set.univ _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HK]; · iexact HK
  isplitl [HV]; · iexact HV
  iintro ⟨HT0, HT1, H0, H1, H2, H3, H4, H5, H6, HK, HV⟩
  isplitl [HT0 HT1 HK HV Hr]
  · isplitl [HT0 HT1]
    · isplitl [HT0]; · iexact HT0
      iexact HT1
    isplitl [HK]; · iexact HK
    isplitl [HV]; · iexact HV
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  iexists d8; iexact H8

set_option maxHeartbeats 1600000 in
theorem sound_D (c : Dev nD) (t : Fin (cfgA (F := F)).N) (h0 : ((grid0.coords t) 1).val ∈ [3, 6, 8]) :
    bodyPre m c t ⊢ wp frame (wpE (defs₀ (F := F)) Variants.none c none) Set.univ (bodyAt t) (fun _ => bodyPost m c t) := by
  have e1 := crd1 t
  have e0 := crd0 t
  have hN : t.val < 160 := lt_of_lt_of_eq t.isLt N_0
  have hp0 := h0
  have ht : t.val ≠ 0 := (by revert hp0; rw [e1]; (try simp only [List.mem_cons, List.not_mem_nil, _root_.or_false]); omega)
  have hs : traj m c t.val = nxtD m c t (traj m c (t.val - 1)) h0 := (traj_succ m c t ht).trans (step_D m c t _ h0)
  have ht10 : t.val % 10 ≠ 0 := (by revert hp0; rw [e1]; (try simp only [List.mem_cons, List.not_mem_nil, _root_.or_false]); omega)
  have hi7 : (cfgA (F := F)).idle 7 (grid0.coords t) = false := by
    rw [idle7, decide_eq_true (by revert hp0; rw [e1]; (try simp only [List.mem_cons, List.not_mem_nil, _root_.or_false]); omega)]; rfl
  have hi8 : (cfgA (F := F)).idle 8 (grid0.coords t) = false := by
    rw [idle8, decide_eq_true (show ((grid0.coords t) 1).val ∈ [3, 6, 8, 9] from (by revert hp0; rw [e1]; (try simp only [List.mem_cons, List.not_mem_nil, _root_.or_false]); omega)), Bool.not_true, Bool.and_false]
  have hΦ0 : (dats m 0 c).Φ t.castSucc = inv m c t.val := rfl
  have hΦ1 : (dats m 0 c).Φ t.succ = inv m c (t.val + 1) := rfl
  unfold bodyPre bodyPost bodyAt
  rw [hΦ0, hΦ1, show (dats m 0 c).owesAt () t.succ = (dats m 0 c).owesAt () t.castSucc from rfl]
  simp only [before0, before1, before2, before3, before4, before5]
  simp only [before6 m c t ht10]
  simp only [before8 m c t ht]
  rw [after0, after1, after2, after3, after4, after5, live6 m c t (idle6 _), after6, live7 m c t hi7, after7, live8 m c t hi8, after8, inv_succ, hs]
  rw [inv_pos m c t.val ht]
  dsimp only [nxtD]
  iintro ⟨⟨⟨HT0, HT1⟩, HK, HV, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((rD m c t (traj m c (t.val - 1)).q (traj m c (t.val - 1)).kr (traj m c (t.val - 1)).k (traj m c (t.val - 1)).v h0).2.2.2.2.2 Set.univ _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [HK]; · iexact HK
  isplitl [HV]; · iexact HV
  iintro ⟨HT0, HT1, H0, H1, H2, H3, H4, H5, H6, H7, H8, HK, HV⟩
  isplitl [HT0 HT1 HK HV Hr]
  · isplitl [HT0 HT1]
    · isplitl [HT0]; · iexact HT0
      iexact HT1
    isplitl [HK]; · iexact HK
    isplitl [HV]; · iexact HV
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 1600000 in
theorem sound_E (c : Dev nD) (t : Fin (cfgA (F := F)).N) (h0 : ((grid0.coords t) 1).val ∈ [4, 7]) :
    bodyPre m c t ⊢ wp frame (wpE (defs₀ (F := F)) Variants.none c none) Set.univ (bodyAt t) (fun _ => bodyPost m c t) := by
  have e1 := crd1 t
  have e0 := crd0 t
  have hN : t.val < 160 := lt_of_lt_of_eq t.isLt N_0
  have hp0 := h0
  have ht : t.val ≠ 0 := (by revert hp0; rw [e1]; (try simp only [List.mem_cons, List.not_mem_nil, _root_.or_false]); omega)
  have hs : traj m c t.val = nxtE m c t (traj m c (t.val - 1)) h0 := (traj_succ m c t ht).trans (step_E m c t _ h0)
  have ht10 : t.val % 10 ≠ 0 := (by revert hp0; rw [e1]; (try simp only [List.mem_cons, List.not_mem_nil, _root_.or_false]); omega)
  have hi7 : (cfgA (F := F)).idle 7 (grid0.coords t) = true := by
    rw [idle7, decide_eq_false (by revert hp0; rw [e1]; (try simp only [List.mem_cons, List.not_mem_nil, _root_.or_false]); omega)]; rfl
  have hf7 : ((cfgA (F := F)).win 7).flush t = false := by
    rw [flush7, decide_eq_false (by revert hp0; rw [e1]; (try simp only [List.mem_cons, List.not_mem_nil, _root_.or_false]); omega)]
  have hi8 : (cfgA (F := F)).idle 8 (grid0.coords t) = true := by
    rw [idle8, decide_eq_false (by revert hp0; rw [e1]; (try simp only [List.mem_cons, List.not_mem_nil, _root_.or_false]); omega), decide_eq_false (by revert hp0; rw [e1]; (try simp only [List.mem_cons, List.not_mem_nil, _root_.or_false]); omega)]; rfl
  have hf8 : ((cfgA (F := F)).win 8).flush t = false := by
    rw [flush8, decide_eq_false (by revert hp0; rw [e1]; (try simp only [List.mem_cons, List.not_mem_nil, _root_.or_false]); omega)]
  have hΦ0 : (dats m 0 c).Φ t.castSucc = inv m c t.val := rfl
  have hΦ1 : (dats m 0 c).Φ t.succ = inv m c (t.val + 1) := rfl
  unfold bodyPre bodyPost bodyAt
  rw [hΦ0, hΦ1, show (dats m 0 c).owesAt () t.succ = (dats m 0 c).owesAt () t.castSucc from rfl]
  simp only [before0, before1, before2, before3, before4, before5]
  simp only [before6 m c t ht10]
  rw [after0, after1, after2, after3, after4, after5, live6 m c t (idle6 _), after6, Dat.leavesExact_idle _ 7 t hi7 hf7, Dat.leavesExact_idle _ 8 t hi8 hf8, inv_succ, hs]
  refine (show _ ⊢ _ from sep_mono_left (inv_any m c t.val)).trans ?_
  dsimp only [nxtE]
  iintro ⟨⟨⟨HT0, HT1⟩, ⟨%dk, HK⟩, ⟨%dv, HV⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((rE m c t (traj m c (t.val - 1)).q h0).2.2.2 Set.univ _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HK]; · iexists _; iexact HK
  isplitl [HV]; · iexists _; iexact HV
  iintro ⟨HT0, HT1, H0, H1, H2, H3, H4, H5, H6, HK, HV⟩
  isplitl [HT0 HT1 HK HV Hr]
  · isplitl [HT0 HT1]
    · isplitl [HT0]; · iexact HT0
      iexact HT1
    isplitl [HK]; · iexact HK
    isplitl [HV]; · iexact HV
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  iexists d8; iexact H8

set_option maxHeartbeats 1600000 in
theorem sound_G (c : Dev nD) (t : Fin (cfgA (F := F)).N) (h0 : ((grid0.coords t) 1).val = 9) :
    bodyPre m c t ⊢ wp frame (wpE (defs₀ (F := F)) Variants.none c none) Set.univ (bodyAt t) (fun _ => bodyPost m c t) := by
  have e1 := crd1 t
  have e0 := crd0 t
  have hN : t.val < 160 := lt_of_lt_of_eq t.isLt N_0
  have hp0 := h0
  have ht : t.val ≠ 0 := (by revert hp0; rw [e1]; (try simp only [List.mem_cons, List.not_mem_nil, _root_.or_false]); omega)
  have hs : traj m c t.val = nxtG m c t (traj m c (t.val - 1)) h0 := (traj_succ m c t ht).trans (step_G m c t _ h0)
  have ht10 : t.val % 10 ≠ 0 := (by revert hp0; rw [e1]; (try simp only [List.mem_cons, List.not_mem_nil, _root_.or_false]); omega)
  have hi7 : (cfgA (F := F)).idle 7 (grid0.coords t) = false := by
    rw [idle7, decide_eq_true (by revert hp0; rw [e1]; (try simp only [List.mem_cons, List.not_mem_nil, _root_.or_false]); omega)]; rfl
  have hi8 : (cfgA (F := F)).idle 8 (grid0.coords t) = false := by
    rw [idle8, decide_eq_true (show ((grid0.coords t) 1).val ∈ [3, 6, 8, 9] from (by revert hp0; rw [e1]; (try simp only [List.mem_cons, List.not_mem_nil, _root_.or_false]); omega)), Bool.not_true, Bool.and_false]
  have hΦ0 : (dats m 0 c).Φ t.castSucc = inv m c t.val := rfl
  have hΦ1 : (dats m 0 c).Φ t.succ = inv m c (t.val + 1) := rfl
  unfold bodyPre bodyPost bodyAt
  rw [hΦ0, hΦ1, show (dats m 0 c).owesAt () t.succ = (dats m 0 c).owesAt () t.castSucc from rfl]
  simp only [before0, before1, before2, before3, before4, before5]
  simp only [before6 m c t ht10]
  simp only [before8 m c t ht]
  rw [after0, after1, after2, after3, after4, after5, live6 m c t (idle6 _), after6, live7 m c t hi7, after7, live8 m c t hi8, after8, inv_succ, hs]
  refine (show _ ⊢ _ from sep_mono_left (inv_any m c t.val)).trans ?_
  dsimp only [nxtG]
  iintro ⟨⟨⟨HT0, HT1⟩, ⟨%dk, HK⟩, ⟨%dv, HV⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((rG m c t (traj m c (t.val - 1)).q (traj m c (t.val - 1)).kr h0).2.2.2.2.2 Set.univ _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [HK]; · iexists _; iexact HK
  isplitl [HV]; · iexists _; iexact HV
  iintro ⟨HT0, HT1, H0, H1, H2, H3, H4, H5, H6, H7, H8, HK, HV⟩
  isplitl [HT0 HT1 HK HV Hr]
  · isplitl [HT0 HT1]
    · isplitl [HT0]; · iexact HT0
      iexact HT1
    isplitl [HK]; · iexact HK
    isplitl [HV]; · iexact HV
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at any grid point. -/
theorem sound_body (c : Dev nD) (t : Fin (cfgA (F := F)).N) :
    bodyPre m c t ⊢ wp frame (wpE (defs₀ (F := F)) Variants.none c none) Set.univ (bodyAt t) (fun _ => bodyPost m c t) := by
  have hp : ((grid0.coords t) 1).val < 10 := ((grid0.coords t) 1).isLt
  by_cases h0 : ((grid0.coords t) 1).val = 0
  · by_cases hh : ((grid0.coords t) 0).val = 0
    · exact sound_A m c t h0 hh
    · exact sound_B m c t h0 hh
  by_cases h1 : ((grid0.coords t) 1).val ∈ [1, 2, 5]
  · exact sound_C m c t h1
  by_cases h2 : ((grid0.coords t) 1).val ∈ [3, 6, 8]
  · exact sound_D m c t h2
  by_cases h3 : ((grid0.coords t) 1).val ∈ [4, 7]
  · exact sound_E m c t h3
  · exact sound_G m c t (by revert hp h0 h1 h2 h3; simp only [List.mem_cons, List.not_mem_nil, _root_.or_false]; omega)

theorem defs₀_row (t : Fin (cfgA (F := F)).N) :
    defs₀ (F := F) .tc (cfgA (F := F)).body ((cfgA (F := F)).bodyArgs t ((cfgA (F := F)).slots t)) = bodyAt t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Flash

end
-- ==== Proof.FlashI.Launch.lean ====
module

public import proofs.«01_k».proof.Proof.FlashI.Body

/-! The launch of the attention gradient and its frame: every execution ends, the arguments stay as they were, every
semaphore counter is zero; and what the three result arrays hold at the end. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers that stretch 0 of the host code writes, in order. -/
abbrev wr0 : List (Ref sig .tc) := [main_c, main_c_0, main_v0, main_v1, main_v2, main_v3, main_v4, main_v5, main_v6, main_v7, main_cst, main_v8, main_v9, main_v10, main_v11, main_v12, main_v13, main_v14, main_v15, main_v16, main_cst_1]

theorem writes0 : (hostOps0 : List (HloOp τ sig (Elt F))).Forall fun op =>
    op.writes ⊆ (wr0.map (Proc.devRef (τ := τ) .tc)).toFinset :=
  StableHlo.forall_writes_sub_of_map rfl

theorem fresh_0 : (hostOps0 : List (HloOp τ sig (Elt F))).Forall fun op => op.fresh = ∅ := by
  simp only [List.Forall]; repeat' constructor

/-- The buffers that stretch 1 of the host code writes, in order. -/
abbrev wr1 : List (Ref sig .tc) := [main_call0_v0, main_call0_v1, main_call0_v2, main_v17]

theorem writes1 : (hostOps0_1 : List (HloOp τ sig (Elt F))).Forall fun op =>
    op.writes ⊆ (wr1.map (Proc.devRef (τ := τ) .tc)).toFinset :=
  StableHlo.forall_writes_sub_of_map rfl

theorem fresh_1 : (hostOps0_1 : List (HloOp τ sig (Elt F))).Forall fun op => op.fresh = ∅ := by
  simp only [List.Forall]; repeat' constructor

/-- The buffers that stretch 2 of the host code writes, in order. -/
abbrev wr2 : List (Ref sig .tc) := [main_cst_2, main_v18, main_v19, main_v20, main_v21, main_v22, main_cst_3, main_v23, main_v24, main_v25, main_v26, main_v27, main_v28, main_v29, main_v30, main_v31, main_v32, main_cst_4, main_v33, main_v34, main_v35, main_v36, main_c_5]

theorem writes2 : (hostOps0_2 : List (HloOp τ sig (Elt F))).Forall fun op =>
    op.writes ⊆ (wr2.map (Proc.devRef (τ := τ) .tc)).toFinset :=
  StableHlo.forall_writes_sub_of_map rfl

theorem fresh_2 : (hostOps0_2 : List (HloOp τ sig (Elt F))).Forall fun op => op.fresh = ∅ := by
  simp only [List.Forall]; repeat' constructor

/-- The buffers that stretch 3 of the host code writes, in order. -/
abbrev wr3 : List (Ref sig .tc) := [main_call1_v0, main_v37]

theorem writes3 : (hostOps0_3 : List (HloOp τ sig (Elt F))).Forall fun op =>
    op.writes ⊆ (wr3.map (Proc.devRef (τ := τ) .tc)).toFinset :=
  StableHlo.forall_writes_sub_of_map rfl

theorem fresh_3 : (hostOps0_3 : List (HloOp τ sig (Elt F))).Forall fun op => op.fresh = ∅ := by
  simp only [List.Forall]; repeat' constructor

/-- The buffers that stretch 4 of the host code writes, in order. -/
abbrev wr4 : List (Ref sig .tc) := [main_v38, main_c_6]

theorem writes4 : (hostOps0_4 : List (HloOp τ sig (Elt F))).Forall fun op =>
    op.writes ⊆ (wr4.map (Proc.devRef (τ := τ) .tc)).toFinset :=
  StableHlo.forall_writes_sub_of_map rfl

theorem fresh_4 : (hostOps0_4 : List (HloOp τ sig (Elt F))).Forall fun op => op.fresh = ∅ := by
  simp only [List.Forall]; repeat' constructor

/-- The buffers that stretch 5 of the host code writes, in order. -/
abbrev wr5 : List (Ref sig .tc) := [main_call2_v0, main_v39]

theorem writes5 : (hostOps0_5 : List (HloOp τ sig (Elt F))).Forall fun op =>
    op.writes ⊆ (wr5.map (Proc.devRef (τ := τ) .tc)).toFinset :=
  StableHlo.forall_writes_sub_of_map rfl

theorem fresh_5 : (hostOps0_5 : List (HloOp τ sig (Elt F))).Forall fun op => op.fresh = ∅ := by
  simp only [List.Forall]; repeat' constructor

/-- The buffers that stretch 6 of the host code writes, in order. -/
abbrev wr6 : List (Ref sig .tc) := [main_v40, main_v41, main_v42, main_v43, main_v44, main_v45]

theorem writes6 : (hostOps0_6 : List (HloOp τ sig (Elt F))).Forall fun op =>
    op.writes ⊆ (wr6.map (Proc.devRef (τ := τ) .tc)).toFinset :=
  StableHlo.forall_writes_sub_of_map rfl

theorem fresh_6 : (hostOps0_6 : List (HloOp τ sig (Elt F))).Forall fun op => op.fresh = ∅ := by
  simp only [List.Forall]; repeat' constructor

/-- The host code is split at its stretches. -/
theorem V_split (c : Dev nD) (b : Ref sig .tc) : V m c b = StableHlo.after hostOps0_6 (StableHlo.after hostOps0_5 (StableHlo.after hostOps0_4 (StableHlo.after hostOps0_3 (StableHlo.after hostOps0_2 (StableHlo.after hostOps0_1 (StableHlo.after hostOps0 (fun b => m (c, b)))))))) (Proc.devRef .tc b) := by
  simp only [V, opss, List.flatten_cons, List.flatten_nil, List.append_nil, StableHlo.after_append]

/-- A buffer that no operation writes holds what it held. -/
theorem V_kept (c : Dev nD) (b : Ref sig .tc) (h0 : b ∉ wr0) (h1 : b ∉ wr1) (h2 : b ∉ wr2) (h3 : b ∉ wr3) (h4 : b ∉ wr4) (h5 : b ∉ wr5) (h6 : b ∉ wr6) :
    V m c b = m (c, Proc.devRef .tc b) := by
  rw [V_split, StableHlo.after_of_writes_sub _ _ writes6 h6, StableHlo.after_of_writes_sub _ _ writes5 h5, StableHlo.after_of_writes_sub _ _ writes4 h4, StableHlo.after_of_writes_sub _ _ writes3 h3, StableHlo.after_of_writes_sub _ _ writes2 h2, StableHlo.after_of_writes_sub _ _ writes1 h1, StableHlo.after_of_writes_sub _ _ writes0 h0]

theorem V_main_arg0 (c : Dev nD) : V m c main_arg0 = m ((c.tc : Thread nD τ).loc main_arg0) :=
  V_kept m c _ (by decide) (by decide) (by decide) (by decide) (by decide) (by decide) (by decide)

theorem V_main_arg1 (c : Dev nD) : V m c main_arg1 = m ((c.tc : Thread nD τ).loc main_arg1) :=
  V_kept m c _ (by decide) (by decide) (by decide) (by decide) (by decide) (by decide) (by decide)

theorem V_main_arg2 (c : Dev nD) : V m c main_arg2 = m ((c.tc : Thread nD τ).loc main_arg2) :=
  V_kept m c _ (by decide) (by decide) (by decide) (by decide) (by decide) (by decide) (by decide)

theorem V_main_arg3 (c : Dev nD) : V m c main_arg3 = m ((c.tc : Thread nD τ).loc main_arg3) :=
  V_kept m c _ (by decide) (by decide) (by decide) (by decide) (by decide) (by decide) (by decide)

theorem V_main_c (c : Dev nD) : V m c main_c = tabs (F := F) 0 := by
  rw [V_split, StableHlo.after_of_writes_sub _ _ writes6 (by decide), StableHlo.after_of_writes_sub _ _ writes5 (by decide), StableHlo.after_of_writes_sub _ _ writes4 (by decide), StableHlo.after_of_writes_sub _ _ writes3 (by decide), StableHlo.after_of_writes_sub _ _ writes2 (by decide), StableHlo.after_of_writes_sub _ _ writes1 (by decide)]
  rw [StableHlo.after_cons, StableHlo.after_of_writes_sub (W := [main_c_0, main_v0, main_v1, main_v2, main_v3, main_v4, main_v5, main_v6, main_v7, main_cst, main_v8, main_v9, main_v10, main_v11, main_v12, main_v13, main_v14, main_v15, main_v16, main_cst_1]) _ _ (StableHlo.forall_writes_sub_of_map rfl) (by decide)]; rfl

theorem V_main_c_0 (c : Dev nD) : V m c main_c_0 = tabs (F := F) 1 := by
  rw [V_split, StableHlo.after_of_writes_sub _ _ writes6 (by decide), StableHlo.after_of_writes_sub _ _ writes5 (by decide), StableHlo.after_of_writes_sub _ _ writes4 (by decide), StableHlo.after_of_writes_sub _ _ writes3 (by decide), StableHlo.after_of_writes_sub _ _ writes2 (by decide), StableHlo.after_of_writes_sub _ _ writes1 (by decide)]
  rw [StableHlo.after_cons, StableHlo.after_cons, StableHlo.after_of_writes_sub (W := [main_v0, main_v1, main_v2, main_v3, main_v4, main_v5, main_v6, main_v7, main_cst, main_v8, main_v9, main_v10, main_v11, main_v12, main_v13, main_v14, main_v15, main_v16, main_cst_1]) _ _ (StableHlo.forall_writes_sub_of_map rfl) (by decide)]; rfl

theorem hpf (c : Dev nD) : ∀ k, V m c ((pcfgs (F := F) 0).pre.ref k) = (adm (F := F)).1 k
  | 0 => V_main_c m c
  | 1 => V_main_c_0 m c

theorem hmain : Pipeline.HMainP (Ix := Unit) (Name := ℕ) (U := UR sig nD τ) (Lvl := ℕ) (pcfgs (F := F)) 0 defs₀ Variants.none m
    main (V m) :=
  Pipeline.hmainP_prefixes pcfgs 0 defs₀ Variants.none m main opss
    ⟨hostOps0_sub, hostOps0_1_sub, hostOps0_2_sub, hostOps0_3_sub, hostOps0_4_sub, hostOps0_5_sub, hostOps0_6_sub⟩
    ⟨fresh_0, fresh_1, fresh_2, fresh_3, fresh_4, fresh_5, fresh_6⟩
    (fun c => (main_chain c).trans rfl)

set_option backward.isDefEq.respectTransparency.types false in
/-- The run of the launch: the arrays of the pipeline end at what the data says, all else as the region found it, and
every counter at zero. -/
theorem run_quiescent : θ_run defs (onTc (τ := τ) (main (F := F))) (s₀ m ρ)
    (fun r => Pipeline.FramePost (Pipeline.pin pcfgs fun _ => adm) (dats m) 0 (V m) r ∧ r.2.sem = fun _ => 0) :=
  Pipeline.θ_run_frameP_track (Q' := _) pcfgs (fun _ => adm) (dats m) (0 : Fin 1) launch0 defs₀ Variants.none m ρ main
    (hbody := fun c => (body_obligation m c).loose) (hshare := fun c => (dats m 0 c).share_full fun _ => rfl)
    (howed := fun _ _ => rfl) (V := V m) (hmain := hmain m) (hA := fun c w => A_eq m c w) (hpf := hpf m)
    (hin := fun c => .rfl) (hout := fun c => inv_out m c 160)

theorem run_main : θ_run defs (onTc (τ := τ) (main (F := F))) (s₀ m ρ)
    (Pipeline.FramePost (Pipeline.pin pcfgs fun _ => adm) (dats m) 0 (V m)) :=
  (θ_run defs _ _).mono (fun _ h => h.1) (run_quiescent m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (show main_arg0 ∈ Pipeline.restRefs sig spec0 by decide)).trans (V_main_arg0 m c),
    ((h.1 c).2 main_arg1 (show main_arg1 ∈ Pipeline.restRefs sig spec0 by decide)).trans (V_main_arg1 m c),
    ((h.1 c).2 main_arg2 (show main_arg2 ∈ Pipeline.restRefs sig spec0 by decide)).trans (V_main_arg2 m c),
    ((h.1 c).2 main_arg3 (show main_arg3 ∈ Pipeline.restRefs sig spec0 by decide)).trans (V_main_arg3 m c)⟩, h.2⟩) (run_quiescent m ρ)

end Cert.KernelIdeal.Flash
-- ==== Proof.FlashK.Plain.lean ====
module

public import proofs.«01_k».proof.Defs
public import proofs.«01_k».proof.Proof.Gen.Kernel.Skeleton
public import proofs.«01_k».proof.Proof.Gen.KernelIdeal.Skeleton

/-! The kernel over machine floats is the program with named constants, each name read as its printed bits. -/

@[expose] public section

set_option maxRecDepth 65536
set_option maxHeartbeats 6000000

noncomputable section

namespace Cert.Kernel.Flash

open Idealize.ShloMosaic Idealize.SL.Sem

/-- Over machine floats a named constant is the number that its bits denote. -/
@[reducible] def plain : Named Bits := ⟨fun _ _ {φ} bits => FloatOps.ofBits φ bits⟩

end Cert.Kernel.Flash
-- ==== Proof.FlashK.Host.lean ====
module

public import proofs.«01_k».proof.Proof.FlashK.Plain

/-! The host code and the launch of the kernel over machine floats. -/

@[expose] public section

set_option maxRecDepth 65536
set_option maxHeartbeats 6000000

noncomputable section

namespace Cert.Kernel.Flash

open Idealize.ShloMosaic Idealize.SL.Sem

/-- The host code around the call is the same in both programs. -/
theorem main_eq : @Cert.Kernel.main Bits _ _ = @Cert.KernelIdeal.main Bits _ plain _ := by
  unfold Cert.Kernel.main Cert.KernelIdeal.main
  rfl

end Cert.Kernel.Flash
-- ==== Proof.FlashK.Same.lean ====
module

public import proofs.«01_k».proof.Proof.FlashK.Plain

/-! The body of the call over machine floats. -/

@[expose] public section

set_option maxRecDepth 65536
set_option maxHeartbeats 6000000

noncomputable section

namespace Cert.Kernel.Flash

open Idealize.ShloMosaic Idealize.SL.Sem

/-- The body is that of the program with named constants, which are read as their bits. -/
theorem body_eq : @Cert.Kernel.defs₀ Bits _ _ = @Cert.KernelIdeal.defs₀ Bits _ plain _ := by
  unfold Cert.Kernel.defs₀ Cert.KernelIdeal.defs₀
  refine congrArg Defs.onTc ?_
  funext l a
  match l, a with
  | 0, (t, s) =>
    show Cert.Kernel.cc0_mla_flash_bwd (F := Bits) _ _ _ _ _ _ _ _ _ _ _ _ _ _ _ _ _ _ _ _ _ _ _ _ _ _ _ = _
    unfold Cert.Kernel.cc0_mla_flash_bwd
    rfl

/-- So the pipelines' bodies are the same. -/
theorem defs_eq : @Cert.Kernel.defs Bits _ _ = @Cert.KernelIdeal.defs Bits _ plain _ := by
  unfold Cert.Kernel.defs Cert.KernelIdeal.defs
  exact congrArg (Pipeline.defs _) body_eq

end Cert.Kernel.Flash
-- ==== Proof.FlashK.Frame.lean ====
module

public import proofs.«01_k».proof.Proof.FlashI.Launch
public import proofs.«01_k».proof.Proof.FlashK.Host
public import proofs.«01_k».proof.Proof.FlashK.Same

/-! The run of the program with named constants, read over machine floats, is the kernel's. -/

@[expose] public section

set_option maxRecDepth 65536
set_option maxHeartbeats 6000000

noncomputable section

namespace Cert.Kernel.Flash

open Idealize.ShloMosaic Idealize.SL.Sem

/-- The kernel over machine floats ends, and leaves its arguments and every counter as they must be. -/
theorem frame : Cert.quiescent_Kernel := fun m ρ _ => by
  rw [main_eq, defs_eq]
  exact @Cert.KernelIdeal.Flash.frame Bits _ plain m ρ

end Cert.Kernel.Flash
-- ==== Proof.FlashV.Strip.lean ====
module

public import proofs.«01_k».proof.Proof.Gen.KernelIdeal.Skeleton
public import Idealize.ShloMosaic.Lib.VecWindow

/-! What one strip of 256 rows adds: the operations of the body, named. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

variable {F : FTy → Type} [FloatOps F] [Named F]

/-- The part of an array that a rectangle covers. -/
def pick {s : Shape} {α : Type} (R : Rect s) (x : s.Idx → α) : R.shape.Idx → α := fun j => x (R.emb j)

theorem readAt_pick {sig : RefSig} {κ : Kind} {sp : Space} {s : Shape} {e : EltTy} {Val : EltTy → Type}
    (m : Memref sig κ sp s e) (h : m.IsWhole) (R : Rect s) (x : s.Idx → Val e) :
    m.view.readAt Val R.toLoadRect (h.unread x) = pick R x := by
  funext j
  exact congrFun (h.read_unread x) (R.emb j)

section Whole
variable {sig : RefSig} {κ : Kind} {sp : Space} {e : EltTy} {Val : EltTy → Type}

theorem cov_k [∀ e, Nonempty (Val e)] (v : View sig κ sp S1024x256 e) (inb inb' : ∀ a, (![0, 0] : Fin 2 → ℕ) a + (![1024, 256] : Fin 2 → ℕ) a ≤ S1024x256.size a)
    (w : (Rect.unit (s := S1024x256) ![0, 0] ![1024, 256] inb).shape.Idx → Val e) (L : List (View.Piece Val S1024x256 e)) :
    v.readCov (⟨Rect.unit ![0, 0] ![1024, 256] inb, w⟩ :: L) (Rect.unit ![0, 0] ![1024, 256] inb').toLoadRect = w := View.readCov_full v inb' inb w L
theorem rd_k (v : View sig κ sp S1024x256 e) (f : v.ty.Contents Val) (inb : ∀ a, (![0, 0] : Fin 2 → ℕ) a + (![1024, 256] : Fin 2 → ℕ) a ≤ S1024x256.size a)
    (w : (Rect.unit (s := S1024x256) ![0, 0] ![1024, 256] inb).shape.Idx → Val e) (L : List (View.Piece Val S1024x256 e)) :
    v.read Val (v.writes Val f (⟨Rect.unit ![0, 0] ![1024, 256] inb, w⟩ :: L)) = w := View.read_writes_full v f inb w L
theorem pick_k {α : Type} (inb : ∀ a, (![0, 0] : Fin 2 → ℕ) a + (![1024, 256] : Fin 2 → ℕ) a ≤ S1024x256.size a) (x : S1024x256.Idx → α) :
    pick (s := S1024x256) (Rect.unit ![0, 0] ![1024, 256] inb) x = x := by
  funext j
  exact congrArg x (Rect.emb_unit_full (s := S1024x256) inb j)

theorem cov_v [∀ e, Nonempty (Val e)] (v : View sig κ sp S1024x128 e) (inb inb' : ∀ a, (![0, 0] : Fin 2 → ℕ) a + (![1024, 128] : Fin 2 → ℕ) a ≤ S1024x128.size a)
    (w : (Rect.unit (s := S1024x128) ![0, 0] ![1024, 128] inb).shape.Idx → Val e) (L : List (View.Piece Val S1024x128 e)) :
    v.readCov (⟨Rect.unit ![0, 0] ![1024, 128] inb, w⟩ :: L) (Rect.unit ![0, 0] ![1024, 128] inb').toLoadRect = w := View.readCov_full v inb' inb w L
theorem rd_v (v : View sig κ sp S1024x128 e) (f : v.ty.Contents Val) (inb : ∀ a, (![0, 0] : Fin 2 → ℕ) a + (![1024, 128] : Fin 2 → ℕ) a ≤ S1024x128.size a)
    (w : (Rect.unit (s := S1024x128) ![0, 0] ![1024, 128] inb).shape.Idx → Val e) (L : List (View.Piece Val S1024x128 e)) :
    v.read Val (v.writes Val f (⟨Rect.unit ![0, 0] ![1024, 128] inb, w⟩ :: L)) = w := View.read_writes_full v f inb w L
theorem pick_v {α : Type} (inb : ∀ a, (![0, 0] : Fin 2 → ℕ) a + (![1024, 128] : Fin 2 → ℕ) a ≤ S1024x128.size a) (x : S1024x128.Idx → α) :
    pick (s := S1024x128) (Rect.unit ![0, 0] ![1024, 128] inb) x = x := by
  funext j
  exact congrArg x (Rect.emb_unit_full (s := S1024x128) inb j)

theorem cov_q [∀ e, Nonempty (Val e)] (v : View sig κ sp S4096x256 e) (inb inb' : ∀ a, (![0, 0] : Fin 2 → ℕ) a + (![4096, 256] : Fin 2 → ℕ) a ≤ S4096x256.size a)
    (w : (Rect.unit (s := S4096x256) ![0, 0] ![4096, 256] inb).shape.Idx → Val e) (L : List (View.Piece Val S4096x256 e)) :
    v.readCov (⟨Rect.unit ![0, 0] ![4096, 256] inb, w⟩ :: L) (Rect.unit ![0, 0] ![4096, 256] inb').toLoadRect = w := View.readCov_full v inb' inb w L
theorem rd_q (v : View sig κ sp S4096x256 e) (f : v.ty.Contents Val) (inb : ∀ a, (![0, 0] : Fin 2 → ℕ) a + (![4096, 256] : Fin 2 → ℕ) a ≤ S4096x256.size a)
    (w : (Rect.unit (s := S4096x256) ![0, 0] ![4096, 256] inb).shape.Idx → Val e) (L : List (View.Piece Val S4096x256 e)) :
    v.read Val (v.writes Val f (⟨Rect.unit ![0, 0] ![4096, 256] inb, w⟩ :: L)) = w := View.read_writes_full v f inb w L
theorem pick_q {α : Type} (inb : ∀ a, (![0, 0] : Fin 2 → ℕ) a + (![4096, 256] : Fin 2 → ℕ) a ≤ S4096x256.size a) (x : S4096x256.Idx → α) :
    pick (s := S4096x256) (Rect.unit ![0, 0] ![4096, 256] inb) x = x := by
  funext j
  exact congrArg x (Rect.emb_unit_full (s := S4096x256) inb j)

theorem cov_r [∀ e, Nonempty (Val e)] (v : View sig κ sp S4096x128 e) (inb inb' : ∀ a, (![0, 0] : Fin 2 → ℕ) a + (![4096, 128] : Fin 2 → ℕ) a ≤ S4096x128.size a)
    (w : (Rect.unit (s := S4096x128) ![0, 0] ![4096, 128] inb).shape.Idx → Val e) (L : List (View.Piece Val S4096x128 e)) :
    v.readCov (⟨Rect.unit ![0, 0] ![4096, 128] inb, w⟩ :: L) (Rect.unit ![0, 0] ![4096, 128] inb').toLoadRect = w := View.readCov_full v inb' inb w L
theorem rd_r (v : View sig κ sp S4096x128 e) (f : v.ty.Contents Val) (inb : ∀ a, (![0, 0] : Fin 2 → ℕ) a + (![4096, 128] : Fin 2 → ℕ) a ≤ S4096x128.size a)
    (w : (Rect.unit (s := S4096x128) ![0, 0] ![4096, 128] inb).shape.Idx → Val e) (L : List (View.Piece Val S4096x128 e)) :
    v.read Val (v.writes Val f (⟨Rect.unit ![0, 0] ![4096, 128] inb, w⟩ :: L)) = w := View.read_writes_full v f inb w L
theorem pick_r {α : Type} (inb : ∀ a, (![0, 0] : Fin 2 → ℕ) a + (![4096, 128] : Fin 2 → ℕ) a ≤ S4096x128.size a) (x : S4096x128.Idx → α) :
    pick (s := S4096x128) (Rect.unit ![0, 0] ![4096, 128] inb) x = x := by
  funext j
  exact congrArg x (Rect.emb_unit_full (s := S4096x128) inb j)

end Whole

/-- The keys of a block: the head's own 128 columns, then the shared rotary ones. -/
def keys (x1 : Vec F S1024x256 .bf16) (x2 : Vec F S1024x128 .bf16) : FVec F S1024x256 .bf16 :=
  concatenate S1024x256 1 [⟨S1024x128, shapeCast S1024x128 (pick (s := S1024x256) (Rect.unit ![0, 0] S1024x128.size inb_S1024x256_S1024x128_0_0) x1) shapeCasts_S1024x128_S1024x128⟩, ⟨S1024x128, shapeCast S1024x128 x2 shapeCasts_S1024x128_S1024x128⟩] concatenates_S1024x128_S1024x128_S1024x256_d1

/-- The values of a block. -/
def vals (x1 : Vec F S1024x256 .bf16) : FVec F S1024x128 .bf16 :=
  shapeCast S1024x128 (pick (s := S1024x256) (Rect.unit ![0, 128] S1024x128.size inb_S1024x256_S1024x128_0_128) x1) shapeCasts_S1024x128_S1024x128

theorem inbQ (r : Fin 4) (a : Fin 2) : (![r.val * 256, 0] : Fin 2 → ℕ) a + S256x256.size a ≤ S1024x256.size a := by
  revert r a; decide
theorem inbO (r : Fin 4) (a : Fin 2) : (![r.val * 256, 0] : Fin 2 → ℕ) a + S256x128.size a ≤ S1024x128.size a := by
  revert r a; decide
theorem inbL (r : Fin 4) (a : Fin 3) : (![0, r.val * 256, 0] : Fin 3 → ℕ) a + S1x256x128.size a ≤ S1x1024x128.size a := by
  revert r a; decide

/-- Strip `r` of the queries, of the output gradients, of the log-sums and of the row sums. -/
def qStrip (r : Fin 4) (x0 : Vec F S1024x256 .bf16) : FVec F S256x256 .bf16 :=
  shapeCast S256x256 (pick (s := S1024x256) (Rect.unit ![r.val * 256, 0] S256x256.size (inbQ r)) x0) shapeCasts_S256x256_S256x256
def oStrip (r : Fin 4) (x3 : Vec F S1024x128 .bf16) : FVec F S256x128 .bf16 :=
  shapeCast S256x128 (pick (s := S1024x128) (Rect.unit ![r.val * 256, 0] S256x128.size (inbO r)) x3) shapeCasts_S256x128_S256x128
def lStrip (r : Fin 4) (x4 : Vec F S1x1024x128 .f32) : FVec F S256x128 .f32 :=
  shapeCast S256x128 (pick (s := S1x1024x128) (Rect.unit ![0, r.val * 256, 0] S1x256x128.size (inbL r)) x4) shapeCasts_S1x256x128_S256x128
def dStrip (r : Fin 4) (x5 : Vec F S1024x128 .f32) : FVec F S256x128 .f32 :=
  shapeCast S256x128 (pick (s := S1024x128) (Rect.unit ![r.val * 256, 0] S256x128.size (inbO r)) x5) shapeCasts_S256x128_S256x128

/-- A strip's 128 columns, each of them the same, laid over the 1024 columns of the keys. -/
def wide (v44 : FVec F S256x128 .f32) : FVec F S256x1024 .f32 :=
  concatenate S256x1024 1 [⟨S256x128, v44⟩, ⟨S256x128, v44⟩, ⟨S256x128, v44⟩, ⟨S256x128, v44⟩, ⟨S256x128, v44⟩, ⟨S256x128, v44⟩, ⟨S256x128, v44⟩, ⟨S256x128, v44⟩] concatenates_S256x128_S256x128_S256x128_S256x128_S256x128_S256x128_S256x128_S256x128_S256x1024_d1

/-- The raw scores of a strip. -/
def raw (K : FVec F S1024x256 .bf16) (q : FVec F S256x256 .bf16) : FVec F S256x1024 .f32 :=
  matmul dot_S256x256_S1024x256_S256x1024_1_1_0_0_n_n none q K (constant S256x1024 .f32 0x00000000#32)

/-- The same with the keys after the query taken out, the strip beginning at row `o` of its block. -/
def masked (o : BitVec 32) (s : FVec F S256x1024 .f32) : FVec F S256x1024 .f32 :=
  select (cmpi .sle (iota .tc S256x1024 32 [1] iota_S256x1024_d1_w32) (addi (broadcast S256x1024 o) (iota .tc S256x1024 32 [0] iota_S256x1024_d0_w32))) s
    (broadcast S256x1024 (Named.named κ "mask" 0xF149F2CA#32 : F .f32))

/-- The softmax's values, from the scores and the rows' log-sums. -/
def prob (s : FVec F S256x1024 .f32) (l : FVec F S256x128 .f32) : FVec F S256x1024 .f32 :=
  exp2 (subf (mulf s (broadcast S256x1024 (Named.named κ "score_log2" 0x3DD53B95#32 : F .f32)))
    (wide (mulf l (broadcast S256x128 (Named.named κ "log2e" 0x3FB8AA3B#32 : F .f32)))))

/-- The gradient of the scores. -/
def dscore (V : FVec F S1024x128 .bf16) (o : FVec F S256x128 .bf16) (p : FVec F S256x1024 .f32) (d : FVec F S256x128 .f32) : FVec F S256x1024 .f32 :=
  mulf p (subf (matmul dot_S256x128_S1024x128_S256x1024_1_1_0_0_n_n none o V (constant S256x1024 .f32 0x00000000#32)) (wide d))

/-- The keys' gradient with a strip added. -/
def addK (ds : FVec F S256x1024 .f32) (q : FVec F S256x256 .bf16) (k : Vec F S1024x256 .f32) : FVec F S1024x256 .f32 :=
  shapeCast S1024x256 (addf k (matmul dot_S256x1024_S256x256_S1024x256_0_0_1_1_n_n none (truncf .bf16 ds bitsLt_bf16_f32) q (constant S1024x256 .f32 0x00000000#32))) shapeCasts_S1024x256_S1024x256

/-- The values' gradient with a strip added. -/
def addV (p : FVec F S256x1024 .f32) (o : FVec F S256x128 .bf16) (v : Vec F S1024x128 .f32) : FVec F S1024x128 .f32 :=
  shapeCast S1024x128 (addf v (matmul dot_S256x1024_S256x128_S1024x128_0_0_1_1_n_n none (truncf .bf16 p bitsLt_bf16_f32) o (constant S1024x128 .f32 0x00000000#32))) shapeCasts_S1024x128_S1024x128

/-- The queries' gradient of a strip, with a block of keys added. -/
def addQ (ds : FVec F S256x1024 .f32) (K : FVec F S1024x256 .bf16) (w : Vec F S256x256 .f32) : FVec F S256x256 .f32 :=
  addf (shapeCast S256x256 w shapeCasts_S256x256_S256x256) (matmul dot_S256x1024_S1024x256_S256x256_1_0_0_1_n_n none (truncf .bf16 ds bitsLt_bf16_f32) K (constant S256x256 .f32 0x00000000#32))

/-- The scores of a strip, without and with the mask. -/
def scores (dg : Bool) (r : Fin 4) (x0 x1 : Vec F S1024x256 .bf16) (x2 : Vec F S1024x128 .bf16) : FVec F S256x1024 .f32 :=
  match dg with
  | false => raw (keys x1 x2) (qStrip r x0)
  | true => masked (match r with | 0 => 0#32 | 1 => 256#32 | 2 => 512#32 | 3 => 768#32) (raw (keys x1 x2) (qStrip r x0))

def probs (dg : Bool) (r : Fin 4) (x0 x1 : Vec F S1024x256 .bf16) (x2 : Vec F S1024x128 .bf16) (x4 : Vec F S1x1024x128 .f32) : FVec F S256x1024 .f32 :=
  prob (scores dg r x0 x1 x2) (lStrip r x4)

def dscores (dg : Bool) (r : Fin 4) (x0 x1 : Vec F S1024x256 .bf16) (x2 x3 : Vec F S1024x128 .bf16) (x4 : Vec F S1x1024x128 .f32) (x5 : Vec F S1024x128 .f32) : FVec F S256x1024 .f32 :=
  dscore (vals x1) (oStrip r x3) (probs dg r x0 x1 x2 x4) (dStrip r x5)

/-- The keys' gradient with a block of queries added. -/
def blockK (dg : Bool) (x0 x1 : Vec F S1024x256 .bf16) (x2 x3 : Vec F S1024x128 .bf16) (x4 : Vec F S1x1024x128 .f32) (x5 : Vec F S1024x128 .f32) (k : Vec F S1024x256 .f32) : FVec F S1024x256 .f32 :=
  addK (dscores dg 3 x0 x1 x2 x3 x4 x5) (qStrip 3 x0) (addK (dscores dg 2 x0 x1 x2 x3 x4 x5) (qStrip 2 x0)
    (addK (dscores dg 1 x0 x1 x2 x3 x4 x5) (qStrip 1 x0) (addK (dscores dg 0 x0 x1 x2 x3 x4 x5) (qStrip 0 x0) k)))

/-- The values' gradient with a block of queries added. -/
def blockV (dg : Bool) (x0 x1 : Vec F S1024x256 .bf16) (x2 x3 : Vec F S1024x128 .bf16) (x4 : Vec F S1x1024x128 .f32) (v : Vec F S1024x128 .f32) : FVec F S1024x128 .f32 :=
  addV (probs dg 3 x0 x1 x2 x4) (oStrip 3 x3) (addV (probs dg 2 x0 x1 x2 x4) (oStrip 2 x3)
    (addV (probs dg 1 x0 x1 x2 x4) (oStrip 1 x3) (addV (probs dg 0 x0 x1 x2 x4) (oStrip 0 x3) v)))

end Cert.KernelIdeal.Flash
-- ==== Proof.FlashV.Rows.lean ====
module

public import proofs.«01_k».proof.Proof.FlashV.Strip
public import Idealize.ShloMosaic.Lib.WritesUnit
public import Idealize.ShloMosaic.Lib.Pointwise.Index
public import proofs.«01_k».proof.Proof.FlashI.Tab

/-! Blocks of rows read and written one after the other in an array of 4096 rows. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

/-- Rows `o ..` of the queries' gradient. -/
def rowsQ {α : Type} (o : ℕ) (q : S4096x256.Idx → α) : S256x256.Idx → α :=
  fun z => q (ix2 (⟨(o + (z 0).val) % 4096, Nat.mod_lt _ (by decide)⟩) (z 1))

/-- Rows `o ..` of the rotary keys' gradient. -/
def rowsR {α : Type} (o : ℕ) (q : S4096x128.Idx → α) : S1024x128.Idx → α :=
  fun z => q (ix2 (⟨(o + (z 0).val) % 4096, Nat.mod_lt _ (by decide)⟩) (z 1))

/-- The array with the four strips of 256 rows from row `n` on replaced. -/
def strips {α : Type} (n : ℕ) (g : Fin 4 → (S256x256.Idx → α) → S256x256.Idx → α) (q : S4096x256.Idx → α) : S4096x256.Idx → α :=
  fun y => if h : n ≤ (y 0).val ∧ (y 0).val < n + 1024 then
    g ⟨((y 0).val - n) / 256, by omega⟩ (rowsQ (n + ((y 0).val - n) / 256 * 256) q)
      (ix2 (⟨((y 0).val - n) % 256, Nat.mod_lt _ (by decide)⟩) (y 1))
  else q y

/-- The array with the block of 1024 rows from row `n` on replaced. -/
def block1 {α : Type} (n : ℕ) (g : (S1024x128.Idx → α) → S1024x128.Idx → α) (q : S4096x128.Idx → α) : S4096x128.Idx → α :=
  fun y => if h : n ≤ (y 0).val ∧ (y 0).val < n + 1024 then
    g (rowsR n q) (ix2 (⟨(y 0).val - n, by omega⟩) (y 1))
  else q y

/-- Two blocks of 128 columns side by side. -/
def sides {α : Type} (a b : S1024x128.Idx → α) : S1024x256.Idx → α :=
  fun y => if h : (y 1).val < 128 then a (ix2 (y 0) (⟨(y 1).val, h⟩))
    else b (ix2 (y 0) (⟨(y 1).val - 128, by have : (y 1).val < 256 := (y 1).isLt; omega⟩))

theorem off2_eq (w : BitVec 32) (n : ℕ) (hn : n < 4) (hw : w = BitVec.ofNat 32 n) (r : Fin 4) :
    k0_off2 w (BitVec.ofNat 32 (r.val * 256)) = ![n * 1024 + r.val * 256, 0] := by
  subst hw
  have : ∀ (n r : Fin 4), k0_off2 (BitVec.ofNat 32 n.val) (BitVec.ofNat 32 (r.val * 256)) = ![n.val * 1024 + r.val * 256, 0] := by decide
  exact this ⟨n, hn⟩ r
theorem off3_eq (w : BitVec 32) (n : ℕ) (hn : n < 4) (hw : w = BitVec.ofNat 32 n) (r : Fin 4) :
    k0_off3 w (BitVec.ofNat 32 (r.val * 256)) = ![n * 1024 + r.val * 256, 0] := by
  subst hw
  have : ∀ (n r : Fin 4), k0_off3 (BitVec.ofNat 32 n.val) (BitVec.ofNat 32 (r.val * 256)) = ![n.val * 1024 + r.val * 256, 0] := by decide
  exact this ⟨n, hn⟩ r
theorem off4_eq (w : BitVec 32) (n : ℕ) (hn : n < 4) (hw : w = BitVec.ofNat 32 n) :
    k0_off4 w = ![n * 1024, 0] := by
  subst hw
  have : ∀ (n : Fin 4), k0_off4 (BitVec.ofNat 32 n.val) = ![n.val * 1024, 0] := by decide
  exact this ⟨n, hn⟩

section Rows
variable {sig : RefSig} {κ : Kind} {sp : Space} {e : EltTy} {Val : EltTy → Type}

/-- A load of what the stores alone cover. -/
theorem readCov_def {s : Shape} [∀ e, Nonempty (Val e)] (v : View sig κ sp s e) (L : List (View.Piece Val s e)) (r : LoadRect s) :
    v.readCov L r = v.readAt Val r (v.writes Val v.junk L) := rfl

/-- A load of 256 rows. -/
theorem ld_rows (v : View sig κ sp S4096x256 e) (f : v.ty.Contents Val) (q : S4096x256.Idx → Val e) {off : Fin 2 → ℕ} (o : ℕ) (ho : off = ![o, 0])
    (inb : ∀ a, off a + (![256, 256] : Fin 2 → ℕ) a ≤ S4096x256.size a)
    (h : ∀ y : S4096x256.Idx, o ≤ (y 0).val → (y 0).val < o + 256 → v.read Val f y = q y) :
    v.readAt Val (Rect.unit (s := S4096x256) off ![256, 256] inb).toLoadRect f = rowsQ o q := by
  subst ho
  funext z
  have hz : (z 0).val < 256 := (z 0).isLt
  have hb : o + 256 ≤ 4096 := inb 0
  have he : (Rect.unit (s := S4096x256) ![o, 0] ![256, 256] inb).emb z
      = (ix2 (⟨(o + (z 0).val) % 4096, Nat.mod_lt _ (by decide)⟩) (z 1)) := by
    funext a
    refine Fin.ext ?_
    match a with
    | ⟨0, _⟩ =>
      show o + 1 * (z 0).val = (o + (z 0).val) % 4096
      rw [Nat.mod_eq_of_lt (by omega)]; omega
    | ⟨1, _⟩ =>
      show 0 + 1 * (z 1).val = (z 1).val
      omega
  refine (h ((Rect.unit (s := S4096x256) ![o, 0] ![256, 256] inb).emb z) ?_ ?_).trans (congrArg q he)
  · rw [he]; show o ≤ (o + (z 0).val) % 4096; rw [Nat.mod_eq_of_lt (by omega)]; omega
  · rw [he]; show (o + (z 0).val) % 4096 < _; rw [Nat.mod_eq_of_lt (by omega)]; omega

theorem rd_in (v : View sig κ sp S4096x256 e) (f : v.ty.Contents Val) {off : Fin 2 → ℕ} (o : ℕ) (ho : off = ![o, 0])
    (inb : ∀ a, off a + (![256, 256] : Fin 2 → ℕ) a ≤ S4096x256.size a)
    (w : S256x256.Idx → Val e) (L : List (View.Piece Val S4096x256 e)) (y : S4096x256.Idx) (h : o ≤ (y 0).val ∧ (y 0).val < o + 256) :
    v.read Val (v.writes Val f (⟨Rect.unit (s := S4096x256) off ![256, 256] inb, w⟩ :: L)) y
      = w (ix2 (⟨(y 0).val - o, by omega⟩) (y 1)) :=
  View.read_writes_cons_rows_of_mem (d := ![4096, 256]) v f inb w L y
    (ix2 (⟨(y 0).val - o, by omega⟩) (y 1)) ho (by show (y 0).val = o + ((y 0).val - o); omega) rfl

theorem rd_out (v : View sig κ sp S4096x256 e) (f : v.ty.Contents Val) {off : Fin 2 → ℕ} (o : ℕ) (ho : off = ![o, 0])
    (inb : ∀ a, off a + (![256, 256] : Fin 2 → ℕ) a ≤ S4096x256.size a)
    (w : S256x256.Idx → Val e) (L : List (View.Piece Val S4096x256 e)) (y : S4096x256.Idx) (h : (y 0).val < o ∨ o + 256 ≤ (y 0).val) :
    v.read Val (v.writes Val f (⟨Rect.unit (s := S4096x256) off ![256, 256] inb, w⟩ :: L)) y = v.read Val (v.writes Val f L) y :=
  View.read_writes_cons_rows_of_not_mem (d := ![4096, 256]) v f inb w L y ho rfl h

/-- Four strips, each loaded, changed and stored in turn. -/
theorem four (v : View sig κ sp S4096x256 e) (c c' : v.ty.Contents Val) (L : List (View.Piece Val S4096x256 e)) (q : S4096x256.Idx → Val e)
    (h0 : v.read Val (v.writes Val c L) = q) (h0' : v.read Val (v.writes Val c' L) = q)
    (n : ℕ) {f0 f1 f2 f3 : Fin 2 → ℕ} (e0 : f0 = ![n + 0 * 256, 0]) (e1 : f1 = ![n + 1 * 256, 0]) (e2 : f2 = ![n + 2 * 256, 0]) (e3 : f3 = ![n + 3 * 256, 0])
    (i0 : ∀ a, f0 a + (![256, 256] : Fin 2 → ℕ) a ≤ S4096x256.size a) (i1 : ∀ a, f1 a + (![256, 256] : Fin 2 → ℕ) a ≤ S4096x256.size a)
    (i2 : ∀ a, f2 a + (![256, 256] : Fin 2 → ℕ) a ≤ S4096x256.size a) (i3 : ∀ a, f3 a + (![256, 256] : Fin 2 → ℕ) a ≤ S4096x256.size a)
    (g : Fin 4 → (S256x256.Idx → Val e) → S256x256.Idx → Val e)
    (P0 P1 P2 P3 : View.Piece Val S4096x256 e)
    (p0 : P0 = ⟨Rect.unit (s := S4096x256) f0 ![256, 256] i0, g 0 (v.readAt Val (Rect.unit (s := S4096x256) f0 ![256, 256] i0).toLoadRect (v.writes Val c' L))⟩)
    (p1 : P1 = ⟨Rect.unit (s := S4096x256) f1 ![256, 256] i1, g 1 (v.readAt Val (Rect.unit (s := S4096x256) f1 ![256, 256] i1).toLoadRect (v.writes Val c' (P0 :: L)))⟩)
    (p2 : P2 = ⟨Rect.unit (s := S4096x256) f2 ![256, 256] i2, g 2 (v.readAt Val (Rect.unit (s := S4096x256) f2 ![256, 256] i2).toLoadRect (v.writes Val c' (P1 :: P0 :: L)))⟩)
    (p3 : P3 = ⟨Rect.unit (s := S4096x256) f3 ![256, 256] i3, g 3 (v.readAt Val (Rect.unit (s := S4096x256) f3 ![256, 256] i3).toLoadRect (v.writes Val c' (P2 :: P1 :: P0 :: L)))⟩) :
    v.read Val (v.writes Val c (P3 :: P2 :: P1 :: P0 :: L)) = strips n g q := by
  have l0 := ld_rows v (v.writes Val c' L) q _ e0 i0 (fun y _ _ => congrFun h0' y)
  rw [l0] at p0
  have l1 := ld_rows v (v.writes Val c' (P0 :: L)) q _ e1 i1 (fun y h1 h2 => by
    rw [p0, rd_out v c' _ e0 i0 _ _ y (by omega)]; exact congrFun h0' y)
  rw [l1] at p1
  have l2 := ld_rows v (v.writes Val c' (P1 :: P0 :: L)) q _ e2 i2 (fun y h1 h2 => by
    rw [p1, rd_out v c' _ e1 i1 _ _ y (by omega), p0, rd_out v c' _ e0 i0 _ _ y (by omega)]; exact congrFun h0' y)
  rw [l2] at p2
  have l3 := ld_rows v (v.writes Val c' (P2 :: P1 :: P0 :: L)) q _ e3 i3 (fun y h1 h2 => by
    rw [p2, rd_out v c' _ e2 i2 _ _ y (by omega), p1, rd_out v c' _ e1 i1 _ _ y (by omega), p0, rd_out v c' _ e0 i0 _ _ y (by omega)]; exact congrFun h0' y)
  rw [l3] at p3
  clear l0 l1 l2 l3
  funext y
  unfold strips
  have key : ∀ (r : Fin 4) (w : S256x256.Idx → Val e) (hin : n + r.val * 256 ≤ (y 0).val ∧ (y 0).val < n + r.val * 256 + 256)
      (_ : w = g r (rowsQ (n + r.val * 256) q)),
      w (ix2 (⟨(y 0).val - (n + r.val * 256), by omega⟩) (y 1)) =
      if h : n ≤ (y 0).val ∧ (y 0).val < n + 1024 then
        g ⟨((y 0).val - n) / 256, by omega⟩ (rowsQ (n + ((y 0).val - n) / 256 * 256) q)
          (ix2 (⟨((y 0).val - n) % 256, Nat.mod_lt _ (by decide)⟩) (y 1))
      else q y := by
    intro r w hin hw
    have hr := r.isLt
    rw [dif_pos (by omega), hw]
    have hd : ((y 0).val - n) / 256 = r.val := by omega
    have hm : ((y 0).val - n) % 256 = (y 0).val - (n + r.val * 256) := by omega
    have e1 : (⟨((y 0).val - n) / 256, by omega⟩ : Fin 4) = r := Fin.ext hd
    rw [e1, hd]
    refine congrArg _ (funext fun a => Fin.ext ?_)
    match a with
    | ⟨0, _⟩ => exact hm.symm
    | ⟨1, _⟩ => rfl
  by_cases c3 : n + 3 * 256 ≤ (y 0).val ∧ (y 0).val < n + 3 * 256 + 256
  · rw [p3, rd_in v c _ e3 i3 _ _ y c3]; exact key 3 _ c3 rfl
  rw [p3, rd_out v c _ e3 i3 _ _ y (by omega)]
  by_cases c2 : n + 2 * 256 ≤ (y 0).val ∧ (y 0).val < n + 2 * 256 + 256
  · rw [p2, rd_in v c _ e2 i2 _ _ y c2]; exact key 2 _ c2 rfl
  rw [p2, rd_out v c _ e2 i2 _ _ y (by omega)]
  by_cases c1 : n + 1 * 256 ≤ (y 0).val ∧ (y 0).val < n + 1 * 256 + 256
  · rw [p1, rd_in v c _ e1 i1 _ _ y c1]; exact key 1 _ c1 rfl
  rw [p1, rd_out v c _ e1 i1 _ _ y (by omega)]
  by_cases c0 : n + 0 * 256 ≤ (y 0).val ∧ (y 0).val < n + 0 * 256 + 256
  · rw [p0, rd_in v c _ e0 i0 _ _ y c0]; exact key 0 _ c0 rfl
  rw [p0, rd_out v c _ e0 i0 _ _ y (by omega), dif_neg (by omega)]
  exact congrFun h0 y

/-- One block of 1024 rows, loaded, changed and stored. -/
theorem one (v : View sig κ sp S4096x128 e) (c : v.ty.Contents Val) (q : S4096x128.Idx → Val e)
    (h0 : v.read Val c = q) (n : ℕ) {f : Fin 2 → ℕ} (ef : f = ![n, 0])
    (i : ∀ a, f a + (![1024, 128] : Fin 2 → ℕ) a ≤ S4096x128.size a)
    (g : (S1024x128.Idx → Val e) → S1024x128.Idx → Val e) :
    v.read Val (v.writes Val c [⟨Rect.unit (s := S4096x128) f ![1024, 128] i, g (v.readAt Val (Rect.unit (s := S4096x128) f ![1024, 128] i).toLoadRect c)⟩])
      = block1 n g q := by
  subst ef h0
  have hb : n + 1024 ≤ 4096 := i 0
  have hl : v.readAt Val (Rect.unit (s := S4096x128) ![n, 0] ![1024, 128] i).toLoadRect c = rowsR n (v.read Val c) := by
    funext z
    have hz : (z 0).val < 1024 := (z 0).isLt
    refine congrArg (v.read Val c) (funext fun a => Fin.ext ?_)
    match a with
    | ⟨0, _⟩ =>
      show n + 1 * (z 0).val = (n + (z 0).val) % 4096
      rw [Nat.mod_eq_of_lt (by omega)]; omega
    | ⟨1, _⟩ =>
      show 0 + 1 * (z 1).val = (z 1).val
      omega
  rw [hl]
  funext y
  unfold block1
  by_cases h : n ≤ (y 0).val ∧ (y 0).val < n + 1024
  · rw [dif_pos h]
    exact View.read_writes_cons_rows_of_mem (d := ![4096, 128]) v c i _ [] y
      (ix2 (⟨(y 0).val - n, by omega⟩) (y 1)) rfl (by show (y 0).val = n + ((y 0).val - n); omega) rfl
  · rw [dif_neg h]
    exact View.read_writes_cons_rows_of_not_mem (d := ![4096, 128]) v c i _ [] y rfl rfl (by show (y 0).val < n ∨ n + 1024 ≤ (y 0).val; omega)

/-- Two stores of 128 columns, side by side. -/
theorem two (v : View sig κ sp S1024x256 e) (c : v.ty.Contents Val)
    (i0 : ∀ a, (![0, 0] : Fin 2 → ℕ) a + (![1024, 128] : Fin 2 → ℕ) a ≤ S1024x256.size a)
    (i1 : ∀ a, (![0, 128] : Fin 2 → ℕ) a + (![1024, 128] : Fin 2 → ℕ) a ≤ S1024x256.size a)
    (a b : S1024x128.Idx → Val e) :
    v.read Val (v.writes Val c [⟨Rect.unit (s := S1024x256) ![0, 128] ![1024, 128] i1, b⟩, ⟨Rect.unit (s := S1024x256) ![0, 0] ![1024, 128] i0, a⟩])
      = sides a b := by
  funext y
  have hy : (y 1).val < 256 := (y 1).isLt
  unfold sides
  by_cases h : (y 1).val < 128
  · rw [dif_pos h, View.read_writes_cons_unit_of_not_mem v c i1 b _ y rfl 1 (Or.inl (by show (y 1).val < 128; exact h))]
    refine View.read_writes_cons_unit_of_mem v c i0 a _ y (ix2 (y 0) (⟨(y 1).val, h⟩)) rfl (fun a => ?_)
    match a with
    | ⟨0, _⟩ => exact (Nat.zero_add _).symm
    | ⟨1, _⟩ => exact (Nat.zero_add _).symm
  · rw [dif_neg h]
    refine View.read_writes_cons_unit_of_mem v c i1 b _ y
      (ix2 (y 0) (⟨(y 1).val - 128, by omega⟩)) rfl (fun a => ?_)
    match a with
    | ⟨0, _⟩ => exact (Nat.zero_add _).symm
    | ⟨1, _⟩ => show (y 1).val = 128 + ((y 1).val - 128); omega

end Rows

end Cert.KernelIdeal.Flash
-- ==== Proof.FlashV.Block.lean ====
module

public import proofs.«01_k».proof.Proof.FlashV.Rows
public import Idealize.ShloMosaic.Lib.Pointwise
public import Idealize.ShloMosaic.Lib.ValueIdx

/-! What a pair of blocks contributes, over the reals. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

/-- The values of arrays whose entries are real. -/
theorem coe_sum_range (n : ℕ) (f : ℕ → ℝ) : (∑ i : Fin n, ((f i.val : ℝ) : EReal)) = ((∑ i ∈ Finset.range n, f i : ℝ) : EReal) := by
  rw [Finset.sum_range]
  induction n with
  | zero => simp
  | succ n ih => rw [Fin.sum_univ_castSucc, Fin.sum_univ_castSucc, EReal.coe_add]; exact congrArg (· + _) ih

/-- The scale of the scores. -/
def SC : ℝ := (Real.sqrt 192)⁻¹

section Block
variable (Q KV KR DO : ℕ → ℕ → ℝ) (L D : ℕ → ℝ)

/-- A key's 256 columns: the head's own 128, then the rotary ones. -/
def KC (b c : ℕ) : ℝ := if c < 128 then KV b c else KR b (c - 128)
/-- The raw score of a query and a key. -/
def SR (a b : ℕ) : ℝ := ∑ c ∈ Finset.range 256, Q a c * KC KV KR b c
/-- The softmax's value. -/
def PR (dg : Bool) (a b : ℕ) : ℝ := if dg = true ∧ a < b then 0 else Real.exp (SR Q KV KR a b * SC - L a)
/-- The gradient of a score. -/
def DS (dg : Bool) (a b : ℕ) : ℝ := PR Q KV KR L dg a b * ((∑ c ∈ Finset.range 128, DO a c * KV b (128 + c)) - D a)

variable (x0 x1 : Vec Ideal S1024x256 .bf16) (x2 x3 : Vec Ideal S1024x128 .bf16) (x4 : Vec Ideal S1x1024x128 .f32) (x5 : Vec Ideal S1024x128 .f32)
variable (h0 : ∀ a c, x0 (ix2 a c) = ((Q a.val c.val : ℝ) : EReal)) (h1 : ∀ a c, x1 (ix2 a c) = ((KV a.val c.val : ℝ) : EReal))
variable (h2 : ∀ a c, x2 (ix2 a c) = ((KR a.val c.val : ℝ) : EReal)) (h3 : ∀ a c, x3 (ix2 a c) = ((DO a.val c.val : ℝ) : EReal))
variable (h4 : ∀ a c, x4 (ix3 0 a c) = ((L a.val : ℝ) : EReal)) (h5 : ∀ a c, x5 (ix2 a c) = ((D a.val : ℝ) : EReal))

theorem pick2 {n0 n1 m0 m1 : ℕ} {α : Type} (o p : ℕ) (inb : ∀ a, (![o, p] : Fin 2 → ℕ) a + (![m0, m1] : Fin 2 → ℕ) a ≤ (⟨2, ![n0, n1]⟩ : Shape).size a)
    (x : (⟨2, ![n0, n1]⟩ : Shape).Idx → α) (a : Fin m0) (b : Fin m1) :
    pick (s := ⟨2, ![n0, n1]⟩) (Rect.unit ![o, p] ![m0, m1] inb) x (ix2 a b)
      = x (ix2 ⟨o + a.val, by have : o + m0 ≤ n0 := inb 0; omega⟩ ⟨p + b.val, by have : p + m1 ≤ n1 := inb 1; omega⟩) := by
  refine congrArg x (funext fun i => Fin.ext ?_)
  match i with
  | ⟨0, _⟩ => show o + 1 * a.val = o + a.val; omega
  | ⟨1, _⟩ => show p + 1 * b.val = p + b.val; omega

theorem pick3 {n0 n1 n2 m0 m1 m2 : ℕ} {α : Type} (o p q : ℕ) (inb : ∀ a, (![o, p, q] : Fin 3 → ℕ) a + (![m0, m1, m2] : Fin 3 → ℕ) a ≤ (⟨3, ![n0, n1, n2]⟩ : Shape).size a)
    (x : (⟨3, ![n0, n1, n2]⟩ : Shape).Idx → α) (a : Fin m0) (b : Fin m1) (c : Fin m2) :
    pick (s := ⟨3, ![n0, n1, n2]⟩) (Rect.unit ![o, p, q] ![m0, m1, m2] inb) x (ix3 a b c)
      = x (ix3 ⟨o + a.val, by have : o + m0 ≤ n0 := inb 0; omega⟩ ⟨p + b.val, by have : p + m1 ≤ n1 := inb 1; omega⟩ ⟨q + c.val, by have : q + m2 ≤ n2 := inb 2; omega⟩) := by
  refine congrArg x (funext fun i => Fin.ext ?_)
  match i with
  | ⟨0, _⟩ => show o + 1 * a.val = o + a.val; omega
  | ⟨1, _⟩ => show p + 1 * b.val = p + b.val; omega
  | ⟨2, _⟩ => show q + 1 * c.val = q + c.val; omega

include h1 h2 in
theorem keys_apply (b : Fin 1024) (c : Fin 256) : keys x1 x2 (ix2 b c) = ((KC KV KR b.val c.val : ℝ) : EReal) := by
  unfold keys
  by_cases hc : c.val < 128
  · have e : concatenate S1024x256 1 [⟨S1024x128, shapeCast S1024x128 (pick (s := S1024x256) (Rect.unit ![0, 0] S1024x128.size inb_S1024x256_S1024x128_0_0) x1) shapeCasts_S1024x128_S1024x128⟩, ⟨S1024x128, shapeCast S1024x128 x2 shapeCasts_S1024x128_S1024x128⟩] concatenates_S1024x128_S1024x128_S1024x256_d1 (ix2 b c)
        = pick (s := S1024x256) (Rect.unit ![0, 0] ![1024, 128] inb_S1024x256_S1024x128_0_0) x1 (ix2 b ⟨c.val, hc⟩) := by
      pointwise
      rw [dif_pos hc]
    rw [e, pick2, h1, KC, if_pos hc]
    simp
  · have e : concatenate S1024x256 1 [⟨S1024x128, shapeCast S1024x128 (pick (s := S1024x256) (Rect.unit ![0, 0] S1024x128.size inb_S1024x256_S1024x128_0_0) x1) shapeCasts_S1024x128_S1024x128⟩, ⟨S1024x128, shapeCast S1024x128 x2 shapeCasts_S1024x128_S1024x128⟩] concatenates_S1024x128_S1024x128_S1024x256_d1 (ix2 b c)
        = x2 (ix2 b ⟨c.val - 128, by omega⟩) := by
      pointwise
      rw [dif_neg hc]
    rw [e, h2, KC, if_neg hc]

include h1 in
theorem vals_apply (b : Fin 1024) (c : Fin 128) : vals x1 (ix2 b c) = ((KV b.val (128 + c.val) : ℝ) : EReal) := by
  have e : vals x1 (ix2 b c) = pick (s := S1024x256) (Rect.unit ![0, 128] ![1024, 128] inb_S1024x256_S1024x128_0_128) x1 (ix2 b c) := by
    unfold vals; pointwise
  rw [e, pick2, h1]; simp

include h0 in
theorem qStrip_apply (r : Fin 4) (a : Fin 256) (c : Fin 256) : qStrip r x0 (ix2 a c) = ((Q (r.val * 256 + a.val) c.val : ℝ) : EReal) := by
  have e : qStrip r x0 (ix2 a c) = pick (s := S1024x256) (Rect.unit ![r.val * 256, 0] ![256, 256] (inbQ r)) x0 (ix2 a c) := by
    unfold qStrip; pointwise
  rw [e, pick2, h0]; simp

include h3 in
theorem oStrip_apply (r : Fin 4) (a : Fin 256) (c : Fin 128) : oStrip r x3 (ix2 a c) = ((DO (r.val * 256 + a.val) c.val : ℝ) : EReal) := by
  have e : oStrip r x3 (ix2 a c) = pick (s := S1024x128) (Rect.unit ![r.val * 256, 0] ![256, 128] (inbO r)) x3 (ix2 a c) := by
    unfold oStrip; pointwise
  rw [e, pick2, h3]; simp

include h5 in
theorem dStrip_apply (r : Fin 4) (a : Fin 256) (c : Fin 128) : dStrip r x5 (ix2 a c) = ((D (r.val * 256 + a.val) : ℝ) : EReal) := by
  have e : dStrip r x5 (ix2 a c) = pick (s := S1024x128) (Rect.unit ![r.val * 256, 0] ![256, 128] (inbO r)) x5 (ix2 a c) := by
    unfold dStrip; pointwise
  rw [e, pick2, h5]

theorem cast3 (w : Vec Ideal S1x256x128 .f32) (a : Fin 256) (c : Fin 128) :
    shapeCast S256x128 w shapeCasts_S1x256x128_S256x128 (ix2 a c) = w (ix3 0 a c) := by
  pointwise

include h4 in
theorem lStrip_apply (r : Fin 4) (a : Fin 256) (c : Fin 128) : lStrip r x4 (ix2 a c) = ((L (r.val * 256 + a.val) : ℝ) : EReal) := by
  have e : lStrip r x4 (ix2 a c) = pick (s := S1x1024x128) (Rect.unit ![0, r.val * 256, 0] ![1, 256, 128] (inbL r)) x4 (ix3 0 a c) := by
    unfold lStrip
    generalize pick (s := S1x1024x128) (Rect.unit ![0, r.val * 256, 0] S1x256x128.size (inbL r)) x4 = w
    exact cast3 w a c
  rw [e, pick3]
  exact h4 _ _

theorem wide_apply (v : FVec Ideal S256x128 .f32) (a : Fin 256) (b : Fin 1024) :
    wide v (ix2 a b) = v (ix2 a ⟨b.val % 128, Nat.mod_lt _ (by decide)⟩) := by
  unfold wide
  pointwise
  have hb := b.isLt
  split_ifs <;> exact congrArg v (congrArg (ix2 a) (Fin.ext (by show _ = b.val % 128; simp only []; omega)))

end Block
end Cert.KernelIdeal.Flash
-- ==== Proof.FlashV.Maths.lean ====
module

public import proofs.«01_k».proof.Proof.FlashV.Block

/-! The attention's gradient, over the reals. The arguments are functions of natural numbers: `q x h c` the queries at row
    `x`, head `h`, column `c`; `kv` the keys (columns 0 to 127) and values (128 to 255); `kr` the rotary keys; `dd` the
    gradient of the output. -/

@[expose] public section

noncomputable section

namespace Cert.KernelIdeal.Flash

open Finset

variable (q kv dd : ℕ → ℕ → ℕ → ℝ) (kr : ℕ → ℕ → ℝ)

/-- The queries by head, zero from column 192 on. -/
def pQ (h x c : ℕ) : ℝ := if c < 192 then q x h c else 0
/-- The keys and values by head. -/
def pKV (h y c : ℕ) : ℝ := kv y h c
/-- The rotary keys, zero from column 64 on. -/
def pKR (y c : ℕ) : ℝ := if c < 64 then kr y c else 0
/-- The output's gradient by head. -/
def pDO (h x e : ℕ) : ℝ := dd x h e

/-- The score of row `x` against key `y`. -/
def S (h x y : ℕ) : ℝ :=
  ((∑ c ∈ range 128, q x h c * kv y h c) + ∑ c ∈ range 64, kr y c * q x h (128 + c)) * SC
/-- The score's exponential, zero above the diagonal. -/
def E (h x y : ℕ) : ℝ := if y ≤ x then Real.exp (S q kv kr h x y) else 0
/-- The row's sum of exponentials. -/
def Z (h x : ℕ) : ℝ := ∑ y ∈ range 4096, E q kv kr h x y
/-- The attention's weight. -/
def P (h x y : ℕ) : ℝ := E q kv kr h x y / Z q kv kr h x
/-- The row's log-sum. -/
def LL (h x : ℕ) : ℝ := Real.log (Z q kv kr h x)
/-- The weight's gradient. -/
def dp (h x y : ℕ) : ℝ := ∑ e ∈ range 128, dd x h e * kv y h (128 + e)
/-- The row's sum of weights times their gradients. -/
def DD (h x : ℕ) : ℝ := ∑ y ∈ range 4096, P q kv kr h x y * dp kv dd h x y
/-- The gradient of the scaled score. -/
def dS (h x y : ℕ) : ℝ := P q kv kr h x y * (dp kv dd h x y - DD q kv dd kr h x)

theorem E_nonneg (h x y : ℕ) : 0 ≤ E q kv kr h x y := by
  unfold E; split <;> positivity

theorem Z_pos (h x : ℕ) : 0 < Z q kv kr h x := by
  refine Finset.sum_pos' (fun y _ => E_nonneg q kv kr h x y) ⟨0, by simp, ?_⟩
  unfold E; rw [if_pos (Nat.zero_le _)]; exact Real.exp_pos _

theorem SR_S (h x y : ℕ) : SR (pQ q h) (pKV kv h) (pKR kr) x y * SC = S q kv kr h x y := by
  unfold SR S
  congr 1
  rw [show (256 : ℕ) = 128 + (64 + 64) from rfl, sum_range_add, sum_range_add]
  have z : ∑ c ∈ range 64, pQ q h x (128 + (64 + c)) * KC (pKV kv h) (pKR kr) y (128 + (64 + c)) = 0 := by
    refine Finset.sum_eq_zero fun c _ => ?_
    unfold pQ; rw [if_neg (by omega), zero_mul]
  rw [z, add_zero]
  have e1 : ∑ c ∈ range 128, pQ q h x c * KC (pKV kv h) (pKR kr) y c = ∑ c ∈ range 128, q x h c * kv y h c :=
    Finset.sum_congr rfl fun c hc => by
      have := Finset.mem_range.mp hc
      simp only [pQ, KC, pKV, if_pos (show c < 192 by omega), if_pos this]
  have e2 : ∑ c ∈ range 64, pQ q h x (128 + c) * KC (pKV kv h) (pKR kr) y (128 + c) = ∑ c ∈ range 64, kr y c * q x h (128 + c) :=
    Finset.sum_congr rfl fun c hc => by
      have := Finset.mem_range.mp hc
      simp only [pQ, KC, pKR, if_pos (show 128 + c < 192 by omega), if_neg (show ¬ 128 + c < 128 by omega), Nat.add_sub_cancel_left, if_pos this]
      ring
  rw [e1, e2]

theorem PR_P (h x y : ℕ) : PR (pQ q h) (pKV kv h) (pKR kr) (LL q kv kr h) true x y = P q kv kr h x y := by
  unfold PR P E LL
  by_cases hxy : x < y
  · rw [if_pos ⟨rfl, hxy⟩, if_neg (by omega), zero_div]
  · rw [if_neg (by tauto), if_pos (by omega), SR_S, Real.exp_sub, Real.exp_log (Z_pos q kv kr h x)]

theorem DS_dS (h x y : ℕ) :
    DS (pQ q h) (pKV kv h) (pKR kr) (pDO dd h) (LL q kv kr h) (DD q kv dd kr h) true x y = dS q kv dd kr h x y := by
  unfold DS dS
  rw [PR_P]; rfl

/-- The row's log-sum, from any shift of the scores. -/
theorem lse_of (M : ℝ) (h x : ℕ) :
    M + Real.log (∑ y ∈ range 4096, E q kv kr h x y * Real.exp (-M)) = LL q kv kr h x := by
  rw [← Finset.sum_mul]
  show M + Real.log (Z q kv kr h x * _) = _
  rw [Real.log_mul (Z_pos q kv kr h x).ne' (Real.exp_pos _).ne', Real.log_exp, LL]; ring

/-- The weight, from any shift of the scores. -/
theorem P_of (M : ℝ) (h x y : ℕ) :
    E q kv kr h x y * Real.exp (-M) / (∑ y ∈ range 4096, E q kv kr h x y * Real.exp (-M)) = P q kv kr h x y := by
  rw [← Finset.sum_mul]
  exact mul_div_mul_right _ _ (Real.exp_pos _).ne'

/-- The softmax's derivative as its quotient is differentiated. -/
theorem dS_of (M : ℝ) (h x y : ℕ) :
    (dp kv dd h x y / (∑ y ∈ range 4096, E q kv kr h x y * Real.exp (-M))
      + -(∑ z ∈ range 4096, dp kv dd h x z * (1 / ((∑ y ∈ range 4096, E q kv kr h x y * Real.exp (-M)) * (∑ y ∈ range 4096, E q kv kr h x y * Real.exp (-M))))
          * (E q kv kr h x z * Real.exp (-M)))) * (E q kv kr h x y * Real.exp (-M)) = dS q kv dd kr h x y := by
  have hl : (∑ y ∈ range 4096, E q kv kr h x y * Real.exp (-M)) ≠ 0 := by
    rw [← Finset.sum_mul]; exact mul_ne_zero (Z_pos q kv kr h x).ne' (Real.exp_pos _).ne'
  have hD : (∑ z ∈ range 4096, dp kv dd h x z * (1 / ((∑ y ∈ range 4096, E q kv kr h x y * Real.exp (-M)) * (∑ y ∈ range 4096, E q kv kr h x y * Real.exp (-M))))
          * (E q kv kr h x z * Real.exp (-M))) = DD q kv dd kr h x / (∑ y ∈ range 4096, E q kv kr h x y * Real.exp (-M)) := by
    unfold DD
    rw [Finset.sum_div]
    refine Finset.sum_congr rfl fun z _ => ?_
    rw [← P_of q kv kr M h x z]
    generalize (∑ y ∈ range 4096, E q kv kr h x y * Real.exp (-M)) = l at hl ⊢
    field_simp
  rw [hD, dS, ← P_of q kv kr M h x y]
  generalize (∑ y ∈ range 4096, E q kv kr h x y * Real.exp (-M)) = l at hl ⊢
  field_simp
  ring

theorem dS_upper (h x y : ℕ) (hxy : ¬ y ≤ x) : dS q kv dd kr h x y = 0 := by
  unfold dS P E; rw [if_neg hxy, zero_div, zero_mul]

end Cert.KernelIdeal.Flash

end

end
-- ==== Proof.FlashR.Score.lean ====
module

public import proofs.«01_k».proof.Proof.Gen.ReferenceIdeal.Read
public import proofs.«01_k».proof.Proof.FlashV.Maths
public import Idealize.ShloMosaic.Lib.Pointwise

/-! The scores, their maximum and their exponentials, as arrays of reals: facts that the two programs' host code share. -/

@[expose] public section

set_option maxHeartbeats 400000

noncomputable section

namespace Cert.ReferenceIdeal.Attn

open Idealize.ShloMosaic Idealize.SL.Sem Cert.ReferenceIdeal.Read
open Cert.KernelIdeal.Flash (SC S E Z P LL dp DD dS coe_sum_range)

variable (A0 : (⟨S4096x16x192, .f32⟩ : BufTy).Contents (Elt Ideal)) (A1 : (⟨S4096x16x256, .f32⟩ : BufTy).Contents (Elt Ideal))
  (A2 : (⟨S4096x64, .f32⟩ : BufTy).Contents (Elt Ideal)) (A3 : (⟨S4096x16x128, .f32⟩ : BufTy).Contents (Elt Ideal))
variable (q kv dd : ℕ → ℕ → ℕ → ℝ) (kr : ℕ → ℕ → ℝ)

/-- The arguments' entries are the reals `q`, `kv`, `kr` and `dd`. -/
structure Args : Prop where
  a0 : ∀ (x : Fin 4096) (h : Fin 16) (c : Fin 192), A0 (ix3 x h c) = ((q x.val h.val c.val : ℝ) : EReal)
  a1 : ∀ (x : Fin 4096) (h : Fin 16) (c : Fin 256), A1 (ix3 x h c) = ((kv x.val h.val c.val : ℝ) : EReal)
  a2 : ∀ (x : Fin 4096) (c : Fin 64), A2 (ix2 x c) = ((kr x.val c.val : ℝ) : EReal)
  a3 : ∀ (x : Fin 4096) (h : Fin 16) (c : Fin 128), A3 (ix3 x h c) = ((dd x.val h.val c.val : ℝ) : EReal)

/-- A sum of products of reals. -/
theorem dot_coe (n : ℕ) (f g : Fin n → EReal) (a b : ℕ → ℝ) (hf : ∀ k, f k = ((a k.val : ℝ) : EReal)) (hg : ∀ k, g k = ((b k.val : ℝ) : EReal)) :
    ∑ k, f k * g k = ((∑ k ∈ Finset.range n, a k * b k : ℝ) : EReal) := by
  refine Eq.trans ?_ (coe_sum_range n fun k => a k * b k)
  exact Finset.sum_congr rfl fun k _ => by rw [hf, hg, EReal.coe_mul]

/-- A sum of reals. -/
theorem sum_coe (n : ℕ) (f : Fin n → EReal) (a : ℕ → ℝ) (hf : ∀ k, f k = ((a k.val : ℝ) : EReal)) :
    ∑ k, f k = ((∑ k ∈ Finset.range n, a k : ℝ) : EReal) := by
  refine Eq.trans ?_ (coe_sum_range n a)
  exact Finset.sum_congr rfl fun k _ => hf k

theorem div_coe' (a b : ℝ) (hb : b ≠ 0) : Ideal.div (a : EReal) (b : EReal) = ((a / b : ℝ) : EReal) := by
  rw [Ideal.div_coe hb, ← EReal.coe_mul, mul_one_div]

theorem word_bot : Ideal.ofBits .f32 0xFF800000#32 = ⊥ := by simp [Ideal.ofBits, Ideal.ieee]

theorem word_192 : Ideal.ofBits .f32 0x43400000#32 = ((192 : ℝ) : EReal) := by
  simp [Ideal.ofBits, Ideal.ieee, -EReal.coe_mul]; norm_num

theorem scale_at : Ideal.rsqrt (Ideal.ofBits .f32 0x43400000#32) = ((SC : ℝ) : EReal) := by
  rw [word_192, Ideal.rsqrt_coe, if_neg (by norm_num), if_neg (by norm_num)]; rfl

theorem sle_at (x y : Fin 4096) (a b : EReal) :
    Scalar.select (IntOp.cmpi .sle (BitVec.ofNat 32 y.val) (BitVec.ofNat 32 x.val)) a b = if y.val ≤ x.val then a else b := by
  have hx := x.isLt
  have hy := y.isLt
  have e : IntOp.cmpi .sle (BitVec.ofNat 32 y.val) (BitVec.ofNat 32 x.val) = BitVec.ofBool (decide (y.val ≤ x.val)) := by
    show BitVec.ofBool _ = _
    congr 1
    rw [BitVec.sle, BitVec.toInt_eq_toNat_cond, BitVec.toInt_eq_toNat_cond, BitVec.toNat_ofNat, BitVec.toNat_ofNat,
      Nat.mod_eq_of_lt (by omega), Nat.mod_eq_of_lt (by omega), if_pos (by omega), if_pos (by omega)]
    simp
  rw [e]
  by_cases h : y.val ≤ x.val
  · rw [if_pos h]; simp [h, Scalar.select]
  · rw [if_neg h]; simp [h, Scalar.select]

variable {A0 A1 A2 A3 q kv dd kr}

theorem v4_at (I : Args A0 A1 A2 A3 q kv dd kr) (h : Fin 16) (x y : Fin 4096) :
    val_main_v4 (F := Ideal) A0 A1 (ix3 h x y) = ((∑ c ∈ Finset.range 128, q x h c * kv y h c : ℝ) : EReal) := by
  have e : val_main_v4 (F := Ideal) A0 A1 (ix3 h x y) = ∑ k : Fin 128, A0 (ix3 x h ⟨k.val, by omega⟩) * A1 (ix3 y h ⟨k.val, by omega⟩) := by
    unfold val_main_v4 val_main_v0 val_main_v2
    pointwise
  exact e.trans (dot_coe 128 _ _ (fun c => q x h c) (fun c => kv y h c) (fun k => I.a0 _ _ _) (fun k => I.a1 _ _ _))

theorem v6_at (I : Args A0 A1 A2 A3 q kv dd kr) (h : Fin 16) (x y : Fin 4096) :
    val_main_v6 (F := Ideal) A0 A2 (ix3 h x y) = ((∑ c ∈ Finset.range 64, kr y c * q x h (128 + c) : ℝ) : EReal) := by
  have e : val_main_v6 (F := Ideal) A0 A2 (ix3 h x y) = ∑ k : Fin 64, A2 (ix2 y k) * A0 (ix3 x h ⟨128 + k.val, by omega⟩) := by
    unfold val_main_v6 val_main_v5 val_main_v1
    pointwise
  exact e.trans (dot_coe 64 _ _ (fun c => kr y c) (fun c => q x h (128 + c)) (fun k => I.a2 _ _) (fun k => I.a0 _ _ _))

/-- The masked scores: `⊥` above the diagonal. -/
theorem score_at (I : Args A0 A1 A2 A3 q kv dd kr) (h : Fin 16) (x y : Fin 4096) :
    val_main_v17_0 (F := Ideal) A0 A1 A2 (ix3 h x y) = if y.val ≤ x.val then ((S q kv kr h x y : ℝ) : EReal) else ⊥ := by
  unfold val_main_v17_0 val_main_v17_1 val_main_v10 val_main_v16 val_main_v9 val_main_v8 val_main_cst val_main_call0_v2 val_main_call0_v0 val_main_cst_0 val_main_v15 val_main_v14 val_main_v13 val_main_v12 val_main_v11 val_main_v7
  pointwise
  refine (sle_at x y _ _).trans ?_
  by_cases hxy : y.val ≤ x.val
  · rw [if_pos hxy, if_pos hxy, v4_at I, v6_at I, scale_at, ← EReal.coe_add, ← EReal.coe_mul]; rfl
  · rw [if_neg hxy, if_neg hxy]; exact word_bot

/-- The largest of finitely many values, none `⊤` and one not `⊥`, is real. -/
theorem max_real (n : ℕ) (f : Fin n → EReal) (ht : ∀ k, f k ≠ ⊤) (k : Fin n) (hk : f k ≠ ⊥) :
    Finset.fold max ⊥ f Finset.univ = (((Finset.fold max ⊥ f Finset.univ).toReal : ℝ) : EReal) := by
  refine (EReal.coe_toReal ?_ ?_).symm
  · refine ne_of_lt ((Finset.fold_max_lt ⊤).mpr ⟨bot_lt_top, fun i _ => lt_top_iff_ne_top.mpr (ht i)⟩)
  · refine ne_of_gt (lt_of_lt_of_le (bot_lt_iff_ne_bot.mpr hk) ((Finset.le_fold_max _).mpr (Or.inr ⟨k, Finset.mem_univ k, le_refl _⟩)))

/-- Of masked scores, the row's maximum is real. -/
theorem rowMax_real (s : FVec Ideal S16x4096x4096 .f32)
    (hs : ∀ (h : Fin 16) (x y : Fin 4096), s (ix3 h x y) = if y.val ≤ x.val then ((S q kv kr h x y : ℝ) : EReal) else ⊥) (h : Fin 16) (x : Fin 4096) :
    Finset.fold max (Ideal.ofBits .f32 0xFF800000#32) (fun y : Fin 4096 => s (ix3 h x y)) Finset.univ
      = (((Finset.fold max (Ideal.ofBits .f32 0xFF800000#32) (fun y : Fin 4096 => s (ix3 h x y)) Finset.univ).toReal : ℝ) : EReal) := by
  rw [word_bot]
  refine max_real 4096 _ (fun y => ?_) ⟨0, by omega⟩ ?_
  · rw [hs]; split
    · exact EReal.coe_ne_top _
    · exact bot_ne_top
  · rw [hs, if_pos (Nat.zero_le _)]; exact EReal.coe_ne_bot _

/-- The exponential of a masked score, shifted. -/
theorem exp_shift (h x y : ℕ) (M : ℝ) :
    Ideal.exp ((if y ≤ x then ((S q kv kr h x y : ℝ) : EReal) else ⊥) - (M : EReal)) = ((E q kv kr h x y * Real.exp (-M) : ℝ) : EReal) := by
  unfold E
  by_cases hxy : y ≤ x
  · rw [if_pos hxy, if_pos hxy, ← EReal.coe_sub, Ideal.exp_coe, sub_eq_add_neg, Real.exp_add]
  · rw [if_neg hxy, if_neg hxy, EReal.bot_sub, Ideal.exp_bot, zero_mul, EReal.coe_zero]

end Cert.ReferenceIdeal.Attn

end

end
-- ==== Proof.FlashV.Block2.lean ====
module

public import proofs.«01_k».proof.Proof.FlashV.Block

/-! The strips' scores, over the reals. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

theorem matQK (q : FVec Ideal S256x256 .bf16) (K : FVec Ideal S1024x256 .bf16) (a : Fin 256) (b : Fin 1024) :
    raw K q (ix2 a b) = ∑ c : Fin 256, q (ix2 a c) * K (ix2 b c) := by
  unfold raw
  pointwise

theorem matOV (o : FVec Ideal S256x128 .bf16) (V : FVec Ideal S1024x128 .bf16) (a : Fin 256) (b : Fin 1024) :
    (matmul dot_S256x128_S1024x128_S256x1024_1_1_0_0_n_n none o V (constant S256x1024 .f32 0x00000000#32) : FVec Ideal S256x1024 .f32) (ix2 a b) = ∑ c : Fin 128, o (ix2 a c) * V (ix2 b c) := by
  pointwise

theorem addK_apply (ds : FVec Ideal S256x1024 .f32) (q : FVec Ideal S256x256 .bf16) (k : Vec Ideal S1024x256 .f32) (b : Fin 1024) (c : Fin 256) :
    addK ds q k (ix2 b c) = k (ix2 b c) + ∑ a : Fin 256, ds (ix2 a b) * q (ix2 a c) := by
  unfold addK
  pointwise

theorem addV_apply (p : FVec Ideal S256x1024 .f32) (o : FVec Ideal S256x128 .bf16) (v : Vec Ideal S1024x128 .f32) (b : Fin 1024) (c : Fin 128) :
    addV p o v (ix2 b c) = v (ix2 b c) + ∑ a : Fin 256, p (ix2 a b) * o (ix2 a c) := by
  unfold addV
  pointwise

theorem addQ_apply (ds : FVec Ideal S256x1024 .f32) (K : FVec Ideal S1024x256 .bf16) (w : Vec Ideal S256x256 .f32) (a : Fin 256) (c : Fin 256) :
    addQ ds K w (ix2 a c) = w (ix2 a c) + ∑ b : Fin 1024, ds (ix2 a b) * K (ix2 b c) := by
  unfold addQ
  pointwise

theorem mask_val : (Named.named (F := Ideal) κ "mask" 0xF149F2CA#32 : Ideal .f32) = ⊥ := IdealRules.named_const.ideal_named_scalar κ "mask" _ _ rfl
theorem score_val : (Named.named (F := Ideal) κ "score_log2" 0x3DD53B95#32 : Ideal .f32) = (((Real.sqrt 192)⁻¹ * (Real.log 2)⁻¹ : ℝ) : EReal) := IdealRules.named_const.ideal_named_scalar κ "score_log2" _ _ rfl
theorem log2e_val : (Named.named (F := Ideal) κ "log2e" 0x3FB8AA3B#32 : Ideal .f32) = (((Real.log 2)⁻¹ : ℝ) : EReal) := IdealRules.named_const.ideal_named_scalar κ "log2e" _ _ rfl
theorem scale_val : (Named.named (F := Ideal) κ "scale" 0x3D93CD3A#32 : Ideal .f32) = (((Real.sqrt 192)⁻¹ : ℝ) : EReal) := IdealRules.named_const.ideal_named_scalar κ "scale" _ _ rfl

theorem masked_apply (o : BitVec 32) (r : Fin 4) (hC : o = BitVec.ofNat 32 (r.val * 256)) (s : FVec Ideal S256x1024 .f32) (a : Fin 256) (b : Fin 1024) :
    masked o s (ix2 a b) = if b.val ≤ r.val * 256 + a.val then s (ix2 a b) else ⊥ := by
  unfold masked
  rw [mask_val]
  pointwise
  have hb := b.isLt
  have ha := a.isLt
  have hr := r.isLt
  have hs : IntOp.cmpi CmpIPredicate.sle (BitVec.ofNat 32 b.val) (IntOp.addi o (BitVec.ofNat 32 a.val))
      = if b.val ≤ r.val * 256 + a.val then 1#1 else 0#1 := by
    rw [hC]
    have e : IntOp.addi (BitVec.ofNat 32 (r.val * 256)) (BitVec.ofNat 32 a.val) = BitVec.ofNat 32 (r.val * 256 + a.val) := (BitVec.ofNat_add _ _).symm
    rw [e]
    have h1 : (BitVec.ofNat 32 b.val).toInt = b.val := by
      rw [BitVec.toInt_eq_toNat_cond, BitVec.toNat_ofNat, Nat.mod_eq_of_lt (by omega), if_pos (by omega)]
    have h2 : (BitVec.ofNat 32 (r.val * 256 + a.val)).toInt = (r.val * 256 + a.val : ℕ) := by
      rw [BitVec.toInt_eq_toNat_cond, BitVec.toNat_ofNat, Nat.mod_eq_of_lt (by omega), if_pos (by omega)]
    have h3 : (BitVec.ofNat 32 b.val).sle (BitVec.ofNat 32 (r.val * 256 + a.val)) = decide (b.val ≤ r.val * 256 + a.val) := by
      rw [BitVec.sle_eq_decide, h1, h2]
      exact decide_eq_decide.mpr Int.ofNat_le
    show BitVec.ofBool ((BitVec.ofNat 32 b.val).sle (BitVec.ofNat 32 (r.val * 256 + a.val))) = _
    rw [h3]
    by_cases h : b.val ≤ r.val * 256 + a.val <;> simp [h]
  rw [hs]
  by_cases h : b.val ≤ r.val * 256 + a.val
  · rw [if_pos h, if_pos h]; rfl
  · rw [if_neg h, if_neg h]; rfl

theorem prob_apply (s : FVec Ideal S256x1024 .f32) (l : FVec Ideal S256x128 .f32) (a : Fin 256) (b : Fin 1024) :
    prob s l (ix2 a b) = Ideal.exp2 (s (ix2 a b) * (((Real.sqrt 192)⁻¹ * (Real.log 2)⁻¹ : ℝ) : EReal) - l (ix2 a ⟨b.val % 128, Nat.mod_lt _ (by decide)⟩) * (((Real.log 2)⁻¹ : ℝ) : EReal)) := by
  unfold prob
  rw [score_val, log2e_val]
  pointwise
  rw [wide_apply]
  pointwise
  rfl

section Block
variable (Q KV KR DO : ℕ → ℕ → ℝ) (L D : ℕ → ℝ)
variable (x0 x1 : Vec Ideal S1024x256 .bf16) (x2 x3 : Vec Ideal S1024x128 .bf16) (x4 : Vec Ideal S1x1024x128 .f32) (x5 : Vec Ideal S1024x128 .f32)
variable (h0 : ∀ a c, x0 (ix2 a c) = ((Q a.val c.val : ℝ) : EReal)) (h1 : ∀ a c, x1 (ix2 a c) = ((KV a.val c.val : ℝ) : EReal))
variable (h2 : ∀ a c, x2 (ix2 a c) = ((KR a.val c.val : ℝ) : EReal)) (h3 : ∀ a c, x3 (ix2 a c) = ((DO a.val c.val : ℝ) : EReal))
variable (h4 : ∀ a c, x4 (ix3 0 a c) = ((L a.val : ℝ) : EReal)) (h5 : ∀ a c, x5 (ix2 a c) = ((D a.val : ℝ) : EReal))

include h0 h1 h2 in
theorem raw_apply (r : Fin 4) (a : Fin 256) (b : Fin 1024) :
    raw (keys x1 x2) (qStrip r x0) (ix2 a b) = ((SR Q KV KR (r.val * 256 + a.val) b.val : ℝ) : EReal) := by
  rw [matQK, SR, ← coe_sum_range]
  refine Finset.sum_congr rfl fun c _ => ?_
  rw [qStrip_apply Q x0 h0, keys_apply KV KR x1 x2 h1 h2, EReal.coe_mul]

/-- The kernel's power of two is the exponential. -/
theorem pow_exp (s l : ℝ) : Ideal.exp2 (((s : ℝ) : EReal) * (((Real.sqrt 192)⁻¹ * (Real.log 2)⁻¹ : ℝ) : EReal) - ((l : ℝ) : EReal) * (((Real.log 2)⁻¹ : ℝ) : EReal))
    = ((Real.exp (s * SC - l) : ℝ) : EReal) := by
  rw [← EReal.coe_mul, ← EReal.coe_mul, ← EReal.coe_sub, Ideal.exp2_coe]
  refine congrArg _ ?_
  show Real.rpow 2 _ = _
  rw [Real.rpow_eq_pow, Real.rpow_def_of_pos (by norm_num)]
  congr 1
  have : Real.log 2 ≠ 0 := (Real.log_pos (by norm_num)).ne'
  unfold SC
  field_simp

include h0 h1 h2 h4 in
theorem probs_apply (dg : Bool) (r : Fin 4) (a : Fin 256) (b : Fin 1024) :
    probs dg r x0 x1 x2 x4 (ix2 a b) = ((PR Q KV KR L dg (r.val * 256 + a.val) b.val : ℝ) : EReal) := by
  unfold probs
  rw [prob_apply, lStrip_apply L x4 h4, PR]
  cases dg with
  | false =>
    rw [if_neg (by simp)]
    show Ideal.exp2 (raw (keys x1 x2) (qStrip r x0) (ix2 a b) * _ - _) = _
    rw [raw_apply Q KV KR x0 x1 x2 h0 h1 h2, pow_exp]
  | true =>
    show Ideal.exp2 (masked _ (raw (keys x1 x2) (qStrip r x0)) (ix2 a b) * _ - _) = _
    rw [masked_apply _ r (by revert r; decide)]
    by_cases h : b.val ≤ r.val * 256 + a.val
    · rw [if_pos h, if_neg (by simp; omega), raw_apply Q KV KR x0 x1 x2 h0 h1 h2, pow_exp]
    · rw [if_neg h, if_pos (by simp; omega)]
      have hpos : (0 : ℝ) < (Real.sqrt 192)⁻¹ * (Real.log 2)⁻¹ :=
        mul_pos (inv_pos.mpr (Real.sqrt_pos.mpr (by norm_num))) (inv_pos.mpr (Real.log_pos (by norm_num)))
      rw [EReal.bot_mul_coe_of_pos hpos, ← EReal.coe_mul, sub_eq_add_neg, EReal.bot_add]
      exact EReal.coe_zero.symm

include h0 h1 h2 h3 h4 h5 in
theorem dscores_apply (dg : Bool) (r : Fin 4) (a : Fin 256) (b : Fin 1024) :
    dscores dg r x0 x1 x2 x3 x4 x5 (ix2 a b) = ((DS Q KV KR DO L D dg (r.val * 256 + a.val) b.val : ℝ) : EReal) := by
  have e : dscores dg r x0 x1 x2 x3 x4 x5 (ix2 a b) = probs dg r x0 x1 x2 x4 (ix2 a b) *
      ((matmul dot_S256x128_S1024x128_S256x1024_1_1_0_0_n_n none (oStrip r x3) (vals x1) (constant S256x1024 .f32 0x00000000#32) : FVec Ideal S256x1024 .f32) (ix2 a b)
        - wide (dStrip r x5) (ix2 a b)) := rfl
  rw [e, matOV, wide_apply, probs_apply Q KV KR L x0 x1 x2 x4 h0 h1 h2 h4, dStrip_apply D x5 h5, DS, EReal.coe_mul, EReal.coe_sub, ← coe_sum_range]
  refine congrArg (fun z => _ * (z - _)) (Finset.sum_congr rfl fun c _ => ?_)
  rw [oStrip_apply DO x3 h3, vals_apply KV x1 h1, EReal.coe_mul]

theorem four_sums (f : ℕ → ℝ) : (∑ a ∈ Finset.range 1024, f a) =
    (∑ a ∈ Finset.range 256, f (0 * 256 + a)) + (∑ a ∈ Finset.range 256, f (1 * 256 + a)) + (∑ a ∈ Finset.range 256, f (2 * 256 + a)) + (∑ a ∈ Finset.range 256, f (3 * 256 + a)) := by
  rw [show 1024 = 256 + 256 + 256 + 256 from rfl, Finset.sum_range_add, Finset.sum_range_add, Finset.sum_range_add]
  simp only [Nat.zero_mul, Nat.zero_add]

include h0 h1 h2 h3 h4 h5 in
theorem blockK_apply (dg : Bool) (k : Vec Ideal S1024x256 .f32) (b : Fin 1024) (c : Fin 256) :
    blockK dg x0 x1 x2 x3 x4 x5 k (ix2 b c) = k (ix2 b c) + ((∑ a ∈ Finset.range 1024, DS Q KV KR DO L D dg a b.val * Q a c.val : ℝ) : EReal) := by
  have s : ∀ r : Fin 4, (∑ a : Fin 256, dscores dg r x0 x1 x2 x3 x4 x5 (ix2 a b) * qStrip r x0 (ix2 a c))
      = ((∑ a ∈ Finset.range 256, DS Q KV KR DO L D dg (r.val * 256 + a) b.val * Q (r.val * 256 + a) c.val : ℝ) : EReal) := by
    intro r
    rw [← coe_sum_range]
    refine Finset.sum_congr rfl fun a _ => ?_
    rw [dscores_apply Q KV KR DO L D x0 x1 x2 x3 x4 x5 h0 h1 h2 h3 h4 h5, qStrip_apply Q x0 h0, EReal.coe_mul]
  unfold blockK
  rw [addK_apply, addK_apply, addK_apply, addK_apply, s, s, s, s, four_sums (fun a => DS Q KV KR DO L D dg a b.val * Q a c.val), EReal.coe_add, EReal.coe_add, EReal.coe_add]
  simp only [add_assoc]
  rfl

include h0 h1 h2 h3 h4 in
theorem blockV_apply (dg : Bool) (v : Vec Ideal S1024x128 .f32) (b : Fin 1024) (c : Fin 128) :
    blockV dg x0 x1 x2 x3 x4 v (ix2 b c) = v (ix2 b c) + ((∑ a ∈ Finset.range 1024, PR Q KV KR L dg a b.val * DO a c.val : ℝ) : EReal) := by
  have s : ∀ r : Fin 4, (∑ a : Fin 256, probs dg r x0 x1 x2 x4 (ix2 a b) * oStrip r x3 (ix2 a c))
      = ((∑ a ∈ Finset.range 256, PR Q KV KR L dg (r.val * 256 + a) b.val * DO (r.val * 256 + a) c.val : ℝ) : EReal) := by
    intro r
    rw [← coe_sum_range]
    refine Finset.sum_congr rfl fun a _ => ?_
    rw [probs_apply Q KV KR L x0 x1 x2 x4 h0 h1 h2 h4, oStrip_apply DO x3 h3, EReal.coe_mul]
  unfold blockV
  rw [addV_apply, addV_apply, addV_apply, addV_apply, s, s, s, s, four_sums (fun a => PR Q KV KR L dg a b.val * DO a c.val), EReal.coe_add, EReal.coe_add, EReal.coe_add]
  simp only [add_assoc]
  rfl

include h0 h1 h2 h3 h4 h5 in
/-- The queries' gradient with a block of keys added. -/
theorem strips_apply (dg : Bool) (n : ℕ) (hn : n < 4) (q : Vec Ideal S4096x256 .f32) (x : Fin 4096) (c : Fin 256) :
    strips (n * 1024) (fun r w => addQ (dscores dg r x0 x1 x2 x3 x4 x5) (keys x1 x2) w) q (ix2 x c)
      = if n * 1024 ≤ x.val ∧ x.val < n * 1024 + 1024 then
          q (ix2 x c) + ((∑ b ∈ Finset.range 1024, DS Q KV KR DO L D dg (x.val - n * 1024) b * KC KV KR b c.val : ℝ) : EReal)
        else q (ix2 x c) := by
  unfold strips
  by_cases h : n * 1024 ≤ x.val ∧ x.val < n * 1024 + 1024
  · have h' : n * 1024 ≤ ((ix2 x c : S4096x256.Idx) 0).val ∧ ((ix2 x c : S4096x256.Idx) 0).val < n * 1024 + 1024 := h
    rw [dif_pos h', if_pos h, ← coe_sum_range]
    refine (addQ_apply _ _ _ _ _).trans ?_
    refine congrArg₂ (· + ·) (congrArg q ?_) (Finset.sum_congr rfl fun b _ => ?_)
    · refine congrArg (ix2 · c) (Fin.ext ?_)
      show (n * 1024 + (x.val - n * 1024) / 256 * 256 + (x.val - n * 1024) % 256) % 4096 = x.val
      have := x.isLt
      omega
    · rw [dscores_apply Q KV KR DO L D x0 x1 x2 x3 x4 x5 h0 h1 h2 h3 h4 h5, EReal.coe_mul]
      refine (congrArg (_ * ·) (keys_apply KV KR x1 x2 h1 h2 b c)).trans ?_
      refine congrArg (fun z : ℕ => ((DS Q KV KR DO L D dg z b.val : ℝ) : EReal) * _) ?_
      show (x.val - n * 1024) / 256 * 256 + (x.val - n * 1024) % 256 = x.val - n * 1024
      omega
  · have h' : ¬ (n * 1024 ≤ ((ix2 x c : S4096x256.Idx) 0).val ∧ ((ix2 x c : S4096x256.Idx) 0).val < n * 1024 + 1024) := h
    rw [dif_neg h', if_neg h]

end Block

/-- The block of the keys' and values' gradients. -/
theorem sides_apply (k : Vec Ideal S1024x256 .f32) (v : Vec Ideal S1024x128 .f32) (b : Fin 1024) (c : Fin 256) :
    sides (k0_pay12 k) (k0_pay13 v) (ix2 b c) = if h : c.val < 128 then k (ix2 b c) * ((SC : ℝ) : EReal) else v (ix2 b ⟨c.val - 128, by omega⟩) := by
  unfold sides
  by_cases h : c.val < 128
  · have h' : ((ix2 b c : S1024x256.Idx) 1).val < 128 := h
    rw [dif_pos h', dif_pos h]
    have e : ∀ (c' : Fin 128), k0_pay12 k (ix2 b c') = k (ix2 b ⟨c'.val, by omega⟩) * ((SC : ℝ) : EReal) := by
      intro c'
      unfold k0_pay12 k0_pay11
      simp only []
      rw [scale_val]
      pointwise
      rfl
    exact (e _)
  · have h' : ¬ ((ix2 b c : S1024x256.Idx) 1).val < 128 := h
    rw [dif_neg h', dif_neg h]
    rfl

/-- The rotary keys' gradient with a head's block added. -/
theorem block1_apply (n : ℕ) (hn : n < 4) (k : Vec Ideal S1024x256 .f32) (r : Vec Ideal S4096x128 .f32) (y : Fin 4096) (c : Fin 128) :
    block1 (n * 1024) (k0_pay14 k) r (ix2 y c)
      = if h : n * 1024 ≤ y.val ∧ y.val < n * 1024 + 1024 then r (ix2 y c) + k (ix2 ⟨y.val - n * 1024, by omega⟩ ⟨128 + c.val, by omega⟩) * ((SC : ℝ) : EReal) else r (ix2 y c) := by
  have e : ∀ (w : Vec Ideal S1024x128 .f32) (b : Fin 1024) (c' : Fin 128), k0_pay14 k w (ix2 b c') = w (ix2 b c') + k (ix2 b ⟨128 + c'.val, by omega⟩) * ((SC : ℝ) : EReal) := by
    intro w b c'
    unfold k0_pay14 k0_pay11
    simp only []
    rw [scale_val]
    pointwise
    rfl
  unfold block1
  by_cases h : n * 1024 ≤ y.val ∧ y.val < n * 1024 + 1024
  · have h' : n * 1024 ≤ ((ix2 y c : S4096x128.Idx) 0).val ∧ ((ix2 y c : S4096x128.Idx) 0).val < n * 1024 + 1024 := h
    rw [dif_pos h', dif_pos h]
    refine (e _ _ _).trans (congrArg (· + _) (congrArg r ?_))
    refine congrArg (ix2 · c) (Fin.ext ?_)
    show (n * 1024 + (y.val - n * 1024)) % 4096 = y.val
    have := y.isLt
    omega
  · have h' : ¬ (n * 1024 ≤ ((ix2 y c : S4096x128.Idx) 0).val ∧ ((ix2 y c : S4096x128.Idx) 0).val < n * 1024 + 1024) := h
    rw [dif_neg h', dif_neg h]

/-- The queries' gradient, scaled. -/
theorem pay15_apply (q : Vec Ideal S4096x256 .f32) (x : Fin 4096) (c : Fin 256) :
    k0_pay15 q (ix2 x c) = q (ix2 x c) * ((SC : ℝ) : EReal) := by
  unfold k0_pay15
  rw [scale_val]
  pointwise
  rfl

theorem pay1_apply (x : Fin 4096) (c : Fin 256) : (k0_pay1 (F := Ideal)) (ix2 x c) = ((0 : ℝ) : EReal) := by
  unfold k0_pay1; pointwise; exact EReal.coe_zero.symm
theorem pay2_apply (x : Fin 4096) (c : Fin 128) : (k0_pay2 (F := Ideal)) (ix2 x c) = ((0 : ℝ) : EReal) := by
  unfold k0_pay2; pointwise; exact EReal.coe_zero.symm
theorem pay3_apply (x : Fin 1024) (c : Fin 256) : (k0_pay3 (F := Ideal)) (ix2 x c) = ((0 : ℝ) : EReal) := by
  unfold k0_pay3; pointwise; exact EReal.coe_zero.symm
theorem pay4_apply (x : Fin 1024) (c : Fin 128) : (k0_pay4 (F := Ideal)) (ix2 x c) = ((0 : ℝ) : EReal) := by
  unfold k0_pay4; pointwise; exact EReal.coe_zero.symm

end Cert.KernelIdeal.Flash
-- ==== Proof.FlashV.Sums.lean ====
module

public import proofs.«01_k».proof.Proof.FlashV.Block2

/-! The sums that the launch builds, block of keys by block of queries. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

/-- The block of queries of pair `p`, and the block of keys. -/
def ii (p : ℕ) : ℕ := [0, 1, 2, 3, 1, 2, 3, 2, 3, 3].getD p 0
def jj (p : ℕ) : ℕ := [0, 0, 0, 0, 1, 1, 1, 2, 2, 3].getD p 0

/-- How many blocks of keys the queries of block `I` have met after pair `p`. -/
def cnt (p I : ℕ) : ℕ := ((List.range (p + 1)).filter fun r => ii r == I).length

theorem cnt_zero : ∀ I : Fin 4, cnt 0 I.val = if I.val = 0 then 0 + 1 else 0 := by decide
theorem cnt_succ : ∀ (p : Fin 10) (I : Fin 4), p.val ≠ 0 → cnt p.val I.val = if I.val = ii p.val then jj p.val + 1 else cnt (p.val - 1) I.val := by decide
theorem cnt_pred : ∀ p : Fin 10, p.val ≠ 0 → cnt (p.val - 1) (ii p.val) = jj p.val := by decide
theorem cnt_last : ∀ I : Fin 4, cnt 9 I.val = I.val + 1 := by decide

section Head
variable (Q KV KR DO : ℕ → ℕ → ℝ) (L D : ℕ → ℝ)

theorem PR_zero (x y : ℕ) (h : x < y) : PR Q KV KR L true x y = 0 := if_pos ⟨rfl, h⟩
theorem DS_zero (x y : ℕ) (h : x < y) : DS Q KV KR DO L D true x y = 0 := by rw [DS, PR_zero Q KV KR L x y h, zero_mul]

/-- What block `(i, j)` has to do with the mask. -/
def Fits (dg : Bool) (i j : ℕ) : Prop := (dg = true ∧ i = j) ∨ (dg = false ∧ j < i)

theorem PR_shift (dg : Bool) (i j a b : ℕ) (hb : b < 1024) (h : Fits dg i j) :
    PR (fun a => Q (i * 1024 + a)) (fun b => KV (j * 1024 + b)) (fun b => KR (j * 1024 + b)) (fun a => L (i * 1024 + a)) dg a b
      = PR Q KV KR L true (i * 1024 + a) (j * 1024 + b) := by
  have e : SR (fun a => Q (i * 1024 + a)) (fun b => KV (j * 1024 + b)) (fun b => KR (j * 1024 + b)) a b = SR Q KV KR (i * 1024 + a) (j * 1024 + b) := rfl
  unfold PR
  rw [e]
  rcases h with ⟨h, rfl⟩ | ⟨h, hij⟩
  · subst h
    refine if_congr ⟨fun h => ⟨rfl, ?_⟩, fun h => ⟨rfl, ?_⟩⟩ rfl rfl
    · have := h.2; omega
    · have := h.2; omega
  · subst h
    rw [if_neg (by simp), if_neg (by rintro ⟨_, h⟩; omega)]

theorem DS_shift (dg : Bool) (i j a b : ℕ) (hb : b < 1024) (h : Fits dg i j) :
    DS (fun a => Q (i * 1024 + a)) (fun b => KV (j * 1024 + b)) (fun b => KR (j * 1024 + b)) (fun a => DO (i * 1024 + a)) (fun a => L (i * 1024 + a)) (fun a => D (i * 1024 + a)) dg a b
      = DS Q KV KR DO L D true (i * 1024 + a) (j * 1024 + b) := by
  unfold DS
  rw [PR_shift Q KV KR L dg i j a b hb h]

/-- The gradients, summed over the first `n` queries or keys. -/
def SK (n y c : ℕ) : ℝ := ∑ x ∈ Finset.range n, DS Q KV KR DO L D true x y * Q x c
def SV (n y c : ℕ) : ℝ := ∑ x ∈ Finset.range n, PR Q KV KR L true x y * DO x c
def SQ (n x c : ℕ) : ℝ := ∑ y ∈ Finset.range n, DS Q KV KR DO L D true x y * KC KV KR y c

theorem SK_zero (n y c : ℕ) (h : n ≤ y) : SK Q KV KR DO L D n y c = 0 :=
  Finset.sum_eq_zero fun x hx => by rw [DS_zero Q KV KR DO L D x y ((Finset.mem_range.mp hx).trans_le h), zero_mul]
theorem SV_zero (n y c : ℕ) (h : n ≤ y) : SV Q KV KR DO L n y c = 0 :=
  Finset.sum_eq_zero fun x hx => by rw [PR_zero Q KV KR L x y ((Finset.mem_range.mp hx).trans_le h), zero_mul]
/-- Later keys do not count. -/
theorem SQ_all (n N x c : ℕ) (h : x < n) (hN : n ≤ N) : SQ Q KV KR DO L D n x c = SQ Q KV KR DO L D N x c := by
  refine Finset.sum_subset (Finset.range_mono hN) fun y _ hy => ?_
  rw [DS_zero Q KV KR DO L D x y (by have := Finset.mem_range.not.mp hy; omega), zero_mul]

variable (x0 x1 : Vec Ideal S1024x256 .bf16) (x2 x3 : Vec Ideal S1024x128 .bf16) (x4 : Vec Ideal S1x1024x128 .f32) (x5 : Vec Ideal S1024x128 .f32)
variable (dg : Bool) (i j : ℕ) (hf : Fits dg i j)
variable (h0 : ∀ a c, x0 (ix2 a c) = ((Q (i * 1024 + a.val) c.val : ℝ) : EReal)) (h1 : ∀ a c, x1 (ix2 a c) = ((KV (j * 1024 + a.val) c.val : ℝ) : EReal))
variable (h2 : ∀ a c, x2 (ix2 a c) = ((KR (j * 1024 + a.val) c.val : ℝ) : EReal)) (h3 : ∀ a c, x3 (ix2 a c) = ((DO (i * 1024 + a.val) c.val : ℝ) : EReal))
variable (h4 : ∀ a c, x4 (ix3 0 a c) = ((L (i * 1024 + a.val) : ℝ) : EReal)) (h5 : ∀ a c, x5 (ix2 a c) = ((D (i * 1024 + a.val) : ℝ) : EReal))

include hf h0 h1 h2 h3 h4 h5 in
theorem next_k (k : Vec Ideal S1024x256 .f32) (b : Fin 1024) (c : Fin 256) (hk : k (ix2 b c) = ((SK Q KV KR DO L D (i * 1024) (j * 1024 + b.val) c.val : ℝ) : EReal)) :
    blockK dg x0 x1 x2 x3 x4 x5 k (ix2 b c) = ((SK Q KV KR DO L D ((i + 1) * 1024) (j * 1024 + b.val) c.val : ℝ) : EReal) := by
  rw [blockK_apply (fun a => Q (i * 1024 + a)) (fun b => KV (j * 1024 + b)) (fun b => KR (j * 1024 + b)) (fun a => DO (i * 1024 + a)) (fun a => L (i * 1024 + a)) (fun a => D (i * 1024 + a)) x0 x1 x2 x3 x4 x5 h0 h1 h2 h3 h4 h5, hk, ← EReal.coe_add]
  refine congrArg _ ?_
  rw [SK, SK, Nat.succ_mul, Finset.sum_range_add]
  refine congrArg (_ + ·) (Finset.sum_congr rfl fun a _ => ?_)
  rw [DS_shift Q KV KR DO L D dg i j a b.val b.isLt hf]

include hf h0 h1 h2 h3 h4 in
theorem next_v (v : Vec Ideal S1024x128 .f32) (b : Fin 1024) (c : Fin 128) (hv : v (ix2 b c) = ((SV Q KV KR DO L (i * 1024) (j * 1024 + b.val) c.val : ℝ) : EReal)) :
    blockV dg x0 x1 x2 x3 x4 v (ix2 b c) = ((SV Q KV KR DO L ((i + 1) * 1024) (j * 1024 + b.val) c.val : ℝ) : EReal) := by
  rw [blockV_apply (fun a => Q (i * 1024 + a)) (fun b => KV (j * 1024 + b)) (fun b => KR (j * 1024 + b)) (fun a => DO (i * 1024 + a)) (fun a => L (i * 1024 + a)) x0 x1 x2 x3 x4 h0 h1 h2 h3 h4, hv, ← EReal.coe_add]
  refine congrArg _ ?_
  rw [SV, SV, Nat.succ_mul, Finset.sum_range_add]
  refine congrArg (_ + ·) (Finset.sum_congr rfl fun a _ => ?_)
  rw [PR_shift Q KV KR L dg i j a b.val b.isLt hf]

include hf h0 h1 h2 h3 h4 h5 in
theorem next_q (hi : i < 4) (N N' : ℕ → ℕ) (hN : N i = j) (hN' : ∀ I : Fin 4, N' I.val = if I.val = i then j + 1 else N I.val)
    (q : Vec Ideal S4096x256 .f32) (x : Fin 4096) (c : Fin 256) (hq : q (ix2 x c) = ((SQ Q KV KR DO L D (N (x.val / 1024) * 1024) x.val c.val : ℝ) : EReal)) :
    strips (i * 1024) (fun r w => addQ (dscores dg r x0 x1 x2 x3 x4 x5) (keys x1 x2) w) q (ix2 x c)
      = ((SQ Q KV KR DO L D (N' (x.val / 1024) * 1024) x.val c.val : ℝ) : EReal) := by
  have hx := x.isLt
  rw [strips_apply (fun a => Q (i * 1024 + a)) (fun b => KV (j * 1024 + b)) (fun b => KR (j * 1024 + b)) (fun a => DO (i * 1024 + a)) (fun a => L (i * 1024 + a)) (fun a => D (i * 1024 + a)) x0 x1 x2 x3 x4 x5 h0 h1 h2 h3 h4 h5 dg i hi, hq]
  have e := hN' ⟨x.val / 1024, by omega⟩
  dsimp only at e
  by_cases h : i * 1024 ≤ x.val ∧ x.val < i * 1024 + 1024
  · have hxi : x.val / 1024 = i := by omega
    rw [if_pos h, ← EReal.coe_add]
    refine congrArg _ ?_
    rw [e, if_pos hxi, hxi, hN, SQ, SQ, Nat.succ_mul, Finset.sum_range_add]
    refine congrArg (_ + ·) (Finset.sum_congr rfl fun b hb => ?_)
    rw [DS_shift Q KV KR DO L D dg i j _ b (Finset.mem_range.mp hb) hf, show i * 1024 + (x.val - i * 1024) = x.val by omega]
    rfl
  · rw [if_neg h, e, if_neg (by omega)]

end Head

end Cert.KernelIdeal.Flash

end
-- ==== Proof.FlashV.ValA.lean ====
module

public import proofs.«01_k».proof.Proof.FlashI.RunA
public import proofs.«01_k».proof.Proof.FlashV.Strip

/-! What a point of case A leaves in the scratch and output blocks. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

variable {F : FTy → Type} [FloatOps F] [Named F]

/-- The keys' gradient after a point of case A. -/
theorem k_A (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole) (T0 : BufTy.Contents (Elt F) (Memref.whole main_c).view.ty) (T1 : BufTy.Contents (Elt F) (Memref.whole main_c_0).view.ty) (x0 : Vec F S1024x256 .bf16) (x1 : Vec F S1024x256 .bf16) (x2 : Vec F S1024x128 .bf16) (x3 : Vec F S1024x128 .bf16) (x4 : Vec F S1x1024x128 .f32) (x5 : Vec F S1024x128 .f32) (hchk : k0_chk1 (word0 T0 i) (word1 T1 i)) (hc1 : k0_cond1 i = 1#1) (hc2 : k0_cond2 i = 1#1) (hc3 : k0_cond3 (word0 T0 i) (word1 T1 i) = 1#1) (hc4 : ¬ k0_cond4 (word0 T0 i) (word1 T1 i) = 1#1) (hc5 : k0_cond5 (word0 T0 i) (word1 T1 i) = 1#1) (hc6 : ¬ k0_cond6 (word0 T0 i) = 1#1) (hc7 : ¬ k0_cond7 i = 1#1) :
    (runA c i arg4 harg4 arg5 harg5 arg6 harg6 arg7 harg7 arg8 harg8 arg9 harg9 arg10 harg10 arg11 harg11 arg12 harg12 arg13 harg13 arg14 harg14 T0 T1 x0 x1 x2 x3 x4 x5 hchk hc1 hc2 hc3 hc4 hc5 hc6 hc7).2.2.1 = blockK true x0 x1 x2 x3 x4 x5 k0_pay3 := by
  simp only [runA, runA.sl.H10_1, runA.sl.H10_2, runA.sl.H10_3, runA.sl.H10_4, runA.sl.H12_1, runA.sl.H13_1, runA.sl.H13_2, runA.sl.H13_3, runA.sl.H13_4, runA.sl.H13_5, runA.sl.H14_1, runA.sl.H14_2, runA.sl.H14_3, runA.sl.H14_4, runA.sl.H14_5, runA.sl.cst_29, runA.sl.r, runA.sl.r_1, runA.sl.r_10, runA.sl.r_11, runA.sl.r_12, runA.sl.r_13, runA.sl.r_14, runA.sl.r_15, runA.sl.r_16, runA.sl.r_17, runA.sl.r_18, runA.sl.r_2, runA.sl.r_3, runA.sl.r_4, runA.sl.r_5, runA.sl.r_6, runA.sl.r_7, runA.sl.r_8, runA.sl.r_9, runA.sl.v113, runA.sl.v12, runA.sl.v120, runA.sl.v13, runA.sl.v131, runA.sl.v14, runA.sl.v165, runA.sl.v172, runA.sl.v183, runA.sl.v217, runA.sl.v224, runA.sl.v235, runA.sl.v61, runA.sl.v68, runA.sl.v79, readAt_pick, cov_k, cov_v, rd_k, rd_v, pick_k, pick_v]
  rfl

/-- The values' gradient after a point of case A. -/
theorem v_A (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole) (T0 : BufTy.Contents (Elt F) (Memref.whole main_c).view.ty) (T1 : BufTy.Contents (Elt F) (Memref.whole main_c_0).view.ty) (x0 : Vec F S1024x256 .bf16) (x1 : Vec F S1024x256 .bf16) (x2 : Vec F S1024x128 .bf16) (x3 : Vec F S1024x128 .bf16) (x4 : Vec F S1x1024x128 .f32) (x5 : Vec F S1024x128 .f32) (hchk : k0_chk1 (word0 T0 i) (word1 T1 i)) (hc1 : k0_cond1 i = 1#1) (hc2 : k0_cond2 i = 1#1) (hc3 : k0_cond3 (word0 T0 i) (word1 T1 i) = 1#1) (hc4 : ¬ k0_cond4 (word0 T0 i) (word1 T1 i) = 1#1) (hc5 : k0_cond5 (word0 T0 i) (word1 T1 i) = 1#1) (hc6 : ¬ k0_cond6 (word0 T0 i) = 1#1) (hc7 : ¬ k0_cond7 i = 1#1) :
    (runA c i arg4 harg4 arg5 harg5 arg6 harg6 arg7 harg7 arg8 harg8 arg9 harg9 arg10 harg10 arg11 harg11 arg12 harg12 arg13 harg13 arg14 harg14 T0 T1 x0 x1 x2 x3 x4 x5 hchk hc1 hc2 hc3 hc4 hc5 hc6 hc7).2.2.2.1 = blockV true x0 x1 x2 x3 x4 k0_pay4 := by
  simp only [runA, runA.sl.H10_1, runA.sl.H10_2, runA.sl.H10_3, runA.sl.H10_4, runA.sl.H12_1, runA.sl.H13_1, runA.sl.H13_2, runA.sl.H13_3, runA.sl.H13_4, runA.sl.H13_5, runA.sl.H14_1, runA.sl.H14_2, runA.sl.H14_3, runA.sl.H14_4, runA.sl.H14_5, runA.sl.cst_29, runA.sl.r, runA.sl.r_1, runA.sl.r_10, runA.sl.r_11, runA.sl.r_12, runA.sl.r_13, runA.sl.r_14, runA.sl.r_15, runA.sl.r_16, runA.sl.r_17, runA.sl.r_18, runA.sl.r_2, runA.sl.r_3, runA.sl.r_4, runA.sl.r_5, runA.sl.r_6, runA.sl.r_7, runA.sl.r_8, runA.sl.r_9, runA.sl.v113, runA.sl.v12, runA.sl.v120, runA.sl.v13, runA.sl.v131, runA.sl.v14, runA.sl.v165, runA.sl.v172, runA.sl.v183, runA.sl.v217, runA.sl.v224, runA.sl.v235, runA.sl.v61, runA.sl.v68, runA.sl.v79, readAt_pick, cov_k, cov_v, rd_k, rd_v, pick_k, pick_v]
  rfl

end Cert.KernelIdeal.Flash
-- ==== Proof.FlashV.QA.lean ====
module

public import proofs.«01_k».proof.Proof.FlashI.RunA
public import proofs.«01_k».proof.Proof.FlashV.Rows

/-! What a point of case A leaves in the blocks of the gradients. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

variable {F : FTy → Type} [FloatOps F] [Named F]

/-- The queries' gradient after a point of case A. -/
theorem q_A (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole) (T0 : BufTy.Contents (Elt F) (Memref.whole main_c).view.ty) (T1 : BufTy.Contents (Elt F) (Memref.whole main_c_0).view.ty) (x0 : Vec F S1024x256 .bf16) (x1 : Vec F S1024x256 .bf16) (x2 : Vec F S1024x128 .bf16) (x3 : Vec F S1024x128 .bf16) (x4 : Vec F S1x1024x128 .f32) (x5 : Vec F S1024x128 .f32) (hchk : k0_chk1 (word0 T0 i) (word1 T1 i)) (hc1 : k0_cond1 i = 1#1) (hc2 : k0_cond2 i = 1#1) (hc3 : k0_cond3 (word0 T0 i) (word1 T1 i) = 1#1) (hc4 : ¬ k0_cond4 (word0 T0 i) (word1 T1 i) = 1#1) (hc5 : k0_cond5 (word0 T0 i) (word1 T1 i) = 1#1) (hc6 : ¬ k0_cond6 (word0 T0 i) = 1#1) (hc7 : ¬ k0_cond7 i = 1#1) (n : ℕ) (hn : n < 4) (hw : word0 T0 i = BitVec.ofNat 32 n) :
    (runA c i arg4 harg4 arg5 harg5 arg6 harg6 arg7 harg7 arg8 harg8 arg9 harg9 arg10 harg10 arg11 harg11 arg12 harg12 arg13 harg13 arg14 harg14 T0 T1 x0 x1 x2 x3 x4 x5 hchk hc1 hc2 hc3 hc4 hc5 hc6 hc7).1 = strips (n * 1024) (fun r w => addQ (dscores true r x0 x1 x2 x3 x4 x5) (keys x1 x2) w) k0_pay1 := by
  simp only [runA, runA.sl.H10_1, runA.sl.H10_2, runA.sl.H10_3, runA.sl.H10_4, runA.sl.H12_1, runA.sl.H13_1, runA.sl.H13_2, runA.sl.H13_3, runA.sl.H13_4, runA.sl.H13_5, runA.sl.H14_1, runA.sl.H14_2, runA.sl.H14_3, runA.sl.H14_4, runA.sl.H14_5, runA.sl.cst_29, runA.sl.r, runA.sl.r_1, runA.sl.r_10, runA.sl.r_11, runA.sl.r_12, runA.sl.r_13, runA.sl.r_14, runA.sl.r_15, runA.sl.r_16, runA.sl.r_17, runA.sl.r_18, runA.sl.r_2, runA.sl.r_3, runA.sl.r_4, runA.sl.r_5, runA.sl.r_6, runA.sl.r_7, runA.sl.r_8, runA.sl.r_9, runA.sl.v113, runA.sl.v12, runA.sl.v120, runA.sl.v13, runA.sl.v131, runA.sl.v14, runA.sl.v165, runA.sl.v172, runA.sl.v183, runA.sl.v217, runA.sl.v224, runA.sl.v235, runA.sl.v61, runA.sl.v68, runA.sl.v79, readAt_pick arg4 harg4, readAt_pick arg5 harg5, readAt_pick arg6 harg6, readAt_pick arg7 harg7, readAt_pick arg8 harg8, readAt_pick arg9 harg9, cov_k, cov_v, rd_k, rd_v, rd_q, rd_r, pick_k, pick_v]
  refine four (Val := Elt F) arg10.view _ arg10.view.junk [⟨Rect.unit ![0, 0] ![4096, 256] inb_S4096x256_S4096x256_0_0, k0_pay1 (F := F)⟩] (k0_pay1 (F := F)) ?_ ?_ (n * 1024) (off3_eq _ n hn hw 0) (off3_eq _ n hn hw 1) (off3_eq _ n hn hw 2) (off3_eq _ n hn hw 3) _ _ _ _ (fun r w => addQ (dscores true r x0 x1 x2 x3 x4 x5) (keys x1 x2) w) _ _ _ _ rfl rfl rfl rfl
  · exact rd_q _ _ _ _ _
  · exact rd_q _ _ _ _ _

/-- The rotary keys' gradient is cleared at the first point. -/
theorem kr_A (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole) (T0 : BufTy.Contents (Elt F) (Memref.whole main_c).view.ty) (T1 : BufTy.Contents (Elt F) (Memref.whole main_c_0).view.ty) (x0 : Vec F S1024x256 .bf16) (x1 : Vec F S1024x256 .bf16) (x2 : Vec F S1024x128 .bf16) (x3 : Vec F S1024x128 .bf16) (x4 : Vec F S1x1024x128 .f32) (x5 : Vec F S1024x128 .f32) (hchk : k0_chk1 (word0 T0 i) (word1 T1 i)) (hc1 : k0_cond1 i = 1#1) (hc2 : k0_cond2 i = 1#1) (hc3 : k0_cond3 (word0 T0 i) (word1 T1 i) = 1#1) (hc4 : ¬ k0_cond4 (word0 T0 i) (word1 T1 i) = 1#1) (hc5 : k0_cond5 (word0 T0 i) (word1 T1 i) = 1#1) (hc6 : ¬ k0_cond6 (word0 T0 i) = 1#1) (hc7 : ¬ k0_cond7 i = 1#1) :
    (runA c i arg4 harg4 arg5 harg5 arg6 harg6 arg7 harg7 arg8 harg8 arg9 harg9 arg10 harg10 arg11 harg11 arg12 harg12 arg13 harg13 arg14 harg14 T0 T1 x0 x1 x2 x3 x4 x5 hchk hc1 hc2 hc3 hc4 hc5 hc6 hc7).2.1 = k0_pay2 := by
  simp only [runA, runA.sl.H10_1, runA.sl.H10_2, runA.sl.H10_3, runA.sl.H10_4, runA.sl.H12_1, runA.sl.H13_1, runA.sl.H13_2, runA.sl.H13_3, runA.sl.H13_4, runA.sl.H13_5, runA.sl.H14_1, runA.sl.H14_2, runA.sl.H14_3, runA.sl.H14_4, runA.sl.H14_5, runA.sl.cst_29, runA.sl.r, runA.sl.r_1, runA.sl.r_10, runA.sl.r_11, runA.sl.r_12, runA.sl.r_13, runA.sl.r_14, runA.sl.r_15, runA.sl.r_16, runA.sl.r_17, runA.sl.r_18, runA.sl.r_2, runA.sl.r_3, runA.sl.r_4, runA.sl.r_5, runA.sl.r_6, runA.sl.r_7, runA.sl.r_8, runA.sl.r_9, runA.sl.v113, runA.sl.v12, runA.sl.v120, runA.sl.v13, runA.sl.v131, runA.sl.v14, runA.sl.v165, runA.sl.v172, runA.sl.v183, runA.sl.v217, runA.sl.v224, runA.sl.v235, runA.sl.v61, runA.sl.v68, runA.sl.v79, readAt_pick arg4 harg4, readAt_pick arg5 harg5, readAt_pick arg6 harg6, readAt_pick arg7 harg7, readAt_pick arg8 harg8, readAt_pick arg9 harg9, cov_k, cov_v, rd_k, rd_v, rd_q, rd_r, pick_k, pick_v]

end Cert.KernelIdeal.Flash
-- ==== Proof.FlashV.ValB.lean ====
module

public import proofs.«01_k».proof.Proof.FlashI.RunB
public import proofs.«01_k».proof.Proof.FlashV.Strip

/-! What a point of case B leaves in the scratch and output blocks. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

variable {F : FTy → Type} [FloatOps F] [Named F]

/-- The keys' gradient after a point of case B. -/
theorem k_B (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole) (T0 : BufTy.Contents (Elt F) (Memref.whole main_c).view.ty) (T1 : BufTy.Contents (Elt F) (Memref.whole main_c_0).view.ty) (x0 : Vec F S1024x256 .bf16) (x1 : Vec F S1024x256 .bf16) (x2 : Vec F S1024x128 .bf16) (x3 : Vec F S1024x128 .bf16) (x4 : Vec F S1x1024x128 .f32) (x5 : Vec F S1024x128 .f32) (hchk : k0_chk1 (word0 T0 i) (word1 T1 i)) (hc1 : k0_cond1 i = 1#1) (hc2 : ¬ k0_cond2 i = 1#1) (hc3 : k0_cond3 (word0 T0 i) (word1 T1 i) = 1#1) (hc4 : ¬ k0_cond4 (word0 T0 i) (word1 T1 i) = 1#1) (hc5 : k0_cond5 (word0 T0 i) (word1 T1 i) = 1#1) (hc6 : ¬ k0_cond6 (word0 T0 i) = 1#1) (hc7 : ¬ k0_cond7 i = 1#1) :
    (runB c i arg4 harg4 arg5 harg5 arg6 harg6 arg7 harg7 arg8 harg8 arg9 harg9 arg10 harg10 arg11 harg11 arg12 harg12 arg13 harg13 arg14 harg14 T0 T1 x0 x1 x2 x3 x4 x5 hchk hc1 hc2 hc3 hc4 hc5 hc6 hc7).2.1 = blockK true x0 x1 x2 x3 x4 x5 k0_pay3 := by
  simp only [runB, runB.sl.H10_1, runB.sl.H10_2, runB.sl.H10_3, runB.sl.H10_4, runB.sl.H13_1, runB.sl.H13_2, runB.sl.H13_3, runB.sl.H13_4, runB.sl.H13_5, runB.sl.H14_1, runB.sl.H14_2, runB.sl.H14_3, runB.sl.H14_4, runB.sl.H14_5, runB.sl.cst_29, runB.sl.r, runB.sl.r_1, runB.sl.r_10, runB.sl.r_11, runB.sl.r_12, runB.sl.r_13, runB.sl.r_14, runB.sl.r_15, runB.sl.r_16, runB.sl.r_17, runB.sl.r_18, runB.sl.r_2, runB.sl.r_3, runB.sl.r_4, runB.sl.r_5, runB.sl.r_6, runB.sl.r_7, runB.sl.r_8, runB.sl.r_9, runB.sl.v113, runB.sl.v12, runB.sl.v120, runB.sl.v13, runB.sl.v131, runB.sl.v14, runB.sl.v165, runB.sl.v172, runB.sl.v183, runB.sl.v217, runB.sl.v224, runB.sl.v235, runB.sl.v61, runB.sl.v68, runB.sl.v79, readAt_pick, cov_k, cov_v, rd_k, rd_v, pick_k, pick_v]
  rfl

/-- The values' gradient after a point of case B. -/
theorem v_B (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole) (T0 : BufTy.Contents (Elt F) (Memref.whole main_c).view.ty) (T1 : BufTy.Contents (Elt F) (Memref.whole main_c_0).view.ty) (x0 : Vec F S1024x256 .bf16) (x1 : Vec F S1024x256 .bf16) (x2 : Vec F S1024x128 .bf16) (x3 : Vec F S1024x128 .bf16) (x4 : Vec F S1x1024x128 .f32) (x5 : Vec F S1024x128 .f32) (hchk : k0_chk1 (word0 T0 i) (word1 T1 i)) (hc1 : k0_cond1 i = 1#1) (hc2 : ¬ k0_cond2 i = 1#1) (hc3 : k0_cond3 (word0 T0 i) (word1 T1 i) = 1#1) (hc4 : ¬ k0_cond4 (word0 T0 i) (word1 T1 i) = 1#1) (hc5 : k0_cond5 (word0 T0 i) (word1 T1 i) = 1#1) (hc6 : ¬ k0_cond6 (word0 T0 i) = 1#1) (hc7 : ¬ k0_cond7 i = 1#1) :
    (runB c i arg4 harg4 arg5 harg5 arg6 harg6 arg7 harg7 arg8 harg8 arg9 harg9 arg10 harg10 arg11 harg11 arg12 harg12 arg13 harg13 arg14 harg14 T0 T1 x0 x1 x2 x3 x4 x5 hchk hc1 hc2 hc3 hc4 hc5 hc6 hc7).2.2.1 = blockV true x0 x1 x2 x3 x4 k0_pay4 := by
  simp only [runB, runB.sl.H10_1, runB.sl.H10_2, runB.sl.H10_3, runB.sl.H10_4, runB.sl.H13_1, runB.sl.H13_2, runB.sl.H13_3, runB.sl.H13_4, runB.sl.H13_5, runB.sl.H14_1, runB.sl.H14_2, runB.sl.H14_3, runB.sl.H14_4, runB.sl.H14_5, runB.sl.cst_29, runB.sl.r, runB.sl.r_1, runB.sl.r_10, runB.sl.r_11, runB.sl.r_12, runB.sl.r_13, runB.sl.r_14, runB.sl.r_15, runB.sl.r_16, runB.sl.r_17, runB.sl.r_18, runB.sl.r_2, runB.sl.r_3, runB.sl.r_4, runB.sl.r_5, runB.sl.r_6, runB.sl.r_7, runB.sl.r_8, runB.sl.r_9, runB.sl.v113, runB.sl.v12, runB.sl.v120, runB.sl.v13, runB.sl.v131, runB.sl.v14, runB.sl.v165, runB.sl.v172, runB.sl.v183, runB.sl.v217, runB.sl.v224, runB.sl.v235, runB.sl.v61, runB.sl.v68, runB.sl.v79, readAt_pick, cov_k, cov_v, rd_k, rd_v, pick_k, pick_v]
  rfl

end Cert.KernelIdeal.Flash
-- ==== Proof.FlashV.QB.lean ====
module

public import proofs.«01_k».proof.Proof.FlashI.RunB
public import proofs.«01_k».proof.Proof.FlashV.Rows

/-! What a point of case B leaves in the blocks of the gradients. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

variable {F : FTy → Type} [FloatOps F] [Named F]

/-- The queries' gradient after a point of case B. -/
theorem q_B (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole) (T0 : BufTy.Contents (Elt F) (Memref.whole main_c).view.ty) (T1 : BufTy.Contents (Elt F) (Memref.whole main_c_0).view.ty) (x0 : Vec F S1024x256 .bf16) (x1 : Vec F S1024x256 .bf16) (x2 : Vec F S1024x128 .bf16) (x3 : Vec F S1024x128 .bf16) (x4 : Vec F S1x1024x128 .f32) (x5 : Vec F S1024x128 .f32) (hchk : k0_chk1 (word0 T0 i) (word1 T1 i)) (hc1 : k0_cond1 i = 1#1) (hc2 : ¬ k0_cond2 i = 1#1) (hc3 : k0_cond3 (word0 T0 i) (word1 T1 i) = 1#1) (hc4 : ¬ k0_cond4 (word0 T0 i) (word1 T1 i) = 1#1) (hc5 : k0_cond5 (word0 T0 i) (word1 T1 i) = 1#1) (hc6 : ¬ k0_cond6 (word0 T0 i) = 1#1) (hc7 : ¬ k0_cond7 i = 1#1) (n : ℕ) (hn : n < 4) (hw : word0 T0 i = BitVec.ofNat 32 n) :
    (runB c i arg4 harg4 arg5 harg5 arg6 harg6 arg7 harg7 arg8 harg8 arg9 harg9 arg10 harg10 arg11 harg11 arg12 harg12 arg13 harg13 arg14 harg14 T0 T1 x0 x1 x2 x3 x4 x5 hchk hc1 hc2 hc3 hc4 hc5 hc6 hc7).1 = strips (n * 1024) (fun r w => addQ (dscores true r x0 x1 x2 x3 x4 x5) (keys x1 x2) w) k0_pay1 := by
  simp only [runB, runB.sl.H10_1, runB.sl.H10_2, runB.sl.H10_3, runB.sl.H10_4, runB.sl.H13_1, runB.sl.H13_2, runB.sl.H13_3, runB.sl.H13_4, runB.sl.H13_5, runB.sl.H14_1, runB.sl.H14_2, runB.sl.H14_3, runB.sl.H14_4, runB.sl.H14_5, runB.sl.cst_29, runB.sl.r, runB.sl.r_1, runB.sl.r_10, runB.sl.r_11, runB.sl.r_12, runB.sl.r_13, runB.sl.r_14, runB.sl.r_15, runB.sl.r_16, runB.sl.r_17, runB.sl.r_18, runB.sl.r_2, runB.sl.r_3, runB.sl.r_4, runB.sl.r_5, runB.sl.r_6, runB.sl.r_7, runB.sl.r_8, runB.sl.r_9, runB.sl.v113, runB.sl.v12, runB.sl.v120, runB.sl.v13, runB.sl.v131, runB.sl.v14, runB.sl.v165, runB.sl.v172, runB.sl.v183, runB.sl.v217, runB.sl.v224, runB.sl.v235, runB.sl.v61, runB.sl.v68, runB.sl.v79, readAt_pick arg4 harg4, readAt_pick arg5 harg5, readAt_pick arg6 harg6, readAt_pick arg7 harg7, readAt_pick arg8 harg8, readAt_pick arg9 harg9, cov_k, cov_v, rd_k, rd_v, rd_q, rd_r, pick_k, pick_v]
  refine four (Val := Elt F) arg10.view _ arg10.view.junk [⟨Rect.unit ![0, 0] ![4096, 256] inb_S4096x256_S4096x256_0_0, k0_pay1 (F := F)⟩] (k0_pay1 (F := F)) ?_ ?_ (n * 1024) (off3_eq _ n hn hw 0) (off3_eq _ n hn hw 1) (off3_eq _ n hn hw 2) (off3_eq _ n hn hw 3) _ _ _ _ (fun r w => addQ (dscores true r x0 x1 x2 x3 x4 x5) (keys x1 x2) w) _ _ _ _ rfl rfl rfl rfl
  · exact rd_q _ _ _ _ _
  · exact rd_q _ _ _ _ _

end Cert.KernelIdeal.Flash
-- ==== Proof.FlashV.ValC.lean ====
module

public import proofs.«01_k».proof.Proof.FlashI.RunC
public import proofs.«01_k».proof.Proof.FlashV.Strip

/-! What a point of case C leaves in the scratch and output blocks. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

variable {F : FTy → Type} [FloatOps F] [Named F]

/-- The keys' gradient after a point of case C. -/
theorem k_C (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole) (T0 : BufTy.Contents (Elt F) (Memref.whole main_c).view.ty) (T1 : BufTy.Contents (Elt F) (Memref.whole main_c_0).view.ty) (x0 : Vec F S1024x256 .bf16) (x1 : Vec F S1024x256 .bf16) (x2 : Vec F S1024x128 .bf16) (x3 : Vec F S1024x128 .bf16) (x4 : Vec F S1x1024x128 .f32) (x5 : Vec F S1024x128 .f32) (pq : Vec F S4096x256 .f32) (pk : Vec F S1024x256 .f32) (pv : Vec F S1024x128 .f32) (hchk : k0_chk1 (word0 T0 i) (word1 T1 i)) (hc1 : ¬ k0_cond1 i = 1#1) (hc2 : ¬ k0_cond2 i = 1#1) (hc3 : ¬ k0_cond3 (word0 T0 i) (word1 T1 i) = 1#1) (hc4 : k0_cond4 (word0 T0 i) (word1 T1 i) = 1#1) (hc5 : ¬ k0_cond5 (word0 T0 i) (word1 T1 i) = 1#1) (hc6 : ¬ k0_cond6 (word0 T0 i) = 1#1) (hc7 : ¬ k0_cond7 i = 1#1) :
    (runC c i arg4 harg4 arg5 harg5 arg6 harg6 arg7 harg7 arg8 harg8 arg9 harg9 arg10 harg10 arg11 harg11 arg12 harg12 arg13 harg13 arg14 harg14 T0 T1 x0 x1 x2 x3 x4 x5 pq pk pv hchk hc1 hc2 hc3 hc4 hc5 hc6 hc7).2.1 = blockK false x0 x1 x2 x3 x4 x5 pk := by
  simp only [runC, runC.sl.H10_1, runC.sl.H10_2, runC.sl.H10_3, runC.sl.H13_1, runC.sl.H13_2, runC.sl.H13_3, runC.sl.H13_4, runC.sl.H14_1, runC.sl.H14_2, runC.sl.H14_3, runC.sl.H14_4, runC.sl.r, runC.sl.r_1, runC.sl.r_10, runC.sl.r_11, runC.sl.r_12, runC.sl.r_13, runC.sl.r_14, runC.sl.r_15, runC.sl.r_16, runC.sl.r_2, runC.sl.r_3, runC.sl.r_4, runC.sl.r_5, runC.sl.r_6, runC.sl.r_7, runC.sl.r_8, runC.sl.r_9, runC.sl.v106, runC.sl.v117, runC.sl.v12, runC.sl.v13, runC.sl.v14, runC.sl.v144, runC.sl.v151, runC.sl.v162, runC.sl.v189, runC.sl.v196, runC.sl.v207, runC.sl.v99, readAt_pick, cov_k, cov_v, rd_k, rd_v, pick_k, pick_v]
  rfl

/-- The values' gradient after a point of case C. -/
theorem v_C (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole) (T0 : BufTy.Contents (Elt F) (Memref.whole main_c).view.ty) (T1 : BufTy.Contents (Elt F) (Memref.whole main_c_0).view.ty) (x0 : Vec F S1024x256 .bf16) (x1 : Vec F S1024x256 .bf16) (x2 : Vec F S1024x128 .bf16) (x3 : Vec F S1024x128 .bf16) (x4 : Vec F S1x1024x128 .f32) (x5 : Vec F S1024x128 .f32) (pq : Vec F S4096x256 .f32) (pk : Vec F S1024x256 .f32) (pv : Vec F S1024x128 .f32) (hchk : k0_chk1 (word0 T0 i) (word1 T1 i)) (hc1 : ¬ k0_cond1 i = 1#1) (hc2 : ¬ k0_cond2 i = 1#1) (hc3 : ¬ k0_cond3 (word0 T0 i) (word1 T1 i) = 1#1) (hc4 : k0_cond4 (word0 T0 i) (word1 T1 i) = 1#1) (hc5 : ¬ k0_cond5 (word0 T0 i) (word1 T1 i) = 1#1) (hc6 : ¬ k0_cond6 (word0 T0 i) = 1#1) (hc7 : ¬ k0_cond7 i = 1#1) :
    (runC c i arg4 harg4 arg5 harg5 arg6 harg6 arg7 harg7 arg8 harg8 arg9 harg9 arg10 harg10 arg11 harg11 arg12 harg12 arg13 harg13 arg14 harg14 T0 T1 x0 x1 x2 x3 x4 x5 pq pk pv hchk hc1 hc2 hc3 hc4 hc5 hc6 hc7).2.2.1 = blockV false x0 x1 x2 x3 x4 pv := by
  simp only [runC, runC.sl.H10_1, runC.sl.H10_2, runC.sl.H10_3, runC.sl.H13_1, runC.sl.H13_2, runC.sl.H13_3, runC.sl.H13_4, runC.sl.H14_1, runC.sl.H14_2, runC.sl.H14_3, runC.sl.H14_4, runC.sl.r, runC.sl.r_1, runC.sl.r_10, runC.sl.r_11, runC.sl.r_12, runC.sl.r_13, runC.sl.r_14, runC.sl.r_15, runC.sl.r_16, runC.sl.r_2, runC.sl.r_3, runC.sl.r_4, runC.sl.r_5, runC.sl.r_6, runC.sl.r_7, runC.sl.r_8, runC.sl.r_9, runC.sl.v106, runC.sl.v117, runC.sl.v12, runC.sl.v13, runC.sl.v14, runC.sl.v144, runC.sl.v151, runC.sl.v162, runC.sl.v189, runC.sl.v196, runC.sl.v207, runC.sl.v99, readAt_pick, cov_k, cov_v, rd_k, rd_v, pick_k, pick_v]
  rfl

end Cert.KernelIdeal.Flash
-- ==== Proof.FlashV.QC.lean ====
module

public import proofs.«01_k».proof.Proof.FlashI.RunC
public import proofs.«01_k».proof.Proof.FlashV.Rows

/-! What a point of case C leaves in the blocks of the gradients. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

variable {F : FTy → Type} [FloatOps F] [Named F]

/-- The queries' gradient after a point of case C. -/
theorem q_C (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole) (T0 : BufTy.Contents (Elt F) (Memref.whole main_c).view.ty) (T1 : BufTy.Contents (Elt F) (Memref.whole main_c_0).view.ty) (x0 : Vec F S1024x256 .bf16) (x1 : Vec F S1024x256 .bf16) (x2 : Vec F S1024x128 .bf16) (x3 : Vec F S1024x128 .bf16) (x4 : Vec F S1x1024x128 .f32) (x5 : Vec F S1024x128 .f32) (pq : Vec F S4096x256 .f32) (pk : Vec F S1024x256 .f32) (pv : Vec F S1024x128 .f32) (hchk : k0_chk1 (word0 T0 i) (word1 T1 i)) (hc1 : ¬ k0_cond1 i = 1#1) (hc2 : ¬ k0_cond2 i = 1#1) (hc3 : ¬ k0_cond3 (word0 T0 i) (word1 T1 i) = 1#1) (hc4 : k0_cond4 (word0 T0 i) (word1 T1 i) = 1#1) (hc5 : ¬ k0_cond5 (word0 T0 i) (word1 T1 i) = 1#1) (hc6 : ¬ k0_cond6 (word0 T0 i) = 1#1) (hc7 : ¬ k0_cond7 i = 1#1) (n : ℕ) (hn : n < 4) (hw : word0 T0 i = BitVec.ofNat 32 n) :
    (runC c i arg4 harg4 arg5 harg5 arg6 harg6 arg7 harg7 arg8 harg8 arg9 harg9 arg10 harg10 arg11 harg11 arg12 harg12 arg13 harg13 arg14 harg14 T0 T1 x0 x1 x2 x3 x4 x5 pq pk pv hchk hc1 hc2 hc3 hc4 hc5 hc6 hc7).1 = strips (n * 1024) (fun r w => addQ (dscores false r x0 x1 x2 x3 x4 x5) (keys x1 x2) w) pq := by
  simp only [runC, runC.sl.H10_1, runC.sl.H10_2, runC.sl.H10_3, runC.sl.H13_1, runC.sl.H13_2, runC.sl.H13_3, runC.sl.H13_4, runC.sl.H14_1, runC.sl.H14_2, runC.sl.H14_3, runC.sl.H14_4, runC.sl.r, runC.sl.r_1, runC.sl.r_10, runC.sl.r_11, runC.sl.r_12, runC.sl.r_13, runC.sl.r_14, runC.sl.r_15, runC.sl.r_16, runC.sl.r_2, runC.sl.r_3, runC.sl.r_4, runC.sl.r_5, runC.sl.r_6, runC.sl.r_7, runC.sl.r_8, runC.sl.r_9, runC.sl.v106, runC.sl.v117, runC.sl.v12, runC.sl.v13, runC.sl.v14, runC.sl.v144, runC.sl.v151, runC.sl.v162, runC.sl.v189, runC.sl.v196, runC.sl.v207, runC.sl.v99, readAt_pick arg4 harg4, readAt_pick arg5 harg5, readAt_pick arg6 harg6, readAt_pick arg7 harg7, readAt_pick arg8 harg8, readAt_pick arg9 harg9, readAt_pick arg13 harg13, readAt_pick arg14 harg14, cov_k, cov_v, rd_k, rd_v, rd_q, rd_r, pick_k, pick_v]
  exact four arg10.view (harg10.unread pq) (harg10.unread pq) [] pq (harg10.read_unread pq) (harg10.read_unread pq) (n * 1024) (off2_eq _ n hn hw 0) (off2_eq _ n hn hw 1) (off2_eq _ n hn hw 2) (off2_eq _ n hn hw 3) _ _ _ _ (fun r w => addQ (dscores false r x0 x1 x2 x3 x4 x5) (keys x1 x2) w) _ _ _ _ rfl rfl rfl rfl

end Cert.KernelIdeal.Flash
-- ==== Proof.FlashV.ValD.lean ====
module

public import proofs.«01_k».proof.Proof.FlashI.RunD
public import proofs.«01_k».proof.Proof.FlashV.Strip

/-! What a point of case D leaves in the scratch and output blocks. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

variable {F : FTy → Type} [FloatOps F] [Named F]

/-- The keys' gradient after a point of case D. -/
theorem k_D (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole) (T0 : BufTy.Contents (Elt F) (Memref.whole main_c).view.ty) (T1 : BufTy.Contents (Elt F) (Memref.whole main_c_0).view.ty) (x0 : Vec F S1024x256 .bf16) (x1 : Vec F S1024x256 .bf16) (x2 : Vec F S1024x128 .bf16) (x3 : Vec F S1024x128 .bf16) (x4 : Vec F S1x1024x128 .f32) (x5 : Vec F S1024x128 .f32) (pq : Vec F S4096x256 .f32) (pkr : Vec F S4096x128 .f32) (pk : Vec F S1024x256 .f32) (pv : Vec F S1024x128 .f32) (hchk : k0_chk1 (word0 T0 i) (word1 T1 i)) (hc1 : ¬ k0_cond1 i = 1#1) (hc2 : ¬ k0_cond2 i = 1#1) (hc3 : ¬ k0_cond3 (word0 T0 i) (word1 T1 i) = 1#1) (hc4 : k0_cond4 (word0 T0 i) (word1 T1 i) = 1#1) (hc5 : ¬ k0_cond5 (word0 T0 i) (word1 T1 i) = 1#1) (hc6 : k0_cond6 (word0 T0 i) = 1#1) (hc7 : ¬ k0_cond7 i = 1#1) :
    (runD c i arg4 harg4 arg5 harg5 arg6 harg6 arg7 harg7 arg8 harg8 arg9 harg9 arg10 harg10 arg11 harg11 arg12 harg12 arg13 harg13 arg14 harg14 T0 T1 x0 x1 x2 x3 x4 x5 pq pkr pk pv hchk hc1 hc2 hc3 hc4 hc5 hc6 hc7).2.2.2.1 = blockK false x0 x1 x2 x3 x4 x5 pk := by
  simp only [runD, runD.sl.H10_1, runD.sl.H10_2, runD.sl.H10_3, runD.sl.H11_2, runD.sl.H13_1, runD.sl.H13_2, runD.sl.H13_3, runD.sl.H13_4, runD.sl.H14_1, runD.sl.H14_2, runD.sl.H14_3, runD.sl.H14_4, runD.sl.r, runD.sl.r_1, runD.sl.r_10, runD.sl.r_11, runD.sl.r_12, runD.sl.r_13, runD.sl.r_14, runD.sl.r_15, runD.sl.r_16, runD.sl.r_2, runD.sl.r_3, runD.sl.r_4, runD.sl.r_5, runD.sl.r_6, runD.sl.r_7, runD.sl.r_8, runD.sl.r_9, runD.sl.v106, runD.sl.v117, runD.sl.v12, runD.sl.v13, runD.sl.v14, runD.sl.v144, runD.sl.v151, runD.sl.v162, runD.sl.v189, runD.sl.v196, runD.sl.v207, runD.sl.v27, runD.sl.v33, runD.sl.v99, readAt_pick, cov_k, cov_v, rd_k, rd_v, pick_k, pick_v]
  rfl

/-- The values' gradient after a point of case D. -/
theorem v_D (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole) (T0 : BufTy.Contents (Elt F) (Memref.whole main_c).view.ty) (T1 : BufTy.Contents (Elt F) (Memref.whole main_c_0).view.ty) (x0 : Vec F S1024x256 .bf16) (x1 : Vec F S1024x256 .bf16) (x2 : Vec F S1024x128 .bf16) (x3 : Vec F S1024x128 .bf16) (x4 : Vec F S1x1024x128 .f32) (x5 : Vec F S1024x128 .f32) (pq : Vec F S4096x256 .f32) (pkr : Vec F S4096x128 .f32) (pk : Vec F S1024x256 .f32) (pv : Vec F S1024x128 .f32) (hchk : k0_chk1 (word0 T0 i) (word1 T1 i)) (hc1 : ¬ k0_cond1 i = 1#1) (hc2 : ¬ k0_cond2 i = 1#1) (hc3 : ¬ k0_cond3 (word0 T0 i) (word1 T1 i) = 1#1) (hc4 : k0_cond4 (word0 T0 i) (word1 T1 i) = 1#1) (hc5 : ¬ k0_cond5 (word0 T0 i) (word1 T1 i) = 1#1) (hc6 : k0_cond6 (word0 T0 i) = 1#1) (hc7 : ¬ k0_cond7 i = 1#1) :
    (runD c i arg4 harg4 arg5 harg5 arg6 harg6 arg7 harg7 arg8 harg8 arg9 harg9 arg10 harg10 arg11 harg11 arg12 harg12 arg13 harg13 arg14 harg14 T0 T1 x0 x1 x2 x3 x4 x5 pq pkr pk pv hchk hc1 hc2 hc3 hc4 hc5 hc6 hc7).2.2.2.2.1 = blockV false x0 x1 x2 x3 x4 pv := by
  simp only [runD, runD.sl.H10_1, runD.sl.H10_2, runD.sl.H10_3, runD.sl.H11_2, runD.sl.H13_1, runD.sl.H13_2, runD.sl.H13_3, runD.sl.H13_4, runD.sl.H14_1, runD.sl.H14_2, runD.sl.H14_3, runD.sl.H14_4, runD.sl.r, runD.sl.r_1, runD.sl.r_10, runD.sl.r_11, runD.sl.r_12, runD.sl.r_13, runD.sl.r_14, runD.sl.r_15, runD.sl.r_16, runD.sl.r_2, runD.sl.r_3, runD.sl.r_4, runD.sl.r_5, runD.sl.r_6, runD.sl.r_7, runD.sl.r_8, runD.sl.r_9, runD.sl.v106, runD.sl.v117, runD.sl.v12, runD.sl.v13, runD.sl.v14, runD.sl.v144, runD.sl.v151, runD.sl.v162, runD.sl.v189, runD.sl.v196, runD.sl.v207, runD.sl.v27, runD.sl.v33, runD.sl.v99, readAt_pick, cov_k, cov_v, rd_k, rd_v, pick_k, pick_v]
  rfl

end Cert.KernelIdeal.Flash
-- ==== Proof.FlashV.QD.lean ====
module

public import proofs.«01_k».proof.Proof.FlashI.RunD
public import proofs.«01_k».proof.Proof.FlashV.Rows

/-! What a point of case D leaves in the blocks of the gradients. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

variable {F : FTy → Type} [FloatOps F] [Named F]

/-- The queries' gradient after a point of case D. -/
theorem q_D (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole) (T0 : BufTy.Contents (Elt F) (Memref.whole main_c).view.ty) (T1 : BufTy.Contents (Elt F) (Memref.whole main_c_0).view.ty) (x0 : Vec F S1024x256 .bf16) (x1 : Vec F S1024x256 .bf16) (x2 : Vec F S1024x128 .bf16) (x3 : Vec F S1024x128 .bf16) (x4 : Vec F S1x1024x128 .f32) (x5 : Vec F S1024x128 .f32) (pq : Vec F S4096x256 .f32) (pkr : Vec F S4096x128 .f32) (pk : Vec F S1024x256 .f32) (pv : Vec F S1024x128 .f32) (hchk : k0_chk1 (word0 T0 i) (word1 T1 i)) (hc1 : ¬ k0_cond1 i = 1#1) (hc2 : ¬ k0_cond2 i = 1#1) (hc3 : ¬ k0_cond3 (word0 T0 i) (word1 T1 i) = 1#1) (hc4 : k0_cond4 (word0 T0 i) (word1 T1 i) = 1#1) (hc5 : ¬ k0_cond5 (word0 T0 i) (word1 T1 i) = 1#1) (hc6 : k0_cond6 (word0 T0 i) = 1#1) (hc7 : ¬ k0_cond7 i = 1#1) (n : ℕ) (hn : n < 4) (hw : word0 T0 i = BitVec.ofNat 32 n) :
    (runD c i arg4 harg4 arg5 harg5 arg6 harg6 arg7 harg7 arg8 harg8 arg9 harg9 arg10 harg10 arg11 harg11 arg12 harg12 arg13 harg13 arg14 harg14 T0 T1 x0 x1 x2 x3 x4 x5 pq pkr pk pv hchk hc1 hc2 hc3 hc4 hc5 hc6 hc7).1 = strips (n * 1024) (fun r w => addQ (dscores false r x0 x1 x2 x3 x4 x5) (keys x1 x2) w) pq := by
  simp only [runD, runD.sl.H10_1, runD.sl.H10_2, runD.sl.H10_3, runD.sl.H11_2, runD.sl.H13_1, runD.sl.H13_2, runD.sl.H13_3, runD.sl.H13_4, runD.sl.H14_1, runD.sl.H14_2, runD.sl.H14_3, runD.sl.H14_4, runD.sl.r, runD.sl.r_1, runD.sl.r_10, runD.sl.r_11, runD.sl.r_12, runD.sl.r_13, runD.sl.r_14, runD.sl.r_15, runD.sl.r_16, runD.sl.r_2, runD.sl.r_3, runD.sl.r_4, runD.sl.r_5, runD.sl.r_6, runD.sl.r_7, runD.sl.r_8, runD.sl.r_9, runD.sl.v106, runD.sl.v117, runD.sl.v12, runD.sl.v13, runD.sl.v14, runD.sl.v144, runD.sl.v151, runD.sl.v162, runD.sl.v189, runD.sl.v196, runD.sl.v207, runD.sl.v27, runD.sl.v33, runD.sl.v99, readAt_pick arg4 harg4, readAt_pick arg5 harg5, readAt_pick arg6 harg6, readAt_pick arg7 harg7, readAt_pick arg8 harg8, readAt_pick arg9 harg9, readAt_pick arg13 harg13, readAt_pick arg14 harg14, cov_k, cov_v, rd_k, rd_v, rd_q, rd_r, pick_k, pick_v]
  exact four arg10.view (harg10.unread pq) (harg10.unread pq) [] pq (harg10.read_unread pq) (harg10.read_unread pq) (n * 1024) (off2_eq _ n hn hw 0) (off2_eq _ n hn hw 1) (off2_eq _ n hn hw 2) (off2_eq _ n hn hw 3) _ _ _ _ (fun r w => addQ (dscores false r x0 x1 x2 x3 x4 x5) (keys x1 x2) w) _ _ _ _ rfl rfl rfl rfl

/-- The block of the keys' and values' gradients that a point of case D writes. -/
theorem kv_D (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole) (T0 : BufTy.Contents (Elt F) (Memref.whole main_c).view.ty) (T1 : BufTy.Contents (Elt F) (Memref.whole main_c_0).view.ty) (x0 : Vec F S1024x256 .bf16) (x1 : Vec F S1024x256 .bf16) (x2 : Vec F S1024x128 .bf16) (x3 : Vec F S1024x128 .bf16) (x4 : Vec F S1x1024x128 .f32) (x5 : Vec F S1024x128 .f32) (pq : Vec F S4096x256 .f32) (pkr : Vec F S4096x128 .f32) (pk : Vec F S1024x256 .f32) (pv : Vec F S1024x128 .f32) (hchk : k0_chk1 (word0 T0 i) (word1 T1 i)) (hc1 : ¬ k0_cond1 i = 1#1) (hc2 : ¬ k0_cond2 i = 1#1) (hc3 : ¬ k0_cond3 (word0 T0 i) (word1 T1 i) = 1#1) (hc4 : k0_cond4 (word0 T0 i) (word1 T1 i) = 1#1) (hc5 : ¬ k0_cond5 (word0 T0 i) (word1 T1 i) = 1#1) (hc6 : k0_cond6 (word0 T0 i) = 1#1) (hc7 : ¬ k0_cond7 i = 1#1) :
    (runD c i arg4 harg4 arg5 harg5 arg6 harg6 arg7 harg7 arg8 harg8 arg9 harg9 arg10 harg10 arg11 harg11 arg12 harg12 arg13 harg13 arg14 harg14 T0 T1 x0 x1 x2 x3 x4 x5 pq pkr pk pv hchk hc1 hc2 hc3 hc4 hc5 hc6 hc7).2.1 = sides (k0_pay12 (blockK false x0 x1 x2 x3 x4 x5 pk)) (k0_pay13 (blockV false x0 x1 x2 x3 x4 pv)) := by
  simp only [runD, runD.sl.H10_1, runD.sl.H10_2, runD.sl.H10_3, runD.sl.H11_2, runD.sl.H13_1, runD.sl.H13_2, runD.sl.H13_3, runD.sl.H13_4, runD.sl.H14_1, runD.sl.H14_2, runD.sl.H14_3, runD.sl.H14_4, runD.sl.r, runD.sl.r_1, runD.sl.r_10, runD.sl.r_11, runD.sl.r_12, runD.sl.r_13, runD.sl.r_14, runD.sl.r_15, runD.sl.r_16, runD.sl.r_2, runD.sl.r_3, runD.sl.r_4, runD.sl.r_5, runD.sl.r_6, runD.sl.r_7, runD.sl.r_8, runD.sl.r_9, runD.sl.v106, runD.sl.v117, runD.sl.v12, runD.sl.v13, runD.sl.v14, runD.sl.v144, runD.sl.v151, runD.sl.v162, runD.sl.v189, runD.sl.v196, runD.sl.v207, runD.sl.v27, runD.sl.v33, runD.sl.v99, readAt_pick arg4 harg4, readAt_pick arg5 harg5, readAt_pick arg6 harg6, readAt_pick arg7 harg7, readAt_pick arg8 harg8, readAt_pick arg9 harg9, readAt_pick arg13 harg13, readAt_pick arg14 harg14, cov_k, cov_v, rd_k, rd_v, rd_q, rd_r, pick_k, pick_v]
  refine (two arg11.view _ _ _ _ _).trans ?_
  exact congrArg₂ (fun a b => sides (k0_pay12 a) (k0_pay13 b)) (show _ = (blockK false x0 x1 x2 x3 x4 x5 pk) from rfl) (show _ = (blockV false x0 x1 x2 x3 x4 pv) from rfl)

/-- The rotary keys' gradient after a point of case D. -/
theorem kr_D (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole) (T0 : BufTy.Contents (Elt F) (Memref.whole main_c).view.ty) (T1 : BufTy.Contents (Elt F) (Memref.whole main_c_0).view.ty) (x0 : Vec F S1024x256 .bf16) (x1 : Vec F S1024x256 .bf16) (x2 : Vec F S1024x128 .bf16) (x3 : Vec F S1024x128 .bf16) (x4 : Vec F S1x1024x128 .f32) (x5 : Vec F S1024x128 .f32) (pq : Vec F S4096x256 .f32) (pkr : Vec F S4096x128 .f32) (pk : Vec F S1024x256 .f32) (pv : Vec F S1024x128 .f32) (hchk : k0_chk1 (word0 T0 i) (word1 T1 i)) (hc1 : ¬ k0_cond1 i = 1#1) (hc2 : ¬ k0_cond2 i = 1#1) (hc3 : ¬ k0_cond3 (word0 T0 i) (word1 T1 i) = 1#1) (hc4 : k0_cond4 (word0 T0 i) (word1 T1 i) = 1#1) (hc5 : ¬ k0_cond5 (word0 T0 i) (word1 T1 i) = 1#1) (hc6 : k0_cond6 (word0 T0 i) = 1#1) (hc7 : ¬ k0_cond7 i = 1#1) (n : ℕ) (hn : n < 4) (hw : word1 T1 i = BitVec.ofNat 32 n) :
    (runD c i arg4 harg4 arg5 harg5 arg6 harg6 arg7 harg7 arg8 harg8 arg9 harg9 arg10 harg10 arg11 harg11 arg12 harg12 arg13 harg13 arg14 harg14 T0 T1 x0 x1 x2 x3 x4 x5 pq pkr pk pv hchk hc1 hc2 hc3 hc4 hc5 hc6 hc7).2.2.1 = block1 (n * 1024) (k0_pay14 (blockK false x0 x1 x2 x3 x4 x5 pk)) pkr := by
  simp only [runD, runD.sl.H10_1, runD.sl.H10_2, runD.sl.H10_3, runD.sl.H11_2, runD.sl.H13_1, runD.sl.H13_2, runD.sl.H13_3, runD.sl.H13_4, runD.sl.H14_1, runD.sl.H14_2, runD.sl.H14_3, runD.sl.H14_4, runD.sl.r, runD.sl.r_1, runD.sl.r_10, runD.sl.r_11, runD.sl.r_12, runD.sl.r_13, runD.sl.r_14, runD.sl.r_15, runD.sl.r_16, runD.sl.r_2, runD.sl.r_3, runD.sl.r_4, runD.sl.r_5, runD.sl.r_6, runD.sl.r_7, runD.sl.r_8, runD.sl.r_9, runD.sl.v106, runD.sl.v117, runD.sl.v12, runD.sl.v13, runD.sl.v14, runD.sl.v144, runD.sl.v151, runD.sl.v162, runD.sl.v189, runD.sl.v196, runD.sl.v207, runD.sl.v27, runD.sl.v33, runD.sl.v99, readAt_pick arg4 harg4, readAt_pick arg5 harg5, readAt_pick arg6 harg6, readAt_pick arg7 harg7, readAt_pick arg8 harg8, readAt_pick arg9 harg9, readAt_pick arg13 harg13, readAt_pick arg14 harg14, cov_k, cov_v, rd_k, rd_v, rd_q, rd_r, pick_k, pick_v]
  refine (one arg12.view (harg12.unread pkr) pkr (harg12.read_unread pkr) (n * 1024) (off4_eq _ n hn hw) _ (k0_pay14 _)).trans ?_
  exact congrArg (fun a => block1 (n * 1024) (k0_pay14 a) pkr) (show _ = (blockK false x0 x1 x2 x3 x4 x5 pk) from rfl)

end Cert.KernelIdeal.Flash
-- ==== Proof.FlashV.ValE.lean ====
module

public import proofs.«01_k».proof.Proof.FlashI.RunE
public import proofs.«01_k».proof.Proof.FlashV.Strip

/-! What a point of case E leaves in the scratch and output blocks. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

variable {F : FTy → Type} [FloatOps F] [Named F]

/-- The keys' gradient after a point of case E. -/
theorem k_E (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole) (T0 : BufTy.Contents (Elt F) (Memref.whole main_c).view.ty) (T1 : BufTy.Contents (Elt F) (Memref.whole main_c_0).view.ty) (x0 : Vec F S1024x256 .bf16) (x1 : Vec F S1024x256 .bf16) (x2 : Vec F S1024x128 .bf16) (x3 : Vec F S1024x128 .bf16) (x4 : Vec F S1x1024x128 .f32) (x5 : Vec F S1024x128 .f32) (pq : Vec F S4096x256 .f32) (hchk : k0_chk1 (word0 T0 i) (word1 T1 i)) (hc1 : ¬ k0_cond1 i = 1#1) (hc2 : ¬ k0_cond2 i = 1#1) (hc3 : k0_cond3 (word0 T0 i) (word1 T1 i) = 1#1) (hc4 : ¬ k0_cond4 (word0 T0 i) (word1 T1 i) = 1#1) (hc5 : k0_cond5 (word0 T0 i) (word1 T1 i) = 1#1) (hc6 : ¬ k0_cond6 (word0 T0 i) = 1#1) (hc7 : ¬ k0_cond7 i = 1#1) :
    (runE c i arg4 harg4 arg5 harg5 arg6 harg6 arg7 harg7 arg8 harg8 arg9 harg9 arg10 harg10 arg11 harg11 arg12 harg12 arg13 harg13 arg14 harg14 T0 T1 x0 x1 x2 x3 x4 x5 pq hchk hc1 hc2 hc3 hc4 hc5 hc6 hc7).2.1 = blockK true x0 x1 x2 x3 x4 x5 k0_pay3 := by
  simp only [runE, runE.sl.H10_1, runE.sl.H10_2, runE.sl.H10_3, runE.sl.H13_1, runE.sl.H13_2, runE.sl.H13_3, runE.sl.H13_4, runE.sl.H13_5, runE.sl.H14_1, runE.sl.H14_2, runE.sl.H14_3, runE.sl.H14_4, runE.sl.H14_5, runE.sl.cst_29, runE.sl.r, runE.sl.r_1, runE.sl.r_10, runE.sl.r_11, runE.sl.r_12, runE.sl.r_13, runE.sl.r_14, runE.sl.r_15, runE.sl.r_16, runE.sl.r_17, runE.sl.r_18, runE.sl.r_2, runE.sl.r_3, runE.sl.r_4, runE.sl.r_5, runE.sl.r_6, runE.sl.r_7, runE.sl.r_8, runE.sl.r_9, runE.sl.v113, runE.sl.v12, runE.sl.v120, runE.sl.v13, runE.sl.v131, runE.sl.v14, runE.sl.v165, runE.sl.v172, runE.sl.v183, runE.sl.v217, runE.sl.v224, runE.sl.v235, runE.sl.v61, runE.sl.v68, readAt_pick, cov_k, cov_v, rd_k, rd_v, pick_k, pick_v]
  rfl

/-- The values' gradient after a point of case E. -/
theorem v_E (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole) (T0 : BufTy.Contents (Elt F) (Memref.whole main_c).view.ty) (T1 : BufTy.Contents (Elt F) (Memref.whole main_c_0).view.ty) (x0 : Vec F S1024x256 .bf16) (x1 : Vec F S1024x256 .bf16) (x2 : Vec F S1024x128 .bf16) (x3 : Vec F S1024x128 .bf16) (x4 : Vec F S1x1024x128 .f32) (x5 : Vec F S1024x128 .f32) (pq : Vec F S4096x256 .f32) (hchk : k0_chk1 (word0 T0 i) (word1 T1 i)) (hc1 : ¬ k0_cond1 i = 1#1) (hc2 : ¬ k0_cond2 i = 1#1) (hc3 : k0_cond3 (word0 T0 i) (word1 T1 i) = 1#1) (hc4 : ¬ k0_cond4 (word0 T0 i) (word1 T1 i) = 1#1) (hc5 : k0_cond5 (word0 T0 i) (word1 T1 i) = 1#1) (hc6 : ¬ k0_cond6 (word0 T0 i) = 1#1) (hc7 : ¬ k0_cond7 i = 1#1) :
    (runE c i arg4 harg4 arg5 harg5 arg6 harg6 arg7 harg7 arg8 harg8 arg9 harg9 arg10 harg10 arg11 harg11 arg12 harg12 arg13 harg13 arg14 harg14 T0 T1 x0 x1 x2 x3 x4 x5 pq hchk hc1 hc2 hc3 hc4 hc5 hc6 hc7).2.2.1 = blockV true x0 x1 x2 x3 x4 k0_pay4 := by
  simp only [runE, runE.sl.H10_1, runE.sl.H10_2, runE.sl.H10_3, runE.sl.H13_1, runE.sl.H13_2, runE.sl.H13_3, runE.sl.H13_4, runE.sl.H13_5, runE.sl.H14_1, runE.sl.H14_2, runE.sl.H14_3, runE.sl.H14_4, runE.sl.H14_5, runE.sl.cst_29, runE.sl.r, runE.sl.r_1, runE.sl.r_10, runE.sl.r_11, runE.sl.r_12, runE.sl.r_13, runE.sl.r_14, runE.sl.r_15, runE.sl.r_16, runE.sl.r_17, runE.sl.r_18, runE.sl.r_2, runE.sl.r_3, runE.sl.r_4, runE.sl.r_5, runE.sl.r_6, runE.sl.r_7, runE.sl.r_8, runE.sl.r_9, runE.sl.v113, runE.sl.v12, runE.sl.v120, runE.sl.v13, runE.sl.v131, runE.sl.v14, runE.sl.v165, runE.sl.v172, runE.sl.v183, runE.sl.v217, runE.sl.v224, runE.sl.v235, runE.sl.v61, runE.sl.v68, readAt_pick, cov_k, cov_v, rd_k, rd_v, pick_k, pick_v]
  rfl

end Cert.KernelIdeal.Flash
-- ==== Proof.FlashV.QE.lean ====
module

public import proofs.«01_k».proof.Proof.FlashI.RunE
public import proofs.«01_k».proof.Proof.FlashV.Rows

/-! What a point of case E leaves in the blocks of the gradients. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

variable {F : FTy → Type} [FloatOps F] [Named F]

/-- The queries' gradient after a point of case E. -/
theorem q_E (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole) (T0 : BufTy.Contents (Elt F) (Memref.whole main_c).view.ty) (T1 : BufTy.Contents (Elt F) (Memref.whole main_c_0).view.ty) (x0 : Vec F S1024x256 .bf16) (x1 : Vec F S1024x256 .bf16) (x2 : Vec F S1024x128 .bf16) (x3 : Vec F S1024x128 .bf16) (x4 : Vec F S1x1024x128 .f32) (x5 : Vec F S1024x128 .f32) (pq : Vec F S4096x256 .f32) (hchk : k0_chk1 (word0 T0 i) (word1 T1 i)) (hc1 : ¬ k0_cond1 i = 1#1) (hc2 : ¬ k0_cond2 i = 1#1) (hc3 : k0_cond3 (word0 T0 i) (word1 T1 i) = 1#1) (hc4 : ¬ k0_cond4 (word0 T0 i) (word1 T1 i) = 1#1) (hc5 : k0_cond5 (word0 T0 i) (word1 T1 i) = 1#1) (hc6 : ¬ k0_cond6 (word0 T0 i) = 1#1) (hc7 : ¬ k0_cond7 i = 1#1) (n : ℕ) (hn : n < 4) (hw : word0 T0 i = BitVec.ofNat 32 n) :
    (runE c i arg4 harg4 arg5 harg5 arg6 harg6 arg7 harg7 arg8 harg8 arg9 harg9 arg10 harg10 arg11 harg11 arg12 harg12 arg13 harg13 arg14 harg14 T0 T1 x0 x1 x2 x3 x4 x5 pq hchk hc1 hc2 hc3 hc4 hc5 hc6 hc7).1 = strips (n * 1024) (fun r w => addQ (dscores true r x0 x1 x2 x3 x4 x5) (keys x1 x2) w) pq := by
  simp only [runE, runE.sl.H10_1, runE.sl.H10_2, runE.sl.H10_3, runE.sl.H13_1, runE.sl.H13_2, runE.sl.H13_3, runE.sl.H13_4, runE.sl.H13_5, runE.sl.H14_1, runE.sl.H14_2, runE.sl.H14_3, runE.sl.H14_4, runE.sl.H14_5, runE.sl.cst_29, runE.sl.r, runE.sl.r_1, runE.sl.r_10, runE.sl.r_11, runE.sl.r_12, runE.sl.r_13, runE.sl.r_14, runE.sl.r_15, runE.sl.r_16, runE.sl.r_17, runE.sl.r_18, runE.sl.r_2, runE.sl.r_3, runE.sl.r_4, runE.sl.r_5, runE.sl.r_6, runE.sl.r_7, runE.sl.r_8, runE.sl.r_9, runE.sl.v113, runE.sl.v12, runE.sl.v120, runE.sl.v13, runE.sl.v131, runE.sl.v14, runE.sl.v165, runE.sl.v172, runE.sl.v183, runE.sl.v217, runE.sl.v224, runE.sl.v235, runE.sl.v61, runE.sl.v68, readAt_pick arg4 harg4, readAt_pick arg5 harg5, readAt_pick arg6 harg6, readAt_pick arg7 harg7, readAt_pick arg8 harg8, readAt_pick arg9 harg9, cov_k, cov_v, rd_k, rd_v, rd_q, rd_r, pick_k, pick_v]
  exact four arg10.view (harg10.unread pq) (harg10.unread pq) [] pq (harg10.read_unread pq) (harg10.read_unread pq) (n * 1024) (off3_eq _ n hn hw 0) (off3_eq _ n hn hw 1) (off3_eq _ n hn hw 2) (off3_eq _ n hn hw 3) _ _ _ _ (fun r w => addQ (dscores true r x0 x1 x2 x3 x4 x5) (keys x1 x2) w) _ _ _ _ rfl rfl rfl rfl

end Cert.KernelIdeal.Flash
-- ==== Proof.FlashV.ValG.lean ====
module

public import proofs.«01_k».proof.Proof.FlashI.RunG
public import proofs.«01_k».proof.Proof.FlashV.Strip

/-! What a point of case G leaves in the scratch and output blocks. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

variable {F : FTy → Type} [FloatOps F] [Named F]

/-- The keys' gradient after a point of case G. -/
theorem k_G (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole) (T0 : BufTy.Contents (Elt F) (Memref.whole main_c).view.ty) (T1 : BufTy.Contents (Elt F) (Memref.whole main_c_0).view.ty) (x0 : Vec F S1024x256 .bf16) (x1 : Vec F S1024x256 .bf16) (x2 : Vec F S1024x128 .bf16) (x3 : Vec F S1024x128 .bf16) (x4 : Vec F S1x1024x128 .f32) (x5 : Vec F S1024x128 .f32) (pq : Vec F S4096x256 .f32) (pkr : Vec F S4096x128 .f32) (hchk : k0_chk1 (word0 T0 i) (word1 T1 i)) (hc1 : ¬ k0_cond1 i = 1#1) (hc2 : ¬ k0_cond2 i = 1#1) (hc3 : k0_cond3 (word0 T0 i) (word1 T1 i) = 1#1) (hc4 : ¬ k0_cond4 (word0 T0 i) (word1 T1 i) = 1#1) (hc5 : k0_cond5 (word0 T0 i) (word1 T1 i) = 1#1) (hc6 : k0_cond6 (word0 T0 i) = 1#1) (hc7 : k0_cond7 i = 1#1) :
    (runG c i arg4 harg4 arg5 harg5 arg6 harg6 arg7 harg7 arg8 harg8 arg9 harg9 arg10 harg10 arg11 harg11 arg12 harg12 arg13 harg13 arg14 harg14 T0 T1 x0 x1 x2 x3 x4 x5 pq pkr hchk hc1 hc2 hc3 hc4 hc5 hc6 hc7).2.2.2.1 = blockK true x0 x1 x2 x3 x4 x5 k0_pay3 := by
  simp only [runG, runG.sl.H10_1, runG.sl.H10_2, runG.sl.H10_3, runG.sl.H10_4, runG.sl.H11_2, runG.sl.H13_1, runG.sl.H13_2, runG.sl.H13_3, runG.sl.H13_4, runG.sl.H13_5, runG.sl.H14_1, runG.sl.H14_2, runG.sl.H14_3, runG.sl.H14_4, runG.sl.H14_5, runG.sl.cst_29, runG.sl.r, runG.sl.r_1, runG.sl.r_10, runG.sl.r_11, runG.sl.r_12, runG.sl.r_13, runG.sl.r_14, runG.sl.r_15, runG.sl.r_16, runG.sl.r_17, runG.sl.r_18, runG.sl.r_2, runG.sl.r_3, runG.sl.r_4, runG.sl.r_5, runG.sl.r_6, runG.sl.r_7, runG.sl.r_8, runG.sl.r_9, runG.sl.v113, runG.sl.v12, runG.sl.v120, runG.sl.v13, runG.sl.v131, runG.sl.v14, runG.sl.v165, runG.sl.v172, runG.sl.v183, runG.sl.v217, runG.sl.v224, runG.sl.v235, runG.sl.v27, runG.sl.v27_1, runG.sl.v33, runG.sl.v61, runG.sl.v68, readAt_pick, cov_k, cov_v, rd_k, rd_v, pick_k, pick_v]
  rfl

/-- The values' gradient after a point of case G. -/
theorem v_G (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole) (T0 : BufTy.Contents (Elt F) (Memref.whole main_c).view.ty) (T1 : BufTy.Contents (Elt F) (Memref.whole main_c_0).view.ty) (x0 : Vec F S1024x256 .bf16) (x1 : Vec F S1024x256 .bf16) (x2 : Vec F S1024x128 .bf16) (x3 : Vec F S1024x128 .bf16) (x4 : Vec F S1x1024x128 .f32) (x5 : Vec F S1024x128 .f32) (pq : Vec F S4096x256 .f32) (pkr : Vec F S4096x128 .f32) (hchk : k0_chk1 (word0 T0 i) (word1 T1 i)) (hc1 : ¬ k0_cond1 i = 1#1) (hc2 : ¬ k0_cond2 i = 1#1) (hc3 : k0_cond3 (word0 T0 i) (word1 T1 i) = 1#1) (hc4 : ¬ k0_cond4 (word0 T0 i) (word1 T1 i) = 1#1) (hc5 : k0_cond5 (word0 T0 i) (word1 T1 i) = 1#1) (hc6 : k0_cond6 (word0 T0 i) = 1#1) (hc7 : k0_cond7 i = 1#1) :
    (runG c i arg4 harg4 arg5 harg5 arg6 harg6 arg7 harg7 arg8 harg8 arg9 harg9 arg10 harg10 arg11 harg11 arg12 harg12 arg13 harg13 arg14 harg14 T0 T1 x0 x1 x2 x3 x4 x5 pq pkr hchk hc1 hc2 hc3 hc4 hc5 hc6 hc7).2.2.2.2.1 = blockV true x0 x1 x2 x3 x4 k0_pay4 := by
  simp only [runG, runG.sl.H10_1, runG.sl.H10_2, runG.sl.H10_3, runG.sl.H10_4, runG.sl.H11_2, runG.sl.H13_1, runG.sl.H13_2, runG.sl.H13_3, runG.sl.H13_4, runG.sl.H13_5, runG.sl.H14_1, runG.sl.H14_2, runG.sl.H14_3, runG.sl.H14_4, runG.sl.H14_5, runG.sl.cst_29, runG.sl.r, runG.sl.r_1, runG.sl.r_10, runG.sl.r_11, runG.sl.r_12, runG.sl.r_13, runG.sl.r_14, runG.sl.r_15, runG.sl.r_16, runG.sl.r_17, runG.sl.r_18, runG.sl.r_2, runG.sl.r_3, runG.sl.r_4, runG.sl.r_5, runG.sl.r_6, runG.sl.r_7, runG.sl.r_8, runG.sl.r_9, runG.sl.v113, runG.sl.v12, runG.sl.v120, runG.sl.v13, runG.sl.v131, runG.sl.v14, runG.sl.v165, runG.sl.v172, runG.sl.v183, runG.sl.v217, runG.sl.v224, runG.sl.v235, runG.sl.v27, runG.sl.v27_1, runG.sl.v33, runG.sl.v61, runG.sl.v68, readAt_pick, cov_k, cov_v, rd_k, rd_v, pick_k, pick_v]
  rfl

end Cert.KernelIdeal.Flash
-- ==== Proof.FlashV.QG.lean ====
module

public import proofs.«01_k».proof.Proof.FlashI.RunG
public import proofs.«01_k».proof.Proof.FlashV.Rows

/-! What a point of case G leaves in the blocks of the gradients. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

variable {F : FTy → Type} [FloatOps F] [Named F]

/-- The queries' gradient after a point of case G. -/
theorem q_G (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole) (T0 : BufTy.Contents (Elt F) (Memref.whole main_c).view.ty) (T1 : BufTy.Contents (Elt F) (Memref.whole main_c_0).view.ty) (x0 : Vec F S1024x256 .bf16) (x1 : Vec F S1024x256 .bf16) (x2 : Vec F S1024x128 .bf16) (x3 : Vec F S1024x128 .bf16) (x4 : Vec F S1x1024x128 .f32) (x5 : Vec F S1024x128 .f32) (pq : Vec F S4096x256 .f32) (pkr : Vec F S4096x128 .f32) (hchk : k0_chk1 (word0 T0 i) (word1 T1 i)) (hc1 : ¬ k0_cond1 i = 1#1) (hc2 : ¬ k0_cond2 i = 1#1) (hc3 : k0_cond3 (word0 T0 i) (word1 T1 i) = 1#1) (hc4 : ¬ k0_cond4 (word0 T0 i) (word1 T1 i) = 1#1) (hc5 : k0_cond5 (word0 T0 i) (word1 T1 i) = 1#1) (hc6 : k0_cond6 (word0 T0 i) = 1#1) (hc7 : k0_cond7 i = 1#1) (n : ℕ) (hn : n < 4) (hw : word0 T0 i = BitVec.ofNat 32 n) :
    (runG c i arg4 harg4 arg5 harg5 arg6 harg6 arg7 harg7 arg8 harg8 arg9 harg9 arg10 harg10 arg11 harg11 arg12 harg12 arg13 harg13 arg14 harg14 T0 T1 x0 x1 x2 x3 x4 x5 pq pkr hchk hc1 hc2 hc3 hc4 hc5 hc6 hc7).1 = k0_pay15 (strips (n * 1024) (fun r w => addQ (dscores true r x0 x1 x2 x3 x4 x5) (keys x1 x2) w) pq) := by
  simp only [runG, runG.sl.H10_1, runG.sl.H10_2, runG.sl.H10_3, runG.sl.H10_4, runG.sl.H11_2, runG.sl.H13_1, runG.sl.H13_2, runG.sl.H13_3, runG.sl.H13_4, runG.sl.H13_5, runG.sl.H14_1, runG.sl.H14_2, runG.sl.H14_3, runG.sl.H14_4, runG.sl.H14_5, runG.sl.cst_29, runG.sl.r, runG.sl.r_1, runG.sl.r_10, runG.sl.r_11, runG.sl.r_12, runG.sl.r_13, runG.sl.r_14, runG.sl.r_15, runG.sl.r_16, runG.sl.r_17, runG.sl.r_18, runG.sl.r_2, runG.sl.r_3, runG.sl.r_4, runG.sl.r_5, runG.sl.r_6, runG.sl.r_7, runG.sl.r_8, runG.sl.r_9, runG.sl.v113, runG.sl.v12, runG.sl.v120, runG.sl.v13, runG.sl.v131, runG.sl.v14, runG.sl.v165, runG.sl.v172, runG.sl.v183, runG.sl.v217, runG.sl.v224, runG.sl.v235, runG.sl.v27, runG.sl.v27_1, runG.sl.v33, runG.sl.v61, runG.sl.v68, readAt_pick arg4 harg4, readAt_pick arg5 harg5, readAt_pick arg6 harg6, readAt_pick arg7 harg7, readAt_pick arg8 harg8, readAt_pick arg9 harg9, cov_k, cov_v, rd_k, rd_v, rd_q, rd_r, pick_k, pick_v]
  refine congrArg k0_pay15 ?_
  refine (View.readAt_full arg10.view _ _).trans ?_
  exact four arg10.view (harg10.unread pq) (harg10.unread pq) [] pq (harg10.read_unread pq) (harg10.read_unread pq) (n * 1024) (off3_eq _ n hn hw 0) (off3_eq _ n hn hw 1) (off3_eq _ n hn hw 2) (off3_eq _ n hn hw 3) _ _ _ _ (fun r w => addQ (dscores true r x0 x1 x2 x3 x4 x5) (keys x1 x2) w) _ _ _ _ rfl rfl rfl rfl

/-- The block of the keys' and values' gradients that a point of case G writes. -/
theorem kv_G (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole) (T0 : BufTy.Contents (Elt F) (Memref.whole main_c).view.ty) (T1 : BufTy.Contents (Elt F) (Memref.whole main_c_0).view.ty) (x0 : Vec F S1024x256 .bf16) (x1 : Vec F S1024x256 .bf16) (x2 : Vec F S1024x128 .bf16) (x3 : Vec F S1024x128 .bf16) (x4 : Vec F S1x1024x128 .f32) (x5 : Vec F S1024x128 .f32) (pq : Vec F S4096x256 .f32) (pkr : Vec F S4096x128 .f32) (hchk : k0_chk1 (word0 T0 i) (word1 T1 i)) (hc1 : ¬ k0_cond1 i = 1#1) (hc2 : ¬ k0_cond2 i = 1#1) (hc3 : k0_cond3 (word0 T0 i) (word1 T1 i) = 1#1) (hc4 : ¬ k0_cond4 (word0 T0 i) (word1 T1 i) = 1#1) (hc5 : k0_cond5 (word0 T0 i) (word1 T1 i) = 1#1) (hc6 : k0_cond6 (word0 T0 i) = 1#1) (hc7 : k0_cond7 i = 1#1) :
    (runG c i arg4 harg4 arg5 harg5 arg6 harg6 arg7 harg7 arg8 harg8 arg9 harg9 arg10 harg10 arg11 harg11 arg12 harg12 arg13 harg13 arg14 harg14 T0 T1 x0 x1 x2 x3 x4 x5 pq pkr hchk hc1 hc2 hc3 hc4 hc5 hc6 hc7).2.1 = sides (k0_pay12 (blockK true x0 x1 x2 x3 x4 x5 k0_pay3)) (k0_pay13 (blockV true x0 x1 x2 x3 x4 k0_pay4)) := by
  simp only [runG, runG.sl.H10_1, runG.sl.H10_2, runG.sl.H10_3, runG.sl.H10_4, runG.sl.H11_2, runG.sl.H13_1, runG.sl.H13_2, runG.sl.H13_3, runG.sl.H13_4, runG.sl.H13_5, runG.sl.H14_1, runG.sl.H14_2, runG.sl.H14_3, runG.sl.H14_4, runG.sl.H14_5, runG.sl.cst_29, runG.sl.r, runG.sl.r_1, runG.sl.r_10, runG.sl.r_11, runG.sl.r_12, runG.sl.r_13, runG.sl.r_14, runG.sl.r_15, runG.sl.r_16, runG.sl.r_17, runG.sl.r_18, runG.sl.r_2, runG.sl.r_3, runG.sl.r_4, runG.sl.r_5, runG.sl.r_6, runG.sl.r_7, runG.sl.r_8, runG.sl.r_9, runG.sl.v113, runG.sl.v12, runG.sl.v120, runG.sl.v13, runG.sl.v131, runG.sl.v14, runG.sl.v165, runG.sl.v172, runG.sl.v183, runG.sl.v217, runG.sl.v224, runG.sl.v235, runG.sl.v27, runG.sl.v27_1, runG.sl.v33, runG.sl.v61, runG.sl.v68, readAt_pick arg4 harg4, readAt_pick arg5 harg5, readAt_pick arg6 harg6, readAt_pick arg7 harg7, readAt_pick arg8 harg8, readAt_pick arg9 harg9, cov_k, cov_v, rd_k, rd_v, rd_q, rd_r, pick_k, pick_v]
  refine (two arg11.view _ _ _ _ _).trans ?_
  exact congrArg₂ (fun a b => sides (k0_pay12 a) (k0_pay13 b)) (show _ = (blockK true x0 x1 x2 x3 x4 x5 k0_pay3) from rfl) (show _ = (blockV true x0 x1 x2 x3 x4 k0_pay4) from rfl)

/-- The rotary keys' gradient after a point of case G. -/
theorem kr_G (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S4096x256 .f32) (harg10 : arg10.IsWhole) (arg11 : Memref sig .tc .vmem S1024x256 .bf16) (harg11 : arg11.IsWhole) (arg12 : Memref sig .tc .vmem S4096x128 .f32) (harg12 : arg12.IsWhole) (arg13 : Memref sig .tc .vmem S1024x256 .f32) (harg13 : arg13.IsWhole) (arg14 : Memref sig .tc .vmem S1024x128 .f32) (harg14 : arg14.IsWhole) (T0 : BufTy.Contents (Elt F) (Memref.whole main_c).view.ty) (T1 : BufTy.Contents (Elt F) (Memref.whole main_c_0).view.ty) (x0 : Vec F S1024x256 .bf16) (x1 : Vec F S1024x256 .bf16) (x2 : Vec F S1024x128 .bf16) (x3 : Vec F S1024x128 .bf16) (x4 : Vec F S1x1024x128 .f32) (x5 : Vec F S1024x128 .f32) (pq : Vec F S4096x256 .f32) (pkr : Vec F S4096x128 .f32) (hchk : k0_chk1 (word0 T0 i) (word1 T1 i)) (hc1 : ¬ k0_cond1 i = 1#1) (hc2 : ¬ k0_cond2 i = 1#1) (hc3 : k0_cond3 (word0 T0 i) (word1 T1 i) = 1#1) (hc4 : ¬ k0_cond4 (word0 T0 i) (word1 T1 i) = 1#1) (hc5 : k0_cond5 (word0 T0 i) (word1 T1 i) = 1#1) (hc6 : k0_cond6 (word0 T0 i) = 1#1) (hc7 : k0_cond7 i = 1#1) (n : ℕ) (hn : n < 4) (hw : word1 T1 i = BitVec.ofNat 32 n) :
    (runG c i arg4 harg4 arg5 harg5 arg6 harg6 arg7 harg7 arg8 harg8 arg9 harg9 arg10 harg10 arg11 harg11 arg12 harg12 arg13 harg13 arg14 harg14 T0 T1 x0 x1 x2 x3 x4 x5 pq pkr hchk hc1 hc2 hc3 hc4 hc5 hc6 hc7).2.2.1 = block1 (n * 1024) (k0_pay14 (blockK true x0 x1 x2 x3 x4 x5 k0_pay3)) pkr := by
  simp only [runG, runG.sl.H10_1, runG.sl.H10_2, runG.sl.H10_3, runG.sl.H10_4, runG.sl.H11_2, runG.sl.H13_1, runG.sl.H13_2, runG.sl.H13_3, runG.sl.H13_4, runG.sl.H13_5, runG.sl.H14_1, runG.sl.H14_2, runG.sl.H14_3, runG.sl.H14_4, runG.sl.H14_5, runG.sl.cst_29, runG.sl.r, runG.sl.r_1, runG.sl.r_10, runG.sl.r_11, runG.sl.r_12, runG.sl.r_13, runG.sl.r_14, runG.sl.r_15, runG.sl.r_16, runG.sl.r_17, runG.sl.r_18, runG.sl.r_2, runG.sl.r_3, runG.sl.r_4, runG.sl.r_5, runG.sl.r_6, runG.sl.r_7, runG.sl.r_8, runG.sl.r_9, runG.sl.v113, runG.sl.v12, runG.sl.v120, runG.sl.v13, runG.sl.v131, runG.sl.v14, runG.sl.v165, runG.sl.v172, runG.sl.v183, runG.sl.v217, runG.sl.v224, runG.sl.v235, runG.sl.v27, runG.sl.v27_1, runG.sl.v33, runG.sl.v61, runG.sl.v68, readAt_pick arg4 harg4, readAt_pick arg5 harg5, readAt_pick arg6 harg6, readAt_pick arg7 harg7, readAt_pick arg8 harg8, readAt_pick arg9 harg9, cov_k, cov_v, rd_k, rd_v, rd_q, rd_r, pick_k, pick_v]
  refine (one arg12.view (harg12.unread pkr) pkr (harg12.read_unread pkr) (n * 1024) (off4_eq _ n hn hw) _ (k0_pay14 _)).trans ?_
  exact congrArg (fun a => block1 (n * 1024) (k0_pay14 a) pkr) (show _ = (blockK true x0 x1 x2 x3 x4 x5 k0_pay3) from rfl)

end Cert.KernelIdeal.Flash
-- ==== Proof.FlashV.Fields.lean ====
module

public import proofs.«01_k».proof.Proof.FlashI.Dats
public import proofs.«01_k».proof.Proof.FlashV.Sums
public import proofs.«01_k».proof.Proof.FlashV.ValA
public import proofs.«01_k».proof.Proof.FlashV.QA
public import proofs.«01_k».proof.Proof.FlashV.ValB
public import proofs.«01_k».proof.Proof.FlashV.QB
public import proofs.«01_k».proof.Proof.FlashV.ValC
public import proofs.«01_k».proof.Proof.FlashV.QC
public import proofs.«01_k».proof.Proof.FlashV.ValD
public import proofs.«01_k».proof.Proof.FlashV.QD
public import proofs.«01_k».proof.Proof.FlashV.ValE
public import proofs.«01_k».proof.Proof.FlashV.QE
public import proofs.«01_k».proof.Proof.FlashV.ValG
public import proofs.«01_k».proof.Proof.FlashV.QG

/-! What the buffers hold after each point, as sums over the reals. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

/-- How many columns of blocks equal to `J` the head has finished after pair `p`: none or one. -/
def dn (p J : ℕ) : ℕ := ((List.range (p + 1)).filter fun r => ii r == 3 && jj r == J).length

theorem dn_zero : ∀ J : Fin 4, dn 0 J.val = 0 := by decide
theorem dn_keep : ∀ (p : Fin 10) (J : Fin 4), p.val ≠ 0 → ii p.val ≠ 3 → dn p.val J.val = dn (p.val - 1) J.val := by decide
theorem dn_succ : ∀ (p : Fin 10) (J : Fin 4), ii p.val = 3 → dn p.val J.val = if J.val = jj p.val then 1 else dn (p.val - 1) J.val := by decide
theorem dn_pred : ∀ p : Fin 10, ii p.val = 3 → dn (p.val - 1) (jj p.val) = 0 := by decide
theorem dn_last : ∀ J : Fin 4, dn 9 J.val = 1 := by decide
theorem ii_lt : ∀ p : Fin 10, ii p.val < 4 := by decide
theorem jj_lt : ∀ p : Fin 10, jj p.val < 4 := by decide
theorem on_diag : ∀ p : Fin 10, p.val ∈ [0, 4, 7, 9] → ii p.val = jj p.val := by decide
theorem off_diag : ∀ p : Fin 10, ¬ p.val ∈ [0, 4, 7, 9] → jj p.val < ii p.val ∧ p.val ≠ 0 ∧ jj (p.val - 1) = jj p.val ∧ ii (p.val - 1) + 1 = ii p.val := by decide
theorem lit0_ii : ∀ p : Fin 10, lit0 p = BitVec.ofNat 32 (ii p.val) := by decide
theorem lit1_jj : ∀ p : Fin 10, lit1 p = BitVec.ofNat 32 (jj p.val) := by decide

theorem w0 (i : grid0.Coords) : word0 (F := Ideal) (tabs 0) i = BitVec.ofNat 32 (ii (i 1).val) := (word0_tabs i).trans (lit0_ii (i 1))
theorem w1 (i : grid0.Coords) : word1 (F := Ideal) (tabs 1) i = BitVec.ofNat 32 (jj (i 1).val) := (word1_tabs i).trans (lit1_jj (i 1))

variable (m : (ℓ : Loc nD τ sig) → Buf (Elt Ideal) ℓ)

/-- The fields of a state that is given by them. -/
theorem st_q (a : Vec Ideal S4096x256 .f32) (b : Vec Ideal S1024x256 .bf16) (d : Vec Ideal S4096x128 .f32) (e : Vec Ideal S1024x256 .f32) (f : Vec Ideal S1024x128 .f32) : (St.mk a b d e f).q = a := rfl
theorem st_kv (a : Vec Ideal S4096x256 .f32) (b : Vec Ideal S1024x256 .bf16) (d : Vec Ideal S4096x128 .f32) (e : Vec Ideal S1024x256 .f32) (f : Vec Ideal S1024x128 .f32) : (St.mk a b d e f).kv = b := rfl
theorem st_kr (a : Vec Ideal S4096x256 .f32) (b : Vec Ideal S1024x256 .bf16) (d : Vec Ideal S4096x128 .f32) (e : Vec Ideal S1024x256 .f32) (f : Vec Ideal S1024x128 .f32) : (St.mk a b d e f).kr = d := rfl
theorem st_k (a : Vec Ideal S4096x256 .f32) (b : Vec Ideal S1024x256 .bf16) (d : Vec Ideal S4096x128 .f32) (e : Vec Ideal S1024x256 .f32) (f : Vec Ideal S1024x128 .f32) : (St.mk a b d e f).k = e := rfl
theorem st_v (a : Vec Ideal S4096x256 .f32) (b : Vec Ideal S1024x256 .bf16) (d : Vec Ideal S4096x128 .f32) (e : Vec Ideal S1024x256 .f32) (f : Vec Ideal S1024x128 .f32) : (St.mk a b d e f).v = f := rfl

/-- The blocks that point `t` reads. -/
abbrev X0 (c : Dev nD) (t : Fin grid0.N) : Vec Ideal S1024x256 .bf16 := iblk m c 0 t
abbrev X1 (c : Dev nD) (t : Fin grid0.N) : Vec Ideal S1024x256 .bf16 := iblk m c 1 t
abbrev X2 (c : Dev nD) (t : Fin grid0.N) : Vec Ideal S1024x128 .bf16 := iblk m c 2 t
abbrev X3 (c : Dev nD) (t : Fin grid0.N) : Vec Ideal S1024x128 .bf16 := iblk m c 3 t
abbrev X4 (c : Dev nD) (t : Fin grid0.N) : Vec Ideal S1x1024x128 .f32 := iblk m c 4 t
abbrev X5 (c : Dev nD) (t : Fin grid0.N) : Vec Ideal S1024x128 .f32 := iblk m c 5 t

theorem nq_A (c : Dev nD) (t : Fin grid0.N) (s : St Ideal) (h0 : ((grid0.coords t) 1).val = 0) (hh : ((grid0.coords t) 0).val = 0) :
    (nxtA m c t s h0 hh).q = strips (ii ((grid0.coords t) 1).val * 1024) (fun r w => addQ (dscores true r (X0 m c t) (X1 m c t) (X2 m c t) (X3 m c t) (X4 m c t) (X5 m c t)) (keys (X1 m c t) (X2 m c t)) w) (k0_pay1 (F := Ideal)) := by
  rw [nxtA]
  refine (st_q _ _ _ _ _).trans ?_
  exact show (rA m c t h0 hh).1 = _ from q_A c (grid0.coords t) (ms0 (F := Ideal) t) (hs0 t) (ms1 (F := Ideal) t) (hs1 t) (ms2 (F := Ideal) t) (hs2 t) (ms3 (F := Ideal) t) (hs3 t) (ms4 (F := Ideal) t) (hs4 t) (ms5 (F := Ideal) t) (hs5 t) (ms6 (F := Ideal) t) (hs6 t) (ms7 (F := Ideal) t) (hs7 t) (ms8 (F := Ideal) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t)  (hchk _) ((cond1_iff _).mpr (hyA1 t h0 hh)) ((cond2_iff _).mpr (hyA2 t h0 hh)) ((hyp3 _).mpr (hyA3 t h0 hh)) (fun h => hyA4 t h0 hh ((hyp4 _).mp h)) ((hyp5 _).mpr (hyA5 t h0 hh)) (fun h => hyA6 t h0 hh ((hyp6 _).mp h)) (fun h => hyA7 t h0 hh ((cond7_iff _).mp h)) _ (ii_lt _) (w0 _)

theorem nk_A (c : Dev nD) (t : Fin grid0.N) (s : St Ideal) (h0 : ((grid0.coords t) 1).val = 0) (hh : ((grid0.coords t) 0).val = 0) :
    (nxtA m c t s h0 hh).k = blockK true (X0 m c t) (X1 m c t) (X2 m c t) (X3 m c t) (X4 m c t) (X5 m c t) (k0_pay3 (F := Ideal)) := by
  rw [nxtA]
  refine (st_k _ _ _ _ _).trans ?_
  exact show (rA m c t h0 hh).2.2.1 = _ from k_A c (grid0.coords t) (ms0 (F := Ideal) t) (hs0 t) (ms1 (F := Ideal) t) (hs1 t) (ms2 (F := Ideal) t) (hs2 t) (ms3 (F := Ideal) t) (hs3 t) (ms4 (F := Ideal) t) (hs4 t) (ms5 (F := Ideal) t) (hs5 t) (ms6 (F := Ideal) t) (hs6 t) (ms7 (F := Ideal) t) (hs7 t) (ms8 (F := Ideal) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t)  (hchk _) ((cond1_iff _).mpr (hyA1 t h0 hh)) ((cond2_iff _).mpr (hyA2 t h0 hh)) ((hyp3 _).mpr (hyA3 t h0 hh)) (fun h => hyA4 t h0 hh ((hyp4 _).mp h)) ((hyp5 _).mpr (hyA5 t h0 hh)) (fun h => hyA6 t h0 hh ((hyp6 _).mp h)) (fun h => hyA7 t h0 hh ((cond7_iff _).mp h))

theorem nv_A (c : Dev nD) (t : Fin grid0.N) (s : St Ideal) (h0 : ((grid0.coords t) 1).val = 0) (hh : ((grid0.coords t) 0).val = 0) :
    (nxtA m c t s h0 hh).v = blockV true (X0 m c t) (X1 m c t) (X2 m c t) (X3 m c t) (X4 m c t) (k0_pay4 (F := Ideal)) := by
  rw [nxtA]
  refine (st_v _ _ _ _ _).trans ?_
  exact show (rA m c t h0 hh).2.2.2.1 = _ from v_A c (grid0.coords t) (ms0 (F := Ideal) t) (hs0 t) (ms1 (F := Ideal) t) (hs1 t) (ms2 (F := Ideal) t) (hs2 t) (ms3 (F := Ideal) t) (hs3 t) (ms4 (F := Ideal) t) (hs4 t) (ms5 (F := Ideal) t) (hs5 t) (ms6 (F := Ideal) t) (hs6 t) (ms7 (F := Ideal) t) (hs7 t) (ms8 (F := Ideal) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t)  (hchk _) ((cond1_iff _).mpr (hyA1 t h0 hh)) ((cond2_iff _).mpr (hyA2 t h0 hh)) ((hyp3 _).mpr (hyA3 t h0 hh)) (fun h => hyA4 t h0 hh ((hyp4 _).mp h)) ((hyp5 _).mpr (hyA5 t h0 hh)) (fun h => hyA6 t h0 hh ((hyp6 _).mp h)) (fun h => hyA7 t h0 hh ((cond7_iff _).mp h))

theorem nkr_A (c : Dev nD) (t : Fin grid0.N) (s : St Ideal) (h0 : ((grid0.coords t) 1).val = 0) (hh : ((grid0.coords t) 0).val = 0) :
    (nxtA m c t s h0 hh).kr = (k0_pay2 (F := Ideal)) := by
  rw [nxtA]
  refine (st_kr _ _ _ _ _).trans ?_
  exact show (rA m c t h0 hh).2.1 = _ from kr_A c (grid0.coords t) (ms0 (F := Ideal) t) (hs0 t) (ms1 (F := Ideal) t) (hs1 t) (ms2 (F := Ideal) t) (hs2 t) (ms3 (F := Ideal) t) (hs3 t) (ms4 (F := Ideal) t) (hs4 t) (ms5 (F := Ideal) t) (hs5 t) (ms6 (F := Ideal) t) (hs6 t) (ms7 (F := Ideal) t) (hs7 t) (ms8 (F := Ideal) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t)  (hchk _) ((cond1_iff _).mpr (hyA1 t h0 hh)) ((cond2_iff _).mpr (hyA2 t h0 hh)) ((hyp3 _).mpr (hyA3 t h0 hh)) (fun h => hyA4 t h0 hh ((hyp4 _).mp h)) ((hyp5 _).mpr (hyA5 t h0 hh)) (fun h => hyA6 t h0 hh ((hyp6 _).mp h)) (fun h => hyA7 t h0 hh ((cond7_iff _).mp h))

theorem nq_B (c : Dev nD) (t : Fin grid0.N) (s : St Ideal) (h0 : ((grid0.coords t) 1).val = 0) (hh : ¬ ((grid0.coords t) 0).val = 0) :
    (nxtB m c t s h0 hh).q = strips (ii ((grid0.coords t) 1).val * 1024) (fun r w => addQ (dscores true r (X0 m c t) (X1 m c t) (X2 m c t) (X3 m c t) (X4 m c t) (X5 m c t)) (keys (X1 m c t) (X2 m c t)) w) (k0_pay1 (F := Ideal)) := by
  rw [nxtB]
  refine (st_q _ _ _ _ _).trans ?_
  exact show (rB m c t h0 hh).1 = _ from q_B c (grid0.coords t) (ms0 (F := Ideal) t) (hs0 t) (ms1 (F := Ideal) t) (hs1 t) (ms2 (F := Ideal) t) (hs2 t) (ms3 (F := Ideal) t) (hs3 t) (ms4 (F := Ideal) t) (hs4 t) (ms5 (F := Ideal) t) (hs5 t) (ms6 (F := Ideal) t) (hs6 t) (ms7 (F := Ideal) t) (hs7 t) (ms8 (F := Ideal) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t)  (hchk _) ((cond1_iff _).mpr (hyB1 t h0 hh)) (fun h => hyB2 t h0 hh ((cond2_iff _).mp h)) ((hyp3 _).mpr (hyB3 t h0 hh)) (fun h => hyB4 t h0 hh ((hyp4 _).mp h)) ((hyp5 _).mpr (hyB5 t h0 hh)) (fun h => hyB6 t h0 hh ((hyp6 _).mp h)) (fun h => hyB7 t h0 hh ((cond7_iff _).mp h)) _ (ii_lt _) (w0 _)

theorem nk_B (c : Dev nD) (t : Fin grid0.N) (s : St Ideal) (h0 : ((grid0.coords t) 1).val = 0) (hh : ¬ ((grid0.coords t) 0).val = 0) :
    (nxtB m c t s h0 hh).k = blockK true (X0 m c t) (X1 m c t) (X2 m c t) (X3 m c t) (X4 m c t) (X5 m c t) (k0_pay3 (F := Ideal)) := by
  rw [nxtB]
  refine (st_k _ _ _ _ _).trans ?_
  exact show (rB m c t h0 hh).2.1 = _ from k_B c (grid0.coords t) (ms0 (F := Ideal) t) (hs0 t) (ms1 (F := Ideal) t) (hs1 t) (ms2 (F := Ideal) t) (hs2 t) (ms3 (F := Ideal) t) (hs3 t) (ms4 (F := Ideal) t) (hs4 t) (ms5 (F := Ideal) t) (hs5 t) (ms6 (F := Ideal) t) (hs6 t) (ms7 (F := Ideal) t) (hs7 t) (ms8 (F := Ideal) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t)  (hchk _) ((cond1_iff _).mpr (hyB1 t h0 hh)) (fun h => hyB2 t h0 hh ((cond2_iff _).mp h)) ((hyp3 _).mpr (hyB3 t h0 hh)) (fun h => hyB4 t h0 hh ((hyp4 _).mp h)) ((hyp5 _).mpr (hyB5 t h0 hh)) (fun h => hyB6 t h0 hh ((hyp6 _).mp h)) (fun h => hyB7 t h0 hh ((cond7_iff _).mp h))

theorem nv_B (c : Dev nD) (t : Fin grid0.N) (s : St Ideal) (h0 : ((grid0.coords t) 1).val = 0) (hh : ¬ ((grid0.coords t) 0).val = 0) :
    (nxtB m c t s h0 hh).v = blockV true (X0 m c t) (X1 m c t) (X2 m c t) (X3 m c t) (X4 m c t) (k0_pay4 (F := Ideal)) := by
  rw [nxtB]
  refine (st_v _ _ _ _ _).trans ?_
  exact show (rB m c t h0 hh).2.2.1 = _ from v_B c (grid0.coords t) (ms0 (F := Ideal) t) (hs0 t) (ms1 (F := Ideal) t) (hs1 t) (ms2 (F := Ideal) t) (hs2 t) (ms3 (F := Ideal) t) (hs3 t) (ms4 (F := Ideal) t) (hs4 t) (ms5 (F := Ideal) t) (hs5 t) (ms6 (F := Ideal) t) (hs6 t) (ms7 (F := Ideal) t) (hs7 t) (ms8 (F := Ideal) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t)  (hchk _) ((cond1_iff _).mpr (hyB1 t h0 hh)) (fun h => hyB2 t h0 hh ((cond2_iff _).mp h)) ((hyp3 _).mpr (hyB3 t h0 hh)) (fun h => hyB4 t h0 hh ((hyp4 _).mp h)) ((hyp5 _).mpr (hyB5 t h0 hh)) (fun h => hyB6 t h0 hh ((hyp6 _).mp h)) (fun h => hyB7 t h0 hh ((cond7_iff _).mp h))

theorem nq_C (c : Dev nD) (t : Fin grid0.N) (s : St Ideal) (h0 : ((grid0.coords t) 1).val ∈ [1, 2, 5]) :
    (nxtC m c t s h0).q = strips (ii ((grid0.coords t) 1).val * 1024) (fun r w => addQ (dscores false r (X0 m c t) (X1 m c t) (X2 m c t) (X3 m c t) (X4 m c t) (X5 m c t)) (keys (X1 m c t) (X2 m c t)) w) s.q := by
  rw [nxtC]
  refine (st_q _ _ _ _ _).trans ?_
  exact show (rC m c t s.q s.k s.v h0).1 = _ from q_C c (grid0.coords t) (ms0 (F := Ideal) t) (hs0 t) (ms1 (F := Ideal) t) (hs1 t) (ms2 (F := Ideal) t) (hs2 t) (ms3 (F := Ideal) t) (hs3 t) (ms4 (F := Ideal) t) (hs4 t) (ms5 (F := Ideal) t) (hs5 t) (ms6 (F := Ideal) t) (hs6 t) (ms7 (F := Ideal) t) (hs7 t) (ms8 (F := Ideal) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t) s.q s.k s.v (hchk _) (fun h => hyC1 t h0 ((cond1_iff _).mp h)) (fun h => hyC2 t h0 ((cond2_iff _).mp h)) (fun h => hyC3 t h0 ((hyp3 _).mp h)) ((hyp4 _).mpr (hyC4 t h0)) (fun h => hyC5 t h0 ((hyp5 _).mp h)) (fun h => hyC6 t h0 ((hyp6 _).mp h)) (fun h => hyC7 t h0 ((cond7_iff _).mp h)) _ (ii_lt _) (w0 _)

theorem nk_C (c : Dev nD) (t : Fin grid0.N) (s : St Ideal) (h0 : ((grid0.coords t) 1).val ∈ [1, 2, 5]) :
    (nxtC m c t s h0).k = blockK false (X0 m c t) (X1 m c t) (X2 m c t) (X3 m c t) (X4 m c t) (X5 m c t) s.k := by
  rw [nxtC]
  refine (st_k _ _ _ _ _).trans ?_
  exact show (rC m c t s.q s.k s.v h0).2.1 = _ from k_C c (grid0.coords t) (ms0 (F := Ideal) t) (hs0 t) (ms1 (F := Ideal) t) (hs1 t) (ms2 (F := Ideal) t) (hs2 t) (ms3 (F := Ideal) t) (hs3 t) (ms4 (F := Ideal) t) (hs4 t) (ms5 (F := Ideal) t) (hs5 t) (ms6 (F := Ideal) t) (hs6 t) (ms7 (F := Ideal) t) (hs7 t) (ms8 (F := Ideal) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t) s.q s.k s.v (hchk _) (fun h => hyC1 t h0 ((cond1_iff _).mp h)) (fun h => hyC2 t h0 ((cond2_iff _).mp h)) (fun h => hyC3 t h0 ((hyp3 _).mp h)) ((hyp4 _).mpr (hyC4 t h0)) (fun h => hyC5 t h0 ((hyp5 _).mp h)) (fun h => hyC6 t h0 ((hyp6 _).mp h)) (fun h => hyC7 t h0 ((cond7_iff _).mp h))

theorem nv_C (c : Dev nD) (t : Fin grid0.N) (s : St Ideal) (h0 : ((grid0.coords t) 1).val ∈ [1, 2, 5]) :
    (nxtC m c t s h0).v = blockV false (X0 m c t) (X1 m c t) (X2 m c t) (X3 m c t) (X4 m c t) s.v := by
  rw [nxtC]
  refine (st_v _ _ _ _ _).trans ?_
  exact show (rC m c t s.q s.k s.v h0).2.2.1 = _ from v_C c (grid0.coords t) (ms0 (F := Ideal) t) (hs0 t) (ms1 (F := Ideal) t) (hs1 t) (ms2 (F := Ideal) t) (hs2 t) (ms3 (F := Ideal) t) (hs3 t) (ms4 (F := Ideal) t) (hs4 t) (ms5 (F := Ideal) t) (hs5 t) (ms6 (F := Ideal) t) (hs6 t) (ms7 (F := Ideal) t) (hs7 t) (ms8 (F := Ideal) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t) s.q s.k s.v (hchk _) (fun h => hyC1 t h0 ((cond1_iff _).mp h)) (fun h => hyC2 t h0 ((cond2_iff _).mp h)) (fun h => hyC3 t h0 ((hyp3 _).mp h)) ((hyp4 _).mpr (hyC4 t h0)) (fun h => hyC5 t h0 ((hyp5 _).mp h)) (fun h => hyC6 t h0 ((hyp6 _).mp h)) (fun h => hyC7 t h0 ((cond7_iff _).mp h))

theorem nq_D (c : Dev nD) (t : Fin grid0.N) (s : St Ideal) (h0 : ((grid0.coords t) 1).val ∈ [3, 6, 8]) :
    (nxtD m c t s h0).q = strips (ii ((grid0.coords t) 1).val * 1024) (fun r w => addQ (dscores false r (X0 m c t) (X1 m c t) (X2 m c t) (X3 m c t) (X4 m c t) (X5 m c t)) (keys (X1 m c t) (X2 m c t)) w) s.q := by
  rw [nxtD]
  refine (st_q _ _ _ _ _).trans ?_
  exact show (rD m c t s.q s.kr s.k s.v h0).1 = _ from q_D c (grid0.coords t) (ms0 (F := Ideal) t) (hs0 t) (ms1 (F := Ideal) t) (hs1 t) (ms2 (F := Ideal) t) (hs2 t) (ms3 (F := Ideal) t) (hs3 t) (ms4 (F := Ideal) t) (hs4 t) (ms5 (F := Ideal) t) (hs5 t) (ms6 (F := Ideal) t) (hs6 t) (ms7 (F := Ideal) t) (hs7 t) (ms8 (F := Ideal) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t) s.q s.kr s.k s.v (hchk _) (fun h => hyD1 t h0 ((cond1_iff _).mp h)) (fun h => hyD2 t h0 ((cond2_iff _).mp h)) (fun h => hyD3 t h0 ((hyp3 _).mp h)) ((hyp4 _).mpr (hyD4 t h0)) (fun h => hyD5 t h0 ((hyp5 _).mp h)) ((hyp6 _).mpr (hyD6 t h0)) (fun h => hyD7 t h0 ((cond7_iff _).mp h)) _ (ii_lt _) (w0 _)

theorem nk_D (c : Dev nD) (t : Fin grid0.N) (s : St Ideal) (h0 : ((grid0.coords t) 1).val ∈ [3, 6, 8]) :
    (nxtD m c t s h0).k = blockK false (X0 m c t) (X1 m c t) (X2 m c t) (X3 m c t) (X4 m c t) (X5 m c t) s.k := by
  rw [nxtD]
  refine (st_k _ _ _ _ _).trans ?_
  exact show (rD m c t s.q s.kr s.k s.v h0).2.2.2.1 = _ from k_D c (grid0.coords t) (ms0 (F := Ideal) t) (hs0 t) (ms1 (F := Ideal) t) (hs1 t) (ms2 (F := Ideal) t) (hs2 t) (ms3 (F := Ideal) t) (hs3 t) (ms4 (F := Ideal) t) (hs4 t) (ms5 (F := Ideal) t) (hs5 t) (ms6 (F := Ideal) t) (hs6 t) (ms7 (F := Ideal) t) (hs7 t) (ms8 (F := Ideal) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t) s.q s.kr s.k s.v (hchk _) (fun h => hyD1 t h0 ((cond1_iff _).mp h)) (fun h => hyD2 t h0 ((cond2_iff _).mp h)) (fun h => hyD3 t h0 ((hyp3 _).mp h)) ((hyp4 _).mpr (hyD4 t h0)) (fun h => hyD5 t h0 ((hyp5 _).mp h)) ((hyp6 _).mpr (hyD6 t h0)) (fun h => hyD7 t h0 ((cond7_iff _).mp h))

theorem nv_D (c : Dev nD) (t : Fin grid0.N) (s : St Ideal) (h0 : ((grid0.coords t) 1).val ∈ [3, 6, 8]) :
    (nxtD m c t s h0).v = blockV false (X0 m c t) (X1 m c t) (X2 m c t) (X3 m c t) (X4 m c t) s.v := by
  rw [nxtD]
  refine (st_v _ _ _ _ _).trans ?_
  exact show (rD m c t s.q s.kr s.k s.v h0).2.2.2.2.1 = _ from v_D c (grid0.coords t) (ms0 (F := Ideal) t) (hs0 t) (ms1 (F := Ideal) t) (hs1 t) (ms2 (F := Ideal) t) (hs2 t) (ms3 (F := Ideal) t) (hs3 t) (ms4 (F := Ideal) t) (hs4 t) (ms5 (F := Ideal) t) (hs5 t) (ms6 (F := Ideal) t) (hs6 t) (ms7 (F := Ideal) t) (hs7 t) (ms8 (F := Ideal) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t) s.q s.kr s.k s.v (hchk _) (fun h => hyD1 t h0 ((cond1_iff _).mp h)) (fun h => hyD2 t h0 ((cond2_iff _).mp h)) (fun h => hyD3 t h0 ((hyp3 _).mp h)) ((hyp4 _).mpr (hyD4 t h0)) (fun h => hyD5 t h0 ((hyp5 _).mp h)) ((hyp6 _).mpr (hyD6 t h0)) (fun h => hyD7 t h0 ((cond7_iff _).mp h))

theorem nkv_D (c : Dev nD) (t : Fin grid0.N) (s : St Ideal) (h0 : ((grid0.coords t) 1).val ∈ [3, 6, 8]) :
    (nxtD m c t s h0).kv = sides (k0_pay12 (blockK false (X0 m c t) (X1 m c t) (X2 m c t) (X3 m c t) (X4 m c t) (X5 m c t) s.k)) (k0_pay13 (blockV false (X0 m c t) (X1 m c t) (X2 m c t) (X3 m c t) (X4 m c t) s.v)) := by
  rw [nxtD]
  refine (st_kv _ _ _ _ _).trans ?_
  exact show (rD m c t s.q s.kr s.k s.v h0).2.1 = _ from kv_D c (grid0.coords t) (ms0 (F := Ideal) t) (hs0 t) (ms1 (F := Ideal) t) (hs1 t) (ms2 (F := Ideal) t) (hs2 t) (ms3 (F := Ideal) t) (hs3 t) (ms4 (F := Ideal) t) (hs4 t) (ms5 (F := Ideal) t) (hs5 t) (ms6 (F := Ideal) t) (hs6 t) (ms7 (F := Ideal) t) (hs7 t) (ms8 (F := Ideal) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t) s.q s.kr s.k s.v (hchk _) (fun h => hyD1 t h0 ((cond1_iff _).mp h)) (fun h => hyD2 t h0 ((cond2_iff _).mp h)) (fun h => hyD3 t h0 ((hyp3 _).mp h)) ((hyp4 _).mpr (hyD4 t h0)) (fun h => hyD5 t h0 ((hyp5 _).mp h)) ((hyp6 _).mpr (hyD6 t h0)) (fun h => hyD7 t h0 ((cond7_iff _).mp h))

theorem nkr_D (c : Dev nD) (t : Fin grid0.N) (s : St Ideal) (h0 : ((grid0.coords t) 1).val ∈ [3, 6, 8]) :
    (nxtD m c t s h0).kr = block1 (jj ((grid0.coords t) 1).val * 1024) (k0_pay14 (blockK false (X0 m c t) (X1 m c t) (X2 m c t) (X3 m c t) (X4 m c t) (X5 m c t) s.k)) s.kr := by
  rw [nxtD]
  refine (st_kr _ _ _ _ _).trans ?_
  exact show (rD m c t s.q s.kr s.k s.v h0).2.2.1 = _ from kr_D c (grid0.coords t) (ms0 (F := Ideal) t) (hs0 t) (ms1 (F := Ideal) t) (hs1 t) (ms2 (F := Ideal) t) (hs2 t) (ms3 (F := Ideal) t) (hs3 t) (ms4 (F := Ideal) t) (hs4 t) (ms5 (F := Ideal) t) (hs5 t) (ms6 (F := Ideal) t) (hs6 t) (ms7 (F := Ideal) t) (hs7 t) (ms8 (F := Ideal) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t) s.q s.kr s.k s.v (hchk _) (fun h => hyD1 t h0 ((cond1_iff _).mp h)) (fun h => hyD2 t h0 ((cond2_iff _).mp h)) (fun h => hyD3 t h0 ((hyp3 _).mp h)) ((hyp4 _).mpr (hyD4 t h0)) (fun h => hyD5 t h0 ((hyp5 _).mp h)) ((hyp6 _).mpr (hyD6 t h0)) (fun h => hyD7 t h0 ((cond7_iff _).mp h)) _ (jj_lt _) (w1 _)

theorem nq_E (c : Dev nD) (t : Fin grid0.N) (s : St Ideal) (h0 : ((grid0.coords t) 1).val ∈ [4, 7]) :
    (nxtE m c t s h0).q = strips (ii ((grid0.coords t) 1).val * 1024) (fun r w => addQ (dscores true r (X0 m c t) (X1 m c t) (X2 m c t) (X3 m c t) (X4 m c t) (X5 m c t)) (keys (X1 m c t) (X2 m c t)) w) s.q := by
  rw [nxtE]
  refine (st_q _ _ _ _ _).trans ?_
  exact show (rE m c t s.q h0).1 = _ from q_E c (grid0.coords t) (ms0 (F := Ideal) t) (hs0 t) (ms1 (F := Ideal) t) (hs1 t) (ms2 (F := Ideal) t) (hs2 t) (ms3 (F := Ideal) t) (hs3 t) (ms4 (F := Ideal) t) (hs4 t) (ms5 (F := Ideal) t) (hs5 t) (ms6 (F := Ideal) t) (hs6 t) (ms7 (F := Ideal) t) (hs7 t) (ms8 (F := Ideal) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t) s.q (hchk _) (fun h => hyE1 t h0 ((cond1_iff _).mp h)) (fun h => hyE2 t h0 ((cond2_iff _).mp h)) ((hyp3 _).mpr (hyE3 t h0)) (fun h => hyE4 t h0 ((hyp4 _).mp h)) ((hyp5 _).mpr (hyE5 t h0)) (fun h => hyE6 t h0 ((hyp6 _).mp h)) (fun h => hyE7 t h0 ((cond7_iff _).mp h)) _ (ii_lt _) (w0 _)

theorem nk_E (c : Dev nD) (t : Fin grid0.N) (s : St Ideal) (h0 : ((grid0.coords t) 1).val ∈ [4, 7]) :
    (nxtE m c t s h0).k = blockK true (X0 m c t) (X1 m c t) (X2 m c t) (X3 m c t) (X4 m c t) (X5 m c t) (k0_pay3 (F := Ideal)) := by
  rw [nxtE]
  refine (st_k _ _ _ _ _).trans ?_
  exact show (rE m c t s.q h0).2.1 = _ from k_E c (grid0.coords t) (ms0 (F := Ideal) t) (hs0 t) (ms1 (F := Ideal) t) (hs1 t) (ms2 (F := Ideal) t) (hs2 t) (ms3 (F := Ideal) t) (hs3 t) (ms4 (F := Ideal) t) (hs4 t) (ms5 (F := Ideal) t) (hs5 t) (ms6 (F := Ideal) t) (hs6 t) (ms7 (F := Ideal) t) (hs7 t) (ms8 (F := Ideal) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t) s.q (hchk _) (fun h => hyE1 t h0 ((cond1_iff _).mp h)) (fun h => hyE2 t h0 ((cond2_iff _).mp h)) ((hyp3 _).mpr (hyE3 t h0)) (fun h => hyE4 t h0 ((hyp4 _).mp h)) ((hyp5 _).mpr (hyE5 t h0)) (fun h => hyE6 t h0 ((hyp6 _).mp h)) (fun h => hyE7 t h0 ((cond7_iff _).mp h))

theorem nv_E (c : Dev nD) (t : Fin grid0.N) (s : St Ideal) (h0 : ((grid0.coords t) 1).val ∈ [4, 7]) :
    (nxtE m c t s h0).v = blockV true (X0 m c t) (X1 m c t) (X2 m c t) (X3 m c t) (X4 m c t) (k0_pay4 (F := Ideal)) := by
  rw [nxtE]
  refine (st_v _ _ _ _ _).trans ?_
  exact show (rE m c t s.q h0).2.2.1 = _ from v_E c (grid0.coords t) (ms0 (F := Ideal) t) (hs0 t) (ms1 (F := Ideal) t) (hs1 t) (ms2 (F := Ideal) t) (hs2 t) (ms3 (F := Ideal) t) (hs3 t) (ms4 (F := Ideal) t) (hs4 t) (ms5 (F := Ideal) t) (hs5 t) (ms6 (F := Ideal) t) (hs6 t) (ms7 (F := Ideal) t) (hs7 t) (ms8 (F := Ideal) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t) s.q (hchk _) (fun h => hyE1 t h0 ((cond1_iff _).mp h)) (fun h => hyE2 t h0 ((cond2_iff _).mp h)) ((hyp3 _).mpr (hyE3 t h0)) (fun h => hyE4 t h0 ((hyp4 _).mp h)) ((hyp5 _).mpr (hyE5 t h0)) (fun h => hyE6 t h0 ((hyp6 _).mp h)) (fun h => hyE7 t h0 ((cond7_iff _).mp h))

theorem nq_G (c : Dev nD) (t : Fin grid0.N) (s : St Ideal) (h0 : ((grid0.coords t) 1).val = 9) :
    (nxtG m c t s h0).q = k0_pay15 (strips (ii ((grid0.coords t) 1).val * 1024) (fun r w => addQ (dscores true r (X0 m c t) (X1 m c t) (X2 m c t) (X3 m c t) (X4 m c t) (X5 m c t)) (keys (X1 m c t) (X2 m c t)) w) s.q) := by
  rw [nxtG]
  refine (st_q _ _ _ _ _).trans ?_
  exact show (rG m c t s.q s.kr h0).1 = _ from q_G c (grid0.coords t) (ms0 (F := Ideal) t) (hs0 t) (ms1 (F := Ideal) t) (hs1 t) (ms2 (F := Ideal) t) (hs2 t) (ms3 (F := Ideal) t) (hs3 t) (ms4 (F := Ideal) t) (hs4 t) (ms5 (F := Ideal) t) (hs5 t) (ms6 (F := Ideal) t) (hs6 t) (ms7 (F := Ideal) t) (hs7 t) (ms8 (F := Ideal) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t) s.q s.kr (hchk _) (fun h => hyG1 t h0 ((cond1_iff _).mp h)) (fun h => hyG2 t h0 ((cond2_iff _).mp h)) ((hyp3 _).mpr (hyG3 t h0)) (fun h => hyG4 t h0 ((hyp4 _).mp h)) ((hyp5 _).mpr (hyG5 t h0)) ((hyp6 _).mpr (hyG6 t h0)) ((cond7_iff _).mpr (hyG7 t h0)) _ (ii_lt _) (w0 _)

theorem nk_G (c : Dev nD) (t : Fin grid0.N) (s : St Ideal) (h0 : ((grid0.coords t) 1).val = 9) :
    (nxtG m c t s h0).k = blockK true (X0 m c t) (X1 m c t) (X2 m c t) (X3 m c t) (X4 m c t) (X5 m c t) (k0_pay3 (F := Ideal)) := by
  rw [nxtG]
  refine (st_k _ _ _ _ _).trans ?_
  exact show (rG m c t s.q s.kr h0).2.2.2.1 = _ from k_G c (grid0.coords t) (ms0 (F := Ideal) t) (hs0 t) (ms1 (F := Ideal) t) (hs1 t) (ms2 (F := Ideal) t) (hs2 t) (ms3 (F := Ideal) t) (hs3 t) (ms4 (F := Ideal) t) (hs4 t) (ms5 (F := Ideal) t) (hs5 t) (ms6 (F := Ideal) t) (hs6 t) (ms7 (F := Ideal) t) (hs7 t) (ms8 (F := Ideal) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t) s.q s.kr (hchk _) (fun h => hyG1 t h0 ((cond1_iff _).mp h)) (fun h => hyG2 t h0 ((cond2_iff _).mp h)) ((hyp3 _).mpr (hyG3 t h0)) (fun h => hyG4 t h0 ((hyp4 _).mp h)) ((hyp5 _).mpr (hyG5 t h0)) ((hyp6 _).mpr (hyG6 t h0)) ((cond7_iff _).mpr (hyG7 t h0))

theorem nv_G (c : Dev nD) (t : Fin grid0.N) (s : St Ideal) (h0 : ((grid0.coords t) 1).val = 9) :
    (nxtG m c t s h0).v = blockV true (X0 m c t) (X1 m c t) (X2 m c t) (X3 m c t) (X4 m c t) (k0_pay4 (F := Ideal)) := by
  rw [nxtG]
  refine (st_v _ _ _ _ _).trans ?_
  exact show (rG m c t s.q s.kr h0).2.2.2.2.1 = _ from v_G c (grid0.coords t) (ms0 (F := Ideal) t) (hs0 t) (ms1 (F := Ideal) t) (hs1 t) (ms2 (F := Ideal) t) (hs2 t) (ms3 (F := Ideal) t) (hs3 t) (ms4 (F := Ideal) t) (hs4 t) (ms5 (F := Ideal) t) (hs5 t) (ms6 (F := Ideal) t) (hs6 t) (ms7 (F := Ideal) t) (hs7 t) (ms8 (F := Ideal) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t) s.q s.kr (hchk _) (fun h => hyG1 t h0 ((cond1_iff _).mp h)) (fun h => hyG2 t h0 ((cond2_iff _).mp h)) ((hyp3 _).mpr (hyG3 t h0)) (fun h => hyG4 t h0 ((hyp4 _).mp h)) ((hyp5 _).mpr (hyG5 t h0)) ((hyp6 _).mpr (hyG6 t h0)) ((cond7_iff _).mpr (hyG7 t h0))

theorem nkv_G (c : Dev nD) (t : Fin grid0.N) (s : St Ideal) (h0 : ((grid0.coords t) 1).val = 9) :
    (nxtG m c t s h0).kv = sides (k0_pay12 (blockK true (X0 m c t) (X1 m c t) (X2 m c t) (X3 m c t) (X4 m c t) (X5 m c t) (k0_pay3 (F := Ideal)))) (k0_pay13 (blockV true (X0 m c t) (X1 m c t) (X2 m c t) (X3 m c t) (X4 m c t) (k0_pay4 (F := Ideal)))) := by
  rw [nxtG]
  refine (st_kv _ _ _ _ _).trans ?_
  exact show (rG m c t s.q s.kr h0).2.1 = _ from kv_G c (grid0.coords t) (ms0 (F := Ideal) t) (hs0 t) (ms1 (F := Ideal) t) (hs1 t) (ms2 (F := Ideal) t) (hs2 t) (ms3 (F := Ideal) t) (hs3 t) (ms4 (F := Ideal) t) (hs4 t) (ms5 (F := Ideal) t) (hs5 t) (ms6 (F := Ideal) t) (hs6 t) (ms7 (F := Ideal) t) (hs7 t) (ms8 (F := Ideal) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t) s.q s.kr (hchk _) (fun h => hyG1 t h0 ((cond1_iff _).mp h)) (fun h => hyG2 t h0 ((cond2_iff _).mp h)) ((hyp3 _).mpr (hyG3 t h0)) (fun h => hyG4 t h0 ((hyp4 _).mp h)) ((hyp5 _).mpr (hyG5 t h0)) ((hyp6 _).mpr (hyG6 t h0)) ((cond7_iff _).mpr (hyG7 t h0))

theorem nkr_G (c : Dev nD) (t : Fin grid0.N) (s : St Ideal) (h0 : ((grid0.coords t) 1).val = 9) :
    (nxtG m c t s h0).kr = block1 (jj ((grid0.coords t) 1).val * 1024) (k0_pay14 (blockK true (X0 m c t) (X1 m c t) (X2 m c t) (X3 m c t) (X4 m c t) (X5 m c t) (k0_pay3 (F := Ideal)))) s.kr := by
  rw [nxtG]
  refine (st_kr _ _ _ _ _).trans ?_
  exact show (rG m c t s.q s.kr h0).2.2.1 = _ from kr_G c (grid0.coords t) (ms0 (F := Ideal) t) (hs0 t) (ms1 (F := Ideal) t) (hs1 t) (ms2 (F := Ideal) t) (hs2 t) (ms3 (F := Ideal) t) (hs3 t) (ms4 (F := Ideal) t) (hs4 t) (ms5 (F := Ideal) t) (hs5 t) (ms6 (F := Ideal) t) (hs6 t) (ms7 (F := Ideal) t) (hs7 t) (ms8 (F := Ideal) t) (hs8 t) sc0 (Memref.isWhole_whole _) sc1 (Memref.isWhole_whole _) (tabs 0) (tabs 1) (iblk m c 0 t) (iblk m c 1 t) (iblk m c 2 t) (iblk m c 3 t) (iblk m c 4 t) (iblk m c 5 t) s.q s.kr (hchk _) (fun h => hyG1 t h0 ((cond1_iff _).mp h)) (fun h => hyG2 t h0 ((cond2_iff _).mp h)) ((hyp3 _).mpr (hyG3 t h0)) (fun h => hyG4 t h0 ((hyp4 _).mp h)) ((hyp5 _).mpr (hyG5 t h0)) ((hyp6 _).mpr (hyG6 t h0)) ((cond7_iff _).mpr (hyG7 t h0)) _ (jj_lt _) (w1 _)

theorem nkr_B (c : Dev nD) (t : Fin grid0.N) (s : St Ideal) (h0 : ((grid0.coords t) 1).val = 0) (hh : ¬ ((grid0.coords t) 0).val = 0) :
    (nxtB m c t s h0 hh).kr = s.kr := by
  rw [nxtB]

theorem nkr_C (c : Dev nD) (t : Fin grid0.N) (s : St Ideal) (h0 : ((grid0.coords t) 1).val ∈ [1, 2, 5]) :
    (nxtC m c t s h0).kr = s.kr := by
  rw [nxtC]

theorem nkr_E (c : Dev nD) (t : Fin grid0.N) (s : St Ideal) (h0 : ((grid0.coords t) 1).val ∈ [4, 7]) :
    (nxtE m c t s h0).kr = s.kr := by
  rw [nxtE]

end Cert.KernelIdeal.Flash

end
-- ==== Proof.FlashV.Okay.lean ====
module

public import proofs.«01_k».proof.Proof.FlashV.Fields

/-! By induction over the points: what the buffers hold after each. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

variable (m : (ℓ : Loc nD τ sig) → Buf (Elt Ideal) ℓ) (c : Dev nD)
variable (Q KV DO : ℕ → ℕ → ℕ → ℝ) (KR : ℕ → ℕ → ℝ) (L D : ℕ → ℕ → ℝ)

/-- Head `h`'s gradients, summed over the first `n` queries or keys. -/
abbrev Kh (h n y e : ℕ) : ℝ := SK (Q h) (KV h) KR (DO h) (L h) (D h) n y e
abbrev Vh (h n y e : ℕ) : ℝ := SV (Q h) (KV h) KR (DO h) (L h) n y e
abbrev Qh (h n x e : ℕ) : ℝ := SQ (Q h) (KV h) KR (DO h) (L h) (D h) n x e
/-- The rotary keys' gradient, over the first `n` heads. -/
def Rh (n y e : ℕ) : ℝ := ∑ h ∈ Finset.range n, Kh Q KV DO KR L D h 4096 y (128 + e) * SC

/-- The blocks that the points read are blocks of real arrays. -/
structure Inp : Prop where
  i0 : ∀ (t : Fin grid0.N) (a : Fin 1024) (e : Fin 256), X0 m c t (ix2 a e) = ((Q (t.val / 10) (ii (t.val % 10) * 1024 + a.val) e.val : ℝ) : EReal)
  i1 : ∀ (t : Fin grid0.N) (a : Fin 1024) (e : Fin 256), X1 m c t (ix2 a e) = ((KV (t.val / 10) (jj (t.val % 10) * 1024 + a.val) e.val : ℝ) : EReal)
  i2 : ∀ (t : Fin grid0.N) (a : Fin 1024) (e : Fin 128), X2 m c t (ix2 a e) = ((KR (jj (t.val % 10) * 1024 + a.val) e.val : ℝ) : EReal)
  i3 : ∀ (t : Fin grid0.N) (a : Fin 1024) (e : Fin 128), X3 m c t (ix2 a e) = ((DO (t.val / 10) (ii (t.val % 10) * 1024 + a.val) e.val : ℝ) : EReal)
  i4 : ∀ (t : Fin grid0.N) (a : Fin 1024) (e : Fin 128), X4 m c t (ix3 0 a e) = ((L (t.val / 10) (ii (t.val % 10) * 1024 + a.val) : ℝ) : EReal)
  i5 : ∀ (t : Fin grid0.N) (a : Fin 1024) (e : Fin 128), X5 m c t (ix2 a e) = ((D (t.val / 10) (ii (t.val % 10) * 1024 + a.val) : ℝ) : EReal)

/-- What the buffers hold after pair `p` of head `h`. -/
structure Ok (h p : ℕ) (s : St Ideal) : Prop where
  q : ∀ (x : Fin 4096) (e : Fin 256), s.q (ix2 x e) = ((Qh Q KV DO KR L D h (cnt p (x.val / 1024) * 1024) x.val e.val * (if p = 9 then SC else 1) : ℝ) : EReal)
  k : ∀ (b : Fin 1024) (e : Fin 256), s.k (ix2 b e) = ((Kh Q KV DO KR L D h ((ii p + 1) * 1024) (jj p * 1024 + b.val) e.val : ℝ) : EReal)
  v : ∀ (b : Fin 1024) (e : Fin 128), s.v (ix2 b e) = ((Vh Q KV DO KR L h ((ii p + 1) * 1024) (jj p * 1024 + b.val) e.val : ℝ) : EReal)
  kr : ∀ (y : Fin 4096) (e : Fin 128), s.kr (ix2 y e) = ((Rh Q KV DO KR L D (h + dn p (y.val / 1024)) y.val e.val : ℝ) : EReal)
  kv : ii p = 3 → ∀ (b : Fin 1024) (e : Fin 256), s.kv (ix2 b e) = (((if e.val < 128 then Kh Q KV DO KR L D h 4096 (jj p * 1024 + b.val) e.val * SC
    else Vh Q KV DO KR L h 4096 (jj p * 1024 + b.val) (e.val - 128)) : ℝ) : EReal)

variable {m c Q KV DO KR L D} (I : Inp m c Q KV DO KR L D)

theorem fits_diag (t : Fin grid0.N) (h : t.val % 10 ∈ [0, 4, 7, 9]) : Fits true (ii (t.val % 10)) (jj (t.val % 10)) :=
  .inl ⟨rfl, on_diag ⟨t.val % 10, Nat.mod_lt _ (by decide)⟩ h⟩
theorem fits_off (t : Fin grid0.N) (h : ¬ t.val % 10 ∈ [0, 4, 7, 9]) : Fits false (ii (t.val % 10)) (jj (t.val % 10)) :=
  .inr ⟨rfl, (off_diag ⟨t.val % 10, Nat.mod_lt _ (by decide)⟩ h).1⟩

include I in
/-- The keys' gradient after a point on the diagonal. -/
theorem k_diag (t : Fin grid0.N) (h : t.val % 10 ∈ [0, 4, 7, 9]) (b : Fin 1024) (e : Fin 256) :
    blockK true (X0 m c t) (X1 m c t) (X2 m c t) (X3 m c t) (X4 m c t) (X5 m c t) (k0_pay3 (F := Ideal)) (ix2 b e)
      = ((Kh Q KV DO KR L D (t.val / 10) ((ii (t.val % 10) + 1) * 1024) (jj (t.val % 10) * 1024 + b.val) e.val : ℝ) : EReal) := by
  refine next_k (Q (t.val / 10)) (KV (t.val / 10)) KR (DO (t.val / 10)) (L (t.val / 10)) (D (t.val / 10)) _ _ _ _ _ _ true (ii (t.val % 10)) (jj (t.val % 10)) (fits_diag t h) (I.i0 t) (I.i1 t) (I.i2 t) (I.i3 t) (I.i4 t) (I.i5 t) _ b e ?_
  rw [pay3_apply, SK_zero]
  have e : ii (t.val % 10) = jj (t.val % 10) := on_diag ⟨t.val % 10, Nat.mod_lt _ (by decide)⟩ h
  omega

include I in
/-- The values' gradient after a point on the diagonal. -/
theorem v_diag (t : Fin grid0.N) (h : t.val % 10 ∈ [0, 4, 7, 9]) (b : Fin 1024) (e : Fin 128) :
    blockV true (X0 m c t) (X1 m c t) (X2 m c t) (X3 m c t) (X4 m c t) (k0_pay4 (F := Ideal)) (ix2 b e)
      = ((Vh Q KV DO KR L (t.val / 10) ((ii (t.val % 10) + 1) * 1024) (jj (t.val % 10) * 1024 + b.val) e.val : ℝ) : EReal) := by
  refine next_v (Q (t.val / 10)) (KV (t.val / 10)) KR (DO (t.val / 10)) (L (t.val / 10)) _ _ _ _ _ true (ii (t.val % 10)) (jj (t.val % 10)) (fits_diag t h) (I.i0 t) (I.i1 t) (I.i2 t) (I.i3 t) (I.i4 t) _ b e ?_
  rw [pay4_apply, SV_zero]
  have e : ii (t.val % 10) = jj (t.val % 10) := on_diag ⟨t.val % 10, Nat.mod_lt _ (by decide)⟩ h
  omega

include I in
/-- The keys' gradient after a point below the diagonal. -/
theorem k_off (t : Fin grid0.N) (h : ¬ t.val % 10 ∈ [0, 4, 7, 9]) (s : St Ideal) (hs : Ok Q KV DO KR L D (t.val / 10) (t.val % 10 - 1) s) (b : Fin 1024) (e : Fin 256) :
    blockK false (X0 m c t) (X1 m c t) (X2 m c t) (X3 m c t) (X4 m c t) (X5 m c t) s.k (ix2 b e)
      = ((Kh Q KV DO KR L D (t.val / 10) ((ii (t.val % 10) + 1) * 1024) (jj (t.val % 10) * 1024 + b.val) e.val : ℝ) : EReal) := by
  refine next_k (Q (t.val / 10)) (KV (t.val / 10)) KR (DO (t.val / 10)) (L (t.val / 10)) (D (t.val / 10)) _ _ _ _ _ _ false (ii (t.val % 10)) (jj (t.val % 10)) (fits_off t h) (I.i0 t) (I.i1 t) (I.i2 t) (I.i3 t) (I.i4 t) (I.i5 t) _ b e ?_
  have o := off_diag ⟨t.val % 10, Nat.mod_lt _ (by decide)⟩ h
  dsimp only at o
  rw [hs.k, o.2.2.1, o.2.2.2]

include I in
/-- The values' gradient after a point below the diagonal. -/
theorem v_off (t : Fin grid0.N) (h : ¬ t.val % 10 ∈ [0, 4, 7, 9]) (s : St Ideal) (hs : Ok Q KV DO KR L D (t.val / 10) (t.val % 10 - 1) s) (b : Fin 1024) (e : Fin 128) :
    blockV false (X0 m c t) (X1 m c t) (X2 m c t) (X3 m c t) (X4 m c t) s.v (ix2 b e)
      = ((Vh Q KV DO KR L (t.val / 10) ((ii (t.val % 10) + 1) * 1024) (jj (t.val % 10) * 1024 + b.val) e.val : ℝ) : EReal) := by
  refine next_v (Q (t.val / 10)) (KV (t.val / 10)) KR (DO (t.val / 10)) (L (t.val / 10)) _ _ _ _ _ false (ii (t.val % 10)) (jj (t.val % 10)) (fits_off t h) (I.i0 t) (I.i1 t) (I.i2 t) (I.i3 t) (I.i4 t) _ b e ?_
  have o := off_diag ⟨t.val % 10, Nat.mod_lt _ (by decide)⟩ h
  dsimp only at o
  rw [hs.v, o.2.2.1, o.2.2.2]

include I in
/-- The queries' gradient after a head's first point. -/
theorem q_first (t : Fin grid0.N) (h : t.val % 10 = 0) (x : Fin 4096) (e : Fin 256) :
    strips (ii (t.val % 10) * 1024) (fun r w => addQ (dscores true r (X0 m c t) (X1 m c t) (X2 m c t) (X3 m c t) (X4 m c t) (X5 m c t)) (keys (X1 m c t) (X2 m c t)) w) (k0_pay1 (F := Ideal)) (ix2 x e)
      = ((Qh Q KV DO KR L D (t.val / 10) (cnt (t.val % 10) (x.val / 1024) * 1024) x.val e.val * (if t.val % 10 = 9 then SC else 1) : ℝ) : EReal) := by
  rw [if_neg (by omega), mul_one]
  refine next_q (Q (t.val / 10)) (KV (t.val / 10)) KR (DO (t.val / 10)) (L (t.val / 10)) (D (t.val / 10)) _ _ _ _ _ _ true (ii (t.val % 10)) (jj (t.val % 10)) (fits_diag t (by rw [h]; decide)) (I.i0 t) (I.i1 t) (I.i2 t) (I.i3 t) (I.i4 t) (I.i5 t)
    (ii_lt ⟨t.val % 10, Nat.mod_lt _ (by decide)⟩) (fun _ => 0) (cnt (t.val % 10)) ?_ ?_ _ x e ?_
  · rw [h]; rfl
  · rw [h]; exact cnt_zero
  · rw [pay1_apply, SQ, Nat.zero_mul, Finset.sum_range_zero]

include I in
/-- The queries' gradient, before it is scaled, after another point. -/
theorem q_later (dg : Bool) (t : Fin grid0.N) (h : t.val % 10 ≠ 0) (hf : Fits dg (ii (t.val % 10)) (jj (t.val % 10))) (s : St Ideal) (hs : Ok Q KV DO KR L D (t.val / 10) (t.val % 10 - 1) s) (x : Fin 4096) (e : Fin 256) :
    strips (ii (t.val % 10) * 1024) (fun r w => addQ (dscores dg r (X0 m c t) (X1 m c t) (X2 m c t) (X3 m c t) (X4 m c t) (X5 m c t)) (keys (X1 m c t) (X2 m c t)) w) s.q (ix2 x e)
      = ((Qh Q KV DO KR L D (t.val / 10) (cnt (t.val % 10) (x.val / 1024) * 1024) x.val e.val : ℝ) : EReal) := by
  refine next_q (Q (t.val / 10)) (KV (t.val / 10)) KR (DO (t.val / 10)) (L (t.val / 10)) (D (t.val / 10)) _ _ _ _ _ _ dg (ii (t.val % 10)) (jj (t.val % 10)) hf (I.i0 t) (I.i1 t) (I.i2 t) (I.i3 t) (I.i4 t) (I.i5 t)
    (ii_lt ⟨t.val % 10, Nat.mod_lt _ (by decide)⟩) (cnt (t.val % 10 - 1)) (cnt (t.val % 10)) ?_ ?_ _ x e ?_
  · exact cnt_pred ⟨t.val % 10, Nat.mod_lt _ (by decide)⟩ h
  · exact fun J => cnt_succ ⟨t.val % 10, Nat.mod_lt _ (by decide)⟩ J h
  · rw [hs.q, if_neg (by omega), mul_one]

/-- The block of keys' and values' gradients that a head's last row of blocks writes. -/
theorem kv_row (h p : ℕ) (hp : ii p = 3) (k : Vec Ideal S1024x256 .f32) (v : Vec Ideal S1024x128 .f32)
    (hk : ∀ (b : Fin 1024) (e : Fin 256), k (ix2 b e) = ((Kh Q KV DO KR L D h ((ii p + 1) * 1024) (jj p * 1024 + b.val) e.val : ℝ) : EReal))
    (hv : ∀ (b : Fin 1024) (e : Fin 128), v (ix2 b e) = ((Vh Q KV DO KR L h ((ii p + 1) * 1024) (jj p * 1024 + b.val) e.val : ℝ) : EReal)) (b : Fin 1024) (e : Fin 256) :
    sides (k0_pay12 k) (k0_pay13 v) (ix2 b e) = (((if e.val < 128 then Kh Q KV DO KR L D h 4096 (jj p * 1024 + b.val) e.val * SC
      else Vh Q KV DO KR L h 4096 (jj p * 1024 + b.val) (e.val - 128)) : ℝ) : EReal) := by
  rw [sides_apply]
  by_cases he : e.val < 128
  · rw [dif_pos he, if_pos he, hk, hp, EReal.coe_mul]
  · rw [dif_neg he, if_neg he, hv, hp]

/-- The rotary keys' gradient once a head's last row of blocks is done. -/
theorem kr_row (h p : ℕ) (hp : p < 10) (hi : ii p = 3) (k : Vec Ideal S1024x256 .f32) (kr : Vec Ideal S4096x128 .f32)
    (hk : ∀ (b : Fin 1024) (e : Fin 256), k (ix2 b e) = ((Kh Q KV DO KR L D h ((ii p + 1) * 1024) (jj p * 1024 + b.val) e.val : ℝ) : EReal))
    (hr : ∀ (y : Fin 4096) (e : Fin 128), kr (ix2 y e) = ((Rh Q KV DO KR L D (h + dn (p - 1) (y.val / 1024)) y.val e.val : ℝ) : EReal)) (y : Fin 4096) (e : Fin 128) :
    block1 (jj p * 1024) (k0_pay14 k) kr (ix2 y e) = ((Rh Q KV DO KR L D (h + dn p (y.val / 1024)) y.val e.val : ℝ) : EReal) := by
  have hy := y.isLt
  have d := dn_succ ⟨p, hp⟩ ⟨y.val / 1024, by omega⟩ hi
  have d' := dn_pred ⟨p, hp⟩ hi
  dsimp only at d d'
  rw [block1_apply _ (jj_lt ⟨p, hp⟩), hr, d]
  by_cases hb : jj p * 1024 ≤ y.val ∧ y.val < jj p * 1024 + 1024
  · have hj : y.val / 1024 = jj p := by omega
    rw [dif_pos hb, if_pos hj, hj, d', hk, ← EReal.coe_mul, ← EReal.coe_add, hi]
    refine congrArg _ ?_
    rw [Rh, Rh, Finset.sum_range_succ]
    dsimp only
    rw [show jj p * 1024 + (y.val - jj p * 1024) = y.val by omega]
    rfl
  · rw [dif_neg hb, if_neg (by omega)]

include I in
theorem ok_step (t : Fin grid0.N) (s : St Ideal) (hs : t.val % 10 ≠ 0 → Ok Q KV DO KR L D (t.val / 10) (t.val % 10 - 1) s)
    (hs0 : t.val % 10 = 0 → t.val / 10 ≠ 0 → Ok Q KV DO KR L D (t.val / 10 - 1) 9 s) : Ok Q KV DO KR L D (t.val / 10) (t.val % 10) (step m c t s) := by
  have e1 := crd1 t
  have e0 := crd0 t
  have hp : t.val % 10 < 10 := Nat.mod_lt _ (by decide)
  by_cases h0 : t.val % 10 = 0
  · have h0' : ((grid0.coords t) 1).val = 0 := e1.trans h0
    have i0 : ii (t.val % 10) ≠ 3 := by rw [h0]; decide
    have hd : t.val % 10 ∈ [0, 4, 7, 9] := by rw [h0]; decide
    by_cases hh : t.val / 10 = 0
    · have hh' : ((grid0.coords t) 0).val = 0 := e0.trans hh
      rw [step_A m c t s h0' hh']
      refine ⟨fun x e => ?_, fun b e => ?_, fun b e => ?_, fun y e => ?_, fun h => absurd h i0⟩
      · rw [nq_A, e1]; exact q_first I t h0 x e
      · rw [nk_A]; exact k_diag I t hd b e
      · rw [nv_A]; exact v_diag I t hd b e
      · have hy := y.isLt
        rw [nkr_A, pay2_apply, hh, h0, dn_zero ⟨y.val / 1024, by omega⟩, Rh, Finset.sum_range_zero]
    · have hh' : ¬ ((grid0.coords t) 0).val = 0 := fun h => hh (e0.symm.trans h)
      rw [step_B m c t s h0' hh']
      refine ⟨fun x e => ?_, fun b e => ?_, fun b e => ?_, fun y e => ?_, fun h => absurd h i0⟩
      · rw [nq_B, e1]; exact q_first I t h0 x e
      · rw [nk_B]; exact k_diag I t hd b e
      · rw [nv_B]; exact v_diag I t hd b e
      · have hy := y.isLt
        rw [nkr_B, (hs0 h0 hh).kr, h0, dn_zero ⟨y.val / 1024, by omega⟩, dn_last ⟨y.val / 1024, by omega⟩, show t.val / 10 - 1 + 1 = t.val / 10 + 0 by omega]
  · have s' := hs h0
    have keep : ii (t.val % 10) ≠ 3 → ∀ (y : Fin 4096) (e : Fin 128), s.kr (ix2 y e) = ((Rh Q KV DO KR L D (t.val / 10 + dn (t.val % 10) (y.val / 1024)) y.val e.val : ℝ) : EReal) := by
      intro h3 y e
      have hy := y.isLt
      have d := dn_keep ⟨t.val % 10, hp⟩ ⟨y.val / 1024, by omega⟩ h0 h3
      dsimp only at d
      rw [s'.kr, d]
    by_cases hC : t.val % 10 ∈ [1, 2, 5]
    · have hC' : ((grid0.coords t) 1).val ∈ [1, 2, 5] := e1.symm ▸ hC
      have n3 : ii (t.val % 10) ≠ 3 := (by decide : ∀ p : Fin 10, p.val ∈ [1, 2, 5] → ii p.val ≠ 3) ⟨_, hp⟩ hC
      have ho : ¬ t.val % 10 ∈ [0, 4, 7, 9] := (by decide : ∀ p : Fin 10, p.val ∈ [1, 2, 5] → ¬ p.val ∈ [0, 4, 7, 9]) ⟨_, hp⟩ hC
      rw [step_C m c t s hC']
      refine ⟨fun x e => ?_, fun b e => ?_, fun b e => ?_, fun y e => ?_, fun h => absurd h n3⟩
      · rw [nq_C, e1, if_neg (by intro h; rw [h] at hC; revert hC; decide), mul_one]; exact q_later I false t h0 (fits_off t ho) s s' x e
      · rw [nk_C]; exact k_off I t ho s s' b e
      · rw [nv_C]; exact v_off I t ho s s' b e
      · rw [nkr_C]; exact keep n3 y e
    · by_cases hD : t.val % 10 ∈ [3, 6, 8]
      · have hD' : ((grid0.coords t) 1).val ∈ [3, 6, 8] := e1.symm ▸ hD
        have n3 : ii (t.val % 10) = 3 := (by decide : ∀ p : Fin 10, p.val ∈ [3, 6, 8] → ii p.val = 3) ⟨_, hp⟩ hD
        have ho : ¬ t.val % 10 ∈ [0, 4, 7, 9] := (by decide : ∀ p : Fin 10, p.val ∈ [3, 6, 8] → ¬ p.val ∈ [0, 4, 7, 9]) ⟨_, hp⟩ hD
        rw [step_D m c t s hD']
        refine ⟨fun x e => ?_, fun b e => ?_, fun b e => ?_, fun y e => ?_, fun h b e => ?_⟩
        · rw [nq_D, e1, if_neg (by intro h; rw [h] at hD; revert hD; decide), mul_one]; exact q_later I false t h0 (fits_off t ho) s s' x e
        · rw [nk_D]; exact k_off I t ho s s' b e
        · rw [nv_D]; exact v_off I t ho s s' b e
        · rw [nkr_D, e1]; exact kr_row _ _ hp n3 _ _ (k_off I t ho s s') s'.kr y e
        · rw [nkv_D]; exact kv_row _ _ n3 _ _ (k_off I t ho s s') (v_off I t ho s s') b e
      · by_cases hE : t.val % 10 ∈ [4, 7]
        · have hE' : ((grid0.coords t) 1).val ∈ [4, 7] := e1.symm ▸ hE
          have n3 : ii (t.val % 10) ≠ 3 := (by decide : ∀ p : Fin 10, p.val ∈ [4, 7] → ii p.val ≠ 3) ⟨_, hp⟩ hE
          have ho : t.val % 10 ∈ [0, 4, 7, 9] := (by decide : ∀ p : Fin 10, p.val ∈ [4, 7] → p.val ∈ [0, 4, 7, 9]) ⟨_, hp⟩ hE
          rw [step_E m c t s hE']
          refine ⟨fun x e => ?_, fun b e => ?_, fun b e => ?_, fun y e => ?_, fun h => absurd h n3⟩
          · rw [nq_E, e1, if_neg (by intro h; rw [h] at hE; revert hE; decide), mul_one]; exact q_later I true t h0 (fits_diag t ho) s s' x e
          · rw [nk_E]; exact k_diag I t ho b e
          · rw [nv_E]; exact v_diag I t ho b e
          · rw [nkr_E]; exact keep n3 y e
        · have hG : t.val % 10 = 9 := (by decide : ∀ p : Fin 10, ¬ p.val = 0 → ¬ p.val ∈ [1, 2, 5] → ¬ p.val ∈ [3, 6, 8] → ¬ p.val ∈ [4, 7] → p.val = 9) ⟨_, hp⟩ h0 hC hD hE
          have hG' : ((grid0.coords t) 1).val = 9 := e1.trans hG
          have n3 : ii (t.val % 10) = 3 := by rw [hG]; decide
          have ho : t.val % 10 ∈ [0, 4, 7, 9] := by rw [hG]; decide
          rw [step_G m c t s hG']
          refine ⟨fun x e => ?_, fun b e => ?_, fun b e => ?_, fun y e => ?_, fun h b e => ?_⟩
          · rw [nq_G, e1, if_pos hG, pay15_apply, EReal.coe_mul]
            exact congrArg (· * _) (q_later I true t h0 (fits_diag t ho) s s' x e)
          · rw [nk_G]; exact k_diag I t ho b e
          · rw [nv_G]; exact v_diag I t ho b e
          · rw [nkr_G, e1]; exact kr_row _ _ hp n3 _ _ (k_diag I t ho) s'.kr y e
          · rw [nkv_G]; exact kv_row _ _ n3 _ _ (k_diag I t ho) (v_diag I t ho) b e

include I in
/-- What the buffers hold after point `n`. -/
theorem ok_traj (n : ℕ) (hn : n < 160) : Ok Q KV DO KR L D (n / 10) (n % 10) (traj m c n) := by
  have hN : ∀ k, k < 160 → k < grid0.N := fun k hk => lt_of_lt_of_eq hk (by decide)
  induction n with
  | zero =>
    have e := traj_zero m c ⟨0, hN 0 hn⟩ rfl
    dsimp only at e
    rw [e]
    exact ok_step I ⟨0, hN 0 hn⟩ _ (fun h => absurd rfl h) (fun _ h => absurd (Nat.zero_div 10) h)
  | succ n ih =>
    have e := traj_succ m c ⟨n + 1, hN _ hn⟩ (Nat.succ_ne_zero n)
    dsimp only at e
    rw [e]
    refine ok_step I ⟨n + 1, hN _ hn⟩ _ (fun h => ?_) (fun h h' => ?_)
    · have := ih (by omega)
      dsimp only at h ⊢
      rwa [show (n + 1) / 10 = n / 10 by omega, show (n + 1) % 10 - 1 = n % 10 by omega]
    · have := ih (by omega)
      dsimp only at h h' ⊢
      rwa [show (n + 1) / 10 - 1 = n / 10 by omega, show 9 = n % 10 by omega]

end Cert.KernelIdeal.Flash

end
-- ==== Proof.FlashV.Inputs.lean ====
module

public import proofs.«01_k».proof.Proof.FlashV.Okay
public import proofs.«01_k».proof.Proof.FlashI.Launch

/-! The blocks that the points read, as entries of the arrays, and the arrays that the launch leaves. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

variable (m : (ℓ : Loc nD τ sig) → Buf (Elt Ideal) ℓ) (c : Dev nD)

theorem lit0_nat : ∀ p : Fin 10, (lit0 p).toNat = ii p.val := by decide
theorem lit1_nat : ∀ p : Fin 10, (lit1 p).toNat = jj p.val := by decide
theorem head_nat : ∀ h : Fin 16, (BitVec.ofNat 32 h.val).toNat = h.val := by decide

theorem rw_nat (t : Fin grid0.N) : (rw0 (grid0.coords t)).toNat = ii (t.val % 10) := (lit0_nat _).trans (congrArg ii (crd1 t))
theorem cl_nat (t : Fin grid0.N) : (cl0 (grid0.coords t)).toNat = jj (t.val % 10) := (lit1_nat _).trans (congrArg jj (crd1 t))
theorem hd_nat (t : Fin grid0.N) : (BitVec.ofNat 32 ((grid0.coords t) 0).val).toNat = t.val / 10 := (head_nat ((grid0.coords t) 0)).trans (crd0 t)
theorem t_lt (t : Fin grid0.N) : t.val < 160 := lt_of_lt_of_eq t.isLt (by decide)
theorem ii_lt' (t : Fin grid0.N) : ii (t.val % 10) < 4 := ii_lt ⟨t.val % 10, Nat.mod_lt _ (by decide)⟩
theorem jj_lt' (t : Fin grid0.N) : jj (t.val % 10) < 4 := jj_lt ⟨t.val % 10, Nat.mod_lt _ (by decide)⟩

theorem rd0 (W : Buf (Elt Ideal) ((c : Thread nD τ).loc main_v41)) (t : Fin grid0.N) (a : Fin 1024) (e : Fin 256) :
    (((cfgA (F := Ideal)).win 0).blk t).view.read (Elt Ideal) W (ix2 a e) = W (ix2 (⟨ii (t.val % 10) * 1024 + a.val, by have := ii_lt' t; omega⟩ : Fin 4096) (⟨t.val / 10 * 256 + e.val, by have := t_lt t; omega⟩ : Fin 4096)) := by
  rw [View.read_apply]
  refine congrArg W (funext fun x => Fin.ext ?_)
  match x with
  | ⟨0, _⟩ =>
    show cc0_transform_0 (F := Ideal) k0_off1_inb numel1_S1 tabs (grid0.coords t) 0 * 1024 + 1 * a.val = ii (t.val % 10) * 1024 + a.val
    rw [tr0]
    show (rw0 (grid0.coords t)).toNat * 1024 + 1 * a.val = _
    rw [rw_nat, Nat.one_mul]
  | ⟨1, _⟩ =>
    show cc0_transform_0 (F := Ideal) k0_off1_inb numel1_S1 tabs (grid0.coords t) 1 * 256 + 1 * e.val = t.val / 10 * 256 + e.val
    rw [tr0]
    show (BitVec.ofNat 32 ((grid0.coords t) 0).val).toNat * 256 + 1 * e.val = _
    rw [hd_nat, Nat.one_mul]

theorem X0_apply (t : Fin grid0.N) (a : Fin 1024) (e : Fin 256) : X0 m c t (ix2 a e) = V m c main_v41 (ix2 (⟨ii (t.val % 10) * 1024 + a.val, by have := ii_lt' t; omega⟩ : Fin 4096) (⟨t.val / 10 * 256 + e.val, by have := t_lt t; omega⟩ : Fin 4096)) :=
  rd0 c (V m c main_v41) t a e

theorem rd1 (W : Buf (Elt Ideal) ((c : Thread nD τ).loc main_v42)) (t : Fin grid0.N) (a : Fin 1024) (e : Fin 256) :
    (((cfgA (F := Ideal)).win 1).blk t).view.read (Elt Ideal) W (ix2 a e) = W (ix2 (⟨jj (t.val % 10) * 1024 + a.val, by have := jj_lt' t; omega⟩ : Fin 4096) (⟨t.val / 10 * 256 + e.val, by have := t_lt t; omega⟩ : Fin 4096)) := by
  rw [View.read_apply]
  refine congrArg W (funext fun x => Fin.ext ?_)
  match x with
  | ⟨0, _⟩ =>
    show cc0_transform_1 (F := Ideal) k0_off1_inb numel1_S1 tabs (grid0.coords t) 0 * 1024 + 1 * a.val = jj (t.val % 10) * 1024 + a.val
    rw [tr1]
    show (cl0 (grid0.coords t)).toNat * 1024 + 1 * a.val = _
    rw [cl_nat, Nat.one_mul]
  | ⟨1, _⟩ =>
    show cc0_transform_1 (F := Ideal) k0_off1_inb numel1_S1 tabs (grid0.coords t) 1 * 256 + 1 * e.val = t.val / 10 * 256 + e.val
    rw [tr1]
    show (BitVec.ofNat 32 ((grid0.coords t) 0).val).toNat * 256 + 1 * e.val = _
    rw [hd_nat, Nat.one_mul]

theorem X1_apply (t : Fin grid0.N) (a : Fin 1024) (e : Fin 256) : X1 m c t (ix2 a e) = V m c main_v42 (ix2 (⟨jj (t.val % 10) * 1024 + a.val, by have := jj_lt' t; omega⟩ : Fin 4096) (⟨t.val / 10 * 256 + e.val, by have := t_lt t; omega⟩ : Fin 4096)) :=
  rd1 c (V m c main_v42) t a e

theorem rd2 (W : Buf (Elt Ideal) ((c : Thread nD τ).loc main_v43)) (t : Fin grid0.N) (a : Fin 1024) (e : Fin 128) :
    (((cfgA (F := Ideal)).win 2).blk t).view.read (Elt Ideal) W (ix2 a e) = W (ix2 (⟨jj (t.val % 10) * 1024 + a.val, by have := jj_lt' t; omega⟩ : Fin 4096) e) := by
  rw [View.read_apply]
  refine congrArg W (funext fun x => Fin.ext ?_)
  match x with
  | ⟨0, _⟩ =>
    show cc0_transform_2 (F := Ideal) k0_off1_inb numel1_S1 tabs (grid0.coords t) 0 * 1024 + 1 * a.val = jj (t.val % 10) * 1024 + a.val
    rw [tr2]
    show (cl0 (grid0.coords t)).toNat * 1024 + 1 * a.val = _
    rw [cl_nat, Nat.one_mul]
  | ⟨1, _⟩ =>
    show cc0_transform_2 (F := Ideal) k0_off1_inb numel1_S1 tabs (grid0.coords t) 1 * 128 + 1 * e.val = e.val
    rw [tr2]
    show 0 * 128 + 1 * e.val = e.val
    omega

theorem X2_apply (t : Fin grid0.N) (a : Fin 1024) (e : Fin 128) : X2 m c t (ix2 a e) = V m c main_v43 (ix2 (⟨jj (t.val % 10) * 1024 + a.val, by have := jj_lt' t; omega⟩ : Fin 4096) e) :=
  rd2 c (V m c main_v43) t a e

theorem rd3 (W : Buf (Elt Ideal) ((c : Thread nD τ).loc main_v45)) (t : Fin grid0.N) (a : Fin 1024) (e : Fin 128) :
    (((cfgA (F := Ideal)).win 3).blk t).view.read (Elt Ideal) W (ix2 a e) = W (ix2 (⟨ii (t.val % 10) * 1024 + a.val, by have := ii_lt' t; omega⟩ : Fin 4096) (⟨t.val / 10 * 128 + e.val, by have := t_lt t; omega⟩ : Fin 2048)) := by
  rw [View.read_apply]
  refine congrArg W (funext fun x => Fin.ext ?_)
  match x with
  | ⟨0, _⟩ =>
    show cc0_transform_3 (F := Ideal) k0_off1_inb numel1_S1 tabs (grid0.coords t) 0 * 1024 + 1 * a.val = ii (t.val % 10) * 1024 + a.val
    rw [tr3]
    show (rw0 (grid0.coords t)).toNat * 1024 + 1 * a.val = _
    rw [rw_nat, Nat.one_mul]
  | ⟨1, _⟩ =>
    show cc0_transform_3 (F := Ideal) k0_off1_inb numel1_S1 tabs (grid0.coords t) 1 * 128 + 1 * e.val = t.val / 10 * 128 + e.val
    rw [tr3]
    show (BitVec.ofNat 32 ((grid0.coords t) 0).val).toNat * 128 + 1 * e.val = _
    rw [hd_nat, Nat.one_mul]

theorem X3_apply (t : Fin grid0.N) (a : Fin 1024) (e : Fin 128) : X3 m c t (ix2 a e) = V m c main_v45 (ix2 (⟨ii (t.val % 10) * 1024 + a.val, by have := ii_lt' t; omega⟩ : Fin 4096) (⟨t.val / 10 * 128 + e.val, by have := t_lt t; omega⟩ : Fin 2048)) :=
  rd3 c (V m c main_v45) t a e

theorem rd4 (W : Buf (Elt Ideal) ((c : Thread nD τ).loc main_v31)) (t : Fin grid0.N) (a : Fin 1024) (e : Fin 128) :
    (((cfgA (F := Ideal)).win 4).blk t).view.read (Elt Ideal) W (ix3 0 a e) = W (ix3 (⟨t.val / 10, by have := t_lt t; omega⟩ : Fin 16) (⟨ii (t.val % 10) * 1024 + a.val, by have := ii_lt' t; omega⟩ : Fin 4096) e) := by
  rw [View.read_apply]
  refine congrArg W (funext fun x => Fin.ext ?_)
  match x with
  | ⟨0, _⟩ =>
    show cc0_transform_4 (F := Ideal) k0_off1_inb numel1_S1 tabs (grid0.coords t) 0 * 1 + 1 * 0 = t.val / 10
    rw [tr4]
    show (BitVec.ofNat 32 ((grid0.coords t) 0).val).toNat * 1 + 1 * 0 = _
    rw [hd_nat]; omega
  | ⟨1, _⟩ =>
    show cc0_transform_4 (F := Ideal) k0_off1_inb numel1_S1 tabs (grid0.coords t) 1 * 1024 + 1 * a.val = ii (t.val % 10) * 1024 + a.val
    rw [tr4]
    show (rw0 (grid0.coords t)).toNat * 1024 + 1 * a.val = _
    rw [rw_nat, Nat.one_mul]
  | ⟨2, _⟩ =>
    show cc0_transform_4 (F := Ideal) k0_off1_inb numel1_S1 tabs (grid0.coords t) 2 * 128 + 1 * e.val = e.val
    rw [tr4]
    show 0 * 128 + 1 * e.val = e.val
    omega

theorem X4_apply (t : Fin grid0.N) (a : Fin 1024) (e : Fin 128) : X4 m c t (ix3 0 a e) = V m c main_v31 (ix3 (⟨t.val / 10, by have := t_lt t; omega⟩ : Fin 16) (⟨ii (t.val % 10) * 1024 + a.val, by have := ii_lt' t; omega⟩ : Fin 4096) e) :=
  rd4 c (V m c main_v31) t a e

theorem rd5 (W : Buf (Elt Ideal) ((c : Thread nD τ).loc main_v36)) (t : Fin grid0.N) (a : Fin 1024) (e : Fin 128) :
    (((cfgA (F := Ideal)).win 5).blk t).view.read (Elt Ideal) W (ix2 a e) = W (ix2 (⟨ii (t.val % 10) * 1024 + a.val, by have := ii_lt' t; omega⟩ : Fin 4096) (⟨t.val / 10 * 128 + e.val, by have := t_lt t; omega⟩ : Fin 2048)) := by
  rw [View.read_apply]
  refine congrArg W (funext fun x => Fin.ext ?_)
  match x with
  | ⟨0, _⟩ =>
    show cc0_transform_5 (F := Ideal) k0_off1_inb numel1_S1 tabs (grid0.coords t) 0 * 1024 + 1 * a.val = ii (t.val % 10) * 1024 + a.val
    rw [tr5]
    show (rw0 (grid0.coords t)).toNat * 1024 + 1 * a.val = _
    rw [rw_nat, Nat.one_mul]
  | ⟨1, _⟩ =>
    show cc0_transform_5 (F := Ideal) k0_off1_inb numel1_S1 tabs (grid0.coords t) 1 * 128 + 1 * e.val = t.val / 10 * 128 + e.val
    rw [tr5]
    show (BitVec.ofNat 32 ((grid0.coords t) 0).val).toNat * 128 + 1 * e.val = _
    rw [hd_nat, Nat.one_mul]

theorem X5_apply (t : Fin grid0.N) (a : Fin 1024) (e : Fin 128) : X5 m c t (ix2 a e) = V m c main_v36 (ix2 (⟨ii (t.val % 10) * 1024 + a.val, by have := ii_lt' t; omega⟩ : Fin 4096) (⟨t.val / 10 * 128 + e.val, by have := t_lt t; omega⟩ : Fin 2048)) :=
  rd5 c (V m c main_v36) t a e

end Cert.KernelIdeal.Flash

end
-- ==== Proof.FlashR.Host.lean ====
module

public import proofs.«01_k».proof.Proof.FlashR.Score
public import proofs.«01_k».proof.Proof.FlashV.Inputs
public import Idealize.ShloMosaic.Lib.StableHlo.ReadAt

/-! What the kernel's host code leaves in the arrays that the launch reads. -/

@[expose] public section

set_option maxHeartbeats 400000
set_option maxRecDepth 4000

noncomputable section

namespace Cert.KernelIdeal.Flash

open Cert.KernelIdeal Cert.KernelIdeal.Gen
open Idealize.ShloMosaic Idealize.ShloMosaic.TcCoe Idealize.ShloMosaic.Tactic
open Idealize.SL.Sem Idealize.SL.ProofMode Idealize.ShloMosaic.StableHlo

variable (W : Valuation τ sig (Elt Ideal))

/-- The rows' maxima. -/
def mxA (s : FVec Ideal S16x4096x4096 .f32) : FVec Ideal S16x4096x1 .f32 :=
  broadcastInDim S16x4096x1 ![0, 1] bcast_S16x4096_S16x4096x1_0_1
    (Host.reduce FloatOps.maximumf s (constant S_ .f32 0xFF800000#32) reducesTo_S16x4096x4096_S16x4096_d2 h_S_)
/-- The shifted exponentials. -/
def exA (s : FVec Ideal S16x4096x4096 .f32) : FVec Ideal S16x4096x4096 .f32 :=
  Host.exp (subf s (broadcastInDim S16x4096x4096 ![0, 1, 2] bcast_S16x4096x1_S16x4096x4096_0_1_2 (mxA s)))
/-- Their sums. -/
def smA (s : FVec Ideal S16x4096x4096 .f32) : FVec Ideal S16x4096x1 .f32 :=
  broadcastInDim S16x4096x1 ![0, 1] bcast_S16x4096_S16x4096x1_0_1
    (Host.reduceAdd (exA s) (constant S_ .f32 0x00000000#32) reducesTo_S16x4096x4096_S16x4096_d2 h_S_)
/-- The log-sums, along the lanes. -/
def lseA (s : FVec Ideal S16x4096x4096 .f32) : FVec Ideal S16x4096x128 .f32 :=
  broadcastInDim S16x4096x128 ![0, 1, 2] bcast_S16x4096x1_S16x4096x128_0_1_2 (addf (mxA s) (Host.log (smA s)))
/-- The forward pass's output. -/
def outA (s : FVec Ideal S16x4096x4096 .f32) (v : FVec Ideal S4096x16x128 .f32) : FVec Ideal S4096x16x128 .f32 :=
  transpose S4096x16x128 [2, 0, 1] (Host.dotGeneral dot_S4096x16x128_S16x4096x4096_S16x128x4096_0_2_2_1_1_0 none v
    (Host.divf (exA s) (broadcastInDim S16x4096x4096 ![0, 1, 2] bcast_S16x4096x1_S16x4096x4096_0_1_2 (smA s)))) transposes_S16x128x4096_S4096x16x128_2_0_1
/-- The rows' sums of the output times its gradient, along the lanes, the heads side by side. -/
def delA (s : FVec Ideal S16x4096x4096 .f32) (v g : FVec Ideal S4096x16x128 .f32) : FVec Ideal S4096x2048 .f32 :=
  shapeCast S4096x2048 (broadcastInDim S4096x16x128 ![0, 1, 2] bcast_S4096x16x1_S4096x16x128_0_1_2
    (broadcastInDim S4096x16x1 ![0, 1] bcast_S4096x16_S4096x16x1_0_1
      (Host.reduceAdd (mulf g (outA s v)) (constant S_ .f32 0x00000000#32) reducesTo_S4096x16x128_S4096x16_d2 h_S_))) shapeCasts_S4096x16x128_S4096x2048

theorem read17 : StableHlo.after (hostOps0_1 (F := Ideal)) (StableHlo.after hostOps0 W) (Proc.devRef .tc main_v17)
    = Cert.ReferenceIdeal.Read.val_main_v17_0 (F := Ideal) (W (Proc.devRef .tc main_arg0)) (W (Proc.devRef .tc main_arg1)) (W (Proc.devRef .tc main_arg2)) := by
  after_reads_simp
  rfl
theorem read3 : StableHlo.after (hostOps0 (F := Ideal)) W (Proc.devRef .tc main_v3)
    = Cert.ReferenceIdeal.Read.val_main_v3 (F := Ideal) (W (Proc.devRef .tc main_arg1)) := by
  after_reads_simp
  rfl
theorem read31 : StableHlo.after (hostOps0_2 (F := Ideal)) W (Proc.devRef .tc main_v31) = lseA (W (Proc.devRef .tc main_v17)) := by
  after_reads_simp
  rfl
theorem read36 : StableHlo.after (hostOps0_2 (F := Ideal)) W (Proc.devRef .tc main_v36)
    = delA (W (Proc.devRef .tc main_v17)) (W (Proc.devRef .tc main_v3)) (W (Proc.devRef .tc main_arg3)) := by
  after_reads_simp
  rfl

theorem read41 : StableHlo.after (hostOps0_6 (F := Ideal)) W (Proc.devRef .tc main_v41) = (truncf .bf16 (W (Proc.devRef .tc main_v38)) bitsLt_bf16_f32 : FVec Ideal S4096x4096 .bf16) := by
  after_reads_simp
theorem read38 : StableHlo.after (hostOps0_4 (F := Ideal)) (StableHlo.after hostOps0_3 W) (Proc.devRef .tc main_v38)
    = shapeCast S4096x4096 (pad S4096x16x256 ![0, 0, 0] ![0, 0, 64] ![0, 0, 0] (W (Proc.devRef .tc main_arg0)) (sitofp (F := Ideal) .f32 (W (Proc.devRef .tc main_c_5))) pads_S4096x16x192_S4096x16x256_000_000_0640 h_S_) shapeCasts_S4096x16x256_S4096x4096 := by
  after_reads_simp
  rfl
theorem read42 : StableHlo.after (hostOps0_6 (F := Ideal)) W (Proc.devRef .tc main_v42)
    = (truncf .bf16 (shapeCast S4096x4096 (W (Proc.devRef .tc main_arg1)) shapeCasts_S4096x16x256_S4096x4096) bitsLt_bf16_f32 : FVec Ideal S4096x4096 .bf16) := by
  after_reads_simp
  rfl
theorem read43 : StableHlo.after (hostOps0_6 (F := Ideal)) (StableHlo.after hostOps0_5 W) (Proc.devRef .tc main_v43)
    = (truncf .bf16 (pad S4096x128 ![0, 0] ![0, 64] ![0, 0] (W (Proc.devRef .tc main_arg2)) (sitofp (F := Ideal) .f32 (W (Proc.devRef .tc main_c_6))) pads_S4096x64_S4096x128_000_0640 h_S_) bitsLt_bf16_f32 : FVec Ideal S4096x128 .bf16) := by
  after_reads_simp
  rfl
theorem read45 : StableHlo.after (hostOps0_6 (F := Ideal)) W (Proc.devRef .tc main_v45)
    = (truncf .bf16 (shapeCast S4096x2048 (W (Proc.devRef .tc main_arg3)) shapeCasts_S4096x16x128_S4096x2048) bitsLt_bf16_f32 : FVec Ideal S4096x2048 .bf16) := by
  after_reads_simp
  rfl

end Cert.KernelIdeal.Flash

end

end
-- ==== Proof.FlashR.Refer.lean ====
module

public import proofs.«01_k».proof.Proof.FlashR.Score

/-! What the reference computes, over the reals: the softmax's derivative and the gradients of its arguments. -/

@[expose] public section

set_option maxHeartbeats 400000

noncomputable section

namespace Cert.ReferenceIdeal.Attn

open Idealize.ShloMosaic Idealize.SL.Sem Cert.ReferenceIdeal.Read
open Cert.KernelIdeal.Flash (SC S E Z P LL dp DD dS coe_sum_range P_of dS_of dS_upper Z_pos)

variable {A0 : (⟨S4096x16x192, .f32⟩ : BufTy).Contents (Elt Ideal)} {A1 : (⟨S4096x16x256, .f32⟩ : BufTy).Contents (Elt Ideal)}
  {A2 : (⟨S4096x64, .f32⟩ : BufTy).Contents (Elt Ideal)} {A3 : (⟨S4096x16x128, .f32⟩ : BufTy).Contents (Elt Ideal)}
variable {q kv dd : ℕ → ℕ → ℕ → ℝ} {kr : ℕ → ℕ → ℝ}

theorem v18_at (h : Fin 16) (x : Fin 4096) : val_main_v18 (F := Ideal) A0 A1 A2 (ix2 h x)
    = Finset.fold max (Ideal.ofBits .f32 0xFF800000#32) (fun y : Fin 4096 => val_main_v17_0 (F := Ideal) A0 A1 A2 (ix3 h x y)) Finset.univ := by
  unfold val_main_v18 val_main_cst_1
  generalize val_main_v17_0 (F := Ideal) A0 A1 A2 = s
  pointwise

variable (A0 A1 A2) in
/-- The row's maximum. -/
def MX (h : Fin 16) (x : Fin 4096) : ℝ := (val_main_v18 (F := Ideal) A0 A1 A2 (ix2 h x)).toReal

theorem v18_real (I : Args A0 A1 A2 A3 q kv dd kr) (h : Fin 16) (x : Fin 4096) :
    val_main_v18 (F := Ideal) A0 A1 A2 (ix2 h x) = ((MX A0 A1 A2 h x : ℝ) : EReal) := by
  unfold MX
  rw [v18_at]
  exact rowMax_real _ (score_at I) h x

theorem v38_at (I : Args A0 A1 A2 A3 q kv dd kr) (h : Fin 16) (x y : Fin 4096) :
    val_main_v38 (F := Ideal) A0 A1 A2 (ix3 h x y) = ((E q kv kr h x y * Real.exp (-MX A0 A1 A2 h x) : ℝ) : EReal) := by
  have e : idx_main_v35 (idx_main_v36 (ix3 h x y)) = ix2 h x := by
    funext a; match a with
    | ⟨0, _⟩ => rfl
    | ⟨1, _⟩ => rfl
  have e' : val_main_v38 (F := Ideal) A0 A1 A2 (ix3 h x y) = Ideal.exp (val_main_v17_0 (F := Ideal) A0 A1 A2 (ix3 h x y)
      - max (Ideal.ofBits .f32 0xFF800000#32) (val_main_v18 (F := Ideal) A0 A1 A2 (ix2 h x))) := by
    rw [val_main_v38_apply, val_main_v37_apply, val_main_v36_apply, val_main_v35_apply, e, val_main_v25_apply, val_main_v24_apply]
    rfl
  rw [e', word_bot, max_eq_right bot_le, v18_real I, score_at I]
  exact exp_shift h x y _

/-- The row's sum of shifted exponentials. -/
abbrev lX (q kv : ℕ → ℕ → ℕ → ℝ) (kr : ℕ → ℕ → ℝ) (h x : ℕ) (M : ℝ) : ℝ := ∑ y ∈ Finset.range 4096, E q kv kr h x y * Real.exp (-M)

theorem lX_ne (h x : ℕ) (M : ℝ) : lX q kv kr h x M ≠ 0 := by
  rw [lX, ← Finset.sum_mul]; exact mul_ne_zero (Z_pos q kv kr h x).ne' (Real.exp_pos _).ne'

theorem v40_at (I : Args A0 A1 A2 A3 q kv dd kr) (h : Fin 16) (x : Fin 4096) (z : Fin 1) :
    val_main_v40 (F := Ideal) A0 A1 A2 (ix3 h x z) = ((lX q kv kr h x (MX A0 A1 A2 h x) : ℝ) : EReal) := by
  have e : val_main_v40 (F := Ideal) A0 A1 A2 (ix3 h x z) = ∑ y : Fin 4096, val_main_v38 (F := Ideal) A0 A1 A2 (ix3 h x y) := by
    unfold val_main_v40 val_main_v39 val_main_cst_9
    generalize val_main_v38 (F := Ideal) A0 A1 A2 = s
    pointwise
  exact e.trans (sum_coe 4096 _ (fun y => E q kv kr h x y * Real.exp (-MX A0 A1 A2 h x)) fun y => v38_at I h x y)

/-- The attention's weights. -/
theorem v42_at (I : Args A0 A1 A2 A3 q kv dd kr) (h : Fin 16) (x y : Fin 4096) :
    val_main_v42 (F := Ideal) A0 A1 A2 (ix3 h x y) = ((P q kv kr h x y : ℝ) : EReal) := by
  have e : val_main_v42 (F := Ideal) A0 A1 A2 (ix3 h x y)
      = Ideal.div (val_main_v38 (F := Ideal) A0 A1 A2 (ix3 h x y)) (val_main_v40 (F := Ideal) A0 A1 A2 (ix3 h x (0 : Fin 1))) := by
    unfold val_main_v42 val_main_v41
    generalize val_main_v38 (F := Ideal) A0 A1 A2 = s
    generalize val_main_v40 (F := Ideal) A0 A1 A2 = t
    pointwise
  rw [e, v38_at I, v40_at I, div_coe' _ _ (lX_ne _ _ _), P_of]

theorem v49_at (I : Args A0 A1 A2 A3 q kv dd kr) (h : Fin 16) (x y : Fin 4096) :
    val_main_v49 (F := Ideal) A1 A3 (ix3 h x y) = ((dp kv dd h x y : ℝ) : EReal) := by
  have e : val_main_v49 (F := Ideal) A1 A3 (ix3 h x y) = ∑ e : Fin 128, A3 (ix3 x h e) * A1 (ix3 y h ⟨128 + e.val, by omega⟩) := by
    unfold val_main_v49 val_main_v48 val_main_v3
    pointwise
  exact e.trans (dot_coe 128 _ _ (fun e => dd x h e) (fun e => kv y h (128 + e)) (fun k => I.a3 _ _ _) (fun k => I.a1 _ _ _))

/-- The values' gradient. -/
theorem v51_at (I : Args A0 A1 A2 A3 q kv dd kr) (h : Fin 16) (y : Fin 4096) (e : Fin 128) :
    val_main_v51 (F := Ideal) A0 A1 A2 A3 (ix3 y h e) = ((∑ x ∈ Finset.range 4096, P q kv kr h x y * dd x h e : ℝ) : EReal) := by
  have e' : val_main_v51 (F := Ideal) A0 A1 A2 A3 (ix3 y h e) = ∑ x : Fin 4096, A3 (ix3 x h e) * val_main_v42 (F := Ideal) A0 A1 A2 (ix3 h x y) := by
    unfold val_main_v51 val_main_v50 val_main_v48
    generalize val_main_v42 (F := Ideal) A0 A1 A2 = s
    pointwise
  refine e'.trans ((dot_coe 4096 _ _ (fun x => dd x h e) (fun x => P q kv kr h x y) (fun k => I.a3 _ _ _) (fun k => v42_at I _ _ _)).trans ?_)
  exact congrArg _ (Finset.sum_congr rfl fun x _ => mul_comm _ _)

theorem v54_at (I : Args A0 A1 A2 A3 q kv dd kr) (h : Fin 16) (x y : Fin 4096) :
    val_main_v54 (F := Ideal) A0 A1 A2 A3 (ix3 h x y)
      = ((dp kv dd h x y * (1 / (lX q kv kr h x (MX A0 A1 A2 h x) * lX q kv kr h x (MX A0 A1 A2 h x)))
          * (E q kv kr h x y * Real.exp (-MX A0 A1 A2 h x)) : ℝ) : EReal) := by
  have e : val_main_v54 (F := Ideal) A0 A1 A2 A3 (ix3 h x y) = val_main_v49 (F := Ideal) A1 A3 (ix3 h x y)
      * Ideal.div 1 (val_main_v40 (F := Ideal) A0 A1 A2 (ix3 h x (0 : Fin 1)) * val_main_v40 (F := Ideal) A0 A1 A2 (ix3 h x (0 : Fin 1)))
      * val_main_v38 (F := Ideal) A0 A1 A2 (ix3 h x y) := by
    unfold val_main_v54 val_main_v53 val_main_v52 val_main_v45 val_main_v44 val_main_v43 val_main_cst_10
    generalize val_main_v38 (F := Ideal) A0 A1 A2 = s
    generalize val_main_v40 (F := Ideal) A0 A1 A2 = t
    generalize val_main_v49 (F := Ideal) A1 A3 = u
    pointwise
  rw [e, v38_at I, v40_at I, v49_at I, ← EReal.coe_mul, ← EReal.coe_one, div_coe' _ _ (mul_ne_zero (lX_ne _ _ _) (lX_ne _ _ _)),
    ← EReal.coe_mul, ← EReal.coe_mul]

/-- The softmax's derivative. -/
theorem v63_at (I : Args A0 A1 A2 A3 q kv dd kr) (h : Fin 16) (x y : Fin 4096) :
    val_main_v63 (F := Ideal) A0 A1 A2 A3 (ix3 h x y) = ((dS q kv dd kr h x y : ℝ) : EReal) := by
  have e : val_main_v63 (F := Ideal) A0 A1 A2 A3 (ix3 h x y)
      = (Ideal.div (val_main_v49 (F := Ideal) A1 A3 (ix3 h x y)) (val_main_v40 (F := Ideal) A0 A1 A2 (ix3 h x (0 : Fin 1)))
        + ∑ _z : Fin 1, -(∑ z : Fin 4096, val_main_v54 (F := Ideal) A0 A1 A2 A3 (ix3 h x z))) * val_main_v38 (F := Ideal) A0 A1 A2 (ix3 h x y) := by
    unfold val_main_v63 val_main_v62 val_main_v61 val_main_v60 val_main_v59 val_main_v58 val_main_v57 val_main_v56 val_main_v55 val_main_cst_12 val_main_cst_11
    generalize val_main_v38 (F := Ideal) A0 A1 A2 = s
    generalize val_main_v40 (F := Ideal) A0 A1 A2 = t
    generalize val_main_v49 (F := Ideal) A1 A3 = u
    generalize val_main_v54 (F := Ideal) A0 A1 A2 A3 = w
    pointwise
  rw [e, v38_at I, v40_at I, v49_at I, Fin.sum_univ_one, div_coe' _ _ (lX_ne _ _ _),
    sum_coe 4096 _ (fun z => dp kv dd h x z * (1 / (lX q kv kr h x (MX A0 A1 A2 h x) * lX q kv kr h x (MX A0 A1 A2 h x)))
          * (E q kv kr h x z * Real.exp (-MX A0 A1 A2 h x))) (fun z => v54_at I h x z), ← EReal.coe_neg, ← EReal.coe_add, ← EReal.coe_mul]
  exact congrArg _ (dS_of q kv dd kr _ h x y)

/-- The gradient of the raw score. -/
theorem v66_at (I : Args A0 A1 A2 A3 q kv dd kr) (h : Fin 16) (x y : Fin 4096) :
    val_main_v66 (F := Ideal) A0 A1 A2 A3 (ix3 h x y) = ((dS q kv dd kr h x y * SC : ℝ) : EReal) := by
  have e : val_main_v66 (F := Ideal) A0 A1 A2 A3 (ix3 h x y)
      = Scalar.select (IntOp.cmpi .sle (BitVec.ofNat 32 y.val) (BitVec.ofNat 32 x.val)) (val_main_v63 (F := Ideal) A0 A1 A2 A3 (ix3 h x y)) 0
        * Ideal.rsqrt (Ideal.ofBits .f32 0x43400000#32) := by
    unfold val_main_v66 val_main_v65 val_main_v64 val_main_call1_v0 val_main_v17_1 val_main_v16 val_main_v15 val_main_v14 val_main_v13 val_main_v12 val_main_v11 val_main_v8 val_main_cst val_main_call1_cst
    generalize val_main_v63 (F := Ideal) A0 A1 A2 A3 = s
    pointwise
  rw [e, scale_at, v63_at I, EReal.coe_mul]
  refine congrArg (· * _) ((sle_at x y _ _).trans ?_)
  by_cases hxy : y.val ≤ x.val
  · rw [if_pos hxy]
  · rw [if_neg hxy, dS_upper q kv dd kr h x y hxy, EReal.coe_zero]

theorem v68_at (I : Args A0 A1 A2 A3 q kv dd kr) (h : Fin 16) (x : Fin 4096) (c : Fin 64) :
    val_main_v68 (F := Ideal) A0 A1 A2 A3 (ix3 x h c) = ((∑ y ∈ Finset.range 4096, dS q kv dd kr h x y * SC * kr y c : ℝ) : EReal) := by
  have e : val_main_v68 (F := Ideal) A0 A1 A2 A3 (ix3 x h c) = ∑ y : Fin 4096, val_main_v66 (F := Ideal) A0 A1 A2 A3 (ix3 h x y) * A2 (ix2 y c) := by
    unfold val_main_v68 val_main_v67
    generalize val_main_v66 (F := Ideal) A0 A1 A2 A3 = s
    pointwise
  exact e.trans (dot_coe 4096 _ _ (fun y => dS q kv dd kr h x y * SC) (fun y => kr y c) (fun k => v66_at I _ _ _) (fun k => I.a2 _ _))

theorem v69_at (I : Args A0 A1 A2 A3 q kv dd kr) (y : Fin 4096) (c : Fin 64) :
    val_main_v69 (F := Ideal) A0 A1 A2 A3 (ix2 y c)
      = ((∑ x ∈ Finset.range 4096, ∑ h ∈ Finset.range 16, dS q kv dd kr h x y * SC * q x h (128 + c) : ℝ) : EReal) := by
  have e : val_main_v69 (F := Ideal) A0 A1 A2 A3 (ix2 y c) = ∑ x : Fin 4096, ∑ h : Fin 16, val_main_v66 (F := Ideal) A0 A1 A2 A3 (ix3 h x y) * A0 (ix3 x h ⟨128 + c.val, by omega⟩) := by
    unfold val_main_v69 val_main_v67 val_main_v1
    generalize val_main_v66 (F := Ideal) A0 A1 A2 A3 = s
    pointwise
  refine e.trans (sum_coe 4096 _ (fun x => ∑ h ∈ Finset.range 16, dS q kv dd kr h x y * SC * q x h (128 + c)) fun x => ?_)
  exact dot_coe 16 _ _ (fun h => dS q kv dd kr h x y * SC) (fun h => q x h (128 + c)) (fun k => v66_at I _ _ _) (fun k => I.a0 _ _ _)

theorem v71_at (I : Args A0 A1 A2 A3 q kv dd kr) (h : Fin 16) (y : Fin 4096) (c : Fin 128) :
    val_main_v71 (F := Ideal) A0 A1 A2 A3 (ix3 y h c) = ((∑ x ∈ Finset.range 4096, dS q kv dd kr h x y * SC * q x h c : ℝ) : EReal) := by
  have e : val_main_v71 (F := Ideal) A0 A1 A2 A3 (ix3 y h c) = ∑ x : Fin 4096, val_main_v66 (F := Ideal) A0 A1 A2 A3 (ix3 h x y) * A0 (ix3 x h ⟨c.val, by omega⟩) := by
    unfold val_main_v71 val_main_v70 val_main_v0
    generalize val_main_v66 (F := Ideal) A0 A1 A2 A3 = s
    pointwise
  exact e.trans (dot_coe 4096 _ _ (fun x => dS q kv dd kr h x y * SC) (fun x => q x h c) (fun k => v66_at I _ _ _) (fun k => I.a0 _ _ _))

theorem v73_at (I : Args A0 A1 A2 A3 q kv dd kr) (h : Fin 16) (x : Fin 4096) (c : Fin 128) :
    val_main_v73 (F := Ideal) A0 A1 A2 A3 (ix3 x h c) = ((∑ y ∈ Finset.range 4096, dS q kv dd kr h x y * SC * kv y h c : ℝ) : EReal) := by
  have e : val_main_v73 (F := Ideal) A0 A1 A2 A3 (ix3 x h c) = ∑ y : Fin 4096, val_main_v66 (F := Ideal) A0 A1 A2 A3 (ix3 h x y) * A1 (ix3 y h ⟨c.val, by omega⟩) := by
    unfold val_main_v73 val_main_v72 val_main_v2
    generalize val_main_v66 (F := Ideal) A0 A1 A2 A3 = s
    pointwise
  exact e.trans (dot_coe 4096 _ _ (fun y => dS q kv dd kr h x y * SC) (fun y => kv y h c) (fun k => v66_at I _ _ _) (fun k => I.a1 _ _ _))

end Cert.ReferenceIdeal.Attn

end

end
-- ==== Proof.FlashR.HostVal.lean ====
module

public import proofs.«01_k».proof.Proof.FlashR.Host
public import proofs.«01_k».proof.Proof.FlashR.Refer

/-! The values of the arrays of the host code, at masked real scores: log-sums, and the rows' sums of the output
    times its gradient. -/

@[expose] public section

set_option maxHeartbeats 400000

noncomputable section

namespace Cert.KernelIdeal.Flash

open Cert.KernelIdeal Cert.KernelIdeal.Gen
open Idealize.ShloMosaic Idealize.ShloMosaic.TcCoe Idealize.ShloMosaic.Tactic
open Idealize.SL.Sem
open Cert.ReferenceIdeal.Attn (lX lX_ne rowMax_real exp_shift sum_coe dot_coe div_coe' Args)

variable (s : FVec Ideal S16x4096x4096 .f32)

theorem mx_at (h : Fin 16) (x : Fin 4096) (z : Fin 1) : mxA s (ix3 h x z)
    = Finset.fold max (Ideal.ofBits .f32 0xFF800000#32) (fun y : Fin 4096 => s (ix3 h x y)) Finset.univ := by
  unfold mxA
  pointwise

theorem ex_at (h : Fin 16) (x y : Fin 4096) : exA s (ix3 h x y) = Ideal.exp (s (ix3 h x y) - mxA s (ix3 h x (0 : Fin 1))) := by
  unfold exA
  generalize mxA s = w
  pointwise

theorem sm_at (h : Fin 16) (x : Fin 4096) (z : Fin 1) : smA s (ix3 h x z) = ∑ y : Fin 4096, exA s (ix3 h x y) := by
  unfold smA
  generalize exA s = w
  pointwise

theorem lanes_at (w : FVec Ideal S16x4096x1 .f32) (h : Fin 16) (x : Fin 4096) (e : Fin 128) :
    broadcastInDim S16x4096x128 ![0, 1, 2] bcast_S16x4096x1_S16x4096x128_0_1_2 w (ix3 h x e) = w (ix3 h x (0 : Fin 1)) := by
  pointwise

theorem add_log_at (w w' : FVec Ideal S16x4096x1 .f32) (i : S16x4096x1.Idx) : addf w (Host.log w') i = w i + Ideal.log (w' i) := rfl

theorem lse_at (h : Fin 16) (x : Fin 4096) (e : Fin 128) :
    lseA s (ix3 h x e) = mxA s (ix3 h x (0 : Fin 1)) + Ideal.log (smA s (ix3 h x (0 : Fin 1))) := by
  unfold lseA
  rw [lanes_at, add_log_at]

/-- A row's maximum, as a real. -/
def mxR (h : Fin 16) (x : Fin 4096) : ℝ := (mxA s (ix3 h x (0 : Fin 1))).toReal

theorem out_at (v : FVec Ideal S4096x16x128 .f32) (x : Fin 4096) (h : Fin 16) (e : Fin 128) :
    outA s v (ix3 x h e) = ∑ y : Fin 4096, v (ix3 y h e) * Ideal.div (exA s (ix3 h x y)) (smA s (ix3 h x (0 : Fin 1))) := by
  unfold outA
  generalize exA s = w
  generalize smA s = w'
  pointwise

theorem del_at (v g : FVec Ideal S4096x16x128 .f32) (x : Fin 4096) (z : Fin 2048) :
    delA s v g (ix2 x z) = ∑ e : Fin 128, g (ix3 x (⟨z.val / 128, by omega⟩ : Fin 16) e) * outA s v (ix3 x (⟨z.val / 128, by omega⟩ : Fin 16) e) := by
  unfold delA
  generalize outA s v = w
  pointwise

section
variable {s} {q kv dd : ℕ → ℕ → ℕ → ℝ} {kr : ℕ → ℕ → ℝ}
  (hs : ∀ (h : Fin 16) (x y : Fin 4096), s (ix3 h x y) = if y.val ≤ x.val then ((S q kv kr h x y : ℝ) : EReal) else ⊥)
include hs

/-- The maximum of a row of scores is a real. -/
theorem mx_real (h : Fin 16) (x : Fin 4096) (z : Fin 1) : mxA s (ix3 h x z) = ((mxR s h x : ℝ) : EReal) := by
  unfold mxR
  rw [mx_at, mx_at]
  exact rowMax_real s hs h x

theorem ex_real (h : Fin 16) (x y : Fin 4096) :
    exA s (ix3 h x y) = ((E q kv kr h x y * Real.exp (-mxR s h x) : ℝ) : EReal) := by
  rw [ex_at, mx_real hs, hs]
  exact exp_shift h x y _

theorem sm_real (h : Fin 16) (x : Fin 4096) (z : Fin 1) :
    smA s (ix3 h x z) = ((lX q kv kr h x (mxR s h x) : ℝ) : EReal) := by
  rw [sm_at]
  exact sum_coe 4096 _ (fun y => E q kv kr h x y * Real.exp (-mxR s h x)) fun y => ex_real hs h x y

theorem lX_pos (h x : ℕ) (M : ℝ) : 0 < lX q kv kr h x M := by
  rw [lX, ← Finset.sum_mul]; exact mul_pos (Z_pos q kv kr h x) (Real.exp_pos _)

/-- The saved log-sums. -/
theorem lse_real (h : Fin 16) (x : Fin 4096) (e : Fin 128) : lseA s (ix3 h x e) = ((LL q kv kr h x : ℝ) : EReal) := by
  rw [lse_at, mx_real hs, sm_real hs, Ideal.log_coe, if_neg (not_le.mpr (lX_pos hs _ _ _)), ← EReal.coe_add]
  exact congrArg _ (lse_of q kv kr _ h x)

/-- The forward pass's output. -/
theorem out_real (v : FVec Ideal S4096x16x128 .f32) (hv : ∀ (y : Fin 4096) (h : Fin 16) (e : Fin 128), v (ix3 y h e) = ((kv y h (128 + e.val) : ℝ) : EReal))
    (x : Fin 4096) (h : Fin 16) (e : Fin 128) :
    outA s v (ix3 x h e) = ((∑ y ∈ Finset.range 4096, kv y h (128 + e.val) * P q kv kr h x y : ℝ) : EReal) := by
  rw [out_at]
  refine dot_coe 4096 _ _ (fun y => kv y h (128 + e.val)) (fun y => P q kv kr h x y) (fun y => hv y h e) fun y => ?_
  rw [ex_real hs, sm_real hs, div_coe' _ _ (lX_pos hs _ _ _).ne']
  exact congrArg _ (P_of q kv kr _ h x y)

/-- The rows' sums of the output times its gradient are the sums of the weights times theirs. -/
theorem del_real (v g : FVec Ideal S4096x16x128 .f32) (hv : ∀ (y : Fin 4096) (h : Fin 16) (e : Fin 128), v (ix3 y h e) = ((kv y h (128 + e.val) : ℝ) : EReal))
    (hg : ∀ (x : Fin 4096) (h : Fin 16) (e : Fin 128), g (ix3 x h e) = ((dd x h e : ℝ) : EReal)) (x : Fin 4096) (z : Fin 2048) :
    delA s v g (ix2 x z) = ((DD q kv dd kr (z.val / 128) x : ℝ) : EReal) := by
  rw [del_at]
  refine (dot_coe 128 _ _ (fun e => dd x (z.val / 128) e) (fun e => ∑ y ∈ Finset.range 4096, kv y (z.val / 128) (128 + e) * P q kv kr (z.val / 128) x y)
    (fun e => hg x _ e) fun e => out_real hs v hv x _ e).trans (congrArg _ ?_)
  unfold DD dp
  simp only [Finset.mul_sum]
  rw [Finset.sum_comm]
  exact Finset.sum_congr rfl fun y _ => Finset.sum_congr rfl fun e _ => by ring
end

end Cert.KernelIdeal.Flash

end

end
-- ==== Proof.FlashV.Outputs.lean ====
module

public import proofs.«01_k».proof.Proof.FlashV.Inputs

/-! The arrays that the launch leaves. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)

variable (m : (ℓ : Loc nD τ sig) → Buf (Elt Ideal) ℓ) (c : Dev nD)
variable (Q KV DO : ℕ → ℕ → ℕ → ℝ) (KR : ℕ → ℕ → ℝ) (L D : ℕ → ℕ → ℝ)

/-- The three gradients over the reals: of the queries, of the keys and values, of the rotary keys. -/
def GQ (x y : ℕ) : ℝ := Qh Q KV DO KR L D (y / 256) 4096 x (y % 256) * SC
def GK (y z : ℕ) : ℝ := if z % 256 < 128 then Kh Q KV DO KR L D (z / 256) 4096 y (z % 256) * SC else Vh Q KV DO KR L (z / 256) 4096 y (z % 256 - 128)
def O6 : Vec Ideal S4096x4096 .f32 := fun i => ((GQ Q KV DO KR L D (i 0).val (i 1).val : ℝ) : EReal)
def O7 : Vec Ideal S4096x4096 .bf16 := fun i => ((GK Q KV DO KR L D (i 0).val (i 1).val : ℝ) : EReal)
def O8 : Vec Ideal S4096x128 .f32 := fun i => ((Rh Q KV DO KR L D 16 (i 0).val (i 1).val : ℝ) : EReal)

theorem em6 (t : Fin grid0.N) (a : Fin 4096) (e : Fin 256) :
    (((cfgA (F := Ideal)).win 6).blk t).view.emb (ix2 a e) = (ix2 a (⟨t.val / 10 * 256 + e.val, by have := t_lt t; omega⟩ : Fin 4096) : S4096x4096.Idx) := by
  refine funext fun x => Fin.ext ?_
  match x with
  | ⟨0, _⟩ =>
    show 0 * 4096 + 1 * a.val = a.val
    omega
  | ⟨1, _⟩ =>
    show (BitVec.ofNat 32 ((grid0.coords t) 0).val).toNat * 256 + 1 * e.val = t.val / 10 * 256 + e.val
    rw [hd_nat, Nat.one_mul]

theorem em7 (t : Fin grid0.N) (a : Fin 1024) (e : Fin 256) :
    (((cfgA (F := Ideal)).win 7).blk t).view.emb (ix2 a e)
      = (ix2 (⟨jj (t.val % 10) * 1024 + a.val, by have := jj_lt' t; omega⟩ : Fin 4096) (⟨t.val / 10 * 256 + e.val, by have := t_lt t; omega⟩ : Fin 4096) : S4096x4096.Idx) := by
  refine funext fun x => Fin.ext ?_
  match x with
  | ⟨0, _⟩ =>
    show cc0_transform_7 (F := Ideal) k0_off1_inb numel1_S1 tabs (grid0.coords t) 0 * 1024 + 1 * a.val = jj (t.val % 10) * 1024 + a.val
    rw [tr7]
    show (cl0 (grid0.coords t)).toNat * 1024 + 1 * a.val = _
    rw [cl_nat, Nat.one_mul]
  | ⟨1, _⟩ =>
    show cc0_transform_7 (F := Ideal) k0_off1_inb numel1_S1 tabs (grid0.coords t) 1 * 256 + 1 * e.val = t.val / 10 * 256 + e.val
    rw [tr7]
    show (BitVec.ofNat 32 ((grid0.coords t) 0).val).toNat * 256 + 1 * e.val = _
    rw [hd_nat, Nat.one_mul]

theorem em8 (t : Fin grid0.N) (a : Fin 4096) (e : Fin 128) :
    (((cfgA (F := Ideal)).win 8).blk t).view.emb (ix2 a e) = (ix2 a e : S4096x128.Idx) := by
  refine funext fun x => Fin.ext ?_
  match x with
  | ⟨0, _⟩ =>
    show 0 * 4096 + 1 * a.val = a.val
    omega
  | ⟨1, _⟩ =>
    show 0 * 128 + 1 * e.val = e.val
    omega

variable {m c Q KV DO KR L D} (I : Inp m c Q KV DO KR L D)

include I in
theorem flushed6 (t : Fin grid0.N) (hf : ((cfgA (F := Ideal)).win 6).flush t = true) :
    (dats m 0 c).flushed 6 t = (((cfgA (F := Ideal)).win 6).blk t).view.read (Elt Ideal) (O6 Q KV DO KR L D) := by
  have h9 : t.val % 10 = 9 := of_decide_eq_true ((flush6 t).symm.trans hf)
  have k := ok_traj I t.val (t_lt t)
  have key : ∀ j : S4096x256.Idx, (traj m c t.val).q j = (((cfgA (F := Ideal)).win 6).blk t).view.read (Elt Ideal) (O6 Q KV DO KR L D) j := by
    intro j
    obtain ⟨a, e, rfl⟩ : ∃ (a : Fin 4096) (e : Fin 256), j = ix2 a e := ⟨j 0, j 1, eq_ix2 j⟩
    rw [View.read_apply, k.q, h9, if_pos rfl]
    refine Eq.trans ?_ (congrArg (O6 Q KV DO KR L D) (em6 t a e)).symm
    refine congrArg _ ?_
    show _ = Qh Q KV DO KR L D ((t.val / 10 * 256 + e.val) / 256) 4096 a.val ((t.val / 10 * 256 + e.val) % 256) * SC
    have he := e.isLt
    have ha := a.isLt
    rw [show (t.val / 10 * 256 + e.val) / 256 = t.val / 10 by omega, show (t.val / 10 * 256 + e.val) % 256 = e.val by omega]
    have hc := cnt_last ⟨a.val / 1024, by omega⟩
    dsimp only at hc
    rw [hc]
    refine congrArg (· * _) (SQ_all _ _ _ _ _ _ _ _ _ _ ?_ ?_) <;> omega
  exact funext key

include I in
theorem flushed7 (t : Fin grid0.N) (hf : ((cfgA (F := Ideal)).win 7).flush t = true) :
    (dats m 0 c).flushed 7 t = (((cfgA (F := Ideal)).win 7).blk t).view.read (Elt Ideal) (O7 Q KV DO KR L D) := by
  have h9 : t.val % 10 ∈ [3, 6, 8, 9] := of_decide_eq_true ((flush7 t).symm.trans hf)
  have h3 : ii (t.val % 10) = 3 := (by decide : ∀ p : Fin 10, p.val ∈ [3, 6, 8, 9] → ii p.val = 3) ⟨t.val % 10, Nat.mod_lt _ (by decide)⟩ h9
  have k := ok_traj I t.val (t_lt t)
  have key : ∀ j : S1024x256.Idx, (traj m c t.val).kv j = (((cfgA (F := Ideal)).win 7).blk t).view.read (Elt Ideal) (O7 Q KV DO KR L D) j := by
    intro j
    obtain ⟨a, e, rfl⟩ : ∃ (a : Fin 1024) (e : Fin 256), j = ix2 a e := ⟨j 0, j 1, eq_ix2 j⟩
    rw [View.read_apply, k.kv h3]
    refine Eq.trans ?_ (congrArg (O7 Q KV DO KR L D) (em7 t a e)).symm
    refine congrArg _ ?_
    show _ = if (t.val / 10 * 256 + e.val) % 256 < 128 then Kh Q KV DO KR L D ((t.val / 10 * 256 + e.val) / 256) 4096 (jj (t.val % 10) * 1024 + a.val) ((t.val / 10 * 256 + e.val) % 256) * SC
      else Vh Q KV DO KR L ((t.val / 10 * 256 + e.val) / 256) 4096 (jj (t.val % 10) * 1024 + a.val) ((t.val / 10 * 256 + e.val) % 256 - 128)
    have he := e.isLt
    rw [show (t.val / 10 * 256 + e.val) / 256 = t.val / 10 by omega, show (t.val / 10 * 256 + e.val) % 256 = e.val by omega]
  exact funext key

include I in
theorem flushed8 (t : Fin grid0.N) (hf : ((cfgA (F := Ideal)).win 8).flush t = true) :
    (dats m 0 c).flushed 8 t = (((cfgA (F := Ideal)).win 8).blk t).view.read (Elt Ideal) (O8 Q KV DO KR L D) := by
  have h9 : t.val = 159 := of_decide_eq_true ((flush8 t).symm.trans hf)
  have k := ok_traj I t.val (t_lt t)
  have key : ∀ j : S4096x128.Idx, (traj m c t.val).kr j = (((cfgA (F := Ideal)).win 8).blk t).view.read (Elt Ideal) (O8 Q KV DO KR L D) j := by
    intro j
    obtain ⟨a, e, rfl⟩ : ∃ (a : Fin 4096) (e : Fin 128), j = ix2 a e := ⟨j 0, j 1, eq_ix2 j⟩
    rw [View.read_apply, k.kr]
    refine Eq.trans ?_ (congrArg (O8 Q KV DO KR L D) (em8 t a e)).symm
    have ha := a.isLt
    have hc := dn_last ⟨a.val / 1024, by omega⟩
    dsimp only at hc
    rw [h9, hc]
    rfl
  exact funext key

theorem pt (n : ℕ) (hn : n < 160) : n < grid0.N := lt_of_lt_of_eq hn (by decide)

include I in
theorem final6 : (dats m 0 c).arrAt 6 (cfgA (F := Ideal)).N = O6 Q KV DO KR L D :=
  (dats m 0 c).arrAt_eq_of_cover 6 (O6 Q KV DO KR L D) (flushed6 I) fun i => by
    obtain ⟨x, y, rfl⟩ : ∃ (x : Fin 4096) (y : Fin 4096), i = ix2 x y := ⟨i 0, i 1, eq_ix2 i⟩
    have hy := y.isLt
    refine ⟨⟨y.val / 256 * 10 + 9, pt _ (by omega)⟩, (flush6 _).trans (decide_eq_true (by dsimp only; omega)), ?_⟩
    have e := em6 ⟨y.val / 256 * 10 + 9, pt _ (by omega)⟩ x ⟨y.val % 256, by omega⟩
    have e' : (ix2 x y : S4096x4096.Idx) = ix2 x (⟨(y.val / 256 * 10 + 9) / 10 * 256 + y.val % 256, by omega⟩ : Fin 4096) := congrArg (ix2 x) (Fin.ext (by dsimp only; omega))
    rw [e', ← e]
    exact View.emb_mem_set _ _

include I in
theorem final7 : (dats m 0 c).arrAt 7 (cfgA (F := Ideal)).N = O7 Q KV DO KR L D :=
  (dats m 0 c).arrAt_eq_of_cover 7 (O7 Q KV DO KR L D) (flushed7 I) fun i => by
    obtain ⟨x, y, rfl⟩ : ∃ (x : Fin 4096) (y : Fin 4096), i = ix2 x y := ⟨i 0, i 1, eq_ix2 i⟩
    have hy := y.isLt
    have hx := x.isLt
    obtain ⟨p, hp, hj⟩ : ∃ p : Fin 10, p.val ∈ [3, 6, 8, 9] ∧ jj p.val = x.val / 1024 :=
      (by decide : ∀ J : Fin 4, ∃ p : Fin 10, p.val ∈ [3, 6, 8, 9] ∧ jj p.val = J.val) ⟨x.val / 1024, by omega⟩
    have hp' := p.isLt
    have em : (y.val / 256 * 10 + p.val) % 10 = p.val := by omega
    refine ⟨⟨y.val / 256 * 10 + p.val, pt _ (by omega)⟩, (flush7 _).trans (decide_eq_true (by dsimp only; rw [em]; exact hp)), ?_⟩
    have e := em7 ⟨y.val / 256 * 10 + p.val, pt _ (by omega)⟩ ⟨x.val % 1024, by omega⟩ ⟨y.val % 256, by omega⟩
    have e' : (ix2 x y : S4096x4096.Idx) = ix2 (⟨jj ((y.val / 256 * 10 + p.val) % 10) * 1024 + x.val % 1024, by rw [em, hj]; omega⟩ : Fin 4096) (⟨(y.val / 256 * 10 + p.val) / 10 * 256 + y.val % 256, by omega⟩ : Fin 4096) :=
      congrArg₂ ix2 (Fin.ext (by dsimp only; rw [em, hj]; omega)) (Fin.ext (by dsimp only; omega))
    rw [e', ← e]
    exact View.emb_mem_set _ _

include I in
theorem final8 : (dats m 0 c).arrAt 8 (cfgA (F := Ideal)).N = O8 Q KV DO KR L D :=
  (dats m 0 c).arrAt_eq_of_cover 8 (O8 Q KV DO KR L D) (flushed8 I) fun i => by
    obtain ⟨x, y, rfl⟩ : ∃ (x : Fin 4096) (y : Fin 128), i = ix2 x y := ⟨i 0, i 1, eq_ix2 i⟩
    refine ⟨⟨159, pt _ (by omega)⟩, (flush8 _).trans (decide_eq_true rfl), ?_⟩
    have e := em8 ⟨159, pt _ (by omega)⟩ x y
    exact (congrArg (fun z : (((cfgA (F := Ideal)).win 8).blk ⟨159, pt _ (by omega)⟩).view.ty.Idx => z ∈ (((cfgA (F := Ideal)).win 8).blk ⟨159, pt _ (by omega)⟩).view.set) e).mp (View.emb_mem_set _ _)

end Cert.KernelIdeal.Flash

end
-- ==== Proof.FlashR.Result.lean ====
module

public import proofs.«01_k».proof.Proof.FlashR.Refer
public import proofs.«01_k».proof.Proof.FlashV.Outputs

/-! The reference's three results are the arrays that the launch leaves, over the reals. -/

@[expose] public section

set_option maxHeartbeats 400000

noncomputable section

namespace Cert.ReferenceIdeal.Attn

open Idealize.ShloMosaic Idealize.SL.Sem Cert.ReferenceIdeal.Read
open Cert.KernelIdeal.Flash

variable {A0 : (⟨S4096x16x192, .f32⟩ : BufTy).Contents (Elt Ideal)} {A1 : (⟨S4096x16x256, .f32⟩ : BufTy).Contents (Elt Ideal)}
  {A2 : (⟨S4096x64, .f32⟩ : BufTy).Contents (Elt Ideal)} {A3 : (⟨S4096x16x128, .f32⟩ : BufTy).Contents (Elt Ideal)}
variable {q kv dd : ℕ → ℕ → ℕ → ℝ} {kr : ℕ → ℕ → ℝ}

section Reals
variable (q kv dd kr)

/-- The queries' gradient: over the keys' columns, over the rotary columns, and zero from column 192 on. -/
theorem GQ_at (x z : ℕ) : GQ (pQ q) (pKV kv) (pDO dd) (pKR kr) (LL q kv kr) (DD q kv dd kr) x z
    = if z % 256 < 128 then ∑ y ∈ Finset.range 4096, dS q kv dd kr (z / 256) x y * SC * kv y (z / 256) (z % 256)
      else if z % 256 < 192 then ∑ y ∈ Finset.range 4096, dS q kv dd kr (z / 256) x y * SC * kr y (z % 256 - 128) else 0 := by
  have e : GQ (pQ q) (pKV kv) (pDO dd) (pKR kr) (LL q kv kr) (DD q kv dd kr) x z
      = ∑ y ∈ Finset.range 4096, dS q kv dd kr (z / 256) x y * SC * KC (pKV kv (z / 256)) (pKR kr) y (z % 256) := by
    unfold GQ Qh SQ
    rw [Finset.sum_mul]
    refine Finset.sum_congr rfl fun y _ => ?_
    rw [DS_dS]; ring
  rw [e]
  generalize z % 256 = c
  split
  · next h => exact Finset.sum_congr rfl fun y _ => by rw [KC, if_pos h]; rfl
  · next h =>
    split
    · next h' => exact Finset.sum_congr rfl fun y _ => by rw [KC, if_neg h, pKR, if_pos (by omega)]
    · next h' => exact Finset.sum_eq_zero fun y _ => by rw [KC, if_neg h, pKR, if_neg (by omega), mul_zero]

/-- The keys' and values' gradient. -/
theorem GK_at (y z : ℕ) : GK (pQ q) (pKV kv) (pDO dd) (pKR kr) (LL q kv kr) (DD q kv dd kr) y z
    = if z % 256 < 128 then ∑ x ∈ Finset.range 4096, dS q kv dd kr (z / 256) x y * SC * q x (z / 256) (z % 256)
      else ∑ x ∈ Finset.range 4096, P q kv kr (z / 256) x y * dd x (z / 256) (z % 256 - 128) := by
  unfold GK
  split
  · next h =>
    unfold Kh SK
    rw [Finset.sum_mul]
    refine Finset.sum_congr rfl fun x _ => ?_
    rw [DS_dS, pQ, if_pos (by omega)]; ring
  · next h =>
    unfold Vh SV
    exact Finset.sum_congr rfl fun x _ => by rw [PR_P]; rfl

/-- The rotary keys' gradient, zero from column 64 on. -/
theorem Rh_at (y c : ℕ) : Rh (pQ q) (pKV kv) (pDO dd) (pKR kr) (LL q kv kr) (DD q kv dd kr) 16 y c
    = if c < 64 then ∑ x ∈ Finset.range 4096, ∑ h ∈ Finset.range 16, dS q kv dd kr h x y * SC * q x h (128 + c) else 0 := by
  unfold Rh
  split
  · next hc =>
    rw [Finset.sum_comm]
    refine Finset.sum_congr rfl fun h _ => ?_
    unfold Kh SK
    rw [Finset.sum_mul]
    refine Finset.sum_congr rfl fun x _ => ?_
    rw [DS_dS, pQ, if_pos (by omega)]; ring
  · next hc =>
    refine Finset.sum_eq_zero fun h _ => ?_
    have z : Kh (pQ q) (pKV kv) (pDO dd) (pKR kr) (LL q kv kr) (DD q kv dd kr) h 4096 y (128 + c) = 0 := by
      unfold Kh SK
      exact Finset.sum_eq_zero fun x _ => by rw [pQ, if_neg (by omega), mul_zero]
    rw [z, zero_mul]

end Reals

theorem v74_at (h : Fin 16) (x : Fin 4096) (c : Fin 256) : val_main_v74 (F := Ideal) A0 A1 A2 A3 (ix3 x h c)
    = if _h : 128 ≤ c.val ∧ c.val - 128 < 128 then val_main_v51 (F := Ideal) A0 A1 A2 A3 (ix3 x h (⟨c.val - 128, _h.2⟩ : Fin 128)) else 0 := by
  unfold val_main_v74 val_main_cst_13
  generalize val_main_v51 (F := Ideal) A0 A1 A2 A3 = s
  pointwise
theorem v75_at (h : Fin 16) (x : Fin 4096) (c : Fin 256) : val_main_v75 (F := Ideal) A0 A1 A2 A3 (ix3 x h c)
    = if _h : c.val < 128 then val_main_v71 (F := Ideal) A0 A1 A2 A3 (ix3 x h (⟨c.val, _h⟩ : Fin 128)) else 0 := by
  unfold val_main_v75 val_main_cst_14
  generalize val_main_v71 (F := Ideal) A0 A1 A2 A3 = s
  pointwise
theorem v77_at (h : Fin 16) (x : Fin 4096) (c : Fin 192) : val_main_v77 (F := Ideal) A0 A1 A2 A3 (ix3 x h c)
    = if _h : 128 ≤ c.val ∧ c.val - 128 < 64 then val_main_v68 (F := Ideal) A0 A1 A2 A3 (ix3 x h (⟨c.val - 128, _h.2⟩ : Fin 64)) else 0 := by
  unfold val_main_v77 val_main_cst_15
  generalize val_main_v68 (F := Ideal) A0 A1 A2 A3 = s
  pointwise
theorem v78_at (h : Fin 16) (x : Fin 4096) (c : Fin 192) : val_main_v78 (F := Ideal) A0 A1 A2 A3 (ix3 x h c)
    = if _h : c.val < 128 then val_main_v73 (F := Ideal) A0 A1 A2 A3 (ix3 x h (⟨c.val, _h⟩ : Fin 128)) else 0 := by
  unfold val_main_v78 val_main_cst_16
  generalize val_main_v73 (F := Ideal) A0 A1 A2 A3 = s
  pointwise

theorem sitofp_zero : FloatOps.sitofp (F := Ideal) .f32 (0#32) = (0 : EReal) := by
  show (((0#32 : BitVec 32).toInt : ℝ) : EReal) = 0
  simp

theorem v80_at (h : Fin 16) (x : Fin 4096) (c : Fin 256) : val_main_v80 (F := Ideal) A0 A1 A2 A3 (ix3 x h c)
    = if _h : c.val < 192 then val_main_v77 (F := Ideal) A0 A1 A2 A3 (ix3 x h (⟨c.val, _h⟩ : Fin 192)) + val_main_v78 (F := Ideal) A0 A1 A2 A3 (ix3 x h (⟨c.val, _h⟩ : Fin 192)) else 0 := by
  have e : val_main_v80 (F := Ideal) A0 A1 A2 A3 (ix3 x h c)
    = if _h : c.val < 192 then val_main_v77 (F := Ideal) A0 A1 A2 A3 (ix3 x h (⟨c.val, _h⟩ : Fin 192)) + val_main_v78 (F := Ideal) A0 A1 A2 A3 (ix3 x h (⟨c.val, _h⟩ : Fin 192)) else FloatOps.sitofp (F := Ideal) .f32 (0#32) := by
    unfold val_main_v80 val_main_call2_v0 val_main_c val_main_v79
    generalize val_main_v77 (F := Ideal) A0 A1 A2 A3 = s
    generalize val_main_v78 (F := Ideal) A0 A1 A2 A3 = t
    pointwise
  rw [e, sitofp_zero]

theorem v84_at (x : Fin 4096) (c : Fin 128) : val_main_v84 (F := Ideal) A0 A1 A2 A3 (ix2 x c)
    = if _h : c.val < 64 then val_main_v69 (F := Ideal) A0 A1 A2 A3 (ix2 x (⟨c.val, _h⟩ : Fin 64)) else 0 := by
  have e : val_main_v84 (F := Ideal) A0 A1 A2 A3 (ix2 x c)
    = if _h : c.val < 64 then val_main_v69 (F := Ideal) A0 A1 A2 A3 (ix2 x (⟨c.val, _h⟩ : Fin 64)) else FloatOps.sitofp (F := Ideal) .f32 (0#32) := by
    unfold val_main_v84 val_main_call3_v0 val_main_c_17
    generalize val_main_v69 (F := Ideal) A0 A1 A2 A3 = s
    pointwise
  rw [e, sitofp_zero]

theorem v81_at (x z : Fin 4096) : val_main_v81 (F := Ideal) A0 A1 A2 A3 (ix2 x z)
    = val_main_v80 (F := Ideal) A0 A1 A2 A3 (ix3 x (⟨z.val / 256, by omega⟩ : Fin 16) (⟨z.val % 256, by omega⟩ : Fin 256)) := by
  unfold val_main_v81
  generalize val_main_v80 (F := Ideal) A0 A1 A2 A3 = s
  pointwise

theorem v83_at (x z : Fin 4096) : val_main_v83 (F := Ideal) A0 A1 A2 A3 (ix2 x z)
    = val_main_v74 (F := Ideal) A0 A1 A2 A3 (ix3 x (⟨z.val / 256, by omega⟩ : Fin 16) (⟨z.val % 256, by omega⟩ : Fin 256))
      + val_main_v75 (F := Ideal) A0 A1 A2 A3 (ix3 x (⟨z.val / 256, by omega⟩ : Fin 16) (⟨z.val % 256, by omega⟩ : Fin 256)) := by
  unfold val_main_v83 val_main_v82 val_main_v76
  generalize val_main_v74 (F := Ideal) A0 A1 A2 A3 = s
  generalize val_main_v75 (F := Ideal) A0 A1 A2 A3 = t
  pointwise

/-- The reference's first result, the queries' gradient. -/
theorem dq_eq (I : Args A0 A1 A2 A3 q kv dd kr) :
    val_main_v81 (F := Ideal) A0 A1 A2 A3 = O6 (pQ q) (pKV kv) (pDO dd) (pKR kr) (LL q kv kr) (DD q kv dd kr) := by
  funext i
  obtain ⟨x, z, rfl⟩ : ∃ (x z : Fin 4096), i = ix2 x z := ⟨i 0, i 1, eq_ix2 i⟩
  refine Eq.trans ?_ (congrArg (fun r : ℝ => (r : EReal)) (GQ_at q kv dd kr x.val z.val)).symm
  rw [v81_at, v80_at]
  have hz : z.val % 256 < 256 := Nat.mod_lt _ (by decide)
  by_cases h1 : z.val % 256 < 128
  · rw [dif_pos (show z.val % 256 < 192 by omega), v77_at, v78_at, dif_neg (by simp only []; omega), dif_pos h1, zero_add, v73_at I, if_pos h1]
  · by_cases h2 : z.val % 256 < 192
    · rw [dif_pos h2, v77_at, v78_at, dif_pos (show 128 ≤ z.val % 256 ∧ z.val % 256 - 128 < 64 by omega), dif_neg h1, add_zero, v68_at I, if_neg h1, if_pos h2]
    · rw [dif_neg h2, if_neg h1, if_neg h2, EReal.coe_zero]

/-- The reference's second result, the keys' and values' gradient. -/
theorem dkv_eq (I : Args A0 A1 A2 A3 q kv dd kr) :
    val_main_v83 (F := Ideal) A0 A1 A2 A3 = O7 (pQ q) (pKV kv) (pDO dd) (pKR kr) (LL q kv kr) (DD q kv dd kr) := by
  funext i
  obtain ⟨x, z, rfl⟩ : ∃ (x z : Fin 4096), i = ix2 x z := ⟨i 0, i 1, eq_ix2 i⟩
  refine Eq.trans ?_ (congrArg (fun r : ℝ => (r : EReal)) (GK_at q kv dd kr x.val z.val)).symm
  rw [v83_at, v74_at, v75_at]
  have hz : z.val % 256 < 256 := Nat.mod_lt _ (by decide)
  by_cases h1 : z.val % 256 < 128
  · rw [dif_neg (by simp only []; omega), dif_pos h1, zero_add, v71_at I, if_pos h1]
  · rw [dif_pos (show 128 ≤ z.val % 256 ∧ z.val % 256 - 128 < 128 by omega), dif_neg h1, add_zero, v51_at I, if_neg h1]

/-- The reference's third result, the rotary keys' gradient. -/
theorem dkr_eq (I : Args A0 A1 A2 A3 q kv dd kr) :
    val_main_v84 (F := Ideal) A0 A1 A2 A3 = O8 (pQ q) (pKV kv) (pDO dd) (pKR kr) (LL q kv kr) (DD q kv dd kr) := by
  funext i
  obtain ⟨x, c, rfl⟩ : ∃ (x : Fin 4096) (c : Fin 128), i = ix2 x c := ⟨i 0, i 1, eq_ix2 i⟩
  refine Eq.trans ?_ (congrArg (fun r : ℝ => (r : EReal)) (Rh_at q kv dd kr x.val c.val)).symm
  rw [v84_at]
  by_cases h1 : c.val < 64
  · rw [dif_pos h1, v69_at I, if_pos h1]
  · rw [dif_neg h1, if_neg h1, EReal.coe_zero]

end Cert.ReferenceIdeal.Attn

end

end
-- ==== Proof.FlashR.HostInp.lean ====
module

public import proofs.«01_k».proof.Proof.FlashR.HostVal
public import proofs.«01_k».proof.Proof.FlashV.Outputs
public import proofs.«01_k».proof.Proof.FlashR.Result

/-! What the launch reads, at real arguments: the blocks of `Inp`. -/

@[expose] public section

set_option maxHeartbeats 400000
set_option maxRecDepth 4000

noncomputable section

namespace Cert.KernelIdeal.Flash

open Cert.KernelIdeal Cert.KernelIdeal.Gen
open Idealize.ShloMosaic Idealize.ShloMosaic.TcCoe Idealize.ShloMosaic.Tactic
open Idealize.SL.Sem
open Cert.ReferenceIdeal.Attn (Args score_at sitofp_zero)
open Cert.ReferenceIdeal.Read (val_main_v17_0 val_main_v3)

section
variable (W : Valuation τ sig (Elt Ideal))

theorem base31 : StableHlo.after hostOps0_6 (StableHlo.after hostOps0_5 (StableHlo.after hostOps0_4 (StableHlo.after hostOps0_3 (StableHlo.after hostOps0_2 (StableHlo.after hostOps0_1 (StableHlo.after hostOps0 W)))))) (Proc.devRef .tc main_v31)
    = lseA (val_main_v17_0 (F := Ideal) (W (Proc.devRef .tc main_arg0)) (W (Proc.devRef .tc main_arg1)) (W (Proc.devRef .tc main_arg2))) := by
  rw [StableHlo.after_of_writes_sub _ _ writes6 (by decide), StableHlo.after_of_writes_sub _ _ writes5 (by decide), StableHlo.after_of_writes_sub _ _ writes4 (by decide), StableHlo.after_of_writes_sub _ _ writes3 (by decide), read31, read17]

theorem base36 : StableHlo.after hostOps0_6 (StableHlo.after hostOps0_5 (StableHlo.after hostOps0_4 (StableHlo.after hostOps0_3 (StableHlo.after hostOps0_2 (StableHlo.after hostOps0_1 (StableHlo.after hostOps0 W)))))) (Proc.devRef .tc main_v36)
    = delA (val_main_v17_0 (F := Ideal) (W (Proc.devRef .tc main_arg0)) (W (Proc.devRef .tc main_arg1)) (W (Proc.devRef .tc main_arg2)))
        (val_main_v3 (F := Ideal) (W (Proc.devRef .tc main_arg1))) (W (Proc.devRef .tc main_arg3)) := by
  rw [StableHlo.after_of_writes_sub _ _ writes6 (by decide), StableHlo.after_of_writes_sub _ _ writes5 (by decide), StableHlo.after_of_writes_sub _ _ writes4 (by decide), StableHlo.after_of_writes_sub _ _ writes3 (by decide), read36, read17]
  rw [StableHlo.after_of_writes_sub (r := main_v3) _ _ writes1 (by decide), read3,
    StableHlo.after_of_writes_sub (r := main_arg3) _ _ writes1 (by decide), StableHlo.after_of_writes_sub (r := main_arg3) _ _ writes0 (by decide)]

theorem base42 : StableHlo.after hostOps0_6 (StableHlo.after hostOps0_5 (StableHlo.after hostOps0_4 (StableHlo.after hostOps0_3 (StableHlo.after hostOps0_2 (StableHlo.after hostOps0_1 (StableHlo.after hostOps0 W)))))) (Proc.devRef .tc main_v42)
    = (truncf .bf16 (shapeCast S4096x4096 (W (Proc.devRef .tc main_arg1)) shapeCasts_S4096x16x256_S4096x4096) bitsLt_bf16_f32 : FVec Ideal S4096x4096 .bf16) := by
  rw [read42, StableHlo.after_of_writes_sub _ _ writes5 (by decide), StableHlo.after_of_writes_sub _ _ writes4 (by decide), StableHlo.after_of_writes_sub _ _ writes3 (by decide), StableHlo.after_of_writes_sub _ _ writes2 (by decide), StableHlo.after_of_writes_sub _ _ writes1 (by decide), StableHlo.after_of_writes_sub _ _ writes0 (by decide)]

theorem base45 : StableHlo.after hostOps0_6 (StableHlo.after hostOps0_5 (StableHlo.after hostOps0_4 (StableHlo.after hostOps0_3 (StableHlo.after hostOps0_2 (StableHlo.after hostOps0_1 (StableHlo.after hostOps0 W)))))) (Proc.devRef .tc main_v45)
    = (truncf .bf16 (shapeCast S4096x2048 (W (Proc.devRef .tc main_arg3)) shapeCasts_S4096x16x128_S4096x2048) bitsLt_bf16_f32 : FVec Ideal S4096x2048 .bf16) := by
  rw [read45, StableHlo.after_of_writes_sub _ _ writes5 (by decide), StableHlo.after_of_writes_sub _ _ writes4 (by decide), StableHlo.after_of_writes_sub _ _ writes3 (by decide), StableHlo.after_of_writes_sub _ _ writes2 (by decide), StableHlo.after_of_writes_sub _ _ writes1 (by decide), StableHlo.after_of_writes_sub _ _ writes0 (by decide)]

theorem c5_at : StableHlo.after (hostOps0_2 (F := Ideal)) W (Proc.devRef .tc main_c_5) = constantI S_ 32 0#32 := by
  after_reads_simp
theorem c6_at : StableHlo.after (hostOps0_4 (F := Ideal)) W (Proc.devRef .tc main_c_6) = constantI S_ 32 0#32 := by
  after_reads_simp

theorem base41 : StableHlo.after hostOps0_6 (StableHlo.after hostOps0_5 (StableHlo.after hostOps0_4 (StableHlo.after hostOps0_3 (StableHlo.after hostOps0_2 (StableHlo.after hostOps0_1 (StableHlo.after hostOps0 W)))))) (Proc.devRef .tc main_v41)
    = (truncf .bf16 (shapeCast S4096x4096 (pad S4096x16x256 ![0, 0, 0] ![0, 0, 64] ![0, 0, 0] (W (Proc.devRef .tc main_arg0)) (sitofp (F := Ideal) .f32 (constantI S_ 32 0#32)) pads_S4096x16x192_S4096x16x256_000_000_0640 h_S_) shapeCasts_S4096x16x256_S4096x4096) bitsLt_bf16_f32 : FVec Ideal S4096x4096 .bf16) := by
  rw [read41, StableHlo.after_of_writes_sub _ _ writes5 (by decide), read38, c5_at, StableHlo.after_of_writes_sub _ _ writes2 (by decide), StableHlo.after_of_writes_sub _ _ writes1 (by decide), StableHlo.after_of_writes_sub _ _ writes0 (by decide)]

theorem base43 : StableHlo.after hostOps0_6 (StableHlo.after hostOps0_5 (StableHlo.after hostOps0_4 (StableHlo.after hostOps0_3 (StableHlo.after hostOps0_2 (StableHlo.after hostOps0_1 (StableHlo.after hostOps0 W)))))) (Proc.devRef .tc main_v43)
    = (truncf .bf16 (pad S4096x128 ![0, 0] ![0, 64] ![0, 0] (W (Proc.devRef .tc main_arg2)) (sitofp (F := Ideal) .f32 (constantI S_ 32 0#32)) pads_S4096x64_S4096x128_000_0640 h_S_) bitsLt_bf16_f32 : FVec Ideal S4096x128 .bf16) := by
  rw [read43, c6_at, StableHlo.after_of_writes_sub _ _ writes4 (by decide), StableHlo.after_of_writes_sub _ _ writes3 (by decide), StableHlo.after_of_writes_sub _ _ writes2 (by decide), StableHlo.after_of_writes_sub _ _ writes1 (by decide), StableHlo.after_of_writes_sub _ _ writes0 (by decide)]
end

/-- The padded queries, the heads side by side. -/
theorem padQ_at (x : FVec Ideal S4096x16x192 .f32) (v : FVec Ideal S_ .f32) (hv : ∀ i, v i = 0) (q : ℕ → ℕ → ℕ → ℝ)
    (hx : ∀ (a : Fin 4096) (h : Fin 16) (c : Fin 192), x (ix3 a h c) = ((q a.val h.val c.val : ℝ) : EReal)) (a z : Fin 4096) :
    (truncf .bf16 (shapeCast S4096x4096 (pad S4096x16x256 ![0, 0, 0] ![0, 0, 64] ![0, 0, 0] x v pads_S4096x16x192_S4096x16x256_000_000_0640 h_S_) shapeCasts_S4096x16x256_S4096x4096) bitsLt_bf16_f32 : FVec Ideal S4096x4096 .bf16) (ix2 a z)
      = ((pQ q (z.val / 256) a (z.val % 256) : ℝ) : EReal) := by
  pointwise
  unfold pQ
  have h1 : z.val / 256 < 16 := by omega
  by_cases h2 : z.val % 256 < 192
  · rw [dif_pos ⟨h1, h2⟩, if_pos h2, hx]
  · rw [dif_neg (fun h => h2 h.2), if_neg h2, hv, EReal.coe_zero]

theorem kv_at (x : FVec Ideal S4096x16x256 .f32) (a z : Fin 4096) :
    (truncf .bf16 (shapeCast S4096x4096 x shapeCasts_S4096x16x256_S4096x4096) bitsLt_bf16_f32 : FVec Ideal S4096x4096 .bf16) (ix2 a z)
      = x (ix3 a (⟨z.val / 256, by omega⟩ : Fin 16) (⟨z.val % 256, by omega⟩ : Fin 256)) := by
  pointwise

theorem do_at (x : FVec Ideal S4096x16x128 .f32) (a : Fin 4096) (z : Fin 2048) :
    (truncf .bf16 (shapeCast S4096x2048 x shapeCasts_S4096x16x128_S4096x2048) bitsLt_bf16_f32 : FVec Ideal S4096x2048 .bf16) (ix2 a z)
      = x (ix3 a (⟨z.val / 128, by omega⟩ : Fin 16) (⟨z.val % 128, by omega⟩ : Fin 128)) := by
  pointwise

theorem padK_at (x : FVec Ideal S4096x64 .f32) (v : FVec Ideal S_ .f32) (hv : ∀ i, v i = 0) (kr : ℕ → ℕ → ℝ)
    (hx : ∀ (a : Fin 4096) (c : Fin 64), x (ix2 a c) = ((kr a.val c.val : ℝ) : EReal)) (a : Fin 4096) (z : Fin 128) :
    (truncf .bf16 (pad S4096x128 ![0, 0] ![0, 64] ![0, 0] x v pads_S4096x64_S4096x128_000_0640 h_S_) bitsLt_bf16_f32 : FVec Ideal S4096x128 .bf16) (ix2 a z)
      = ((pKR kr a z : ℝ) : EReal) := by
  pointwise
  unfold pKR
  by_cases h2 : z.val < 64
  · rw [dif_pos h2, if_pos h2, hx]
  · rw [dif_neg h2, if_neg h2, hv, EReal.coe_zero]

theorem zero_pad (i : S_.Idx) : sitofp (F := Ideal) .f32 (constantI S_ 32 0#32) i = (0 : EReal) := sitofp_zero

section
variable {A1 : FVec Ideal S4096x16x256 .f32} {kv : ℕ → ℕ → ℕ → ℝ}

/-- The values' half of the keys and values. -/
theorem v3_at (h1 : ∀ (x : Fin 4096) (h : Fin 16) (c : Fin 256), A1 (ix3 x h c) = ((kv x.val h.val c.val : ℝ) : EReal)) (y : Fin 4096) (h : Fin 16) (e : Fin 128) :
    val_main_v3 (F := Ideal) A1 (ix3 y h e) = ((kv y h (128 + e.val) : ℝ) : EReal) := by
  have e' : val_main_v3 (F := Ideal) A1 (ix3 y h e) = A1 (ix3 y h (⟨128 + e.val, by omega⟩ : Fin 256)) := by
    unfold val_main_v3
    pointwise
  rw [e', h1]
end

variable (m : (ℓ : Loc nD τ sig) → Buf (Elt Ideal) ℓ) (c : Dev nD)
variable {q kv dd : ℕ → ℕ → ℕ → ℝ} {kr : ℕ → ℕ → ℝ}

theorem inp_of (I : Args (m ((c : Thread nD τ).loc main_arg0)) (m ((c : Thread nD τ).loc main_arg1)) (m ((c : Thread nD τ).loc main_arg2)) (m ((c : Thread nD τ).loc main_arg3)) q kv dd kr) :
    Inp m c (pQ q) (pKV kv) (pDO dd) (pKR kr) (LL q kv kr) (DD q kv dd kr) where
  i0 t a e := by
    have he := e.isLt
    rw [X0_apply, V_split, base41, padQ_at _ _ zero_pad q I.a0]
    refine congrArg _ ?_
    show pQ q ((t.val / 10 * 256 + e.val) / 256) _ ((t.val / 10 * 256 + e.val) % 256) = _
    rw [show (t.val / 10 * 256 + e.val) / 256 = t.val / 10 by omega, show (t.val / 10 * 256 + e.val) % 256 = e.val by omega]
  i1 t a e := by
    have he := e.isLt
    rw [X1_apply, V_split, base42, kv_at]
    refine (I.a1 _ _ _).trans (congrArg _ ?_)
    show kv _ ((t.val / 10 * 256 + e.val) / 256) ((t.val / 10 * 256 + e.val) % 256) = kv _ _ _
    rw [show (t.val / 10 * 256 + e.val) / 256 = t.val / 10 by omega, show (t.val / 10 * 256 + e.val) % 256 = e.val by omega]
  i2 t a e := by
    rw [X2_apply, V_split, base43, padK_at _ _ zero_pad kr I.a2]
  i3 t a e := by
    have he := e.isLt
    rw [X3_apply, V_split, base45, do_at]
    refine (I.a3 _ _ _).trans (congrArg _ ?_)
    show dd _ ((t.val / 10 * 128 + e.val) / 128) ((t.val / 10 * 128 + e.val) % 128) = dd _ _ _
    rw [show (t.val / 10 * 128 + e.val) / 128 = t.val / 10 by omega, show (t.val / 10 * 128 + e.val) % 128 = e.val by omega]
  i4 t a e := by
    rw [X4_apply, V_split, base31]
    exact lse_real (score_at I) _ _ _
  i5 t a e := by
    have he := e.isLt
    rw [X5_apply, V_split, base36]
    refine (del_real (score_at I) _ _ (v3_at I.a1) I.a3 _ _).trans (congrArg _ ?_)
    show DD q kv dd kr ((t.val / 10 * 128 + e.val) / 128) _ = _
    rw [show (t.val / 10 * 128 + e.val) / 128 = t.val / 10 by omega]

end Cert.KernelIdeal.Flash

end

end
-- ==== Proof.FlashR.Finite.lean ====
module

public import proofs.«01_k».proof.Defs
public import proofs.«01_k».proof.Proof.Gen.Pre_finite
public import proofs.«01_k».proof.Proof.FlashR.Score
public import Idealize.ShloMosaic.Lib.ReduceAll

/-! What the precondition says: every entry of the four arguments is a real. -/

@[expose] public section

set_option maxHeartbeats 400000

noncomputable section

namespace Cert.ReferenceIdeal.Attn

open Idealize.ShloMosaic Idealize.SL.Sem

/-- A number whose absolute value is below the word of infinity is a real. -/
theorem real_of_lt (a : EReal) (h : Ideal.cmp .olt (max a (-a)) (Ideal.ofBits .f32 0x7F800000#32) = 1#1) : a = ((a.toReal : ℝ) : EReal) := by
  have w : Ideal.ofBits .f32 0x7F800000#32 = ⊤ := by simp [Ideal.ofBits, Ideal.ieee]
  rw [w] at h
  have h' : max a (-a) < ⊤ := by
    by_contra hn
    simp [Ideal.cmp, hn] at h
  obtain ⟨h1, h2⟩ := max_lt_iff.mp h'
  refine (EReal.coe_toReal h1.ne ?_).symm
  rintro rfl
  exact absurd h2 (by simp)

variable {A0 : FVec Ideal S4096x16x192 .f32} {A1 : FVec Ideal S4096x16x256 .f32}
  {A2 : FVec Ideal S4096x64 .f32} {A3 : FVec Ideal S4096x16x128 .f32}

instance : Subsingleton Cert.Pre_finite.S_.Idx := ⟨fun a b => funext fun i => i.elim0⟩

/-- The entries are reals. -/
theorem reals (h : Cert.Pre_finite.fn (F := Ideal) A0 A1 A2 A3 = fun _ => 1#1) :
    (∀ i, A0 i = ((A0 i).toReal : EReal)) ∧ (∀ i, A1 i = ((A1 i).toReal : EReal)) ∧ (∀ i, A2 i = ((A2 i).toReal : EReal)) ∧ (∀ i, A3 i = ((A3 i).toReal : EReal)) := by
  have h0 := congrFun h (fun i => i.elim0)
  obtain ⟨h1, k3⟩ := IntOp.andi_eq_one.1 h0
  obtain ⟨h2, k2⟩ := IntOp.andi_eq_one.1 h1
  obtain ⟨k0, k1⟩ := IntOp.andi_eq_one.1 h2
  exact ⟨fun i => real_of_lt _ (Host.reduce_andi_all _ _ _ _ _ k0 i), fun i => real_of_lt _ (Host.reduce_andi_all _ _ _ _ _ k1 i),
    fun i => real_of_lt _ (Host.reduce_andi_all _ _ _ _ _ k2 i), fun i => real_of_lt _ (Host.reduce_andi_all _ _ _ _ _ k3 i)⟩

/-- The reals of an array of three axes, zero outside it. -/
def re3 {a b c : ℕ} (A : (⟨3, ![a, b, c]⟩ : Shape).Idx → EReal) (x h e : ℕ) : ℝ :=
  if H : x < a ∧ h < b ∧ e < c then (A (ix3 (⟨x, H.1⟩ : Fin a) (⟨h, H.2.1⟩ : Fin b) (⟨e, H.2.2⟩ : Fin c))).toReal else 0
/-- The reals of an array of two axes, zero outside it. -/
def re2 {a b : ℕ} (A : (⟨2, ![a, b]⟩ : Shape).Idx → EReal) (x e : ℕ) : ℝ :=
  if H : x < a ∧ e < b then (A (ix2 (⟨x, H.1⟩ : Fin a) (⟨e, H.2⟩ : Fin b))).toReal else 0

theorem args_of (h : Cert.Pre_finite.fn (F := Ideal) A0 A1 A2 A3 = fun _ => 1#1) : Args A0 A1 A2 A3 (re3 A0) (re3 A1) (re3 A3) (re2 A2) where
  a0 x k e := by unfold re3; rw [dif_pos ⟨x.isLt, k.isLt, e.isLt⟩]; exact (reals h).1 _
  a1 x k e := by unfold re3; rw [dif_pos ⟨x.isLt, k.isLt, e.isLt⟩]; exact (reals h).2.1 _
  a2 x e := by unfold re2; rw [dif_pos ⟨x.isLt, e.isLt⟩]; exact (reals h).2.2.1 _
  a3 x k e := by unfold re3; rw [dif_pos ⟨x.isLt, k.isLt, e.isLt⟩]; exact (reals h).2.2.2 _

end Cert.ReferenceIdeal.Attn

end

end
-- ==== Proof.Prod.Sums.lean ====
module

public import Idealize.ShloMosaic.PureOps
public import Idealize.ShloMosaic.Lib.ValueIdx
public import Idealize.ShloMosaic.Lib.Pointwise

/-! A sum over a long axis, cut into blocks of equal length. -/

@[expose] public section

namespace Cert.Prod

/-- A sum over 4096 places is the sum over the first 2048 and the sum over the last 2048. -/
theorem sum_two {M : Type} [AddCommMonoid M] (f : Fin 4096 → M) :
    (∑ c : Fin 2048, f ⟨c.val, by omega⟩) + (∑ c : Fin 2048, f ⟨2048 + c.val, by omega⟩) = ∑ k : Fin 4096, f k :=
  (Fin.sum_univ_add (a := 2048) (b := 2048) f).symm

/-- A sum over 6144 places is the sum of three sums over 2048 places each. -/
theorem sum_three {M : Type} [AddCommMonoid M] (f : Fin 6144 → M) :
    (∑ c : Fin 2048, f ⟨c.val, by omega⟩) + (∑ c : Fin 2048, f ⟨2048 + c.val, by omega⟩) + (∑ c : Fin 2048, f ⟨4096 + c.val, by omega⟩) = ∑ k : Fin 6144, f k := by
  rw [sum_two fun k : Fin 4096 => f ⟨k.val, by omega⟩]
  exact (Fin.sum_univ_add (a := 4096) (b := 2048) f).symm

/-- An index of a matrix is its row and its column. -/
theorem at2 {a b : ℕ} (i : (⟨2, ![a, b]⟩ : Idealize.ShloMosaic.Shape).Idx) : i = Idealize.ShloMosaic.ix2 (i 0) (i 1) := by
  funext x
  match x with
  | ⟨0, _⟩ => rfl
  | ⟨1, _⟩ => rfl

/-- The offsets of a whole matrix. -/
theorem zeros : (![0, 0] : Fin 2 → Nat) = fun _ => 0 := funext fun a => by fin_cases a <;> rfl

end Cert.Prod

end
-- ==== Proof.Prod.Dwin.lean ====
module

public import proofs.«01_k».proof.Defs
public import proofs.«01_k».proof.Proof.Gen.DwinIdeal.Value
public import proofs.«01_k».proof.Proof.Gen.DwinRefIdeal.Run
public import proofs.«01_k».proof.Proof.Prod.Sums
public import Idealize.ShloMosaic.Lib.Pointwise
public import Idealize.ShloMosaic.Lib.VecWindow
public import Idealize.ShloMosaic.Lib.ValueIdx
public import Idealize.ShloMosaic.Lib.StableHlo.ReadAt
public import Idealize.ShloMosaic.Lib.Tactic

/-! The gradient of the input projection's weights: the blocks of 2048 rows that the launch adds up are the whole product. -/

@[expose] public section

set_option maxRecDepth 16384

noncomputable section

open Idealize.ShloMosaic Idealize.ShloMosaic.TcCoe Idealize.ShloMosaic.Tactic Idealize.SL.Sem

namespace Cert.DwinIdeal.Prod

open Cert.DwinIdeal Cert.DwinIdeal.Gen
open Cert.Prod (zeros)

section
variable {F : FTy → Type} [FloatOps F] (c : Dev nD) (i : grid0.Coords)
  (a3 : Memref sig .tc .vmem S2048x1024 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (x y : Vec F S2048x1024 .bf16) (s : Vec F S1024x1024 .f32)

/-- A first point leaves its own product in the scratch. -/
theorem first (p : cond0_0 i) (q : ¬cond0_1 i) (r : ¬cond0_2 i) :
    sout0_A_0 c i a3 h3 a4 h4 a5 h5 a6 h6 p q r x y = k0_pay2 x y := by
  unfold sout0_A_0
  rw [View.read_writes_eq_canon _ _ _ (scover0_A_0 c i a3 h3 a4 h4 a5 h5 a6 h6 p q r x y)]
  unfold kernelRun0_A
  dsimp only
  rw [View.canon_unit_zero zeros]
  simp only [View.readAt_eq_ld, h3.read_unread, h4.read_unread, View.ld_unit_zero (S := S2048x1024) zeros]

/-- A last point writes back what the scratch held and its own product. -/
theorem last (p : ¬cond0_0 i) (q : cond0_1 i) (r : cond0_2 i) :
    out0_B_2 c i a3 h3 a4 h4 a5 h5 a6 h6 p q r x y s = k0_pay3 x y s := by
  unfold out0_B_2
  rw [View.read_writes_eq_canon _ _ _ (cover0_B_2 c i a3 h3 a4 h4 a5 h5 a6 h6 p q r x y s)]
  unfold kernelRun0_B
  dsimp only
  sl_unfold_words
  rw [View.canon_unit_zero zeros, View.readCov_unit_zero (S := S1024x1024) _ zeros]
  simp only [View.readAt_eq_ld, h3.read_unread, h4.read_unread, h6.read_unread, View.ld_unit_zero (S := S2048x1024) zeros, View.ld_unit_zero (S := S1024x1024) zeros]
end

theorem pay2_at (x y : Vec Ideal S2048x1024 .bf16) (a b : Fin 1024) :
    k0_pay2 (F := Ideal) x y (ix2 a b) = ∑ k : Fin 2048, x (ix2 k a) * y (ix2 k b) := by
  unfold k0_pay2 k0_pay1
  pointwise

theorem pay3_at (x y : Vec Ideal S2048x1024 .bf16) (s : Vec Ideal S1024x1024 .f32) (a b : Fin 1024) :
    k0_pay3 (F := Ideal) x y s (ix2 a b) = s (ix2 a b) + ∑ k : Fin 2048, x (ix2 k a) * y (ix2 k b) := by
  unfold k0_pay3 k0_pay1
  pointwise

variable (m : (ℓ : Loc nD τ sig) → Buf (Elt Ideal) ℓ) (c : Dev nD)

/-- The first argument. -/
abbrev X : FVec Ideal S4096x1024 .f32 := m ((c : Thread nD τ).loc main_arg0)
/-- The second argument. -/
abbrev Y : FVec Ideal S4096x6144 .f32 := m ((c : Thread nD τ).loc main_arg1)

theorem idx0 : ∀ t : Fin grid0.N, win0_0.index t = ![t.val % 2, t.val / 12] := by decide +kernel
theorem idx1 : ∀ t : Fin grid0.N, win0_1.index t = ![t.val % 2, t.val / 2 % 6] := by decide +kernel

theorem V0 : V m c main_v0 = m ((c : Thread nD τ).loc main_arg0) := by
  show StableHlo.after hostOps0 _ _ = _
  after_reads_simp
  rfl
theorem V1 : V m c main_v1 = m ((c : Thread nD τ).loc main_arg1) := by
  show StableHlo.after hostOps0 _ _ = _
  after_reads_simp
  rfl

theorem t_lt (t : Fin cfg0.N) : t.val < 12 := lt_of_lt_of_eq t.isLt N_0

theorem blk0 (t : Fin cfg0.N) (k : Fin 2048) (a : Fin 1024) : (iblk m c 0 t : Vec Ideal S2048x1024 .bf16) (ix2 k a)
    = X m c (ix2 (⟨t.val % 2 * 2048 + k.val, by omega⟩ : Fin 4096) (⟨t.val / 12 * 1024 + a.val, by have := t_lt t; omega⟩ : Fin 1024)) := by
  rw [X, ← V0 m c]
  unfold iblk
  rw [View.read_apply]
  refine congrArg (V m c main_v0) (funext fun x => Fin.ext ?_)
  match x with
  | ⟨0, _⟩ => show win0_0.index t 0 * 2048 + 1 * k.val = _; rw [idx0]; show t.val % 2 * 2048 + 1 * k.val = t.val % 2 * 2048 + k.val; omega
  | ⟨1, _⟩ => show win0_0.index t 1 * 1024 + 1 * a.val = _; rw [idx0]; show t.val / 12 * 1024 + 1 * a.val = t.val / 12 * 1024 + a.val; omega

theorem blk1 (t : Fin cfg0.N) (k : Fin 2048) (b : Fin 1024) : (iblk m c 1 t : Vec Ideal S2048x1024 .bf16) (ix2 k b)
    = Y m c (ix2 (⟨t.val % 2 * 2048 + k.val, by omega⟩ : Fin 4096) (⟨t.val / 2 % 6 * 1024 + b.val, by omega⟩ : Fin 6144)) := by
  rw [Y, ← V1 m c]
  unfold iblk
  rw [View.read_apply]
  refine congrArg (V m c main_v1) (funext fun x => Fin.ext ?_)
  match x with
  | ⟨0, _⟩ => show win0_1.index t 0 * 2048 + 1 * k.val = _; rw [idx1]; show t.val % 2 * 2048 + 1 * k.val = t.val % 2 * 2048 + k.val; omega
  | ⟨1, _⟩ => show win0_1.index t 1 * 1024 + 1 * b.val = _; rw [idx1]; show t.val / 2 % 6 * 1024 + 1 * b.val = t.val / 2 % 6 * 1024 + b.val; omega

/-- What a last point writes back: the product over the whole of the summed axis. -/
theorem point (t : Fin cfg0.N) (h : t.val % 2 = 1) (a b : Fin 1024) : (outsAt0 m c t.val t.isLt).1 (ix2 a b)
    = ∑ k : Fin 4096, X m c (ix2 k (⟨t.val / 12 * 1024 + a.val, by have := t_lt t; omega⟩ : Fin 1024))
        * Y m c (ix2 k (⟨t.val / 2 % 6 * 1024 + b.val, by omega⟩ : Fin 6144)) := by
  have ht := t_lt t
  have hp : t.val - 1 < cfg0.N := Nat.lt_of_le_of_lt (Nat.sub_le _ _) t.isLt
  rw [outsAt0_B m c t (by omega) h h]
  dsimp only
  rw [last, pay3_at]
  have e := outsAt0_A m c ⟨t.val - 1, hp⟩ (by dsimp only; omega) (by dsimp only; omega) (by dsimp only; omega)
  dsimp only at e
  rw [e]
  dsimp only
  rw [first, pay2_at, ← Cert.Prod.sum_two]
  simp only [blk0, blk1]
  have e1 : (t.val - 1) % 2 = 0 := by omega
  have e2 : (t.val - 1) / 12 = t.val / 12 := by omega
  have e3 : (t.val - 1) / 2 = t.val / 2 := by omega
  simp only [e1, e2, e3, h, Nat.zero_mul, Nat.zero_add, Nat.one_mul]

/-- The array that the launch leaves. -/
theorem result (a : Fin 1024) (b : Fin 6144) : (Value.G2 m c : FVec Ideal S1024x6144 .f32) (ix2 a b)
    = ∑ k : Fin 4096, X m c (ix2 k a) * Y m c (ix2 k b) := by
  have hN : cfg0.N = 12 := N_0
  have hp : Value.pt2Of (ix2 a b) = 2 * (b.val / 1024) + 1 := by
    show 2 * (6 * (a.val / 1024 - 0) + 1 * (b.val / 1024 - 0)) + 1 = _
    omega
  have hl : Value.pt2Of (ix2 a b) < cfg0.N := by rw [hp, hN]; omega
  have hi : Value.loc2Of (ix2 a b) = ix2 (⟨a.val % 1024, Nat.mod_lt _ (by decide)⟩ : Fin 1024) (⟨b.val % 1024, Nat.mod_lt _ (by decide)⟩ : Fin 1024) := by
    funext x
    match x with
    | ⟨0, _⟩ => rfl
    | ⟨1, _⟩ => rfl
  have g : (Value.G2 m c : FVec Ideal S1024x6144 .f32) (ix2 a b)
      = (outsAt0 m c (Value.pt2Of (ix2 a b)) hl).1 (ix2 (⟨a.val % 1024, Nat.mod_lt _ (by decide)⟩ : Fin 1024) (⟨b.val % 1024, Nat.mod_lt _ (by decide)⟩ : Fin 1024)) := by
    rw [← hi, Value.outsAt0_sweep m c _ hl]
    exact dif_pos hl
  have ea : (⟨Value.pt2Of (ix2 a b) / 12 * 1024 + a.val % 1024, by omega⟩ : Fin 1024) = a := Fin.ext (by dsimp only; omega)
  have eb : (⟨Value.pt2Of (ix2 a b) / 2 % 6 * 1024 + b.val % 1024, by omega⟩ : Fin 6144) = b := Fin.ext (by dsimp only; omega)
  have r := point m c ⟨Value.pt2Of (ix2 a b), hl⟩ (by dsimp only; omega) (⟨a.val % 1024, Nat.mod_lt _ (by decide)⟩ : Fin 1024) (⟨b.val % 1024, Nat.mod_lt _ (by decide)⟩ : Fin 1024)
  dsimp only at r
  rw [ea, eb] at r
  exact g.trans r

end Cert.DwinIdeal.Prod

namespace Cert.DwinRefIdeal.Prod

open Cert.DwinRefIdeal Cert.DwinRefIdeal.Gen

/-- The reference's gradient: one product over the whole axis. -/
theorem result (x : FVec Ideal S4096x1024 .f32) (y : FVec Ideal S4096x6144 .f32) (a : Fin 1024) (b : Fin 6144) :
    transpose S1024x6144 [1, 0] (Host.dotGeneral dot_S4096x6144_S4096x1024_S6144x1024_0_0_1_1_n_n none y x) transposes_S6144x1024_S1024x6144_1_0 (ix2 a b)
      = ∑ k : Fin 4096, y (ix2 k b) * x (ix2 k a) := by
  pointwise

/-- The launch's gradient is the reference's. -/
theorem algebraic : Cert.algebraic_DwinIdeal_DwinRefIdeal := by
  intro m g m' g' _ hargs
  refine ⟨fun c => Cert.DwinIdeal.Value.G2 m c, Cert.DwinIdeal.Value.run m g, (θ_run defs _ _).mono (fun r h c => ?_) (Value.run (F := Ideal) m' g')⟩
  obtain ⟨e0, e1⟩ := hargs c
  obtain ⟨h0, hr⟩ := h c
  refine ⟨h0.trans ?_, hr⟩
  rw [e0, e1]
  funext i
  rw [Cert.Prod.at2 (a := 1024) (b := 6144) i]
  refine (result _ _ _ _).trans ((Finset.sum_congr rfl fun k _ => mul_comm _ _).trans (Cert.DwinIdeal.Prod.result m c _ _).symm)

/-- The reference ends and leaves its arguments: host operations only, with no semaphore. -/
theorem frame : Cert.quiescent_DwinRefIdeal := fun m ρ _ =>
  (θ_run defs _ _).mono (fun r h => ⟨fun c => (h c).2, sem_eq_zero_of_no_sems (by decide) r.2⟩) (Value.run (F := Ideal) m ρ)

end Cert.DwinRefIdeal.Prod

end
-- ==== Proof.Prod.Dhn.lean ====
module

public import proofs.«01_k».proof.Defs
public import proofs.«01_k».proof.Proof.Gen.DhnIdeal.Value
public import proofs.«01_k».proof.Proof.Gen.DhnRefIdeal.Run
public import proofs.«01_k».proof.Proof.Prod.Sums
public import Idealize.ShloMosaic.Lib.Pointwise
public import Idealize.ShloMosaic.Lib.VecWindow
public import Idealize.ShloMosaic.Lib.ValueIdx
public import Idealize.ShloMosaic.Lib.StableHlo.ReadAt
public import Idealize.ShloMosaic.Lib.Tactic

/-! The gradient of the input projection's rows: the blocks of 2048 columns that the launch adds up are the whole product. -/

@[expose] public section

set_option maxRecDepth 16384

noncomputable section

open Idealize.ShloMosaic Idealize.ShloMosaic.TcCoe Idealize.ShloMosaic.Tactic Idealize.SL.Sem

namespace Cert.DhnIdeal.Prod

open Cert.DhnIdeal Cert.DhnIdeal.Gen
open Cert.Prod (zeros)

section
variable {F : FTy → Type} [FloatOps F] (c : Dev nD) (i : grid0.Coords)
  (a3 : Memref sig .tc .vmem S1024x2048 .bf16) (h3 : a3.IsWhole) (a4 : Memref sig .tc .vmem S1024x2048 .bf16) (h4 : a4.IsWhole)
  (a5 : Memref sig .tc .vmem S1024x1024 .f32) (h5 : a5.IsWhole) (a6 : Memref sig .tc .vmem S1024x1024 .f32) (h6 : a6.IsWhole)
  (x y : Vec F S1024x2048 .bf16) (s : Vec F S1024x1024 .f32)

/-- A first point leaves its own product in the scratch. -/
theorem first (p : cond0_0 i) (q : ¬cond0_1 i) (r : ¬cond0_2 i) :
    sout0_A_0 c i a3 h3 a4 h4 a5 h5 a6 h6 p q r x y = k0_pay2 x y := by
  unfold sout0_A_0
  rw [View.read_writes_eq_canon _ _ _ (scover0_A_0 c i a3 h3 a4 h4 a5 h5 a6 h6 p q r x y)]
  unfold kernelRun0_A
  dsimp only
  rw [View.canon_unit_zero zeros]
  simp only [View.readAt_eq_ld, h3.read_unread, h4.read_unread, View.ld_unit_zero (S := S1024x2048) zeros]

/-- A middle point adds its own product to the scratch. -/
theorem middle (p : ¬cond0_0 i) (q : cond0_1 i) (r : ¬cond0_2 i) :
    sout0_B_0 c i a3 h3 a4 h4 a5 h5 a6 h6 p q r x y s = k0_pay3 x y s := by
  unfold sout0_B_0
  rw [View.read_writes_eq_canon _ _ _ (scover0_B_0 c i a3 h3 a4 h4 a5 h5 a6 h6 p q r x y s)]
  unfold kernelRun0_B
  dsimp only
  sl_unfold_words
  rw [View.canon_unit_zero zeros]
  simp only [View.readAt_eq_ld, h3.read_unread, h4.read_unread, h6.read_unread, View.ld_unit_zero (S := S1024x2048) zeros, View.ld_unit_zero (S := S1024x1024) zeros]

/-- A last point writes back what the scratch held and its own product. -/
theorem last (p : ¬cond0_0 i) (q : cond0_1 i) (r : cond0_2 i) :
    out0_C_2 c i a3 h3 a4 h4 a5 h5 a6 h6 p q r x y s = k0_pay3 x y s := by
  unfold out0_C_2
  rw [View.read_writes_eq_canon _ _ _ (cover0_C_2 c i a3 h3 a4 h4 a5 h5 a6 h6 p q r x y s)]
  unfold kernelRun0_C
  dsimp only
  sl_unfold_words
  rw [View.canon_unit_zero zeros, View.readCov_unit_zero (S := S1024x1024) _ zeros]
  simp only [View.readAt_eq_ld, h3.read_unread, h4.read_unread, h6.read_unread, View.ld_unit_zero (S := S1024x2048) zeros, View.ld_unit_zero (S := S1024x1024) zeros]
end

theorem pay2_at (x y : Vec Ideal S1024x2048 .bf16) (a b : Fin 1024) :
    k0_pay2 (F := Ideal) x y (ix2 a b) = ∑ k : Fin 2048, x (ix2 a k) * y (ix2 b k) := by
  unfold k0_pay2 k0_pay1
  pointwise

theorem pay3_at (x y : Vec Ideal S1024x2048 .bf16) (s : Vec Ideal S1024x1024 .f32) (a b : Fin 1024) :
    k0_pay3 (F := Ideal) x y s (ix2 a b) = s (ix2 a b) + ∑ k : Fin 2048, x (ix2 a k) * y (ix2 b k) := by
  unfold k0_pay3 k0_pay1
  pointwise

variable (m : (ℓ : Loc nD τ sig) → Buf (Elt Ideal) ℓ) (c : Dev nD)

/-- The first argument. -/
abbrev X : FVec Ideal S4096x6144 .f32 := m ((c : Thread nD τ).loc main_arg0)
/-- The second argument. -/
abbrev Y : FVec Ideal S1024x6144 .f32 := m ((c : Thread nD τ).loc main_arg1)

theorem idx0 : ∀ t : Fin grid0.N, win0_0.index t = ![t.val / 3, t.val % 3] := by decide +kernel
theorem idx1 : ∀ t : Fin grid0.N, win0_1.index t = ![0, t.val % 3] := by decide +kernel

theorem V0 : V m c main_v0 = m ((c : Thread nD τ).loc main_arg0) := by
  show StableHlo.after hostOps0 _ _ = _
  after_reads_simp
  rfl
theorem V1 : V m c main_v1 = m ((c : Thread nD τ).loc main_arg1) := by
  show StableHlo.after hostOps0 _ _ = _
  after_reads_simp
  rfl

theorem t_lt (t : Fin cfg0.N) : t.val < 12 := lt_of_lt_of_eq t.isLt N_0

theorem blk0 (t : Fin cfg0.N) (a : Fin 1024) (k : Fin 2048) : (iblk m c 0 t : Vec Ideal S1024x2048 .bf16) (ix2 a k)
    = X m c (ix2 (⟨t.val / 3 * 1024 + a.val, by have := t_lt t; omega⟩ : Fin 4096) (⟨t.val % 3 * 2048 + k.val, by omega⟩ : Fin 6144)) := by
  rw [X, ← V0 m c]
  unfold iblk
  rw [View.read_apply]
  refine congrArg (V m c main_v0) (funext fun x => Fin.ext ?_)
  match x with
  | ⟨0, _⟩ => show win0_0.index t 0 * 1024 + 1 * a.val = _; rw [idx0]; show t.val / 3 * 1024 + 1 * a.val = t.val / 3 * 1024 + a.val; omega
  | ⟨1, _⟩ => show win0_0.index t 1 * 2048 + 1 * k.val = _; rw [idx0]; show t.val % 3 * 2048 + 1 * k.val = t.val % 3 * 2048 + k.val; omega

theorem blk1 (t : Fin cfg0.N) (b : Fin 1024) (k : Fin 2048) : (iblk m c 1 t : Vec Ideal S1024x2048 .bf16) (ix2 b k)
    = Y m c (ix2 b (⟨t.val % 3 * 2048 + k.val, by omega⟩ : Fin 6144)) := by
  rw [Y, ← V1 m c]
  unfold iblk
  rw [View.read_apply]
  refine congrArg (V m c main_v1) (funext fun x => Fin.ext ?_)
  match x with
  | ⟨0, _⟩ => show win0_1.index t 0 * 1024 + 1 * b.val = _; rw [idx1]; show 0 * 1024 + 1 * b.val = b.val; omega
  | ⟨1, _⟩ => show win0_1.index t 1 * 2048 + 1 * k.val = _; rw [idx1]; show t.val % 3 * 2048 + 1 * k.val = t.val % 3 * 2048 + k.val; omega

/-- What a last point writes back: the product over the whole of the summed axis. -/
theorem point (t : Fin cfg0.N) (h : t.val % 3 = 2) (a b : Fin 1024) : (outsAt0 m c t.val t.isLt).1 (ix2 a b)
    = ∑ k : Fin 6144, X m c (ix2 (⟨t.val / 3 * 1024 + a.val, by have := t_lt t; omega⟩ : Fin 4096) k) * Y m c (ix2 b k) := by
  have ht := t_lt t
  have hp : t.val - 1 < cfg0.N := Nat.lt_of_le_of_lt (Nat.sub_le _ _) t.isLt
  have hq : t.val - 1 - 1 < cfg0.N := Nat.lt_of_le_of_lt (Nat.sub_le _ _) hp
  rw [outsAt0_C m c t (by omega) (by omega) h]
  dsimp only
  rw [last, pay3_at]
  have e := outsAt0_B m c ⟨t.val - 1, hp⟩ (by dsimp only; omega) (by dsimp only; omega) (by dsimp only; omega)
  dsimp only at e
  rw [e]
  dsimp only
  rw [middle, pay3_at]
  have e' := outsAt0_A m c ⟨t.val - 1 - 1, hq⟩ (by dsimp only; omega) (by dsimp only; omega) (by dsimp only; omega)
  dsimp only at e'
  rw [e']
  dsimp only
  rw [first, pay2_at, ← Cert.Prod.sum_three]
  simp only [blk0, blk1]
  have e1 : (t.val - 1) % 3 = 1 := by omega
  have e2 : (t.val - 1) / 3 = t.val / 3 := by omega
  have e3 : (t.val - 1 - 1) % 3 = 0 := by omega
  have e4 : (t.val - 1 - 1) / 3 = t.val / 3 := by omega
  simp only [e1, e2, e3, e4, h, Nat.zero_mul, Nat.zero_add, Nat.one_mul]

/-- The array that the launch leaves. -/
theorem result (a : Fin 4096) (b : Fin 1024) : (Value.G2 m c : FVec Ideal S4096x1024 .f32) (ix2 a b)
    = ∑ k : Fin 6144, X m c (ix2 a k) * Y m c (ix2 b k) := by
  have hN : cfg0.N = 12 := N_0
  have hp : Value.pt2Of (ix2 a b) = 3 * (a.val / 1024) + 2 := by
    show 3 * (1 * (a.val / 1024 - 0) + 1 * (b.val / 1024 - 0)) + 2 = _
    omega
  have hl : Value.pt2Of (ix2 a b) < cfg0.N := by rw [hp, hN]; omega
  have hi : Value.loc2Of (ix2 a b) = ix2 (⟨a.val % 1024, Nat.mod_lt _ (by decide)⟩ : Fin 1024) (⟨b.val % 1024, Nat.mod_lt _ (by decide)⟩ : Fin 1024) := by
    funext x
    match x with
    | ⟨0, _⟩ => rfl
    | ⟨1, _⟩ => rfl
  have g : (Value.G2 m c : FVec Ideal S4096x1024 .f32) (ix2 a b)
      = (outsAt0 m c (Value.pt2Of (ix2 a b)) hl).1 (ix2 (⟨a.val % 1024, Nat.mod_lt _ (by decide)⟩ : Fin 1024) (⟨b.val % 1024, Nat.mod_lt _ (by decide)⟩ : Fin 1024)) := by
    rw [← hi, Value.outsAt0_sweep m c _ hl]
    exact dif_pos hl
  have ea : (⟨Value.pt2Of (ix2 a b) / 3 * 1024 + a.val % 1024, by omega⟩ : Fin 4096) = a := Fin.ext (by dsimp only; omega)
  have eb : (⟨b.val % 1024, Nat.mod_lt _ (by decide)⟩ : Fin 1024) = b := Fin.ext (by dsimp only; omega)
  have r := point m c ⟨Value.pt2Of (ix2 a b), hl⟩ (by dsimp only; omega) (⟨a.val % 1024, Nat.mod_lt _ (by decide)⟩ : Fin 1024) (⟨b.val % 1024, Nat.mod_lt _ (by decide)⟩ : Fin 1024)
  dsimp only at r
  rw [ea] at r
  refine g.trans (r.trans ?_)
  rw [eb]

end Cert.DhnIdeal.Prod

namespace Cert.DhnRefIdeal.Prod

open Cert.DhnRefIdeal Cert.DhnRefIdeal.Gen

/-- The reference's gradient: one product over the whole axis. -/
theorem result (x : FVec Ideal S4096x6144 .f32) (y : FVec Ideal S1024x6144 .f32) (a : Fin 4096) (b : Fin 1024) :
    Host.dotGeneral dot_S4096x6144_S1024x6144_S4096x1024_1_1_0_0_n_n none x y (ix2 a b) = ∑ k : Fin 6144, x (ix2 a k) * y (ix2 b k) := by
  pointwise

/-- The launch's gradient is the reference's. -/
theorem algebraic : Cert.algebraic_DhnIdeal_DhnRefIdeal := by
  intro m g m' g' _ hargs
  refine ⟨fun c => Cert.DhnIdeal.Value.G2 m c, Cert.DhnIdeal.Value.run m g, (θ_run defs _ _).mono (fun r h c => ?_) (Value.run (F := Ideal) m' g')⟩
  obtain ⟨e0, e1⟩ := hargs c
  obtain ⟨h0, hr⟩ := h c
  refine ⟨h0.trans ?_, hr⟩
  rw [e0, e1]
  funext i
  rw [Cert.Prod.at2 (a := 4096) (b := 1024) i]
  refine (result _ _ _ _).trans (Cert.DhnIdeal.Prod.result m c _ _).symm

/-- The reference ends and leaves its arguments: host operations only, with no semaphore. -/
theorem frame : Cert.quiescent_DhnRefIdeal := fun m ρ _ =>
  (θ_run defs _ _).mono (fun r h => ⟨fun c => (h c).2, sem_eq_zero_of_no_sems (by decide) r.2⟩) (Value.run (F := Ideal) m ρ)

end Cert.DhnRefIdeal.Prod

end
-- ==== Proof.Prod.Dwout.lean ====
module

public import proofs.«01_k».proof.Defs
public import proofs.«01_k».proof.Proof.Gen.DwoutIdeal.Value
public import proofs.«01_k».proof.Proof.Gen.DwoutRefIdeal.Run
public import proofs.«01_k».proof.Proof.Prod.Sums
public import Idealize.ShloMosaic.Lib.Pointwise
public import Idealize.ShloMosaic.Lib.VecWindow
public import Idealize.ShloMosaic.Lib.ValueIdx
public import Idealize.ShloMosaic.Lib.StableHlo.ReadAt
public import Idealize.ShloMosaic.Lib.Tactic

/-! The gradient of the output projection's weights: the blocks of 2048 rows that the launch adds up are the whole product. -/

@[expose] public section

set_option maxRecDepth 16384

noncomputable section

open Idealize.ShloMosaic Idealize.ShloMosaic.TcCoe Idealize.ShloMosaic.Tactic Idealize.SL.Sem

namespace Cert.DwoutIdeal.Prod

open Cert.DwoutIdeal Cert.DwoutIdeal.Gen
open Cert.Prod (zeros)

section
variable {F : FTy → Type} [FloatOps F] (c : Dev nD) (i : grid0.Coords)
  (a3 : Memref sig .tc .vmem S2048x1024 .bf16) (h3 : a3.IsWhole) (a4 : Memref sig .tc .vmem S2048x1024 .f32) (h4 : a4.IsWhole)
  (a5 : Memref sig .tc .vmem S1024x1024 .f32) (h5 : a5.IsWhole) (a6 : Memref sig .tc .vmem S1024x1024 .f32) (h6 : a6.IsWhole)
  (x : Vec F S2048x1024 .bf16) (y : Vec F S2048x1024 .f32) (s : Vec F S1024x1024 .f32)

/-- A first point leaves its own product in the scratch. -/
theorem first (p : cond0_0 i) (q : ¬cond0_1 i) (r : ¬cond0_2 i) :
    sout0_A_0 c i a3 h3 a4 h4 a5 h5 a6 h6 p q r x y = k0_pay2 x y := by
  unfold sout0_A_0
  rw [View.read_writes_eq_canon _ _ _ (scover0_A_0 c i a3 h3 a4 h4 a5 h5 a6 h6 p q r x y)]
  unfold kernelRun0_A
  dsimp only
  rw [View.canon_unit_zero zeros]
  simp only [View.readAt_eq_ld, h3.read_unread, h4.read_unread, View.ld_unit_zero (S := S2048x1024) zeros]

/-- A last point writes back what the scratch held and its own product. -/
theorem last (p : ¬cond0_0 i) (q : cond0_1 i) (r : cond0_2 i) :
    out0_B_2 c i a3 h3 a4 h4 a5 h5 a6 h6 p q r x y s = k0_pay3 x y s := by
  unfold out0_B_2
  rw [View.read_writes_eq_canon _ _ _ (cover0_B_2 c i a3 h3 a4 h4 a5 h5 a6 h6 p q r x y s)]
  unfold kernelRun0_B
  dsimp only
  sl_unfold_words
  rw [View.canon_unit_zero zeros, View.readCov_unit_zero (S := S1024x1024) _ zeros]
  simp only [View.readAt_eq_ld, h3.read_unread, h4.read_unread, h6.read_unread, View.ld_unit_zero (S := S2048x1024) zeros, View.ld_unit_zero (S := S1024x1024) zeros]
end

theorem pay2_at (x : Vec Ideal S2048x1024 .bf16) (y : Vec Ideal S2048x1024 .f32) (a b : Fin 1024) :
    k0_pay2 (F := Ideal) x y (ix2 a b) = ∑ k : Fin 2048, x (ix2 k a) * y (ix2 k b) := by
  unfold k0_pay2 k0_pay1
  pointwise

theorem pay3_at (x : Vec Ideal S2048x1024 .bf16) (y : Vec Ideal S2048x1024 .f32) (s : Vec Ideal S1024x1024 .f32) (a b : Fin 1024) :
    k0_pay3 (F := Ideal) x y s (ix2 a b) = s (ix2 a b) + ∑ k : Fin 2048, x (ix2 k a) * y (ix2 k b) := by
  unfold k0_pay3 k0_pay1
  pointwise

variable (m : (ℓ : Loc nD τ sig) → Buf (Elt Ideal) ℓ) (c : Dev nD)

/-- The first argument. -/
abbrev X : FVec Ideal S4096x2048 .f32 := m ((c : Thread nD τ).loc main_arg0)
/-- The second argument. -/
abbrev Y : FVec Ideal S4096x1024 .f32 := m ((c : Thread nD τ).loc main_arg1)

theorem idx0 : ∀ t : Fin grid0.N, win0_0.index t = ![t.val % 2, t.val / 2] := by decide +kernel
theorem idx1 : ∀ t : Fin grid0.N, win0_1.index t = ![t.val % 2, 0] := by decide +kernel

theorem V0 : V m c main_v0 = m ((c : Thread nD τ).loc main_arg0) := by
  show StableHlo.after hostOps0 _ _ = _
  after_reads_simp
  rfl
theorem V1 : V m c main_arg1 = m ((c : Thread nD τ).loc main_arg1) := V_main_arg1 m c

theorem t_lt (t : Fin cfg0.N) : t.val < 4 := lt_of_lt_of_eq t.isLt N_0

theorem blk0 (t : Fin cfg0.N) (k : Fin 2048) (a : Fin 1024) : (iblk m c 0 t : Vec Ideal S2048x1024 .bf16) (ix2 k a)
    = X m c (ix2 (⟨t.val % 2 * 2048 + k.val, by omega⟩ : Fin 4096) (⟨t.val / 2 * 1024 + a.val, by have := t_lt t; omega⟩ : Fin 2048)) := by
  rw [X, ← V0 m c]
  unfold iblk
  rw [View.read_apply]
  refine congrArg (V m c main_v0) (funext fun x => Fin.ext ?_)
  match x with
  | ⟨0, _⟩ => show win0_0.index t 0 * 2048 + 1 * k.val = _; rw [idx0]; show t.val % 2 * 2048 + 1 * k.val = t.val % 2 * 2048 + k.val; omega
  | ⟨1, _⟩ => show win0_0.index t 1 * 1024 + 1 * a.val = _; rw [idx0]; show t.val / 2 * 1024 + 1 * a.val = t.val / 2 * 1024 + a.val; omega

theorem blk1 (t : Fin cfg0.N) (k : Fin 2048) (b : Fin 1024) : (iblk m c 1 t : Vec Ideal S2048x1024 .f32) (ix2 k b)
    = Y m c (ix2 (⟨t.val % 2 * 2048 + k.val, by omega⟩ : Fin 4096) b) := by
  rw [Y, ← V1 m c]
  unfold iblk
  rw [View.read_apply]
  refine congrArg (V m c main_arg1) (funext fun x => Fin.ext ?_)
  match x with
  | ⟨0, _⟩ => show win0_1.index t 0 * 2048 + 1 * k.val = _; rw [idx1]; show t.val % 2 * 2048 + 1 * k.val = t.val % 2 * 2048 + k.val; omega
  | ⟨1, _⟩ => show win0_1.index t 1 * 1024 + 1 * b.val = _; rw [idx1]; show 0 * 1024 + 1 * b.val = b.val; omega

/-- What a last point writes back: the product over the whole of the summed axis. -/
theorem point (t : Fin cfg0.N) (h : t.val % 2 = 1) (a b : Fin 1024) : (outsAt0 m c t.val t.isLt).1 (ix2 a b)
    = ∑ k : Fin 4096, X m c (ix2 k (⟨t.val / 2 * 1024 + a.val, by have := t_lt t; omega⟩ : Fin 2048))
        * Y m c (ix2 k b) := by
  have ht := t_lt t
  have hp : t.val - 1 < cfg0.N := Nat.lt_of_le_of_lt (Nat.sub_le _ _) t.isLt
  rw [outsAt0_B m c t (by omega) h h]
  dsimp only
  rw [last, pay3_at]
  have e := outsAt0_A m c ⟨t.val - 1, hp⟩ (by dsimp only; omega) (by dsimp only; omega) (by dsimp only; omega)
  dsimp only at e
  rw [e]
  dsimp only
  rw [first, pay2_at, ← Cert.Prod.sum_two]
  simp only [blk0, blk1]
  have e1 : (t.val - 1) % 2 = 0 := by omega
  have e2 : (t.val - 1) / 2 = t.val / 2 := by omega
  simp only [e1, e2, h, Nat.zero_mul, Nat.zero_add, Nat.one_mul]

/-- The array that the launch leaves. -/
theorem result (a : Fin 2048) (b : Fin 1024) : (Value.G2 m c : FVec Ideal S2048x1024 .f32) (ix2 a b)
    = ∑ k : Fin 4096, X m c (ix2 k a) * Y m c (ix2 k b) := by
  have hN : cfg0.N = 4 := N_0
  have hp : Value.pt2Of (ix2 a b) = 2 * (a.val / 1024) + 1 := by
    show 2 * (1 * (a.val / 1024 - 0) + 1 * (b.val / 1024 - 0)) + 1 = _
    omega
  have hl : Value.pt2Of (ix2 a b) < cfg0.N := by rw [hp, hN]; omega
  have hi : Value.loc2Of (ix2 a b) = ix2 (⟨a.val % 1024, Nat.mod_lt _ (by decide)⟩ : Fin 1024) (⟨b.val % 1024, Nat.mod_lt _ (by decide)⟩ : Fin 1024) := by
    funext x
    match x with
    | ⟨0, _⟩ => rfl
    | ⟨1, _⟩ => rfl
  have g : (Value.G2 m c : FVec Ideal S2048x1024 .f32) (ix2 a b)
      = (outsAt0 m c (Value.pt2Of (ix2 a b)) hl).1 (ix2 (⟨a.val % 1024, Nat.mod_lt _ (by decide)⟩ : Fin 1024) (⟨b.val % 1024, Nat.mod_lt _ (by decide)⟩ : Fin 1024)) := by
    rw [← hi, Value.outsAt0_sweep m c _ hl]
    exact dif_pos hl
  have ea : (⟨Value.pt2Of (ix2 a b) / 2 * 1024 + a.val % 1024, by omega⟩ : Fin 2048) = a := Fin.ext (by dsimp only; omega)
  have eb : (⟨b.val % 1024, Nat.mod_lt _ (by decide)⟩ : Fin 1024) = b := Fin.ext (by dsimp only; omega)
  have r := point m c ⟨Value.pt2Of (ix2 a b), hl⟩ (by dsimp only; omega) (⟨a.val % 1024, Nat.mod_lt _ (by decide)⟩ : Fin 1024) (⟨b.val % 1024, Nat.mod_lt _ (by decide)⟩ : Fin 1024)
  dsimp only at r
  rw [ea] at r
  refine g.trans (r.trans ?_)
  rw [eb]

end Cert.DwoutIdeal.Prod

namespace Cert.DwoutRefIdeal.Prod

open Cert.DwoutRefIdeal Cert.DwoutRefIdeal.Gen

/-- The reference's gradient: one product over the whole axis. -/
theorem result (x : FVec Ideal S4096x2048 .f32) (y : FVec Ideal S4096x1024 .f32) (a : Fin 2048) (b : Fin 1024) :
    transpose S2048x1024 [1, 0] (Host.dotGeneral dot_S4096x1024_S4096x2048_S1024x2048_0_0_1_1_n_n none y x) transposes_S1024x2048_S2048x1024_1_0 (ix2 a b)
      = ∑ k : Fin 4096, y (ix2 k b) * x (ix2 k a) := by
  pointwise

/-- The launch's gradient is the reference's. -/
theorem algebraic : Cert.algebraic_DwoutIdeal_DwoutRefIdeal := by
  intro m g m' g' _ hargs
  refine ⟨fun c => Cert.DwoutIdeal.Value.G2 m c, Cert.DwoutIdeal.Value.run m g, (θ_run defs _ _).mono (fun r h c => ?_) (Value.run (F := Ideal) m' g')⟩
  obtain ⟨e0, e1⟩ := hargs c
  obtain ⟨h0, hr⟩ := h c
  refine ⟨h0.trans ?_, hr⟩
  rw [e0, e1]
  funext i
  rw [Cert.Prod.at2 (a := 2048) (b := 1024) i]
  refine (result _ _ _ _).trans ((Finset.sum_congr rfl fun k _ => mul_comm _ _).trans (Cert.DwoutIdeal.Prod.result m c _ _).symm)

/-- The reference ends and leaves its arguments: host operations only, with no semaphore. -/
theorem frame : Cert.quiescent_DwoutRefIdeal := fun m ρ _ =>
  (θ_run defs _ _).mono (fun r h => ⟨fun c => (h c).2, sem_eq_zero_of_no_sems (by decide) r.2⟩) (Value.run (F := Ideal) m ρ)

end Cert.DwoutRefIdeal.Prod

end
-- ==== Proof.Prod.Dgated.lean ====
module

public import proofs.«01_k».proof.Defs
public import proofs.«01_k».proof.Proof.Gen.DgatedIdeal.Value
public import proofs.«01_k».proof.Proof.Gen.DgatedRefIdeal.Run
public import proofs.«01_k».proof.Proof.Prod.Sums
public import Idealize.ShloMosaic.Lib.Pointwise
public import Idealize.ShloMosaic.Lib.VecWindow
public import Idealize.ShloMosaic.Lib.ValueIdx
public import Idealize.ShloMosaic.Lib.StableHlo.ReadAt
public import Idealize.ShloMosaic.Lib.Tactic

/-! The gradient of the output projection's rows: each block that the launch writes is the product's block. -/

@[expose] public section

set_option maxRecDepth 16384

noncomputable section

open Idealize.ShloMosaic Idealize.ShloMosaic.TcCoe Idealize.ShloMosaic.Tactic Idealize.SL.Sem

namespace Cert.DgatedIdeal.Prod

open Cert.DgatedIdeal Cert.DgatedIdeal.Gen
open Cert.Prod (zeros)

/-- A point writes back the product of its two blocks. -/
theorem out_at (x : Vec Ideal S1024x1024 .f32) (y : Vec Ideal S1024x1024 .bf16) (a b : Fin 1024) :
    out0_2 (F := Ideal) x y (ix2 a b) = ∑ k : Fin 1024, x (ix2 a k) * y (ix2 b k) := by
  unfold out0_2
  rw [View.canon_unit_zero zeros, View.ld_unit_zero (S := S1024x1024) zeros, View.ld_unit_zero (S := S1024x1024) zeros]
  unfold k0_pay1
  pointwise

variable (m : (ℓ : Loc nD τ sig) → Buf (Elt Ideal) ℓ) (c : Dev nD)

theorem V0 : V m c main_arg0 = m ((c : Thread nD τ).loc main_arg0) := V_main_arg0 m c
theorem V1 : V m c main_v0 = m ((c : Thread nD τ).loc main_arg1) := by
  show StableHlo.after hostOps0 _ _ = _
  after_reads_simp
  rfl

/-- The first argument. -/
abbrev X : FVec Ideal S4096x1024 .f32 := m ((c : Thread nD τ).loc main_arg0)
/-- The second argument. -/
abbrev Y : FVec Ideal S2048x1024 .f32 := m ((c : Thread nD τ).loc main_arg1)

theorem idx0 : ∀ t : Fin grid0.N, win0_0.index t = ![t.val / 2, 0] := by decide +kernel
theorem idx1 : ∀ t : Fin grid0.N, win0_1.index t = ![t.val % 2, 0] := by decide +kernel
theorem idx2 : ∀ t : Fin grid0.N, win0_2.index t = ![t.val / 2, t.val % 2] := by decide +kernel
theorem flush : ∀ t : Fin grid0.N, win0_2.flush t = true := by decide +kernel

theorem t_lt (t : Fin cfg0.N) : t.val < 8 := lt_of_lt_of_eq t.isLt N_0

theorem blk0 (t : Fin cfg0.N) (a k : Fin 1024) : (iblk m c 0 t : Vec Ideal S1024x1024 .f32) (ix2 a k)
    = X m c (ix2 (⟨t.val / 2 * 1024 + a.val, by have := t_lt t; omega⟩ : Fin 4096) k) := by
  rw [X, ← V0 m c]
  unfold iblk
  rw [View.read_apply]
  refine congrArg (V m c main_arg0) (funext fun x => Fin.ext ?_)
  match x with
  | ⟨0, _⟩ => show win0_0.index t 0 * 1024 + 1 * a.val = _; rw [idx0]; show t.val / 2 * 1024 + 1 * a.val = t.val / 2 * 1024 + a.val; omega
  | ⟨1, _⟩ => show win0_0.index t 1 * 1024 + 1 * k.val = _; rw [idx0]; show 0 * 1024 + 1 * k.val = k.val; omega

theorem blk1 (t : Fin cfg0.N) (b k : Fin 1024) : (iblk m c 1 t : Vec Ideal S1024x1024 .bf16) (ix2 b k)
    = Y m c (ix2 (⟨t.val % 2 * 1024 + b.val, by omega⟩ : Fin 2048) k) := by
  rw [Y, ← V1 m c]
  unfold iblk
  rw [View.read_apply]
  refine congrArg (V m c main_v0) (funext fun x => Fin.ext ?_)
  match x with
  | ⟨0, _⟩ => show win0_1.index t 0 * 1024 + 1 * b.val = _; rw [idx1]; show t.val % 2 * 1024 + 1 * b.val = t.val % 2 * 1024 + b.val; omega
  | ⟨1, _⟩ => show win0_1.index t 1 * 1024 + 1 * k.val = _; rw [idx1]; show 0 * 1024 + 1 * k.val = k.val; omega

/-- The array that the launch leaves. -/
theorem result (a : Fin 4096) (b : Fin 2048) : ((dats m 0 c).arrAt 2 cfg0.N : FVec Ideal S4096x2048 .bf16) (ix2 a b)
    = ∑ k : Fin 1024, X m c (ix2 a k) * Y m c (ix2 b k) := by
  have hN : cfg0.N = 8 := N_0
  have hl : 2 * (a.val / 1024) + b.val / 1024 < cfg0.N := by rw [hN]; omega
  have r := congrFun (Value.blocks2 m c ⟨_, hl⟩ (flush _)) (ix2 (⟨a.val % 1024, Nat.mod_lt _ (by decide)⟩ : Fin 1024) (⟨b.val % 1024, Nat.mod_lt _ (by decide)⟩ : Fin 1024))
  rw [Value.flushed2, View.read_apply] at r
  have ha : (2 * (a.val / 1024) + b.val / 1024) / 2 = a.val / 1024 := by omega
  have hb : (2 * (a.val / 1024) + b.val / 1024) % 2 = b.val / 1024 := by omega
  have ea : (⟨(2 * (a.val / 1024) + b.val / 1024) / 2 * 1024 + a.val % 1024, by omega⟩ : Fin 4096) = a := Fin.ext (by dsimp only; omega)
  have eb : (⟨(2 * (a.val / 1024) + b.val / 1024) % 2 * 1024 + b.val % 1024, by omega⟩ : Fin 2048) = b := Fin.ext (by dsimp only; omega)
  have q := out_at (iblk m c 0 ⟨_, hl⟩) (iblk m c 1 ⟨_, hl⟩) (⟨a.val % 1024, Nat.mod_lt _ (by decide)⟩ : Fin 1024) (⟨b.val % 1024, Nat.mod_lt _ (by decide)⟩ : Fin 1024)
  simp only [blk0, blk1, ea, eb] at q
  refine Eq.trans ?_ (r.trans q)
  refine congrArg ((dats m 0 c).arrAt 2 cfg0.N) (funext fun x => Fin.ext ?_)
  match x with
  | ⟨0, _⟩ => show a.val = win0_2.index _ 0 * 1024 + 1 * (a.val % 1024); rw [idx2]; show a.val = (2 * (a.val / 1024) + b.val / 1024) / 2 * 1024 + 1 * (a.val % 1024); omega
  | ⟨1, _⟩ => show b.val = win0_2.index _ 1 * 1024 + 1 * (b.val % 1024); rw [idx2]; show b.val = (2 * (a.val / 1024) + b.val / 1024) % 2 * 1024 + 1 * (b.val % 1024); omega

end Cert.DgatedIdeal.Prod

namespace Cert.DgatedRefIdeal.Prod

open Cert.DgatedRefIdeal Cert.DgatedRefIdeal.Gen

/-- The reference's gradient: one product over the whole axis. -/
theorem result (x : FVec Ideal S4096x1024 .f32) (y : FVec Ideal S2048x1024 .f32) (a : Fin 4096) (b : Fin 2048) :
    (truncf .bf16 (Host.dotGeneral dot_S4096x1024_S2048x1024_S4096x2048_1_1_0_0_n_n none x y : FVec Ideal S4096x2048 .f32) bitsLt_bf16_f32 : FVec Ideal S4096x2048 .bf16) (ix2 a b) = ∑ k : Fin 1024, x (ix2 a k) * y (ix2 b k) := by
  pointwise

/-- The launch's gradient is the reference's. -/
theorem algebraic : Cert.algebraic_DgatedIdeal_DgatedRefIdeal := by
  intro m g m' g' _ hargs
  refine ⟨fun c => (Cert.DgatedIdeal.Gen.dats m 0 c).arrAt 2 Cert.DgatedIdeal.cfg0.N, Cert.DgatedIdeal.Value.run_blocks m g, (θ_run defs _ _).mono (fun r h c => ?_) (Value.run (F := Ideal) m' g')⟩
  obtain ⟨e0, e1⟩ := hargs c
  obtain ⟨h0, hr⟩ := h c
  refine ⟨h0.trans ?_, hr⟩
  rw [e0, e1]
  funext i
  rw [Cert.Prod.at2 (a := 4096) (b := 2048) i]
  exact (result _ _ _ _).trans (Cert.DgatedIdeal.Prod.result m c _ _).symm

/-- The reference ends and leaves its arguments: host operations only, with no semaphore. -/
theorem frame : Cert.quiescent_DgatedRefIdeal := fun m ρ _ =>
  (θ_run defs _ _).mono (fun r h => ⟨fun c => (h c).2, sem_eq_zero_of_no_sems (by decide) r.2⟩) (Value.run (F := Ideal) m ρ)

end Cert.DgatedRefIdeal.Prod

end
-- ==== Proof.Prod.ScanDwin.lean ====
module

public import proofs.«01_k».proof.Defs
public import proofs.«01_k».proof.Proof.Gen.ScanDwinIdeal.Value
public import proofs.«01_k».proof.Proof.Gen.ScanDwinRefIdeal.Run
public import proofs.«01_k».proof.Proof.Prod.Sums
public import Idealize.ShloMosaic.Lib.Pointwise
public import Idealize.ShloMosaic.Lib.VecWindow
public import Idealize.ShloMosaic.Lib.ValueIdx
public import Idealize.ShloMosaic.Lib.StableHlo.ReadAt
public import Idealize.ShloMosaic.Lib.Tactic

/-! The gradient of the input weights in the state-space layer: the blocks of 2048 rows that the launch adds up are the whole product. -/

@[expose] public section

set_option maxRecDepth 16384

noncomputable section

open Idealize.ShloMosaic Idealize.ShloMosaic.TcCoe Idealize.ShloMosaic.Tactic Idealize.SL.Sem

namespace Cert.ScanDwinIdeal.Prod

open Cert.ScanDwinIdeal Cert.ScanDwinIdeal.Gen
open Cert.Prod (zeros)

section
variable {F : FTy → Type} [FloatOps F] (c : Dev nD) (i : grid0.Coords)
  (a3 : Memref sig .tc .vmem S2048x1024 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (x y : Vec F S2048x1024 .bf16) (s : Vec F S1024x1024 .f32)

/-- A first point leaves its own product in the scratch. -/
theorem first (p : cond0_0 i) (q : ¬cond0_1 i) (r : ¬cond0_2 i) :
    sout0_A_0 c i a3 h3 a4 h4 a5 h5 a6 h6 p q r x y = k0_pay2 x y := by
  unfold sout0_A_0
  rw [View.read_writes_eq_canon _ _ _ (scover0_A_0 c i a3 h3 a4 h4 a5 h5 a6 h6 p q r x y)]
  unfold kernelRun0_A
  dsimp only
  rw [View.canon_unit_zero zeros]
  simp only [View.readAt_eq_ld, h3.read_unread, h4.read_unread, View.ld_unit_zero (S := S2048x1024) zeros]

/-- A last point writes back what the scratch held and its own product. -/
theorem last (p : ¬cond0_0 i) (q : cond0_1 i) (r : cond0_2 i) :
    out0_B_2 c i a3 h3 a4 h4 a5 h5 a6 h6 p q r x y s = k0_pay3 x y s := by
  unfold out0_B_2
  rw [View.read_writes_eq_canon _ _ _ (cover0_B_2 c i a3 h3 a4 h4 a5 h5 a6 h6 p q r x y s)]
  unfold kernelRun0_B
  dsimp only
  sl_unfold_words
  rw [View.canon_unit_zero zeros, View.readCov_unit_zero (S := S1024x1024) _ zeros]
  simp only [View.readAt_eq_ld, h3.read_unread, h4.read_unread, h6.read_unread, View.ld_unit_zero (S := S2048x1024) zeros, View.ld_unit_zero (S := S1024x1024) zeros]
end

theorem pay2_at (x y : Vec Ideal S2048x1024 .bf16) (a b : Fin 1024) :
    k0_pay2 (F := Ideal) x y (ix2 a b) = ∑ k : Fin 2048, x (ix2 k a) * y (ix2 k b) := by
  unfold k0_pay2 k0_pay1
  pointwise

theorem pay3_at (x y : Vec Ideal S2048x1024 .bf16) (s : Vec Ideal S1024x1024 .f32) (a b : Fin 1024) :
    k0_pay3 (F := Ideal) x y s (ix2 a b) = s (ix2 a b) + ∑ k : Fin 2048, x (ix2 k a) * y (ix2 k b) := by
  unfold k0_pay3 k0_pay1
  pointwise

variable (m : (ℓ : Loc nD τ sig) → Buf (Elt Ideal) ℓ) (c : Dev nD)

/-- The first argument. -/
abbrev X : FVec Ideal S4096x1024 .f32 := m ((c : Thread nD τ).loc main_arg0)
/-- The second argument. -/
abbrev Y : FVec Ideal S4096x4096 .f32 := m ((c : Thread nD τ).loc main_arg1)

theorem idx0 : ∀ t : Fin grid0.N, win0_0.index t = ![t.val % 2, t.val / 8] := by decide +kernel
theorem idx1 : ∀ t : Fin grid0.N, win0_1.index t = ![t.val % 2, t.val / 2 % 4] := by decide +kernel

theorem V0 : V m c main_v0 = m ((c : Thread nD τ).loc main_arg0) := by
  show StableHlo.after hostOps0 _ _ = _
  after_reads_simp
  rfl
theorem V1 : V m c main_v1 = m ((c : Thread nD τ).loc main_arg1) := by
  show StableHlo.after hostOps0 _ _ = _
  after_reads_simp
  rfl

theorem t_lt (t : Fin cfg0.N) : t.val < 8 := lt_of_lt_of_eq t.isLt N_0

theorem blk0 (t : Fin cfg0.N) (k : Fin 2048) (a : Fin 1024) : (iblk m c 0 t : Vec Ideal S2048x1024 .bf16) (ix2 k a)
    = X m c (ix2 (⟨t.val % 2 * 2048 + k.val, by have := t_lt t; omega⟩ : Fin 4096) (⟨t.val / 8 * 1024 + a.val, by have := t_lt t; omega⟩ : Fin 1024)) := by
  rw [X, ← V0 m c]
  unfold iblk
  rw [View.read_apply]
  refine congrArg (V m c main_v0) (funext fun x => Fin.ext ?_)
  match x with
  | ⟨0, _⟩ => show win0_0.index t 0 * 2048 + 1 * k.val = _; rw [idx0]; show t.val % 2 * 2048 + 1 * k.val = t.val % 2 * 2048 + k.val; omega
  | ⟨1, _⟩ => show win0_0.index t 1 * 1024 + 1 * a.val = _; rw [idx0]; show t.val / 8 * 1024 + 1 * a.val = t.val / 8 * 1024 + a.val; omega

theorem blk1 (t : Fin cfg0.N) (k : Fin 2048) (b : Fin 1024) : (iblk m c 1 t : Vec Ideal S2048x1024 .bf16) (ix2 k b)
    = Y m c (ix2 (⟨t.val % 2 * 2048 + k.val, by have := t_lt t; omega⟩ : Fin 4096) (⟨t.val / 2 % 4 * 1024 + b.val, by have := t_lt t; omega⟩ : Fin 4096)) := by
  rw [Y, ← V1 m c]
  unfold iblk
  rw [View.read_apply]
  refine congrArg (V m c main_v1) (funext fun x => Fin.ext ?_)
  match x with
  | ⟨0, _⟩ => show win0_1.index t 0 * 2048 + 1 * k.val = _; rw [idx1]; show t.val % 2 * 2048 + 1 * k.val = t.val % 2 * 2048 + k.val; omega
  | ⟨1, _⟩ => show win0_1.index t 1 * 1024 + 1 * b.val = _; rw [idx1]; show t.val / 2 % 4 * 1024 + 1 * b.val = t.val / 2 % 4 * 1024 + b.val; omega

/-- What a last point writes back: the product over the whole of the summed axis. -/
theorem point (t : Fin cfg0.N) (h : t.val % 2 = 1) (a b : Fin 1024) : (outsAt0 m c t.val t.isLt).1 (ix2 a b)
    = ∑ k : Fin 4096, X m c (ix2 k (⟨t.val / 8 * 1024 + a.val, by have := t_lt t; omega⟩ : Fin 1024))
        * Y m c (ix2 k (⟨t.val / 2 % 4 * 1024 + b.val, by omega⟩ : Fin 4096)) := by
  have ht := t_lt t
  have hp : t.val - 1 < cfg0.N := Nat.lt_of_le_of_lt (Nat.sub_le _ _) t.isLt
  rw [outsAt0_B m c t (by omega) h h]
  dsimp only
  rw [last, pay3_at]
  have e := outsAt0_A m c ⟨t.val - 1, hp⟩ (by dsimp only; omega) (by dsimp only; omega) (by dsimp only; omega)
  dsimp only at e
  rw [e]
  dsimp only
  rw [first, pay2_at, ← Cert.Prod.sum_two]
  simp only [blk0, blk1]
  have e1 : (t.val - 1) % 2 = 0 := by omega
  have e2 : (t.val - 1) / 8 = t.val / 8 := by omega
  have e3 : (t.val - 1) / 2 = t.val / 2 := by omega
  simp only [e1, e2, e3, h, Nat.zero_mul, Nat.zero_add, Nat.one_mul]

/-- The array that the launch leaves. -/
theorem result (a : Fin 1024) (b : Fin 4096) : (Value.G2 m c : FVec Ideal S1024x4096 .f32) (ix2 a b)
    = ∑ k : Fin 4096, X m c (ix2 k a) * Y m c (ix2 k b) := by
  have hN : cfg0.N = 8 := N_0
  have hp : Value.pt2Of (ix2 a b) = 2 * (4 * (a.val / 1024) + b.val / 1024) + 1 := by
    show 2 * (4 * (a.val / 1024 - 0) + 1 * (b.val / 1024 - 0)) + 1 = _
    omega
  have hl : Value.pt2Of (ix2 a b) < cfg0.N := by rw [hp, hN]; omega
  have hi : Value.loc2Of (ix2 a b) = ix2 (⟨a.val % 1024, Nat.mod_lt _ (by decide)⟩ : Fin 1024) (⟨b.val % 1024, Nat.mod_lt _ (by decide)⟩ : Fin 1024) := by
    funext x
    match x with
    | ⟨0, _⟩ => rfl
    | ⟨1, _⟩ => rfl
  have g : (Value.G2 m c : FVec Ideal S1024x4096 .f32) (ix2 a b)
      = (outsAt0 m c (Value.pt2Of (ix2 a b)) hl).1 (ix2 (⟨a.val % 1024, Nat.mod_lt _ (by decide)⟩ : Fin 1024) (⟨b.val % 1024, Nat.mod_lt _ (by decide)⟩ : Fin 1024)) := by
    rw [← hi, Value.outsAt0_sweep m c _ hl]
    exact dif_pos hl
  have ea : (⟨Value.pt2Of (ix2 a b) / 8 * 1024 + a.val % 1024, by omega⟩ : Fin 1024) = a := Fin.ext (by dsimp only; omega)
  have eb : (⟨Value.pt2Of (ix2 a b) / 2 % 4 * 1024 + b.val % 1024, by omega⟩ : Fin 4096) = b := Fin.ext (by dsimp only; omega)
  have r := point m c ⟨Value.pt2Of (ix2 a b), hl⟩ (by dsimp only; omega) (⟨a.val % 1024, Nat.mod_lt _ (by decide)⟩ : Fin 1024) (⟨b.val % 1024, Nat.mod_lt _ (by decide)⟩ : Fin 1024)
  dsimp only at r
  rw [ea, eb] at r
  exact g.trans r

end Cert.ScanDwinIdeal.Prod

namespace Cert.ScanDwinRefIdeal.Prod

open Cert.ScanDwinRefIdeal Cert.ScanDwinRefIdeal.Gen

/-- The reference's gradient: one product over the whole axis. -/
theorem result (x : FVec Ideal S4096x1024 .f32) (y : FVec Ideal S4096x4096 .f32) (a : Fin 1024) (b : Fin 4096) :
    transpose S1024x4096 [1, 0] (Host.dotGeneral dot_S4096x4096_S4096x1024_S4096x1024_0_0_1_1_n_n none y x) transposes_S4096x1024_S1024x4096_1_0 (ix2 a b)
      = ∑ k : Fin 4096, y (ix2 k b) * x (ix2 k a) := by
  pointwise

/-- The launch's gradient is the reference's. -/
theorem algebraic : Cert.algebraic_ScanDwinIdeal_ScanDwinRefIdeal := by
  intro m g m' g' _ hargs
  refine ⟨fun c => Cert.ScanDwinIdeal.Value.G2 m c, Cert.ScanDwinIdeal.Value.run m g, (θ_run defs _ _).mono (fun r h c => ?_) (Value.run (F := Ideal) m' g')⟩
  obtain ⟨e0, e1⟩ := hargs c
  obtain ⟨h0, hr⟩ := h c
  refine ⟨h0.trans ?_, hr⟩
  rw [e0, e1]
  funext i
  rw [Cert.Prod.at2 (a := 1024) (b := 4096) i]
  exact (result _ _ _ _).trans ((Finset.sum_congr rfl fun k _ => mul_comm _ _).trans (Cert.ScanDwinIdeal.Prod.result m c _ _).symm)

/-- The reference ends and leaves its arguments: host operations only, with no semaphore. -/
theorem frame : Cert.quiescent_ScanDwinRefIdeal := fun m ρ _ =>
  (θ_run defs _ _).mono (fun r h => ⟨fun c => (h c).2, sem_eq_zero_of_no_sems (by decide) r.2⟩) (Value.run (F := Ideal) m ρ)

end Cert.ScanDwinRefIdeal.Prod

end
-- ==== Proof.Prod.ScanDhn.lean ====
module

public import proofs.«01_k».proof.Defs
public import proofs.«01_k».proof.Proof.Gen.ScanDhnIdeal.Value
public import proofs.«01_k».proof.Proof.Gen.ScanDhnRefIdeal.Run
public import proofs.«01_k».proof.Proof.Prod.Sums
public import Idealize.ShloMosaic.Lib.Pointwise
public import Idealize.ShloMosaic.Lib.VecWindow
public import Idealize.ShloMosaic.Lib.ValueIdx
public import Idealize.ShloMosaic.Lib.StableHlo.ReadAt
public import Idealize.ShloMosaic.Lib.Tactic

/-! The gradient of the input projection's rows in the state-space layer: the blocks of 2048 columns that the launch adds up are the whole product. -/

@[expose] public section

set_option maxRecDepth 16384

noncomputable section

open Idealize.ShloMosaic Idealize.ShloMosaic.TcCoe Idealize.ShloMosaic.Tactic Idealize.SL.Sem

namespace Cert.ScanDhnIdeal.Prod

open Cert.ScanDhnIdeal Cert.ScanDhnIdeal.Gen
open Cert.Prod (zeros)

section
variable {F : FTy → Type} [FloatOps F] (c : Dev nD) (i : grid0.Coords)
  (a3 : Memref sig .tc .vmem S1024x2048 .bf16) (h3 : a3.IsWhole) (a4 : Memref sig .tc .vmem S1024x2048 .bf16) (h4 : a4.IsWhole)
  (a5 : Memref sig .tc .vmem S1024x1024 .f32) (h5 : a5.IsWhole) (a6 : Memref sig .tc .vmem S1024x1024 .f32) (h6 : a6.IsWhole)
  (x y : Vec F S1024x2048 .bf16) (s : Vec F S1024x1024 .f32)

/-- A first point leaves its own product in the scratch. -/
theorem first (p : cond0_0 i) (q : ¬cond0_1 i) (r : ¬cond0_2 i) :
    sout0_A_0 c i a3 h3 a4 h4 a5 h5 a6 h6 p q r x y = k0_pay2 x y := by
  unfold sout0_A_0
  rw [View.read_writes_eq_canon _ _ _ (scover0_A_0 c i a3 h3 a4 h4 a5 h5 a6 h6 p q r x y)]
  unfold kernelRun0_A
  dsimp only
  rw [View.canon_unit_zero zeros]
  simp only [View.readAt_eq_ld, h3.read_unread, h4.read_unread, View.ld_unit_zero (S := S1024x2048) zeros]

/-- A last point writes back what the scratch held and its own product. -/
theorem last (p : ¬cond0_0 i) (q : cond0_1 i) (r : cond0_2 i) :
    out0_B_2 c i a3 h3 a4 h4 a5 h5 a6 h6 p q r x y s = k0_pay3 x y s := by
  unfold out0_B_2
  rw [View.read_writes_eq_canon _ _ _ (cover0_B_2 c i a3 h3 a4 h4 a5 h5 a6 h6 p q r x y s)]
  unfold kernelRun0_B
  dsimp only
  sl_unfold_words
  rw [View.canon_unit_zero zeros, View.readCov_unit_zero (S := S1024x1024) _ zeros]
  simp only [View.readAt_eq_ld, h3.read_unread, h4.read_unread, h6.read_unread, View.ld_unit_zero (S := S1024x2048) zeros, View.ld_unit_zero (S := S1024x1024) zeros]
end

theorem pay2_at (x y : Vec Ideal S1024x2048 .bf16) (a b : Fin 1024) :
    k0_pay2 (F := Ideal) x y (ix2 a b) = ∑ k : Fin 2048, x (ix2 a k) * y (ix2 b k) := by
  unfold k0_pay2 k0_pay1
  pointwise

theorem pay3_at (x y : Vec Ideal S1024x2048 .bf16) (s : Vec Ideal S1024x1024 .f32) (a b : Fin 1024) :
    k0_pay3 (F := Ideal) x y s (ix2 a b) = s (ix2 a b) + ∑ k : Fin 2048, x (ix2 a k) * y (ix2 b k) := by
  unfold k0_pay3 k0_pay1
  pointwise

variable (m : (ℓ : Loc nD τ sig) → Buf (Elt Ideal) ℓ) (c : Dev nD)

/-- The first argument. -/
abbrev X : FVec Ideal S4096x4096 .f32 := m ((c : Thread nD τ).loc main_arg0)
/-- The second argument. -/
abbrev Y : FVec Ideal S1024x4096 .f32 := m ((c : Thread nD τ).loc main_arg1)

theorem idx0 : ∀ t : Fin grid0.N, win0_0.index t = ![t.val / 2, t.val % 2] := by decide +kernel
theorem idx1 : ∀ t : Fin grid0.N, win0_1.index t = ![t.val / 2 % 1, t.val % 2] := by decide +kernel

theorem V0 : V m c main_v0 = m ((c : Thread nD τ).loc main_arg0) := by
  show StableHlo.after hostOps0 _ _ = _
  after_reads_simp
  rfl
theorem V1 : V m c main_v1 = m ((c : Thread nD τ).loc main_arg1) := by
  show StableHlo.after hostOps0 _ _ = _
  after_reads_simp
  rfl

theorem t_lt (t : Fin cfg0.N) : t.val < 8 := lt_of_lt_of_eq t.isLt N_0

theorem blk0 (t : Fin cfg0.N) (a : Fin 1024) (k : Fin 2048) : (iblk m c 0 t : Vec Ideal S1024x2048 .bf16) (ix2 a k)
    = X m c (ix2 (⟨t.val / 2 * 1024 + a.val, by have := t_lt t; omega⟩ : Fin 4096) (⟨t.val % 2 * 2048 + k.val, by have := t_lt t; omega⟩ : Fin 4096)) := by
  rw [X, ← V0 m c]
  unfold iblk
  rw [View.read_apply]
  refine congrArg (V m c main_v0) (funext fun x => Fin.ext ?_)
  match x with
  | ⟨0, _⟩ => show win0_0.index t 0 * 1024 + 1 * a.val = _; rw [idx0]; show t.val / 2 * 1024 + 1 * a.val = t.val / 2 * 1024 + a.val; omega
  | ⟨1, _⟩ => show win0_0.index t 1 * 2048 + 1 * k.val = _; rw [idx0]; show t.val % 2 * 2048 + 1 * k.val = t.val % 2 * 2048 + k.val; omega

theorem blk1 (t : Fin cfg0.N) (b : Fin 1024) (k : Fin 2048) : (iblk m c 1 t : Vec Ideal S1024x2048 .bf16) (ix2 b k)
    = Y m c (ix2 (⟨t.val / 2 % 1 * 1024 + b.val, by have := t_lt t; omega⟩ : Fin 1024) (⟨t.val % 2 * 2048 + k.val, by have := t_lt t; omega⟩ : Fin 4096)) := by
  rw [Y, ← V1 m c]
  unfold iblk
  rw [View.read_apply]
  refine congrArg (V m c main_v1) (funext fun x => Fin.ext ?_)
  match x with
  | ⟨0, _⟩ => show win0_1.index t 0 * 1024 + 1 * b.val = _; rw [idx1]; show t.val / 2 % 1 * 1024 + 1 * b.val = t.val / 2 % 1 * 1024 + b.val; omega
  | ⟨1, _⟩ => show win0_1.index t 1 * 2048 + 1 * k.val = _; rw [idx1]; show t.val % 2 * 2048 + 1 * k.val = t.val % 2 * 2048 + k.val; omega

/-- What a last point writes back: the product over the whole of the summed axis. -/
theorem point (t : Fin cfg0.N) (h : t.val % 2 = 1) (a b : Fin 1024) : (outsAt0 m c t.val t.isLt).1 (ix2 a b)
    = ∑ k : Fin 4096, X m c (ix2 (⟨t.val / 2 * 1024 + a.val, by have := t_lt t; omega⟩ : Fin 4096) k)
        * Y m c (ix2 (⟨t.val / 2 % 1 * 1024 + b.val, by omega⟩ : Fin 1024) k) := by
  have ht := t_lt t
  have hp : t.val - 1 < cfg0.N := Nat.lt_of_le_of_lt (Nat.sub_le _ _) t.isLt
  rw [outsAt0_B m c t (by omega) h h]
  dsimp only
  rw [last, pay3_at]
  have e := outsAt0_A m c ⟨t.val - 1, hp⟩ (by dsimp only; omega) (by dsimp only; omega) (by dsimp only; omega)
  dsimp only at e
  rw [e]
  dsimp only
  rw [first, pay2_at, ← Cert.Prod.sum_two]
  simp only [blk0, blk1]
  have e1 : (t.val - 1) % 2 = 0 := by omega
  have e2 : (t.val - 1) / 2 = t.val / 2 := by omega
  have e3 : (t.val - 1) / 2 = t.val / 2 := by omega
  simp only [e1, e2, e3, h, Nat.zero_mul, Nat.zero_add, Nat.one_mul]

/-- The array that the launch leaves. -/
theorem result (a : Fin 4096) (b : Fin 1024) : (Value.G2 m c : FVec Ideal S4096x1024 .f32) (ix2 a b)
    = ∑ k : Fin 4096, X m c (ix2 a k) * Y m c (ix2 b k) := by
  have hN : cfg0.N = 8 := N_0
  have hp : Value.pt2Of (ix2 a b) = 2 * (1 * (a.val / 1024) + b.val / 1024) + 1 := by
    show 2 * (1 * (a.val / 1024 - 0) + 1 * (b.val / 1024 - 0)) + 1 = _
    omega
  have hl : Value.pt2Of (ix2 a b) < cfg0.N := by rw [hp, hN]; omega
  have hi : Value.loc2Of (ix2 a b) = ix2 (⟨a.val % 1024, Nat.mod_lt _ (by decide)⟩ : Fin 1024) (⟨b.val % 1024, Nat.mod_lt _ (by decide)⟩ : Fin 1024) := by
    funext x
    match x with
    | ⟨0, _⟩ => rfl
    | ⟨1, _⟩ => rfl
  have g : (Value.G2 m c : FVec Ideal S4096x1024 .f32) (ix2 a b)
      = (outsAt0 m c (Value.pt2Of (ix2 a b)) hl).1 (ix2 (⟨a.val % 1024, Nat.mod_lt _ (by decide)⟩ : Fin 1024) (⟨b.val % 1024, Nat.mod_lt _ (by decide)⟩ : Fin 1024)) := by
    rw [← hi, Value.outsAt0_sweep m c _ hl]
    exact dif_pos hl
  have ea : (⟨Value.pt2Of (ix2 a b) / 2 * 1024 + a.val % 1024, by omega⟩ : Fin 4096) = a := Fin.ext (by dsimp only; omega)
  have eb : (⟨Value.pt2Of (ix2 a b) / 2 % 1 * 1024 + b.val % 1024, by omega⟩ : Fin 1024) = b := Fin.ext (by dsimp only; omega)
  have r := point m c ⟨Value.pt2Of (ix2 a b), hl⟩ (by dsimp only; omega) (⟨a.val % 1024, Nat.mod_lt _ (by decide)⟩ : Fin 1024) (⟨b.val % 1024, Nat.mod_lt _ (by decide)⟩ : Fin 1024)
  dsimp only at r
  rw [ea, eb] at r
  exact g.trans r

end Cert.ScanDhnIdeal.Prod

namespace Cert.ScanDhnRefIdeal.Prod

open Cert.ScanDhnRefIdeal Cert.ScanDhnRefIdeal.Gen

/-- The reference's gradient: one product over the whole axis. -/
theorem result (x : FVec Ideal S4096x4096 .f32) (y : FVec Ideal S1024x4096 .f32) (a : Fin 4096) (b : Fin 1024) :
    Host.dotGeneral dot_S4096x4096_S1024x4096_S4096x1024_1_1_0_0_n_n none x y (ix2 a b) = ∑ k : Fin 4096, x (ix2 a k) * y (ix2 b k) := by
  pointwise

/-- The launch's gradient is the reference's. -/
theorem algebraic : Cert.algebraic_ScanDhnIdeal_ScanDhnRefIdeal := by
  intro m g m' g' _ hargs
  refine ⟨fun c => Cert.ScanDhnIdeal.Value.G2 m c, Cert.ScanDhnIdeal.Value.run m g, (θ_run defs _ _).mono (fun r h c => ?_) (Value.run (F := Ideal) m' g')⟩
  obtain ⟨e0, e1⟩ := hargs c
  obtain ⟨h0, hr⟩ := h c
  refine ⟨h0.trans ?_, hr⟩
  rw [e0, e1]
  funext i
  rw [Cert.Prod.at2 (a := 4096) (b := 1024) i]
  exact (result _ _ _ _).trans (Cert.ScanDhnIdeal.Prod.result m c _ _).symm

/-- The reference ends and leaves its arguments: host operations only, with no semaphore. -/
theorem frame : Cert.quiescent_ScanDhnRefIdeal := fun m ρ _ =>
  (θ_run defs _ _).mono (fun r h => ⟨fun c => (h c).2, sem_eq_zero_of_no_sems (by decide) r.2⟩) (Value.run (F := Ideal) m ρ)

end Cert.ScanDhnRefIdeal.Prod

end
-- ==== Proof.Prod.Dwglu.lean ====
module

public import proofs.«01_k».proof.Defs
public import proofs.«01_k».proof.Proof.Gen.DwgluIdeal.Value
public import proofs.«01_k».proof.Proof.Gen.DwgluRefIdeal.Run
public import proofs.«01_k».proof.Proof.Prod.Sums
public import Idealize.ShloMosaic.Lib.Pointwise
public import Idealize.ShloMosaic.Lib.VecWindow
public import Idealize.ShloMosaic.Lib.ValueIdx
public import Idealize.ShloMosaic.Lib.StableHlo.ReadAt
public import Idealize.ShloMosaic.Lib.Tactic

/-! The gradient of the gate's weights: the blocks of 2048 rows that the launch adds up are the whole product. -/

@[expose] public section

set_option maxRecDepth 16384

noncomputable section

open Idealize.ShloMosaic Idealize.ShloMosaic.TcCoe Idealize.ShloMosaic.Tactic Idealize.SL.Sem

namespace Cert.DwgluIdeal.Prod

open Cert.DwgluIdeal Cert.DwgluIdeal.Gen
open Cert.Prod (zeros)

section
variable {F : FTy → Type} [FloatOps F] (c : Dev nD) (i : grid0.Coords)
  (a3 : Memref sig .tc .vmem S2048x1024 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (x y : Vec F S2048x1024 .bf16) (s : Vec F S1024x1024 .f32)

/-- A first point leaves its own product in the scratch. -/
theorem first (p : cond0_0 i) (q : ¬cond0_1 i) (r : ¬cond0_2 i) :
    sout0_A_0 c i a3 h3 a4 h4 a5 h5 a6 h6 p q r x y = k0_pay2 x y := by
  unfold sout0_A_0
  rw [View.read_writes_eq_canon _ _ _ (scover0_A_0 c i a3 h3 a4 h4 a5 h5 a6 h6 p q r x y)]
  unfold kernelRun0_A
  dsimp only
  rw [View.canon_unit_zero zeros]
  simp only [View.readAt_eq_ld, h3.read_unread, h4.read_unread, View.ld_unit_zero (S := S2048x1024) zeros]

/-- A last point writes back what the scratch held and its own product. -/
theorem last (p : ¬cond0_0 i) (q : cond0_1 i) (r : cond0_2 i) :
    out0_B_2 c i a3 h3 a4 h4 a5 h5 a6 h6 p q r x y s = k0_pay3 x y s := by
  unfold out0_B_2
  rw [View.read_writes_eq_canon _ _ _ (cover0_B_2 c i a3 h3 a4 h4 a5 h5 a6 h6 p q r x y s)]
  unfold kernelRun0_B
  dsimp only
  sl_unfold_words
  rw [View.canon_unit_zero zeros, View.readCov_unit_zero (S := S1024x1024) _ zeros]
  simp only [View.readAt_eq_ld, h3.read_unread, h4.read_unread, h6.read_unread, View.ld_unit_zero (S := S2048x1024) zeros, View.ld_unit_zero (S := S1024x1024) zeros]
end

theorem pay2_at (x y : Vec Ideal S2048x1024 .bf16) (a b : Fin 1024) :
    k0_pay2 (F := Ideal) x y (ix2 a b) = ∑ k : Fin 2048, x (ix2 k a) * y (ix2 k b) := by
  unfold k0_pay2 k0_pay1
  pointwise

theorem pay3_at (x y : Vec Ideal S2048x1024 .bf16) (s : Vec Ideal S1024x1024 .f32) (a b : Fin 1024) :
    k0_pay3 (F := Ideal) x y s (ix2 a b) = s (ix2 a b) + ∑ k : Fin 2048, x (ix2 k a) * y (ix2 k b) := by
  unfold k0_pay3 k0_pay1
  pointwise

variable (m : (ℓ : Loc nD τ sig) → Buf (Elt Ideal) ℓ) (c : Dev nD)

/-- The first argument. -/
abbrev X : FVec Ideal S4096x2048 .f32 := m ((c : Thread nD τ).loc main_arg0)
/-- The second argument. -/
abbrev Y : FVec Ideal S4096x2048 .f32 := m ((c : Thread nD τ).loc main_arg1)

theorem idx0 : ∀ t : Fin grid0.N, win0_0.index t = ![t.val % 2, t.val / 4] := by decide +kernel
theorem idx1 : ∀ t : Fin grid0.N, win0_1.index t = ![t.val % 2, t.val / 2 % 2] := by decide +kernel

theorem V0 : V m c main_v0 = m ((c : Thread nD τ).loc main_arg0) := by
  show StableHlo.after hostOps0 _ _ = _
  after_reads_simp
  rfl
theorem V1 : V m c main_v1 = m ((c : Thread nD τ).loc main_arg1) := by
  show StableHlo.after hostOps0 _ _ = _
  after_reads_simp
  rfl

theorem t_lt (t : Fin cfg0.N) : t.val < 8 := lt_of_lt_of_eq t.isLt N_0

theorem blk0 (t : Fin cfg0.N) (k : Fin 2048) (a : Fin 1024) : (iblk m c 0 t : Vec Ideal S2048x1024 .bf16) (ix2 k a)
    = X m c (ix2 (⟨t.val % 2 * 2048 + k.val, by have := t_lt t; omega⟩ : Fin 4096) (⟨t.val / 4 * 1024 + a.val, by have := t_lt t; omega⟩ : Fin 2048)) := by
  rw [X, ← V0 m c]
  unfold iblk
  rw [View.read_apply]
  refine congrArg (V m c main_v0) (funext fun x => Fin.ext ?_)
  match x with
  | ⟨0, _⟩ => show win0_0.index t 0 * 2048 + 1 * k.val = _; rw [idx0]; show t.val % 2 * 2048 + 1 * k.val = t.val % 2 * 2048 + k.val; omega
  | ⟨1, _⟩ => show win0_0.index t 1 * 1024 + 1 * a.val = _; rw [idx0]; show t.val / 4 * 1024 + 1 * a.val = t.val / 4 * 1024 + a.val; omega

theorem blk1 (t : Fin cfg0.N) (k : Fin 2048) (b : Fin 1024) : (iblk m c 1 t : Vec Ideal S2048x1024 .bf16) (ix2 k b)
    = Y m c (ix2 (⟨t.val % 2 * 2048 + k.val, by have := t_lt t; omega⟩ : Fin 4096) (⟨t.val / 2 % 2 * 1024 + b.val, by have := t_lt t; omega⟩ : Fin 2048)) := by
  rw [Y, ← V1 m c]
  unfold iblk
  rw [View.read_apply]
  refine congrArg (V m c main_v1) (funext fun x => Fin.ext ?_)
  match x with
  | ⟨0, _⟩ => show win0_1.index t 0 * 2048 + 1 * k.val = _; rw [idx1]; show t.val % 2 * 2048 + 1 * k.val = t.val % 2 * 2048 + k.val; omega
  | ⟨1, _⟩ => show win0_1.index t 1 * 1024 + 1 * b.val = _; rw [idx1]; show t.val / 2 % 2 * 1024 + 1 * b.val = t.val / 2 % 2 * 1024 + b.val; omega

/-- What a last point writes back: the product over the whole of the summed axis. -/
theorem point (t : Fin cfg0.N) (h : t.val % 2 = 1) (a b : Fin 1024) : (outsAt0 m c t.val t.isLt).1 (ix2 a b)
    = ∑ k : Fin 4096, X m c (ix2 k (⟨t.val / 4 * 1024 + a.val, by have := t_lt t; omega⟩ : Fin 2048))
        * Y m c (ix2 k (⟨t.val / 2 % 2 * 1024 + b.val, by omega⟩ : Fin 2048)) := by
  have ht := t_lt t
  have hp : t.val - 1 < cfg0.N := Nat.lt_of_le_of_lt (Nat.sub_le _ _) t.isLt
  rw [outsAt0_B m c t (by omega) h h]
  dsimp only
  rw [last, pay3_at]
  have e := outsAt0_A m c ⟨t.val - 1, hp⟩ (by dsimp only; omega) (by dsimp only; omega) (by dsimp only; omega)
  dsimp only at e
  rw [e]
  dsimp only
  rw [first, pay2_at, ← Cert.Prod.sum_two]
  simp only [blk0, blk1]
  have e1 : (t.val - 1) % 2 = 0 := by omega
  have e2 : (t.val - 1) / 4 = t.val / 4 := by omega
  have e3 : (t.val - 1) / 2 = t.val / 2 := by omega
  simp only [e1, e2, e3, h, Nat.zero_mul, Nat.zero_add, Nat.one_mul]

/-- The array that the launch leaves. -/
theorem result (a : Fin 2048) (b : Fin 2048) : (Value.G2 m c : FVec Ideal S2048x2048 .f32) (ix2 a b)
    = ∑ k : Fin 4096, X m c (ix2 k a) * Y m c (ix2 k b) := by
  have hN : cfg0.N = 8 := N_0
  have hp : Value.pt2Of (ix2 a b) = 2 * (2 * (a.val / 1024) + b.val / 1024) + 1 := by
    show 2 * (2 * (a.val / 1024 - 0) + 1 * (b.val / 1024 - 0)) + 1 = _
    omega
  have hl : Value.pt2Of (ix2 a b) < cfg0.N := by rw [hp, hN]; omega
  have hi : Value.loc2Of (ix2 a b) = ix2 (⟨a.val % 1024, Nat.mod_lt _ (by decide)⟩ : Fin 1024) (⟨b.val % 1024, Nat.mod_lt _ (by decide)⟩ : Fin 1024) := by
    funext x
    match x with
    | ⟨0, _⟩ => rfl
    | ⟨1, _⟩ => rfl
  have g : (Value.G2 m c : FVec Ideal S2048x2048 .f32) (ix2 a b)
      = (outsAt0 m c (Value.pt2Of (ix2 a b)) hl).1 (ix2 (⟨a.val % 1024, Nat.mod_lt _ (by decide)⟩ : Fin 1024) (⟨b.val % 1024, Nat.mod_lt _ (by decide)⟩ : Fin 1024)) := by
    rw [← hi, Value.outsAt0_sweep m c _ hl]
    exact dif_pos hl
  have ea : (⟨Value.pt2Of (ix2 a b) / 4 * 1024 + a.val % 1024, by omega⟩ : Fin 2048) = a := Fin.ext (by dsimp only; omega)
  have eb : (⟨Value.pt2Of (ix2 a b) / 2 % 2 * 1024 + b.val % 1024, by omega⟩ : Fin 2048) = b := Fin.ext (by dsimp only; omega)
  have r := point m c ⟨Value.pt2Of (ix2 a b), hl⟩ (by dsimp only; omega) (⟨a.val % 1024, Nat.mod_lt _ (by decide)⟩ : Fin 1024) (⟨b.val % 1024, Nat.mod_lt _ (by decide)⟩ : Fin 1024)
  dsimp only at r
  rw [ea, eb] at r
  exact g.trans r

end Cert.DwgluIdeal.Prod

namespace Cert.DwgluRefIdeal.Prod

open Cert.DwgluRefIdeal Cert.DwgluRefIdeal.Gen

/-- The reference's gradient: one product over the whole axis. -/
theorem result (x : FVec Ideal S4096x2048 .f32) (y : FVec Ideal S4096x2048 .f32) (a : Fin 2048) (b : Fin 2048) :
    transpose S2048x2048 [1, 0] (Host.dotGeneral dot_S4096x2048_S4096x2048_S2048x2048_0_0_1_1_n_n none y x) transposes_S2048x2048_S2048x2048_1_0 (ix2 a b)
      = ∑ k : Fin 4096, y (ix2 k b) * x (ix2 k a) := by
  pointwise

/-- The launch's gradient is the reference's. -/
theorem algebraic : Cert.algebraic_DwgluIdeal_DwgluRefIdeal := by
  intro m g m' g' _ hargs
  refine ⟨fun c => Cert.DwgluIdeal.Value.G2 m c, Cert.DwgluIdeal.Value.run m g, (θ_run defs _ _).mono (fun r h c => ?_) (Value.run (F := Ideal) m' g')⟩
  obtain ⟨e0, e1⟩ := hargs c
  obtain ⟨h0, hr⟩ := h c
  refine ⟨h0.trans ?_, hr⟩
  rw [e0, e1]
  funext i
  rw [Cert.Prod.at2 (a := 2048) (b := 2048) i]
  exact (result _ _ _ _).trans ((Finset.sum_congr rfl fun k _ => mul_comm _ _).trans (Cert.DwgluIdeal.Prod.result m c _ _).symm)

/-- The reference ends and leaves its arguments: host operations only, with no semaphore. -/
theorem frame : Cert.quiescent_DwgluRefIdeal := fun m ρ _ =>
  (θ_run defs _ _).mono (fun r h => ⟨fun c => (h c).2, sem_eq_zero_of_no_sems (by decide) r.2⟩) (Value.run (F := Ideal) m ρ)

end Cert.DwgluRefIdeal.Prod

end
-- ==== Proof.Prod.Dglu.lean ====
module

public import proofs.«01_k».proof.Defs
public import proofs.«01_k».proof.Proof.Gen.DgluIdeal.Value
public import proofs.«01_k».proof.Proof.Gen.DgluRefIdeal.Run
public import proofs.«01_k».proof.Proof.Prod.Sums
public import Idealize.ShloMosaic.Lib.Pointwise
public import Idealize.ShloMosaic.Lib.VecWindow
public import Idealize.ShloMosaic.Lib.ValueIdx
public import Idealize.ShloMosaic.Lib.StableHlo.ReadAt
public import Idealize.ShloMosaic.Lib.Tactic

/-! The gradient of what the gate scales and projects: each block that the launch writes is the product's block and the block of the gradient that comes beside it. -/

@[expose] public section

set_option maxRecDepth 16384

noncomputable section

open Idealize.ShloMosaic Idealize.ShloMosaic.TcCoe Idealize.ShloMosaic.Tactic Idealize.SL.Sem

namespace Cert.DgluIdeal.Prod

open Cert.DgluIdeal Cert.DgluIdeal.Gen
open Cert.Prod (zeros)

/-- A point writes back the product of its two blocks, and adds its block of the third array. -/
theorem out_at (x : Vec Ideal S1024x2048 .bf16) (y : Vec Ideal S1024x2048 .bf16) (r : Vec Ideal S1024x1024 .f32) (a b : Fin 1024) :
    out0_3 (F := Ideal) x y r (ix2 a b) = (∑ k : Fin 2048, x (ix2 a k) * y (ix2 b k)) + r (ix2 a b) := by
  unfold out0_3
  rw [View.canon_unit_zero zeros]
  simp only [View.ld_unit_zero (S := S1024x2048) zeros, View.ld_unit_zero (S := S1024x1024) zeros]
  unfold k0_pay1
  pointwise

variable (m : (ℓ : Loc nD τ sig) → Buf (Elt Ideal) ℓ) (c : Dev nD)

theorem V0 : V m c main_v0 = m ((c : Thread nD τ).loc main_arg1) := by
  show StableHlo.after hostOps0 _ _ = _
  after_reads_simp
  rfl
theorem V1 : V m c main_v1 = m ((c : Thread nD τ).loc main_arg2) := by
  show StableHlo.after hostOps0 _ _ = _
  after_reads_simp
  rfl
theorem V2 : V m c main_arg0 = m ((c : Thread nD τ).loc main_arg0) := V_main_arg0 m c

/-- The rows. -/
abbrev X : FVec Ideal S4096x2048 .f32 := m ((c : Thread nD τ).loc main_arg1)
/-- The weights. -/
abbrev Y : FVec Ideal S2048x2048 .f32 := m ((c : Thread nD τ).loc main_arg2)
/-- What is added. -/
abbrev A : FVec Ideal S4096x2048 .f32 := m ((c : Thread nD τ).loc main_arg0)

theorem idx0 : ∀ t : Fin grid0.N, win0_0.index t = ![t.val / 2, 0] := by decide +kernel
theorem idx1 : ∀ t : Fin grid0.N, win0_1.index t = ![t.val % 2, 0] := by decide +kernel
theorem idx2 : ∀ t : Fin grid0.N, win0_2.index t = ![t.val / 2, t.val % 2] := by decide +kernel
theorem idx3 : ∀ t : Fin grid0.N, win0_3.index t = ![t.val / 2, t.val % 2] := by decide +kernel
theorem flush : ∀ t : Fin grid0.N, win0_3.flush t = true := by decide +kernel

theorem t_lt (t : Fin cfg0.N) : t.val < 8 := lt_of_lt_of_eq t.isLt N_0

theorem blk0 (t : Fin cfg0.N) (a : Fin 1024) (k : Fin 2048) : (iblk m c 0 t : Vec Ideal S1024x2048 .bf16) (ix2 a k)
    = X m c (ix2 (⟨t.val / 2 * 1024 + a.val, by have := t_lt t; omega⟩ : Fin 4096) k) := by
  rw [X, ← V0 m c]
  unfold iblk
  rw [View.read_apply]
  refine congrArg (V m c main_v0) (funext fun x => Fin.ext ?_)
  match x with
  | ⟨0, _⟩ => show win0_0.index t 0 * 1024 + 1 * a.val = _; rw [idx0]; show t.val / 2 * 1024 + 1 * a.val = t.val / 2 * 1024 + a.val; omega
  | ⟨1, _⟩ => show win0_0.index t 1 * 2048 + 1 * k.val = _; rw [idx0]; show 0 * 2048 + 1 * k.val = k.val; omega

theorem blk1 (t : Fin cfg0.N) (b : Fin 1024) (k : Fin 2048) : (iblk m c 1 t : Vec Ideal S1024x2048 .bf16) (ix2 b k)
    = Y m c (ix2 (⟨t.val % 2 * 1024 + b.val, by have := t_lt t; omega⟩ : Fin 2048) k) := by
  rw [Y, ← V1 m c]
  unfold iblk
  rw [View.read_apply]
  refine congrArg (V m c main_v1) (funext fun x => Fin.ext ?_)
  match x with
  | ⟨0, _⟩ => show win0_1.index t 0 * 1024 + 1 * b.val = _; rw [idx1]; show t.val % 2 * 1024 + 1 * b.val = t.val % 2 * 1024 + b.val; omega
  | ⟨1, _⟩ => show win0_1.index t 1 * 2048 + 1 * k.val = _; rw [idx1]; show 0 * 2048 + 1 * k.val = k.val; omega

theorem blk2 (t : Fin cfg0.N) (a : Fin 1024) (b : Fin 1024) : (iblk m c 2 t : Vec Ideal S1024x1024 .f32) (ix2 a b)
    = A m c (ix2 (⟨t.val / 2 * 1024 + a.val, by have := t_lt t; omega⟩ : Fin 4096) (⟨t.val % 2 * 1024 + b.val, by have := t_lt t; omega⟩ : Fin 2048)) := by
  rw [A, ← V2 m c]
  unfold iblk
  rw [View.read_apply]
  refine congrArg (V m c main_arg0) (funext fun x => Fin.ext ?_)
  match x with
  | ⟨0, _⟩ => show win0_2.index t 0 * 1024 + 1 * a.val = _; rw [idx2]; show t.val / 2 * 1024 + 1 * a.val = t.val / 2 * 1024 + a.val; omega
  | ⟨1, _⟩ => show win0_2.index t 1 * 1024 + 1 * b.val = _; rw [idx2]; show t.val % 2 * 1024 + 1 * b.val = t.val % 2 * 1024 + b.val; omega

/-- The array that the launch leaves. -/
theorem result (a : Fin 4096) (b : Fin 2048) : ((dats m 0 c).arrAt 3 cfg0.N : FVec Ideal S4096x2048 .f32) (ix2 a b)
    = (∑ k : Fin 2048, X m c (ix2 a k) * Y m c (ix2 b k)) + A m c (ix2 a b) := by
  have hN : cfg0.N = 8 := N_0
  have hl : 2 * (a.val / 1024) + b.val / 1024 < cfg0.N := by rw [hN]; omega
  have r := congrFun (Value.blocks3 m c ⟨_, hl⟩ (flush _)) (ix2 (⟨a.val % 1024, Nat.mod_lt _ (by decide)⟩ : Fin 1024) (⟨b.val % 1024, Nat.mod_lt _ (by decide)⟩ : Fin 1024))
  rw [Value.flushed3, View.read_apply] at r
  have ea : (⟨(2 * (a.val / 1024) + b.val / 1024) / 2 * 1024 + a.val % 1024, by omega⟩ : Fin 4096) = a := Fin.ext (by dsimp only; omega)
  have eb : (⟨(2 * (a.val / 1024) + b.val / 1024) % 2 * 1024 + b.val % 1024, by omega⟩ : Fin 2048) = b := Fin.ext (by dsimp only; omega)
  have q := out_at (iblk m c 0 ⟨_, hl⟩) (iblk m c 1 ⟨_, hl⟩) (iblk m c 2 ⟨_, hl⟩) (⟨a.val % 1024, Nat.mod_lt _ (by decide)⟩ : Fin 1024) (⟨b.val % 1024, Nat.mod_lt _ (by decide)⟩ : Fin 1024)
  simp only [blk0, blk1, blk2, ea, eb] at q
  refine Eq.trans ?_ (r.trans q)
  refine congrArg ((dats m 0 c).arrAt 3 cfg0.N) (funext fun x => Fin.ext ?_)
  match x with
  | ⟨0, _⟩ => show a.val = win0_3.index _ 0 * 1024 + 1 * (a.val % 1024); rw [idx3]; show a.val = (2 * (a.val / 1024) + b.val / 1024) / 2 * 1024 + 1 * (a.val % 1024); omega
  | ⟨1, _⟩ => show b.val = win0_3.index _ 1 * 1024 + 1 * (b.val % 1024); rw [idx3]; show b.val = (2 * (a.val / 1024) + b.val / 1024) % 2 * 1024 + 1 * (b.val % 1024); omega

end Cert.DgluIdeal.Prod

namespace Cert.DgluRefIdeal.Prod

open Cert.DgluRefIdeal Cert.DgluRefIdeal.Gen

/-- The reference's entry: one product over the whole axis, added to the entry of the third array. -/
theorem result (x : FVec Ideal S4096x2048 .f32) (y : FVec Ideal S2048x2048 .f32) (r : FVec Ideal S4096x2048 .f32) (a : Fin 4096) (b : Fin 2048) :
    (addf r (Host.dotGeneral dot_S4096x2048_S2048x2048_S4096x2048_1_1_0_0_n_n none x y) : FVec Ideal S4096x2048 .f32) (ix2 a b) = r (ix2 a b) + ∑ k : Fin 2048, x (ix2 a k) * y (ix2 b k) := by
  pointwise

/-- The launch and the reference compute the same array. -/
theorem algebraic : Cert.algebraic_DgluIdeal_DgluRefIdeal := by
  intro m g m' g' _ hargs
  refine ⟨fun c => (Cert.DgluIdeal.Gen.dats m 0 c).arrAt 3 Cert.DgluIdeal.cfg0.N, Cert.DgluIdeal.Value.run_blocks m g, (θ_run defs _ _).mono (fun r h c => ?_) (Value.run (F := Ideal) m' g')⟩
  obtain ⟨e0, e1, e2⟩ := hargs c
  obtain ⟨h0, hr⟩ := h c
  refine ⟨h0.trans ?_, hr⟩
  rw [e0, e1, e2]
  funext i
  rw [Cert.Prod.at2 (a := 4096) (b := 2048) i]
  exact (result _ _ _ _ _).trans ((add_comm _ _).trans (Cert.DgluIdeal.Prod.result m c _ _).symm)

/-- The reference ends and leaves its arguments: host operations only, with no semaphore. -/
theorem frame : Cert.quiescent_DgluRefIdeal := fun m ρ _ =>
  (θ_run defs _ _).mono (fun r h => ⟨fun c => (h c).2, sem_eq_zero_of_no_sems (by decide) r.2⟩) (Value.run (F := Ideal) m ρ)

end Cert.DgluRefIdeal.Prod

end
-- ==== Proof.Prod.In.lean ====
module

public import proofs.«01_k».proof.Defs
public import proofs.«01_k».proof.Proof.Gen.InIdeal.Value
public import proofs.«01_k».proof.Proof.Gen.InRefIdeal.Run
public import proofs.«01_k».proof.Proof.Prod.Sums
public import Idealize.ShloMosaic.Lib.Pointwise
public import Idealize.ShloMosaic.Lib.VecWindow
public import Idealize.ShloMosaic.Lib.ValueIdx
public import Idealize.ShloMosaic.Lib.StableHlo.ReadAt
public import Idealize.ShloMosaic.Lib.Tactic

/-! The input projection of a gated layer: each block that the launch writes is the product's block. -/

@[expose] public section

set_option maxRecDepth 16384

noncomputable section

open Idealize.ShloMosaic Idealize.ShloMosaic.TcCoe Idealize.ShloMosaic.Tactic Idealize.SL.Sem

namespace Cert.InIdeal.Prod

open Cert.InIdeal Cert.InIdeal.Gen
open Cert.Prod (zeros)

/-- A point writes back the product of its two blocks. -/
theorem out_at (x : Vec Ideal S1024x1024 .bf16) (y : Vec Ideal S1024x1024 .bf16) (a b : Fin 1024) :
    out0_2 (F := Ideal) x y (ix2 a b) = (∑ k : Fin 1024, x (ix2 a k) * y (ix2 k b)) := by
  unfold out0_2
  rw [View.canon_unit_zero zeros]
  simp only [View.ld_unit_zero (S := S1024x1024) zeros]
  unfold k0_pay1
  pointwise

variable (m : (ℓ : Loc nD τ sig) → Buf (Elt Ideal) ℓ) (c : Dev nD)

theorem V0 : V m c main_v0 = m ((c : Thread nD τ).loc main_arg0) := by
  show StableHlo.after hostOps0 _ _ = _
  after_reads_simp
  rfl
theorem V1 : V m c main_v1 = m ((c : Thread nD τ).loc main_arg1) := by
  show StableHlo.after hostOps0 _ _ = _
  after_reads_simp
  rfl

/-- The rows. -/
abbrev X : FVec Ideal S4096x1024 .f32 := m ((c : Thread nD τ).loc main_arg0)
/-- The weights. -/
abbrev Y : FVec Ideal S1024x6144 .f32 := m ((c : Thread nD τ).loc main_arg1)

theorem idx0 : ∀ t : Fin grid0.N, win0_0.index t = ![t.val / 6, 0] := by decide +kernel
theorem idx1 : ∀ t : Fin grid0.N, win0_1.index t = ![0, t.val % 6] := by decide +kernel
theorem idx2 : ∀ t : Fin grid0.N, win0_2.index t = ![t.val / 6, t.val % 6] := by decide +kernel
theorem flush : ∀ t : Fin grid0.N, win0_2.flush t = true := by decide +kernel

theorem t_lt (t : Fin cfg0.N) : t.val < 24 := lt_of_lt_of_eq t.isLt N_0

theorem blk0 (t : Fin cfg0.N) (a : Fin 1024) (k : Fin 1024) : (iblk m c 0 t : Vec Ideal S1024x1024 .bf16) (ix2 a k)
    = X m c (ix2 (⟨t.val / 6 * 1024 + a.val, by have := t_lt t; omega⟩ : Fin 4096) k) := by
  rw [X, ← V0 m c]
  unfold iblk
  rw [View.read_apply]
  refine congrArg (V m c main_v0) (funext fun x => Fin.ext ?_)
  match x with
  | ⟨0, _⟩ => show win0_0.index t 0 * 1024 + 1 * a.val = _; rw [idx0]; show t.val / 6 * 1024 + 1 * a.val = t.val / 6 * 1024 + a.val; omega
  | ⟨1, _⟩ => show win0_0.index t 1 * 1024 + 1 * k.val = _; rw [idx0]; show 0 * 1024 + 1 * k.val = k.val; omega

theorem blk1 (t : Fin cfg0.N) (k : Fin 1024) (b : Fin 1024) : (iblk m c 1 t : Vec Ideal S1024x1024 .bf16) (ix2 k b)
    = Y m c (ix2 k (⟨t.val % 6 * 1024 + b.val, by have := t_lt t; omega⟩ : Fin 6144)) := by
  rw [Y, ← V1 m c]
  unfold iblk
  rw [View.read_apply]
  refine congrArg (V m c main_v1) (funext fun x => Fin.ext ?_)
  match x with
  | ⟨0, _⟩ => show win0_1.index t 0 * 1024 + 1 * k.val = _; rw [idx1]; show 0 * 1024 + 1 * k.val = k.val; omega
  | ⟨1, _⟩ => show win0_1.index t 1 * 1024 + 1 * b.val = _; rw [idx1]; show t.val % 6 * 1024 + 1 * b.val = t.val % 6 * 1024 + b.val; omega

/-- The array that the launch leaves. -/
theorem result (a : Fin 4096) (b : Fin 6144) : ((dats m 0 c).arrAt 2 cfg0.N : FVec Ideal S4096x6144 .f32) (ix2 a b)
    = (∑ k : Fin 1024, X m c (ix2 a k) * Y m c (ix2 k b)) := by
  have hN : cfg0.N = 24 := N_0
  have hl : 6 * (a.val / 1024) + b.val / 1024 < cfg0.N := by rw [hN]; omega
  have r := congrFun (Value.blocks2 m c ⟨_, hl⟩ (flush _)) (ix2 (⟨a.val % 1024, Nat.mod_lt _ (by decide)⟩ : Fin 1024) (⟨b.val % 1024, Nat.mod_lt _ (by decide)⟩ : Fin 1024))
  rw [Value.flushed2, View.read_apply] at r
  have ea : (⟨(6 * (a.val / 1024) + b.val / 1024) / 6 * 1024 + a.val % 1024, by omega⟩ : Fin 4096) = a := Fin.ext (by dsimp only; omega)
  have eb : (⟨(6 * (a.val / 1024) + b.val / 1024) % 6 * 1024 + b.val % 1024, by omega⟩ : Fin 6144) = b := Fin.ext (by dsimp only; omega)
  have q := out_at (iblk m c 0 ⟨_, hl⟩) (iblk m c 1 ⟨_, hl⟩) (⟨a.val % 1024, Nat.mod_lt _ (by decide)⟩ : Fin 1024) (⟨b.val % 1024, Nat.mod_lt _ (by decide)⟩ : Fin 1024)
  simp only [blk0, blk1, ea, eb] at q
  refine Eq.trans ?_ (r.trans q)
  refine congrArg ((dats m 0 c).arrAt 2 cfg0.N) (funext fun x => Fin.ext ?_)
  match x with
  | ⟨0, _⟩ => show a.val = win0_2.index _ 0 * 1024 + 1 * (a.val % 1024); rw [idx2]; show a.val = (6 * (a.val / 1024) + b.val / 1024) / 6 * 1024 + 1 * (a.val % 1024); omega
  | ⟨1, _⟩ => show b.val = win0_2.index _ 1 * 1024 + 1 * (b.val % 1024); rw [idx2]; show b.val = (6 * (a.val / 1024) + b.val / 1024) % 6 * 1024 + 1 * (b.val % 1024); omega

end Cert.InIdeal.Prod

namespace Cert.InRefIdeal.Prod

open Cert.InRefIdeal Cert.InRefIdeal.Gen

/-- The reference's entry: one product over the whole axis. -/
theorem result (x : FVec Ideal S4096x1024 .f32) (y : FVec Ideal S1024x6144 .f32) (a : Fin 4096) (b : Fin 6144) :
    Host.dotGeneral dot_S4096x1024_S1024x6144_S4096x6144_1_0_0_1_n_n none x y (ix2 a b) = ∑ k : Fin 1024, x (ix2 a k) * y (ix2 k b) := by
  pointwise

/-- The launch and the reference compute the same array. -/
theorem algebraic : Cert.algebraic_InIdeal_InRefIdeal := by
  intro m g m' g' _ hargs
  refine ⟨fun c => (Cert.InIdeal.Gen.dats m 0 c).arrAt 2 Cert.InIdeal.cfg0.N, Cert.InIdeal.Value.run_blocks m g, (θ_run defs _ _).mono (fun r h c => ?_) (Value.run (F := Ideal) m' g')⟩
  obtain ⟨e0, e1⟩ := hargs c
  obtain ⟨h0, hr⟩ := h c
  refine ⟨h0.trans ?_, hr⟩
  rw [e0, e1]
  funext i
  rw [Cert.Prod.at2 (a := 4096) (b := 6144) i]
  exact (result _ _ _ _).trans ((Cert.InIdeal.Prod.result m c _ _).symm)

/-- The reference ends and leaves its arguments: host operations only, with no semaphore. -/
theorem frame : Cert.quiescent_InRefIdeal := fun m ρ _ =>
  (θ_run defs _ _).mono (fun r h => ⟨fun c => (h c).2, sem_eq_zero_of_no_sems (by decide) r.2⟩) (Value.run (F := Ideal) m ρ)

end Cert.InRefIdeal.Prod

end
-- ==== Proof.Prod.Out.lean ====
module

public import proofs.«01_k».proof.Defs
public import proofs.«01_k».proof.Proof.Gen.OutIdeal.Value
public import proofs.«01_k».proof.Proof.Gen.OutRefIdeal.Run
public import proofs.«01_k».proof.Proof.Prod.Sums
public import Idealize.ShloMosaic.Lib.Pointwise
public import Idealize.ShloMosaic.Lib.VecWindow
public import Idealize.ShloMosaic.Lib.ValueIdx
public import Idealize.ShloMosaic.Lib.StableHlo.ReadAt
public import Idealize.ShloMosaic.Lib.Tactic

/-! The output projection of a layer: each block that the launch writes is the product's block and the block of the layer's input. -/

@[expose] public section

set_option maxRecDepth 16384

noncomputable section

open Idealize.ShloMosaic Idealize.ShloMosaic.TcCoe Idealize.ShloMosaic.Tactic Idealize.SL.Sem

namespace Cert.OutIdeal.Prod

open Cert.OutIdeal Cert.OutIdeal.Gen
open Cert.Prod (zeros)

/-- A point writes back the product of its two blocks, and adds its block of the third array. -/
theorem out_at (x : Vec Ideal S1024x2048 .bf16) (y : Vec Ideal S2048x1024 .bf16) (r : Vec Ideal S1024x1024 .f32) (a b : Fin 1024) :
    out0_3 (F := Ideal) x y r (ix2 a b) = (∑ k : Fin 2048, x (ix2 a k) * y (ix2 k b)) + r (ix2 a b) := by
  unfold out0_3
  rw [View.canon_unit_zero zeros]
  simp only [View.ld_unit_zero (S := S1024x2048) zeros, View.ld_unit_zero (S := S2048x1024) zeros, View.ld_unit_zero (S := S1024x1024) zeros]
  unfold k0_pay1
  pointwise

variable (m : (ℓ : Loc nD τ sig) → Buf (Elt Ideal) ℓ) (c : Dev nD)

theorem V0 : V m c main_v0 = m ((c : Thread nD τ).loc main_arg0) := by
  show StableHlo.after hostOps0 _ _ = _
  after_reads_simp
  rfl
theorem V1 : V m c main_v1 = m ((c : Thread nD τ).loc main_arg1) := by
  show StableHlo.after hostOps0 _ _ = _
  after_reads_simp
  rfl
theorem V2 : V m c main_arg2 = m ((c : Thread nD τ).loc main_arg2) := V_main_arg2 m c

/-- The rows. -/
abbrev X : FVec Ideal S4096x2048 .f32 := m ((c : Thread nD τ).loc main_arg0)
/-- The weights. -/
abbrev Y : FVec Ideal S2048x1024 .f32 := m ((c : Thread nD τ).loc main_arg1)
/-- What is added. -/
abbrev A : FVec Ideal S4096x1024 .f32 := m ((c : Thread nD τ).loc main_arg2)

theorem idx0 : ∀ t : Fin grid0.N, win0_0.index t = ![t.val / 1, 0] := by decide +kernel
theorem idx1 : ∀ t : Fin grid0.N, win0_1.index t = ![0, t.val % 1] := by decide +kernel
theorem idx2 : ∀ t : Fin grid0.N, win0_2.index t = ![t.val / 1, t.val % 1] := by decide +kernel
theorem idx3 : ∀ t : Fin grid0.N, win0_3.index t = ![t.val / 1, t.val % 1] := by decide +kernel
theorem flush : ∀ t : Fin grid0.N, win0_3.flush t = true := by decide +kernel

theorem t_lt (t : Fin cfg0.N) : t.val < 4 := lt_of_lt_of_eq t.isLt N_0

theorem blk0 (t : Fin cfg0.N) (a : Fin 1024) (k : Fin 2048) : (iblk m c 0 t : Vec Ideal S1024x2048 .bf16) (ix2 a k)
    = X m c (ix2 (⟨t.val / 1 * 1024 + a.val, by have := t_lt t; omega⟩ : Fin 4096) k) := by
  rw [X, ← V0 m c]
  unfold iblk
  rw [View.read_apply]
  refine congrArg (V m c main_v0) (funext fun x => Fin.ext ?_)
  match x with
  | ⟨0, _⟩ => show win0_0.index t 0 * 1024 + 1 * a.val = _; rw [idx0]; show t.val / 1 * 1024 + 1 * a.val = t.val / 1 * 1024 + a.val; omega
  | ⟨1, _⟩ => show win0_0.index t 1 * 2048 + 1 * k.val = _; rw [idx0]; show 0 * 2048 + 1 * k.val = k.val; omega

theorem blk1 (t : Fin cfg0.N) (k : Fin 2048) (b : Fin 1024) : (iblk m c 1 t : Vec Ideal S2048x1024 .bf16) (ix2 k b)
    = Y m c (ix2 k (⟨t.val % 1 * 1024 + b.val, by have := t_lt t; omega⟩ : Fin 1024)) := by
  rw [Y, ← V1 m c]
  unfold iblk
  rw [View.read_apply]
  refine congrArg (V m c main_v1) (funext fun x => Fin.ext ?_)
  match x with
  | ⟨0, _⟩ => show win0_1.index t 0 * 2048 + 1 * k.val = _; rw [idx1]; show 0 * 2048 + 1 * k.val = k.val; omega
  | ⟨1, _⟩ => show win0_1.index t 1 * 1024 + 1 * b.val = _; rw [idx1]; show t.val % 1 * 1024 + 1 * b.val = t.val % 1 * 1024 + b.val; omega

theorem blk2 (t : Fin cfg0.N) (a : Fin 1024) (b : Fin 1024) : (iblk m c 2 t : Vec Ideal S1024x1024 .f32) (ix2 a b)
    = A m c (ix2 (⟨t.val / 1 * 1024 + a.val, by have := t_lt t; omega⟩ : Fin 4096) (⟨t.val % 1 * 1024 + b.val, by have := t_lt t; omega⟩ : Fin 1024)) := by
  rw [A, ← V2 m c]
  unfold iblk
  rw [View.read_apply]
  refine congrArg (V m c main_arg2) (funext fun x => Fin.ext ?_)
  match x with
  | ⟨0, _⟩ => show win0_2.index t 0 * 1024 + 1 * a.val = _; rw [idx2]; show t.val / 1 * 1024 + 1 * a.val = t.val / 1 * 1024 + a.val; omega
  | ⟨1, _⟩ => show win0_2.index t 1 * 1024 + 1 * b.val = _; rw [idx2]; show t.val % 1 * 1024 + 1 * b.val = t.val % 1 * 1024 + b.val; omega

/-- The array that the launch leaves. -/
theorem result (a : Fin 4096) (b : Fin 1024) : ((dats m 0 c).arrAt 3 cfg0.N : FVec Ideal S4096x1024 .f32) (ix2 a b)
    = (∑ k : Fin 2048, X m c (ix2 a k) * Y m c (ix2 k b)) + A m c (ix2 a b) := by
  have hN : cfg0.N = 4 := N_0
  have hl : 1 * (a.val / 1024) + b.val / 1024 < cfg0.N := by rw [hN]; omega
  have r := congrFun (Value.blocks3 m c ⟨_, hl⟩ (flush _)) (ix2 (⟨a.val % 1024, Nat.mod_lt _ (by decide)⟩ : Fin 1024) (⟨b.val % 1024, Nat.mod_lt _ (by decide)⟩ : Fin 1024))
  rw [Value.flushed3, View.read_apply] at r
  have ea : (⟨(1 * (a.val / 1024) + b.val / 1024) / 1 * 1024 + a.val % 1024, by omega⟩ : Fin 4096) = a := Fin.ext (by dsimp only; omega)
  have eb : (⟨(1 * (a.val / 1024) + b.val / 1024) % 1 * 1024 + b.val % 1024, by omega⟩ : Fin 1024) = b := Fin.ext (by dsimp only; omega)
  have q := out_at (iblk m c 0 ⟨_, hl⟩) (iblk m c 1 ⟨_, hl⟩) (iblk m c 2 ⟨_, hl⟩) (⟨a.val % 1024, Nat.mod_lt _ (by decide)⟩ : Fin 1024) (⟨b.val % 1024, Nat.mod_lt _ (by decide)⟩ : Fin 1024)
  simp only [blk0, blk1, blk2, ea, eb] at q
  refine Eq.trans ?_ (r.trans q)
  refine congrArg ((dats m 0 c).arrAt 3 cfg0.N) (funext fun x => Fin.ext ?_)
  match x with
  | ⟨0, _⟩ => show a.val = win0_3.index _ 0 * 1024 + 1 * (a.val % 1024); rw [idx3]; show a.val = (1 * (a.val / 1024) + b.val / 1024) / 1 * 1024 + 1 * (a.val % 1024); omega
  | ⟨1, _⟩ => show b.val = win0_3.index _ 1 * 1024 + 1 * (b.val % 1024); rw [idx3]; show b.val = (1 * (a.val / 1024) + b.val / 1024) % 1 * 1024 + 1 * (b.val % 1024); omega

end Cert.OutIdeal.Prod

namespace Cert.OutRefIdeal.Prod

open Cert.OutRefIdeal Cert.OutRefIdeal.Gen

/-- The reference's entry: one product over the whole axis, added to the entry of the third array. -/
theorem result (x : FVec Ideal S4096x2048 .f32) (y : FVec Ideal S2048x1024 .f32) (r : FVec Ideal S4096x1024 .f32) (a : Fin 4096) (b : Fin 1024) :
    (addf r (Host.dotGeneral dot_S4096x2048_S2048x1024_S4096x1024_1_0_0_1_n_n none x y) : FVec Ideal S4096x1024 .f32) (ix2 a b) = r (ix2 a b) + ∑ k : Fin 2048, x (ix2 a k) * y (ix2 k b) := by
  pointwise

/-- The launch and the reference compute the same array. -/
theorem algebraic : Cert.algebraic_OutIdeal_OutRefIdeal := by
  intro m g m' g' _ hargs
  refine ⟨fun c => (Cert.OutIdeal.Gen.dats m 0 c).arrAt 3 Cert.OutIdeal.cfg0.N, Cert.OutIdeal.Value.run_blocks m g, (θ_run defs _ _).mono (fun r h c => ?_) (Value.run (F := Ideal) m' g')⟩
  obtain ⟨e0, e1, e2⟩ := hargs c
  obtain ⟨h0, hr⟩ := h c
  refine ⟨h0.trans ?_, hr⟩
  rw [e0, e1, e2]
  funext i
  rw [Cert.Prod.at2 (a := 4096) (b := 1024) i]
  exact (result _ _ _ _ _).trans ((add_comm _ _).trans (Cert.OutIdeal.Prod.result m c _ _).symm)

/-- The reference ends and leaves its arguments: host operations only, with no semaphore. -/
theorem frame : Cert.quiescent_OutRefIdeal := fun m ρ _ =>
  (θ_run defs _ _).mono (fun r h => ⟨fun c => (h c).2, sem_eq_zero_of_no_sems (by decide) r.2⟩) (Value.run (F := Ideal) m ρ)

end Cert.OutRefIdeal.Prod

end
-- ==== Proof.Prod.ScanIn.lean ====
module

public import proofs.«01_k».proof.Defs
public import proofs.«01_k».proof.Proof.Gen.ScanInIdeal.Value
public import proofs.«01_k».proof.Proof.Gen.ScanInRefIdeal.Run
public import proofs.«01_k».proof.Proof.Prod.Sums
public import Idealize.ShloMosaic.Lib.Pointwise
public import Idealize.ShloMosaic.Lib.VecWindow
public import Idealize.ShloMosaic.Lib.ValueIdx
public import Idealize.ShloMosaic.Lib.StableHlo.ReadAt
public import Idealize.ShloMosaic.Lib.Tactic

/-! The input projection of the state-space layer: each block that the launch writes is the product's block. -/

@[expose] public section

set_option maxRecDepth 16384

noncomputable section

open Idealize.ShloMosaic Idealize.ShloMosaic.TcCoe Idealize.ShloMosaic.Tactic Idealize.SL.Sem

namespace Cert.ScanInIdeal.Prod

open Cert.ScanInIdeal Cert.ScanInIdeal.Gen
open Cert.Prod (zeros)

/-- A point writes back the product of its two blocks. -/
theorem out_at (x : Vec Ideal S1024x1024 .bf16) (y : Vec Ideal S1024x1024 .bf16) (a b : Fin 1024) :
    out0_2 (F := Ideal) x y (ix2 a b) = (∑ k : Fin 1024, x (ix2 a k) * y (ix2 k b)) := by
  unfold out0_2
  rw [View.canon_unit_zero zeros]
  simp only [View.ld_unit_zero (S := S1024x1024) zeros]
  unfold k0_pay1
  pointwise

variable (m : (ℓ : Loc nD τ sig) → Buf (Elt Ideal) ℓ) (c : Dev nD)

theorem V0 : V m c main_v0 = m ((c : Thread nD τ).loc main_arg0) := by
  show StableHlo.after hostOps0 _ _ = _
  after_reads_simp
  rfl
theorem V1 : V m c main_v1 = m ((c : Thread nD τ).loc main_arg1) := by
  show StableHlo.after hostOps0 _ _ = _
  after_reads_simp
  rfl

/-- The rows. -/
abbrev X : FVec Ideal S4096x1024 .f32 := m ((c : Thread nD τ).loc main_arg0)
/-- The weights. -/
abbrev Y : FVec Ideal S1024x4096 .f32 := m ((c : Thread nD τ).loc main_arg1)

theorem idx0 : ∀ t : Fin grid0.N, win0_0.index t = ![t.val / 4, 0] := by decide +kernel
theorem idx1 : ∀ t : Fin grid0.N, win0_1.index t = ![0, t.val % 4] := by decide +kernel
theorem idx2 : ∀ t : Fin grid0.N, win0_2.index t = ![t.val / 4, t.val % 4] := by decide +kernel
theorem flush : ∀ t : Fin grid0.N, win0_2.flush t = true := by decide +kernel

theorem t_lt (t : Fin cfg0.N) : t.val < 16 := lt_of_lt_of_eq t.isLt N_0

theorem blk0 (t : Fin cfg0.N) (a : Fin 1024) (k : Fin 1024) : (iblk m c 0 t : Vec Ideal S1024x1024 .bf16) (ix2 a k)
    = X m c (ix2 (⟨t.val / 4 * 1024 + a.val, by have := t_lt t; omega⟩ : Fin 4096) k) := by
  rw [X, ← V0 m c]
  unfold iblk
  rw [View.read_apply]
  refine congrArg (V m c main_v0) (funext fun x => Fin.ext ?_)
  match x with
  | ⟨0, _⟩ => show win0_0.index t 0 * 1024 + 1 * a.val = _; rw [idx0]; show t.val / 4 * 1024 + 1 * a.val = t.val / 4 * 1024 + a.val; omega
  | ⟨1, _⟩ => show win0_0.index t 1 * 1024 + 1 * k.val = _; rw [idx0]; show 0 * 1024 + 1 * k.val = k.val; omega

theorem blk1 (t : Fin cfg0.N) (k : Fin 1024) (b : Fin 1024) : (iblk m c 1 t : Vec Ideal S1024x1024 .bf16) (ix2 k b)
    = Y m c (ix2 k (⟨t.val % 4 * 1024 + b.val, by have := t_lt t; omega⟩ : Fin 4096)) := by
  rw [Y, ← V1 m c]
  unfold iblk
  rw [View.read_apply]
  refine congrArg (V m c main_v1) (funext fun x => Fin.ext ?_)
  match x with
  | ⟨0, _⟩ => show win0_1.index t 0 * 1024 + 1 * k.val = _; rw [idx1]; show 0 * 1024 + 1 * k.val = k.val; omega
  | ⟨1, _⟩ => show win0_1.index t 1 * 1024 + 1 * b.val = _; rw [idx1]; show t.val % 4 * 1024 + 1 * b.val = t.val % 4 * 1024 + b.val; omega

/-- The array that the launch leaves. -/
theorem result (a : Fin 4096) (b : Fin 4096) : ((dats m 0 c).arrAt 2 cfg0.N : FVec Ideal S4096x4096 .f32) (ix2 a b)
    = (∑ k : Fin 1024, X m c (ix2 a k) * Y m c (ix2 k b)) := by
  have hN : cfg0.N = 16 := N_0
  have hl : 4 * (a.val / 1024) + b.val / 1024 < cfg0.N := by rw [hN]; omega
  have r := congrFun (Value.blocks2 m c ⟨_, hl⟩ (flush _)) (ix2 (⟨a.val % 1024, Nat.mod_lt _ (by decide)⟩ : Fin 1024) (⟨b.val % 1024, Nat.mod_lt _ (by decide)⟩ : Fin 1024))
  rw [Value.flushed2, View.read_apply] at r
  have ea : (⟨(4 * (a.val / 1024) + b.val / 1024) / 4 * 1024 + a.val % 1024, by omega⟩ : Fin 4096) = a := Fin.ext (by dsimp only; omega)
  have eb : (⟨(4 * (a.val / 1024) + b.val / 1024) % 4 * 1024 + b.val % 1024, by omega⟩ : Fin 4096) = b := Fin.ext (by dsimp only; omega)
  have q := out_at (iblk m c 0 ⟨_, hl⟩) (iblk m c 1 ⟨_, hl⟩) (⟨a.val % 1024, Nat.mod_lt _ (by decide)⟩ : Fin 1024) (⟨b.val % 1024, Nat.mod_lt _ (by decide)⟩ : Fin 1024)
  simp only [blk0, blk1, ea, eb] at q
  refine Eq.trans ?_ (r.trans q)
  refine congrArg ((dats m 0 c).arrAt 2 cfg0.N) (funext fun x => Fin.ext ?_)
  match x with
  | ⟨0, _⟩ => show a.val = win0_2.index _ 0 * 1024 + 1 * (a.val % 1024); rw [idx2]; show a.val = (4 * (a.val / 1024) + b.val / 1024) / 4 * 1024 + 1 * (a.val % 1024); omega
  | ⟨1, _⟩ => show b.val = win0_2.index _ 1 * 1024 + 1 * (b.val % 1024); rw [idx2]; show b.val = (4 * (a.val / 1024) + b.val / 1024) % 4 * 1024 + 1 * (b.val % 1024); omega

end Cert.ScanInIdeal.Prod

namespace Cert.ScanInRefIdeal.Prod

open Cert.ScanInRefIdeal Cert.ScanInRefIdeal.Gen

/-- The reference's entry: one product over the whole axis. -/
theorem result (x : FVec Ideal S4096x1024 .f32) (y : FVec Ideal S1024x4096 .f32) (a : Fin 4096) (b : Fin 4096) :
    Host.dotGeneral dot_S4096x1024_S1024x4096_S4096x4096_1_0_0_1_n_n none x y (ix2 a b) = ∑ k : Fin 1024, x (ix2 a k) * y (ix2 k b) := by
  pointwise

/-- The launch and the reference compute the same array. -/
theorem algebraic : Cert.algebraic_ScanInIdeal_ScanInRefIdeal := by
  intro m g m' g' _ hargs
  refine ⟨fun c => (Cert.ScanInIdeal.Gen.dats m 0 c).arrAt 2 Cert.ScanInIdeal.cfg0.N, Cert.ScanInIdeal.Value.run_blocks m g, (θ_run defs _ _).mono (fun r h c => ?_) (Value.run (F := Ideal) m' g')⟩
  obtain ⟨e0, e1⟩ := hargs c
  obtain ⟨h0, hr⟩ := h c
  refine ⟨h0.trans ?_, hr⟩
  rw [e0, e1]
  funext i
  rw [Cert.Prod.at2 (a := 4096) (b := 4096) i]
  exact (result _ _ _ _).trans ((Cert.ScanInIdeal.Prod.result m c _ _).symm)

/-- The reference ends and leaves its arguments: host operations only, with no semaphore. -/
theorem frame : Cert.quiescent_ScanInRefIdeal := fun m ρ _ =>
  (θ_run defs _ _).mono (fun r h => ⟨fun c => (h c).2, sem_eq_zero_of_no_sems (by decide) r.2⟩) (Value.run (F := Ideal) m ρ)

end Cert.ScanInRefIdeal.Prod

end
-- ==== Proof.Prod.Glu.lean ====
module

public import proofs.«01_k».proof.Defs
public import proofs.«01_k».proof.Proof.Gen.GluIdeal.Value
public import proofs.«01_k».proof.Proof.Gen.GluRefIdeal.Run
public import proofs.«01_k».proof.Proof.Prod.Sums
public import Idealize.ShloMosaic.Lib.Pointwise
public import Idealize.ShloMosaic.Lib.VecWindow
public import Idealize.ShloMosaic.Lib.ValueIdx
public import Idealize.ShloMosaic.Lib.StableHlo.ReadAt
public import Idealize.ShloMosaic.Lib.Tactic

/-! The projection in the gate of the state-space layer: each block that the launch writes is the product's block. -/

@[expose] public section

set_option maxRecDepth 16384

noncomputable section

open Idealize.ShloMosaic Idealize.ShloMosaic.TcCoe Idealize.ShloMosaic.Tactic Idealize.SL.Sem

namespace Cert.GluIdeal.Prod

open Cert.GluIdeal Cert.GluIdeal.Gen
open Cert.Prod (zeros)

/-- A point writes back the product of its two blocks. -/
theorem out_at (x : Vec Ideal S1024x2048 .bf16) (y : Vec Ideal S2048x1024 .bf16) (a b : Fin 1024) :
    out0_2 (F := Ideal) x y (ix2 a b) = (∑ k : Fin 2048, x (ix2 a k) * y (ix2 k b)) := by
  unfold out0_2
  rw [View.canon_unit_zero zeros]
  simp only [View.ld_unit_zero (S := S1024x2048) zeros, View.ld_unit_zero (S := S2048x1024) zeros]
  unfold k0_pay1
  pointwise

variable (m : (ℓ : Loc nD τ sig) → Buf (Elt Ideal) ℓ) (c : Dev nD)

theorem V0 : V m c main_v0 = m ((c : Thread nD τ).loc main_arg0) := by
  show StableHlo.after hostOps0 _ _ = _
  after_reads_simp
  rfl
theorem V1 : V m c main_v1 = m ((c : Thread nD τ).loc main_arg1) := by
  show StableHlo.after hostOps0 _ _ = _
  after_reads_simp
  rfl

/-- The rows. -/
abbrev X : FVec Ideal S4096x2048 .f32 := m ((c : Thread nD τ).loc main_arg0)
/-- The weights. -/
abbrev Y : FVec Ideal S2048x2048 .f32 := m ((c : Thread nD τ).loc main_arg1)

theorem idx0 : ∀ t : Fin grid0.N, win0_0.index t = ![t.val / 2, 0] := by decide +kernel
theorem idx1 : ∀ t : Fin grid0.N, win0_1.index t = ![0, t.val % 2] := by decide +kernel
theorem idx2 : ∀ t : Fin grid0.N, win0_2.index t = ![t.val / 2, t.val % 2] := by decide +kernel
theorem flush : ∀ t : Fin grid0.N, win0_2.flush t = true := by decide +kernel

theorem t_lt (t : Fin cfg0.N) : t.val < 8 := lt_of_lt_of_eq t.isLt N_0

theorem blk0 (t : Fin cfg0.N) (a : Fin 1024) (k : Fin 2048) : (iblk m c 0 t : Vec Ideal S1024x2048 .bf16) (ix2 a k)
    = X m c (ix2 (⟨t.val / 2 * 1024 + a.val, by have := t_lt t; omega⟩ : Fin 4096) k) := by
  rw [X, ← V0 m c]
  unfold iblk
  rw [View.read_apply]
  refine congrArg (V m c main_v0) (funext fun x => Fin.ext ?_)
  match x with
  | ⟨0, _⟩ => show win0_0.index t 0 * 1024 + 1 * a.val = _; rw [idx0]; show t.val / 2 * 1024 + 1 * a.val = t.val / 2 * 1024 + a.val; omega
  | ⟨1, _⟩ => show win0_0.index t 1 * 2048 + 1 * k.val = _; rw [idx0]; show 0 * 2048 + 1 * k.val = k.val; omega

theorem blk1 (t : Fin cfg0.N) (k : Fin 2048) (b : Fin 1024) : (iblk m c 1 t : Vec Ideal S2048x1024 .bf16) (ix2 k b)
    = Y m c (ix2 k (⟨t.val % 2 * 1024 + b.val, by have := t_lt t; omega⟩ : Fin 2048)) := by
  rw [Y, ← V1 m c]
  unfold iblk
  rw [View.read_apply]
  refine congrArg (V m c main_v1) (funext fun x => Fin.ext ?_)
  match x with
  | ⟨0, _⟩ => show win0_1.index t 0 * 2048 + 1 * k.val = _; rw [idx1]; show 0 * 2048 + 1 * k.val = k.val; omega
  | ⟨1, _⟩ => show win0_1.index t 1 * 1024 + 1 * b.val = _; rw [idx1]; show t.val % 2 * 1024 + 1 * b.val = t.val % 2 * 1024 + b.val; omega

/-- The array that the launch leaves. -/
theorem result (a : Fin 4096) (b : Fin 2048) : ((dats m 0 c).arrAt 2 cfg0.N : FVec Ideal S4096x2048 .f32) (ix2 a b)
    = (∑ k : Fin 2048, X m c (ix2 a k) * Y m c (ix2 k b)) := by
  have hN : cfg0.N = 8 := N_0
  have hl : 2 * (a.val / 1024) + b.val / 1024 < cfg0.N := by rw [hN]; omega
  have r := congrFun (Value.blocks2 m c ⟨_, hl⟩ (flush _)) (ix2 (⟨a.val % 1024, Nat.mod_lt _ (by decide)⟩ : Fin 1024) (⟨b.val % 1024, Nat.mod_lt _ (by decide)⟩ : Fin 1024))
  rw [Value.flushed2, View.read_apply] at r
  have ea : (⟨(2 * (a.val / 1024) + b.val / 1024) / 2 * 1024 + a.val % 1024, by omega⟩ : Fin 4096) = a := Fin.ext (by dsimp only; omega)
  have eb : (⟨(2 * (a.val / 1024) + b.val / 1024) % 2 * 1024 + b.val % 1024, by omega⟩ : Fin 2048) = b := Fin.ext (by dsimp only; omega)
  have q := out_at (iblk m c 0 ⟨_, hl⟩) (iblk m c 1 ⟨_, hl⟩) (⟨a.val % 1024, Nat.mod_lt _ (by decide)⟩ : Fin 1024) (⟨b.val % 1024, Nat.mod_lt _ (by decide)⟩ : Fin 1024)
  simp only [blk0, blk1, ea, eb] at q
  refine Eq.trans ?_ (r.trans q)
  refine congrArg ((dats m 0 c).arrAt 2 cfg0.N) (funext fun x => Fin.ext ?_)
  match x with
  | ⟨0, _⟩ => show a.val = win0_2.index _ 0 * 1024 + 1 * (a.val % 1024); rw [idx2]; show a.val = (2 * (a.val / 1024) + b.val / 1024) / 2 * 1024 + 1 * (a.val % 1024); omega
  | ⟨1, _⟩ => show b.val = win0_2.index _ 1 * 1024 + 1 * (b.val % 1024); rw [idx2]; show b.val = (2 * (a.val / 1024) + b.val / 1024) % 2 * 1024 + 1 * (b.val % 1024); omega

end Cert.GluIdeal.Prod

namespace Cert.GluRefIdeal.Prod

open Cert.GluRefIdeal Cert.GluRefIdeal.Gen

/-- The reference's entry: one product over the whole axis. -/
theorem result (x : FVec Ideal S4096x2048 .f32) (y : FVec Ideal S2048x2048 .f32) (a : Fin 4096) (b : Fin 2048) :
    Host.dotGeneral dot_S4096x2048_S2048x2048_S4096x2048_1_0_0_1_n_n none x y (ix2 a b) = ∑ k : Fin 2048, x (ix2 a k) * y (ix2 k b) := by
  pointwise

/-- The launch and the reference compute the same array. -/
theorem algebraic : Cert.algebraic_GluIdeal_GluRefIdeal := by
  intro m g m' g' _ hargs
  refine ⟨fun c => (Cert.GluIdeal.Gen.dats m 0 c).arrAt 2 Cert.GluIdeal.cfg0.N, Cert.GluIdeal.Value.run_blocks m g, (θ_run defs _ _).mono (fun r h c => ?_) (Value.run (F := Ideal) m' g')⟩
  obtain ⟨e0, e1⟩ := hargs c
  obtain ⟨h0, hr⟩ := h c
  refine ⟨h0.trans ?_, hr⟩
  rw [e0, e1]
  funext i
  rw [Cert.Prod.at2 (a := 4096) (b := 2048) i]
  exact (result _ _ _ _).trans ((Cert.GluIdeal.Prod.result m c _ _).symm)

/-- The reference ends and leaves its arguments: host operations only, with no semaphore. -/
theorem frame : Cert.quiescent_GluRefIdeal := fun m ρ _ =>
  (θ_run defs _ _).mono (fun r h => ⟨fun c => (h c).2, sem_eq_zero_of_no_sems (by decide) r.2⟩) (Value.run (F := Ideal) m ρ)

end Cert.GluRefIdeal.Prod

end
-- ==== Proof.Prod.ScanSums.lean ====
module

public import Idealize.ShloMosaic.PureOps
public import Idealize.ShloMosaic.Lib.ValueIdx
public import Idealize.ShloMosaic.Lib.Pointwise

/-! The gradient of the state-space recurrence, written on extended reals: of one group, whose 128 lanes hold the real
parts of 64 states and then their imaginary parts. -/

@[expose] public section

noncomputable section

namespace Cert.Scan.Math

/-- The other part of a lane's state. -/
def other (l : Fin 128) : Fin 128 := ⟨(l.val + 64) % 128, Nat.mod_lt _ (by decide)⟩

theorem other_other (l : Fin 128) : other (other l) = l :=
  Fin.ext (by show ((l.val + 64) % 128 + 64) % 128 = l.val; omega)

/-- The gradient of the state after `k` steps back: `u k` is the gradient that arrives at that step, and a step
multiplies by the conjugate of the coefficient, whose parts are `a` and `b`. -/
def grad (u : ℕ → Fin 128 → EReal) (a b : Fin 128 → EReal) : ℕ → Fin 128 → EReal
  | 0 => fun _ => 0
  | k + 1 => fun l => u k l + grad u a b k l * a l + grad u a b k (other l) * b (other l)

/-- The gradient of a coefficient after `k` steps back: the states `x` times the gradients of what they led to. -/
def acc (u : ℕ → Fin 128 → EReal) (a b : Fin 128 → EReal) (x : ℕ → Fin 128 → EReal) : ℕ → Fin 128 → EReal
  | 0 => fun _ => 0
  | k + 1 => fun l => acc u a b x k l + grad u a b k l * x k l

/-- It is a sum over the steps. -/
theorem acc_eq_sum (u : ℕ → Fin 128 → EReal) (a b : Fin 128 → EReal) (x : ℕ → Fin 128 → EReal) (k : ℕ) (l : Fin 128) :
    acc u a b x k l = ∑ j ∈ Finset.range k, grad u a b j l * x j l := by
  induction k with
  | zero => rfl
  | succ k ih => rw [Finset.sum_range_succ, ← ih]; rfl

open Idealize.ShloMosaic

/-- The position that step `k` back works on. -/
def back (k : ℕ) : Fin 256 := ⟨255 - k, by omega⟩

/-- A group's rows, last position first. -/
def rows (z : (⟨3, ![256, 128, 128]⟩ : Shape).Idx → EReal) (n : Fin 128) : ℕ → Fin 128 → EReal := fun k l => z (ix3 (back k) n l)

/-- The same with the parts of each state exchanged. -/
def rowsSwapped (z : (⟨3, ![256, 128, 128]⟩ : Shape).Idx → EReal) (n : Fin 128) : ℕ → Fin 128 → EReal := fun k l => z (ix3 (back k) n (other l))

/-- The real parts of a group's coefficient, at both parts of a state. -/
def real (z : (⟨2, ![128, 64]⟩ : Shape).Idx → EReal) (n l : Fin 128) : EReal := z (ix2 n (⟨l.val % 64, Nat.mod_lt _ (by decide)⟩ : Fin 64))

/-- The imaginary parts: negative at the real part of a state. -/
def imag (z : (⟨2, ![128, 64]⟩ : Shape).Idx → EReal) (n l : Fin 128) : EReal :=
  if l.val < 64 then -z (ix2 n (⟨l.val % 64, Nat.mod_lt _ (by decide)⟩ : Fin 64)) else z (ix2 n (⟨l.val % 64, Nat.mod_lt _ (by decide)⟩ : Fin 64))

theorem other_mod (l : Fin 128) : (⟨(other l).val % 64, Nat.mod_lt _ (by decide)⟩ : Fin 64) = ⟨l.val % 64, Nat.mod_lt _ (by decide)⟩ :=
  Fin.ext (by show (l.val + 64) % 128 % 64 = l.val % 64; omega)

theorem other_lt (l : Fin 128) : (other l).val < 64 ↔ ¬ l.val < 64 := by
  show (l.val + 64) % 128 < 64 ↔ _
  omega

/-- The real part is the same at both parts of a state. -/
theorem real_other (z : (⟨2, ![128, 64]⟩ : Shape).Idx → EReal) (n l : Fin 128) : real z n (other l) = real z n l := by
  unfold real
  rw [other_mod]

/-- The imaginary part changes its sign. -/
theorem imag_other (z : (⟨2, ![128, 64]⟩ : Shape).Idx → EReal) (n l : Fin 128) : imag z n (other l) = -imag z n l := by
  unfold imag
  rw [other_mod]
  by_cases h : l.val < 64
  · rw [if_neg (fun q => (other_lt l).1 q h), if_pos h, neg_neg]
  · rw [if_pos ((other_lt l).2 h), if_neg h]

/-- The sum for a coefficient, in the order of the positions. -/
theorem acc_eq (u : ℕ → Fin 128 → EReal) (a b : Fin 128 → EReal) (x : ℕ → Fin 128 → EReal) (l : Fin 128) :
    acc u a b x 255 l = ∑ c : Fin 255, x (254 - c.val) l * grad u a b (254 - c.val) l := by
  rw [acc_eq_sum, ← Finset.sum_range_reflect, ← Fin.sum_univ_eq_sum_range (fun j => grad u a b (255 - 1 - j) l * x (255 - 1 - j) l) 255]
  exact Finset.sum_congr rfl fun c _ => mul_comm _ _

end Cert.Scan.Math

end
-- ==== Proof.Prod.ScanStep.lean ====
module

public import proofs.«01_k».proof.Proof.Gen.ScanIdeal.Value
public import proofs.«01_k».proof.Proof.Prod.ScanSums
public import proofs.«01_k».proof.Proof.Prod.Sums
public import Idealize.ShloMosaic.Lib.Pointwise
public import Idealize.ShloMosaic.Lib.VecWindow
public import Idealize.ShloMosaic.Lib.ValueIdx
public import Idealize.ShloMosaic.Lib.KernelVsHost
public import Idealize.ShloMosaic.Lib.StableHlo.ReadAt
public import Idealize.ShloMosaic.Lib.Tactic

/-! The gradient of the state-space recurrence: what one step of the kernel's loop computes, entry by entry. -/

@[expose] public section

set_option maxRecDepth 16384

noncomputable section

open Idealize.ShloMosaic Idealize.ShloMosaic.TcCoe Idealize.ShloMosaic.Tactic Idealize.SL.Sem

namespace Cert.ScanIdeal.Prod

open Cert.ScanIdeal Cert.ScanIdeal.Gen Cert.Scan.Math

/-- A rotation by 64 lanes reads the other part. -/
theorem rotate_at (x : FVec Ideal S64x128 .f32) (g : Fin 64) (l : Fin 128) :
    dynamicRotate 1 64#32 none x rotates_S64x128_d1 (ix2 g l) = x (ix2 g (other l)) := by
  refine dynamicRotate_apply 1 64#32 x rotates_S64x128_d1 _ _ fun e => ?_
  match e with
  | ⟨0, _⟩ => rfl
  | ⟨1, _⟩ => show (l.val + 64) % 128 = (l.val + 128 - 64 % 128) % 128; omega

/-- The zeros. -/
theorem zero_at (g : Fin 64) (l : Fin 128) : k0_pay3 (F := Ideal) (ix2 g l) = 0 := by
  unfold k0_pay3
  pointwise

theorem zero_row_at (g : Fin 64) (l : Fin 128) : k0_pay4 (F := Ideal) (ix3 0 g l) = 0 := by
  unfold k0_pay4 k0_pay3
  pointwise

variable (a b G H : FVec Ideal S64x128 .f32) (d : Vec Ideal S1x64x128 .f32) (g : Fin 64) (l : Fin 128)

/-- The next gradient. -/
theorem grad_at : k0_pay7 a b G H d (ix2 g l) = d (ix3 0 g l) + G (ix2 g l) * a (ix2 g l) - H (ix2 g l) * b (ix2 g l) := by
  unfold k0_pay7 k0_pay6 k0_pay1 k0_pay2
  pointwise

/-- The row that is stored is the next gradient. -/
theorem row_at : k0_pay9 a b G H d (ix3 0 g l) = d (ix3 0 g l) + G (ix2 g l) * a (ix2 g l) - H (ix2 g l) * b (ix2 g l) := by
  unfold k0_pay9 k0_pay7 k0_pay6 k0_pay1 k0_pay2
  pointwise

theorem coef_at : k0_pay2 b (ix2 g l) = b (ix2 g l) := by
  unfold k0_pay2
  pointwise

theorem arrive_at : k0_pay6 d (ix2 g l) = d (ix3 0 g l) := by
  unfold k0_pay6
  pointwise

theorem state_at : k0_pay5 d (ix2 g l) = d (ix3 0 g l) := by
  unfold k0_pay5
  pointwise

/-- The next gradient with its parts exchanged. -/
theorem swapped_at : k0_pay8 a b G H d (ix2 g l)
    = d (ix3 0 g (other l)) + H (ix2 g l) * a (ix2 g l) - G (ix2 g l) * b (ix2 g (other l)) := by
  have e1 := (rotate_at (k0_pay6 d) g l).trans (arrive_at d g (other l))
  have e2 := (rotate_at (k0_pay2 b) g l).trans (coef_at b g (other l))
  rw [← e1, ← e2]
  unfold k0_pay8 k0_pay1
  pointwise

/-- The next sum for the coefficient's real part. -/
theorem sum_at : k0_pay10 G H d (ix2 g l) = H (ix2 g l) + G (ix2 g l) * d (ix3 0 g l) := by
  unfold k0_pay10 k0_pay5
  pointwise

/-- The next sum for the coefficient's imaginary part. -/
theorem sum_swapped_at : k0_pay11 G H d (ix2 g l) = H (ix2 g l) + G (ix2 g l) * d (ix3 0 g (other l)) := by
  have e1 := (rotate_at (k0_pay5 d) g l).trans (state_at d g (other l))
  rw [← e1]
  unfold k0_pay11
  pointwise

end Cert.ScanIdeal.Prod

end
-- ==== Proof.Prod.ScanLoop.lean ====
module

public import proofs.«01_k».proof.Proof.Prod.ScanStep

/-! The gradient of the state-space recurrence: what the kernel's loop carries and what it has stored after each trip. -/

@[expose] public section

set_option maxRecDepth 16384

noncomputable section

open Idealize.ShloMosaic Idealize.ShloMosaic.TcCoe Idealize.ShloMosaic.Tactic Idealize.SL.Sem

namespace Cert.ScanIdeal.Prod

open Cert.ScanIdeal Cert.ScanIdeal.Gen Cert.Scan.Math
open Cert.Prod (zeros)

/-- What a row stored last holds. -/
theorem stored (off : Fin 3 → ℕ) (inb : ∀ a, off a + S1x64x128.size a ≤ S256x64x128.size a) (r : Fin 256) (e : off = ![r.val, 0, 0])
    (w : FVec Ideal S1x64x128 .f32) (L : List (View.Piece (Elt Ideal) S256x64x128 .f32)) (g : Fin 64) (l : Fin 128) :
    View.canon ((⟨Rect.unit (s := S256x64x128) off S1x64x128.size inb, w⟩ : View.Piece (Elt Ideal) S256x64x128 .f32) :: L) (ix3 r g l) = w (ix3 0 g l) := by
  subst e
  have p : (Rect.unit (s := S256x64x128) ![r.val, 0, 0] S1x64x128.size inb).emb (ix3 (0 : Fin 1) g l) = ix3 r g l := by
    funext x
    refine Fin.ext ?_
    fin_cases x
    · show r.val + 1 * 0 = r.val; omega
    · show 0 + 1 * g.val = g.val; omega
    · show 0 + 1 * l.val = l.val; omega
  rw [← p]
  exact View.canon_cons_emb (Rect.unit (s := S256x64x128) ![r.val, 0, 0] S1x64x128.size inb) w L (ix3 (0 : Fin 1) g l)

/-- Every other row holds what it held. -/
theorem kept (off : Fin 3 → ℕ) (inb : ∀ a, off a + S1x64x128.size a ≤ S256x64x128.size a) (r s : Fin 256) (e : off = ![s.val, 0, 0]) (ne : r ≠ s)
    (w : FVec Ideal S1x64x128 .f32) (L : List (View.Piece (Elt Ideal) S256x64x128 .f32)) (g : Fin 64) (l : Fin 128) :
    View.canon ((⟨Rect.unit (s := S256x64x128) off S1x64x128.size inb, w⟩ : View.Piece (Elt Ideal) S256x64x128 .f32) :: L) (ix3 r g l) = View.canon L (ix3 r g l) := by
  subst e
  refine View.canon_cons_of_not_mem _ L fun hm => ne ?_
  obtain ⟨j, hj, he⟩ := (LoadRect.mem_set _).mp hm (0 : Fin 3)
  have hj1 : j < 1 := hj
  have he' : r.val = s.val + 1 * j := he
  exact Fin.ext (by omega)

theorem trips : k0_t1_loop.trips = 255 := by decide +kernel

/-- A load of a whole coefficient. -/
theorem whole_at (n : Memref sig .tc .vmem S64x128 .f32) (hn : n.IsWhole) (z : Vec Ideal S64x128 .f32) :
    View.readAt (Elt Ideal) n.view (Rect.unit (s := S64x128) ![0, 0] S64x128.size inb_S64x128_S64x128_0_0).toLoadRect (hn.unread z) = z := by
  refine (congrArg (fun f => View.ld f (Rect.unit (s := S64x128) ![0, 0] S64x128.size inb_S64x128_S64x128_0_0)) (hn.read_unread z)).trans ?_
  exact View.ld_unit_zero (S := S64x128) zeros _ z

/-- The row that trip `k` loads. -/
def row (n : Memref sig .tc .vmem S256x64x128 .f32) (hn : n.IsWhole) (z : Vec Ideal S256x64x128 .f32) (k : Fin k0_t1_loop.trips) : Vec Ideal S1x64x128 .f32 :=
  View.readAt (Elt Ideal) n.view (Rect.unit (s := S256x64x128) (k0_off1 k) S1x64x128.size (k0_off1_inb k)).toLoadRect (hn.unread z)

/-- The row of a block that a trip loads. -/
theorem load_at (n : Memref sig .tc .vmem S256x64x128 .f32) (hn : n.IsWhole) (z : Vec Ideal S256x64x128 .f32) (k : Fin k0_t1_loop.trips) (g : Fin 64) (l : Fin 128) : row n hn z k (ix3 0 g l)
      = z (ix3 (back k.val) g l) := by
  have e : row n hn z k = View.ld z (Rect.unit (s := S256x64x128) (k0_off1 k) S1x64x128.size (k0_off1_inb k)) :=
    congrArg (fun f => View.ld f (Rect.unit (s := S256x64x128) (k0_off1 k) S1x64x128.size (k0_off1_inb k))) (hn.read_unread z)
  rw [e]
  refine congrArg z (funext fun q => Fin.ext ?_)
  match q with
  | ⟨0, _⟩ => show k0_off1 k 0 + 1 * 0 = 255 - k.val; rw [k0_off1_eq]; rfl
  | ⟨1, _⟩ => show k0_off1 k 1 + 1 * g.val = g.val; rw [k0_off1_eq]; show 0 + 1 * g.val = g.val; omega
  | ⟨2, _⟩ => show k0_off1 k 2 + 1 * l.val = l.val; rw [k0_off1_eq]; show 0 + 1 * l.val = l.val; omega

variable (c : Dev nD) (i : grid0.Coords) (arg1 : Memref sig .tc .vmem S256x64x128 .f32) (h1 : arg1.IsWhole) (arg2 : Memref sig .tc .vmem S256x64x128 .f32) (h2 : arg2.IsWhole) (arg3 : Memref sig .tc .vmem S64x128 .f32) (h3 : arg3.IsWhole) (arg4 : Memref sig .tc .vmem S64x128 .f32) (h4 : arg4.IsWhole) (arg5 : Memref sig .tc .vmem S256x64x128 .f32) (h5 : arg5.IsWhole) (arg6 : Memref sig .tc .vmem S64x128 .f32) (h6 : arg6.IsWhole) (arg7 : Memref sig .tc .vmem S64x128 .f32) (h7 : arg7.IsWhole)
variable (x y : Vec Ideal S256x64x128 .f32) (a b : Vec Ideal S64x128 .f32)

/-- What the loop carries before trip `k`, and what it has stored. -/
abbrev st (k : ℕ) := st_k0_t1 (F := Ideal) Variants.none c none i arg1 h1 arg2 h2 arg3 h3 arg4 h4 arg5 h5 arg6 h6 arg7 h7 a b (h1.unread x) (h2.unread y) (k0_pay3, k0_pay3, k0_pay3, k0_pay3) k

/-- One trip. -/
theorem st_next (k : Fin k0_t1_loop.trips) : st c i arg1 h1 arg2 h2 arg3 h3 arg4 h4 arg5 h5 arg6 h6 arg7 h7 x y a b (k.val + 1)
    = ((k0_pay7 a b (st c i arg1 h1 arg2 h2 arg3 h3 arg4 h4 arg5 h5 arg6 h6 arg7 h7 x y a b k.val).1.1 (st c i arg1 h1 arg2 h2 arg3 h3 arg4 h4 arg5 h5 arg6 h6 arg7 h7 x y a b k.val).1.2.1 (row arg1 h1 x k),
        k0_pay8 a b (st c i arg1 h1 arg2 h2 arg3 h3 arg4 h4 arg5 h5 arg6 h6 arg7 h7 x y a b k.val).1.1 (st c i arg1 h1 arg2 h2 arg3 h3 arg4 h4 arg5 h5 arg6 h6 arg7 h7 x y a b k.val).1.2.1 (row arg1 h1 x k),
        k0_pay10 (st c i arg1 h1 arg2 h2 arg3 h3 arg4 h4 arg5 h5 arg6 h6 arg7 h7 x y a b k.val).1.1 (st c i arg1 h1 arg2 h2 arg3 h3 arg4 h4 arg5 h5 arg6 h6 arg7 h7 x y a b k.val).1.2.2.1 (row arg2 h2 y k),
        k0_pay11 (st c i arg1 h1 arg2 h2 arg3 h3 arg4 h4 arg5 h5 arg6 h6 arg7 h7 x y a b k.val).1.1 (st c i arg1 h1 arg2 h2 arg3 h3 arg4 h4 arg5 h5 arg6 h6 arg7 h7 x y a b k.val).1.2.2.2 (row arg2 h2 y k)),
       ⟨Rect.unit (s := S256x64x128) (k0_off2 k) S1x64x128.size (k0_off2_inb k),
        k0_pay9 a b (st c i arg1 h1 arg2 h2 arg3 h3 arg4 h4 arg5 h5 arg6 h6 arg7 h7 x y a b k.val).1.1 (st c i arg1 h1 arg2 h2 arg3 h3 arg4 h4 arg5 h5 arg6 h6 arg7 h7 x y a b k.val).1.2.1 (row arg1 h1 x k)⟩ :: (st c i arg1 h1 arg2 h2 arg3 h3 arg4 h4 arg5 h5 arg6 h6 arg7 h7 x y a b k.val).2) := by
  refine (st_k0_t1_succ Variants.none c none i arg1 h1 arg2 h2 arg3 h3 arg4 h4 arg5 h5 arg6 h6 arg7 h7 a b (h1.unread x) (h2.unread y) _ k).trans ?_
  unfold tripR_k0_t1 tripL_k0_t1 trip_k0_t1
  rfl

/-- The gradients that arrive at a group's states, last step first. -/
def arrive (z : Vec Ideal S256x64x128 .f32) (g : Fin 64) : ℕ → Fin 128 → EReal := fun k l => z (ix3 (back k) g l)

/-- The same with the parts of each state exchanged. -/
def swapped (z : Vec Ideal S256x64x128 .f32) (g : Fin 64) : ℕ → Fin 128 → EReal := fun k l => z (ix3 (back k) g (other l))

/-- A group's coefficient. -/
def coef (z : Vec Ideal S64x128 .f32) (g : Fin 64) : Fin 128 → EReal := fun l => z (ix2 g l)

/-- What the carried arrays and the stored rows hold before trip `k`. -/
structure Inv (k : ℕ) : Prop where
  gradient : ∀ g l, (st c i arg1 h1 arg2 h2 arg3 h3 arg4 h4 arg5 h5 arg6 h6 arg7 h7 x y a b k).1.1 (ix2 g l) = grad (arrive x g) (coef a g) (coef b g) k l
  exchanged : ∀ g l, (st c i arg1 h1 arg2 h2 arg3 h3 arg4 h4 arg5 h5 arg6 h6 arg7 h7 x y a b k).1.2.1 (ix2 g l) = grad (arrive x g) (coef a g) (coef b g) k (other l)
  real : ∀ g l, (st c i arg1 h1 arg2 h2 arg3 h3 arg4 h4 arg5 h5 arg6 h6 arg7 h7 x y a b k).1.2.2.1 (ix2 g l) = acc (arrive x g) (coef a g) (coef b g) (arrive y g) k l
  imag : ∀ g l, (st c i arg1 h1 arg2 h2 arg3 h3 arg4 h4 arg5 h5 arg6 h6 arg7 h7 x y a b k).1.2.2.2 (ix2 g l) = acc (arrive x g) (coef a g) (coef b g) (swapped y g) k l
  rows : ∀ (r : Fin 256) g l, 255 - k ≤ r.val → View.canon ((st c i arg1 h1 arg2 h2 arg3 h3 arg4 h4 arg5 h5 arg6 h6 arg7 h7 x y a b k).2
      ++ [(⟨Rect.unit (s := S256x64x128) ![255, 0, 0] S1x64x128.size inb_S256x64x128_S1x64x128_255_0_0, k0_pay4 (F := Ideal)⟩ : View.Piece (Elt Ideal) S256x64x128 .f32)]) (ix3 r g l)
        = grad (arrive x g) (coef a g) (coef b g) (255 - r.val) l

variable (ha : ∀ g l, a (ix2 g (other l)) = a (ix2 g l)) (hb : ∀ g l, b (ix2 g (other l)) = -b (ix2 g l))

include ha hb in
/-- They hold it before every trip and after the last. -/
theorem inv : ∀ k, k ≤ 255 → Inv c i arg1 h1 arg2 h2 arg3 h3 arg4 h4 arg5 h5 arg6 h6 arg7 h7 x y a b k
  | 0, _ => by
    refine ⟨fun g l => zero_at g l, fun g l => zero_at g l, fun g l => zero_at g l, fun g l => zero_at g l, fun r g l hr => ?_⟩
    have er : r.val = 255 := by omega
    refine (stored _ _ r (by rw [er]) _ [] g l).trans ?_
    rw [er]
    exact zero_row_at g l
  | k + 1, hk => by
    have ih := inv k (by omega)
    have hk' : k < k0_t1_loop.trips := by rw [trips]; omega
    have e := st_next c i arg1 h1 arg2 h2 arg3 h3 arg4 h4 arg5 h5 arg6 h6 arg7 h7 x y a b ⟨k, hk'⟩
    have step : ∀ g l, x (ix3 (back k) g l) + grad (arrive x g) (coef a g) (coef b g) k l * a (ix2 g l)
        - grad (arrive x g) (coef a g) (coef b g) k (other l) * b (ix2 g l) = grad (arrive x g) (coef a g) (coef b g) (k + 1) l := fun g l => by
      show _ = arrive x g k l + grad (arrive x g) (coef a g) (coef b g) k l * a (ix2 g l)
        + grad (arrive x g) (coef a g) (coef b g) k (other l) * b (ix2 g (other l))
      rw [hb, mul_neg, ← sub_eq_add_neg]
      rfl
    dsimp only at e
    refine ⟨fun g l => ?_, fun g l => ?_, fun g l => ?_, fun g l => ?_, fun r g l hr => ?_⟩
    · rw [e]
      refine (grad_at _ _ _ _ _ g l).trans ?_
      rw [load_at, ih.gradient, ih.exchanged]
      exact step g l
    · rw [e]
      refine (swapped_at _ _ _ _ _ g l).trans ?_
      rw [load_at, ih.gradient, ih.exchanged, ← step g (other l), other_other, ha]
    · rw [e]
      refine (sum_at _ _ _ g l).trans ?_
      rw [load_at, ih.gradient, ih.real]
      rfl
    · rw [e]
      refine (sum_swapped_at _ _ _ g l).trans ?_
      rw [load_at, ih.gradient, ih.imag]
      rfl
    · rw [e]
      have off : k0_off2 ⟨k, hk'⟩ = ![254 - k, 0, 0] := k0_off2_eq _
      by_cases h : r.val = 254 - k
      · refine (stored _ _ r (by rw [h]; exact off) _ _ g l).trans ?_
        refine (row_at _ _ _ _ _ g l).trans ?_
        rw [load_at, ih.gradient, ih.exchanged, step g l, show 255 - r.val = k + 1 by omega]
      · refine (kept _ _ r ⟨254 - k, by omega⟩ off (fun q => h (congrArg Fin.val q)) _ _ g l).trans ?_
        exact ih.rows r g l (by omega)

include ha hb in
/-- A point writes back the gradients of its groups' states. -/
theorem grads_at (r : Fin 256) (g : Fin 64) (l : Fin 128) : out0_A_4 (F := Ideal) c i arg1 h1 arg2 h2 arg3 h3 arg4 h4 arg5 h5 arg6 h6 arg7 h7 x y a b (ix3 r g l)
    = grad (arrive x g) (coef a g) (coef b g) (255 - r.val) l := by
  unfold out0_A_4 kernelRun0_A
  dsimp only
  rw [View.read_writes_junk_apply_eq_canon]
  erw [whole_at, whole_at]
  rw [show Scf.trips 0#32 (Scalar.addi 0#32 255#32) 1#32 = 255 from trips]
  exact (inv c i arg1 h1 arg2 h2 arg3 h3 arg4 h4 arg5 h5 arg6 h6 arg7 h7 x y a b ha hb 255 le_rfl).rows r g l (by omega)

include ha hb in
/-- … the gradients of the coefficients' real parts. -/
theorem reals_at (g : Fin 64) (l : Fin 128) : out0_A_5 (F := Ideal) c i arg1 h1 arg2 h2 arg3 h3 arg4 h4 arg5 h5 arg6 h6 arg7 h7 x y a b (ix2 g l)
    = acc (arrive x g) (coef a g) (coef b g) (arrive y g) 255 l := by
  unfold out0_A_5 kernelRun0_A
  dsimp only
  rw [View.read_writes_junk_eq_canon]
  rw [View.canon_unit_zero zeros]
  erw [whole_at, whole_at]
  rw [show Scf.trips 0#32 (Scalar.addi 0#32 255#32) 1#32 = 255 from trips]
  exact (inv c i arg1 h1 arg2 h2 arg3 h3 arg4 h4 arg5 h5 arg6 h6 arg7 h7 x y a b ha hb 255 le_rfl).real g l

include ha hb in
/-- … and of their imaginary parts. -/
theorem imags_at (g : Fin 64) (l : Fin 128) : out0_A_6 (F := Ideal) c i arg1 h1 arg2 h2 arg3 h3 arg4 h4 arg5 h5 arg6 h6 arg7 h7 x y a b (ix2 g l)
    = acc (arrive x g) (coef a g) (coef b g) (swapped y g) 255 l := by
  unfold out0_A_6 kernelRun0_A
  dsimp only
  rw [View.read_writes_junk_eq_canon]
  rw [View.canon_unit_zero zeros]
  erw [whole_at, whole_at]
  rw [show Scf.trips 0#32 (Scalar.addi 0#32 255#32) 1#32 = 255 from trips]
  exact (inv c i arg1 h1 arg2 h2 arg3 h3 arg4 h4 arg5 h5 arg6 h6 arg7 h7 x y a b ha hb 255 le_rfl).imag g l

end Cert.ScanIdeal.Prod

end
-- ==== Proof.Prod.ScanArrays.lean ====
module

public import proofs.«01_k».proof.Proof.Prod.ScanLoop

/-! The gradient of the state-space recurrence: the arrays that the launch leaves, entry by entry. -/

@[expose] public section

set_option maxRecDepth 16384

noncomputable section

open Idealize.ShloMosaic Idealize.ShloMosaic.TcCoe Idealize.ShloMosaic.Tactic Idealize.SL.Sem

namespace Cert.ScanIdeal.Prod

open Cert.ScanIdeal Cert.ScanIdeal.Gen Cert.Scan.Math

/-- Two halves side by side. -/
theorem halves_at (x y : FVec Ideal S128x64 .f32) (h) (n l : Fin 128) :
    (concatenate S128x128 1 [⟨S128x64, x⟩, ⟨S128x64, y⟩] h : FVec Ideal S128x128 .f32) (ix2 n l)
      = if l.val < 64 then x (ix2 n (⟨l.val % 64, Nat.mod_lt _ (by decide)⟩ : Fin 64)) else y (ix2 n (⟨l.val % 64, Nat.mod_lt _ (by decide)⟩ : Fin 64)) := by
  pointwise
  by_cases h : l.val < 64
  · rw [dif_pos h, if_pos h]
    exact congrArg x (congrArg (ix2 n) (Fin.ext (by show l.val = l.val % 64; omega)))
  · rw [dif_neg h, if_neg h]
    exact congrArg y (congrArg (ix2 n) (Fin.ext (by show l.val - 64 = l.val % 64; omega)))

variable (m : (ℓ : Loc nD τ sig) → Buf (Elt Ideal) ℓ) (c : Dev nD)

/-- The gradients that arrive. -/
abbrev D : FVec Ideal S256x128x128 .f32 := m ((c : Thread nD τ).loc main_arg0)
/-- The states. -/
abbrev X : FVec Ideal S256x128x128 .f32 := m ((c : Thread nD τ).loc main_arg1)
/-- The coefficients' real parts. -/
abbrev Re : FVec Ideal S128x64 .f32 := m ((c : Thread nD τ).loc main_arg2)
/-- The coefficients' imaginary parts. -/
abbrev Im : FVec Ideal S128x64 .f32 := m ((c : Thread nD τ).loc main_arg3)

theorem V0 : V m c main_v0 = (concatenate S128x128 1 [⟨S128x64, Re m c⟩, ⟨S128x64, Re m c⟩] concatenates_S128x64_S128x64_S128x128_d1 : FVec Ideal S128x128 .f32) := by
  show StableHlo.after hostOps0 _ _ = _
  after_reads_simp
  rfl
theorem V2 : V m c main_v2 = (concatenate S128x128 1 [⟨S128x64, (Host.negf (Im m c) : FVec Ideal S128x64 .f32)⟩, ⟨S128x64, Im m c⟩] concatenates_S128x64_S128x64_S128x128_d1 : FVec Ideal S128x128 .f32) := by
  show StableHlo.after hostOps0 _ _ = _
  after_reads_simp
  rfl
theorem real_at (n l : Fin 128) : (V m c main_v0 : FVec Ideal S128x128 .f32) (ix2 n l) = real (Re m c) n l := by
  rw [V0, halves_at]
  exact ite_self _
theorem imag_at (n l : Fin 128) : (V m c main_v2 : FVec Ideal S128x128 .f32) (ix2 n l) = imag (Im m c) n l := by
  rw [V2, halves_at]
  rfl

theorem idx0 : ∀ t : Fin grid0.N, win0_0.index t = ![0, t.val, 0] := by decide +kernel
theorem idx1 : ∀ t : Fin grid0.N, win0_1.index t = ![0, t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![0, t.val, 0] := by decide +kernel
theorem idx5 : ∀ t : Fin grid0.N, win0_5.index t = ![t.val, 0] := by decide +kernel
theorem idx6 : ∀ t : Fin grid0.N, win0_6.index t = ![t.val, 0] := by decide +kernel
theorem flush4 : ∀ t : Fin grid0.N, win0_4.flush t = true := by decide +kernel
theorem flush5 : ∀ t : Fin grid0.N, win0_5.flush t = true := by decide +kernel
theorem flush6 : ∀ t : Fin grid0.N, win0_6.flush t = true := by decide +kernel

theorem t_lt (t : Fin cfg0.N) : t.val < 2 := lt_of_lt_of_eq t.isLt N_0

/-- The group that a point's row works on. -/
def group (t : Fin cfg0.N) (g : Fin 64) : Fin 128 := ⟨t.val * 64 + g.val, by have := t_lt t; omega⟩

theorem blk0 (t : Fin cfg0.N) (r : Fin 256) (g : Fin 64) (l : Fin 128) : (iblk m c 0 t : Vec Ideal S256x64x128 .f32) (ix3 r g l) = D m c (ix3 r (group t g) l) := by
  rw [D, ← V_main_arg0 m c]
  unfold iblk
  rw [View.read_apply]
  refine congrArg (V m c main_arg0) (funext fun x => Fin.ext ?_)
  match x with
  | ⟨0, _⟩ => show win0_0.index t 0 * 256 + 1 * r.val = _; rw [idx0]; show 0 * 256 + 1 * r.val = r.val; omega
  | ⟨1, _⟩ => show win0_0.index t 1 * 64 + 1 * g.val = _; rw [idx0]; show t.val * 64 + 1 * g.val = t.val * 64 + g.val; omega
  | ⟨2, _⟩ => show win0_0.index t 2 * 128 + 1 * l.val = _; rw [idx0]; show 0 * 128 + 1 * l.val = l.val; omega

theorem blk1 (t : Fin cfg0.N) (r : Fin 256) (g : Fin 64) (l : Fin 128) : (iblk m c 1 t : Vec Ideal S256x64x128 .f32) (ix3 r g l) = X m c (ix3 r (group t g) l) := by
  rw [X, ← V_main_arg1 m c]
  unfold iblk
  rw [View.read_apply]
  refine congrArg (V m c main_arg1) (funext fun x => Fin.ext ?_)
  match x with
  | ⟨0, _⟩ => show win0_1.index t 0 * 256 + 1 * r.val = _; rw [idx1]; show 0 * 256 + 1 * r.val = r.val; omega
  | ⟨1, _⟩ => show win0_1.index t 1 * 64 + 1 * g.val = _; rw [idx1]; show t.val * 64 + 1 * g.val = t.val * 64 + g.val; omega
  | ⟨2, _⟩ => show win0_1.index t 2 * 128 + 1 * l.val = _; rw [idx1]; show 0 * 128 + 1 * l.val = l.val; omega

theorem blk2 (t : Fin cfg0.N) (g : Fin 64) (l : Fin 128) : (iblk m c 2 t : Vec Ideal S64x128 .f32) (ix2 g l) = real (Re m c) (group t g) l := by
  rw [← real_at]
  unfold iblk
  rw [View.read_apply]
  refine congrArg (V m c main_v0) (funext fun x => Fin.ext ?_)
  match x with
  | ⟨0, _⟩ => show win0_2.index t 0 * 64 + 1 * g.val = _; rw [idx2]; show t.val * 64 + 1 * g.val = t.val * 64 + g.val; omega
  | ⟨1, _⟩ => show win0_2.index t 1 * 128 + 1 * l.val = _; rw [idx2]; show 0 * 128 + 1 * l.val = l.val; omega

theorem blk3 (t : Fin cfg0.N) (g : Fin 64) (l : Fin 128) : (iblk m c 3 t : Vec Ideal S64x128 .f32) (ix2 g l) = imag (Im m c) (group t g) l := by
  rw [← imag_at]
  unfold iblk
  rw [View.read_apply]
  refine congrArg (V m c main_v2) (funext fun x => Fin.ext ?_)
  match x with
  | ⟨0, _⟩ => show win0_3.index t 0 * 64 + 1 * g.val = _; rw [idx3]; show t.val * 64 + 1 * g.val = t.val * 64 + g.val; omega
  | ⟨1, _⟩ => show win0_3.index t 1 * 128 + 1 * l.val = _; rw [idx3]; show 0 * 128 + 1 * l.val = l.val; omega

theorem real_same (t : Fin cfg0.N) (g : Fin 64) (l : Fin 128) : (iblk m c 2 t : Vec Ideal S64x128 .f32) (ix2 g (other l)) = (iblk m c 2 t : Vec Ideal S64x128 .f32) (ix2 g l) := by
  rw [blk2, blk2, real_other]

/-- The imaginary parts that a point reads. -/
abbrev imags (t : Fin cfg0.N) : Vec Ideal S64x128 .f32 := iblk m c 3 t

theorem imag_sign (t : Fin cfg0.N) (g : Fin 64) (l : Fin 128) : imags m c t (ix2 g (other l)) = -imags m c t (ix2 g l) := by
  rw [imags, blk3, blk3, imag_other]

theorem arrive0 (t : Fin cfg0.N) (g : Fin 64) : arrive (iblk m c 0 t) g = rows (D m c) (group t g) := funext fun k => funext fun l => blk0 m c t _ g l
theorem arrive1 (t : Fin cfg0.N) (g : Fin 64) : arrive (iblk m c 1 t) g = rows (X m c) (group t g) := funext fun k => funext fun l => blk1 m c t _ g l
theorem swapped1 (t : Fin cfg0.N) (g : Fin 64) : swapped (iblk m c 1 t) g = rowsSwapped (X m c) (group t g) := funext fun k => funext fun l => blk1 m c t _ g _
theorem coef2 (t : Fin cfg0.N) (g : Fin 64) : coef (iblk m c 2 t) g = real (Re m c) (group t g) := funext fun l => blk2 m c t g l
theorem coef3 (t : Fin cfg0.N) (g : Fin 64) : coef (iblk m c 3 t) g = imag (Im m c) (group t g) := funext fun l => blk3 m c t g l

/-- The point that works on a group, and its row there. -/
def point (n : Fin 128) : Fin cfg0.N := ⟨n.val / 64, by have hN : cfg0.N = 2 := N_0; rw [hN]; omega⟩
def place (n : Fin 128) : Fin 64 := ⟨n.val % 64, Nat.mod_lt _ (by decide)⟩
theorem group_at (n : Fin 128) : group (point n) (place n) = n := Fin.ext (by show n.val / 64 * 64 + n.val % 64 = n.val; omega)

/-- The gradients of the states that the launch leaves. -/
theorem result4 (r : Fin 256) (n l : Fin 128) : ((dats m 0 c).arrAt 4 cfg0.N : FVec Ideal S256x128x128 .f32) (ix3 r n l)
    = grad (rows (D m c) n) (real (Re m c) n) (imag (Im m c) n) (255 - r.val) l := by
  have w := congrFun (Value.blocks4 m c (point n) (flush4 _)) (ix3 r (place n) l)
  rw [Value.flushed4_A, View.read_apply] at w
  have q := grads_at c (grid0.coords (point n)) (ms0_0 (point n)) (hs0_0 (point n)) (ms0_1 (point n)) (hs0_1 (point n)) (ms0_2 (point n)) (hs0_2 (point n)) (ms0_3 (point n)) (hs0_3 (point n)) (ms0_4 (point n)) (hs0_4 (point n)) (ms0_5 (point n)) (hs0_5 (point n)) (ms0_6 (point n)) (hs0_6 (point n))
    (iblk m c 0 (point n)) (iblk m c 1 (point n)) (iblk m c 2 (point n)) (iblk m c 3 (point n)) (real_same m c (point n)) (imag_sign m c (point n)) r (place n) l
  rw [arrive0, coef2, coef3, group_at] at q
  refine Eq.trans ?_ (w.trans q)
  refine congrArg ((dats m 0 c).arrAt 4 cfg0.N) (funext fun x => Fin.ext ?_)
  match x with
  | ⟨0, _⟩ => show r.val = win0_4.index _ 0 * 256 + 1 * r.val; rw [idx4]; show r.val = 0 * 256 + 1 * r.val; omega
  | ⟨1, _⟩ => show n.val = win0_4.index _ 1 * 64 + 1 * (n.val % 64); rw [idx4]; show n.val = n.val / 64 * 64 + 1 * (n.val % 64); omega
  | ⟨2, _⟩ => show l.val = win0_4.index _ 2 * 128 + 1 * l.val; rw [idx4]; show l.val = 0 * 128 + 1 * l.val; omega

/-- The gradients of the coefficients' real parts that it leaves. -/
theorem result5 (n l : Fin 128) : ((dats m 0 c).arrAt 5 cfg0.N : FVec Ideal S128x128 .f32) (ix2 n l)
    = acc (rows (D m c) n) (real (Re m c) n) (imag (Im m c) n) (rows (X m c) n) 255 l := by
  have w := congrFun (Value.blocks5 m c (point n) (flush5 _)) (ix2 (place n) l)
  rw [Value.flushed5_A, View.read_apply] at w
  have q := reals_at c (grid0.coords (point n)) (ms0_0 (point n)) (hs0_0 (point n)) (ms0_1 (point n)) (hs0_1 (point n)) (ms0_2 (point n)) (hs0_2 (point n)) (ms0_3 (point n)) (hs0_3 (point n)) (ms0_4 (point n)) (hs0_4 (point n)) (ms0_5 (point n)) (hs0_5 (point n)) (ms0_6 (point n)) (hs0_6 (point n))
    (iblk m c 0 (point n)) (iblk m c 1 (point n)) (iblk m c 2 (point n)) (iblk m c 3 (point n)) (real_same m c (point n)) (imag_sign m c (point n)) (place n) l
  rw [arrive0, arrive1, coef2, coef3, group_at] at q
  refine Eq.trans ?_ (w.trans q)
  refine congrArg ((dats m 0 c).arrAt 5 cfg0.N) (funext fun x => Fin.ext ?_)
  match x with
  | ⟨0, _⟩ => show n.val = win0_5.index _ 0 * 64 + 1 * (n.val % 64); rw [idx5]; show n.val = n.val / 64 * 64 + 1 * (n.val % 64); omega
  | ⟨1, _⟩ => show l.val = win0_5.index _ 1 * 128 + 1 * l.val; rw [idx5]; show l.val = 0 * 128 + 1 * l.val; omega

/-- The gradients of the coefficients' imaginary parts that it leaves. -/
theorem result6 (n l : Fin 128) : ((dats m 0 c).arrAt 6 cfg0.N : FVec Ideal S128x128 .f32) (ix2 n l)
    = acc (rows (D m c) n) (real (Re m c) n) (imag (Im m c) n) (rowsSwapped (X m c) n) 255 l := by
  have w := congrFun (Value.blocks6 m c (point n) (flush6 _)) (ix2 (place n) l)
  rw [Value.flushed6_A, View.read_apply] at w
  have q := imags_at c (grid0.coords (point n)) (ms0_0 (point n)) (hs0_0 (point n)) (ms0_1 (point n)) (hs0_1 (point n)) (ms0_2 (point n)) (hs0_2 (point n)) (ms0_3 (point n)) (hs0_3 (point n)) (ms0_4 (point n)) (hs0_4 (point n)) (ms0_5 (point n)) (hs0_5 (point n)) (ms0_6 (point n)) (hs0_6 (point n))
    (iblk m c 0 (point n)) (iblk m c 1 (point n)) (iblk m c 2 (point n)) (iblk m c 3 (point n)) (real_same m c (point n)) (imag_sign m c (point n)) (place n) l
  rw [arrive0, swapped1, coef2, coef3, group_at] at q
  refine Eq.trans ?_ (w.trans q)
  refine congrArg ((dats m 0 c).arrAt 6 cfg0.N) (funext fun x => Fin.ext ?_)
  match x with
  | ⟨0, _⟩ => show n.val = win0_6.index _ 0 * 64 + 1 * (n.val % 64); rw [idx6]; show n.val = n.val / 64 * 64 + 1 * (n.val % 64); omega
  | ⟨1, _⟩ => show l.val = win0_6.index _ 1 * 128 + 1 * l.val; rw [idx6]; show l.val = 0 * 128 + 1 * l.val; omega

end Cert.ScanIdeal.Prod

end
-- ==== Proof.Prod.Scan.lean ====
module

public import proofs.«01_k».proof.Defs
public import proofs.«01_k».proof.Proof.Prod.ScanArrays
public import proofs.«01_k».proof.Proof.Gen.ScanRefIdeal.Run

/-! The gradient of the state-space recurrence: the reference walks back over the same rows, so that the launch and the
reference leave the same arrays. -/

@[expose] public section

set_option maxRecDepth 16384

noncomputable section

open Idealize.ShloMosaic Idealize.ShloMosaic.TcCoe Idealize.ShloMosaic.Tactic Idealize.ShloMosaic.StableHlo Idealize.SL.Sem

namespace Cert.ScanRefIdeal.Prod

open Cert.ScanRefIdeal Cert.ScanRefIdeal.Gen Cert.ScanRefIdeal.Value Cert.Scan.Math

/-- The row that step `k` of the reference's loop starts at. -/
def row (k : ℕ) : IVec S_ 32 := subi (subi (constantI S_ 32 256#32) (constantI S_ 32 (BitVec.ofNat 32 k))) (constantI S_ 32 1#32)

/-- The place in an array that it starts at. -/
def start (k : ℕ) : Fin 3 → Int := fun e => ((![row k, constantI S_ 32 0#32, constantI S_ 32 0#32] : Fin 3 → IVec S_ 32) e (Shape.Idx.first h_S_)).toInt

theorem start_eq : ∀ k : Fin 256, start k.val 0 = ((255 - k.val : ℕ) : Int) := by decide +kernel

theorem clamp0 (k : ℕ) (hk : k < 256) : Host.clampedStart S256x128x128 S1x128x128 rfl (start k) (0 : Fin 3) = 255 - k := by
  have h := start_eq ⟨k, hk⟩
  have le : 255 - k + 1 ≤ 256 := by omega
  exact Host.clampedStart_of_le (s := S256x128x128) (t := S1x128x128) rfl (start k) (0 : Fin 3) (255 - k) h le
theorem clamp1 (k : ℕ) : Host.clampedStart S256x128x128 S1x128x128 rfl (start k) (1 : Fin 3) = 0 :=
  Host.clampedStart_of_le (s := S256x128x128) (t := S1x128x128) rfl (start k) (1 : Fin 3) 0 rfl (by decide)
theorem clamp2 (k : ℕ) : Host.clampedStart S256x128x128 S1x128x128 rfl (start k) (2 : Fin 3) = 0 :=
  Host.clampedStart_of_le (s := S256x128x128) (t := S1x128x128) rfl (start k) (2 : Fin 3) 0 rfl (by decide)

/-- The row that a step reads. -/
theorem slice_at (d : FVec Ideal S256x128x128 .f32) (k : ℕ) (hk : k < 256) (n l : Fin 128) :
    shapeCast S128x128 (Host.dynamicSlice S1x128x128 d (start k) sliceFits_S256x128x128_S1x128x128) shapeCasts_S1x128x128_S128x128 (ix2 n l) = d (ix3 (back k) n l) := by
  have e : shapeCast S128x128 (Host.dynamicSlice S1x128x128 d (start k) sliceFits_S256x128x128_S1x128x128) shapeCasts_S1x128x128_S128x128 (ix2 n l)
      = Host.dynamicSlice S1x128x128 d (start k) sliceFits_S256x128x128_S1x128x128 (ix3 0 n l) := by
    generalize Host.dynamicSlice S1x128x128 d (start k) sliceFits_S256x128x128_S1x128x128 = z
    pointwise
  rw [e, Host.dynamicSlice_apply]
  refine congrArg d (funext fun x => Fin.ext ?_)
  match x with
  | ⟨0, _⟩ => exact (congrArg (· + 0) (clamp0 k hk)).trans rfl
  | ⟨1, _⟩ => exact (congrArg (· + n.val) (clamp1 k)).trans (Nat.zero_add _)
  | ⟨2, _⟩ => exact (congrArg (· + l.val) (clamp2 k)).trans (Nat.zero_add _)

/-- The imaginary parts, moved to the real parts' lanes. -/
theorem low_at (z : FVec Ideal S128x128 .f32) (n l : Fin 128) :
    pad S128x128 ![0, 0] ![0, 64] ![0, 0] (extractStridedSlice S128x64 ![0, 64] z slices_S128x128_S128x64_0_64) (constant (F := Ideal) S_ .f32 0x00000000#32) pads_S128x64_S128x128_000_0640 h_S_ (ix2 n l)
      = if l.val < 64 then z (ix2 n (other l)) else 0 := by
  pointwise
  by_cases h : l.val < 64
  · rw [dif_pos h, if_pos h]
    exact congrArg z (congrArg (ix2 n) (Fin.ext (by show 64 + l.val = (l.val + 64) % 128; omega)))
  · rw [dif_neg h, if_neg h]

/-- The real parts, moved to the imaginary parts' lanes. -/
theorem high_at (z : FVec Ideal S128x128 .f32) (n l : Fin 128) :
    pad S128x128 ![0, 64] ![0, 0] ![0, 0] (extractStridedSlice S128x64 ![0, 0] z slices_S128x128_S128x64_0_0) (constant (F := Ideal) S_ .f32 0x00000000#32) pads_S128x64_S128x128_000_6400 h_S_ (ix2 n l)
      = if l.val < 64 then 0 else z (ix2 n (other l)) := by
  pointwise
  by_cases h : l.val < 64
  · rw [dif_neg (by omega), if_pos h]
  · rw [dif_pos (by omega), if_neg h]
    exact congrArg z (congrArg (ix2 n) (Fin.ext (by show l.val - 64 = (l.val + 64) % 128; omega)))

/-- One step of the reference's recurrence. -/
def next (d : FVec Ideal S256x128x128 .f32) (a b G : FVec Ideal S128x128 .f32) (k : ℕ) : FVec Ideal S128x128 .f32 :=
  addf (addf (addf (shapeCast S128x128 (Host.dynamicSlice S1x128x128 d (start k) sliceFits_S256x128x128_S1x128x128) shapeCasts_S1x128x128_S128x128)
    (pad S128x128 ![0, 0] ![0, 64] ![0, 0] (extractStridedSlice S128x64 ![0, 64] (mulf G b) slices_S128x128_S128x64_0_64) (constant (F := Ideal) S_ .f32 0x00000000#32) pads_S128x64_S128x128_000_0640 h_S_))
    (pad S128x128 ![0, 64] ![0, 0] ![0, 0] (extractStridedSlice S128x64 ![0, 0] (mulf G b) slices_S128x128_S128x64_0_0) (constant (F := Ideal) S_ .f32 0x00000000#32) pads_S128x64_S128x128_000_6400 h_S_))
    (mulf G a)

theorem next_at (d : FVec Ideal S256x128x128 .f32) (a b G : FVec Ideal S128x128 .f32) (k : ℕ) (hk : k < 256) (n l : Fin 128) :
    next d a b G k (ix2 n l) = d (ix3 (back k) n l) + G (ix2 n l) * a (ix2 n l) + G (ix2 n (other l)) * b (ix2 n (other l)) := by
  have e : next d a b G k (ix2 n l) = d (ix3 (back k) n l) + (if l.val < 64 then G (ix2 n (other l)) * b (ix2 n (other l)) else 0)
      + (if l.val < 64 then 0 else G (ix2 n (other l)) * b (ix2 n (other l))) + G (ix2 n l) * a (ix2 n l) := by
    rw [← slice_at d k hk n l]
    refine congrArg₂ (fun p q : EReal => _ + p + q + _) (low_at (mulf G b) n l) (high_at (mulf G b) n l)
  rw [e]
  by_cases h : l.val < 64
  · rw [if_pos h, if_pos h, add_zero, add_right_comm]
  · rw [if_neg h, if_neg h, add_zero, add_right_comm]

/-- What a step stores. -/
def store (O : FVec Ideal S256x128x128 .f32) (G : FVec Ideal S128x128 .f32) (k : ℕ) : FVec Ideal S256x128x128 .f32 :=
  Host.dynamicUpdateSlice O (broadcastInDim S1x128x128 ![1, 2] bcast_S128x128_S1x128x128_1_2 G) (start k) updateFits_S256x128x128_S1x128x128

theorem store_at (O : FVec Ideal S256x128x128 .f32) (G : FVec Ideal S128x128 .f32) (k : ℕ) (hk : k < 256) (r : Fin 256) (n l : Fin 128) :
    store O G k (ix3 r n l) = if r.val = 255 - k then G (ix2 n l) else O (ix3 r n l) := by
  unfold store
  rw [Host.dynamicUpdateSlice_apply]
  have c0 := clamp0 k hk
  have c1 := clamp1 k
  have c2 := clamp2 k
  by_cases h : r.val = 255 - k
  · rw [if_pos h, dif_pos]
    · generalize hz : (Shape.Idx.norm _ : S1x128x128.Idx) = z
      have e1 : (z 1).val = n.val := by rw [← hz]; exact (congrArg (n.val - ·) c1).trans (Nat.sub_zero _)
      have e2 : (z 2).val = l.val := by rw [← hz]; exact (congrArg (l.val - ·) c2).trans (Nat.sub_zero _)
      refine congrArg G (funext fun x => Fin.ext ?_)
      match x with
      | ⟨0, _⟩ => exact e1
      | ⟨1, _⟩ => exact e2
    · intro x
      match x with
      | ⟨0, _⟩ => exact ⟨c0.le.trans h.ge, (by omega : r.val < 255 - k + 1).trans_eq (congrArg (· + 1) c0.symm)⟩
      | ⟨1, _⟩ => exact ⟨c1.le.trans (Nat.zero_le _), (by omega : n.val < 0 + 128).trans_eq (congrArg (· + 128) c1.symm)⟩
      | ⟨2, _⟩ => exact ⟨c2.le.trans (Nat.zero_le _), (by omega : l.val < 0 + 128).trans_eq (congrArg (· + 128) c2.symm)⟩
  · rw [if_neg h, dif_neg]
    intro q
    have q1 : 255 - k ≤ r.val := c0.ge.trans (q 0).1
    have q2 : r.val < 255 - k + 1 := (q 0).2.trans_eq (congrArg (· + 1) c0)
    omega

/-- What the loop's buffers hold before step `k`. -/
structure Holds (V0 : Valuation τ sig (Elt Ideal)) (d : FVec Ideal S256x128x128 .f32) (a b G : FVec Ideal S128x128 .f32) (O : FVec Ideal S256x128x128 .f32) (k : ℕ) : Prop where
  d : V0 (Proc.devRef .tc main_v6_0) = d
  a : V0 (Proc.devRef .tc main_v6_1) = a
  b : V0 (Proc.devRef .tc main_v6_2) = b
  count : V0 (Proc.devRef .tc main_v6_3) = constantI S_ 32 (BitVec.ofNat 32 k)
  G : V0 (Proc.devRef .tc main_v6_4) = G
  O : V0 (Proc.devRef .tc main_v6_5) = O

/-- One trip steps the recurrence and stores its row. -/
theorem holds_step {V0 : Valuation τ sig (Elt Ideal)} {d a b G O} {k : ℕ} (h : Holds V0 d a b G O k) :
    Holds (STEP V0) d a b (next d a b G k) (store O G k) (k + 1) where
  d := (STEP_main_v6_0 V0).trans h.d
  a := (STEP_main_v6_1 V0).trans h.a
  b := (STEP_main_v6_2 V0).trans h.b
  count := by
    refine (STEP_main_v6_3 V0).trans ?_
    unfold step_main_v6_3
    rw [h.count]
    funext x
    show BitVec.ofNat 32 k + 1#32 = BitVec.ofNat 32 (k + 1)
    rw [BitVec.ofNat_add]
  G := by
    refine (STEP_main_v6_4 V0).trans ?_
    unfold step_main_v6_4 res_main_while0b_v21 res_main_while0b_v23
    rw [h.count, h.d, h.a, h.b, h.G]
    rfl
  O := by
    refine (STEP_main_v6_5 V0).trans ?_
    unfold step_main_v6_5 res_main_while0b_v21
    rw [h.count, h.G, h.O]
    rfl

/-- The recurrence and the stored rows after `k` steps. -/
def iter (d : FVec Ideal S256x128x128 .f32) (a b : FVec Ideal S128x128 .f32) : ℕ → FVec Ideal S128x128 .f32 × FVec Ideal S256x128x128 .f32
  | 0 => (fun _ => 0, fun _ => 0)
  | k + 1 => (next d a b (iter d a b k).1 k, store (iter d a b k).2 (iter d a b k).1 k)

/-- They are the gradients, and every row that the loop has reached holds its own. -/
theorem iter_at (d : FVec Ideal S256x128x128 .f32) (a b : FVec Ideal S128x128 .f32) (n : Fin 128) : ∀ k, k ≤ 256 →
    (∀ l, (iter d a b k).1 (ix2 n l) = grad (rows d n) (fun l => a (ix2 n l)) (fun l => b (ix2 n l)) k l)
    ∧ ∀ (r : Fin 256) l, 256 - k ≤ r.val → (iter d a b k).2 (ix3 r n l) = grad (rows d n) (fun l => a (ix2 n l)) (fun l => b (ix2 n l)) (255 - r.val) l
  | 0, _ => ⟨fun l => rfl, fun r l hr => absurd r.isLt (by omega)⟩
  | k + 1, hk => by
    obtain ⟨hG, hO⟩ := iter_at d a b n k (by omega)
    refine ⟨fun l => (next_at d a b _ k (by omega) n l).trans (by rw [hG, hG]; rfl), fun r l hr => (store_at _ _ k (by omega) r n l).trans ?_⟩
    by_cases h : r.val = 255 - k
    · rw [if_pos h, hG, show 255 - r.val = k by omega]
    · rw [if_neg h]
      exact hO r l (by omega)

variable (m : (ℓ : Loc nD τ sig) → Buf (Elt Ideal) ℓ) (c : Dev nD)

/-- The gradients that arrive. -/
abbrev D : FVec Ideal S256x128x128 .f32 := m ((c.tc : Thread nD τ).loc main_arg0)
/-- The states. -/
abbrev X : FVec Ideal S256x128x128 .f32 := m ((c.tc : Thread nD τ).loc main_arg1)
/-- The coefficients' real parts, at both parts of a state. -/
abbrev A : FVec Ideal S128x128 .f32 :=
  concatenate S128x128 1 [⟨S128x64, (m ((c.tc : Thread nD τ).loc main_arg2) : FVec Ideal S128x64 .f32)⟩, ⟨S128x64, (m ((c.tc : Thread nD τ).loc main_arg2) : FVec Ideal S128x64 .f32)⟩] concatenates_S128x64_S128x64_S128x128_d1
/-- Their imaginary parts, with the sign that each part of a state meets. -/
abbrev B : FVec Ideal S128x128 .f32 :=
  concatenate S128x128 1 [⟨S128x64, (Host.negf (m ((c.tc : Thread nD τ).loc main_arg3) : FVec Ideal S128x64 .f32) : FVec Ideal S128x64 .f32)⟩, ⟨S128x64, (m ((c.tc : Thread nD τ).loc main_arg3) : FVec Ideal S128x64 .f32)⟩] concatenates_S128x64_S128x64_S128x128_d1

set_option maxHeartbeats 400000 in
/-- What the buffers hold when the loop begins. -/
theorem entry : Holds (entryContents preI m c) (D m c) (A m c) (B m c) (broadcastInDim S128x128 ![] bcast_S_S128x128 (constant (F := Ideal) S_ .f32 0x00000000#32))
    (broadcastInDim S256x128x128 ![] bcast_S_S256x128x128 (constant (F := Ideal) S_ .f32 0x00000000#32)) 0 := by
  constructor <;> (simp only [entryContents, afterL_cons, afterL_nil]; after_reads_simp) <;> rfl

theorem zero2 : (broadcastInDim S128x128 ![] bcast_S_S128x128 (constant (F := Ideal) S_ .f32 0x00000000#32) : FVec Ideal S128x128 .f32) = fun _ => 0 := by
  funext i
  pointwise
theorem zero3 : (broadcastInDim S256x128x128 ![] bcast_S_S256x128x128 (constant (F := Ideal) S_ .f32 0x00000000#32) : FVec Ideal S256x128x128 .f32) = fun _ => 0 := by
  funext i
  pointwise

/-- What they hold before every step. -/
theorem holds : ∀ k, Holds (STEP^[k] (entryContents preI m c)) (D m c) (A m c) (B m c) (iter (D m c) (A m c) (B m c) k).1 (iter (D m c) (A m c) (B m c) k).2 k
  | 0 => by
    have e := entry m c
    rw [zero2, zero3] at e
    exact e
  | k + 1 => by
    rw [Function.iterate_succ_apply']
    exact holds_step (holds k)

/-- A position after the first. -/
def after (c : Fin 255) : Fin 256 := ⟨1 + c.val, by omega⟩

/-- The gradient of the coefficients' real parts, as the reference sums it. -/
theorem sum_at (x O : FVec Ideal S256x128x128 .f32) (n l : Fin 128) :
    (Host.reduceAdd (shapeCast S1x128x128 (Host.reduceAdd (mulf (extractStridedSlice S255x128x128 ![1, 0, 0] x slices_S256x128x128_S255x128x128_1_0_0) (extractStridedSlice S255x128x128 ![1, 0, 0] O slices_S256x128x128_S255x128x128_1_0_0)) (constant (F := Ideal) S_ .f32 0x00000000#32) reducesTo_S255x128x128_S128x128_d0 h_S_) shapeCasts_S128x128_S1x128x128) (constant (F := Ideal) S_ .f32 0x00000000#32) reducesTo_S1x128x128_S128x128_d0 h_S_ : FVec Ideal S128x128 .f32) (ix2 n l)
      = ∑ c : Fin 255, x (ix3 (after c) n l) * O (ix3 (after c) n l) := by
  pointwise
  exact Fin.sum_univ_one _

/-- The gradient of the imaginary parts, at the states whose parts are exchanged. -/
theorem sum_swapped_at (x O : FVec Ideal S256x128x128 .f32) (n l : Fin 128) :
    (Host.reduceAdd (shapeCast S1x128x128 (Host.reduceAdd (mulf (concatenate S255x128x128 2 [⟨S255x128x64, (extractStridedSlice S255x128x64 ![0, 0, 64] (extractStridedSlice S255x128x128 ![1, 0, 0] x slices_S256x128x128_S255x128x128_1_0_0) slices_S255x128x128_S255x128x64_0_0_64)⟩, ⟨S255x128x64, (extractStridedSlice S255x128x64 ![0, 0, 0] (extractStridedSlice S255x128x128 ![1, 0, 0] x slices_S256x128x128_S255x128x128_1_0_0) slices_S255x128x128_S255x128x64_0_0_0)⟩] concatenates_S255x128x64_S255x128x64_S255x128x128_d2) (extractStridedSlice S255x128x128 ![1, 0, 0] O slices_S256x128x128_S255x128x128_1_0_0)) (constant (F := Ideal) S_ .f32 0x00000000#32) reducesTo_S255x128x128_S128x128_d0 h_S_) shapeCasts_S128x128_S1x128x128) (constant (F := Ideal) S_ .f32 0x00000000#32) reducesTo_S1x128x128_S128x128_d0 h_S_ : FVec Ideal S128x128 .f32) (ix2 n l)
      = ∑ c : Fin 255, x (ix3 (after c) n (other l)) * O (ix3 (after c) n l) := by
  pointwise
  refine (Fin.sum_univ_one _).trans (Finset.sum_congr rfl fun c _ => congrArg (· * O (ix3 (after c) n l)) ?_)
  by_cases h : l.val < 64
  · rw [dif_pos h]
    exact congrArg x (congrArg (ix3 (after c) n) (Fin.ext (by show 64 + l.val = (l.val + 64) % 128; omega)))
  · rw [dif_neg h]
    exact congrArg x (congrArg (ix3 (after c) n) (Fin.ext (by show l.val - 64 = (l.val + 64) % 128; omega)))

/-- The position after the first that a step back works on. -/
theorem after_eq (c : Fin 255) : after c = back (254 - c.val) := Fin.ext (by show 1 + c.val = 255 - (254 - c.val); omega)

/-- A group's coefficients. -/
theorem A_at (n : Fin 128) : (fun l => A m c (ix2 n l)) = real (m ((c.tc : Thread nD τ).loc main_arg2)) n :=
  funext fun l => (Cert.ScanIdeal.Prod.halves_at _ _ _ n l).trans (ite_self _)
theorem B_at (n : Fin 128) : (fun l => B m c (ix2 n l)) = imag (m ((c.tc : Thread nD τ).loc main_arg3)) n :=
  funext fun l => (Cert.ScanIdeal.Prod.halves_at _ _ _ n l).trans rfl

/-- The rows that the loop leaves. -/
abbrev O : FVec Ideal S256x128x128 .f32 := (iter (D m c) (A m c) (B m c) 256).2

theorem O_at (r : Fin 256) (n l : Fin 128) : O m c (ix3 r n l)
    = grad (rows (D m c) n) (real (m ((c.tc : Thread nD τ).loc main_arg2)) n) (imag (m ((c.tc : Thread nD τ).loc main_arg3)) n) (255 - r.val) l := by
  rw [← A_at, ← B_at]
  exact (iter_at (D m c) (A m c) (B m c) n 256 le_rfl).2 r l (by omega)

theorem out_states (r : Fin 256) (n l : Fin 128) : ((STEP^[256] (entryContents preI m c)) (Proc.devRef .tc main_v6_5) : FVec Ideal S256x128x128 .f32) (ix3 r n l)
    = grad (rows (D m c) n) (real (m ((c.tc : Thread nD τ).loc main_arg2)) n) (imag (m ((c.tc : Thread nD τ).loc main_arg3)) n) (255 - r.val) l :=
  (congrFun (holds m c 256).O (ix3 r n l)).trans (O_at m c r n l)

theorem out_real (n l : Fin 128) : (out_main_v19 (STEP^[256] (entryContents preI m c)) : FVec Ideal S128x128 .f32) (ix2 n l)
    = acc (rows (D m c) n) (real (m ((c.tc : Thread nD τ).loc main_arg2)) n) (imag (m ((c.tc : Thread nD τ).loc main_arg3)) n) (rows (X m c) n) 255 l := by
  unfold out_main_v19
  rw [(holds m c 256).O, iter_main_arg1 m c 256]
  refine (sum_at (X m c) (O m c) n l).trans ?_
  rw [acc_eq]
  refine Finset.sum_congr rfl fun q _ => ?_
  rw [O_at, after_eq, show 255 - (back (254 - q.val)).val = 254 - q.val by show 255 - (255 - (254 - q.val)) = _; omega]
  rfl

theorem out_imag (n l : Fin 128) : (out_main_v15 (STEP^[256] (entryContents preI m c)) : FVec Ideal S128x128 .f32) (ix2 n l)
    = acc (rows (D m c) n) (real (m ((c.tc : Thread nD τ).loc main_arg2)) n) (imag (m ((c.tc : Thread nD τ).loc main_arg3)) n) (rowsSwapped (X m c) n) 255 l := by
  unfold out_main_v15
  rw [(holds m c 256).O, iter_main_arg1 m c 256]
  refine (sum_swapped_at (X m c) (O m c) n l).trans ?_
  rw [acc_eq]
  refine Finset.sum_congr rfl fun q _ => ?_
  rw [O_at, after_eq, show 255 - (back (254 - q.val)).val = 254 - q.val by show 255 - (255 - (254 - q.val)) = _; omega]
  rfl

/-- An index of an array of three axes is its coordinates. -/
theorem at3 {a b d : ℕ} (i : (⟨3, ![a, b, d]⟩ : Shape).Idx) : i = ix3 (i 0) (i 1) (i 2) := by
  funext x
  match x with
  | ⟨0, _⟩ => rfl
  | ⟨1, _⟩ => rfl
  | ⟨2, _⟩ => rfl

/-- The launch and the reference leave the same three arrays. -/
theorem algebraic : Cert.algebraic_ScanIdeal_ScanRefIdeal := by
  intro m g m' g' _ hargs
  refine ⟨fun c => (Cert.ScanIdeal.Gen.dats m 0 c).arrAt 4 Cert.ScanIdeal.cfg0.N, fun c => (Cert.ScanIdeal.Gen.dats m 0 c).arrAt 5 Cert.ScanIdeal.cfg0.N, fun c => (Cert.ScanIdeal.Gen.dats m 0 c).arrAt 6 Cert.ScanIdeal.cfg0.N,
    Cert.ScanIdeal.Value.run_blocks m g, (θ_run defs _ _).mono (fun r h c => ?_) (Value.run (F := Ideal) m' g')⟩
  obtain ⟨e0, e1, e2, e3⟩ := hargs c
  obtain ⟨h0, h1, h2, hr⟩ := h c
  refine ⟨h0.trans ?_, h1.trans ?_, h2.trans ?_, hr⟩
  · funext i
    rw [at3 (a := 256) (b := 128) (d := 128) i]
    refine (out_states m' c _ _ _).trans (Eq.trans ?_ (Cert.ScanIdeal.Prod.result4 m c _ _ _).symm)
    rw [D, e0, e2, e3]
  · funext i
    rw [Cert.Prod.at2 (a := 128) (b := 128) i]
    refine (out_real m' c _ _).trans (Eq.trans ?_ (Cert.ScanIdeal.Prod.result5 m c _ _).symm)
    rw [D, X, e0, e1, e2, e3]
  · funext i
    rw [Cert.Prod.at2 (a := 128) (b := 128) i]
    refine (out_imag m' c _ _).trans (Eq.trans ?_ (Cert.ScanIdeal.Prod.result6 m c _ _).symm)
    rw [D, X, e0, e1, e2, e3]

/-- The reference ends and leaves its arguments: host operations and a loop of them, with no semaphore. -/
theorem frame : Cert.quiescent_ScanRefIdeal := fun m ρ _ =>
  (θ_run defs _ _).mono (fun r h => ⟨fun c => (h c).2.2.2, sem_eq_zero_of_no_sems (by decide) r.2⟩) (Value.run (F := Ideal) m ρ)

end Cert.ScanRefIdeal.Prod

end
-- ==== Proof.lean ====
/- The attention gradient of a training step: the kernel's frames, over machine floats and over the extended reals, the
   reference's frame, the naming of the constants, and, of arguments whose entries are reals, the equality of the
   kernel's three gradients with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.DwinIdeal.Value
public import proofs.«01_k».proof.Proof.Gen.Dwin
public import proofs.«01_k».proof.Proof.Gen.Dwin.Frame
public import proofs.«01_k».proof.Proof.Gen.DwinRefIdeal
public import proofs.«01_k».proof.Proof.Gen.DwinRefIdeal.Run
public import proofs.«01_k».proof.Proof.Gen.Dhn
public import proofs.«01_k».proof.Proof.Gen.Dhn.Frame
public import proofs.«01_k».proof.Proof.Gen.DhnRefIdeal
public import proofs.«01_k».proof.Proof.Gen.DhnRefIdeal.Run
public import proofs.«01_k».proof.Proof.Gen.Dwout
public import proofs.«01_k».proof.Proof.Gen.Dwout.Frame
public import proofs.«01_k».proof.Proof.Gen.DwoutRefIdeal
public import proofs.«01_k».proof.Proof.Gen.DwoutRefIdeal.Run
public import proofs.«01_k».proof.Proof.Gen.Dgated
public import proofs.«01_k».proof.Proof.Gen.Dgated.Frame
public import proofs.«01_k».proof.Proof.Gen.DgatedRefIdeal
public import proofs.«01_k».proof.Proof.Gen.DgatedRefIdeal.Run
public import proofs.«01_k».proof.Proof.Gen.DhnIdeal.Value
public import proofs.«01_k».proof.Proof.Gen.DwoutIdeal.Value
public import proofs.«01_k».proof.Proof.Gen.DgatedIdeal.Value
public import proofs.«01_k».proof.Proof.FlashI.Launch
public import proofs.«01_k».proof.Proof.FlashK.Frame
public import proofs.«01_k».proof.Proof.Gen.Pre_finite
public import proofs.«01_k».proof.Proof.FlashR.HostInp
public import proofs.«01_k».proof.Proof.FlashR.Result
public import proofs.«01_k».proof.Proof.FlashR.Finite
public import proofs.«01_k».proof.Proof.Prod.Dwin
public import proofs.«01_k».proof.Proof.Prod.Dhn
public import proofs.«01_k».proof.Proof.Prod.Dwout
public import proofs.«01_k».proof.Proof.Prod.Dgated
public import proofs.«01_k».proof.Proof.Gen.ScanDwinIdeal.Value
public import proofs.«01_k».proof.Proof.Gen.ScanDwin
public import proofs.«01_k».proof.Proof.Gen.ScanDwin.Frame
public import proofs.«01_k».proof.Proof.Gen.ScanDwinRefIdeal
public import proofs.«01_k».proof.Proof.Gen.ScanDwinRefIdeal.Run
public import proofs.«01_k».proof.Proof.Prod.ScanDwin
public import proofs.«01_k».proof.Proof.Gen.ScanDhnIdeal.Value
public import proofs.«01_k».proof.Proof.Gen.ScanDhn
public import proofs.«01_k».proof.Proof.Gen.ScanDhn.Frame
public import proofs.«01_k».proof.Proof.Gen.ScanDhnRefIdeal
public import proofs.«01_k».proof.Proof.Gen.ScanDhnRefIdeal.Run
public import proofs.«01_k».proof.Proof.Prod.ScanDhn
public import proofs.«01_k».proof.Proof.Gen.DwgluIdeal.Value
public import proofs.«01_k».proof.Proof.Gen.Dwglu
public import proofs.«01_k».proof.Proof.Gen.Dwglu.Frame
public import proofs.«01_k».proof.Proof.Gen.DwgluRefIdeal
public import proofs.«01_k».proof.Proof.Gen.DwgluRefIdeal.Run
public import proofs.«01_k».proof.Proof.Prod.Dwglu
public import proofs.«01_k».proof.Proof.Gen.DgluIdeal.Value
public import proofs.«01_k».proof.Proof.Gen.Dglu
public import proofs.«01_k».proof.Proof.Gen.Dglu.Frame
public import proofs.«01_k».proof.Proof.Gen.DgluRefIdeal
public import proofs.«01_k».proof.Proof.Gen.DgluRefIdeal.Run
public import proofs.«01_k».proof.Proof.Prod.Dglu
public import proofs.«01_k».proof.Proof.Gen.InIdeal.Value
public import proofs.«01_k».proof.Proof.Gen.In
public import proofs.«01_k».proof.Proof.Gen.In.Frame
public import proofs.«01_k».proof.Proof.Gen.InRefIdeal
public import proofs.«01_k».proof.Proof.Gen.InRefIdeal.Run
public import proofs.«01_k».proof.Proof.Prod.In
public import proofs.«01_k».proof.Proof.Gen.OutIdeal.Value
public import proofs.«01_k».proof.Proof.Gen.Out
public import proofs.«01_k».proof.Proof.Gen.Out.Frame
public import proofs.«01_k».proof.Proof.Gen.OutRefIdeal
public import proofs.«01_k».proof.Proof.Gen.OutRefIdeal.Run
public import proofs.«01_k».proof.Proof.Prod.Out
public import proofs.«01_k».proof.Proof.Gen.ScanInIdeal.Value
public import proofs.«01_k».proof.Proof.Gen.ScanIn
public import proofs.«01_k».proof.Proof.Gen.ScanIn.Frame
public import proofs.«01_k».proof.Proof.Gen.ScanInRefIdeal
public import proofs.«01_k».proof.Proof.Gen.ScanInRefIdeal.Run
public import proofs.«01_k».proof.Proof.Prod.ScanIn
public import proofs.«01_k».proof.Proof.Gen.GluIdeal.Value
public import proofs.«01_k».proof.Proof.Gen.Glu
public import proofs.«01_k».proof.Proof.Gen.Glu.Frame
public import proofs.«01_k».proof.Proof.Gen.GluRefIdeal
public import proofs.«01_k».proof.Proof.Gen.GluRefIdeal.Run
public import proofs.«01_k».proof.Proof.Prod.Glu
public import proofs.«01_k».proof.Proof.Gen.ScanIdeal.Value
public import proofs.«01_k».proof.Proof.Gen.Scan
public import proofs.«01_k».proof.Proof.Gen.Scan.Frame
public import proofs.«01_k».proof.Proof.Gen.ScanRefIdeal
public import proofs.«01_k».proof.Proof.Gen.ScanRefIdeal.Run
public import proofs.«01_k».proof.Proof.Prod.Scan
public import Idealize.ShloMosaic.Adequacy
public import Idealize.ShloMosaic.Init

@[expose] public section

noncomputable section

namespace Cert.Proof

open Idealize.ShloMosaic Idealize.SL.Sem

/-- The kernel over machine floats: it ends, leaves its arguments and every counter as they must be. -/
theorem frame_kernel : Cert.quiescent_Kernel := Cert.Kernel.Flash.frame

/-- The same of the kernel over the extended reals. -/
theorem frame_ideal : Cert.quiescent_KernelIdeal := fun m ρ _ => Cert.KernelIdeal.Flash.frame m ρ

/-- The reference, over the extended reals: host operations only, with no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The four named constants are what they stand for. -/
theorem preserves : Cert.preserves_Kernel_KernelIdeal := ⟨IdealRules.named_const.statement _ _ _ _ _ rfl, IdealRules.named_const.statement _ _ _ _ _ rfl, IdealRules.named_const.statement _ _ _ _ _ rfl, IdealRules.named_const.statement _ _ _ _ _ rfl⟩

open Cert.KernelIdeal.Flash (O6 O7 O8 pQ pKV pDO pKR LL DD dats final6 final7 final8 V_main_arg0 V_main_arg1 V_main_arg2 V_main_arg3 run_main inp_of)
open Cert.ReferenceIdeal.Attn (re2 re3 args_of dq_eq dkv_eq dkr_eq)

section
variable (m : (ℓ : Loc Cert.KernelIdeal.nD Cert.KernelIdeal.τ Cert.KernelIdeal.sig) → Buf (Elt Ideal) ℓ) (c : Dev Cert.KernelIdeal.nD)

/-- The reals of the queries, the keys and values, the rotary keys and the output's gradient. -/
abbrev rq := re3 (a := 4096) (b := 16) (c := 192) (m ((c.tc : Thread Cert.KernelIdeal.nD Cert.KernelIdeal.τ).loc Cert.KernelIdeal.main_arg0))
abbrev rkv := re3 (a := 4096) (b := 16) (c := 256) (m ((c.tc : Thread Cert.KernelIdeal.nD Cert.KernelIdeal.τ).loc Cert.KernelIdeal.main_arg1))
abbrev rkr := re2 (a := 4096) (b := 64) (m ((c.tc : Thread Cert.KernelIdeal.nD Cert.KernelIdeal.τ).loc Cert.KernelIdeal.main_arg2))
abbrev rdo := re3 (a := 4096) (b := 16) (c := 128) (m ((c.tc : Thread Cert.KernelIdeal.nD Cert.KernelIdeal.τ).loc Cert.KernelIdeal.main_arg3))

/-- The gradients of the queries, of the keys and values, and of the rotary keys, as real arrays. -/
def gq := O6 (pQ (rq m c)) (pKV (rkv m c)) (pDO (rdo m c)) (pKR (rkr m c)) (LL (rq m c) (rkv m c) (rkr m c)) (DD (rq m c) (rkv m c) (rdo m c) (rkr m c))
def gkv := O7 (pQ (rq m c)) (pKV (rkv m c)) (pDO (rdo m c)) (pKR (rkr m c)) (LL (rq m c) (rkv m c) (rkr m c)) (DD (rq m c) (rkv m c) (rdo m c) (rkr m c))
def gkr := O8 (pQ (rq m c)) (pKV (rkv m c)) (pDO (rdo m c)) (pKR (rkr m c)) (LL (rq m c) (rkv m c) (rkr m c)) (DD (rq m c) (rkv m c) (rdo m c) (rkr m c))
end

/-- On arguments whose entries are reals, the kernel's three arrays are the reference's three gradients. -/
theorem algebraic : Cert.algebraic_KernelIdeal_ReferenceIdeal_pre_finite := by
  intro m g m' g' hp hargs
  refine ⟨gq m, gkv m, gkr m, (θ_run Cert.KernelIdeal.defs _ _).mono (fun r h c => ?_) (run_main m g),
    (θ_run Cert.ReferenceIdeal.defs _ _).mono (fun r h c => ?_) (Cert.ReferenceIdeal.Value.run (F := Ideal) m' g')⟩
  · have I := inp_of m c (args_of (hp c))
    exact ⟨((h c).1 6).trans (final6 I), ((h c).1 7).trans (final7 I), ((h c).1 8).trans (final8 I),
      ((h c).2 Cert.KernelIdeal.main_arg0 (by decide)).trans (V_main_arg0 m c),
      ((h c).2 Cert.KernelIdeal.main_arg1 (by decide)).trans (V_main_arg1 m c),
      ((h c).2 Cert.KernelIdeal.main_arg2 (by decide)).trans (V_main_arg2 m c),
      ((h c).2 Cert.KernelIdeal.main_arg3 (by decide)).trans (V_main_arg3 m c)⟩
  · have I := args_of (hp c)
    obtain ⟨e0, e1, e2, e3⟩ := hargs c
    obtain ⟨h0, h1, h2, hr⟩ := h c
    refine ⟨h0.trans ?_, h1.trans ?_, h2.trans ?_, hr⟩
    · rw [Cert.ReferenceIdeal.Read.val_main_v81_eq, e0, e1, e2, e3]; exact dq_eq I
    · rw [Cert.ReferenceIdeal.Read.val_main_v83_eq, e0, e1, e2, e3]; exact dkv_eq I
    · rw [Cert.ReferenceIdeal.Read.val_main_v84_eq, e0, e1, e2, e3]; exact dkr_eq I

/-- Everything that is claimed: of the attention's gradient first, then of the twelve products, then of the recurrence's
gradient. -/
theorem claim : Cert.Claim := ⟨Cert.Kernel.Gen.facts, Cert.KernelIdeal.Gen.facts, Cert.ReferenceIdeal.Gen.facts, Cert.Dwin.Gen.facts, Cert.DwinIdeal.Gen.facts, Cert.DwinRefIdeal.Gen.facts, Cert.Dhn.Gen.facts, Cert.DhnIdeal.Gen.facts, Cert.DhnRefIdeal.Gen.facts, Cert.Dwout.Gen.facts, Cert.DwoutIdeal.Gen.facts, Cert.DwoutRefIdeal.Gen.facts, Cert.Dgated.Gen.facts, Cert.DgatedIdeal.Gen.facts, Cert.DgatedRefIdeal.Gen.facts,
  Cert.ScanDwin.Gen.facts, Cert.ScanDwinIdeal.Gen.facts, Cert.ScanDwinRefIdeal.Gen.facts, Cert.ScanDhn.Gen.facts, Cert.ScanDhnIdeal.Gen.facts, Cert.ScanDhnRefIdeal.Gen.facts, Cert.Dwglu.Gen.facts, Cert.DwgluIdeal.Gen.facts, Cert.DwgluRefIdeal.Gen.facts, Cert.Dglu.Gen.facts, Cert.DgluIdeal.Gen.facts, Cert.DgluRefIdeal.Gen.facts, Cert.In.Gen.facts, Cert.InIdeal.Gen.facts, Cert.InRefIdeal.Gen.facts, Cert.Out.Gen.facts, Cert.OutIdeal.Gen.facts, Cert.OutRefIdeal.Gen.facts, Cert.ScanIn.Gen.facts, Cert.ScanInIdeal.Gen.facts, Cert.ScanInRefIdeal.Gen.facts, Cert.Glu.Gen.facts, Cert.GluIdeal.Gen.facts, Cert.GluRefIdeal.Gen.facts, Cert.Scan.Gen.facts, Cert.ScanIdeal.Gen.facts, Cert.ScanRefIdeal.Gen.facts, Cert.Pre_finite.Gen.facts,
  frame_kernel, frame_ideal, fun m ρ _ => frame_ideal m ρ trivial, frame_reference, fun m ρ _ => frame_reference m ρ trivial,
  fun m ρ _ => Cert.Dwin.Gen.frame m ρ, fun m ρ _ => Cert.DwinIdeal.Gen.frame m ρ, Cert.DwinRefIdeal.Prod.frame,
  fun m ρ _ => Cert.Dhn.Gen.frame m ρ, fun m ρ _ => Cert.DhnIdeal.Gen.frame m ρ, Cert.DhnRefIdeal.Prod.frame,
  fun m ρ _ => Cert.Dwout.Gen.frame m ρ, fun m ρ _ => Cert.DwoutIdeal.Gen.frame m ρ, Cert.DwoutRefIdeal.Prod.frame,
  fun m ρ _ => Cert.Dgated.Gen.frame m ρ, fun m ρ _ => Cert.DgatedIdeal.Gen.frame m ρ, Cert.DgatedRefIdeal.Prod.frame,
  fun m ρ _ => Cert.ScanDwin.Gen.frame m ρ, fun m ρ _ => Cert.ScanDwinIdeal.Gen.frame m ρ, Cert.ScanDwinRefIdeal.Prod.frame,
  fun m ρ _ => Cert.ScanDhn.Gen.frame m ρ, fun m ρ _ => Cert.ScanDhnIdeal.Gen.frame m ρ, Cert.ScanDhnRefIdeal.Prod.frame,
  fun m ρ _ => Cert.Dwglu.Gen.frame m ρ, fun m ρ _ => Cert.DwgluIdeal.Gen.frame m ρ, Cert.DwgluRefIdeal.Prod.frame,
  fun m ρ _ => Cert.Dglu.Gen.frame m ρ, fun m ρ _ => Cert.DgluIdeal.Gen.frame m ρ, Cert.DgluRefIdeal.Prod.frame,
  fun m ρ _ => Cert.In.Gen.frame m ρ, fun m ρ _ => Cert.InIdeal.Gen.frame m ρ, Cert.InRefIdeal.Prod.frame,
  fun m ρ _ => Cert.Out.Gen.frame m ρ, fun m ρ _ => Cert.OutIdeal.Gen.frame m ρ, Cert.OutRefIdeal.Prod.frame,
  fun m ρ _ => Cert.ScanIn.Gen.frame m ρ, fun m ρ _ => Cert.ScanInIdeal.Gen.frame m ρ, Cert.ScanInRefIdeal.Prod.frame,
  fun m ρ _ => Cert.Glu.Gen.frame m ρ, fun m ρ _ => Cert.GluIdeal.Gen.frame m ρ, Cert.GluRefIdeal.Prod.frame,
  fun m ρ _ => Cert.Scan.Gen.frame m ρ, fun m ρ _ => Cert.ScanIdeal.Gen.frame m ρ, Cert.ScanRefIdeal.Prod.frame,
  preserves, algebraic,
  trivial, Cert.DwinRefIdeal.Prod.algebraic, trivial, Cert.DhnRefIdeal.Prod.algebraic, trivial, Cert.DwoutRefIdeal.Prod.algebraic, trivial, Cert.DgatedRefIdeal.Prod.algebraic,
  trivial, Cert.ScanDwinRefIdeal.Prod.algebraic, trivial, Cert.ScanDhnRefIdeal.Prod.algebraic, trivial, Cert.DwgluRefIdeal.Prod.algebraic, trivial, Cert.DgluRefIdeal.Prod.algebraic, trivial, Cert.InRefIdeal.Prod.algebraic, trivial, Cert.OutRefIdeal.Prod.algebraic, trivial, Cert.ScanInRefIdeal.Prod.algebraic, trivial, Cert.GluRefIdeal.Prod.algebraic, trivial, Cert.ScanRefIdeal.Prod.algebraic⟩

end Cert.Proof

end
